-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gates_finite [hPre_gates_finite : Cert.Pre_gates_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gates_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gates_finite [hPre_gates_finite : Cert.Pre_gates_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gates_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_KernelDh (m : (ℓ : Loc Cert.KernelDh.nD Cert.KernelDh.τ Cert.KernelDh.sig) → Buf (Elt Bits) ℓ) : Prop :=
  True

def Pre_KernelDhIdeal (m : (ℓ : Loc Cert.KernelDhIdeal.nD Cert.KernelDhIdeal.τ Cert.KernelDhIdeal.sig) → Buf (Elt Ideal) ℓ) : Prop :=
  True

def Pre_ReferenceDhIdeal (m : (ℓ : Loc Cert.ReferenceDhIdeal.nD Cert.ReferenceDhIdeal.τ Cert.ReferenceDhIdeal.sig) → Buf (Elt Ideal) ℓ) : Prop :=
  True

def Pre_KernelGwin0 (m : (ℓ : Loc Cert.KernelGwin0.nD Cert.KernelGwin0.τ Cert.KernelGwin0.sig) → Buf (Elt Bits) ℓ) : Prop :=
  True

def Pre_KernelGwin0Ideal (m : (ℓ : Loc Cert.KernelGwin0Ideal.nD Cert.KernelGwin0Ideal.τ Cert.KernelGwin0Ideal.sig) → Buf (Elt Ideal) ℓ) : Prop :=
  True

def Pre_ReferenceGwin0Ideal (m : (ℓ : Loc Cert.ReferenceGwin0Ideal.nD Cert.ReferenceGwin0Ideal.τ Cert.ReferenceGwin0Ideal.sig) → Buf (Elt Ideal) ℓ) : Prop :=
  True

def Pre_KernelGwin1 (m : (ℓ : Loc Cert.KernelGwin1.nD Cert.KernelGwin1.τ Cert.KernelGwin1.sig) → Buf (Elt Bits) ℓ) : Prop :=
  True

def Pre_KernelGwin1Ideal (m : (ℓ : Loc Cert.KernelGwin1Ideal.nD Cert.KernelGwin1Ideal.τ Cert.KernelGwin1Ideal.sig) → Buf (Elt Ideal) ℓ) : Prop :=
  True

def Pre_ReferenceGwin1Ideal (m : (ℓ : Loc Cert.ReferenceGwin1Ideal.nD Cert.ReferenceGwin1Ideal.τ Cert.ReferenceGwin1Ideal.sig) → Buf (Elt Ideal) ℓ) : Prop :=
  True

def Pre_KernelGwin2 (m : (ℓ : Loc Cert.KernelGwin2.nD Cert.KernelGwin2.τ Cert.KernelGwin2.sig) → Buf (Elt Bits) ℓ) : Prop :=
  True

def Pre_KernelGwin2Ideal (m : (ℓ : Loc Cert.KernelGwin2Ideal.nD Cert.KernelGwin2Ideal.τ Cert.KernelGwin2Ideal.sig) → Buf (Elt Ideal) ℓ) : Prop :=
  True

def Pre_ReferenceGwin2Ideal (m : (ℓ : Loc Cert.ReferenceGwin2Ideal.nD Cert.ReferenceGwin2Ideal.τ Cert.ReferenceGwin2Ideal.sig) → Buf (Elt Ideal) ℓ) : Prop :=
  True

def Pre_KernelGwin3 (m : (ℓ : Loc Cert.KernelGwin3.nD Cert.KernelGwin3.τ Cert.KernelGwin3.sig) → Buf (Elt Bits) ℓ) : Prop :=
  True

def Pre_KernelGwin3Ideal (m : (ℓ : Loc Cert.KernelGwin3Ideal.nD Cert.KernelGwin3Ideal.τ Cert.KernelGwin3Ideal.sig) → Buf (Elt Ideal) ℓ) : Prop :=
  True

def Pre_ReferenceGwin3Ideal (m : (ℓ : Loc Cert.ReferenceGwin3Ideal.nD Cert.ReferenceGwin3Ideal.τ Cert.ReferenceGwin3Ideal.sig) → Buf (Elt Ideal) ℓ) : Prop :=
  True

def Pre_KernelDmixed (m : (ℓ : Loc Cert.KernelDmixed.nD Cert.KernelDmixed.τ Cert.KernelDmixed.sig) → Buf (Elt Bits) ℓ) : Prop :=
  True

def Pre_KernelDmixedIdeal (m : (ℓ : Loc Cert.KernelDmixedIdeal.nD Cert.KernelDmixedIdeal.τ Cert.KernelDmixedIdeal.sig) → Buf (Elt Ideal) ℓ) : Prop :=
  True

def Pre_ReferenceDmixedIdeal (m : (ℓ : Loc Cert.ReferenceDmixedIdeal.nD Cert.ReferenceDmixedIdeal.τ Cert.ReferenceDmixedIdeal.sig) → Buf (Elt Ideal) ℓ) : Prop :=
  True

def Pre_KernelGwout (m : (ℓ : Loc Cert.KernelGwout.nD Cert.KernelGwout.τ Cert.KernelGwout.sig) → Buf (Elt Bits) ℓ) : Prop :=
  True

def Pre_KernelGwoutIdeal (m : (ℓ : Loc Cert.KernelGwoutIdeal.nD Cert.KernelGwoutIdeal.τ Cert.KernelGwoutIdeal.sig) → Buf (Elt Ideal) ℓ) : Prop :=
  True

def Pre_ReferenceGwoutIdeal (m : (ℓ : Loc Cert.ReferenceGwoutIdeal.nD Cert.ReferenceGwoutIdeal.τ Cert.ReferenceGwoutIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelDz (m : (ℓ : Loc Cert.KernelDz.nD Cert.KernelDz.τ Cert.KernelDz.sig) → Buf (Elt Bits) ℓ) : Prop :=
  True

def Pre_KernelDzIdeal (m : (ℓ : Loc Cert.KernelDzIdeal.nD Cert.KernelDzIdeal.τ Cert.KernelDzIdeal.sig) → Buf (Elt Ideal) ℓ) : Prop :=
  True

def Pre_ReferenceDzIdeal (m : (ℓ : Loc Cert.ReferenceDzIdeal.nD Cert.ReferenceDzIdeal.τ Cert.ReferenceDzIdeal.sig) → Buf (Elt Ideal) ℓ) : Prop :=
  True

def Pre_KernelGwpool (m : (ℓ : Loc Cert.KernelGwpool.nD Cert.KernelGwpool.τ Cert.KernelGwpool.sig) → Buf (Elt Bits) ℓ) : Prop :=
  True

def Pre_KernelGwpoolIdeal (m : (ℓ : Loc Cert.KernelGwpoolIdeal.nD Cert.KernelGwpoolIdeal.τ Cert.KernelGwpoolIdeal.sig) → Buf (Elt Ideal) ℓ) : Prop :=
  True

def Pre_ReferenceGwpoolIdeal (m : (ℓ : Loc Cert.ReferenceGwpoolIdeal.nD Cert.ReferenceGwpoolIdeal.τ Cert.ReferenceGwpoolIdeal.sig) → Buf (Elt Ideal) ℓ) : Prop :=
  True

def Pre_KernelProj0 (m : (ℓ : Loc Cert.KernelProj0.nD Cert.KernelProj0.τ Cert.KernelProj0.sig) → Buf (Elt Bits) ℓ) : Prop :=
  True

def Pre_KernelProj0Ideal (m : (ℓ : Loc Cert.KernelProj0Ideal.nD Cert.KernelProj0Ideal.τ Cert.KernelProj0Ideal.sig) → Buf (Elt Ideal) ℓ) : Prop :=
  True

def Pre_ReferenceProj0Ideal (m : (ℓ : Loc Cert.ReferenceProj0Ideal.nD Cert.ReferenceProj0Ideal.τ Cert.ReferenceProj0Ideal.sig) → Buf (Elt Ideal) ℓ) : Prop :=
  True

def Pre_KernelProj1 (m : (ℓ : Loc Cert.KernelProj1.nD Cert.KernelProj1.τ Cert.KernelProj1.sig) → Buf (Elt Bits) ℓ) : Prop :=
  True

def Pre_KernelProj1Ideal (m : (ℓ : Loc Cert.KernelProj1Ideal.nD Cert.KernelProj1Ideal.τ Cert.KernelProj1Ideal.sig) → Buf (Elt Ideal) ℓ) : Prop :=
  True

def Pre_ReferenceProj1Ideal (m : (ℓ : Loc Cert.ReferenceProj1Ideal.nD Cert.ReferenceProj1Ideal.τ Cert.ReferenceProj1Ideal.sig) → Buf (Elt Ideal) ℓ) : Prop :=
  True

def Pre_KernelProj2 (m : (ℓ : Loc Cert.KernelProj2.nD Cert.KernelProj2.τ Cert.KernelProj2.sig) → Buf (Elt Bits) ℓ) : Prop :=
  True

def Pre_KernelProj2Ideal (m : (ℓ : Loc Cert.KernelProj2Ideal.nD Cert.KernelProj2Ideal.τ Cert.KernelProj2Ideal.sig) → Buf (Elt Ideal) ℓ) : Prop :=
  True

def Pre_ReferenceProj2Ideal (m : (ℓ : Loc Cert.ReferenceProj2Ideal.nD Cert.ReferenceProj2Ideal.τ Cert.ReferenceProj2Ideal.sig) → Buf (Elt Ideal) ℓ) : Prop :=
  True

def Pre_KernelProj3 (m : (ℓ : Loc Cert.KernelProj3.nD Cert.KernelProj3.τ Cert.KernelProj3.sig) → Buf (Elt Bits) ℓ) : Prop :=
  True

def Pre_KernelProj3Ideal (m : (ℓ : Loc Cert.KernelProj3Ideal.nD Cert.KernelProj3Ideal.τ Cert.KernelProj3Ideal.sig) → Buf (Elt Ideal) ℓ) : Prop :=
  True

def Pre_ReferenceProj3Ideal (m : (ℓ : Loc Cert.ReferenceProj3Ideal.nD Cert.ReferenceProj3Ideal.τ Cert.ReferenceProj3Ideal.sig) → Buf (Elt Ideal) ℓ) : Prop :=
  True

def Pre_KernelPool (m : (ℓ : Loc Cert.KernelPool.nD Cert.KernelPool.τ Cert.KernelPool.sig) → Buf (Elt Bits) ℓ) : Prop :=
  True

def Pre_KernelPoolIdeal (m : (ℓ : Loc Cert.KernelPoolIdeal.nD Cert.KernelPoolIdeal.τ Cert.KernelPoolIdeal.sig) → Buf (Elt Ideal) ℓ) : Prop :=
  True

def Pre_ReferencePoolIdeal (m : (ℓ : Loc Cert.ReferencePoolIdeal.nD Cert.ReferencePoolIdeal.τ Cert.ReferencePoolIdeal.sig) → Buf (Elt Ideal) ℓ) : Prop :=
  True

def Pre_KernelCoef (m : (ℓ : Loc Cert.KernelCoef.nD Cert.KernelCoef.τ Cert.KernelCoef.sig) → Buf (Elt Bits) ℓ) : Prop :=
  True

def Pre_KernelCoefIdeal (m : (ℓ : Loc Cert.KernelCoefIdeal.nD Cert.KernelCoefIdeal.τ Cert.KernelCoefIdeal.sig) → Buf (Elt Ideal) ℓ) : Prop :=
  True

def Pre_ReferenceCoefIdeal (m : (ℓ : Loc Cert.ReferenceCoefIdeal.nD Cert.ReferenceCoefIdeal.τ Cert.ReferenceCoefIdeal.sig) → Buf (Elt Ideal) ℓ) : Prop :=
  True

def Pre_KernelMixa (m : (ℓ : Loc Cert.KernelMixa.nD Cert.KernelMixa.τ Cert.KernelMixa.sig) → Buf (Elt Bits) ℓ) : Prop :=
  True

def Pre_KernelMixaIdeal (m : (ℓ : Loc Cert.KernelMixaIdeal.nD Cert.KernelMixaIdeal.τ Cert.KernelMixaIdeal.sig) → Buf (Elt Ideal) ℓ) : Prop :=
  True

def Pre_KernelMixaIdeal_states_finite [hPre_states_finite : Cert.Pre_states_finite.Facts] (m : (ℓ : Loc Cert.KernelMixaIdeal.nD Cert.KernelMixaIdeal.τ Cert.KernelMixaIdeal.sig) → Buf (Elt Ideal) ℓ) : Prop :=
  ∀ c : Dev Cert.KernelMixaIdeal.nD,
    (Cert.Pre_states_finite.fn (F := Ideal) (m ((c.tc : Thread Cert.KernelMixaIdeal.nD Cert.KernelMixaIdeal.τ).loc Cert.KernelMixaIdeal.main_arg0)) (m ((c.tc : Thread Cert.KernelMixaIdeal.nD Cert.KernelMixaIdeal.τ).loc Cert.KernelMixaIdeal.main_arg1)) (m ((c.tc : Thread Cert.KernelMixaIdeal.nD Cert.KernelMixaIdeal.τ).loc Cert.KernelMixaIdeal.main_arg2)) (m ((c.tc : Thread Cert.KernelMixaIdeal.nD Cert.KernelMixaIdeal.τ).loc Cert.KernelMixaIdeal.main_arg3))) = (fun _ => 1#1)

def Pre_ReferenceMixaIdeal (m : (ℓ : Loc Cert.ReferenceMixaIdeal.nD Cert.ReferenceMixaIdeal.τ Cert.ReferenceMixaIdeal.sig) → Buf (Elt Ideal) ℓ) : Prop :=
  True

def Pre_ReferenceMixaIdeal_states_finite [hPre_states_finite : Cert.Pre_states_finite.Facts] (m : (ℓ : Loc Cert.ReferenceMixaIdeal.nD Cert.ReferenceMixaIdeal.τ Cert.ReferenceMixaIdeal.sig) → Buf (Elt Ideal) ℓ) : Prop :=
  ∀ c : Dev Cert.ReferenceMixaIdeal.nD,
    (Cert.Pre_states_finite.fn (F := Ideal) (m ((c.tc : Thread Cert.ReferenceMixaIdeal.nD Cert.ReferenceMixaIdeal.τ).loc Cert.ReferenceMixaIdeal.main_arg0)) (m ((c.tc : Thread Cert.ReferenceMixaIdeal.nD Cert.ReferenceMixaIdeal.τ).loc Cert.ReferenceMixaIdeal.main_arg1)) (m ((c.tc : Thread Cert.ReferenceMixaIdeal.nD Cert.ReferenceMixaIdeal.τ).loc Cert.ReferenceMixaIdeal.main_arg2)) (m ((c.tc : Thread Cert.ReferenceMixaIdeal.nD Cert.ReferenceMixaIdeal.τ).loc Cert.ReferenceMixaIdeal.main_arg3))) = (fun _ => 1#1)

def Pre_KernelMixb (m : (ℓ : Loc Cert.KernelMixb.nD Cert.KernelMixb.τ Cert.KernelMixb.sig) → Buf (Elt Bits) ℓ) : Prop :=
  True

def Pre_KernelMixbIdeal (m : (ℓ : Loc Cert.KernelMixbIdeal.nD Cert.KernelMixbIdeal.τ Cert.KernelMixbIdeal.sig) → Buf (Elt Ideal) ℓ) : Prop :=
  True

def Pre_KernelMixbIdeal_pool_finite [hPre_pool_finite : Cert.Pre_pool_finite.Facts] (m : (ℓ : Loc Cert.KernelMixbIdeal.nD Cert.KernelMixbIdeal.τ Cert.KernelMixbIdeal.sig) → Buf (Elt Ideal) ℓ) : Prop :=
  ∀ c : Dev Cert.KernelMixbIdeal.nD,
    (Cert.Pre_pool_finite.fn (F := Ideal) (m ((c.tc : Thread Cert.KernelMixbIdeal.nD Cert.KernelMixbIdeal.τ).loc Cert.KernelMixbIdeal.main_arg0)) (m ((c.tc : Thread Cert.KernelMixbIdeal.nD Cert.KernelMixbIdeal.τ).loc Cert.KernelMixbIdeal.main_arg1)) (m ((c.tc : Thread Cert.KernelMixbIdeal.nD Cert.KernelMixbIdeal.τ).loc Cert.KernelMixbIdeal.main_arg2)) (m ((c.tc : Thread Cert.KernelMixbIdeal.nD Cert.KernelMixbIdeal.τ).loc Cert.KernelMixbIdeal.main_arg3)) (m ((c.tc : Thread Cert.KernelMixbIdeal.nD Cert.KernelMixbIdeal.τ).loc Cert.KernelMixbIdeal.main_arg4)) (m ((c.tc : Thread Cert.KernelMixbIdeal.nD Cert.KernelMixbIdeal.τ).loc Cert.KernelMixbIdeal.main_arg5))) = (fun _ => 1#1)

def Pre_ReferenceMixbIdeal (m : (ℓ : Loc Cert.ReferenceMixbIdeal.nD Cert.ReferenceMixbIdeal.τ Cert.ReferenceMixbIdeal.sig) → Buf (Elt Ideal) ℓ) : Prop :=
  True

def Pre_ReferenceMixbIdeal_pool_finite [hPre_pool_finite : Cert.Pre_pool_finite.Facts] (m : (ℓ : Loc Cert.ReferenceMixbIdeal.nD Cert.ReferenceMixbIdeal.τ Cert.ReferenceMixbIdeal.sig) → Buf (Elt Ideal) ℓ) : Prop :=
  ∀ c : Dev Cert.ReferenceMixbIdeal.nD,
    (Cert.Pre_pool_finite.fn (F := Ideal) (m ((c.tc : Thread Cert.ReferenceMixbIdeal.nD Cert.ReferenceMixbIdeal.τ).loc Cert.ReferenceMixbIdeal.main_arg0)) (m ((c.tc : Thread Cert.ReferenceMixbIdeal.nD Cert.ReferenceMixbIdeal.τ).loc Cert.ReferenceMixbIdeal.main_arg1)) (m ((c.tc : Thread Cert.ReferenceMixbIdeal.nD Cert.ReferenceMixbIdeal.τ).loc Cert.ReferenceMixbIdeal.main_arg2)) (m ((c.tc : Thread Cert.ReferenceMixbIdeal.nD Cert.ReferenceMixbIdeal.τ).loc Cert.ReferenceMixbIdeal.main_arg3)) (m ((c.tc : Thread Cert.ReferenceMixbIdeal.nD Cert.ReferenceMixbIdeal.τ).loc Cert.ReferenceMixbIdeal.main_arg4)) (m ((c.tc : Thread Cert.ReferenceMixbIdeal.nD Cert.ReferenceMixbIdeal.τ).loc Cert.ReferenceMixbIdeal.main_arg5))) = (fun _ => 1#1)

def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_ReferenceMixIdeal (m : (ℓ : Loc Cert.ReferenceMixIdeal.nD Cert.ReferenceMixIdeal.τ Cert.ReferenceMixIdeal.sig) → Buf (Elt Ideal) ℓ) : Prop :=
  True

def Pre_KernelAout (m : (ℓ : Loc Cert.KernelAout.nD Cert.KernelAout.τ Cert.KernelAout.sig) → Buf (Elt Bits) ℓ) : Prop :=
  True

def Pre_KernelAoutIdeal (m : (ℓ : Loc Cert.KernelAoutIdeal.nD Cert.KernelAoutIdeal.τ Cert.KernelAoutIdeal.sig) → Buf (Elt Ideal) ℓ) : Prop :=
  True

def Pre_ReferenceAoutIdeal (m : (ℓ : Loc Cert.ReferenceAoutIdeal.nD Cert.ReferenceAoutIdeal.τ Cert.ReferenceAoutIdeal.sig) → Buf (Elt Ideal) ℓ) : Prop :=
  True

def Pre_KernelApool (m : (ℓ : Loc Cert.KernelApool.nD Cert.KernelApool.τ Cert.KernelApool.sig) → Buf (Elt Bits) ℓ) : Prop :=
  True

def Pre_KernelApoolIdeal (m : (ℓ : Loc Cert.KernelApoolIdeal.nD Cert.KernelApoolIdeal.τ Cert.KernelApoolIdeal.sig) → Buf (Elt Ideal) ℓ) : Prop :=
  True

def Pre_ReferenceApoolIdeal (m : (ℓ : Loc Cert.ReferenceApoolIdeal.nD Cert.ReferenceApoolIdeal.τ Cert.ReferenceApoolIdeal.sig) → Buf (Elt Ideal) ℓ) : Prop :=
  True

def Pre_KernelAgate (m : (ℓ : Loc Cert.KernelAgate.nD Cert.KernelAgate.τ Cert.KernelAgate.sig) → Buf (Elt Bits) ℓ) : Prop :=
  True

def Pre_KernelAgateIdeal (m : (ℓ : Loc Cert.KernelAgateIdeal.nD Cert.KernelAgateIdeal.τ Cert.KernelAgateIdeal.sig) → Buf (Elt Ideal) ℓ) : Prop :=
  True

def Pre_ReferenceAgateIdeal (m : (ℓ : Loc Cert.ReferenceAgateIdeal.nD Cert.ReferenceAgateIdeal.τ Cert.ReferenceAgateIdeal.sig) → Buf (Elt Ideal) ℓ) : Prop :=
  True

def Pre_KernelAwin (m : (ℓ : Loc Cert.KernelAwin.nD Cert.KernelAwin.τ Cert.KernelAwin.sig) → Buf (Elt Bits) ℓ) : Prop :=
  True

def Pre_KernelAwinIdeal (m : (ℓ : Loc Cert.KernelAwinIdeal.nD Cert.KernelAwinIdeal.τ Cert.KernelAwinIdeal.sig) → Buf (Elt Ideal) ℓ) : Prop :=
  True

def Pre_ReferenceAwinIdeal (m : (ℓ : Loc Cert.ReferenceAwinIdeal.nD Cert.ReferenceAwinIdeal.τ Cert.ReferenceAwinIdeal.sig) → Buf (Elt Ideal) ℓ) : Prop :=
  True

def Pre_KernelNlat (m : (ℓ : Loc Cert.KernelNlat.nD Cert.KernelNlat.τ Cert.KernelNlat.sig) → Buf (Elt Bits) ℓ) : Prop :=
  True

def Pre_KernelNlatIdeal (m : (ℓ : Loc Cert.KernelNlatIdeal.nD Cert.KernelNlatIdeal.τ Cert.KernelNlatIdeal.sig) → Buf (Elt Ideal) ℓ) : Prop :=
  True

def Pre_ReferenceNlatIdeal (m : (ℓ : Loc Cert.ReferenceNlatIdeal.nD Cert.ReferenceNlatIdeal.τ Cert.ReferenceNlatIdeal.sig) → Buf (Elt Ideal) ℓ) : Prop :=
  True

def Pre_KernelNctx (m : (ℓ : Loc Cert.KernelNctx.nD Cert.KernelNctx.τ Cert.KernelNctx.sig) → Buf (Elt Bits) ℓ) : Prop :=
  True

def Pre_KernelNctxIdeal (m : (ℓ : Loc Cert.KernelNctxIdeal.nD Cert.KernelNctxIdeal.τ Cert.KernelNctxIdeal.sig) → Buf (Elt Ideal) ℓ) : Prop :=
  True

def Pre_ReferenceNctxIdeal (m : (ℓ : Loc Cert.ReferenceNctxIdeal.nD Cert.ReferenceNctxIdeal.τ Cert.ReferenceNctxIdeal.sig) → Buf (Elt Ideal) ℓ) : Prop :=
  True

def Pre_KernelConv (m : (ℓ : Loc Cert.KernelConv.nD Cert.KernelConv.τ Cert.KernelConv.sig) → Buf (Elt Bits) ℓ) : Prop :=
  True

def Pre_KernelConvIdeal (m : (ℓ : Loc Cert.KernelConvIdeal.nD Cert.KernelConvIdeal.τ Cert.KernelConvIdeal.sig) → Buf (Elt Ideal) ℓ) : Prop :=
  True

def Pre_ReferenceConvIdeal (m : (ℓ : Loc Cert.ReferenceConvIdeal.nD Cert.ReferenceConvIdeal.τ Cert.ReferenceConvIdeal.sig) → Buf (Elt Ideal) ℓ) : Prop :=
  True

def Pre_KernelSsum (m : (ℓ : Loc Cert.KernelSsum.nD Cert.KernelSsum.τ Cert.KernelSsum.sig) → Buf (Elt Bits) ℓ) : Prop :=
  True

def Pre_KernelSsumIdeal (m : (ℓ : Loc Cert.KernelSsumIdeal.nD Cert.KernelSsumIdeal.τ Cert.KernelSsumIdeal.sig) → Buf (Elt Ideal) ℓ) : Prop :=
  True

def Pre_ReferenceSsumIdeal (m : (ℓ : Loc Cert.ReferenceSsumIdeal.nD Cert.ReferenceSsumIdeal.τ Cert.ReferenceSsumIdeal.sig) → Buf (Elt Ideal) ℓ) : Prop :=
  True

def Pre_KernelNbc (m : (ℓ : Loc Cert.KernelNbc.nD Cert.KernelNbc.τ Cert.KernelNbc.sig) → Buf (Elt Bits) ℓ) : Prop :=
  True

def Pre_KernelNbcIdeal (m : (ℓ : Loc Cert.KernelNbcIdeal.nD Cert.KernelNbcIdeal.τ Cert.KernelNbcIdeal.sig) → Buf (Elt Ideal) ℓ) : Prop :=
  True

def Pre_ReferenceNbcIdeal (m : (ℓ : Loc Cert.ReferenceNbcIdeal.nD Cert.ReferenceNbcIdeal.τ Cert.ReferenceNbcIdeal.sig) → Buf (Elt Ideal) ℓ) : Prop :=
  True

def Pre_KernelAfwd (m : (ℓ : Loc Cert.KernelAfwd.nD Cert.KernelAfwd.τ Cert.KernelAfwd.sig) → Buf (Elt Bits) ℓ) : Prop :=
  True

def Pre_KernelAfwdIdeal (m : (ℓ : Loc Cert.KernelAfwdIdeal.nD Cert.KernelAfwdIdeal.τ Cert.KernelAfwdIdeal.sig) → Buf (Elt Ideal) ℓ) : Prop :=
  True

def Pre_ReferenceAfwdIdeal (m : (ℓ : Loc Cert.ReferenceAfwdIdeal.nD Cert.ReferenceAfwdIdeal.τ Cert.ReferenceAfwdIdeal.sig) → Buf (Elt Ideal) ℓ) : Prop :=
  True

def Pre_KernelAbwd (m : (ℓ : Loc Cert.KernelAbwd.nD Cert.KernelAbwd.τ Cert.KernelAbwd.sig) → Buf (Elt Bits) ℓ) : Prop :=
  True

def Pre_KernelAbwdIdeal (m : (ℓ : Loc Cert.KernelAbwdIdeal.nD Cert.KernelAbwdIdeal.τ Cert.KernelAbwdIdeal.sig) → Buf (Elt Ideal) ℓ) : Prop :=
  True

def Pre_ReferenceAbwdIdeal (m : (ℓ : Loc Cert.ReferenceAbwdIdeal.nD Cert.ReferenceAbwdIdeal.τ Cert.ReferenceAbwdIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_gates_finite [hKernelIdeal : Cert.KernelIdeal.Facts] [hPre_gates_finite : Cert.Pre_gates_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gates_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_gates_finite [hReferenceIdeal : Cert.ReferenceIdeal.Facts] [hPre_gates_finite : Cert.Pre_gates_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gates_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_KernelDh [hKernelDh : Cert.KernelDh.Facts] : Prop :=
  ∀ (m : (ℓ : Loc Cert.KernelDh.nD Cert.KernelDh.τ Cert.KernelDh.sig) → Buf (Elt Bits) ℓ) (g : Dev Cert.KernelDh.nD → PrngReg), Pre_KernelDh m →
    θ_run (Cert.KernelDh.defs (F := Bits)) (onTc (τ := Cert.KernelDh.τ) (Cert.KernelDh.main (F := Bits))) ⟨m, fun _ => 0, g⟩ (fun r => (∀ c : Dev Cert.KernelDh.nD,
      r.2.mem ((c.tc : Thread Cert.KernelDh.nD Cert.KernelDh.τ).loc Cert.KernelDh.main_arg0) = m ((c.tc : Thread Cert.KernelDh.nD Cert.KernelDh.τ).loc Cert.KernelDh.main_arg0)
      ∧ r.2.mem ((c.tc : Thread Cert.KernelDh.nD Cert.KernelDh.τ).loc Cert.KernelDh.main_arg1) = m ((c.tc : Thread Cert.KernelDh.nD Cert.KernelDh.τ).loc Cert.KernelDh.main_arg1)
      ∧ r.2.mem ((c.tc : Thread Cert.KernelDh.nD Cert.KernelDh.τ).loc Cert.KernelDh.main_arg2) = m ((c.tc : Thread Cert.KernelDh.nD Cert.KernelDh.τ).loc Cert.KernelDh.main_arg2))
      ∧ r.2.sem = fun _ => 0)

def quiescent_KernelDhIdeal [hKernelDhIdeal : Cert.KernelDhIdeal.Facts] : Prop :=
  ∀ (m : (ℓ : Loc Cert.KernelDhIdeal.nD Cert.KernelDhIdeal.τ Cert.KernelDhIdeal.sig) → Buf (Elt Ideal) ℓ) (g : Dev Cert.KernelDhIdeal.nD → PrngReg), Pre_KernelDhIdeal m →
    θ_run (Cert.KernelDhIdeal.defs (F := Ideal)) (onTc (τ := Cert.KernelDhIdeal.τ) (Cert.KernelDhIdeal.main (F := Ideal))) ⟨m, fun _ => 0, g⟩ (fun r => (∀ c : Dev Cert.KernelDhIdeal.nD,
      r.2.mem ((c.tc : Thread Cert.KernelDhIdeal.nD Cert.KernelDhIdeal.τ).loc Cert.KernelDhIdeal.main_arg0) = m ((c.tc : Thread Cert.KernelDhIdeal.nD Cert.KernelDhIdeal.τ).loc Cert.KernelDhIdeal.main_arg0)
      ∧ r.2.mem ((c.tc : Thread Cert.KernelDhIdeal.nD Cert.KernelDhIdeal.τ).loc Cert.KernelDhIdeal.main_arg1) = m ((c.tc : Thread Cert.KernelDhIdeal.nD Cert.KernelDhIdeal.τ).loc Cert.KernelDhIdeal.main_arg1)
      ∧ r.2.mem ((c.tc : Thread Cert.KernelDhIdeal.nD Cert.KernelDhIdeal.τ).loc Cert.KernelDhIdeal.main_arg2) = m ((c.tc : Thread Cert.KernelDhIdeal.nD Cert.KernelDhIdeal.τ).loc Cert.KernelDhIdeal.main_arg2))
      ∧ r.2.sem = fun _ => 0)

def quiescent_ReferenceDhIdeal [hReferenceDhIdeal : Cert.ReferenceDhIdeal.Facts] : Prop :=
  ∀ (m : (ℓ : Loc Cert.ReferenceDhIdeal.nD Cert.ReferenceDhIdeal.τ Cert.ReferenceDhIdeal.sig) → Buf (Elt Ideal) ℓ) (g : Dev Cert.ReferenceDhIdeal.nD → PrngReg), Pre_ReferenceDhIdeal m →
    θ_run (Cert.ReferenceDhIdeal.defs (F := Ideal)) (onTc (τ := Cert.ReferenceDhIdeal.τ) (Cert.ReferenceDhIdeal.main (F := Ideal))) ⟨m, fun _ => 0, g⟩ (fun r => (∀ c : Dev Cert.ReferenceDhIdeal.nD,
      r.2.mem ((c.tc : Thread Cert.ReferenceDhIdeal.nD Cert.ReferenceDhIdeal.τ).loc Cert.ReferenceDhIdeal.main_arg0) = m ((c.tc : Thread Cert.ReferenceDhIdeal.nD Cert.ReferenceDhIdeal.τ).loc Cert.ReferenceDhIdeal.main_arg0)
      ∧ r.2.mem ((c.tc : Thread Cert.ReferenceDhIdeal.nD Cert.ReferenceDhIdeal.τ).loc Cert.ReferenceDhIdeal.main_arg1) = m ((c.tc : Thread Cert.ReferenceDhIdeal.nD Cert.ReferenceDhIdeal.τ).loc Cert.ReferenceDhIdeal.main_arg1)
      ∧ r.2.mem ((c.tc : Thread Cert.ReferenceDhIdeal.nD Cert.ReferenceDhIdeal.τ).loc Cert.ReferenceDhIdeal.main_arg2) = m ((c.tc : Thread Cert.ReferenceDhIdeal.nD Cert.ReferenceDhIdeal.τ).loc Cert.ReferenceDhIdeal.main_arg2))
      ∧ r.2.sem = fun _ => 0)

def quiescent_KernelGwin0 [hKernelGwin0 : Cert.KernelGwin0.Facts] : Prop :=
  ∀ (m : (ℓ : Loc Cert.KernelGwin0.nD Cert.KernelGwin0.τ Cert.KernelGwin0.sig) → Buf (Elt Bits) ℓ) (g : Dev Cert.KernelGwin0.nD → PrngReg), Pre_KernelGwin0 m →
    θ_run (Cert.KernelGwin0.defs (F := Bits)) (onTc (τ := Cert.KernelGwin0.τ) (Cert.KernelGwin0.main (F := Bits))) ⟨m, fun _ => 0, g⟩ (fun r => (∀ c : Dev Cert.KernelGwin0.nD,
      r.2.mem ((c.tc : Thread Cert.KernelGwin0.nD Cert.KernelGwin0.τ).loc Cert.KernelGwin0.main_arg0) = m ((c.tc : Thread Cert.KernelGwin0.nD Cert.KernelGwin0.τ).loc Cert.KernelGwin0.main_arg0)
      ∧ r.2.mem ((c.tc : Thread Cert.KernelGwin0.nD Cert.KernelGwin0.τ).loc Cert.KernelGwin0.main_arg1) = m ((c.tc : Thread Cert.KernelGwin0.nD Cert.KernelGwin0.τ).loc Cert.KernelGwin0.main_arg1)
      ∧ r.2.mem ((c.tc : Thread Cert.KernelGwin0.nD Cert.KernelGwin0.τ).loc Cert.KernelGwin0.main_arg2) = m ((c.tc : Thread Cert.KernelGwin0.nD Cert.KernelGwin0.τ).loc Cert.KernelGwin0.main_arg2))
      ∧ r.2.sem = fun _ => 0)

def quiescent_KernelGwin0Ideal [hKernelGwin0Ideal : Cert.KernelGwin0Ideal.Facts] : Prop :=
  ∀ (m : (ℓ : Loc Cert.KernelGwin0Ideal.nD Cert.KernelGwin0Ideal.τ Cert.KernelGwin0Ideal.sig) → Buf (Elt Ideal) ℓ) (g : Dev Cert.KernelGwin0Ideal.nD → PrngReg), Pre_KernelGwin0Ideal m →
    θ_run (Cert.KernelGwin0Ideal.defs (F := Ideal)) (onTc (τ := Cert.KernelGwin0Ideal.τ) (Cert.KernelGwin0Ideal.main (F := Ideal))) ⟨m, fun _ => 0, g⟩ (fun r => (∀ c : Dev Cert.KernelGwin0Ideal.nD,
      r.2.mem ((c.tc : Thread Cert.KernelGwin0Ideal.nD Cert.KernelGwin0Ideal.τ).loc Cert.KernelGwin0Ideal.main_arg0) = m ((c.tc : Thread Cert.KernelGwin0Ideal.nD Cert.KernelGwin0Ideal.τ).loc Cert.KernelGwin0Ideal.main_arg0)
      ∧ r.2.mem ((c.tc : Thread Cert.KernelGwin0Ideal.nD Cert.KernelGwin0Ideal.τ).loc Cert.KernelGwin0Ideal.main_arg1) = m ((c.tc : Thread Cert.KernelGwin0Ideal.nD Cert.KernelGwin0Ideal.τ).loc Cert.KernelGwin0Ideal.main_arg1)
      ∧ r.2.mem ((c.tc : Thread Cert.KernelGwin0Ideal.nD Cert.KernelGwin0Ideal.τ).loc Cert.KernelGwin0Ideal.main_arg2) = m ((c.tc : Thread Cert.KernelGwin0Ideal.nD Cert.KernelGwin0Ideal.τ).loc Cert.KernelGwin0Ideal.main_arg2))
      ∧ r.2.sem = fun _ => 0)

def quiescent_ReferenceGwin0Ideal [hReferenceGwin0Ideal : Cert.ReferenceGwin0Ideal.Facts] : Prop :=
  ∀ (m : (ℓ : Loc Cert.ReferenceGwin0Ideal.nD Cert.ReferenceGwin0Ideal.τ Cert.ReferenceGwin0Ideal.sig) → Buf (Elt Ideal) ℓ) (g : Dev Cert.ReferenceGwin0Ideal.nD → PrngReg), Pre_ReferenceGwin0Ideal m →
    θ_run (Cert.ReferenceGwin0Ideal.defs (F := Ideal)) (onTc (τ := Cert.ReferenceGwin0Ideal.τ) (Cert.ReferenceGwin0Ideal.main (F := Ideal))) ⟨m, fun _ => 0, g⟩ (fun r => (∀ c : Dev Cert.ReferenceGwin0Ideal.nD,
      r.2.mem ((c.tc : Thread Cert.ReferenceGwin0Ideal.nD Cert.ReferenceGwin0Ideal.τ).loc Cert.ReferenceGwin0Ideal.main_arg0) = m ((c.tc : Thread Cert.ReferenceGwin0Ideal.nD Cert.ReferenceGwin0Ideal.τ).loc Cert.ReferenceGwin0Ideal.main_arg0)
      ∧ r.2.mem ((c.tc : Thread Cert.ReferenceGwin0Ideal.nD Cert.ReferenceGwin0Ideal.τ).loc Cert.ReferenceGwin0Ideal.main_arg1) = m ((c.tc : Thread Cert.ReferenceGwin0Ideal.nD Cert.ReferenceGwin0Ideal.τ).loc Cert.ReferenceGwin0Ideal.main_arg1)
      ∧ r.2.mem ((c.tc : Thread Cert.ReferenceGwin0Ideal.nD Cert.ReferenceGwin0Ideal.τ).loc Cert.ReferenceGwin0Ideal.main_arg2) = m ((c.tc : Thread Cert.ReferenceGwin0Ideal.nD Cert.ReferenceGwin0Ideal.τ).loc Cert.ReferenceGwin0Ideal.main_arg2))
      ∧ r.2.sem = fun _ => 0)

def quiescent_KernelGwin1 [hKernelGwin1 : Cert.KernelGwin1.Facts] : Prop :=
  ∀ (m : (ℓ : Loc Cert.KernelGwin1.nD Cert.KernelGwin1.τ Cert.KernelGwin1.sig) → Buf (Elt Bits) ℓ) (g : Dev Cert.KernelGwin1.nD → PrngReg), Pre_KernelGwin1 m →
    θ_run (Cert.KernelGwin1.defs (F := Bits)) (onTc (τ := Cert.KernelGwin1.τ) (Cert.KernelGwin1.main (F := Bits))) ⟨m, fun _ => 0, g⟩ (fun r => (∀ c : Dev Cert.KernelGwin1.nD,
      r.2.mem ((c.tc : Thread Cert.KernelGwin1.nD Cert.KernelGwin1.τ).loc Cert.KernelGwin1.main_arg0) = m ((c.tc : Thread Cert.KernelGwin1.nD Cert.KernelGwin1.τ).loc Cert.KernelGwin1.main_arg0)
      ∧ r.2.mem ((c.tc : Thread Cert.KernelGwin1.nD Cert.KernelGwin1.τ).loc Cert.KernelGwin1.main_arg1) = m ((c.tc : Thread Cert.KernelGwin1.nD Cert.KernelGwin1.τ).loc Cert.KernelGwin1.main_arg1)
      ∧ r.2.mem ((c.tc : Thread Cert.KernelGwin1.nD Cert.KernelGwin1.τ).loc Cert.KernelGwin1.main_arg2) = m ((c.tc : Thread Cert.KernelGwin1.nD Cert.KernelGwin1.τ).loc Cert.KernelGwin1.main_arg2))
      ∧ r.2.sem = fun _ => 0)

def quiescent_KernelGwin1Ideal [hKernelGwin1Ideal : Cert.KernelGwin1Ideal.Facts] : Prop :=
  ∀ (m : (ℓ : Loc Cert.KernelGwin1Ideal.nD Cert.KernelGwin1Ideal.τ Cert.KernelGwin1Ideal.sig) → Buf (Elt Ideal) ℓ) (g : Dev Cert.KernelGwin1Ideal.nD → PrngReg), Pre_KernelGwin1Ideal m →
    θ_run (Cert.KernelGwin1Ideal.defs (F := Ideal)) (onTc (τ := Cert.KernelGwin1Ideal.τ) (Cert.KernelGwin1Ideal.main (F := Ideal))) ⟨m, fun _ => 0, g⟩ (fun r => (∀ c : Dev Cert.KernelGwin1Ideal.nD,
      r.2.mem ((c.tc : Thread Cert.KernelGwin1Ideal.nD Cert.KernelGwin1Ideal.τ).loc Cert.KernelGwin1Ideal.main_arg0) = m ((c.tc : Thread Cert.KernelGwin1Ideal.nD Cert.KernelGwin1Ideal.τ).loc Cert.KernelGwin1Ideal.main_arg0)
      ∧ r.2.mem ((c.tc : Thread Cert.KernelGwin1Ideal.nD Cert.KernelGwin1Ideal.τ).loc Cert.KernelGwin1Ideal.main_arg1) = m ((c.tc : Thread Cert.KernelGwin1Ideal.nD Cert.KernelGwin1Ideal.τ).loc Cert.KernelGwin1Ideal.main_arg1)
      ∧ r.2.mem ((c.tc : Thread Cert.KernelGwin1Ideal.nD Cert.KernelGwin1Ideal.τ).loc Cert.KernelGwin1Ideal.main_arg2) = m ((c.tc : Thread Cert.KernelGwin1Ideal.nD Cert.KernelGwin1Ideal.τ).loc Cert.KernelGwin1Ideal.main_arg2))
      ∧ r.2.sem = fun _ => 0)

def quiescent_ReferenceGwin1Ideal [hReferenceGwin1Ideal : Cert.ReferenceGwin1Ideal.Facts] : Prop :=
  ∀ (m : (ℓ : Loc Cert.ReferenceGwin1Ideal.nD Cert.ReferenceGwin1Ideal.τ Cert.ReferenceGwin1Ideal.sig) → Buf (Elt Ideal) ℓ) (g : Dev Cert.ReferenceGwin1Ideal.nD → PrngReg), Pre_ReferenceGwin1Ideal m →
    θ_run (Cert.ReferenceGwin1Ideal.defs (F := Ideal)) (onTc (τ := Cert.ReferenceGwin1Ideal.τ) (Cert.ReferenceGwin1Ideal.main (F := Ideal))) ⟨m, fun _ => 0, g⟩ (fun r => (∀ c : Dev Cert.ReferenceGwin1Ideal.nD,
      r.2.mem ((c.tc : Thread Cert.ReferenceGwin1Ideal.nD Cert.ReferenceGwin1Ideal.τ).loc Cert.ReferenceGwin1Ideal.main_arg0) = m ((c.tc : Thread Cert.ReferenceGwin1Ideal.nD Cert.ReferenceGwin1Ideal.τ).loc Cert.ReferenceGwin1Ideal.main_arg0)
      ∧ r.2.mem ((c.tc : Thread Cert.ReferenceGwin1Ideal.nD Cert.ReferenceGwin1Ideal.τ).loc Cert.ReferenceGwin1Ideal.main_arg1) = m ((c.tc : Thread Cert.ReferenceGwin1Ideal.nD Cert.ReferenceGwin1Ideal.τ).loc Cert.ReferenceGwin1Ideal.main_arg1)
      ∧ r.2.mem ((c.tc : Thread Cert.ReferenceGwin1Ideal.nD Cert.ReferenceGwin1Ideal.τ).loc Cert.ReferenceGwin1Ideal.main_arg2) = m ((c.tc : Thread Cert.ReferenceGwin1Ideal.nD Cert.ReferenceGwin1Ideal.τ).loc Cert.ReferenceGwin1Ideal.main_arg2))
      ∧ r.2.sem = fun _ => 0)

def quiescent_KernelGwin2 [hKernelGwin2 : Cert.KernelGwin2.Facts] : Prop :=
  ∀ (m : (ℓ : Loc Cert.KernelGwin2.nD Cert.KernelGwin2.τ Cert.KernelGwin2.sig) → Buf (Elt Bits) ℓ) (g : Dev Cert.KernelGwin2.nD → PrngReg), Pre_KernelGwin2 m →
    θ_run (Cert.KernelGwin2.defs (F := Bits)) (onTc (τ := Cert.KernelGwin2.τ) (Cert.KernelGwin2.main (F := Bits))) ⟨m, fun _ => 0, g⟩ (fun r => (∀ c : Dev Cert.KernelGwin2.nD,
      r.2.mem ((c.tc : Thread Cert.KernelGwin2.nD Cert.KernelGwin2.τ).loc Cert.KernelGwin2.main_arg0) = m ((c.tc : Thread Cert.KernelGwin2.nD Cert.KernelGwin2.τ).loc Cert.KernelGwin2.main_arg0)
      ∧ r.2.mem ((c.tc : Thread Cert.KernelGwin2.nD Cert.KernelGwin2.τ).loc Cert.KernelGwin2.main_arg1) = m ((c.tc : Thread Cert.KernelGwin2.nD Cert.KernelGwin2.τ).loc Cert.KernelGwin2.main_arg1)
      ∧ r.2.mem ((c.tc : Thread Cert.KernelGwin2.nD Cert.KernelGwin2.τ).loc Cert.KernelGwin2.main_arg2) = m ((c.tc : Thread Cert.KernelGwin2.nD Cert.KernelGwin2.τ).loc Cert.KernelGwin2.main_arg2))
      ∧ r.2.sem = fun _ => 0)

def quiescent_KernelGwin2Ideal [hKernelGwin2Ideal : Cert.KernelGwin2Ideal.Facts] : Prop :=
  ∀ (m : (ℓ : Loc Cert.KernelGwin2Ideal.nD Cert.KernelGwin2Ideal.τ Cert.KernelGwin2Ideal.sig) → Buf (Elt Ideal) ℓ) (g : Dev Cert.KernelGwin2Ideal.nD → PrngReg), Pre_KernelGwin2Ideal m →
    θ_run (Cert.KernelGwin2Ideal.defs (F := Ideal)) (onTc (τ := Cert.KernelGwin2Ideal.τ) (Cert.KernelGwin2Ideal.main (F := Ideal))) ⟨m, fun _ => 0, g⟩ (fun r => (∀ c : Dev Cert.KernelGwin2Ideal.nD,
      r.2.mem ((c.tc : Thread Cert.KernelGwin2Ideal.nD Cert.KernelGwin2Ideal.τ).loc Cert.KernelGwin2Ideal.main_arg0) = m ((c.tc : Thread Cert.KernelGwin2Ideal.nD Cert.KernelGwin2Ideal.τ).loc Cert.KernelGwin2Ideal.main_arg0)
      ∧ r.2.mem ((c.tc : Thread Cert.KernelGwin2Ideal.nD Cert.KernelGwin2Ideal.τ).loc Cert.KernelGwin2Ideal.main_arg1) = m ((c.tc : Thread Cert.KernelGwin2Ideal.nD Cert.KernelGwin2Ideal.τ).loc Cert.KernelGwin2Ideal.main_arg1)
      ∧ r.2.mem ((c.tc : Thread Cert.KernelGwin2Ideal.nD Cert.KernelGwin2Ideal.τ).loc Cert.KernelGwin2Ideal.main_arg2) = m ((c.tc : Thread Cert.KernelGwin2Ideal.nD Cert.KernelGwin2Ideal.τ).loc Cert.KernelGwin2Ideal.main_arg2))
      ∧ r.2.sem = fun _ => 0)

def quiescent_ReferenceGwin2Ideal [hReferenceGwin2Ideal : Cert.ReferenceGwin2Ideal.Facts] : Prop :=
  ∀ (m : (ℓ : Loc Cert.ReferenceGwin2Ideal.nD Cert.ReferenceGwin2Ideal.τ Cert.ReferenceGwin2Ideal.sig) → Buf (Elt Ideal) ℓ) (g : Dev Cert.ReferenceGwin2Ideal.nD → PrngReg), Pre_ReferenceGwin2Ideal m →
    θ_run (Cert.ReferenceGwin2Ideal.defs (F := Ideal)) (onTc (τ := Cert.ReferenceGwin2Ideal.τ) (Cert.ReferenceGwin2Ideal.main (F := Ideal))) ⟨m, fun _ => 0, g⟩ (fun r => (∀ c : Dev Cert.ReferenceGwin2Ideal.nD,
      r.2.mem ((c.tc : Thread Cert.ReferenceGwin2Ideal.nD Cert.ReferenceGwin2Ideal.τ).loc Cert.ReferenceGwin2Ideal.main_arg0) = m ((c.tc : Thread Cert.ReferenceGwin2Ideal.nD Cert.ReferenceGwin2Ideal.τ).loc Cert.ReferenceGwin2Ideal.main_arg0)
      ∧ r.2.mem ((c.tc : Thread Cert.ReferenceGwin2Ideal.nD Cert.ReferenceGwin2Ideal.τ).loc Cert.ReferenceGwin2Ideal.main_arg1) = m ((c.tc : Thread Cert.ReferenceGwin2Ideal.nD Cert.ReferenceGwin2Ideal.τ).loc Cert.ReferenceGwin2Ideal.main_arg1)
      ∧ r.2.mem ((c.tc : Thread Cert.ReferenceGwin2Ideal.nD Cert.ReferenceGwin2Ideal.τ).loc Cert.ReferenceGwin2Ideal.main_arg2) = m ((c.tc : Thread Cert.ReferenceGwin2Ideal.nD Cert.ReferenceGwin2Ideal.τ).loc Cert.ReferenceGwin2Ideal.main_arg2))
      ∧ r.2.sem = fun _ => 0)

def quiescent_KernelGwin3 [hKernelGwin3 : Cert.KernelGwin3.Facts] : Prop :=
  ∀ (m : (ℓ : Loc Cert.KernelGwin3.nD Cert.KernelGwin3.τ Cert.KernelGwin3.sig) → Buf (Elt Bits) ℓ) (g : Dev Cert.KernelGwin3.nD → PrngReg), Pre_KernelGwin3 m →
    θ_run (Cert.KernelGwin3.defs (F := Bits)) (onTc (τ := Cert.KernelGwin3.τ) (Cert.KernelGwin3.main (F := Bits))) ⟨m, fun _ => 0, g⟩ (fun r => (∀ c : Dev Cert.KernelGwin3.nD,
      r.2.mem ((c.tc : Thread Cert.KernelGwin3.nD Cert.KernelGwin3.τ).loc Cert.KernelGwin3.main_arg0) = m ((c.tc : Thread Cert.KernelGwin3.nD Cert.KernelGwin3.τ).loc Cert.KernelGwin3.main_arg0)
      ∧ r.2.mem ((c.tc : Thread Cert.KernelGwin3.nD Cert.KernelGwin3.τ).loc Cert.KernelGwin3.main_arg1) = m ((c.tc : Thread Cert.KernelGwin3.nD Cert.KernelGwin3.τ).loc Cert.KernelGwin3.main_arg1)
      ∧ r.2.mem ((c.tc : Thread Cert.KernelGwin3.nD Cert.KernelGwin3.τ).loc Cert.KernelGwin3.main_arg2) = m ((c.tc : Thread Cert.KernelGwin3.nD Cert.KernelGwin3.τ).loc Cert.KernelGwin3.main_arg2))
      ∧ r.2.sem = fun _ => 0)

def quiescent_KernelGwin3Ideal [hKernelGwin3Ideal : Cert.KernelGwin3Ideal.Facts] : Prop :=
  ∀ (m : (ℓ : Loc Cert.KernelGwin3Ideal.nD Cert.KernelGwin3Ideal.τ Cert.KernelGwin3Ideal.sig) → Buf (Elt Ideal) ℓ) (g : Dev Cert.KernelGwin3Ideal.nD → PrngReg), Pre_KernelGwin3Ideal m →
    θ_run (Cert.KernelGwin3Ideal.defs (F := Ideal)) (onTc (τ := Cert.KernelGwin3Ideal.τ) (Cert.KernelGwin3Ideal.main (F := Ideal))) ⟨m, fun _ => 0, g⟩ (fun r => (∀ c : Dev Cert.KernelGwin3Ideal.nD,
      r.2.mem ((c.tc : Thread Cert.KernelGwin3Ideal.nD Cert.KernelGwin3Ideal.τ).loc Cert.KernelGwin3Ideal.main_arg0) = m ((c.tc : Thread Cert.KernelGwin3Ideal.nD Cert.KernelGwin3Ideal.τ).loc Cert.KernelGwin3Ideal.main_arg0)
      ∧ r.2.mem ((c.tc : Thread Cert.KernelGwin3Ideal.nD Cert.KernelGwin3Ideal.τ).loc Cert.KernelGwin3Ideal.main_arg1) = m ((c.tc : Thread Cert.KernelGwin3Ideal.nD Cert.KernelGwin3Ideal.τ).loc Cert.KernelGwin3Ideal.main_arg1)
      ∧ r.2.mem ((c.tc : Thread Cert.KernelGwin3Ideal.nD Cert.KernelGwin3Ideal.τ).loc Cert.KernelGwin3Ideal.main_arg2) = m ((c.tc : Thread Cert.KernelGwin3Ideal.nD Cert.KernelGwin3Ideal.τ).loc Cert.KernelGwin3Ideal.main_arg2))
      ∧ r.2.sem = fun _ => 0)

def quiescent_ReferenceGwin3Ideal [hReferenceGwin3Ideal : Cert.ReferenceGwin3Ideal.Facts] : Prop :=
  ∀ (m : (ℓ : Loc Cert.ReferenceGwin3Ideal.nD Cert.ReferenceGwin3Ideal.τ Cert.ReferenceGwin3Ideal.sig) → Buf (Elt Ideal) ℓ) (g : Dev Cert.ReferenceGwin3Ideal.nD → PrngReg), Pre_ReferenceGwin3Ideal m →
    θ_run (Cert.ReferenceGwin3Ideal.defs (F := Ideal)) (onTc (τ := Cert.ReferenceGwin3Ideal.τ) (Cert.ReferenceGwin3Ideal.main (F := Ideal))) ⟨m, fun _ => 0, g⟩ (fun r => (∀ c : Dev Cert.ReferenceGwin3Ideal.nD,
      r.2.mem ((c.tc : Thread Cert.ReferenceGwin3Ideal.nD Cert.ReferenceGwin3Ideal.τ).loc Cert.ReferenceGwin3Ideal.main_arg0) = m ((c.tc : Thread Cert.ReferenceGwin3Ideal.nD Cert.ReferenceGwin3Ideal.τ).loc Cert.ReferenceGwin3Ideal.main_arg0)
      ∧ r.2.mem ((c.tc : Thread Cert.ReferenceGwin3Ideal.nD Cert.ReferenceGwin3Ideal.τ).loc Cert.ReferenceGwin3Ideal.main_arg1) = m ((c.tc : Thread Cert.ReferenceGwin3Ideal.nD Cert.ReferenceGwin3Ideal.τ).loc Cert.ReferenceGwin3Ideal.main_arg1)
      ∧ r.2.mem ((c.tc : Thread Cert.ReferenceGwin3Ideal.nD Cert.ReferenceGwin3Ideal.τ).loc Cert.ReferenceGwin3Ideal.main_arg2) = m ((c.tc : Thread Cert.ReferenceGwin3Ideal.nD Cert.ReferenceGwin3Ideal.τ).loc Cert.ReferenceGwin3Ideal.main_arg2))
      ∧ r.2.sem = fun _ => 0)

def quiescent_KernelDmixed [hKernelDmixed : Cert.KernelDmixed.Facts] : Prop :=
  ∀ (m : (ℓ : Loc Cert.KernelDmixed.nD Cert.KernelDmixed.τ Cert.KernelDmixed.sig) → Buf (Elt Bits) ℓ) (g : Dev Cert.KernelDmixed.nD → PrngReg), Pre_KernelDmixed m →
    θ_run (Cert.KernelDmixed.defs (F := Bits)) (onTc (τ := Cert.KernelDmixed.τ) (Cert.KernelDmixed.main (F := Bits))) ⟨m, fun _ => 0, g⟩ (fun r => (∀ c : Dev Cert.KernelDmixed.nD,
      r.2.mem ((c.tc : Thread Cert.KernelDmixed.nD Cert.KernelDmixed.τ).loc Cert.KernelDmixed.main_arg0) = m ((c.tc : Thread Cert.KernelDmixed.nD Cert.KernelDmixed.τ).loc Cert.KernelDmixed.main_arg0)
      ∧ r.2.mem ((c.tc : Thread Cert.KernelDmixed.nD Cert.KernelDmixed.τ).loc Cert.KernelDmixed.main_arg1) = m ((c.tc : Thread Cert.KernelDmixed.nD Cert.KernelDmixed.τ).loc Cert.KernelDmixed.main_arg1)
      ∧ r.2.mem ((c.tc : Thread Cert.KernelDmixed.nD Cert.KernelDmixed.τ).loc Cert.KernelDmixed.main_arg2) = m ((c.tc : Thread Cert.KernelDmixed.nD Cert.KernelDmixed.τ).loc Cert.KernelDmixed.main_arg2))
      ∧ r.2.sem = fun _ => 0)

def quiescent_KernelDmixedIdeal [hKernelDmixedIdeal : Cert.KernelDmixedIdeal.Facts] : Prop :=
  ∀ (m : (ℓ : Loc Cert.KernelDmixedIdeal.nD Cert.KernelDmixedIdeal.τ Cert.KernelDmixedIdeal.sig) → Buf (Elt Ideal) ℓ) (g : Dev Cert.KernelDmixedIdeal.nD → PrngReg), Pre_KernelDmixedIdeal m →
    θ_run (Cert.KernelDmixedIdeal.defs (F := Ideal)) (onTc (τ := Cert.KernelDmixedIdeal.τ) (Cert.KernelDmixedIdeal.main (F := Ideal))) ⟨m, fun _ => 0, g⟩ (fun r => (∀ c : Dev Cert.KernelDmixedIdeal.nD,
      r.2.mem ((c.tc : Thread Cert.KernelDmixedIdeal.nD Cert.KernelDmixedIdeal.τ).loc Cert.KernelDmixedIdeal.main_arg0) = m ((c.tc : Thread Cert.KernelDmixedIdeal.nD Cert.KernelDmixedIdeal.τ).loc Cert.KernelDmixedIdeal.main_arg0)
      ∧ r.2.mem ((c.tc : Thread Cert.KernelDmixedIdeal.nD Cert.KernelDmixedIdeal.τ).loc Cert.KernelDmixedIdeal.main_arg1) = m ((c.tc : Thread Cert.KernelDmixedIdeal.nD Cert.KernelDmixedIdeal.τ).loc Cert.KernelDmixedIdeal.main_arg1)
      ∧ r.2.mem ((c.tc : Thread Cert.KernelDmixedIdeal.nD Cert.KernelDmixedIdeal.τ).loc Cert.KernelDmixedIdeal.main_arg2) = m ((c.tc : Thread Cert.KernelDmixedIdeal.nD Cert.KernelDmixedIdeal.τ).loc Cert.KernelDmixedIdeal.main_arg2))
      ∧ r.2.sem = fun _ => 0)

def quiescent_ReferenceDmixedIdeal [hReferenceDmixedIdeal : Cert.ReferenceDmixedIdeal.Facts] : Prop :=
  ∀ (m : (ℓ : Loc Cert.ReferenceDmixedIdeal.nD Cert.ReferenceDmixedIdeal.τ Cert.ReferenceDmixedIdeal.sig) → Buf (Elt Ideal) ℓ) (g : Dev Cert.ReferenceDmixedIdeal.nD → PrngReg), Pre_ReferenceDmixedIdeal m →
    θ_run (Cert.ReferenceDmixedIdeal.defs (F := Ideal)) (onTc (τ := Cert.ReferenceDmixedIdeal.τ) (Cert.ReferenceDmixedIdeal.main (F := Ideal))) ⟨m, fun _ => 0, g⟩ (fun r => (∀ c : Dev Cert.ReferenceDmixedIdeal.nD,
      r.2.mem ((c.tc : Thread Cert.ReferenceDmixedIdeal.nD Cert.ReferenceDmixedIdeal.τ).loc Cert.ReferenceDmixedIdeal.main_arg0) = m ((c.tc : Thread Cert.ReferenceDmixedIdeal.nD Cert.ReferenceDmixedIdeal.τ).loc Cert.ReferenceDmixedIdeal.main_arg0)
      ∧ r.2.mem ((c.tc : Thread Cert.ReferenceDmixedIdeal.nD Cert.ReferenceDmixedIdeal.τ).loc Cert.ReferenceDmixedIdeal.main_arg1) = m ((c.tc : Thread Cert.ReferenceDmixedIdeal.nD Cert.ReferenceDmixedIdeal.τ).loc Cert.ReferenceDmixedIdeal.main_arg1)
      ∧ r.2.mem ((c.tc : Thread Cert.ReferenceDmixedIdeal.nD Cert.ReferenceDmixedIdeal.τ).loc Cert.ReferenceDmixedIdeal.main_arg2) = m ((c.tc : Thread Cert.ReferenceDmixedIdeal.nD Cert.ReferenceDmixedIdeal.τ).loc Cert.ReferenceDmixedIdeal.main_arg2))
      ∧ r.2.sem = fun _ => 0)

def quiescent_KernelGwout [hKernelGwout : Cert.KernelGwout.Facts] : Prop :=
  ∀ (m : (ℓ : Loc Cert.KernelGwout.nD Cert.KernelGwout.τ Cert.KernelGwout.sig) → Buf (Elt Bits) ℓ) (g : Dev Cert.KernelGwout.nD → PrngReg), Pre_KernelGwout m →
    θ_run (Cert.KernelGwout.defs (F := Bits)) (onTc (τ := Cert.KernelGwout.τ) (Cert.KernelGwout.main (F := Bits))) ⟨m, fun _ => 0, g⟩ (fun r => (∀ c : Dev Cert.KernelGwout.nD,
      r.2.mem ((c.tc : Thread Cert.KernelGwout.nD Cert.KernelGwout.τ).loc Cert.KernelGwout.main_arg0) = m ((c.tc : Thread Cert.KernelGwout.nD Cert.KernelGwout.τ).loc Cert.KernelGwout.main_arg0)
      ∧ r.2.mem ((c.tc : Thread Cert.KernelGwout.nD Cert.KernelGwout.τ).loc Cert.KernelGwout.main_arg1) = m ((c.tc : Thread Cert.KernelGwout.nD Cert.KernelGwout.τ).loc Cert.KernelGwout.main_arg1)
      ∧ r.2.mem ((c.tc : Thread Cert.KernelGwout.nD Cert.KernelGwout.τ).loc Cert.KernelGwout.main_arg2) = m ((c.tc : Thread Cert.KernelGwout.nD Cert.KernelGwout.τ).loc Cert.KernelGwout.main_arg2))
      ∧ r.2.sem = fun _ => 0)

def quiescent_KernelGwoutIdeal [hKernelGwoutIdeal : Cert.KernelGwoutIdeal.Facts] : Prop :=
  ∀ (m : (ℓ : Loc Cert.KernelGwoutIdeal.nD Cert.KernelGwoutIdeal.τ Cert.KernelGwoutIdeal.sig) → Buf (Elt Ideal) ℓ) (g : Dev Cert.KernelGwoutIdeal.nD → PrngReg), Pre_KernelGwoutIdeal m →
    θ_run (Cert.KernelGwoutIdeal.defs (F := Ideal)) (onTc (τ := Cert.KernelGwoutIdeal.τ) (Cert.KernelGwoutIdeal.main (F := Ideal))) ⟨m, fun _ => 0, g⟩ (fun r => (∀ c : Dev Cert.KernelGwoutIdeal.nD,
      r.2.mem ((c.tc : Thread Cert.KernelGwoutIdeal.nD Cert.KernelGwoutIdeal.τ).loc Cert.KernelGwoutIdeal.main_arg0) = m ((c.tc : Thread Cert.KernelGwoutIdeal.nD Cert.KernelGwoutIdeal.τ).loc Cert.KernelGwoutIdeal.main_arg0)
      ∧ r.2.mem ((c.tc : Thread Cert.KernelGwoutIdeal.nD Cert.KernelGwoutIdeal.τ).loc Cert.KernelGwoutIdeal.main_arg1) = m ((c.tc : Thread Cert.KernelGwoutIdeal.nD Cert.KernelGwoutIdeal.τ).loc Cert.KernelGwoutIdeal.main_arg1)
      ∧ r.2.mem ((c.tc : Thread Cert.KernelGwoutIdeal.nD Cert.KernelGwoutIdeal.τ).loc Cert.KernelGwoutIdeal.main_arg2) = m ((c.tc : Thread Cert.KernelGwoutIdeal.nD Cert.KernelGwoutIdeal.τ).loc Cert.KernelGwoutIdeal.main_arg2))
      ∧ r.2.sem = fun _ => 0)

def quiescent_ReferenceGwoutIdeal [hReferenceGwoutIdeal : Cert.ReferenceGwoutIdeal.Facts] : Prop :=
  ∀ (m : (ℓ : Loc Cert.ReferenceGwoutIdeal.nD Cert.ReferenceGwoutIdeal.τ Cert.ReferenceGwoutIdeal.sig) → Buf (Elt Ideal) ℓ) (g : Dev Cert.ReferenceGwoutIdeal.nD → PrngReg), Pre_ReferenceGwoutIdeal m →
    θ_run (Cert.ReferenceGwoutIdeal.defs (F := Ideal)) (onTc (τ := Cert.ReferenceGwoutIdeal.τ) (Cert.ReferenceGwoutIdeal.main (F := Ideal))) ⟨m, fun _ => 0, g⟩ (fun r => (∀ c : Dev Cert.ReferenceGwoutIdeal.nD,
      r.2.mem ((c.tc : Thread Cert.ReferenceGwoutIdeal.nD Cert.ReferenceGwoutIdeal.τ).loc Cert.ReferenceGwoutIdeal.main_arg0) = m ((c.tc : Thread Cert.ReferenceGwoutIdeal.nD Cert.ReferenceGwoutIdeal.τ).loc Cert.ReferenceGwoutIdeal.main_arg0)
      ∧ r.2.mem ((c.tc : Thread Cert.ReferenceGwoutIdeal.nD Cert.ReferenceGwoutIdeal.τ).loc Cert.ReferenceGwoutIdeal.main_arg1) = m ((c.tc : Thread Cert.ReferenceGwoutIdeal.nD Cert.ReferenceGwoutIdeal.τ).loc Cert.ReferenceGwoutIdeal.main_arg1)
      ∧ r.2.mem ((c.tc : Thread Cert.ReferenceGwoutIdeal.nD Cert.ReferenceGwoutIdeal.τ).loc Cert.ReferenceGwoutIdeal.main_arg2) = m ((c.tc : Thread Cert.ReferenceGwoutIdeal.nD Cert.ReferenceGwoutIdeal.τ).loc Cert.ReferenceGwoutIdeal.main_arg2))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1))
      ∧ r.2.sem = fun _ => 0)

def quiescent_KernelDz [hKernelDz : Cert.KernelDz.Facts] : Prop :=
  ∀ (m : (ℓ : Loc Cert.KernelDz.nD Cert.KernelDz.τ Cert.KernelDz.sig) → Buf (Elt Bits) ℓ) (g : Dev Cert.KernelDz.nD → PrngReg), Pre_KernelDz m →
    θ_run (Cert.KernelDz.defs (F := Bits)) (onTc (τ := Cert.KernelDz.τ) (Cert.KernelDz.main (F := Bits))) ⟨m, fun _ => 0, g⟩ (fun r => (∀ c : Dev Cert.KernelDz.nD,
      r.2.mem ((c.tc : Thread Cert.KernelDz.nD Cert.KernelDz.τ).loc Cert.KernelDz.main_arg0) = m ((c.tc : Thread Cert.KernelDz.nD Cert.KernelDz.τ).loc Cert.KernelDz.main_arg0)
      ∧ r.2.mem ((c.tc : Thread Cert.KernelDz.nD Cert.KernelDz.τ).loc Cert.KernelDz.main_arg1) = m ((c.tc : Thread Cert.KernelDz.nD Cert.KernelDz.τ).loc Cert.KernelDz.main_arg1)
      ∧ r.2.mem ((c.tc : Thread Cert.KernelDz.nD Cert.KernelDz.τ).loc Cert.KernelDz.main_arg2) = m ((c.tc : Thread Cert.KernelDz.nD Cert.KernelDz.τ).loc Cert.KernelDz.main_arg2))
      ∧ r.2.sem = fun _ => 0)

def quiescent_KernelDzIdeal [hKernelDzIdeal : Cert.KernelDzIdeal.Facts] : Prop :=
  ∀ (m : (ℓ : Loc Cert.KernelDzIdeal.nD Cert.KernelDzIdeal.τ Cert.KernelDzIdeal.sig) → Buf (Elt Ideal) ℓ) (g : Dev Cert.KernelDzIdeal.nD → PrngReg), Pre_KernelDzIdeal m →
    θ_run (Cert.KernelDzIdeal.defs (F := Ideal)) (onTc (τ := Cert.KernelDzIdeal.τ) (Cert.KernelDzIdeal.main (F := Ideal))) ⟨m, fun _ => 0, g⟩ (fun r => (∀ c : Dev Cert.KernelDzIdeal.nD,
      r.2.mem ((c.tc : Thread Cert.KernelDzIdeal.nD Cert.KernelDzIdeal.τ).loc Cert.KernelDzIdeal.main_arg0) = m ((c.tc : Thread Cert.KernelDzIdeal.nD Cert.KernelDzIdeal.τ).loc Cert.KernelDzIdeal.main_arg0)
      ∧ r.2.mem ((c.tc : Thread Cert.KernelDzIdeal.nD Cert.KernelDzIdeal.τ).loc Cert.KernelDzIdeal.main_arg1) = m ((c.tc : Thread Cert.KernelDzIdeal.nD Cert.KernelDzIdeal.τ).loc Cert.KernelDzIdeal.main_arg1)
      ∧ r.2.mem ((c.tc : Thread Cert.KernelDzIdeal.nD Cert.KernelDzIdeal.τ).loc Cert.KernelDzIdeal.main_arg2) = m ((c.tc : Thread Cert.KernelDzIdeal.nD Cert.KernelDzIdeal.τ).loc Cert.KernelDzIdeal.main_arg2))
      ∧ r.2.sem = fun _ => 0)

def quiescent_ReferenceDzIdeal [hReferenceDzIdeal : Cert.ReferenceDzIdeal.Facts] : Prop :=
  ∀ (m : (ℓ : Loc Cert.ReferenceDzIdeal.nD Cert.ReferenceDzIdeal.τ Cert.ReferenceDzIdeal.sig) → Buf (Elt Ideal) ℓ) (g : Dev Cert.ReferenceDzIdeal.nD → PrngReg), Pre_ReferenceDzIdeal m →
    θ_run (Cert.ReferenceDzIdeal.defs (F := Ideal)) (onTc (τ := Cert.ReferenceDzIdeal.τ) (Cert.ReferenceDzIdeal.main (F := Ideal))) ⟨m, fun _ => 0, g⟩ (fun r => (∀ c : Dev Cert.ReferenceDzIdeal.nD,
      r.2.mem ((c.tc : Thread Cert.ReferenceDzIdeal.nD Cert.ReferenceDzIdeal.τ).loc Cert.ReferenceDzIdeal.main_arg0) = m ((c.tc : Thread Cert.ReferenceDzIdeal.nD Cert.ReferenceDzIdeal.τ).loc Cert.ReferenceDzIdeal.main_arg0)
      ∧ r.2.mem ((c.tc : Thread Cert.ReferenceDzIdeal.nD Cert.ReferenceDzIdeal.τ).loc Cert.ReferenceDzIdeal.main_arg1) = m ((c.tc : Thread Cert.ReferenceDzIdeal.nD Cert.ReferenceDzIdeal.τ).loc Cert.ReferenceDzIdeal.main_arg1)
      ∧ r.2.mem ((c.tc : Thread Cert.ReferenceDzIdeal.nD Cert.ReferenceDzIdeal.τ).loc Cert.ReferenceDzIdeal.main_arg2) = m ((c.tc : Thread Cert.ReferenceDzIdeal.nD Cert.ReferenceDzIdeal.τ).loc Cert.ReferenceDzIdeal.main_arg2))
      ∧ r.2.sem = fun _ => 0)

def quiescent_KernelGwpool [hKernelGwpool : Cert.KernelGwpool.Facts] : Prop :=
  ∀ (m : (ℓ : Loc Cert.KernelGwpool.nD Cert.KernelGwpool.τ Cert.KernelGwpool.sig) → Buf (Elt Bits) ℓ) (g : Dev Cert.KernelGwpool.nD → PrngReg), Pre_KernelGwpool m →
    θ_run (Cert.KernelGwpool.defs (F := Bits)) (onTc (τ := Cert.KernelGwpool.τ) (Cert.KernelGwpool.main (F := Bits))) ⟨m, fun _ => 0, g⟩ (fun r => (∀ c : Dev Cert.KernelGwpool.nD,
      r.2.mem ((c.tc : Thread Cert.KernelGwpool.nD Cert.KernelGwpool.τ).loc Cert.KernelGwpool.main_arg0) = m ((c.tc : Thread Cert.KernelGwpool.nD Cert.KernelGwpool.τ).loc Cert.KernelGwpool.main_arg0)
      ∧ r.2.mem ((c.tc : Thread Cert.KernelGwpool.nD Cert.KernelGwpool.τ).loc Cert.KernelGwpool.main_arg1) = m ((c.tc : Thread Cert.KernelGwpool.nD Cert.KernelGwpool.τ).loc Cert.KernelGwpool.main_arg1)
      ∧ r.2.mem ((c.tc : Thread Cert.KernelGwpool.nD Cert.KernelGwpool.τ).loc Cert.KernelGwpool.main_arg2) = m ((c.tc : Thread Cert.KernelGwpool.nD Cert.KernelGwpool.τ).loc Cert.KernelGwpool.main_arg2))
      ∧ r.2.sem = fun _ => 0)

def quiescent_KernelGwpoolIdeal [hKernelGwpoolIdeal : Cert.KernelGwpoolIdeal.Facts] : Prop :=
  ∀ (m : (ℓ : Loc Cert.KernelGwpoolIdeal.nD Cert.KernelGwpoolIdeal.τ Cert.KernelGwpoolIdeal.sig) → Buf (Elt Ideal) ℓ) (g : Dev Cert.KernelGwpoolIdeal.nD → PrngReg), Pre_KernelGwpoolIdeal m →
    θ_run (Cert.KernelGwpoolIdeal.defs (F := Ideal)) (onTc (τ := Cert.KernelGwpoolIdeal.τ) (Cert.KernelGwpoolIdeal.main (F := Ideal))) ⟨m, fun _ => 0, g⟩ (fun r => (∀ c : Dev Cert.KernelGwpoolIdeal.nD,
      r.2.mem ((c.tc : Thread Cert.KernelGwpoolIdeal.nD Cert.KernelGwpoolIdeal.τ).loc Cert.KernelGwpoolIdeal.main_arg0) = m ((c.tc : Thread Cert.KernelGwpoolIdeal.nD Cert.KernelGwpoolIdeal.τ).loc Cert.KernelGwpoolIdeal.main_arg0)
      ∧ r.2.mem ((c.tc : Thread Cert.KernelGwpoolIdeal.nD Cert.KernelGwpoolIdeal.τ).loc Cert.KernelGwpoolIdeal.main_arg1) = m ((c.tc : Thread Cert.KernelGwpoolIdeal.nD Cert.KernelGwpoolIdeal.τ).loc Cert.KernelGwpoolIdeal.main_arg1)
      ∧ r.2.mem ((c.tc : Thread Cert.KernelGwpoolIdeal.nD Cert.KernelGwpoolIdeal.τ).loc Cert.KernelGwpoolIdeal.main_arg2) = m ((c.tc : Thread Cert.KernelGwpoolIdeal.nD Cert.KernelGwpoolIdeal.τ).loc Cert.KernelGwpoolIdeal.main_arg2))
      ∧ r.2.sem = fun _ => 0)

def quiescent_ReferenceGwpoolIdeal [hReferenceGwpoolIdeal : Cert.ReferenceGwpoolIdeal.Facts] : Prop :=
  ∀ (m : (ℓ : Loc Cert.ReferenceGwpoolIdeal.nD Cert.ReferenceGwpoolIdeal.τ Cert.ReferenceGwpoolIdeal.sig) → Buf (Elt Ideal) ℓ) (g : Dev Cert.ReferenceGwpoolIdeal.nD → PrngReg), Pre_ReferenceGwpoolIdeal m →
    θ_run (Cert.ReferenceGwpoolIdeal.defs (F := Ideal)) (onTc (τ := Cert.ReferenceGwpoolIdeal.τ) (Cert.ReferenceGwpoolIdeal.main (F := Ideal))) ⟨m, fun _ => 0, g⟩ (fun r => (∀ c : Dev Cert.ReferenceGwpoolIdeal.nD,
      r.2.mem ((c.tc : Thread Cert.ReferenceGwpoolIdeal.nD Cert.ReferenceGwpoolIdeal.τ).loc Cert.ReferenceGwpoolIdeal.main_arg0) = m ((c.tc : Thread Cert.ReferenceGwpoolIdeal.nD Cert.ReferenceGwpoolIdeal.τ).loc Cert.ReferenceGwpoolIdeal.main_arg0)
      ∧ r.2.mem ((c.tc : Thread Cert.ReferenceGwpoolIdeal.nD Cert.ReferenceGwpoolIdeal.τ).loc Cert.ReferenceGwpoolIdeal.main_arg1) = m ((c.tc : Thread Cert.ReferenceGwpoolIdeal.nD Cert.ReferenceGwpoolIdeal.τ).loc Cert.ReferenceGwpoolIdeal.main_arg1)
      ∧ r.2.mem ((c.tc : Thread Cert.ReferenceGwpoolIdeal.nD Cert.ReferenceGwpoolIdeal.τ).loc Cert.ReferenceGwpoolIdeal.main_arg2) = m ((c.tc : Thread Cert.ReferenceGwpoolIdeal.nD Cert.ReferenceGwpoolIdeal.τ).loc Cert.ReferenceGwpoolIdeal.main_arg2))
      ∧ r.2.sem = fun _ => 0)

def quiescent_KernelProj0 [hKernelProj0 : Cert.KernelProj0.Facts] : Prop :=
  ∀ (m : (ℓ : Loc Cert.KernelProj0.nD Cert.KernelProj0.τ Cert.KernelProj0.sig) → Buf (Elt Bits) ℓ) (g : Dev Cert.KernelProj0.nD → PrngReg), Pre_KernelProj0 m →
    θ_run (Cert.KernelProj0.defs (F := Bits)) (onTc (τ := Cert.KernelProj0.τ) (Cert.KernelProj0.main (F := Bits))) ⟨m, fun _ => 0, g⟩ (fun r => (∀ c : Dev Cert.KernelProj0.nD,
      r.2.mem ((c.tc : Thread Cert.KernelProj0.nD Cert.KernelProj0.τ).loc Cert.KernelProj0.main_arg0) = m ((c.tc : Thread Cert.KernelProj0.nD Cert.KernelProj0.τ).loc Cert.KernelProj0.main_arg0)
      ∧ r.2.mem ((c.tc : Thread Cert.KernelProj0.nD Cert.KernelProj0.τ).loc Cert.KernelProj0.main_arg1) = m ((c.tc : Thread Cert.KernelProj0.nD Cert.KernelProj0.τ).loc Cert.KernelProj0.main_arg1))
      ∧ r.2.sem = fun _ => 0)

def quiescent_KernelProj0Ideal [hKernelProj0Ideal : Cert.KernelProj0Ideal.Facts] : Prop :=
  ∀ (m : (ℓ : Loc Cert.KernelProj0Ideal.nD Cert.KernelProj0Ideal.τ Cert.KernelProj0Ideal.sig) → Buf (Elt Ideal) ℓ) (g : Dev Cert.KernelProj0Ideal.nD → PrngReg), Pre_KernelProj0Ideal m →
    θ_run (Cert.KernelProj0Ideal.defs (F := Ideal)) (onTc (τ := Cert.KernelProj0Ideal.τ) (Cert.KernelProj0Ideal.main (F := Ideal))) ⟨m, fun _ => 0, g⟩ (fun r => (∀ c : Dev Cert.KernelProj0Ideal.nD,
      r.2.mem ((c.tc : Thread Cert.KernelProj0Ideal.nD Cert.KernelProj0Ideal.τ).loc Cert.KernelProj0Ideal.main_arg0) = m ((c.tc : Thread Cert.KernelProj0Ideal.nD Cert.KernelProj0Ideal.τ).loc Cert.KernelProj0Ideal.main_arg0)
      ∧ r.2.mem ((c.tc : Thread Cert.KernelProj0Ideal.nD Cert.KernelProj0Ideal.τ).loc Cert.KernelProj0Ideal.main_arg1) = m ((c.tc : Thread Cert.KernelProj0Ideal.nD Cert.KernelProj0Ideal.τ).loc Cert.KernelProj0Ideal.main_arg1))
      ∧ r.2.sem = fun _ => 0)

def quiescent_ReferenceProj0Ideal [hReferenceProj0Ideal : Cert.ReferenceProj0Ideal.Facts] : Prop :=
  ∀ (m : (ℓ : Loc Cert.ReferenceProj0Ideal.nD Cert.ReferenceProj0Ideal.τ Cert.ReferenceProj0Ideal.sig) → Buf (Elt Ideal) ℓ) (g : Dev Cert.ReferenceProj0Ideal.nD → PrngReg), Pre_ReferenceProj0Ideal m →
    θ_run (Cert.ReferenceProj0Ideal.defs (F := Ideal)) (onTc (τ := Cert.ReferenceProj0Ideal.τ) (Cert.ReferenceProj0Ideal.main (F := Ideal))) ⟨m, fun _ => 0, g⟩ (fun r => (∀ c : Dev Cert.ReferenceProj0Ideal.nD,
      r.2.mem ((c.tc : Thread Cert.ReferenceProj0Ideal.nD Cert.ReferenceProj0Ideal.τ).loc Cert.ReferenceProj0Ideal.main_arg0) = m ((c.tc : Thread Cert.ReferenceProj0Ideal.nD Cert.ReferenceProj0Ideal.τ).loc Cert.ReferenceProj0Ideal.main_arg0)
      ∧ r.2.mem ((c.tc : Thread Cert.ReferenceProj0Ideal.nD Cert.ReferenceProj0Ideal.τ).loc Cert.ReferenceProj0Ideal.main_arg1) = m ((c.tc : Thread Cert.ReferenceProj0Ideal.nD Cert.ReferenceProj0Ideal.τ).loc Cert.ReferenceProj0Ideal.main_arg1))
      ∧ r.2.sem = fun _ => 0)

def quiescent_KernelProj1 [hKernelProj1 : Cert.KernelProj1.Facts] : Prop :=
  ∀ (m : (ℓ : Loc Cert.KernelProj1.nD Cert.KernelProj1.τ Cert.KernelProj1.sig) → Buf (Elt Bits) ℓ) (g : Dev Cert.KernelProj1.nD → PrngReg), Pre_KernelProj1 m →
    θ_run (Cert.KernelProj1.defs (F := Bits)) (onTc (τ := Cert.KernelProj1.τ) (Cert.KernelProj1.main (F := Bits))) ⟨m, fun _ => 0, g⟩ (fun r => (∀ c : Dev Cert.KernelProj1.nD,
      r.2.mem ((c.tc : Thread Cert.KernelProj1.nD Cert.KernelProj1.τ).loc Cert.KernelProj1.main_arg0) = m ((c.tc : Thread Cert.KernelProj1.nD Cert.KernelProj1.τ).loc Cert.KernelProj1.main_arg0)
      ∧ r.2.mem ((c.tc : Thread Cert.KernelProj1.nD Cert.KernelProj1.τ).loc Cert.KernelProj1.main_arg1) = m ((c.tc : Thread Cert.KernelProj1.nD Cert.KernelProj1.τ).loc Cert.KernelProj1.main_arg1)
      ∧ r.2.mem ((c.tc : Thread Cert.KernelProj1.nD Cert.KernelProj1.τ).loc Cert.KernelProj1.main_arg2) = m ((c.tc : Thread Cert.KernelProj1.nD Cert.KernelProj1.τ).loc Cert.KernelProj1.main_arg2))
      ∧ r.2.sem = fun _ => 0)

def quiescent_KernelProj1Ideal [hKernelProj1Ideal : Cert.KernelProj1Ideal.Facts] : Prop :=
  ∀ (m : (ℓ : Loc Cert.KernelProj1Ideal.nD Cert.KernelProj1Ideal.τ Cert.KernelProj1Ideal.sig) → Buf (Elt Ideal) ℓ) (g : Dev Cert.KernelProj1Ideal.nD → PrngReg), Pre_KernelProj1Ideal m →
    θ_run (Cert.KernelProj1Ideal.defs (F := Ideal)) (onTc (τ := Cert.KernelProj1Ideal.τ) (Cert.KernelProj1Ideal.main (F := Ideal))) ⟨m, fun _ => 0, g⟩ (fun r => (∀ c : Dev Cert.KernelProj1Ideal.nD,
      r.2.mem ((c.tc : Thread Cert.KernelProj1Ideal.nD Cert.KernelProj1Ideal.τ).loc Cert.KernelProj1Ideal.main_arg0) = m ((c.tc : Thread Cert.KernelProj1Ideal.nD Cert.KernelProj1Ideal.τ).loc Cert.KernelProj1Ideal.main_arg0)
      ∧ r.2.mem ((c.tc : Thread Cert.KernelProj1Ideal.nD Cert.KernelProj1Ideal.τ).loc Cert.KernelProj1Ideal.main_arg1) = m ((c.tc : Thread Cert.KernelProj1Ideal.nD Cert.KernelProj1Ideal.τ).loc Cert.KernelProj1Ideal.main_arg1)
      ∧ r.2.mem ((c.tc : Thread Cert.KernelProj1Ideal.nD Cert.KernelProj1Ideal.τ).loc Cert.KernelProj1Ideal.main_arg2) = m ((c.tc : Thread Cert.KernelProj1Ideal.nD Cert.KernelProj1Ideal.τ).loc Cert.KernelProj1Ideal.main_arg2))
      ∧ r.2.sem = fun _ => 0)

def quiescent_ReferenceProj1Ideal [hReferenceProj1Ideal : Cert.ReferenceProj1Ideal.Facts] : Prop :=
  ∀ (m : (ℓ : Loc Cert.ReferenceProj1Ideal.nD Cert.ReferenceProj1Ideal.τ Cert.ReferenceProj1Ideal.sig) → Buf (Elt Ideal) ℓ) (g : Dev Cert.ReferenceProj1Ideal.nD → PrngReg), Pre_ReferenceProj1Ideal m →
    θ_run (Cert.ReferenceProj1Ideal.defs (F := Ideal)) (onTc (τ := Cert.ReferenceProj1Ideal.τ) (Cert.ReferenceProj1Ideal.main (F := Ideal))) ⟨m, fun _ => 0, g⟩ (fun r => (∀ c : Dev Cert.ReferenceProj1Ideal.nD,
      r.2.mem ((c.tc : Thread Cert.ReferenceProj1Ideal.nD Cert.ReferenceProj1Ideal.τ).loc Cert.ReferenceProj1Ideal.main_arg0) = m ((c.tc : Thread Cert.ReferenceProj1Ideal.nD Cert.ReferenceProj1Ideal.τ).loc Cert.ReferenceProj1Ideal.main_arg0)
      ∧ r.2.mem ((c.tc : Thread Cert.ReferenceProj1Ideal.nD Cert.ReferenceProj1Ideal.τ).loc Cert.ReferenceProj1Ideal.main_arg1) = m ((c.tc : Thread Cert.ReferenceProj1Ideal.nD Cert.ReferenceProj1Ideal.τ).loc Cert.ReferenceProj1Ideal.main_arg1)
      ∧ r.2.mem ((c.tc : Thread Cert.ReferenceProj1Ideal.nD Cert.ReferenceProj1Ideal.τ).loc Cert.ReferenceProj1Ideal.main_arg2) = m ((c.tc : Thread Cert.ReferenceProj1Ideal.nD Cert.ReferenceProj1Ideal.τ).loc Cert.ReferenceProj1Ideal.main_arg2))
      ∧ r.2.sem = fun _ => 0)

def quiescent_KernelProj2 [hKernelProj2 : Cert.KernelProj2.Facts] : Prop :=
  ∀ (m : (ℓ : Loc Cert.KernelProj2.nD Cert.KernelProj2.τ Cert.KernelProj2.sig) → Buf (Elt Bits) ℓ) (g : Dev Cert.KernelProj2.nD → PrngReg), Pre_KernelProj2 m →
    θ_run (Cert.KernelProj2.defs (F := Bits)) (onTc (τ := Cert.KernelProj2.τ) (Cert.KernelProj2.main (F := Bits))) ⟨m, fun _ => 0, g⟩ (fun r => (∀ c : Dev Cert.KernelProj2.nD,
      r.2.mem ((c.tc : Thread Cert.KernelProj2.nD Cert.KernelProj2.τ).loc Cert.KernelProj2.main_arg0) = m ((c.tc : Thread Cert.KernelProj2.nD Cert.KernelProj2.τ).loc Cert.KernelProj2.main_arg0)
      ∧ r.2.mem ((c.tc : Thread Cert.KernelProj2.nD Cert.KernelProj2.τ).loc Cert.KernelProj2.main_arg1) = m ((c.tc : Thread Cert.KernelProj2.nD Cert.KernelProj2.τ).loc Cert.KernelProj2.main_arg1)
      ∧ r.2.mem ((c.tc : Thread Cert.KernelProj2.nD Cert.KernelProj2.τ).loc Cert.KernelProj2.main_arg2) = m ((c.tc : Thread Cert.KernelProj2.nD Cert.KernelProj2.τ).loc Cert.KernelProj2.main_arg2))
      ∧ r.2.sem = fun _ => 0)

def quiescent_KernelProj2Ideal [hKernelProj2Ideal : Cert.KernelProj2Ideal.Facts] : Prop :=
  ∀ (m : (ℓ : Loc Cert.KernelProj2Ideal.nD Cert.KernelProj2Ideal.τ Cert.KernelProj2Ideal.sig) → Buf (Elt Ideal) ℓ) (g : Dev Cert.KernelProj2Ideal.nD → PrngReg), Pre_KernelProj2Ideal m →
    θ_run (Cert.KernelProj2Ideal.defs (F := Ideal)) (onTc (τ := Cert.KernelProj2Ideal.τ) (Cert.KernelProj2Ideal.main (F := Ideal))) ⟨m, fun _ => 0, g⟩ (fun r => (∀ c : Dev Cert.KernelProj2Ideal.nD,
      r.2.mem ((c.tc : Thread Cert.KernelProj2Ideal.nD Cert.KernelProj2Ideal.τ).loc Cert.KernelProj2Ideal.main_arg0) = m ((c.tc : Thread Cert.KernelProj2Ideal.nD Cert.KernelProj2Ideal.τ).loc Cert.KernelProj2Ideal.main_arg0)
      ∧ r.2.mem ((c.tc : Thread Cert.KernelProj2Ideal.nD Cert.KernelProj2Ideal.τ).loc Cert.KernelProj2Ideal.main_arg1) = m ((c.tc : Thread Cert.KernelProj2Ideal.nD Cert.KernelProj2Ideal.τ).loc Cert.KernelProj2Ideal.main_arg1)
      ∧ r.2.mem ((c.tc : Thread Cert.KernelProj2Ideal.nD Cert.KernelProj2Ideal.τ).loc Cert.KernelProj2Ideal.main_arg2) = m ((c.tc : Thread Cert.KernelProj2Ideal.nD Cert.KernelProj2Ideal.τ).loc Cert.KernelProj2Ideal.main_arg2))
      ∧ r.2.sem = fun _ => 0)

def quiescent_ReferenceProj2Ideal [hReferenceProj2Ideal : Cert.ReferenceProj2Ideal.Facts] : Prop :=
  ∀ (m : (ℓ : Loc Cert.ReferenceProj2Ideal.nD Cert.ReferenceProj2Ideal.τ Cert.ReferenceProj2Ideal.sig) → Buf (Elt Ideal) ℓ) (g : Dev Cert.ReferenceProj2Ideal.nD → PrngReg), Pre_ReferenceProj2Ideal m →
    θ_run (Cert.ReferenceProj2Ideal.defs (F := Ideal)) (onTc (τ := Cert.ReferenceProj2Ideal.τ) (Cert.ReferenceProj2Ideal.main (F := Ideal))) ⟨m, fun _ => 0, g⟩ (fun r => (∀ c : Dev Cert.ReferenceProj2Ideal.nD,
      r.2.mem ((c.tc : Thread Cert.ReferenceProj2Ideal.nD Cert.ReferenceProj2Ideal.τ).loc Cert.ReferenceProj2Ideal.main_arg0) = m ((c.tc : Thread Cert.ReferenceProj2Ideal.nD Cert.ReferenceProj2Ideal.τ).loc Cert.ReferenceProj2Ideal.main_arg0)
      ∧ r.2.mem ((c.tc : Thread Cert.ReferenceProj2Ideal.nD Cert.ReferenceProj2Ideal.τ).loc Cert.ReferenceProj2Ideal.main_arg1) = m ((c.tc : Thread Cert.ReferenceProj2Ideal.nD Cert.ReferenceProj2Ideal.τ).loc Cert.ReferenceProj2Ideal.main_arg1)
      ∧ r.2.mem ((c.tc : Thread Cert.ReferenceProj2Ideal.nD Cert.ReferenceProj2Ideal.τ).loc Cert.ReferenceProj2Ideal.main_arg2) = m ((c.tc : Thread Cert.ReferenceProj2Ideal.nD Cert.ReferenceProj2Ideal.τ).loc Cert.ReferenceProj2Ideal.main_arg2))
      ∧ r.2.sem = fun _ => 0)

def quiescent_KernelProj3 [hKernelProj3 : Cert.KernelProj3.Facts] : Prop :=
  ∀ (m : (ℓ : Loc Cert.KernelProj3.nD Cert.KernelProj3.τ Cert.KernelProj3.sig) → Buf (Elt Bits) ℓ) (g : Dev Cert.KernelProj3.nD → PrngReg), Pre_KernelProj3 m →
    θ_run (Cert.KernelProj3.defs (F := Bits)) (onTc (τ := Cert.KernelProj3.τ) (Cert.KernelProj3.main (F := Bits))) ⟨m, fun _ => 0, g⟩ (fun r => (∀ c : Dev Cert.KernelProj3.nD,
      r.2.mem ((c.tc : Thread Cert.KernelProj3.nD Cert.KernelProj3.τ).loc Cert.KernelProj3.main_arg0) = m ((c.tc : Thread Cert.KernelProj3.nD Cert.KernelProj3.τ).loc Cert.KernelProj3.main_arg0)
      ∧ r.2.mem ((c.tc : Thread Cert.KernelProj3.nD Cert.KernelProj3.τ).loc Cert.KernelProj3.main_arg1) = m ((c.tc : Thread Cert.KernelProj3.nD Cert.KernelProj3.τ).loc Cert.KernelProj3.main_arg1)
      ∧ r.2.mem ((c.tc : Thread Cert.KernelProj3.nD Cert.KernelProj3.τ).loc Cert.KernelProj3.main_arg2) = m ((c.tc : Thread Cert.KernelProj3.nD Cert.KernelProj3.τ).loc Cert.KernelProj3.main_arg2))
      ∧ r.2.sem = fun _ => 0)

def quiescent_KernelProj3Ideal [hKernelProj3Ideal : Cert.KernelProj3Ideal.Facts] : Prop :=
  ∀ (m : (ℓ : Loc Cert.KernelProj3Ideal.nD Cert.KernelProj3Ideal.τ Cert.KernelProj3Ideal.sig) → Buf (Elt Ideal) ℓ) (g : Dev Cert.KernelProj3Ideal.nD → PrngReg), Pre_KernelProj3Ideal m →
    θ_run (Cert.KernelProj3Ideal.defs (F := Ideal)) (onTc (τ := Cert.KernelProj3Ideal.τ) (Cert.KernelProj3Ideal.main (F := Ideal))) ⟨m, fun _ => 0, g⟩ (fun r => (∀ c : Dev Cert.KernelProj3Ideal.nD,
      r.2.mem ((c.tc : Thread Cert.KernelProj3Ideal.nD Cert.KernelProj3Ideal.τ).loc Cert.KernelProj3Ideal.main_arg0) = m ((c.tc : Thread Cert.KernelProj3Ideal.nD Cert.KernelProj3Ideal.τ).loc Cert.KernelProj3Ideal.main_arg0)
      ∧ r.2.mem ((c.tc : Thread Cert.KernelProj3Ideal.nD Cert.KernelProj3Ideal.τ).loc Cert.KernelProj3Ideal.main_arg1) = m ((c.tc : Thread Cert.KernelProj3Ideal.nD Cert.KernelProj3Ideal.τ).loc Cert.KernelProj3Ideal.main_arg1)
      ∧ r.2.mem ((c.tc : Thread Cert.KernelProj3Ideal.nD Cert.KernelProj3Ideal.τ).loc Cert.KernelProj3Ideal.main_arg2) = m ((c.tc : Thread Cert.KernelProj3Ideal.nD Cert.KernelProj3Ideal.τ).loc Cert.KernelProj3Ideal.main_arg2))
      ∧ r.2.sem = fun _ => 0)

def quiescent_ReferenceProj3Ideal [hReferenceProj3Ideal : Cert.ReferenceProj3Ideal.Facts] : Prop :=
  ∀ (m : (ℓ : Loc Cert.ReferenceProj3Ideal.nD Cert.ReferenceProj3Ideal.τ Cert.ReferenceProj3Ideal.sig) → Buf (Elt Ideal) ℓ) (g : Dev Cert.ReferenceProj3Ideal.nD → PrngReg), Pre_ReferenceProj3Ideal m →
    θ_run (Cert.ReferenceProj3Ideal.defs (F := Ideal)) (onTc (τ := Cert.ReferenceProj3Ideal.τ) (Cert.ReferenceProj3Ideal.main (F := Ideal))) ⟨m, fun _ => 0, g⟩ (fun r => (∀ c : Dev Cert.ReferenceProj3Ideal.nD,
      r.2.mem ((c.tc : Thread Cert.ReferenceProj3Ideal.nD Cert.ReferenceProj3Ideal.τ).loc Cert.ReferenceProj3Ideal.main_arg0) = m ((c.tc : Thread Cert.ReferenceProj3Ideal.nD Cert.ReferenceProj3Ideal.τ).loc Cert.ReferenceProj3Ideal.main_arg0)
      ∧ r.2.mem ((c.tc : Thread Cert.ReferenceProj3Ideal.nD Cert.ReferenceProj3Ideal.τ).loc Cert.ReferenceProj3Ideal.main_arg1) = m ((c.tc : Thread Cert.ReferenceProj3Ideal.nD Cert.ReferenceProj3Ideal.τ).loc Cert.ReferenceProj3Ideal.main_arg1)
      ∧ r.2.mem ((c.tc : Thread Cert.ReferenceProj3Ideal.nD Cert.ReferenceProj3Ideal.τ).loc Cert.ReferenceProj3Ideal.main_arg2) = m ((c.tc : Thread Cert.ReferenceProj3Ideal.nD Cert.ReferenceProj3Ideal.τ).loc Cert.ReferenceProj3Ideal.main_arg2))
      ∧ r.2.sem = fun _ => 0)

def quiescent_KernelPool [hKernelPool : Cert.KernelPool.Facts] : Prop :=
  ∀ (m : (ℓ : Loc Cert.KernelPool.nD Cert.KernelPool.τ Cert.KernelPool.sig) → Buf (Elt Bits) ℓ) (g : Dev Cert.KernelPool.nD → PrngReg), Pre_KernelPool m →
    θ_run (Cert.KernelPool.defs (F := Bits)) (onTc (τ := Cert.KernelPool.τ) (Cert.KernelPool.main (F := Bits))) ⟨m, fun _ => 0, g⟩ (fun r => (∀ c : Dev Cert.KernelPool.nD,
      r.2.mem ((c.tc : Thread Cert.KernelPool.nD Cert.KernelPool.τ).loc Cert.KernelPool.main_arg0) = m ((c.tc : Thread Cert.KernelPool.nD Cert.KernelPool.τ).loc Cert.KernelPool.main_arg0)
      ∧ r.2.mem ((c.tc : Thread Cert.KernelPool.nD Cert.KernelPool.τ).loc Cert.KernelPool.main_arg1) = m ((c.tc : Thread Cert.KernelPool.nD Cert.KernelPool.τ).loc Cert.KernelPool.main_arg1))
      ∧ r.2.sem = fun _ => 0)

def quiescent_KernelPoolIdeal [hKernelPoolIdeal : Cert.KernelPoolIdeal.Facts] : Prop :=
  ∀ (m : (ℓ : Loc Cert.KernelPoolIdeal.nD Cert.KernelPoolIdeal.τ Cert.KernelPoolIdeal.sig) → Buf (Elt Ideal) ℓ) (g : Dev Cert.KernelPoolIdeal.nD → PrngReg), Pre_KernelPoolIdeal m →
    θ_run (Cert.KernelPoolIdeal.defs (F := Ideal)) (onTc (τ := Cert.KernelPoolIdeal.τ) (Cert.KernelPoolIdeal.main (F := Ideal))) ⟨m, fun _ => 0, g⟩ (fun r => (∀ c : Dev Cert.KernelPoolIdeal.nD,
      r.2.mem ((c.tc : Thread Cert.KernelPoolIdeal.nD Cert.KernelPoolIdeal.τ).loc Cert.KernelPoolIdeal.main_arg0) = m ((c.tc : Thread Cert.KernelPoolIdeal.nD Cert.KernelPoolIdeal.τ).loc Cert.KernelPoolIdeal.main_arg0)
      ∧ r.2.mem ((c.tc : Thread Cert.KernelPoolIdeal.nD Cert.KernelPoolIdeal.τ).loc Cert.KernelPoolIdeal.main_arg1) = m ((c.tc : Thread Cert.KernelPoolIdeal.nD Cert.KernelPoolIdeal.τ).loc Cert.KernelPoolIdeal.main_arg1))
      ∧ r.2.sem = fun _ => 0)

def quiescent_ReferencePoolIdeal [hReferencePoolIdeal : Cert.ReferencePoolIdeal.Facts] : Prop :=
  ∀ (m : (ℓ : Loc Cert.ReferencePoolIdeal.nD Cert.ReferencePoolIdeal.τ Cert.ReferencePoolIdeal.sig) → Buf (Elt Ideal) ℓ) (g : Dev Cert.ReferencePoolIdeal.nD → PrngReg), Pre_ReferencePoolIdeal m →
    θ_run (Cert.ReferencePoolIdeal.defs (F := Ideal)) (onTc (τ := Cert.ReferencePoolIdeal.τ) (Cert.ReferencePoolIdeal.main (F := Ideal))) ⟨m, fun _ => 0, g⟩ (fun r => (∀ c : Dev Cert.ReferencePoolIdeal.nD,
      r.2.mem ((c.tc : Thread Cert.ReferencePoolIdeal.nD Cert.ReferencePoolIdeal.τ).loc Cert.ReferencePoolIdeal.main_arg0) = m ((c.tc : Thread Cert.ReferencePoolIdeal.nD Cert.ReferencePoolIdeal.τ).loc Cert.ReferencePoolIdeal.main_arg0)
      ∧ r.2.mem ((c.tc : Thread Cert.ReferencePoolIdeal.nD Cert.ReferencePoolIdeal.τ).loc Cert.ReferencePoolIdeal.main_arg1) = m ((c.tc : Thread Cert.ReferencePoolIdeal.nD Cert.ReferencePoolIdeal.τ).loc Cert.ReferencePoolIdeal.main_arg1))
      ∧ r.2.sem = fun _ => 0)

def quiescent_KernelCoef [hKernelCoef : Cert.KernelCoef.Facts] : Prop :=
  ∀ (m : (ℓ : Loc Cert.KernelCoef.nD Cert.KernelCoef.τ Cert.KernelCoef.sig) → Buf (Elt Bits) ℓ) (g : Dev Cert.KernelCoef.nD → PrngReg), Pre_KernelCoef m →
    θ_run (Cert.KernelCoef.defs (F := Bits)) (onTc (τ := Cert.KernelCoef.τ) (Cert.KernelCoef.main (F := Bits))) ⟨m, fun _ => 0, g⟩ (fun r => (∀ c : Dev Cert.KernelCoef.nD,
      r.2.mem ((c.tc : Thread Cert.KernelCoef.nD Cert.KernelCoef.τ).loc Cert.KernelCoef.main_arg0) = m ((c.tc : Thread Cert.KernelCoef.nD Cert.KernelCoef.τ).loc Cert.KernelCoef.main_arg0)
      ∧ r.2.mem ((c.tc : Thread Cert.KernelCoef.nD Cert.KernelCoef.τ).loc Cert.KernelCoef.main_arg1) = m ((c.tc : Thread Cert.KernelCoef.nD Cert.KernelCoef.τ).loc Cert.KernelCoef.main_arg1)
      ∧ r.2.mem ((c.tc : Thread Cert.KernelCoef.nD Cert.KernelCoef.τ).loc Cert.KernelCoef.main_arg2) = m ((c.tc : Thread Cert.KernelCoef.nD Cert.KernelCoef.τ).loc Cert.KernelCoef.main_arg2)
      ∧ r.2.mem ((c.tc : Thread Cert.KernelCoef.nD Cert.KernelCoef.τ).loc Cert.KernelCoef.main_arg3) = m ((c.tc : Thread Cert.KernelCoef.nD Cert.KernelCoef.τ).loc Cert.KernelCoef.main_arg3)
      ∧ r.2.mem ((c.tc : Thread Cert.KernelCoef.nD Cert.KernelCoef.τ).loc Cert.KernelCoef.main_arg4) = m ((c.tc : Thread Cert.KernelCoef.nD Cert.KernelCoef.τ).loc Cert.KernelCoef.main_arg4)
      ∧ r.2.mem ((c.tc : Thread Cert.KernelCoef.nD Cert.KernelCoef.τ).loc Cert.KernelCoef.main_arg5) = m ((c.tc : Thread Cert.KernelCoef.nD Cert.KernelCoef.τ).loc Cert.KernelCoef.main_arg5))
      ∧ r.2.sem = fun _ => 0)

def quiescent_KernelCoefIdeal [hKernelCoefIdeal : Cert.KernelCoefIdeal.Facts] : Prop :=
  ∀ (m : (ℓ : Loc Cert.KernelCoefIdeal.nD Cert.KernelCoefIdeal.τ Cert.KernelCoefIdeal.sig) → Buf (Elt Ideal) ℓ) (g : Dev Cert.KernelCoefIdeal.nD → PrngReg), Pre_KernelCoefIdeal m →
    θ_run (Cert.KernelCoefIdeal.defs (F := Ideal)) (onTc (τ := Cert.KernelCoefIdeal.τ) (Cert.KernelCoefIdeal.main (F := Ideal))) ⟨m, fun _ => 0, g⟩ (fun r => (∀ c : Dev Cert.KernelCoefIdeal.nD,
      r.2.mem ((c.tc : Thread Cert.KernelCoefIdeal.nD Cert.KernelCoefIdeal.τ).loc Cert.KernelCoefIdeal.main_arg0) = m ((c.tc : Thread Cert.KernelCoefIdeal.nD Cert.KernelCoefIdeal.τ).loc Cert.KernelCoefIdeal.main_arg0)
      ∧ r.2.mem ((c.tc : Thread Cert.KernelCoefIdeal.nD Cert.KernelCoefIdeal.τ).loc Cert.KernelCoefIdeal.main_arg1) = m ((c.tc : Thread Cert.KernelCoefIdeal.nD Cert.KernelCoefIdeal.τ).loc Cert.KernelCoefIdeal.main_arg1)
      ∧ r.2.mem ((c.tc : Thread Cert.KernelCoefIdeal.nD Cert.KernelCoefIdeal.τ).loc Cert.KernelCoefIdeal.main_arg2) = m ((c.tc : Thread Cert.KernelCoefIdeal.nD Cert.KernelCoefIdeal.τ).loc Cert.KernelCoefIdeal.main_arg2)
      ∧ r.2.mem ((c.tc : Thread Cert.KernelCoefIdeal.nD Cert.KernelCoefIdeal.τ).loc Cert.KernelCoefIdeal.main_arg3) = m ((c.tc : Thread Cert.KernelCoefIdeal.nD Cert.KernelCoefIdeal.τ).loc Cert.KernelCoefIdeal.main_arg3)
      ∧ r.2.mem ((c.tc : Thread Cert.KernelCoefIdeal.nD Cert.KernelCoefIdeal.τ).loc Cert.KernelCoefIdeal.main_arg4) = m ((c.tc : Thread Cert.KernelCoefIdeal.nD Cert.KernelCoefIdeal.τ).loc Cert.KernelCoefIdeal.main_arg4)
      ∧ r.2.mem ((c.tc : Thread Cert.KernelCoefIdeal.nD Cert.KernelCoefIdeal.τ).loc Cert.KernelCoefIdeal.main_arg5) = m ((c.tc : Thread Cert.KernelCoefIdeal.nD Cert.KernelCoefIdeal.τ).loc Cert.KernelCoefIdeal.main_arg5))
      ∧ r.2.sem = fun _ => 0)

def quiescent_ReferenceCoefIdeal [hReferenceCoefIdeal : Cert.ReferenceCoefIdeal.Facts] : Prop :=
  ∀ (m : (ℓ : Loc Cert.ReferenceCoefIdeal.nD Cert.ReferenceCoefIdeal.τ Cert.ReferenceCoefIdeal.sig) → Buf (Elt Ideal) ℓ) (g : Dev Cert.ReferenceCoefIdeal.nD → PrngReg), Pre_ReferenceCoefIdeal m →
    θ_run (Cert.ReferenceCoefIdeal.defs (F := Ideal)) (onTc (τ := Cert.ReferenceCoefIdeal.τ) (Cert.ReferenceCoefIdeal.main (F := Ideal))) ⟨m, fun _ => 0, g⟩ (fun r => (∀ c : Dev Cert.ReferenceCoefIdeal.nD,
      r.2.mem ((c.tc : Thread Cert.ReferenceCoefIdeal.nD Cert.ReferenceCoefIdeal.τ).loc Cert.ReferenceCoefIdeal.main_arg0) = m ((c.tc : Thread Cert.ReferenceCoefIdeal.nD Cert.ReferenceCoefIdeal.τ).loc Cert.ReferenceCoefIdeal.main_arg0)
      ∧ r.2.mem ((c.tc : Thread Cert.ReferenceCoefIdeal.nD Cert.ReferenceCoefIdeal.τ).loc Cert.ReferenceCoefIdeal.main_arg1) = m ((c.tc : Thread Cert.ReferenceCoefIdeal.nD Cert.ReferenceCoefIdeal.τ).loc Cert.ReferenceCoefIdeal.main_arg1)
      ∧ r.2.mem ((c.tc : Thread Cert.ReferenceCoefIdeal.nD Cert.ReferenceCoefIdeal.τ).loc Cert.ReferenceCoefIdeal.main_arg2) = m ((c.tc : Thread Cert.ReferenceCoefIdeal.nD Cert.ReferenceCoefIdeal.τ).loc Cert.ReferenceCoefIdeal.main_arg2)
      ∧ r.2.mem ((c.tc : Thread Cert.ReferenceCoefIdeal.nD Cert.ReferenceCoefIdeal.τ).loc Cert.ReferenceCoefIdeal.main_arg3) = m ((c.tc : Thread Cert.ReferenceCoefIdeal.nD Cert.ReferenceCoefIdeal.τ).loc Cert.ReferenceCoefIdeal.main_arg3)
      ∧ r.2.mem ((c.tc : Thread Cert.ReferenceCoefIdeal.nD Cert.ReferenceCoefIdeal.τ).loc Cert.ReferenceCoefIdeal.main_arg4) = m ((c.tc : Thread Cert.ReferenceCoefIdeal.nD Cert.ReferenceCoefIdeal.τ).loc Cert.ReferenceCoefIdeal.main_arg4)
      ∧ r.2.mem ((c.tc : Thread Cert.ReferenceCoefIdeal.nD Cert.ReferenceCoefIdeal.τ).loc Cert.ReferenceCoefIdeal.main_arg5) = m ((c.tc : Thread Cert.ReferenceCoefIdeal.nD Cert.ReferenceCoefIdeal.τ).loc Cert.ReferenceCoefIdeal.main_arg5))
      ∧ r.2.sem = fun _ => 0)

def quiescent_KernelMixa [hKernelMixa : Cert.KernelMixa.Facts] : Prop :=
  ∀ (m : (ℓ : Loc Cert.KernelMixa.nD Cert.KernelMixa.τ Cert.KernelMixa.sig) → Buf (Elt Bits) ℓ) (g : Dev Cert.KernelMixa.nD → PrngReg), Pre_KernelMixa m →
    θ_run (Cert.KernelMixa.defs (F := Bits)) (onTc (τ := Cert.KernelMixa.τ) (Cert.KernelMixa.main (F := Bits))) ⟨m, fun _ => 0, g⟩ (fun r => (∀ c : Dev Cert.KernelMixa.nD,
      r.2.mem ((c.tc : Thread Cert.KernelMixa.nD Cert.KernelMixa.τ).loc Cert.KernelMixa.main_arg0) = m ((c.tc : Thread Cert.KernelMixa.nD Cert.KernelMixa.τ).loc Cert.KernelMixa.main_arg0)
      ∧ r.2.mem ((c.tc : Thread Cert.KernelMixa.nD Cert.KernelMixa.τ).loc Cert.KernelMixa.main_arg1) = m ((c.tc : Thread Cert.KernelMixa.nD Cert.KernelMixa.τ).loc Cert.KernelMixa.main_arg1)
      ∧ r.2.mem ((c.tc : Thread Cert.KernelMixa.nD Cert.KernelMixa.τ).loc Cert.KernelMixa.main_arg2) = m ((c.tc : Thread Cert.KernelMixa.nD Cert.KernelMixa.τ).loc Cert.KernelMixa.main_arg2)
      ∧ r.2.mem ((c.tc : Thread Cert.KernelMixa.nD Cert.KernelMixa.τ).loc Cert.KernelMixa.main_arg3) = m ((c.tc : Thread Cert.KernelMixa.nD Cert.KernelMixa.τ).loc Cert.KernelMixa.main_arg3))
      ∧ r.2.sem = fun _ => 0)

def quiescent_KernelMixaIdeal [hKernelMixaIdeal : Cert.KernelMixaIdeal.Facts] : Prop :=
  ∀ (m : (ℓ : Loc Cert.KernelMixaIdeal.nD Cert.KernelMixaIdeal.τ Cert.KernelMixaIdeal.sig) → Buf (Elt Ideal) ℓ) (g : Dev Cert.KernelMixaIdeal.nD → PrngReg), Pre_KernelMixaIdeal m →
    θ_run (Cert.KernelMixaIdeal.defs (F := Ideal)) (onTc (τ := Cert.KernelMixaIdeal.τ) (Cert.KernelMixaIdeal.main (F := Ideal))) ⟨m, fun _ => 0, g⟩ (fun r => (∀ c : Dev Cert.KernelMixaIdeal.nD,
      r.2.mem ((c.tc : Thread Cert.KernelMixaIdeal.nD Cert.KernelMixaIdeal.τ).loc Cert.KernelMixaIdeal.main_arg0) = m ((c.tc : Thread Cert.KernelMixaIdeal.nD Cert.KernelMixaIdeal.τ).loc Cert.KernelMixaIdeal.main_arg0)
      ∧ r.2.mem ((c.tc : Thread Cert.KernelMixaIdeal.nD Cert.KernelMixaIdeal.τ).loc Cert.KernelMixaIdeal.main_arg1) = m ((c.tc : Thread Cert.KernelMixaIdeal.nD Cert.KernelMixaIdeal.τ).loc Cert.KernelMixaIdeal.main_arg1)
      ∧ r.2.mem ((c.tc : Thread Cert.KernelMixaIdeal.nD Cert.KernelMixaIdeal.τ).loc Cert.KernelMixaIdeal.main_arg2) = m ((c.tc : Thread Cert.KernelMixaIdeal.nD Cert.KernelMixaIdeal.τ).loc Cert.KernelMixaIdeal.main_arg2)
      ∧ r.2.mem ((c.tc : Thread Cert.KernelMixaIdeal.nD Cert.KernelMixaIdeal.τ).loc Cert.KernelMixaIdeal.main_arg3) = m ((c.tc : Thread Cert.KernelMixaIdeal.nD Cert.KernelMixaIdeal.τ).loc Cert.KernelMixaIdeal.main_arg3))
      ∧ r.2.sem = fun _ => 0)

def quiescent_KernelMixaIdeal_pre_states_finite [hKernelMixaIdeal : Cert.KernelMixaIdeal.Facts] [hPre_states_finite : Cert.Pre_states_finite.Facts] : Prop :=
  ∀ (m : (ℓ : Loc Cert.KernelMixaIdeal.nD Cert.KernelMixaIdeal.τ Cert.KernelMixaIdeal.sig) → Buf (Elt Ideal) ℓ) (g : Dev Cert.KernelMixaIdeal.nD → PrngReg), Pre_KernelMixaIdeal_states_finite m →
    θ_run (Cert.KernelMixaIdeal.defs (F := Ideal)) (onTc (τ := Cert.KernelMixaIdeal.τ) (Cert.KernelMixaIdeal.main (F := Ideal))) ⟨m, fun _ => 0, g⟩ (fun r => (∀ c : Dev Cert.KernelMixaIdeal.nD,
      r.2.mem ((c.tc : Thread Cert.KernelMixaIdeal.nD Cert.KernelMixaIdeal.τ).loc Cert.KernelMixaIdeal.main_arg0) = m ((c.tc : Thread Cert.KernelMixaIdeal.nD Cert.KernelMixaIdeal.τ).loc Cert.KernelMixaIdeal.main_arg0)
      ∧ r.2.mem ((c.tc : Thread Cert.KernelMixaIdeal.nD Cert.KernelMixaIdeal.τ).loc Cert.KernelMixaIdeal.main_arg1) = m ((c.tc : Thread Cert.KernelMixaIdeal.nD Cert.KernelMixaIdeal.τ).loc Cert.KernelMixaIdeal.main_arg1)
      ∧ r.2.mem ((c.tc : Thread Cert.KernelMixaIdeal.nD Cert.KernelMixaIdeal.τ).loc Cert.KernelMixaIdeal.main_arg2) = m ((c.tc : Thread Cert.KernelMixaIdeal.nD Cert.KernelMixaIdeal.τ).loc Cert.KernelMixaIdeal.main_arg2)
      ∧ r.2.mem ((c.tc : Thread Cert.KernelMixaIdeal.nD Cert.KernelMixaIdeal.τ).loc Cert.KernelMixaIdeal.main_arg3) = m ((c.tc : Thread Cert.KernelMixaIdeal.nD Cert.KernelMixaIdeal.τ).loc Cert.KernelMixaIdeal.main_arg3))
      ∧ r.2.sem = fun _ => 0)

def quiescent_ReferenceMixaIdeal [hReferenceMixaIdeal : Cert.ReferenceMixaIdeal.Facts] : Prop :=
  ∀ (m : (ℓ : Loc Cert.ReferenceMixaIdeal.nD Cert.ReferenceMixaIdeal.τ Cert.ReferenceMixaIdeal.sig) → Buf (Elt Ideal) ℓ) (g : Dev Cert.ReferenceMixaIdeal.nD → PrngReg), Pre_ReferenceMixaIdeal m →
    θ_run (Cert.ReferenceMixaIdeal.defs (F := Ideal)) (onTc (τ := Cert.ReferenceMixaIdeal.τ) (Cert.ReferenceMixaIdeal.main (F := Ideal))) ⟨m, fun _ => 0, g⟩ (fun r => (∀ c : Dev Cert.ReferenceMixaIdeal.nD,
      r.2.mem ((c.tc : Thread Cert.ReferenceMixaIdeal.nD Cert.ReferenceMixaIdeal.τ).loc Cert.ReferenceMixaIdeal.main_arg0) = m ((c.tc : Thread Cert.ReferenceMixaIdeal.nD Cert.ReferenceMixaIdeal.τ).loc Cert.ReferenceMixaIdeal.main_arg0)
      ∧ r.2.mem ((c.tc : Thread Cert.ReferenceMixaIdeal.nD Cert.ReferenceMixaIdeal.τ).loc Cert.ReferenceMixaIdeal.main_arg1) = m ((c.tc : Thread Cert.ReferenceMixaIdeal.nD Cert.ReferenceMixaIdeal.τ).loc Cert.ReferenceMixaIdeal.main_arg1)
      ∧ r.2.mem ((c.tc : Thread Cert.ReferenceMixaIdeal.nD Cert.ReferenceMixaIdeal.τ).loc Cert.ReferenceMixaIdeal.main_arg2) = m ((c.tc : Thread Cert.ReferenceMixaIdeal.nD Cert.ReferenceMixaIdeal.τ).loc Cert.ReferenceMixaIdeal.main_arg2)
      ∧ r.2.mem ((c.tc : Thread Cert.ReferenceMixaIdeal.nD Cert.ReferenceMixaIdeal.τ).loc Cert.ReferenceMixaIdeal.main_arg3) = m ((c.tc : Thread Cert.ReferenceMixaIdeal.nD Cert.ReferenceMixaIdeal.τ).loc Cert.ReferenceMixaIdeal.main_arg3))
      ∧ r.2.sem = fun _ => 0)

def quiescent_ReferenceMixaIdeal_pre_states_finite [hReferenceMixaIdeal : Cert.ReferenceMixaIdeal.Facts] [hPre_states_finite : Cert.Pre_states_finite.Facts] : Prop :=
  ∀ (m : (ℓ : Loc Cert.ReferenceMixaIdeal.nD Cert.ReferenceMixaIdeal.τ Cert.ReferenceMixaIdeal.sig) → Buf (Elt Ideal) ℓ) (g : Dev Cert.ReferenceMixaIdeal.nD → PrngReg), Pre_ReferenceMixaIdeal_states_finite m →
    θ_run (Cert.ReferenceMixaIdeal.defs (F := Ideal)) (onTc (τ := Cert.ReferenceMixaIdeal.τ) (Cert.ReferenceMixaIdeal.main (F := Ideal))) ⟨m, fun _ => 0, g⟩ (fun r => (∀ c : Dev Cert.ReferenceMixaIdeal.nD,
      r.2.mem ((c.tc : Thread Cert.ReferenceMixaIdeal.nD Cert.ReferenceMixaIdeal.τ).loc Cert.ReferenceMixaIdeal.main_arg0) = m ((c.tc : Thread Cert.ReferenceMixaIdeal.nD Cert.ReferenceMixaIdeal.τ).loc Cert.ReferenceMixaIdeal.main_arg0)
      ∧ r.2.mem ((c.tc : Thread Cert.ReferenceMixaIdeal.nD Cert.ReferenceMixaIdeal.τ).loc Cert.ReferenceMixaIdeal.main_arg1) = m ((c.tc : Thread Cert.ReferenceMixaIdeal.nD Cert.ReferenceMixaIdeal.τ).loc Cert.ReferenceMixaIdeal.main_arg1)
      ∧ r.2.mem ((c.tc : Thread Cert.ReferenceMixaIdeal.nD Cert.ReferenceMixaIdeal.τ).loc Cert.ReferenceMixaIdeal.main_arg2) = m ((c.tc : Thread Cert.ReferenceMixaIdeal.nD Cert.ReferenceMixaIdeal.τ).loc Cert.ReferenceMixaIdeal.main_arg2)
      ∧ r.2.mem ((c.tc : Thread Cert.ReferenceMixaIdeal.nD Cert.ReferenceMixaIdeal.τ).loc Cert.ReferenceMixaIdeal.main_arg3) = m ((c.tc : Thread Cert.ReferenceMixaIdeal.nD Cert.ReferenceMixaIdeal.τ).loc Cert.ReferenceMixaIdeal.main_arg3))
      ∧ r.2.sem = fun _ => 0)

def quiescent_KernelMixb [hKernelMixb : Cert.KernelMixb.Facts] : Prop :=
  ∀ (m : (ℓ : Loc Cert.KernelMixb.nD Cert.KernelMixb.τ Cert.KernelMixb.sig) → Buf (Elt Bits) ℓ) (g : Dev Cert.KernelMixb.nD → PrngReg), Pre_KernelMixb m →
    θ_run (Cert.KernelMixb.defs (F := Bits)) (onTc (τ := Cert.KernelMixb.τ) (Cert.KernelMixb.main (F := Bits))) ⟨m, fun _ => 0, g⟩ (fun r => (∀ c : Dev Cert.KernelMixb.nD,
      r.2.mem ((c.tc : Thread Cert.KernelMixb.nD Cert.KernelMixb.τ).loc Cert.KernelMixb.main_arg0) = m ((c.tc : Thread Cert.KernelMixb.nD Cert.KernelMixb.τ).loc Cert.KernelMixb.main_arg0)
      ∧ r.2.mem ((c.tc : Thread Cert.KernelMixb.nD Cert.KernelMixb.τ).loc Cert.KernelMixb.main_arg1) = m ((c.tc : Thread Cert.KernelMixb.nD Cert.KernelMixb.τ).loc Cert.KernelMixb.main_arg1)
      ∧ r.2.mem ((c.tc : Thread Cert.KernelMixb.nD Cert.KernelMixb.τ).loc Cert.KernelMixb.main_arg2) = m ((c.tc : Thread Cert.KernelMixb.nD Cert.KernelMixb.τ).loc Cert.KernelMixb.main_arg2)
      ∧ r.2.mem ((c.tc : Thread Cert.KernelMixb.nD Cert.KernelMixb.τ).loc Cert.KernelMixb.main_arg3) = m ((c.tc : Thread Cert.KernelMixb.nD Cert.KernelMixb.τ).loc Cert.KernelMixb.main_arg3)
      ∧ r.2.mem ((c.tc : Thread Cert.KernelMixb.nD Cert.KernelMixb.τ).loc Cert.KernelMixb.main_arg4) = m ((c.tc : Thread Cert.KernelMixb.nD Cert.KernelMixb.τ).loc Cert.KernelMixb.main_arg4)
      ∧ r.2.mem ((c.tc : Thread Cert.KernelMixb.nD Cert.KernelMixb.τ).loc Cert.KernelMixb.main_arg5) = m ((c.tc : Thread Cert.KernelMixb.nD Cert.KernelMixb.τ).loc Cert.KernelMixb.main_arg5))
      ∧ r.2.sem = fun _ => 0)

def quiescent_KernelMixbIdeal [hKernelMixbIdeal : Cert.KernelMixbIdeal.Facts] : Prop :=
  ∀ (m : (ℓ : Loc Cert.KernelMixbIdeal.nD Cert.KernelMixbIdeal.τ Cert.KernelMixbIdeal.sig) → Buf (Elt Ideal) ℓ) (g : Dev Cert.KernelMixbIdeal.nD → PrngReg), Pre_KernelMixbIdeal m →
    θ_run (Cert.KernelMixbIdeal.defs (F := Ideal)) (onTc (τ := Cert.KernelMixbIdeal.τ) (Cert.KernelMixbIdeal.main (F := Ideal))) ⟨m, fun _ => 0, g⟩ (fun r => (∀ c : Dev Cert.KernelMixbIdeal.nD,
      r.2.mem ((c.tc : Thread Cert.KernelMixbIdeal.nD Cert.KernelMixbIdeal.τ).loc Cert.KernelMixbIdeal.main_arg0) = m ((c.tc : Thread Cert.KernelMixbIdeal.nD Cert.KernelMixbIdeal.τ).loc Cert.KernelMixbIdeal.main_arg0)
      ∧ r.2.mem ((c.tc : Thread Cert.KernelMixbIdeal.nD Cert.KernelMixbIdeal.τ).loc Cert.KernelMixbIdeal.main_arg1) = m ((c.tc : Thread Cert.KernelMixbIdeal.nD Cert.KernelMixbIdeal.τ).loc Cert.KernelMixbIdeal.main_arg1)
      ∧ r.2.mem ((c.tc : Thread Cert.KernelMixbIdeal.nD Cert.KernelMixbIdeal.τ).loc Cert.KernelMixbIdeal.main_arg2) = m ((c.tc : Thread Cert.KernelMixbIdeal.nD Cert.KernelMixbIdeal.τ).loc Cert.KernelMixbIdeal.main_arg2)
      ∧ r.2.mem ((c.tc : Thread Cert.KernelMixbIdeal.nD Cert.KernelMixbIdeal.τ).loc Cert.KernelMixbIdeal.main_arg3) = m ((c.tc : Thread Cert.KernelMixbIdeal.nD Cert.KernelMixbIdeal.τ).loc Cert.KernelMixbIdeal.main_arg3)
      ∧ r.2.mem ((c.tc : Thread Cert.KernelMixbIdeal.nD Cert.KernelMixbIdeal.τ).loc Cert.KernelMixbIdeal.main_arg4) = m ((c.tc : Thread Cert.KernelMixbIdeal.nD Cert.KernelMixbIdeal.τ).loc Cert.KernelMixbIdeal.main_arg4)
      ∧ r.2.mem ((c.tc : Thread Cert.KernelMixbIdeal.nD Cert.KernelMixbIdeal.τ).loc Cert.KernelMixbIdeal.main_arg5) = m ((c.tc : Thread Cert.KernelMixbIdeal.nD Cert.KernelMixbIdeal.τ).loc Cert.KernelMixbIdeal.main_arg5))
      ∧ r.2.sem = fun _ => 0)

def quiescent_KernelMixbIdeal_pre_pool_finite [hKernelMixbIdeal : Cert.KernelMixbIdeal.Facts] [hPre_pool_finite : Cert.Pre_pool_finite.Facts] : Prop :=
  ∀ (m : (ℓ : Loc Cert.KernelMixbIdeal.nD Cert.KernelMixbIdeal.τ Cert.KernelMixbIdeal.sig) → Buf (Elt Ideal) ℓ) (g : Dev Cert.KernelMixbIdeal.nD → PrngReg), Pre_KernelMixbIdeal_pool_finite m →
    θ_run (Cert.KernelMixbIdeal.defs (F := Ideal)) (onTc (τ := Cert.KernelMixbIdeal.τ) (Cert.KernelMixbIdeal.main (F := Ideal))) ⟨m, fun _ => 0, g⟩ (fun r => (∀ c : Dev Cert.KernelMixbIdeal.nD,
      r.2.mem ((c.tc : Thread Cert.KernelMixbIdeal.nD Cert.KernelMixbIdeal.τ).loc Cert.KernelMixbIdeal.main_arg0) = m ((c.tc : Thread Cert.KernelMixbIdeal.nD Cert.KernelMixbIdeal.τ).loc Cert.KernelMixbIdeal.main_arg0)
      ∧ r.2.mem ((c.tc : Thread Cert.KernelMixbIdeal.nD Cert.KernelMixbIdeal.τ).loc Cert.KernelMixbIdeal.main_arg1) = m ((c.tc : Thread Cert.KernelMixbIdeal.nD Cert.KernelMixbIdeal.τ).loc Cert.KernelMixbIdeal.main_arg1)
      ∧ r.2.mem ((c.tc : Thread Cert.KernelMixbIdeal.nD Cert.KernelMixbIdeal.τ).loc Cert.KernelMixbIdeal.main_arg2) = m ((c.tc : Thread Cert.KernelMixbIdeal.nD Cert.KernelMixbIdeal.τ).loc Cert.KernelMixbIdeal.main_arg2)
      ∧ r.2.mem ((c.tc : Thread Cert.KernelMixbIdeal.nD Cert.KernelMixbIdeal.τ).loc Cert.KernelMixbIdeal.main_arg3) = m ((c.tc : Thread Cert.KernelMixbIdeal.nD Cert.KernelMixbIdeal.τ).loc Cert.KernelMixbIdeal.main_arg3)
      ∧ r.2.mem ((c.tc : Thread Cert.KernelMixbIdeal.nD Cert.KernelMixbIdeal.τ).loc Cert.KernelMixbIdeal.main_arg4) = m ((c.tc : Thread Cert.KernelMixbIdeal.nD Cert.KernelMixbIdeal.τ).loc Cert.KernelMixbIdeal.main_arg4)
      ∧ r.2.mem ((c.tc : Thread Cert.KernelMixbIdeal.nD Cert.KernelMixbIdeal.τ).loc Cert.KernelMixbIdeal.main_arg5) = m ((c.tc : Thread Cert.KernelMixbIdeal.nD Cert.KernelMixbIdeal.τ).loc Cert.KernelMixbIdeal.main_arg5))
      ∧ r.2.sem = fun _ => 0)

def quiescent_ReferenceMixbIdeal [hReferenceMixbIdeal : Cert.ReferenceMixbIdeal.Facts] : Prop :=
  ∀ (m : (ℓ : Loc Cert.ReferenceMixbIdeal.nD Cert.ReferenceMixbIdeal.τ Cert.ReferenceMixbIdeal.sig) → Buf (Elt Ideal) ℓ) (g : Dev Cert.ReferenceMixbIdeal.nD → PrngReg), Pre_ReferenceMixbIdeal m →
    θ_run (Cert.ReferenceMixbIdeal.defs (F := Ideal)) (onTc (τ := Cert.ReferenceMixbIdeal.τ) (Cert.ReferenceMixbIdeal.main (F := Ideal))) ⟨m, fun _ => 0, g⟩ (fun r => (∀ c : Dev Cert.ReferenceMixbIdeal.nD,
      r.2.mem ((c.tc : Thread Cert.ReferenceMixbIdeal.nD Cert.ReferenceMixbIdeal.τ).loc Cert.ReferenceMixbIdeal.main_arg0) = m ((c.tc : Thread Cert.ReferenceMixbIdeal.nD Cert.ReferenceMixbIdeal.τ).loc Cert.ReferenceMixbIdeal.main_arg0)
      ∧ r.2.mem ((c.tc : Thread Cert.ReferenceMixbIdeal.nD Cert.ReferenceMixbIdeal.τ).loc Cert.ReferenceMixbIdeal.main_arg1) = m ((c.tc : Thread Cert.ReferenceMixbIdeal.nD Cert.ReferenceMixbIdeal.τ).loc Cert.ReferenceMixbIdeal.main_arg1)
      ∧ r.2.mem ((c.tc : Thread Cert.ReferenceMixbIdeal.nD Cert.ReferenceMixbIdeal.τ).loc Cert.ReferenceMixbIdeal.main_arg2) = m ((c.tc : Thread Cert.ReferenceMixbIdeal.nD Cert.ReferenceMixbIdeal.τ).loc Cert.ReferenceMixbIdeal.main_arg2)
      ∧ r.2.mem ((c.tc : Thread Cert.ReferenceMixbIdeal.nD Cert.ReferenceMixbIdeal.τ).loc Cert.ReferenceMixbIdeal.main_arg3) = m ((c.tc : Thread Cert.ReferenceMixbIdeal.nD Cert.ReferenceMixbIdeal.τ).loc Cert.ReferenceMixbIdeal.main_arg3)
      ∧ r.2.mem ((c.tc : Thread Cert.ReferenceMixbIdeal.nD Cert.ReferenceMixbIdeal.τ).loc Cert.ReferenceMixbIdeal.main_arg4) = m ((c.tc : Thread Cert.ReferenceMixbIdeal.nD Cert.ReferenceMixbIdeal.τ).loc Cert.ReferenceMixbIdeal.main_arg4)
      ∧ r.2.mem ((c.tc : Thread Cert.ReferenceMixbIdeal.nD Cert.ReferenceMixbIdeal.τ).loc Cert.ReferenceMixbIdeal.main_arg5) = m ((c.tc : Thread Cert.ReferenceMixbIdeal.nD Cert.ReferenceMixbIdeal.τ).loc Cert.ReferenceMixbIdeal.main_arg5))
      ∧ r.2.sem = fun _ => 0)

def quiescent_ReferenceMixbIdeal_pre_pool_finite [hReferenceMixbIdeal : Cert.ReferenceMixbIdeal.Facts] [hPre_pool_finite : Cert.Pre_pool_finite.Facts] : Prop :=
  ∀ (m : (ℓ : Loc Cert.ReferenceMixbIdeal.nD Cert.ReferenceMixbIdeal.τ Cert.ReferenceMixbIdeal.sig) → Buf (Elt Ideal) ℓ) (g : Dev Cert.ReferenceMixbIdeal.nD → PrngReg), Pre_ReferenceMixbIdeal_pool_finite m →
    θ_run (Cert.ReferenceMixbIdeal.defs (F := Ideal)) (onTc (τ := Cert.ReferenceMixbIdeal.τ) (Cert.ReferenceMixbIdeal.main (F := Ideal))) ⟨m, fun _ => 0, g⟩ (fun r => (∀ c : Dev Cert.ReferenceMixbIdeal.nD,
      r.2.mem ((c.tc : Thread Cert.ReferenceMixbIdeal.nD Cert.ReferenceMixbIdeal.τ).loc Cert.ReferenceMixbIdeal.main_arg0) = m ((c.tc : Thread Cert.ReferenceMixbIdeal.nD Cert.ReferenceMixbIdeal.τ).loc Cert.ReferenceMixbIdeal.main_arg0)
      ∧ r.2.mem ((c.tc : Thread Cert.ReferenceMixbIdeal.nD Cert.ReferenceMixbIdeal.τ).loc Cert.ReferenceMixbIdeal.main_arg1) = m ((c.tc : Thread Cert.ReferenceMixbIdeal.nD Cert.ReferenceMixbIdeal.τ).loc Cert.ReferenceMixbIdeal.main_arg1)
      ∧ r.2.mem ((c.tc : Thread Cert.ReferenceMixbIdeal.nD Cert.ReferenceMixbIdeal.τ).loc Cert.ReferenceMixbIdeal.main_arg2) = m ((c.tc : Thread Cert.ReferenceMixbIdeal.nD Cert.ReferenceMixbIdeal.τ).loc Cert.ReferenceMixbIdeal.main_arg2)
      ∧ r.2.mem ((c.tc : Thread Cert.ReferenceMixbIdeal.nD Cert.ReferenceMixbIdeal.τ).loc Cert.ReferenceMixbIdeal.main_arg3) = m ((c.tc : Thread Cert.ReferenceMixbIdeal.nD Cert.ReferenceMixbIdeal.τ).loc Cert.ReferenceMixbIdeal.main_arg3)
      ∧ r.2.mem ((c.tc : Thread Cert.ReferenceMixbIdeal.nD Cert.ReferenceMixbIdeal.τ).loc Cert.ReferenceMixbIdeal.main_arg4) = m ((c.tc : Thread Cert.ReferenceMixbIdeal.nD Cert.ReferenceMixbIdeal.τ).loc Cert.ReferenceMixbIdeal.main_arg4)
      ∧ r.2.mem ((c.tc : Thread Cert.ReferenceMixbIdeal.nD Cert.ReferenceMixbIdeal.τ).loc Cert.ReferenceMixbIdeal.main_arg5) = m ((c.tc : Thread Cert.ReferenceMixbIdeal.nD Cert.ReferenceMixbIdeal.τ).loc Cert.ReferenceMixbIdeal.main_arg5))
      ∧ r.2.sem = fun _ => 0)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1)
      ∧ r.2.mem ((c.tc : Thread Cert.KernelMix.nD Cert.KernelMix.τ).loc Cert.KernelMix.main_arg2) = m ((c.tc : Thread Cert.KernelMix.nD Cert.KernelMix.τ).loc Cert.KernelMix.main_arg2)
      ∧ r.2.mem ((c.tc : Thread Cert.KernelMix.nD Cert.KernelMix.τ).loc Cert.KernelMix.main_arg3) = m ((c.tc : Thread Cert.KernelMix.nD Cert.KernelMix.τ).loc Cert.KernelMix.main_arg3)
      ∧ r.2.mem ((c.tc : Thread Cert.KernelMix.nD Cert.KernelMix.τ).loc Cert.KernelMix.main_arg4) = m ((c.tc : Thread Cert.KernelMix.nD Cert.KernelMix.τ).loc Cert.KernelMix.main_arg4))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4))
      ∧ r.2.sem = fun _ => 0)

def quiescent_ReferenceMixIdeal [hReferenceMixIdeal : Cert.ReferenceMixIdeal.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4))
      ∧ r.2.sem = fun _ => 0)

def quiescent_KernelAout [hKernelAout : Cert.KernelAout.Facts] : Prop :=
  ∀ (m : (ℓ : Loc Cert.KernelAout.nD Cert.KernelAout.τ Cert.KernelAout.sig) → Buf (Elt Bits) ℓ) (g : Dev Cert.KernelAout.nD → PrngReg), Pre_KernelAout m →
    θ_run (Cert.KernelAout.defs (F := Bits)) (onTc (τ := Cert.KernelAout.τ) (Cert.KernelAout.main (F := Bits))) ⟨m, fun _ => 0, g⟩ (fun r => (∀ c : Dev Cert.KernelAout.nD,
      r.2.mem ((c.tc : Thread Cert.KernelAout.nD Cert.KernelAout.τ).loc Cert.KernelAout.main_arg0) = m ((c.tc : Thread Cert.KernelAout.nD Cert.KernelAout.τ).loc Cert.KernelAout.main_arg0)
      ∧ r.2.mem ((c.tc : Thread Cert.KernelAout.nD Cert.KernelAout.τ).loc Cert.KernelAout.main_arg1) = m ((c.tc : Thread Cert.KernelAout.nD Cert.KernelAout.τ).loc Cert.KernelAout.main_arg1)
      ∧ r.2.mem ((c.tc : Thread Cert.KernelAout.nD Cert.KernelAout.τ).loc Cert.KernelAout.main_arg2) = m ((c.tc : Thread Cert.KernelAout.nD Cert.KernelAout.τ).loc Cert.KernelAout.main_arg2)
      ∧ r.2.mem ((c.tc : Thread Cert.KernelAout.nD Cert.KernelAout.τ).loc Cert.KernelAout.main_arg3) = m ((c.tc : Thread Cert.KernelAout.nD Cert.KernelAout.τ).loc Cert.KernelAout.main_arg3))
      ∧ r.2.sem = fun _ => 0)

def quiescent_KernelAoutIdeal [hKernelAoutIdeal : Cert.KernelAoutIdeal.Facts] : Prop :=
  ∀ (m : (ℓ : Loc Cert.KernelAoutIdeal.nD Cert.KernelAoutIdeal.τ Cert.KernelAoutIdeal.sig) → Buf (Elt Ideal) ℓ) (g : Dev Cert.KernelAoutIdeal.nD → PrngReg), Pre_KernelAoutIdeal m →
    θ_run (Cert.KernelAoutIdeal.defs (F := Ideal)) (onTc (τ := Cert.KernelAoutIdeal.τ) (Cert.KernelAoutIdeal.main (F := Ideal))) ⟨m, fun _ => 0, g⟩ (fun r => (∀ c : Dev Cert.KernelAoutIdeal.nD,
      r.2.mem ((c.tc : Thread Cert.KernelAoutIdeal.nD Cert.KernelAoutIdeal.τ).loc Cert.KernelAoutIdeal.main_arg0) = m ((c.tc : Thread Cert.KernelAoutIdeal.nD Cert.KernelAoutIdeal.τ).loc Cert.KernelAoutIdeal.main_arg0)
      ∧ r.2.mem ((c.tc : Thread Cert.KernelAoutIdeal.nD Cert.KernelAoutIdeal.τ).loc Cert.KernelAoutIdeal.main_arg1) = m ((c.tc : Thread Cert.KernelAoutIdeal.nD Cert.KernelAoutIdeal.τ).loc Cert.KernelAoutIdeal.main_arg1)
      ∧ r.2.mem ((c.tc : Thread Cert.KernelAoutIdeal.nD Cert.KernelAoutIdeal.τ).loc Cert.KernelAoutIdeal.main_arg2) = m ((c.tc : Thread Cert.KernelAoutIdeal.nD Cert.KernelAoutIdeal.τ).loc Cert.KernelAoutIdeal.main_arg2)
      ∧ r.2.mem ((c.tc : Thread Cert.KernelAoutIdeal.nD Cert.KernelAoutIdeal.τ).loc Cert.KernelAoutIdeal.main_arg3) = m ((c.tc : Thread Cert.KernelAoutIdeal.nD Cert.KernelAoutIdeal.τ).loc Cert.KernelAoutIdeal.main_arg3))
      ∧ r.2.sem = fun _ => 0)

def quiescent_ReferenceAoutIdeal [hReferenceAoutIdeal : Cert.ReferenceAoutIdeal.Facts] : Prop :=
  ∀ (m : (ℓ : Loc Cert.ReferenceAoutIdeal.nD Cert.ReferenceAoutIdeal.τ Cert.ReferenceAoutIdeal.sig) → Buf (Elt Ideal) ℓ) (g : Dev Cert.ReferenceAoutIdeal.nD → PrngReg), Pre_ReferenceAoutIdeal m →
    θ_run (Cert.ReferenceAoutIdeal.defs (F := Ideal)) (onTc (τ := Cert.ReferenceAoutIdeal.τ) (Cert.ReferenceAoutIdeal.main (F := Ideal))) ⟨m, fun _ => 0, g⟩ (fun r => (∀ c : Dev Cert.ReferenceAoutIdeal.nD,
      r.2.mem ((c.tc : Thread Cert.ReferenceAoutIdeal.nD Cert.ReferenceAoutIdeal.τ).loc Cert.ReferenceAoutIdeal.main_arg0) = m ((c.tc : Thread Cert.ReferenceAoutIdeal.nD Cert.ReferenceAoutIdeal.τ).loc Cert.ReferenceAoutIdeal.main_arg0)
      ∧ r.2.mem ((c.tc : Thread Cert.ReferenceAoutIdeal.nD Cert.ReferenceAoutIdeal.τ).loc Cert.ReferenceAoutIdeal.main_arg1) = m ((c.tc : Thread Cert.ReferenceAoutIdeal.nD Cert.ReferenceAoutIdeal.τ).loc Cert.ReferenceAoutIdeal.main_arg1)
      ∧ r.2.mem ((c.tc : Thread Cert.ReferenceAoutIdeal.nD Cert.ReferenceAoutIdeal.τ).loc Cert.ReferenceAoutIdeal.main_arg2) = m ((c.tc : Thread Cert.ReferenceAoutIdeal.nD Cert.ReferenceAoutIdeal.τ).loc Cert.ReferenceAoutIdeal.main_arg2)
      ∧ r.2.mem ((c.tc : Thread Cert.ReferenceAoutIdeal.nD Cert.ReferenceAoutIdeal.τ).loc Cert.ReferenceAoutIdeal.main_arg3) = m ((c.tc : Thread Cert.ReferenceAoutIdeal.nD Cert.ReferenceAoutIdeal.τ).loc Cert.ReferenceAoutIdeal.main_arg3))
      ∧ r.2.sem = fun _ => 0)

def quiescent_KernelApool [hKernelApool : Cert.KernelApool.Facts] : Prop :=
  ∀ (m : (ℓ : Loc Cert.KernelApool.nD Cert.KernelApool.τ Cert.KernelApool.sig) → Buf (Elt Bits) ℓ) (g : Dev Cert.KernelApool.nD → PrngReg), Pre_KernelApool m →
    θ_run (Cert.KernelApool.defs (F := Bits)) (onTc (τ := Cert.KernelApool.τ) (Cert.KernelApool.main (F := Bits))) ⟨m, fun _ => 0, g⟩ (fun r => (∀ c : Dev Cert.KernelApool.nD,
      r.2.mem ((c.tc : Thread Cert.KernelApool.nD Cert.KernelApool.τ).loc Cert.KernelApool.main_arg0) = m ((c.tc : Thread Cert.KernelApool.nD Cert.KernelApool.τ).loc Cert.KernelApool.main_arg0)
      ∧ r.2.mem ((c.tc : Thread Cert.KernelApool.nD Cert.KernelApool.τ).loc Cert.KernelApool.main_arg1) = m ((c.tc : Thread Cert.KernelApool.nD Cert.KernelApool.τ).loc Cert.KernelApool.main_arg1)
      ∧ r.2.mem ((c.tc : Thread Cert.KernelApool.nD Cert.KernelApool.τ).loc Cert.KernelApool.main_arg2) = m ((c.tc : Thread Cert.KernelApool.nD Cert.KernelApool.τ).loc Cert.KernelApool.main_arg2)
      ∧ r.2.mem ((c.tc : Thread Cert.KernelApool.nD Cert.KernelApool.τ).loc Cert.KernelApool.main_arg3) = m ((c.tc : Thread Cert.KernelApool.nD Cert.KernelApool.τ).loc Cert.KernelApool.main_arg3))
      ∧ r.2.sem = fun _ => 0)

def quiescent_KernelApoolIdeal [hKernelApoolIdeal : Cert.KernelApoolIdeal.Facts] : Prop :=
  ∀ (m : (ℓ : Loc Cert.KernelApoolIdeal.nD Cert.KernelApoolIdeal.τ Cert.KernelApoolIdeal.sig) → Buf (Elt Ideal) ℓ) (g : Dev Cert.KernelApoolIdeal.nD → PrngReg), Pre_KernelApoolIdeal m →
    θ_run (Cert.KernelApoolIdeal.defs (F := Ideal)) (onTc (τ := Cert.KernelApoolIdeal.τ) (Cert.KernelApoolIdeal.main (F := Ideal))) ⟨m, fun _ => 0, g⟩ (fun r => (∀ c : Dev Cert.KernelApoolIdeal.nD,
      r.2.mem ((c.tc : Thread Cert.KernelApoolIdeal.nD Cert.KernelApoolIdeal.τ).loc Cert.KernelApoolIdeal.main_arg0) = m ((c.tc : Thread Cert.KernelApoolIdeal.nD Cert.KernelApoolIdeal.τ).loc Cert.KernelApoolIdeal.main_arg0)
      ∧ r.2.mem ((c.tc : Thread Cert.KernelApoolIdeal.nD Cert.KernelApoolIdeal.τ).loc Cert.KernelApoolIdeal.main_arg1) = m ((c.tc : Thread Cert.KernelApoolIdeal.nD Cert.KernelApoolIdeal.τ).loc Cert.KernelApoolIdeal.main_arg1)
      ∧ r.2.mem ((c.tc : Thread Cert.KernelApoolIdeal.nD Cert.KernelApoolIdeal.τ).loc Cert.KernelApoolIdeal.main_arg2) = m ((c.tc : Thread Cert.KernelApoolIdeal.nD Cert.KernelApoolIdeal.τ).loc Cert.KernelApoolIdeal.main_arg2)
      ∧ r.2.mem ((c.tc : Thread Cert.KernelApoolIdeal.nD Cert.KernelApoolIdeal.τ).loc Cert.KernelApoolIdeal.main_arg3) = m ((c.tc : Thread Cert.KernelApoolIdeal.nD Cert.KernelApoolIdeal.τ).loc Cert.KernelApoolIdeal.main_arg3))
      ∧ r.2.sem = fun _ => 0)

def quiescent_ReferenceApoolIdeal [hReferenceApoolIdeal : Cert.ReferenceApoolIdeal.Facts] : Prop :=
  ∀ (m : (ℓ : Loc Cert.ReferenceApoolIdeal.nD Cert.ReferenceApoolIdeal.τ Cert.ReferenceApoolIdeal.sig) → Buf (Elt Ideal) ℓ) (g : Dev Cert.ReferenceApoolIdeal.nD → PrngReg), Pre_ReferenceApoolIdeal m →
    θ_run (Cert.ReferenceApoolIdeal.defs (F := Ideal)) (onTc (τ := Cert.ReferenceApoolIdeal.τ) (Cert.ReferenceApoolIdeal.main (F := Ideal))) ⟨m, fun _ => 0, g⟩ (fun r => (∀ c : Dev Cert.ReferenceApoolIdeal.nD,
      r.2.mem ((c.tc : Thread Cert.ReferenceApoolIdeal.nD Cert.ReferenceApoolIdeal.τ).loc Cert.ReferenceApoolIdeal.main_arg0) = m ((c.tc : Thread Cert.ReferenceApoolIdeal.nD Cert.ReferenceApoolIdeal.τ).loc Cert.ReferenceApoolIdeal.main_arg0)
      ∧ r.2.mem ((c.tc : Thread Cert.ReferenceApoolIdeal.nD Cert.ReferenceApoolIdeal.τ).loc Cert.ReferenceApoolIdeal.main_arg1) = m ((c.tc : Thread Cert.ReferenceApoolIdeal.nD Cert.ReferenceApoolIdeal.τ).loc Cert.ReferenceApoolIdeal.main_arg1)
      ∧ r.2.mem ((c.tc : Thread Cert.ReferenceApoolIdeal.nD Cert.ReferenceApoolIdeal.τ).loc Cert.ReferenceApoolIdeal.main_arg2) = m ((c.tc : Thread Cert.ReferenceApoolIdeal.nD Cert.ReferenceApoolIdeal.τ).loc Cert.ReferenceApoolIdeal.main_arg2)
      ∧ r.2.mem ((c.tc : Thread Cert.ReferenceApoolIdeal.nD Cert.ReferenceApoolIdeal.τ).loc Cert.ReferenceApoolIdeal.main_arg3) = m ((c.tc : Thread Cert.ReferenceApoolIdeal.nD Cert.ReferenceApoolIdeal.τ).loc Cert.ReferenceApoolIdeal.main_arg3))
      ∧ r.2.sem = fun _ => 0)

def quiescent_KernelAgate [hKernelAgate : Cert.KernelAgate.Facts] : Prop :=
  ∀ (m : (ℓ : Loc Cert.KernelAgate.nD Cert.KernelAgate.τ Cert.KernelAgate.sig) → Buf (Elt Bits) ℓ) (g : Dev Cert.KernelAgate.nD → PrngReg), Pre_KernelAgate m →
    θ_run (Cert.KernelAgate.defs (F := Bits)) (onTc (τ := Cert.KernelAgate.τ) (Cert.KernelAgate.main (F := Bits))) ⟨m, fun _ => 0, g⟩ (fun r => (∀ c : Dev Cert.KernelAgate.nD,
      r.2.mem ((c.tc : Thread Cert.KernelAgate.nD Cert.KernelAgate.τ).loc Cert.KernelAgate.main_arg0) = m ((c.tc : Thread Cert.KernelAgate.nD Cert.KernelAgate.τ).loc Cert.KernelAgate.main_arg0)
      ∧ r.2.mem ((c.tc : Thread Cert.KernelAgate.nD Cert.KernelAgate.τ).loc Cert.KernelAgate.main_arg1) = m ((c.tc : Thread Cert.KernelAgate.nD Cert.KernelAgate.τ).loc Cert.KernelAgate.main_arg1)
      ∧ r.2.mem ((c.tc : Thread Cert.KernelAgate.nD Cert.KernelAgate.τ).loc Cert.KernelAgate.main_arg2) = m ((c.tc : Thread Cert.KernelAgate.nD Cert.KernelAgate.τ).loc Cert.KernelAgate.main_arg2)
      ∧ r.2.mem ((c.tc : Thread Cert.KernelAgate.nD Cert.KernelAgate.τ).loc Cert.KernelAgate.main_arg3) = m ((c.tc : Thread Cert.KernelAgate.nD Cert.KernelAgate.τ).loc Cert.KernelAgate.main_arg3))
      ∧ r.2.sem = fun _ => 0)

def quiescent_KernelAgateIdeal [hKernelAgateIdeal : Cert.KernelAgateIdeal.Facts] : Prop :=
  ∀ (m : (ℓ : Loc Cert.KernelAgateIdeal.nD Cert.KernelAgateIdeal.τ Cert.KernelAgateIdeal.sig) → Buf (Elt Ideal) ℓ) (g : Dev Cert.KernelAgateIdeal.nD → PrngReg), Pre_KernelAgateIdeal m →
    θ_run (Cert.KernelAgateIdeal.defs (F := Ideal)) (onTc (τ := Cert.KernelAgateIdeal.τ) (Cert.KernelAgateIdeal.main (F := Ideal))) ⟨m, fun _ => 0, g⟩ (fun r => (∀ c : Dev Cert.KernelAgateIdeal.nD,
      r.2.mem ((c.tc : Thread Cert.KernelAgateIdeal.nD Cert.KernelAgateIdeal.τ).loc Cert.KernelAgateIdeal.main_arg0) = m ((c.tc : Thread Cert.KernelAgateIdeal.nD Cert.KernelAgateIdeal.τ).loc Cert.KernelAgateIdeal.main_arg0)
      ∧ r.2.mem ((c.tc : Thread Cert.KernelAgateIdeal.nD Cert.KernelAgateIdeal.τ).loc Cert.KernelAgateIdeal.main_arg1) = m ((c.tc : Thread Cert.KernelAgateIdeal.nD Cert.KernelAgateIdeal.τ).loc Cert.KernelAgateIdeal.main_arg1)
      ∧ r.2.mem ((c.tc : Thread Cert.KernelAgateIdeal.nD Cert.KernelAgateIdeal.τ).loc Cert.KernelAgateIdeal.main_arg2) = m ((c.tc : Thread Cert.KernelAgateIdeal.nD Cert.KernelAgateIdeal.τ).loc Cert.KernelAgateIdeal.main_arg2)
      ∧ r.2.mem ((c.tc : Thread Cert.KernelAgateIdeal.nD Cert.KernelAgateIdeal.τ).loc Cert.KernelAgateIdeal.main_arg3) = m ((c.tc : Thread Cert.KernelAgateIdeal.nD Cert.KernelAgateIdeal.τ).loc Cert.KernelAgateIdeal.main_arg3))
      ∧ r.2.sem = fun _ => 0)

def quiescent_ReferenceAgateIdeal [hReferenceAgateIdeal : Cert.ReferenceAgateIdeal.Facts] : Prop :=
  ∀ (m : (ℓ : Loc Cert.ReferenceAgateIdeal.nD Cert.ReferenceAgateIdeal.τ Cert.ReferenceAgateIdeal.sig) → Buf (Elt Ideal) ℓ) (g : Dev Cert.ReferenceAgateIdeal.nD → PrngReg), Pre_ReferenceAgateIdeal m →
    θ_run (Cert.ReferenceAgateIdeal.defs (F := Ideal)) (onTc (τ := Cert.ReferenceAgateIdeal.τ) (Cert.ReferenceAgateIdeal.main (F := Ideal))) ⟨m, fun _ => 0, g⟩ (fun r => (∀ c : Dev Cert.ReferenceAgateIdeal.nD,
      r.2.mem ((c.tc : Thread Cert.ReferenceAgateIdeal.nD Cert.ReferenceAgateIdeal.τ).loc Cert.ReferenceAgateIdeal.main_arg0) = m ((c.tc : Thread Cert.ReferenceAgateIdeal.nD Cert.ReferenceAgateIdeal.τ).loc Cert.ReferenceAgateIdeal.main_arg0)
      ∧ r.2.mem ((c.tc : Thread Cert.ReferenceAgateIdeal.nD Cert.ReferenceAgateIdeal.τ).loc Cert.ReferenceAgateIdeal.main_arg1) = m ((c.tc : Thread Cert.ReferenceAgateIdeal.nD Cert.ReferenceAgateIdeal.τ).loc Cert.ReferenceAgateIdeal.main_arg1)
      ∧ r.2.mem ((c.tc : Thread Cert.ReferenceAgateIdeal.nD Cert.ReferenceAgateIdeal.τ).loc Cert.ReferenceAgateIdeal.main_arg2) = m ((c.tc : Thread Cert.ReferenceAgateIdeal.nD Cert.ReferenceAgateIdeal.τ).loc Cert.ReferenceAgateIdeal.main_arg2)
      ∧ r.2.mem ((c.tc : Thread Cert.ReferenceAgateIdeal.nD Cert.ReferenceAgateIdeal.τ).loc Cert.ReferenceAgateIdeal.main_arg3) = m ((c.tc : Thread Cert.ReferenceAgateIdeal.nD Cert.ReferenceAgateIdeal.τ).loc Cert.ReferenceAgateIdeal.main_arg3))
      ∧ r.2.sem = fun _ => 0)

def quiescent_KernelAwin [hKernelAwin : Cert.KernelAwin.Facts] : Prop :=
  ∀ (m : (ℓ : Loc Cert.KernelAwin.nD Cert.KernelAwin.τ Cert.KernelAwin.sig) → Buf (Elt Bits) ℓ) (g : Dev Cert.KernelAwin.nD → PrngReg), Pre_KernelAwin m →
    θ_run (Cert.KernelAwin.defs (F := Bits)) (onTc (τ := Cert.KernelAwin.τ) (Cert.KernelAwin.main (F := Bits))) ⟨m, fun _ => 0, g⟩ (fun r => (∀ c : Dev Cert.KernelAwin.nD,
      r.2.mem ((c.tc : Thread Cert.KernelAwin.nD Cert.KernelAwin.τ).loc Cert.KernelAwin.main_arg0) = m ((c.tc : Thread Cert.KernelAwin.nD Cert.KernelAwin.τ).loc Cert.KernelAwin.main_arg0)
      ∧ r.2.mem ((c.tc : Thread Cert.KernelAwin.nD Cert.KernelAwin.τ).loc Cert.KernelAwin.main_arg1) = m ((c.tc : Thread Cert.KernelAwin.nD Cert.KernelAwin.τ).loc Cert.KernelAwin.main_arg1)
      ∧ r.2.mem ((c.tc : Thread Cert.KernelAwin.nD Cert.KernelAwin.τ).loc Cert.KernelAwin.main_arg2) = m ((c.tc : Thread Cert.KernelAwin.nD Cert.KernelAwin.τ).loc Cert.KernelAwin.main_arg2)
      ∧ r.2.mem ((c.tc : Thread Cert.KernelAwin.nD Cert.KernelAwin.τ).loc Cert.KernelAwin.main_arg3) = m ((c.tc : Thread Cert.KernelAwin.nD Cert.KernelAwin.τ).loc Cert.KernelAwin.main_arg3)
      ∧ r.2.mem ((c.tc : Thread Cert.KernelAwin.nD Cert.KernelAwin.τ).loc Cert.KernelAwin.main_arg4) = m ((c.tc : Thread Cert.KernelAwin.nD Cert.KernelAwin.τ).loc Cert.KernelAwin.main_arg4)
      ∧ r.2.mem ((c.tc : Thread Cert.KernelAwin.nD Cert.KernelAwin.τ).loc Cert.KernelAwin.main_arg5) = m ((c.tc : Thread Cert.KernelAwin.nD Cert.KernelAwin.τ).loc Cert.KernelAwin.main_arg5)
      ∧ r.2.mem ((c.tc : Thread Cert.KernelAwin.nD Cert.KernelAwin.τ).loc Cert.KernelAwin.main_arg6) = m ((c.tc : Thread Cert.KernelAwin.nD Cert.KernelAwin.τ).loc Cert.KernelAwin.main_arg6))
      ∧ r.2.sem = fun _ => 0)

def quiescent_KernelAwinIdeal [hKernelAwinIdeal : Cert.KernelAwinIdeal.Facts] : Prop :=
  ∀ (m : (ℓ : Loc Cert.KernelAwinIdeal.nD Cert.KernelAwinIdeal.τ Cert.KernelAwinIdeal.sig) → Buf (Elt Ideal) ℓ) (g : Dev Cert.KernelAwinIdeal.nD → PrngReg), Pre_KernelAwinIdeal m →
    θ_run (Cert.KernelAwinIdeal.defs (F := Ideal)) (onTc (τ := Cert.KernelAwinIdeal.τ) (Cert.KernelAwinIdeal.main (F := Ideal))) ⟨m, fun _ => 0, g⟩ (fun r => (∀ c : Dev Cert.KernelAwinIdeal.nD,
      r.2.mem ((c.tc : Thread Cert.KernelAwinIdeal.nD Cert.KernelAwinIdeal.τ).loc Cert.KernelAwinIdeal.main_arg0) = m ((c.tc : Thread Cert.KernelAwinIdeal.nD Cert.KernelAwinIdeal.τ).loc Cert.KernelAwinIdeal.main_arg0)
      ∧ r.2.mem ((c.tc : Thread Cert.KernelAwinIdeal.nD Cert.KernelAwinIdeal.τ).loc Cert.KernelAwinIdeal.main_arg1) = m ((c.tc : Thread Cert.KernelAwinIdeal.nD Cert.KernelAwinIdeal.τ).loc Cert.KernelAwinIdeal.main_arg1)
      ∧ r.2.mem ((c.tc : Thread Cert.KernelAwinIdeal.nD Cert.KernelAwinIdeal.τ).loc Cert.KernelAwinIdeal.main_arg2) = m ((c.tc : Thread Cert.KernelAwinIdeal.nD Cert.KernelAwinIdeal.τ).loc Cert.KernelAwinIdeal.main_arg2)
      ∧ r.2.mem ((c.tc : Thread Cert.KernelAwinIdeal.nD Cert.KernelAwinIdeal.τ).loc Cert.KernelAwinIdeal.main_arg3) = m ((c.tc : Thread Cert.KernelAwinIdeal.nD Cert.KernelAwinIdeal.τ).loc Cert.KernelAwinIdeal.main_arg3)
      ∧ r.2.mem ((c.tc : Thread Cert.KernelAwinIdeal.nD Cert.KernelAwinIdeal.τ).loc Cert.KernelAwinIdeal.main_arg4) = m ((c.tc : Thread Cert.KernelAwinIdeal.nD Cert.KernelAwinIdeal.τ).loc Cert.KernelAwinIdeal.main_arg4)
      ∧ r.2.mem ((c.tc : Thread Cert.KernelAwinIdeal.nD Cert.KernelAwinIdeal.τ).loc Cert.KernelAwinIdeal.main_arg5) = m ((c.tc : Thread Cert.KernelAwinIdeal.nD Cert.KernelAwinIdeal.τ).loc Cert.KernelAwinIdeal.main_arg5)
      ∧ r.2.mem ((c.tc : Thread Cert.KernelAwinIdeal.nD Cert.KernelAwinIdeal.τ).loc Cert.KernelAwinIdeal.main_arg6) = m ((c.tc : Thread Cert.KernelAwinIdeal.nD Cert.KernelAwinIdeal.τ).loc Cert.KernelAwinIdeal.main_arg6))
      ∧ r.2.sem = fun _ => 0)

def quiescent_ReferenceAwinIdeal [hReferenceAwinIdeal : Cert.ReferenceAwinIdeal.Facts] : Prop :=
  ∀ (m : (ℓ : Loc Cert.ReferenceAwinIdeal.nD Cert.ReferenceAwinIdeal.τ Cert.ReferenceAwinIdeal.sig) → Buf (Elt Ideal) ℓ) (g : Dev Cert.ReferenceAwinIdeal.nD → PrngReg), Pre_ReferenceAwinIdeal m →
    θ_run (Cert.ReferenceAwinIdeal.defs (F := Ideal)) (onTc (τ := Cert.ReferenceAwinIdeal.τ) (Cert.ReferenceAwinIdeal.main (F := Ideal))) ⟨m, fun _ => 0, g⟩ (fun r => (∀ c : Dev Cert.ReferenceAwinIdeal.nD,
      r.2.mem ((c.tc : Thread Cert.ReferenceAwinIdeal.nD Cert.ReferenceAwinIdeal.τ).loc Cert.ReferenceAwinIdeal.main_arg0) = m ((c.tc : Thread Cert.ReferenceAwinIdeal.nD Cert.ReferenceAwinIdeal.τ).loc Cert.ReferenceAwinIdeal.main_arg0)
      ∧ r.2.mem ((c.tc : Thread Cert.ReferenceAwinIdeal.nD Cert.ReferenceAwinIdeal.τ).loc Cert.ReferenceAwinIdeal.main_arg1) = m ((c.tc : Thread Cert.ReferenceAwinIdeal.nD Cert.ReferenceAwinIdeal.τ).loc Cert.ReferenceAwinIdeal.main_arg1)
      ∧ r.2.mem ((c.tc : Thread Cert.ReferenceAwinIdeal.nD Cert.ReferenceAwinIdeal.τ).loc Cert.ReferenceAwinIdeal.main_arg2) = m ((c.tc : Thread Cert.ReferenceAwinIdeal.nD Cert.ReferenceAwinIdeal.τ).loc Cert.ReferenceAwinIdeal.main_arg2)
      ∧ r.2.mem ((c.tc : Thread Cert.ReferenceAwinIdeal.nD Cert.ReferenceAwinIdeal.τ).loc Cert.ReferenceAwinIdeal.main_arg3) = m ((c.tc : Thread Cert.ReferenceAwinIdeal.nD Cert.ReferenceAwinIdeal.τ).loc Cert.ReferenceAwinIdeal.main_arg3)
      ∧ r.2.mem ((c.tc : Thread Cert.ReferenceAwinIdeal.nD Cert.ReferenceAwinIdeal.τ).loc Cert.ReferenceAwinIdeal.main_arg4) = m ((c.tc : Thread Cert.ReferenceAwinIdeal.nD Cert.ReferenceAwinIdeal.τ).loc Cert.ReferenceAwinIdeal.main_arg4)
      ∧ r.2.mem ((c.tc : Thread Cert.ReferenceAwinIdeal.nD Cert.ReferenceAwinIdeal.τ).loc Cert.ReferenceAwinIdeal.main_arg5) = m ((c.tc : Thread Cert.ReferenceAwinIdeal.nD Cert.ReferenceAwinIdeal.τ).loc Cert.ReferenceAwinIdeal.main_arg5)
      ∧ r.2.mem ((c.tc : Thread Cert.ReferenceAwinIdeal.nD Cert.ReferenceAwinIdeal.τ).loc Cert.ReferenceAwinIdeal.main_arg6) = m ((c.tc : Thread Cert.ReferenceAwinIdeal.nD Cert.ReferenceAwinIdeal.τ).loc Cert.ReferenceAwinIdeal.main_arg6))
      ∧ r.2.sem = fun _ => 0)

def quiescent_KernelNlat [hKernelNlat : Cert.KernelNlat.Facts] : Prop :=
  ∀ (m : (ℓ : Loc Cert.KernelNlat.nD Cert.KernelNlat.τ Cert.KernelNlat.sig) → Buf (Elt Bits) ℓ) (g : Dev Cert.KernelNlat.nD → PrngReg), Pre_KernelNlat m →
    θ_run (Cert.KernelNlat.defs (F := Bits)) (onTc (τ := Cert.KernelNlat.τ) (Cert.KernelNlat.main (F := Bits))) ⟨m, fun _ => 0, g⟩ (fun r => (∀ c : Dev Cert.KernelNlat.nD,
      r.2.mem ((c.tc : Thread Cert.KernelNlat.nD Cert.KernelNlat.τ).loc Cert.KernelNlat.main_arg0) = m ((c.tc : Thread Cert.KernelNlat.nD Cert.KernelNlat.τ).loc Cert.KernelNlat.main_arg0)
      ∧ r.2.mem ((c.tc : Thread Cert.KernelNlat.nD Cert.KernelNlat.τ).loc Cert.KernelNlat.main_arg1) = m ((c.tc : Thread Cert.KernelNlat.nD Cert.KernelNlat.τ).loc Cert.KernelNlat.main_arg1)
      ∧ r.2.mem ((c.tc : Thread Cert.KernelNlat.nD Cert.KernelNlat.τ).loc Cert.KernelNlat.main_arg2) = m ((c.tc : Thread Cert.KernelNlat.nD Cert.KernelNlat.τ).loc Cert.KernelNlat.main_arg2)
      ∧ r.2.mem ((c.tc : Thread Cert.KernelNlat.nD Cert.KernelNlat.τ).loc Cert.KernelNlat.main_arg3) = m ((c.tc : Thread Cert.KernelNlat.nD Cert.KernelNlat.τ).loc Cert.KernelNlat.main_arg3))
      ∧ r.2.sem = fun _ => 0)

def quiescent_KernelNlatIdeal [hKernelNlatIdeal : Cert.KernelNlatIdeal.Facts] : Prop :=
  ∀ (m : (ℓ : Loc Cert.KernelNlatIdeal.nD Cert.KernelNlatIdeal.τ Cert.KernelNlatIdeal.sig) → Buf (Elt Ideal) ℓ) (g : Dev Cert.KernelNlatIdeal.nD → PrngReg), Pre_KernelNlatIdeal m →
    θ_run (Cert.KernelNlatIdeal.defs (F := Ideal)) (onTc (τ := Cert.KernelNlatIdeal.τ) (Cert.KernelNlatIdeal.main (F := Ideal))) ⟨m, fun _ => 0, g⟩ (fun r => (∀ c : Dev Cert.KernelNlatIdeal.nD,
      r.2.mem ((c.tc : Thread Cert.KernelNlatIdeal.nD Cert.KernelNlatIdeal.τ).loc Cert.KernelNlatIdeal.main_arg0) = m ((c.tc : Thread Cert.KernelNlatIdeal.nD Cert.KernelNlatIdeal.τ).loc Cert.KernelNlatIdeal.main_arg0)
      ∧ r.2.mem ((c.tc : Thread Cert.KernelNlatIdeal.nD Cert.KernelNlatIdeal.τ).loc Cert.KernelNlatIdeal.main_arg1) = m ((c.tc : Thread Cert.KernelNlatIdeal.nD Cert.KernelNlatIdeal.τ).loc Cert.KernelNlatIdeal.main_arg1)
      ∧ r.2.mem ((c.tc : Thread Cert.KernelNlatIdeal.nD Cert.KernelNlatIdeal.τ).loc Cert.KernelNlatIdeal.main_arg2) = m ((c.tc : Thread Cert.KernelNlatIdeal.nD Cert.KernelNlatIdeal.τ).loc Cert.KernelNlatIdeal.main_arg2)
      ∧ r.2.mem ((c.tc : Thread Cert.KernelNlatIdeal.nD Cert.KernelNlatIdeal.τ).loc Cert.KernelNlatIdeal.main_arg3) = m ((c.tc : Thread Cert.KernelNlatIdeal.nD Cert.KernelNlatIdeal.τ).loc Cert.KernelNlatIdeal.main_arg3))
      ∧ r.2.sem = fun _ => 0)

def quiescent_ReferenceNlatIdeal [hReferenceNlatIdeal : Cert.ReferenceNlatIdeal.Facts] : Prop :=
  ∀ (m : (ℓ : Loc Cert.ReferenceNlatIdeal.nD Cert.ReferenceNlatIdeal.τ Cert.ReferenceNlatIdeal.sig) → Buf (Elt Ideal) ℓ) (g : Dev Cert.ReferenceNlatIdeal.nD → PrngReg), Pre_ReferenceNlatIdeal m →
    θ_run (Cert.ReferenceNlatIdeal.defs (F := Ideal)) (onTc (τ := Cert.ReferenceNlatIdeal.τ) (Cert.ReferenceNlatIdeal.main (F := Ideal))) ⟨m, fun _ => 0, g⟩ (fun r => (∀ c : Dev Cert.ReferenceNlatIdeal.nD,
      r.2.mem ((c.tc : Thread Cert.ReferenceNlatIdeal.nD Cert.ReferenceNlatIdeal.τ).loc Cert.ReferenceNlatIdeal.main_arg0) = m ((c.tc : Thread Cert.ReferenceNlatIdeal.nD Cert.ReferenceNlatIdeal.τ).loc Cert.ReferenceNlatIdeal.main_arg0)
      ∧ r.2.mem ((c.tc : Thread Cert.ReferenceNlatIdeal.nD Cert.ReferenceNlatIdeal.τ).loc Cert.ReferenceNlatIdeal.main_arg1) = m ((c.tc : Thread Cert.ReferenceNlatIdeal.nD Cert.ReferenceNlatIdeal.τ).loc Cert.ReferenceNlatIdeal.main_arg1)
      ∧ r.2.mem ((c.tc : Thread Cert.ReferenceNlatIdeal.nD Cert.ReferenceNlatIdeal.τ).loc Cert.ReferenceNlatIdeal.main_arg2) = m ((c.tc : Thread Cert.ReferenceNlatIdeal.nD Cert.ReferenceNlatIdeal.τ).loc Cert.ReferenceNlatIdeal.main_arg2)
      ∧ r.2.mem ((c.tc : Thread Cert.ReferenceNlatIdeal.nD Cert.ReferenceNlatIdeal.τ).loc Cert.ReferenceNlatIdeal.main_arg3) = m ((c.tc : Thread Cert.ReferenceNlatIdeal.nD Cert.ReferenceNlatIdeal.τ).loc Cert.ReferenceNlatIdeal.main_arg3))
      ∧ r.2.sem = fun _ => 0)

def quiescent_KernelNctx [hKernelNctx : Cert.KernelNctx.Facts] : Prop :=
  ∀ (m : (ℓ : Loc Cert.KernelNctx.nD Cert.KernelNctx.τ Cert.KernelNctx.sig) → Buf (Elt Bits) ℓ) (g : Dev Cert.KernelNctx.nD → PrngReg), Pre_KernelNctx m →
    θ_run (Cert.KernelNctx.defs (F := Bits)) (onTc (τ := Cert.KernelNctx.τ) (Cert.KernelNctx.main (F := Bits))) ⟨m, fun _ => 0, g⟩ (fun r => (∀ c : Dev Cert.KernelNctx.nD,
      r.2.mem ((c.tc : Thread Cert.KernelNctx.nD Cert.KernelNctx.τ).loc Cert.KernelNctx.main_arg0) = m ((c.tc : Thread Cert.KernelNctx.nD Cert.KernelNctx.τ).loc Cert.KernelNctx.main_arg0)
      ∧ r.2.mem ((c.tc : Thread Cert.KernelNctx.nD Cert.KernelNctx.τ).loc Cert.KernelNctx.main_arg1) = m ((c.tc : Thread Cert.KernelNctx.nD Cert.KernelNctx.τ).loc Cert.KernelNctx.main_arg1)
      ∧ r.2.mem ((c.tc : Thread Cert.KernelNctx.nD Cert.KernelNctx.τ).loc Cert.KernelNctx.main_arg2) = m ((c.tc : Thread Cert.KernelNctx.nD Cert.KernelNctx.τ).loc Cert.KernelNctx.main_arg2)
      ∧ r.2.mem ((c.tc : Thread Cert.KernelNctx.nD Cert.KernelNctx.τ).loc Cert.KernelNctx.main_arg3) = m ((c.tc : Thread Cert.KernelNctx.nD Cert.KernelNctx.τ).loc Cert.KernelNctx.main_arg3)
      ∧ r.2.mem ((c.tc : Thread Cert.KernelNctx.nD Cert.KernelNctx.τ).loc Cert.KernelNctx.main_arg4) = m ((c.tc : Thread Cert.KernelNctx.nD Cert.KernelNctx.τ).loc Cert.KernelNctx.main_arg4))
      ∧ r.2.sem = fun _ => 0)

def quiescent_KernelNctxIdeal [hKernelNctxIdeal : Cert.KernelNctxIdeal.Facts] : Prop :=
  ∀ (m : (ℓ : Loc Cert.KernelNctxIdeal.nD Cert.KernelNctxIdeal.τ Cert.KernelNctxIdeal.sig) → Buf (Elt Ideal) ℓ) (g : Dev Cert.KernelNctxIdeal.nD → PrngReg), Pre_KernelNctxIdeal m →
    θ_run (Cert.KernelNctxIdeal.defs (F := Ideal)) (onTc (τ := Cert.KernelNctxIdeal.τ) (Cert.KernelNctxIdeal.main (F := Ideal))) ⟨m, fun _ => 0, g⟩ (fun r => (∀ c : Dev Cert.KernelNctxIdeal.nD,
      r.2.mem ((c.tc : Thread Cert.KernelNctxIdeal.nD Cert.KernelNctxIdeal.τ).loc Cert.KernelNctxIdeal.main_arg0) = m ((c.tc : Thread Cert.KernelNctxIdeal.nD Cert.KernelNctxIdeal.τ).loc Cert.KernelNctxIdeal.main_arg0)
      ∧ r.2.mem ((c.tc : Thread Cert.KernelNctxIdeal.nD Cert.KernelNctxIdeal.τ).loc Cert.KernelNctxIdeal.main_arg1) = m ((c.tc : Thread Cert.KernelNctxIdeal.nD Cert.KernelNctxIdeal.τ).loc Cert.KernelNctxIdeal.main_arg1)
      ∧ r.2.mem ((c.tc : Thread Cert.KernelNctxIdeal.nD Cert.KernelNctxIdeal.τ).loc Cert.KernelNctxIdeal.main_arg2) = m ((c.tc : Thread Cert.KernelNctxIdeal.nD Cert.KernelNctxIdeal.τ).loc Cert.KernelNctxIdeal.main_arg2)
      ∧ r.2.mem ((c.tc : Thread Cert.KernelNctxIdeal.nD Cert.KernelNctxIdeal.τ).loc Cert.KernelNctxIdeal.main_arg3) = m ((c.tc : Thread Cert.KernelNctxIdeal.nD Cert.KernelNctxIdeal.τ).loc Cert.KernelNctxIdeal.main_arg3)
      ∧ r.2.mem ((c.tc : Thread Cert.KernelNctxIdeal.nD Cert.KernelNctxIdeal.τ).loc Cert.KernelNctxIdeal.main_arg4) = m ((c.tc : Thread Cert.KernelNctxIdeal.nD Cert.KernelNctxIdeal.τ).loc Cert.KernelNctxIdeal.main_arg4))
      ∧ r.2.sem = fun _ => 0)

def quiescent_ReferenceNctxIdeal [hReferenceNctxIdeal : Cert.ReferenceNctxIdeal.Facts] : Prop :=
  ∀ (m : (ℓ : Loc Cert.ReferenceNctxIdeal.nD Cert.ReferenceNctxIdeal.τ Cert.ReferenceNctxIdeal.sig) → Buf (Elt Ideal) ℓ) (g : Dev Cert.ReferenceNctxIdeal.nD → PrngReg), Pre_ReferenceNctxIdeal m →
    θ_run (Cert.ReferenceNctxIdeal.defs (F := Ideal)) (onTc (τ := Cert.ReferenceNctxIdeal.τ) (Cert.ReferenceNctxIdeal.main (F := Ideal))) ⟨m, fun _ => 0, g⟩ (fun r => (∀ c : Dev Cert.ReferenceNctxIdeal.nD,
      r.2.mem ((c.tc : Thread Cert.ReferenceNctxIdeal.nD Cert.ReferenceNctxIdeal.τ).loc Cert.ReferenceNctxIdeal.main_arg0) = m ((c.tc : Thread Cert.ReferenceNctxIdeal.nD Cert.ReferenceNctxIdeal.τ).loc Cert.ReferenceNctxIdeal.main_arg0)
      ∧ r.2.mem ((c.tc : Thread Cert.ReferenceNctxIdeal.nD Cert.ReferenceNctxIdeal.τ).loc Cert.ReferenceNctxIdeal.main_arg1) = m ((c.tc : Thread Cert.ReferenceNctxIdeal.nD Cert.ReferenceNctxIdeal.τ).loc Cert.ReferenceNctxIdeal.main_arg1)
      ∧ r.2.mem ((c.tc : Thread Cert.ReferenceNctxIdeal.nD Cert.ReferenceNctxIdeal.τ).loc Cert.ReferenceNctxIdeal.main_arg2) = m ((c.tc : Thread Cert.ReferenceNctxIdeal.nD Cert.ReferenceNctxIdeal.τ).loc Cert.ReferenceNctxIdeal.main_arg2)
      ∧ r.2.mem ((c.tc : Thread Cert.ReferenceNctxIdeal.nD Cert.ReferenceNctxIdeal.τ).loc Cert.ReferenceNctxIdeal.main_arg3) = m ((c.tc : Thread Cert.ReferenceNctxIdeal.nD Cert.ReferenceNctxIdeal.τ).loc Cert.ReferenceNctxIdeal.main_arg3)
      ∧ r.2.mem ((c.tc : Thread Cert.ReferenceNctxIdeal.nD Cert.ReferenceNctxIdeal.τ).loc Cert.ReferenceNctxIdeal.main_arg4) = m ((c.tc : Thread Cert.ReferenceNctxIdeal.nD Cert.ReferenceNctxIdeal.τ).loc Cert.ReferenceNctxIdeal.main_arg4))
      ∧ r.2.sem = fun _ => 0)

def quiescent_KernelConv [hKernelConv : Cert.KernelConv.Facts] : Prop :=
  ∀ (m : (ℓ : Loc Cert.KernelConv.nD Cert.KernelConv.τ Cert.KernelConv.sig) → Buf (Elt Bits) ℓ) (g : Dev Cert.KernelConv.nD → PrngReg), Pre_KernelConv m →
    θ_run (Cert.KernelConv.defs (F := Bits)) (onTc (τ := Cert.KernelConv.τ) (Cert.KernelConv.main (F := Bits))) ⟨m, fun _ => 0, g⟩ (fun r => (∀ c : Dev Cert.KernelConv.nD,
      r.2.mem ((c.tc : Thread Cert.KernelConv.nD Cert.KernelConv.τ).loc Cert.KernelConv.main_arg0) = m ((c.tc : Thread Cert.KernelConv.nD Cert.KernelConv.τ).loc Cert.KernelConv.main_arg0)
      ∧ r.2.mem ((c.tc : Thread Cert.KernelConv.nD Cert.KernelConv.τ).loc Cert.KernelConv.main_arg1) = m ((c.tc : Thread Cert.KernelConv.nD Cert.KernelConv.τ).loc Cert.KernelConv.main_arg1)
      ∧ r.2.mem ((c.tc : Thread Cert.KernelConv.nD Cert.KernelConv.τ).loc Cert.KernelConv.main_arg2) = m ((c.tc : Thread Cert.KernelConv.nD Cert.KernelConv.τ).loc Cert.KernelConv.main_arg2))
      ∧ r.2.sem = fun _ => 0)

def quiescent_KernelConvIdeal [hKernelConvIdeal : Cert.KernelConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg), Pre_KernelConvIdeal m →
    θ_run (Cert.KernelConvIdeal.defs (F := Ideal)) (onTc (τ := Cert.KernelConvIdeal.τ) (Cert.KernelConvIdeal.main (F := Ideal))) ⟨m, fun _ => 0, g⟩ (fun r => (∀ c : Dev Cert.KernelConvIdeal.nD,
      r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
      ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
      ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2))
      ∧ r.2.sem = fun _ => 0)

def quiescent_ReferenceConvIdeal [hReferenceConvIdeal : Cert.ReferenceConvIdeal.Facts] : Prop :=
  ∀ (m : (ℓ : Loc Cert.ReferenceConvIdeal.nD Cert.ReferenceConvIdeal.τ Cert.ReferenceConvIdeal.sig) → Buf (Elt Ideal) ℓ) (g : Dev Cert.ReferenceConvIdeal.nD → PrngReg), Pre_ReferenceConvIdeal m →
    θ_run (Cert.ReferenceConvIdeal.defs (F := Ideal)) (onTc (τ := Cert.ReferenceConvIdeal.τ) (Cert.ReferenceConvIdeal.main (F := Ideal))) ⟨m, fun _ => 0, g⟩ (fun r => (∀ c : Dev Cert.ReferenceConvIdeal.nD,
      r.2.mem ((c.tc : Thread Cert.ReferenceConvIdeal.nD Cert.ReferenceConvIdeal.τ).loc Cert.ReferenceConvIdeal.main_arg0) = m ((c.tc : Thread Cert.ReferenceConvIdeal.nD Cert.ReferenceConvIdeal.τ).loc Cert.ReferenceConvIdeal.main_arg0)
      ∧ r.2.mem ((c.tc : Thread Cert.ReferenceConvIdeal.nD Cert.ReferenceConvIdeal.τ).loc Cert.ReferenceConvIdeal.main_arg1) = m ((c.tc : Thread Cert.ReferenceConvIdeal.nD Cert.ReferenceConvIdeal.τ).loc Cert.ReferenceConvIdeal.main_arg1)
      ∧ r.2.mem ((c.tc : Thread Cert.ReferenceConvIdeal.nD Cert.ReferenceConvIdeal.τ).loc Cert.ReferenceConvIdeal.main_arg2) = m ((c.tc : Thread Cert.ReferenceConvIdeal.nD Cert.ReferenceConvIdeal.τ).loc Cert.ReferenceConvIdeal.main_arg2))
      ∧ r.2.sem = fun _ => 0)

def quiescent_KernelSsum [hKernelSsum : Cert.KernelSsum.Facts] : Prop :=
  ∀ (m : (ℓ : Loc Cert.KernelSsum.nD Cert.KernelSsum.τ Cert.KernelSsum.sig) → Buf (Elt Bits) ℓ) (g : Dev Cert.KernelSsum.nD → PrngReg), Pre_KernelSsum m →
    θ_run (Cert.KernelSsum.defs (F := Bits)) (onTc (τ := Cert.KernelSsum.τ) (Cert.KernelSsum.main (F := Bits))) ⟨m, fun _ => 0, g⟩ (fun r => (∀ c : Dev Cert.KernelSsum.nD,
      r.2.mem ((c.tc : Thread Cert.KernelSsum.nD Cert.KernelSsum.τ).loc Cert.KernelSsum.main_arg0) = m ((c.tc : Thread Cert.KernelSsum.nD Cert.KernelSsum.τ).loc Cert.KernelSsum.main_arg0)
      ∧ r.2.mem ((c.tc : Thread Cert.KernelSsum.nD Cert.KernelSsum.τ).loc Cert.KernelSsum.main_arg1) = m ((c.tc : Thread Cert.KernelSsum.nD Cert.KernelSsum.τ).loc Cert.KernelSsum.main_arg1)
      ∧ r.2.mem ((c.tc : Thread Cert.KernelSsum.nD Cert.KernelSsum.τ).loc Cert.KernelSsum.main_arg2) = m ((c.tc : Thread Cert.KernelSsum.nD Cert.KernelSsum.τ).loc Cert.KernelSsum.main_arg2))
      ∧ r.2.sem = fun _ => 0)

def quiescent_KernelSsumIdeal [hKernelSsumIdeal : Cert.KernelSsumIdeal.Facts] : Prop :=
  ∀ (m : (ℓ : Loc Cert.KernelSsumIdeal.nD Cert.KernelSsumIdeal.τ Cert.KernelSsumIdeal.sig) → Buf (Elt Ideal) ℓ) (g : Dev Cert.KernelSsumIdeal.nD → PrngReg), Pre_KernelSsumIdeal m →
    θ_run (Cert.KernelSsumIdeal.defs (F := Ideal)) (onTc (τ := Cert.KernelSsumIdeal.τ) (Cert.KernelSsumIdeal.main (F := Ideal))) ⟨m, fun _ => 0, g⟩ (fun r => (∀ c : Dev Cert.KernelSsumIdeal.nD,
      r.2.mem ((c.tc : Thread Cert.KernelSsumIdeal.nD Cert.KernelSsumIdeal.τ).loc Cert.KernelSsumIdeal.main_arg0) = m ((c.tc : Thread Cert.KernelSsumIdeal.nD Cert.KernelSsumIdeal.τ).loc Cert.KernelSsumIdeal.main_arg0)
      ∧ r.2.mem ((c.tc : Thread Cert.KernelSsumIdeal.nD Cert.KernelSsumIdeal.τ).loc Cert.KernelSsumIdeal.main_arg1) = m ((c.tc : Thread Cert.KernelSsumIdeal.nD Cert.KernelSsumIdeal.τ).loc Cert.KernelSsumIdeal.main_arg1)
      ∧ r.2.mem ((c.tc : Thread Cert.KernelSsumIdeal.nD Cert.KernelSsumIdeal.τ).loc Cert.KernelSsumIdeal.main_arg2) = m ((c.tc : Thread Cert.KernelSsumIdeal.nD Cert.KernelSsumIdeal.τ).loc Cert.KernelSsumIdeal.main_arg2))
      ∧ r.2.sem = fun _ => 0)

def quiescent_ReferenceSsumIdeal [hReferenceSsumIdeal : Cert.ReferenceSsumIdeal.Facts] : Prop :=
  ∀ (m : (ℓ : Loc Cert.ReferenceSsumIdeal.nD Cert.ReferenceSsumIdeal.τ Cert.ReferenceSsumIdeal.sig) → Buf (Elt Ideal) ℓ) (g : Dev Cert.ReferenceSsumIdeal.nD → PrngReg), Pre_ReferenceSsumIdeal m →
    θ_run (Cert.ReferenceSsumIdeal.defs (F := Ideal)) (onTc (τ := Cert.ReferenceSsumIdeal.τ) (Cert.ReferenceSsumIdeal.main (F := Ideal))) ⟨m, fun _ => 0, g⟩ (fun r => (∀ c : Dev Cert.ReferenceSsumIdeal.nD,
      r.2.mem ((c.tc : Thread Cert.ReferenceSsumIdeal.nD Cert.ReferenceSsumIdeal.τ).loc Cert.ReferenceSsumIdeal.main_arg0) = m ((c.tc : Thread Cert.ReferenceSsumIdeal.nD Cert.ReferenceSsumIdeal.τ).loc Cert.ReferenceSsumIdeal.main_arg0)
      ∧ r.2.mem ((c.tc : Thread Cert.ReferenceSsumIdeal.nD Cert.ReferenceSsumIdeal.τ).loc Cert.ReferenceSsumIdeal.main_arg1) = m ((c.tc : Thread Cert.ReferenceSsumIdeal.nD Cert.ReferenceSsumIdeal.τ).loc Cert.ReferenceSsumIdeal.main_arg1)
      ∧ r.2.mem ((c.tc : Thread Cert.ReferenceSsumIdeal.nD Cert.ReferenceSsumIdeal.τ).loc Cert.ReferenceSsumIdeal.main_arg2) = m ((c.tc : Thread Cert.ReferenceSsumIdeal.nD Cert.ReferenceSsumIdeal.τ).loc Cert.ReferenceSsumIdeal.main_arg2))
      ∧ r.2.sem = fun _ => 0)

def quiescent_KernelNbc [hKernelNbc : Cert.KernelNbc.Facts] : Prop :=
  ∀ (m : (ℓ : Loc Cert.KernelNbc.nD Cert.KernelNbc.τ Cert.KernelNbc.sig) → Buf (Elt Bits) ℓ) (g : Dev Cert.KernelNbc.nD → PrngReg), Pre_KernelNbc m →
    θ_run (Cert.KernelNbc.defs (F := Bits)) (onTc (τ := Cert.KernelNbc.τ) (Cert.KernelNbc.main (F := Bits))) ⟨m, fun _ => 0, g⟩ (fun r => (∀ c : Dev Cert.KernelNbc.nD,
      r.2.mem ((c.tc : Thread Cert.KernelNbc.nD Cert.KernelNbc.τ).loc Cert.KernelNbc.main_arg0) = m ((c.tc : Thread Cert.KernelNbc.nD Cert.KernelNbc.τ).loc Cert.KernelNbc.main_arg0)
      ∧ r.2.mem ((c.tc : Thread Cert.KernelNbc.nD Cert.KernelNbc.τ).loc Cert.KernelNbc.main_arg1) = m ((c.tc : Thread Cert.KernelNbc.nD Cert.KernelNbc.τ).loc Cert.KernelNbc.main_arg1)
      ∧ r.2.mem ((c.tc : Thread Cert.KernelNbc.nD Cert.KernelNbc.τ).loc Cert.KernelNbc.main_arg2) = m ((c.tc : Thread Cert.KernelNbc.nD Cert.KernelNbc.τ).loc Cert.KernelNbc.main_arg2)
      ∧ r.2.mem ((c.tc : Thread Cert.KernelNbc.nD Cert.KernelNbc.τ).loc Cert.KernelNbc.main_arg3) = m ((c.tc : Thread Cert.KernelNbc.nD Cert.KernelNbc.τ).loc Cert.KernelNbc.main_arg3)
      ∧ r.2.mem ((c.tc : Thread Cert.KernelNbc.nD Cert.KernelNbc.τ).loc Cert.KernelNbc.main_arg4) = m ((c.tc : Thread Cert.KernelNbc.nD Cert.KernelNbc.τ).loc Cert.KernelNbc.main_arg4)
      ∧ r.2.mem ((c.tc : Thread Cert.KernelNbc.nD Cert.KernelNbc.τ).loc Cert.KernelNbc.main_arg5) = m ((c.tc : Thread Cert.KernelNbc.nD Cert.KernelNbc.τ).loc Cert.KernelNbc.main_arg5))
      ∧ r.2.sem = fun _ => 0)

def quiescent_KernelNbcIdeal [hKernelNbcIdeal : Cert.KernelNbcIdeal.Facts] : Prop :=
  ∀ (m : (ℓ : Loc Cert.KernelNbcIdeal.nD Cert.KernelNbcIdeal.τ Cert.KernelNbcIdeal.sig) → Buf (Elt Ideal) ℓ) (g : Dev Cert.KernelNbcIdeal.nD → PrngReg), Pre_KernelNbcIdeal m →
    θ_run (Cert.KernelNbcIdeal.defs (F := Ideal)) (onTc (τ := Cert.KernelNbcIdeal.τ) (Cert.KernelNbcIdeal.main (F := Ideal))) ⟨m, fun _ => 0, g⟩ (fun r => (∀ c : Dev Cert.KernelNbcIdeal.nD,
      r.2.mem ((c.tc : Thread Cert.KernelNbcIdeal.nD Cert.KernelNbcIdeal.τ).loc Cert.KernelNbcIdeal.main_arg0) = m ((c.tc : Thread Cert.KernelNbcIdeal.nD Cert.KernelNbcIdeal.τ).loc Cert.KernelNbcIdeal.main_arg0)
      ∧ r.2.mem ((c.tc : Thread Cert.KernelNbcIdeal.nD Cert.KernelNbcIdeal.τ).loc Cert.KernelNbcIdeal.main_arg1) = m ((c.tc : Thread Cert.KernelNbcIdeal.nD Cert.KernelNbcIdeal.τ).loc Cert.KernelNbcIdeal.main_arg1)
      ∧ r.2.mem ((c.tc : Thread Cert.KernelNbcIdeal.nD Cert.KernelNbcIdeal.τ).loc Cert.KernelNbcIdeal.main_arg2) = m ((c.tc : Thread Cert.KernelNbcIdeal.nD Cert.KernelNbcIdeal.τ).loc Cert.KernelNbcIdeal.main_arg2)
      ∧ r.2.mem ((c.tc : Thread Cert.KernelNbcIdeal.nD Cert.KernelNbcIdeal.τ).loc Cert.KernelNbcIdeal.main_arg3) = m ((c.tc : Thread Cert.KernelNbcIdeal.nD Cert.KernelNbcIdeal.τ).loc Cert.KernelNbcIdeal.main_arg3)
      ∧ r.2.mem ((c.tc : Thread Cert.KernelNbcIdeal.nD Cert.KernelNbcIdeal.τ).loc Cert.KernelNbcIdeal.main_arg4) = m ((c.tc : Thread Cert.KernelNbcIdeal.nD Cert.KernelNbcIdeal.τ).loc Cert.KernelNbcIdeal.main_arg4)
      ∧ r.2.mem ((c.tc : Thread Cert.KernelNbcIdeal.nD Cert.KernelNbcIdeal.τ).loc Cert.KernelNbcIdeal.main_arg5) = m ((c.tc : Thread Cert.KernelNbcIdeal.nD Cert.KernelNbcIdeal.τ).loc Cert.KernelNbcIdeal.main_arg5))
      ∧ r.2.sem = fun _ => 0)

def quiescent_ReferenceNbcIdeal [hReferenceNbcIdeal : Cert.ReferenceNbcIdeal.Facts] : Prop :=
  ∀ (m : (ℓ : Loc Cert.ReferenceNbcIdeal.nD Cert.ReferenceNbcIdeal.τ Cert.ReferenceNbcIdeal.sig) → Buf (Elt Ideal) ℓ) (g : Dev Cert.ReferenceNbcIdeal.nD → PrngReg), Pre_ReferenceNbcIdeal m →
    θ_run (Cert.ReferenceNbcIdeal.defs (F := Ideal)) (onTc (τ := Cert.ReferenceNbcIdeal.τ) (Cert.ReferenceNbcIdeal.main (F := Ideal))) ⟨m, fun _ => 0, g⟩ (fun r => (∀ c : Dev Cert.ReferenceNbcIdeal.nD,
      r.2.mem ((c.tc : Thread Cert.ReferenceNbcIdeal.nD Cert.ReferenceNbcIdeal.τ).loc Cert.ReferenceNbcIdeal.main_arg0) = m ((c.tc : Thread Cert.ReferenceNbcIdeal.nD Cert.ReferenceNbcIdeal.τ).loc Cert.ReferenceNbcIdeal.main_arg0)
      ∧ r.2.mem ((c.tc : Thread Cert.ReferenceNbcIdeal.nD Cert.ReferenceNbcIdeal.τ).loc Cert.ReferenceNbcIdeal.main_arg1) = m ((c.tc : Thread Cert.ReferenceNbcIdeal.nD Cert.ReferenceNbcIdeal.τ).loc Cert.ReferenceNbcIdeal.main_arg1)
      ∧ r.2.mem ((c.tc : Thread Cert.ReferenceNbcIdeal.nD Cert.ReferenceNbcIdeal.τ).loc Cert.ReferenceNbcIdeal.main_arg2) = m ((c.tc : Thread Cert.ReferenceNbcIdeal.nD Cert.ReferenceNbcIdeal.τ).loc Cert.ReferenceNbcIdeal.main_arg2)
      ∧ r.2.mem ((c.tc : Thread Cert.ReferenceNbcIdeal.nD Cert.ReferenceNbcIdeal.τ).loc Cert.ReferenceNbcIdeal.main_arg3) = m ((c.tc : Thread Cert.ReferenceNbcIdeal.nD Cert.ReferenceNbcIdeal.τ).loc Cert.ReferenceNbcIdeal.main_arg3)
      ∧ r.2.mem ((c.tc : Thread Cert.ReferenceNbcIdeal.nD Cert.ReferenceNbcIdeal.τ).loc Cert.ReferenceNbcIdeal.main_arg4) = m ((c.tc : Thread Cert.ReferenceNbcIdeal.nD Cert.ReferenceNbcIdeal.τ).loc Cert.ReferenceNbcIdeal.main_arg4)
      ∧ r.2.mem ((c.tc : Thread Cert.ReferenceNbcIdeal.nD Cert.ReferenceNbcIdeal.τ).loc Cert.ReferenceNbcIdeal.main_arg5) = m ((c.tc : Thread Cert.ReferenceNbcIdeal.nD Cert.ReferenceNbcIdeal.τ).loc Cert.ReferenceNbcIdeal.main_arg5))
      ∧ r.2.sem = fun _ => 0)

def quiescent_KernelAfwd [hKernelAfwd : Cert.KernelAfwd.Facts] : Prop :=
  ∀ (m : (ℓ : Loc Cert.KernelAfwd.nD Cert.KernelAfwd.τ Cert.KernelAfwd.sig) → Buf (Elt Bits) ℓ) (g : Dev Cert.KernelAfwd.nD → PrngReg), Pre_KernelAfwd m →
    θ_run (Cert.KernelAfwd.defs (F := Bits)) (onTc (τ := Cert.KernelAfwd.τ) (Cert.KernelAfwd.main (F := Bits))) ⟨m, fun _ => 0, g⟩ (fun r => (∀ c : Dev Cert.KernelAfwd.nD,
      r.2.mem ((c.tc : Thread Cert.KernelAfwd.nD Cert.KernelAfwd.τ).loc Cert.KernelAfwd.main_arg0) = m ((c.tc : Thread Cert.KernelAfwd.nD Cert.KernelAfwd.τ).loc Cert.KernelAfwd.main_arg0)
      ∧ r.2.mem ((c.tc : Thread Cert.KernelAfwd.nD Cert.KernelAfwd.τ).loc Cert.KernelAfwd.main_arg1) = m ((c.tc : Thread Cert.KernelAfwd.nD Cert.KernelAfwd.τ).loc Cert.KernelAfwd.main_arg1)
      ∧ r.2.mem ((c.tc : Thread Cert.KernelAfwd.nD Cert.KernelAfwd.τ).loc Cert.KernelAfwd.main_arg2) = m ((c.tc : Thread Cert.KernelAfwd.nD Cert.KernelAfwd.τ).loc Cert.KernelAfwd.main_arg2))
      ∧ r.2.sem = fun _ => 0)

def quiescent_KernelAfwdIdeal [hKernelAfwdIdeal : Cert.KernelAfwdIdeal.Facts] : Prop :=
  ∀ (m : (ℓ : Loc Cert.KernelAfwdIdeal.nD Cert.KernelAfwdIdeal.τ Cert.KernelAfwdIdeal.sig) → Buf (Elt Ideal) ℓ) (g : Dev Cert.KernelAfwdIdeal.nD → PrngReg), Pre_KernelAfwdIdeal m →
    θ_run (Cert.KernelAfwdIdeal.defs (F := Ideal)) (onTc (τ := Cert.KernelAfwdIdeal.τ) (Cert.KernelAfwdIdeal.main (F := Ideal))) ⟨m, fun _ => 0, g⟩ (fun r => (∀ c : Dev Cert.KernelAfwdIdeal.nD,
      r.2.mem ((c.tc : Thread Cert.KernelAfwdIdeal.nD Cert.KernelAfwdIdeal.τ).loc Cert.KernelAfwdIdeal.main_arg0) = m ((c.tc : Thread Cert.KernelAfwdIdeal.nD Cert.KernelAfwdIdeal.τ).loc Cert.KernelAfwdIdeal.main_arg0)
      ∧ r.2.mem ((c.tc : Thread Cert.KernelAfwdIdeal.nD Cert.KernelAfwdIdeal.τ).loc Cert.KernelAfwdIdeal.main_arg1) = m ((c.tc : Thread Cert.KernelAfwdIdeal.nD Cert.KernelAfwdIdeal.τ).loc Cert.KernelAfwdIdeal.main_arg1)
      ∧ r.2.mem ((c.tc : Thread Cert.KernelAfwdIdeal.nD Cert.KernelAfwdIdeal.τ).loc Cert.KernelAfwdIdeal.main_arg2) = m ((c.tc : Thread Cert.KernelAfwdIdeal.nD Cert.KernelAfwdIdeal.τ).loc Cert.KernelAfwdIdeal.main_arg2))
      ∧ r.2.sem = fun _ => 0)

def quiescent_ReferenceAfwdIdeal [hReferenceAfwdIdeal : Cert.ReferenceAfwdIdeal.Facts] : Prop :=
  ∀ (m : (ℓ : Loc Cert.ReferenceAfwdIdeal.nD Cert.ReferenceAfwdIdeal.τ Cert.ReferenceAfwdIdeal.sig) → Buf (Elt Ideal) ℓ) (g : Dev Cert.ReferenceAfwdIdeal.nD → PrngReg), Pre_ReferenceAfwdIdeal m →
    θ_run (Cert.ReferenceAfwdIdeal.defs (F := Ideal)) (onTc (τ := Cert.ReferenceAfwdIdeal.τ) (Cert.ReferenceAfwdIdeal.main (F := Ideal))) ⟨m, fun _ => 0, g⟩ (fun r => (∀ c : Dev Cert.ReferenceAfwdIdeal.nD,
      r.2.mem ((c.tc : Thread Cert.ReferenceAfwdIdeal.nD Cert.ReferenceAfwdIdeal.τ).loc Cert.ReferenceAfwdIdeal.main_arg0) = m ((c.tc : Thread Cert.ReferenceAfwdIdeal.nD Cert.ReferenceAfwdIdeal.τ).loc Cert.ReferenceAfwdIdeal.main_arg0)
      ∧ r.2.mem ((c.tc : Thread Cert.ReferenceAfwdIdeal.nD Cert.ReferenceAfwdIdeal.τ).loc Cert.ReferenceAfwdIdeal.main_arg1) = m ((c.tc : Thread Cert.ReferenceAfwdIdeal.nD Cert.ReferenceAfwdIdeal.τ).loc Cert.ReferenceAfwdIdeal.main_arg1)
      ∧ r.2.mem ((c.tc : Thread Cert.ReferenceAfwdIdeal.nD Cert.ReferenceAfwdIdeal.τ).loc Cert.ReferenceAfwdIdeal.main_arg2) = m ((c.tc : Thread Cert.ReferenceAfwdIdeal.nD Cert.ReferenceAfwdIdeal.τ).loc Cert.ReferenceAfwdIdeal.main_arg2))
      ∧ r.2.sem = fun _ => 0)

def quiescent_KernelAbwd [hKernelAbwd : Cert.KernelAbwd.Facts] : Prop :=
  ∀ (m : (ℓ : Loc Cert.KernelAbwd.nD Cert.KernelAbwd.τ Cert.KernelAbwd.sig) → Buf (Elt Bits) ℓ) (g : Dev Cert.KernelAbwd.nD → PrngReg), Pre_KernelAbwd m →
    θ_run (Cert.KernelAbwd.defs (F := Bits)) (onTc (τ := Cert.KernelAbwd.τ) (Cert.KernelAbwd.main (F := Bits))) ⟨m, fun _ => 0, g⟩ (fun r => (∀ c : Dev Cert.KernelAbwd.nD,
      r.2.mem ((c.tc : Thread Cert.KernelAbwd.nD Cert.KernelAbwd.τ).loc Cert.KernelAbwd.main_arg0) = m ((c.tc : Thread Cert.KernelAbwd.nD Cert.KernelAbwd.τ).loc Cert.KernelAbwd.main_arg0)
      ∧ r.2.mem ((c.tc : Thread Cert.KernelAbwd.nD Cert.KernelAbwd.τ).loc Cert.KernelAbwd.main_arg1) = m ((c.tc : Thread Cert.KernelAbwd.nD Cert.KernelAbwd.τ).loc Cert.KernelAbwd.main_arg1)
      ∧ r.2.mem ((c.tc : Thread Cert.KernelAbwd.nD Cert.KernelAbwd.τ).loc Cert.KernelAbwd.main_arg2) = m ((c.tc : Thread Cert.KernelAbwd.nD Cert.KernelAbwd.τ).loc Cert.KernelAbwd.main_arg2)
      ∧ r.2.mem ((c.tc : Thread Cert.KernelAbwd.nD Cert.KernelAbwd.τ).loc Cert.KernelAbwd.main_arg3) = m ((c.tc : Thread Cert.KernelAbwd.nD Cert.KernelAbwd.τ).loc Cert.KernelAbwd.main_arg3)
      ∧ r.2.mem ((c.tc : Thread Cert.KernelAbwd.nD Cert.KernelAbwd.τ).loc Cert.KernelAbwd.main_arg4) = m ((c.tc : Thread Cert.KernelAbwd.nD Cert.KernelAbwd.τ).loc Cert.KernelAbwd.main_arg4)
      ∧ r.2.mem ((c.tc : Thread Cert.KernelAbwd.nD Cert.KernelAbwd.τ).loc Cert.KernelAbwd.main_arg5) = m ((c.tc : Thread Cert.KernelAbwd.nD Cert.KernelAbwd.τ).loc Cert.KernelAbwd.main_arg5))
      ∧ r.2.sem = fun _ => 0)

def quiescent_KernelAbwdIdeal [hKernelAbwdIdeal : Cert.KernelAbwdIdeal.Facts] : Prop :=
  ∀ (m : (ℓ : Loc Cert.KernelAbwdIdeal.nD Cert.KernelAbwdIdeal.τ Cert.KernelAbwdIdeal.sig) → Buf (Elt Ideal) ℓ) (g : Dev Cert.KernelAbwdIdeal.nD → PrngReg), Pre_KernelAbwdIdeal m →
    θ_run (Cert.KernelAbwdIdeal.defs (F := Ideal)) (onTc (τ := Cert.KernelAbwdIdeal.τ) (Cert.KernelAbwdIdeal.main (F := Ideal))) ⟨m, fun _ => 0, g⟩ (fun r => (∀ c : Dev Cert.KernelAbwdIdeal.nD,
      r.2.mem ((c.tc : Thread Cert.KernelAbwdIdeal.nD Cert.KernelAbwdIdeal.τ).loc Cert.KernelAbwdIdeal.main_arg0) = m ((c.tc : Thread Cert.KernelAbwdIdeal.nD Cert.KernelAbwdIdeal.τ).loc Cert.KernelAbwdIdeal.main_arg0)
      ∧ r.2.mem ((c.tc : Thread Cert.KernelAbwdIdeal.nD Cert.KernelAbwdIdeal.τ).loc Cert.KernelAbwdIdeal.main_arg1) = m ((c.tc : Thread Cert.KernelAbwdIdeal.nD Cert.KernelAbwdIdeal.τ).loc Cert.KernelAbwdIdeal.main_arg1)
      ∧ r.2.mem ((c.tc : Thread Cert.KernelAbwdIdeal.nD Cert.KernelAbwdIdeal.τ).loc Cert.KernelAbwdIdeal.main_arg2) = m ((c.tc : Thread Cert.KernelAbwdIdeal.nD Cert.KernelAbwdIdeal.τ).loc Cert.KernelAbwdIdeal.main_arg2)
      ∧ r.2.mem ((c.tc : Thread Cert.KernelAbwdIdeal.nD Cert.KernelAbwdIdeal.τ).loc Cert.KernelAbwdIdeal.main_arg3) = m ((c.tc : Thread Cert.KernelAbwdIdeal.nD Cert.KernelAbwdIdeal.τ).loc Cert.KernelAbwdIdeal.main_arg3)
      ∧ r.2.mem ((c.tc : Thread Cert.KernelAbwdIdeal.nD Cert.KernelAbwdIdeal.τ).loc Cert.KernelAbwdIdeal.main_arg4) = m ((c.tc : Thread Cert.KernelAbwdIdeal.nD Cert.KernelAbwdIdeal.τ).loc Cert.KernelAbwdIdeal.main_arg4)
      ∧ r.2.mem ((c.tc : Thread Cert.KernelAbwdIdeal.nD Cert.KernelAbwdIdeal.τ).loc Cert.KernelAbwdIdeal.main_arg5) = m ((c.tc : Thread Cert.KernelAbwdIdeal.nD Cert.KernelAbwdIdeal.τ).loc Cert.KernelAbwdIdeal.main_arg5))
      ∧ r.2.sem = fun _ => 0)

def quiescent_ReferenceAbwdIdeal [hReferenceAbwdIdeal : Cert.ReferenceAbwdIdeal.Facts] : Prop :=
  ∀ (m : (ℓ : Loc Cert.ReferenceAbwdIdeal.nD Cert.ReferenceAbwdIdeal.τ Cert.ReferenceAbwdIdeal.sig) → Buf (Elt Ideal) ℓ) (g : Dev Cert.ReferenceAbwdIdeal.nD → PrngReg), Pre_ReferenceAbwdIdeal m →
    θ_run (Cert.ReferenceAbwdIdeal.defs (F := Ideal)) (onTc (τ := Cert.ReferenceAbwdIdeal.τ) (Cert.ReferenceAbwdIdeal.main (F := Ideal))) ⟨m, fun _ => 0, g⟩ (fun r => (∀ c : Dev Cert.ReferenceAbwdIdeal.nD,
      r.2.mem ((c.tc : Thread Cert.ReferenceAbwdIdeal.nD Cert.ReferenceAbwdIdeal.τ).loc Cert.ReferenceAbwdIdeal.main_arg0) = m ((c.tc : Thread Cert.ReferenceAbwdIdeal.nD Cert.ReferenceAbwdIdeal.τ).loc Cert.ReferenceAbwdIdeal.main_arg0)
      ∧ r.2.mem ((c.tc : Thread Cert.ReferenceAbwdIdeal.nD Cert.ReferenceAbwdIdeal.τ).loc Cert.ReferenceAbwdIdeal.main_arg1) = m ((c.tc : Thread Cert.ReferenceAbwdIdeal.nD Cert.ReferenceAbwdIdeal.τ).loc Cert.ReferenceAbwdIdeal.main_arg1)
      ∧ r.2.mem ((c.tc : Thread Cert.ReferenceAbwdIdeal.nD Cert.ReferenceAbwdIdeal.τ).loc Cert.ReferenceAbwdIdeal.main_arg2) = m ((c.tc : Thread Cert.ReferenceAbwdIdeal.nD Cert.ReferenceAbwdIdeal.τ).loc Cert.ReferenceAbwdIdeal.main_arg2)
      ∧ r.2.mem ((c.tc : Thread Cert.ReferenceAbwdIdeal.nD Cert.ReferenceAbwdIdeal.τ).loc Cert.ReferenceAbwdIdeal.main_arg3) = m ((c.tc : Thread Cert.ReferenceAbwdIdeal.nD Cert.ReferenceAbwdIdeal.τ).loc Cert.ReferenceAbwdIdeal.main_arg3)
      ∧ r.2.mem ((c.tc : Thread Cert.ReferenceAbwdIdeal.nD Cert.ReferenceAbwdIdeal.τ).loc Cert.ReferenceAbwdIdeal.main_arg4) = m ((c.tc : Thread Cert.ReferenceAbwdIdeal.nD Cert.ReferenceAbwdIdeal.τ).loc Cert.ReferenceAbwdIdeal.main_arg4)
      ∧ r.2.mem ((c.tc : Thread Cert.ReferenceAbwdIdeal.nD Cert.ReferenceAbwdIdeal.τ).loc Cert.ReferenceAbwdIdeal.main_arg5) = m ((c.tc : Thread Cert.ReferenceAbwdIdeal.nD Cert.ReferenceAbwdIdeal.τ).loc Cert.ReferenceAbwdIdeal.main_arg5))
      ∧ r.2.sem = fun _ => 0)

def preserves_Kernel_KernelIdeal : Prop :=
  True

def algebraic_KernelIdeal_ReferenceIdeal_pre_gates_finite [hKernelIdeal : Cert.KernelIdeal.Facts] [hReferenceIdeal : Cert.ReferenceIdeal.Facts] [hPre_gates_finite : Cert.Pre_gates_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gates_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)) (v5 : (c : Dev Cert.KernelIdeal.nD) → Buf (Elt Ideal) ((c.tc : Thread Cert.KernelIdeal.nD Cert.KernelIdeal.τ).loc Cert.KernelIdeal.main_v2_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_v2_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v229) = v0 c
          ∧ r.2.mem ((c.tc : Thread Cert.ReferenceIdeal.nD Cert.ReferenceIdeal.τ).loc Cert.ReferenceIdeal.main_v230) = v1 c
          ∧ r.2.mem ((c.tc : Thread Cert.ReferenceIdeal.nD Cert.ReferenceIdeal.τ).loc Cert.ReferenceIdeal.main_v231) = v2 c
          ∧ r.2.mem ((c.tc : Thread Cert.ReferenceIdeal.nD Cert.ReferenceIdeal.τ).loc Cert.ReferenceIdeal.main_v221) = v3 c
          ∧ r.2.mem ((c.tc : Thread Cert.ReferenceIdeal.nD Cert.ReferenceIdeal.τ).loc Cert.ReferenceIdeal.main_v215) = v4 c
          ∧ r.2.mem ((c.tc : Thread Cert.ReferenceIdeal.nD Cert.ReferenceIdeal.τ).loc Cert.ReferenceIdeal.main_v227) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_KernelDh_KernelDhIdeal : Prop :=
  True

def algebraic_KernelDhIdeal_ReferenceDhIdeal [hKernelDhIdeal : Cert.KernelDhIdeal.Facts] [hReferenceDhIdeal : Cert.ReferenceDhIdeal.Facts] : Prop :=
  ∀ (m : (ℓ : Loc Cert.KernelDhIdeal.nD Cert.KernelDhIdeal.τ Cert.KernelDhIdeal.sig) → Buf (Elt Ideal) ℓ) (g : Dev Cert.KernelDhIdeal.nD → PrngReg)
    (m' : (ℓ : Loc Cert.ReferenceDhIdeal.nD Cert.ReferenceDhIdeal.τ Cert.ReferenceDhIdeal.sig) → Buf (Elt Ideal) ℓ) (g' : Dev Cert.ReferenceDhIdeal.nD → PrngReg), Pre_KernelDhIdeal m →
    (∀ c : Dev Cert.KernelDhIdeal.nD,
      m' ((c.tc : Thread Cert.ReferenceDhIdeal.nD Cert.ReferenceDhIdeal.τ).loc Cert.ReferenceDhIdeal.main_arg0) = m ((c.tc : Thread Cert.KernelDhIdeal.nD Cert.KernelDhIdeal.τ).loc Cert.KernelDhIdeal.main_arg0)
      ∧ m' ((c.tc : Thread Cert.ReferenceDhIdeal.nD Cert.ReferenceDhIdeal.τ).loc Cert.ReferenceDhIdeal.main_arg1) = m ((c.tc : Thread Cert.KernelDhIdeal.nD Cert.KernelDhIdeal.τ).loc Cert.KernelDhIdeal.main_arg1)
      ∧ m' ((c.tc : Thread Cert.ReferenceDhIdeal.nD Cert.ReferenceDhIdeal.τ).loc Cert.ReferenceDhIdeal.main_arg2) = m ((c.tc : Thread Cert.KernelDhIdeal.nD Cert.KernelDhIdeal.τ).loc Cert.KernelDhIdeal.main_arg2)) →
    ∃ (v0 : (c : Dev Cert.KernelDhIdeal.nD) → Buf (Elt Ideal) ((c.tc : Thread Cert.KernelDhIdeal.nD Cert.KernelDhIdeal.τ).loc Cert.KernelDhIdeal.main_v22)),
      θ_run (Cert.KernelDhIdeal.defs (F := Ideal)) (onTc (τ := Cert.KernelDhIdeal.τ) (Cert.KernelDhIdeal.main (F := Ideal))) ⟨m, fun _ => 0, g⟩ (fun r => ∀ c : Dev Cert.KernelDhIdeal.nD,
          r.2.mem ((c.tc : Thread Cert.KernelDhIdeal.nD Cert.KernelDhIdeal.τ).loc Cert.KernelDhIdeal.main_v22) = v0 c
          ∧ r.2.mem ((c.tc : Thread Cert.KernelDhIdeal.nD Cert.KernelDhIdeal.τ).loc Cert.KernelDhIdeal.main_arg0) = m ((c.tc : Thread Cert.KernelDhIdeal.nD Cert.KernelDhIdeal.τ).loc Cert.KernelDhIdeal.main_arg0)
          ∧ r.2.mem ((c.tc : Thread Cert.KernelDhIdeal.nD Cert.KernelDhIdeal.τ).loc Cert.KernelDhIdeal.main_arg1) = m ((c.tc : Thread Cert.KernelDhIdeal.nD Cert.KernelDhIdeal.τ).loc Cert.KernelDhIdeal.main_arg1)
          ∧ r.2.mem ((c.tc : Thread Cert.KernelDhIdeal.nD Cert.KernelDhIdeal.τ).loc Cert.KernelDhIdeal.main_arg2) = m ((c.tc : Thread Cert.KernelDhIdeal.nD Cert.KernelDhIdeal.τ).loc Cert.KernelDhIdeal.main_arg2))
      ∧ θ_run (Cert.ReferenceDhIdeal.defs (F := Ideal)) (onTc (τ := Cert.ReferenceDhIdeal.τ) (Cert.ReferenceDhIdeal.main (F := Ideal))) ⟨m', fun _ => 0, g'⟩ (fun r => ∀ c : Dev Cert.ReferenceDhIdeal.nD,
          r.2.mem ((c.tc : Thread Cert.ReferenceDhIdeal.nD Cert.ReferenceDhIdeal.τ).loc Cert.ReferenceDhIdeal.main_v3) = v0 c
          ∧ r.2.mem ((c.tc : Thread Cert.ReferenceDhIdeal.nD Cert.ReferenceDhIdeal.τ).loc Cert.ReferenceDhIdeal.main_arg0) = m' ((c.tc : Thread Cert.ReferenceDhIdeal.nD Cert.ReferenceDhIdeal.τ).loc Cert.ReferenceDhIdeal.main_arg0)
          ∧ r.2.mem ((c.tc : Thread Cert.ReferenceDhIdeal.nD Cert.ReferenceDhIdeal.τ).loc Cert.ReferenceDhIdeal.main_arg1) = m' ((c.tc : Thread Cert.ReferenceDhIdeal.nD Cert.ReferenceDhIdeal.τ).loc Cert.ReferenceDhIdeal.main_arg1)
          ∧ r.2.mem ((c.tc : Thread Cert.ReferenceDhIdeal.nD Cert.ReferenceDhIdeal.τ).loc Cert.ReferenceDhIdeal.main_arg2) = m' ((c.tc : Thread Cert.ReferenceDhIdeal.nD Cert.ReferenceDhIdeal.τ).loc Cert.ReferenceDhIdeal.main_arg2))

def preserves_KernelGwin0_KernelGwin0Ideal : Prop :=
  True

def algebraic_KernelGwin0Ideal_ReferenceGwin0Ideal [hKernelGwin0Ideal : Cert.KernelGwin0Ideal.Facts] [hReferenceGwin0Ideal : Cert.ReferenceGwin0Ideal.Facts] : Prop :=
  ∀ (m : (ℓ : Loc Cert.KernelGwin0Ideal.nD Cert.KernelGwin0Ideal.τ Cert.KernelGwin0Ideal.sig) → Buf (Elt Ideal) ℓ) (g : Dev Cert.KernelGwin0Ideal.nD → PrngReg)
    (m' : (ℓ : Loc Cert.ReferenceGwin0Ideal.nD Cert.ReferenceGwin0Ideal.τ Cert.ReferenceGwin0Ideal.sig) → Buf (Elt Ideal) ℓ) (g' : Dev Cert.ReferenceGwin0Ideal.nD → PrngReg), Pre_KernelGwin0Ideal m →
    (∀ c : Dev Cert.KernelGwin0Ideal.nD,
      m' ((c.tc : Thread Cert.ReferenceGwin0Ideal.nD Cert.ReferenceGwin0Ideal.τ).loc Cert.ReferenceGwin0Ideal.main_arg0) = m ((c.tc : Thread Cert.KernelGwin0Ideal.nD Cert.KernelGwin0Ideal.τ).loc Cert.KernelGwin0Ideal.main_arg0)
      ∧ m' ((c.tc : Thread Cert.ReferenceGwin0Ideal.nD Cert.ReferenceGwin0Ideal.τ).loc Cert.ReferenceGwin0Ideal.main_arg1) = m ((c.tc : Thread Cert.KernelGwin0Ideal.nD Cert.KernelGwin0Ideal.τ).loc Cert.KernelGwin0Ideal.main_arg1)
      ∧ m' ((c.tc : Thread Cert.ReferenceGwin0Ideal.nD Cert.ReferenceGwin0Ideal.τ).loc Cert.ReferenceGwin0Ideal.main_arg2) = m ((c.tc : Thread Cert.KernelGwin0Ideal.nD Cert.KernelGwin0Ideal.τ).loc Cert.KernelGwin0Ideal.main_arg2)) →
    ∃ (v0 : (c : Dev Cert.KernelGwin0Ideal.nD) → Buf (Elt Ideal) ((c.tc : Thread Cert.KernelGwin0Ideal.nD Cert.KernelGwin0Ideal.τ).loc Cert.KernelGwin0Ideal.main_v3)),
      θ_run (Cert.KernelGwin0Ideal.defs (F := Ideal)) (onTc (τ := Cert.KernelGwin0Ideal.τ) (Cert.KernelGwin0Ideal.main (F := Ideal))) ⟨m, fun _ => 0, g⟩ (fun r => ∀ c : Dev Cert.KernelGwin0Ideal.nD,
          r.2.mem ((c.tc : Thread Cert.KernelGwin0Ideal.nD Cert.KernelGwin0Ideal.τ).loc Cert.KernelGwin0Ideal.main_v3) = v0 c
          ∧ r.2.mem ((c.tc : Thread Cert.KernelGwin0Ideal.nD Cert.KernelGwin0Ideal.τ).loc Cert.KernelGwin0Ideal.main_arg0) = m ((c.tc : Thread Cert.KernelGwin0Ideal.nD Cert.KernelGwin0Ideal.τ).loc Cert.KernelGwin0Ideal.main_arg0)
          ∧ r.2.mem ((c.tc : Thread Cert.KernelGwin0Ideal.nD Cert.KernelGwin0Ideal.τ).loc Cert.KernelGwin0Ideal.main_arg1) = m ((c.tc : Thread Cert.KernelGwin0Ideal.nD Cert.KernelGwin0Ideal.τ).loc Cert.KernelGwin0Ideal.main_arg1)
          ∧ r.2.mem ((c.tc : Thread Cert.KernelGwin0Ideal.nD Cert.KernelGwin0Ideal.τ).loc Cert.KernelGwin0Ideal.main_arg2) = m ((c.tc : Thread Cert.KernelGwin0Ideal.nD Cert.KernelGwin0Ideal.τ).loc Cert.KernelGwin0Ideal.main_arg2))
      ∧ θ_run (Cert.ReferenceGwin0Ideal.defs (F := Ideal)) (onTc (τ := Cert.ReferenceGwin0Ideal.τ) (Cert.ReferenceGwin0Ideal.main (F := Ideal))) ⟨m', fun _ => 0, g'⟩ (fun r => ∀ c : Dev Cert.ReferenceGwin0Ideal.nD,
          r.2.mem ((c.tc : Thread Cert.ReferenceGwin0Ideal.nD Cert.ReferenceGwin0Ideal.τ).loc Cert.ReferenceGwin0Ideal.main_v7) = v0 c
          ∧ r.2.mem ((c.tc : Thread Cert.ReferenceGwin0Ideal.nD Cert.ReferenceGwin0Ideal.τ).loc Cert.ReferenceGwin0Ideal.main_arg0) = m' ((c.tc : Thread Cert.ReferenceGwin0Ideal.nD Cert.ReferenceGwin0Ideal.τ).loc Cert.ReferenceGwin0Ideal.main_arg0)
          ∧ r.2.mem ((c.tc : Thread Cert.ReferenceGwin0Ideal.nD Cert.ReferenceGwin0Ideal.τ).loc Cert.ReferenceGwin0Ideal.main_arg1) = m' ((c.tc : Thread Cert.ReferenceGwin0Ideal.nD Cert.ReferenceGwin0Ideal.τ).loc Cert.ReferenceGwin0Ideal.main_arg1)
          ∧ r.2.mem ((c.tc : Thread Cert.ReferenceGwin0Ideal.nD Cert.ReferenceGwin0Ideal.τ).loc Cert.ReferenceGwin0Ideal.main_arg2) = m' ((c.tc : Thread Cert.ReferenceGwin0Ideal.nD Cert.ReferenceGwin0Ideal.τ).loc Cert.ReferenceGwin0Ideal.main_arg2))

def preserves_KernelGwin1_KernelGwin1Ideal : Prop :=
  True

def algebraic_KernelGwin1Ideal_ReferenceGwin1Ideal [hKernelGwin1Ideal : Cert.KernelGwin1Ideal.Facts] [hReferenceGwin1Ideal : Cert.ReferenceGwin1Ideal.Facts] : Prop :=
  ∀ (m : (ℓ : Loc Cert.KernelGwin1Ideal.nD Cert.KernelGwin1Ideal.τ Cert.KernelGwin1Ideal.sig) → Buf (Elt Ideal) ℓ) (g : Dev Cert.KernelGwin1Ideal.nD → PrngReg)
    (m' : (ℓ : Loc Cert.ReferenceGwin1Ideal.nD Cert.ReferenceGwin1Ideal.τ Cert.ReferenceGwin1Ideal.sig) → Buf (Elt Ideal) ℓ) (g' : Dev Cert.ReferenceGwin1Ideal.nD → PrngReg), Pre_KernelGwin1Ideal m →
    (∀ c : Dev Cert.KernelGwin1Ideal.nD,
      m' ((c.tc : Thread Cert.ReferenceGwin1Ideal.nD Cert.ReferenceGwin1Ideal.τ).loc Cert.ReferenceGwin1Ideal.main_arg0) = m ((c.tc : Thread Cert.KernelGwin1Ideal.nD Cert.KernelGwin1Ideal.τ).loc Cert.KernelGwin1Ideal.main_arg0)
      ∧ m' ((c.tc : Thread Cert.ReferenceGwin1Ideal.nD Cert.ReferenceGwin1Ideal.τ).loc Cert.ReferenceGwin1Ideal.main_arg1) = m ((c.tc : Thread Cert.KernelGwin1Ideal.nD Cert.KernelGwin1Ideal.τ).loc Cert.KernelGwin1Ideal.main_arg1)
      ∧ m' ((c.tc : Thread Cert.ReferenceGwin1Ideal.nD Cert.ReferenceGwin1Ideal.τ).loc Cert.ReferenceGwin1Ideal.main_arg2) = m ((c.tc : Thread Cert.KernelGwin1Ideal.nD Cert.KernelGwin1Ideal.τ).loc Cert.KernelGwin1Ideal.main_arg2)) →
    ∃ (v0 : (c : Dev Cert.KernelGwin1Ideal.nD) → Buf (Elt Ideal) ((c.tc : Thread Cert.KernelGwin1Ideal.nD Cert.KernelGwin1Ideal.τ).loc Cert.KernelGwin1Ideal.main_v4)),
      θ_run (Cert.KernelGwin1Ideal.defs (F := Ideal)) (onTc (τ := Cert.KernelGwin1Ideal.τ) (Cert.KernelGwin1Ideal.main (F := Ideal))) ⟨m, fun _ => 0, g⟩ (fun r => ∀ c : Dev Cert.KernelGwin1Ideal.nD,
          r.2.mem ((c.tc : Thread Cert.KernelGwin1Ideal.nD Cert.KernelGwin1Ideal.τ).loc Cert.KernelGwin1Ideal.main_v4) = v0 c
          ∧ r.2.mem ((c.tc : Thread Cert.KernelGwin1Ideal.nD Cert.KernelGwin1Ideal.τ).loc Cert.KernelGwin1Ideal.main_arg0) = m ((c.tc : Thread Cert.KernelGwin1Ideal.nD Cert.KernelGwin1Ideal.τ).loc Cert.KernelGwin1Ideal.main_arg0)
          ∧ r.2.mem ((c.tc : Thread Cert.KernelGwin1Ideal.nD Cert.KernelGwin1Ideal.τ).loc Cert.KernelGwin1Ideal.main_arg1) = m ((c.tc : Thread Cert.KernelGwin1Ideal.nD Cert.KernelGwin1Ideal.τ).loc Cert.KernelGwin1Ideal.main_arg1)
          ∧ r.2.mem ((c.tc : Thread Cert.KernelGwin1Ideal.nD Cert.KernelGwin1Ideal.τ).loc Cert.KernelGwin1Ideal.main_arg2) = m ((c.tc : Thread Cert.KernelGwin1Ideal.nD Cert.KernelGwin1Ideal.τ).loc Cert.KernelGwin1Ideal.main_arg2))
      ∧ θ_run (Cert.ReferenceGwin1Ideal.defs (F := Ideal)) (onTc (τ := Cert.ReferenceGwin1Ideal.τ) (Cert.ReferenceGwin1Ideal.main (F := Ideal))) ⟨m', fun _ => 0, g'⟩ (fun r => ∀ c : Dev Cert.ReferenceGwin1Ideal.nD,
          r.2.mem ((c.tc : Thread Cert.ReferenceGwin1Ideal.nD Cert.ReferenceGwin1Ideal.τ).loc Cert.ReferenceGwin1Ideal.main_v7) = v0 c
          ∧ r.2.mem ((c.tc : Thread Cert.ReferenceGwin1Ideal.nD Cert.ReferenceGwin1Ideal.τ).loc Cert.ReferenceGwin1Ideal.main_arg0) = m' ((c.tc : Thread Cert.ReferenceGwin1Ideal.nD Cert.ReferenceGwin1Ideal.τ).loc Cert.ReferenceGwin1Ideal.main_arg0)
          ∧ r.2.mem ((c.tc : Thread Cert.ReferenceGwin1Ideal.nD Cert.ReferenceGwin1Ideal.τ).loc Cert.ReferenceGwin1Ideal.main_arg1) = m' ((c.tc : Thread Cert.ReferenceGwin1Ideal.nD Cert.ReferenceGwin1Ideal.τ).loc Cert.ReferenceGwin1Ideal.main_arg1)
          ∧ r.2.mem ((c.tc : Thread Cert.ReferenceGwin1Ideal.nD Cert.ReferenceGwin1Ideal.τ).loc Cert.ReferenceGwin1Ideal.main_arg2) = m' ((c.tc : Thread Cert.ReferenceGwin1Ideal.nD Cert.ReferenceGwin1Ideal.τ).loc Cert.ReferenceGwin1Ideal.main_arg2))

def preserves_KernelGwin2_KernelGwin2Ideal : Prop :=
  True

def algebraic_KernelGwin2Ideal_ReferenceGwin2Ideal [hKernelGwin2Ideal : Cert.KernelGwin2Ideal.Facts] [hReferenceGwin2Ideal : Cert.ReferenceGwin2Ideal.Facts] : Prop :=
  ∀ (m : (ℓ : Loc Cert.KernelGwin2Ideal.nD Cert.KernelGwin2Ideal.τ Cert.KernelGwin2Ideal.sig) → Buf (Elt Ideal) ℓ) (g : Dev Cert.KernelGwin2Ideal.nD → PrngReg)
    (m' : (ℓ : Loc Cert.ReferenceGwin2Ideal.nD Cert.ReferenceGwin2Ideal.τ Cert.ReferenceGwin2Ideal.sig) → Buf (Elt Ideal) ℓ) (g' : Dev Cert.ReferenceGwin2Ideal.nD → PrngReg), Pre_KernelGwin2Ideal m →
    (∀ c : Dev Cert.KernelGwin2Ideal.nD,
      m' ((c.tc : Thread Cert.ReferenceGwin2Ideal.nD Cert.ReferenceGwin2Ideal.τ).loc Cert.ReferenceGwin2Ideal.main_arg0) = m ((c.tc : Thread Cert.KernelGwin2Ideal.nD Cert.KernelGwin2Ideal.τ).loc Cert.KernelGwin2Ideal.main_arg0)
      ∧ m' ((c.tc : Thread Cert.ReferenceGwin2Ideal.nD Cert.ReferenceGwin2Ideal.τ).loc Cert.ReferenceGwin2Ideal.main_arg1) = m ((c.tc : Thread Cert.KernelGwin2Ideal.nD Cert.KernelGwin2Ideal.τ).loc Cert.KernelGwin2Ideal.main_arg1)
      ∧ m' ((c.tc : Thread Cert.ReferenceGwin2Ideal.nD Cert.ReferenceGwin2Ideal.τ).loc Cert.ReferenceGwin2Ideal.main_arg2) = m ((c.tc : Thread Cert.KernelGwin2Ideal.nD Cert.KernelGwin2Ideal.τ).loc Cert.KernelGwin2Ideal.main_arg2)) →
    ∃ (v0 : (c : Dev Cert.KernelGwin2Ideal.nD) → Buf (Elt Ideal) ((c.tc : Thread Cert.KernelGwin2Ideal.nD Cert.KernelGwin2Ideal.τ).loc Cert.KernelGwin2Ideal.main_v4)),
      θ_run (Cert.KernelGwin2Ideal.defs (F := Ideal)) (onTc (τ := Cert.KernelGwin2Ideal.τ) (Cert.KernelGwin2Ideal.main (F := Ideal))) ⟨m, fun _ => 0, g⟩ (fun r => ∀ c : Dev Cert.KernelGwin2Ideal.nD,
          r.2.mem ((c.tc : Thread Cert.KernelGwin2Ideal.nD Cert.KernelGwin2Ideal.τ).loc Cert.KernelGwin2Ideal.main_v4) = v0 c
          ∧ r.2.mem ((c.tc : Thread Cert.KernelGwin2Ideal.nD Cert.KernelGwin2Ideal.τ).loc Cert.KernelGwin2Ideal.main_arg0) = m ((c.tc : Thread Cert.KernelGwin2Ideal.nD Cert.KernelGwin2Ideal.τ).loc Cert.KernelGwin2Ideal.main_arg0)
          ∧ r.2.mem ((c.tc : Thread Cert.KernelGwin2Ideal.nD Cert.KernelGwin2Ideal.τ).loc Cert.KernelGwin2Ideal.main_arg1) = m ((c.tc : Thread Cert.KernelGwin2Ideal.nD Cert.KernelGwin2Ideal.τ).loc Cert.KernelGwin2Ideal.main_arg1)
          ∧ r.2.mem ((c.tc : Thread Cert.KernelGwin2Ideal.nD Cert.KernelGwin2Ideal.τ).loc Cert.KernelGwin2Ideal.main_arg2) = m ((c.tc : Thread Cert.KernelGwin2Ideal.nD Cert.KernelGwin2Ideal.τ).loc Cert.KernelGwin2Ideal.main_arg2))
      ∧ θ_run (Cert.ReferenceGwin2Ideal.defs (F := Ideal)) (onTc (τ := Cert.ReferenceGwin2Ideal.τ) (Cert.ReferenceGwin2Ideal.main (F := Ideal))) ⟨m', fun _ => 0, g'⟩ (fun r => ∀ c : Dev Cert.ReferenceGwin2Ideal.nD,
          r.2.mem ((c.tc : Thread Cert.ReferenceGwin2Ideal.nD Cert.ReferenceGwin2Ideal.τ).loc Cert.ReferenceGwin2Ideal.main_v7) = v0 c
          ∧ r.2.mem ((c.tc : Thread Cert.ReferenceGwin2Ideal.nD Cert.ReferenceGwin2Ideal.τ).loc Cert.ReferenceGwin2Ideal.main_arg0) = m' ((c.tc : Thread Cert.ReferenceGwin2Ideal.nD Cert.ReferenceGwin2Ideal.τ).loc Cert.ReferenceGwin2Ideal.main_arg0)
          ∧ r.2.mem ((c.tc : Thread Cert.ReferenceGwin2Ideal.nD Cert.ReferenceGwin2Ideal.τ).loc Cert.ReferenceGwin2Ideal.main_arg1) = m' ((c.tc : Thread Cert.ReferenceGwin2Ideal.nD Cert.ReferenceGwin2Ideal.τ).loc Cert.ReferenceGwin2Ideal.main_arg1)
          ∧ r.2.mem ((c.tc : Thread Cert.ReferenceGwin2Ideal.nD Cert.ReferenceGwin2Ideal.τ).loc Cert.ReferenceGwin2Ideal.main_arg2) = m' ((c.tc : Thread Cert.ReferenceGwin2Ideal.nD Cert.ReferenceGwin2Ideal.τ).loc Cert.ReferenceGwin2Ideal.main_arg2))

def preserves_KernelGwin3_KernelGwin3Ideal : Prop :=
  True

def algebraic_KernelGwin3Ideal_ReferenceGwin3Ideal [hKernelGwin3Ideal : Cert.KernelGwin3Ideal.Facts] [hReferenceGwin3Ideal : Cert.ReferenceGwin3Ideal.Facts] : Prop :=
  ∀ (m : (ℓ : Loc Cert.KernelGwin3Ideal.nD Cert.KernelGwin3Ideal.τ Cert.KernelGwin3Ideal.sig) → Buf (Elt Ideal) ℓ) (g : Dev Cert.KernelGwin3Ideal.nD → PrngReg)
    (m' : (ℓ : Loc Cert.ReferenceGwin3Ideal.nD Cert.ReferenceGwin3Ideal.τ Cert.ReferenceGwin3Ideal.sig) → Buf (Elt Ideal) ℓ) (g' : Dev Cert.ReferenceGwin3Ideal.nD → PrngReg), Pre_KernelGwin3Ideal m →
    (∀ c : Dev Cert.KernelGwin3Ideal.nD,
      m' ((c.tc : Thread Cert.ReferenceGwin3Ideal.nD Cert.ReferenceGwin3Ideal.τ).loc Cert.ReferenceGwin3Ideal.main_arg0) = m ((c.tc : Thread Cert.KernelGwin3Ideal.nD Cert.KernelGwin3Ideal.τ).loc Cert.KernelGwin3Ideal.main_arg0)
      ∧ m' ((c.tc : Thread Cert.ReferenceGwin3Ideal.nD Cert.ReferenceGwin3Ideal.τ).loc Cert.ReferenceGwin3Ideal.main_arg1) = m ((c.tc : Thread Cert.KernelGwin3Ideal.nD Cert.KernelGwin3Ideal.τ).loc Cert.KernelGwin3Ideal.main_arg1)
      ∧ m' ((c.tc : Thread Cert.ReferenceGwin3Ideal.nD Cert.ReferenceGwin3Ideal.τ).loc Cert.ReferenceGwin3Ideal.main_arg2) = m ((c.tc : Thread Cert.KernelGwin3Ideal.nD Cert.KernelGwin3Ideal.τ).loc Cert.KernelGwin3Ideal.main_arg2)) →
    ∃ (v0 : (c : Dev Cert.KernelGwin3Ideal.nD) → Buf (Elt Ideal) ((c.tc : Thread Cert.KernelGwin3Ideal.nD Cert.KernelGwin3Ideal.τ).loc Cert.KernelGwin3Ideal.main_v4)),
      θ_run (Cert.KernelGwin3Ideal.defs (F := Ideal)) (onTc (τ := Cert.KernelGwin3Ideal.τ) (Cert.KernelGwin3Ideal.main (F := Ideal))) ⟨m, fun _ => 0, g⟩ (fun r => ∀ c : Dev Cert.KernelGwin3Ideal.nD,
          r.2.mem ((c.tc : Thread Cert.KernelGwin3Ideal.nD Cert.KernelGwin3Ideal.τ).loc Cert.KernelGwin3Ideal.main_v4) = v0 c
          ∧ r.2.mem ((c.tc : Thread Cert.KernelGwin3Ideal.nD Cert.KernelGwin3Ideal.τ).loc Cert.KernelGwin3Ideal.main_arg0) = m ((c.tc : Thread Cert.KernelGwin3Ideal.nD Cert.KernelGwin3Ideal.τ).loc Cert.KernelGwin3Ideal.main_arg0)
          ∧ r.2.mem ((c.tc : Thread Cert.KernelGwin3Ideal.nD Cert.KernelGwin3Ideal.τ).loc Cert.KernelGwin3Ideal.main_arg1) = m ((c.tc : Thread Cert.KernelGwin3Ideal.nD Cert.KernelGwin3Ideal.τ).loc Cert.KernelGwin3Ideal.main_arg1)
          ∧ r.2.mem ((c.tc : Thread Cert.KernelGwin3Ideal.nD Cert.KernelGwin3Ideal.τ).loc Cert.KernelGwin3Ideal.main_arg2) = m ((c.tc : Thread Cert.KernelGwin3Ideal.nD Cert.KernelGwin3Ideal.τ).loc Cert.KernelGwin3Ideal.main_arg2))
      ∧ θ_run (Cert.ReferenceGwin3Ideal.defs (F := Ideal)) (onTc (τ := Cert.ReferenceGwin3Ideal.τ) (Cert.ReferenceGwin3Ideal.main (F := Ideal))) ⟨m', fun _ => 0, g'⟩ (fun r => ∀ c : Dev Cert.ReferenceGwin3Ideal.nD,
          r.2.mem ((c.tc : Thread Cert.ReferenceGwin3Ideal.nD Cert.ReferenceGwin3Ideal.τ).loc Cert.ReferenceGwin3Ideal.main_v7) = v0 c
          ∧ r.2.mem ((c.tc : Thread Cert.ReferenceGwin3Ideal.nD Cert.ReferenceGwin3Ideal.τ).loc Cert.ReferenceGwin3Ideal.main_arg0) = m' ((c.tc : Thread Cert.ReferenceGwin3Ideal.nD Cert.ReferenceGwin3Ideal.τ).loc Cert.ReferenceGwin3Ideal.main_arg0)
          ∧ r.2.mem ((c.tc : Thread Cert.ReferenceGwin3Ideal.nD Cert.ReferenceGwin3Ideal.τ).loc Cert.ReferenceGwin3Ideal.main_arg1) = m' ((c.tc : Thread Cert.ReferenceGwin3Ideal.nD Cert.ReferenceGwin3Ideal.τ).loc Cert.ReferenceGwin3Ideal.main_arg1)
          ∧ r.2.mem ((c.tc : Thread Cert.ReferenceGwin3Ideal.nD Cert.ReferenceGwin3Ideal.τ).loc Cert.ReferenceGwin3Ideal.main_arg2) = m' ((c.tc : Thread Cert.ReferenceGwin3Ideal.nD Cert.ReferenceGwin3Ideal.τ).loc Cert.ReferenceGwin3Ideal.main_arg2))

def preserves_KernelDmixed_KernelDmixedIdeal : Prop :=
  True

def algebraic_KernelDmixedIdeal_ReferenceDmixedIdeal [hKernelDmixedIdeal : Cert.KernelDmixedIdeal.Facts] [hReferenceDmixedIdeal : Cert.ReferenceDmixedIdeal.Facts] : Prop :=
  ∀ (m : (ℓ : Loc Cert.KernelDmixedIdeal.nD Cert.KernelDmixedIdeal.τ Cert.KernelDmixedIdeal.sig) → Buf (Elt Ideal) ℓ) (g : Dev Cert.KernelDmixedIdeal.nD → PrngReg)
    (m' : (ℓ : Loc Cert.ReferenceDmixedIdeal.nD Cert.ReferenceDmixedIdeal.τ Cert.ReferenceDmixedIdeal.sig) → Buf (Elt Ideal) ℓ) (g' : Dev Cert.ReferenceDmixedIdeal.nD → PrngReg), Pre_KernelDmixedIdeal m →
    (∀ c : Dev Cert.KernelDmixedIdeal.nD,
      m' ((c.tc : Thread Cert.ReferenceDmixedIdeal.nD Cert.ReferenceDmixedIdeal.τ).loc Cert.ReferenceDmixedIdeal.main_arg0) = m ((c.tc : Thread Cert.KernelDmixedIdeal.nD Cert.KernelDmixedIdeal.τ).loc Cert.KernelDmixedIdeal.main_arg0)
      ∧ m' ((c.tc : Thread Cert.ReferenceDmixedIdeal.nD Cert.ReferenceDmixedIdeal.τ).loc Cert.ReferenceDmixedIdeal.main_arg1) = m ((c.tc : Thread Cert.KernelDmixedIdeal.nD Cert.KernelDmixedIdeal.τ).loc Cert.KernelDmixedIdeal.main_arg1)
      ∧ m' ((c.tc : Thread Cert.ReferenceDmixedIdeal.nD Cert.ReferenceDmixedIdeal.τ).loc Cert.ReferenceDmixedIdeal.main_arg2) = m ((c.tc : Thread Cert.KernelDmixedIdeal.nD Cert.KernelDmixedIdeal.τ).loc Cert.KernelDmixedIdeal.main_arg2)) →
    ∃ (v0 : (c : Dev Cert.KernelDmixedIdeal.nD) → Buf (Elt Ideal) ((c.tc : Thread Cert.KernelDmixedIdeal.nD Cert.KernelDmixedIdeal.τ).loc Cert.KernelDmixedIdeal.main_v2)),
      θ_run (Cert.KernelDmixedIdeal.defs (F := Ideal)) (onTc (τ := Cert.KernelDmixedIdeal.τ) (Cert.KernelDmixedIdeal.main (F := Ideal))) ⟨m, fun _ => 0, g⟩ (fun r => ∀ c : Dev Cert.KernelDmixedIdeal.nD,
          r.2.mem ((c.tc : Thread Cert.KernelDmixedIdeal.nD Cert.KernelDmixedIdeal.τ).loc Cert.KernelDmixedIdeal.main_v2) = v0 c
          ∧ r.2.mem ((c.tc : Thread Cert.KernelDmixedIdeal.nD Cert.KernelDmixedIdeal.τ).loc Cert.KernelDmixedIdeal.main_arg0) = m ((c.tc : Thread Cert.KernelDmixedIdeal.nD Cert.KernelDmixedIdeal.τ).loc Cert.KernelDmixedIdeal.main_arg0)
          ∧ r.2.mem ((c.tc : Thread Cert.KernelDmixedIdeal.nD Cert.KernelDmixedIdeal.τ).loc Cert.KernelDmixedIdeal.main_arg1) = m ((c.tc : Thread Cert.KernelDmixedIdeal.nD Cert.KernelDmixedIdeal.τ).loc Cert.KernelDmixedIdeal.main_arg1)
          ∧ r.2.mem ((c.tc : Thread Cert.KernelDmixedIdeal.nD Cert.KernelDmixedIdeal.τ).loc Cert.KernelDmixedIdeal.main_arg2) = m ((c.tc : Thread Cert.KernelDmixedIdeal.nD Cert.KernelDmixedIdeal.τ).loc Cert.KernelDmixedIdeal.main_arg2))
      ∧ θ_run (Cert.ReferenceDmixedIdeal.defs (F := Ideal)) (onTc (τ := Cert.ReferenceDmixedIdeal.τ) (Cert.ReferenceDmixedIdeal.main (F := Ideal))) ⟨m', fun _ => 0, g'⟩ (fun r => ∀ c : Dev Cert.ReferenceDmixedIdeal.nD,
          r.2.mem ((c.tc : Thread Cert.ReferenceDmixedIdeal.nD Cert.ReferenceDmixedIdeal.τ).loc Cert.ReferenceDmixedIdeal.main_v3) = v0 c
          ∧ r.2.mem ((c.tc : Thread Cert.ReferenceDmixedIdeal.nD Cert.ReferenceDmixedIdeal.τ).loc Cert.ReferenceDmixedIdeal.main_arg0) = m' ((c.tc : Thread Cert.ReferenceDmixedIdeal.nD Cert.ReferenceDmixedIdeal.τ).loc Cert.ReferenceDmixedIdeal.main_arg0)
          ∧ r.2.mem ((c.tc : Thread Cert.ReferenceDmixedIdeal.nD Cert.ReferenceDmixedIdeal.τ).loc Cert.ReferenceDmixedIdeal.main_arg1) = m' ((c.tc : Thread Cert.ReferenceDmixedIdeal.nD Cert.ReferenceDmixedIdeal.τ).loc Cert.ReferenceDmixedIdeal.main_arg1)
          ∧ r.2.mem ((c.tc : Thread Cert.ReferenceDmixedIdeal.nD Cert.ReferenceDmixedIdeal.τ).loc Cert.ReferenceDmixedIdeal.main_arg2) = m' ((c.tc : Thread Cert.ReferenceDmixedIdeal.nD Cert.ReferenceDmixedIdeal.τ).loc Cert.ReferenceDmixedIdeal.main_arg2))

def preserves_KernelGwout_KernelGwoutIdeal : Prop :=
  True

def algebraic_KernelGwoutIdeal_ReferenceGwoutIdeal [hKernelGwoutIdeal : Cert.KernelGwoutIdeal.Facts] [hReferenceGwoutIdeal : Cert.ReferenceGwoutIdeal.Facts] : Prop :=
  ∀ (m : (ℓ : Loc Cert.KernelGwoutIdeal.nD Cert.KernelGwoutIdeal.τ Cert.KernelGwoutIdeal.sig) → Buf (Elt Ideal) ℓ) (g : Dev Cert.KernelGwoutIdeal.nD → PrngReg)
    (m' : (ℓ : Loc Cert.ReferenceGwoutIdeal.nD Cert.ReferenceGwoutIdeal.τ Cert.ReferenceGwoutIdeal.sig) → Buf (Elt Ideal) ℓ) (g' : Dev Cert.ReferenceGwoutIdeal.nD → PrngReg), Pre_KernelGwoutIdeal m →
    (∀ c : Dev Cert.KernelGwoutIdeal.nD,
      m' ((c.tc : Thread Cert.ReferenceGwoutIdeal.nD Cert.ReferenceGwoutIdeal.τ).loc Cert.ReferenceGwoutIdeal.main_arg0) = m ((c.tc : Thread Cert.KernelGwoutIdeal.nD Cert.KernelGwoutIdeal.τ).loc Cert.KernelGwoutIdeal.main_arg0)
      ∧ m' ((c.tc : Thread Cert.ReferenceGwoutIdeal.nD Cert.ReferenceGwoutIdeal.τ).loc Cert.ReferenceGwoutIdeal.main_arg1) = m ((c.tc : Thread Cert.KernelGwoutIdeal.nD Cert.KernelGwoutIdeal.τ).loc Cert.KernelGwoutIdeal.main_arg1)
      ∧ m' ((c.tc : Thread Cert.ReferenceGwoutIdeal.nD Cert.ReferenceGwoutIdeal.τ).loc Cert.ReferenceGwoutIdeal.main_arg2) = m ((c.tc : Thread Cert.KernelGwoutIdeal.nD Cert.KernelGwoutIdeal.τ).loc Cert.KernelGwoutIdeal.main_arg2)) →
    ∃ (v0 : (c : Dev Cert.KernelGwoutIdeal.nD) → Buf (Elt Ideal) ((c.tc : Thread Cert.KernelGwoutIdeal.nD Cert.KernelGwoutIdeal.τ).loc Cert.KernelGwoutIdeal.main_v2)),
      θ_run (Cert.KernelGwoutIdeal.defs (F := Ideal)) (onTc (τ := Cert.KernelGwoutIdeal.τ) (Cert.KernelGwoutIdeal.main (F := Ideal))) ⟨m, fun _ => 0, g⟩ (fun r => ∀ c : Dev Cert.KernelGwoutIdeal.nD,
          r.2.mem ((c.tc : Thread Cert.KernelGwoutIdeal.nD Cert.KernelGwoutIdeal.τ).loc Cert.KernelGwoutIdeal.main_v2) = v0 c
          ∧ r.2.mem ((c.tc : Thread Cert.KernelGwoutIdeal.nD Cert.KernelGwoutIdeal.τ).loc Cert.KernelGwoutIdeal.main_arg0) = m ((c.tc : Thread Cert.KernelGwoutIdeal.nD Cert.KernelGwoutIdeal.τ).loc Cert.KernelGwoutIdeal.main_arg0)
          ∧ r.2.mem ((c.tc : Thread Cert.KernelGwoutIdeal.nD Cert.KernelGwoutIdeal.τ).loc Cert.KernelGwoutIdeal.main_arg1) = m ((c.tc : Thread Cert.KernelGwoutIdeal.nD Cert.KernelGwoutIdeal.τ).loc Cert.KernelGwoutIdeal.main_arg1)
          ∧ r.2.mem ((c.tc : Thread Cert.KernelGwoutIdeal.nD Cert.KernelGwoutIdeal.τ).loc Cert.KernelGwoutIdeal.main_arg2) = m ((c.tc : Thread Cert.KernelGwoutIdeal.nD Cert.KernelGwoutIdeal.τ).loc Cert.KernelGwoutIdeal.main_arg2))
      ∧ θ_run (Cert.ReferenceGwoutIdeal.defs (F := Ideal)) (onTc (τ := Cert.ReferenceGwoutIdeal.τ) (Cert.ReferenceGwoutIdeal.main (F := Ideal))) ⟨m', fun _ => 0, g'⟩ (fun r => ∀ c : Dev Cert.ReferenceGwoutIdeal.nD,
          r.2.mem ((c.tc : Thread Cert.ReferenceGwoutIdeal.nD Cert.ReferenceGwoutIdeal.τ).loc Cert.ReferenceGwoutIdeal.main_v4) = v0 c
          ∧ r.2.mem ((c.tc : Thread Cert.ReferenceGwoutIdeal.nD Cert.ReferenceGwoutIdeal.τ).loc Cert.ReferenceGwoutIdeal.main_arg0) = m' ((c.tc : Thread Cert.ReferenceGwoutIdeal.nD Cert.ReferenceGwoutIdeal.τ).loc Cert.ReferenceGwoutIdeal.main_arg0)
          ∧ r.2.mem ((c.tc : Thread Cert.ReferenceGwoutIdeal.nD Cert.ReferenceGwoutIdeal.τ).loc Cert.ReferenceGwoutIdeal.main_arg1) = m' ((c.tc : Thread Cert.ReferenceGwoutIdeal.nD Cert.ReferenceGwoutIdeal.τ).loc Cert.ReferenceGwoutIdeal.main_arg1)
          ∧ r.2.mem ((c.tc : Thread Cert.ReferenceGwoutIdeal.nD Cert.ReferenceGwoutIdeal.τ).loc Cert.ReferenceGwoutIdeal.main_arg2) = m' ((c.tc : Thread Cert.ReferenceGwoutIdeal.nD Cert.ReferenceGwoutIdeal.τ).loc Cert.ReferenceGwoutIdeal.main_arg2))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)) →
    ∃ (v0 : (c : Dev Cert.KernelOutIdeal.nD) → Buf (Elt Ideal) ((c.tc : Thread Cert.KernelOutIdeal.nD Cert.KernelOutIdeal.τ).loc Cert.KernelOutIdeal.main_v2)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v2) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v0) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1))

def preserves_KernelDz_KernelDzIdeal : Prop :=
  True

def algebraic_KernelDzIdeal_ReferenceDzIdeal [hKernelDzIdeal : Cert.KernelDzIdeal.Facts] [hReferenceDzIdeal : Cert.ReferenceDzIdeal.Facts] : Prop :=
  ∀ (m : (ℓ : Loc Cert.KernelDzIdeal.nD Cert.KernelDzIdeal.τ Cert.KernelDzIdeal.sig) → Buf (Elt Ideal) ℓ) (g : Dev Cert.KernelDzIdeal.nD → PrngReg)
    (m' : (ℓ : Loc Cert.ReferenceDzIdeal.nD Cert.ReferenceDzIdeal.τ Cert.ReferenceDzIdeal.sig) → Buf (Elt Ideal) ℓ) (g' : Dev Cert.ReferenceDzIdeal.nD → PrngReg), Pre_KernelDzIdeal m →
    (∀ c : Dev Cert.KernelDzIdeal.nD,
      m' ((c.tc : Thread Cert.ReferenceDzIdeal.nD Cert.ReferenceDzIdeal.τ).loc Cert.ReferenceDzIdeal.main_arg0) = m ((c.tc : Thread Cert.KernelDzIdeal.nD Cert.KernelDzIdeal.τ).loc Cert.KernelDzIdeal.main_arg0)
      ∧ m' ((c.tc : Thread Cert.ReferenceDzIdeal.nD Cert.ReferenceDzIdeal.τ).loc Cert.ReferenceDzIdeal.main_arg1) = m ((c.tc : Thread Cert.KernelDzIdeal.nD Cert.KernelDzIdeal.τ).loc Cert.KernelDzIdeal.main_arg1)
      ∧ m' ((c.tc : Thread Cert.ReferenceDzIdeal.nD Cert.ReferenceDzIdeal.τ).loc Cert.ReferenceDzIdeal.main_arg2) = m ((c.tc : Thread Cert.KernelDzIdeal.nD Cert.KernelDzIdeal.τ).loc Cert.KernelDzIdeal.main_arg2)) →
    ∃ (v0 : (c : Dev Cert.KernelDzIdeal.nD) → Buf (Elt Ideal) ((c.tc : Thread Cert.KernelDzIdeal.nD Cert.KernelDzIdeal.τ).loc Cert.KernelDzIdeal.main_v2)),
      θ_run (Cert.KernelDzIdeal.defs (F := Ideal)) (onTc (τ := Cert.KernelDzIdeal.τ) (Cert.KernelDzIdeal.main (F := Ideal))) ⟨m, fun _ => 0, g⟩ (fun r => ∀ c : Dev Cert.KernelDzIdeal.nD,
          r.2.mem ((c.tc : Thread Cert.KernelDzIdeal.nD Cert.KernelDzIdeal.τ).loc Cert.KernelDzIdeal.main_v2) = v0 c
          ∧ r.2.mem ((c.tc : Thread Cert.KernelDzIdeal.nD Cert.KernelDzIdeal.τ).loc Cert.KernelDzIdeal.main_arg0) = m ((c.tc : Thread Cert.KernelDzIdeal.nD Cert.KernelDzIdeal.τ).loc Cert.KernelDzIdeal.main_arg0)
          ∧ r.2.mem ((c.tc : Thread Cert.KernelDzIdeal.nD Cert.KernelDzIdeal.τ).loc Cert.KernelDzIdeal.main_arg1) = m ((c.tc : Thread Cert.KernelDzIdeal.nD Cert.KernelDzIdeal.τ).loc Cert.KernelDzIdeal.main_arg1)
          ∧ r.2.mem ((c.tc : Thread Cert.KernelDzIdeal.nD Cert.KernelDzIdeal.τ).loc Cert.KernelDzIdeal.main_arg2) = m ((c.tc : Thread Cert.KernelDzIdeal.nD Cert.KernelDzIdeal.τ).loc Cert.KernelDzIdeal.main_arg2))
      ∧ θ_run (Cert.ReferenceDzIdeal.defs (F := Ideal)) (onTc (τ := Cert.ReferenceDzIdeal.τ) (Cert.ReferenceDzIdeal.main (F := Ideal))) ⟨m', fun _ => 0, g'⟩ (fun r => ∀ c : Dev Cert.ReferenceDzIdeal.nD,
          r.2.mem ((c.tc : Thread Cert.ReferenceDzIdeal.nD Cert.ReferenceDzIdeal.τ).loc Cert.ReferenceDzIdeal.main_v10) = v0 c
          ∧ r.2.mem ((c.tc : Thread Cert.ReferenceDzIdeal.nD Cert.ReferenceDzIdeal.τ).loc Cert.ReferenceDzIdeal.main_arg0) = m' ((c.tc : Thread Cert.ReferenceDzIdeal.nD Cert.ReferenceDzIdeal.τ).loc Cert.ReferenceDzIdeal.main_arg0)
          ∧ r.2.mem ((c.tc : Thread Cert.ReferenceDzIdeal.nD Cert.ReferenceDzIdeal.τ).loc Cert.ReferenceDzIdeal.main_arg1) = m' ((c.tc : Thread Cert.ReferenceDzIdeal.nD Cert.ReferenceDzIdeal.τ).loc Cert.ReferenceDzIdeal.main_arg1)
          ∧ r.2.mem ((c.tc : Thread Cert.ReferenceDzIdeal.nD Cert.ReferenceDzIdeal.τ).loc Cert.ReferenceDzIdeal.main_arg2) = m' ((c.tc : Thread Cert.ReferenceDzIdeal.nD Cert.ReferenceDzIdeal.τ).loc Cert.ReferenceDzIdeal.main_arg2))

def preserves_KernelGwpool_KernelGwpoolIdeal : Prop :=
  True

def algebraic_KernelGwpoolIdeal_ReferenceGwpoolIdeal [hKernelGwpoolIdeal : Cert.KernelGwpoolIdeal.Facts] [hReferenceGwpoolIdeal : Cert.ReferenceGwpoolIdeal.Facts] : Prop :=
  ∀ (m : (ℓ : Loc Cert.KernelGwpoolIdeal.nD Cert.KernelGwpoolIdeal.τ Cert.KernelGwpoolIdeal.sig) → Buf (Elt Ideal) ℓ) (g : Dev Cert.KernelGwpoolIdeal.nD → PrngReg)
    (m' : (ℓ : Loc Cert.ReferenceGwpoolIdeal.nD Cert.ReferenceGwpoolIdeal.τ Cert.ReferenceGwpoolIdeal.sig) → Buf (Elt Ideal) ℓ) (g' : Dev Cert.ReferenceGwpoolIdeal.nD → PrngReg), Pre_KernelGwpoolIdeal m →
    (∀ c : Dev Cert.KernelGwpoolIdeal.nD,
      m' ((c.tc : Thread Cert.ReferenceGwpoolIdeal.nD Cert.ReferenceGwpoolIdeal.τ).loc Cert.ReferenceGwpoolIdeal.main_arg0) = m ((c.tc : Thread Cert.KernelGwpoolIdeal.nD Cert.KernelGwpoolIdeal.τ).loc Cert.KernelGwpoolIdeal.main_arg0)
      ∧ m' ((c.tc : Thread Cert.ReferenceGwpoolIdeal.nD Cert.ReferenceGwpoolIdeal.τ).loc Cert.ReferenceGwpoolIdeal.main_arg1) = m ((c.tc : Thread Cert.KernelGwpoolIdeal.nD Cert.KernelGwpoolIdeal.τ).loc Cert.KernelGwpoolIdeal.main_arg1)
      ∧ m' ((c.tc : Thread Cert.ReferenceGwpoolIdeal.nD Cert.ReferenceGwpoolIdeal.τ).loc Cert.ReferenceGwpoolIdeal.main_arg2) = m ((c.tc : Thread Cert.KernelGwpoolIdeal.nD Cert.KernelGwpoolIdeal.τ).loc Cert.KernelGwpoolIdeal.main_arg2)) →
    ∃ (v0 : (c : Dev Cert.KernelGwpoolIdeal.nD) → Buf (Elt Ideal) ((c.tc : Thread Cert.KernelGwpoolIdeal.nD Cert.KernelGwpoolIdeal.τ).loc Cert.KernelGwpoolIdeal.main_v2)),
      θ_run (Cert.KernelGwpoolIdeal.defs (F := Ideal)) (onTc (τ := Cert.KernelGwpoolIdeal.τ) (Cert.KernelGwpoolIdeal.main (F := Ideal))) ⟨m, fun _ => 0, g⟩ (fun r => ∀ c : Dev Cert.KernelGwpoolIdeal.nD,
          r.2.mem ((c.tc : Thread Cert.KernelGwpoolIdeal.nD Cert.KernelGwpoolIdeal.τ).loc Cert.KernelGwpoolIdeal.main_v2) = v0 c
          ∧ r.2.mem ((c.tc : Thread Cert.KernelGwpoolIdeal.nD Cert.KernelGwpoolIdeal.τ).loc Cert.KernelGwpoolIdeal.main_arg0) = m ((c.tc : Thread Cert.KernelGwpoolIdeal.nD Cert.KernelGwpoolIdeal.τ).loc Cert.KernelGwpoolIdeal.main_arg0)
          ∧ r.2.mem ((c.tc : Thread Cert.KernelGwpoolIdeal.nD Cert.KernelGwpoolIdeal.τ).loc Cert.KernelGwpoolIdeal.main_arg1) = m ((c.tc : Thread Cert.KernelGwpoolIdeal.nD Cert.KernelGwpoolIdeal.τ).loc Cert.KernelGwpoolIdeal.main_arg1)
          ∧ r.2.mem ((c.tc : Thread Cert.KernelGwpoolIdeal.nD Cert.KernelGwpoolIdeal.τ).loc Cert.KernelGwpoolIdeal.main_arg2) = m ((c.tc : Thread Cert.KernelGwpoolIdeal.nD Cert.KernelGwpoolIdeal.τ).loc Cert.KernelGwpoolIdeal.main_arg2))
      ∧ θ_run (Cert.ReferenceGwpoolIdeal.defs (F := Ideal)) (onTc (τ := Cert.ReferenceGwpoolIdeal.τ) (Cert.ReferenceGwpoolIdeal.main (F := Ideal))) ⟨m', fun _ => 0, g'⟩ (fun r => ∀ c : Dev Cert.ReferenceGwpoolIdeal.nD,
          r.2.mem ((c.tc : Thread Cert.ReferenceGwpoolIdeal.nD Cert.ReferenceGwpoolIdeal.τ).loc Cert.ReferenceGwpoolIdeal.main_v11) = v0 c
          ∧ r.2.mem ((c.tc : Thread Cert.ReferenceGwpoolIdeal.nD Cert.ReferenceGwpoolIdeal.τ).loc Cert.ReferenceGwpoolIdeal.main_arg0) = m' ((c.tc : Thread Cert.ReferenceGwpoolIdeal.nD Cert.ReferenceGwpoolIdeal.τ).loc Cert.ReferenceGwpoolIdeal.main_arg0)
          ∧ r.2.mem ((c.tc : Thread Cert.ReferenceGwpoolIdeal.nD Cert.ReferenceGwpoolIdeal.τ).loc Cert.ReferenceGwpoolIdeal.main_arg1) = m' ((c.tc : Thread Cert.ReferenceGwpoolIdeal.nD Cert.ReferenceGwpoolIdeal.τ).loc Cert.ReferenceGwpoolIdeal.main_arg1)
          ∧ r.2.mem ((c.tc : Thread Cert.ReferenceGwpoolIdeal.nD Cert.ReferenceGwpoolIdeal.τ).loc Cert.ReferenceGwpoolIdeal.main_arg2) = m' ((c.tc : Thread Cert.ReferenceGwpoolIdeal.nD Cert.ReferenceGwpoolIdeal.τ).loc Cert.ReferenceGwpoolIdeal.main_arg2))

def preserves_KernelProj0_KernelProj0Ideal : Prop :=
  True

def algebraic_KernelProj0Ideal_ReferenceProj0Ideal [hKernelProj0Ideal : Cert.KernelProj0Ideal.Facts] [hReferenceProj0Ideal : Cert.ReferenceProj0Ideal.Facts] : Prop :=
  ∀ (m : (ℓ : Loc Cert.KernelProj0Ideal.nD Cert.KernelProj0Ideal.τ Cert.KernelProj0Ideal.sig) → Buf (Elt Ideal) ℓ) (g : Dev Cert.KernelProj0Ideal.nD → PrngReg)
    (m' : (ℓ : Loc Cert.ReferenceProj0Ideal.nD Cert.ReferenceProj0Ideal.τ Cert.ReferenceProj0Ideal.sig) → Buf (Elt Ideal) ℓ) (g' : Dev Cert.ReferenceProj0Ideal.nD → PrngReg), Pre_KernelProj0Ideal m →
    (∀ c : Dev Cert.KernelProj0Ideal.nD,
      m' ((c.tc : Thread Cert.ReferenceProj0Ideal.nD Cert.ReferenceProj0Ideal.τ).loc Cert.ReferenceProj0Ideal.main_arg0) = m ((c.tc : Thread Cert.KernelProj0Ideal.nD Cert.KernelProj0Ideal.τ).loc Cert.KernelProj0Ideal.main_arg0)
      ∧ m' ((c.tc : Thread Cert.ReferenceProj0Ideal.nD Cert.ReferenceProj0Ideal.τ).loc Cert.ReferenceProj0Ideal.main_arg1) = m ((c.tc : Thread Cert.KernelProj0Ideal.nD Cert.KernelProj0Ideal.τ).loc Cert.KernelProj0Ideal.main_arg1)) →
    ∃ (v0 : (c : Dev Cert.KernelProj0Ideal.nD) → Buf (Elt Ideal) ((c.tc : Thread Cert.KernelProj0Ideal.nD Cert.KernelProj0Ideal.τ).loc Cert.KernelProj0Ideal.main_v8)),
      θ_run (Cert.KernelProj0Ideal.defs (F := Ideal)) (onTc (τ := Cert.KernelProj0Ideal.τ) (Cert.KernelProj0Ideal.main (F := Ideal))) ⟨m, fun _ => 0, g⟩ (fun r => ∀ c : Dev Cert.KernelProj0Ideal.nD,
          r.2.mem ((c.tc : Thread Cert.KernelProj0Ideal.nD Cert.KernelProj0Ideal.τ).loc Cert.KernelProj0Ideal.main_v8) = v0 c
          ∧ r.2.mem ((c.tc : Thread Cert.KernelProj0Ideal.nD Cert.KernelProj0Ideal.τ).loc Cert.KernelProj0Ideal.main_arg0) = m ((c.tc : Thread Cert.KernelProj0Ideal.nD Cert.KernelProj0Ideal.τ).loc Cert.KernelProj0Ideal.main_arg0)
          ∧ r.2.mem ((c.tc : Thread Cert.KernelProj0Ideal.nD Cert.KernelProj0Ideal.τ).loc Cert.KernelProj0Ideal.main_arg1) = m ((c.tc : Thread Cert.KernelProj0Ideal.nD Cert.KernelProj0Ideal.τ).loc Cert.KernelProj0Ideal.main_arg1))
      ∧ θ_run (Cert.ReferenceProj0Ideal.defs (F := Ideal)) (onTc (τ := Cert.ReferenceProj0Ideal.τ) (Cert.ReferenceProj0Ideal.main (F := Ideal))) ⟨m', fun _ => 0, g'⟩ (fun r => ∀ c : Dev Cert.ReferenceProj0Ideal.nD,
          r.2.mem ((c.tc : Thread Cert.ReferenceProj0Ideal.nD Cert.ReferenceProj0Ideal.τ).loc Cert.ReferenceProj0Ideal.main_v2) = v0 c
          ∧ r.2.mem ((c.tc : Thread Cert.ReferenceProj0Ideal.nD Cert.ReferenceProj0Ideal.τ).loc Cert.ReferenceProj0Ideal.main_arg0) = m' ((c.tc : Thread Cert.ReferenceProj0Ideal.nD Cert.ReferenceProj0Ideal.τ).loc Cert.ReferenceProj0Ideal.main_arg0)
          ∧ r.2.mem ((c.tc : Thread Cert.ReferenceProj0Ideal.nD Cert.ReferenceProj0Ideal.τ).loc Cert.ReferenceProj0Ideal.main_arg1) = m' ((c.tc : Thread Cert.ReferenceProj0Ideal.nD Cert.ReferenceProj0Ideal.τ).loc Cert.ReferenceProj0Ideal.main_arg1))

def preserves_KernelProj1_KernelProj1Ideal : Prop :=
  True

def algebraic_KernelProj1Ideal_ReferenceProj1Ideal [hKernelProj1Ideal : Cert.KernelProj1Ideal.Facts] [hReferenceProj1Ideal : Cert.ReferenceProj1Ideal.Facts] : Prop :=
  ∀ (m : (ℓ : Loc Cert.KernelProj1Ideal.nD Cert.KernelProj1Ideal.τ Cert.KernelProj1Ideal.sig) → Buf (Elt Ideal) ℓ) (g : Dev Cert.KernelProj1Ideal.nD → PrngReg)
    (m' : (ℓ : Loc Cert.ReferenceProj1Ideal.nD Cert.ReferenceProj1Ideal.τ Cert.ReferenceProj1Ideal.sig) → Buf (Elt Ideal) ℓ) (g' : Dev Cert.ReferenceProj1Ideal.nD → PrngReg), Pre_KernelProj1Ideal m →
    (∀ c : Dev Cert.KernelProj1Ideal.nD,
      m' ((c.tc : Thread Cert.ReferenceProj1Ideal.nD Cert.ReferenceProj1Ideal.τ).loc Cert.ReferenceProj1Ideal.main_arg0) = m ((c.tc : Thread Cert.KernelProj1Ideal.nD Cert.KernelProj1Ideal.τ).loc Cert.KernelProj1Ideal.main_arg0)
      ∧ m' ((c.tc : Thread Cert.ReferenceProj1Ideal.nD Cert.ReferenceProj1Ideal.τ).loc Cert.ReferenceProj1Ideal.main_arg1) = m ((c.tc : Thread Cert.KernelProj1Ideal.nD Cert.KernelProj1Ideal.τ).loc Cert.KernelProj1Ideal.main_arg1)
      ∧ m' ((c.tc : Thread Cert.ReferenceProj1Ideal.nD Cert.ReferenceProj1Ideal.τ).loc Cert.ReferenceProj1Ideal.main_arg2) = m ((c.tc : Thread Cert.KernelProj1Ideal.nD Cert.KernelProj1Ideal.τ).loc Cert.KernelProj1Ideal.main_arg2)) →
    ∃ (v0 : (c : Dev Cert.KernelProj1Ideal.nD) → Buf (Elt Ideal) ((c.tc : Thread Cert.KernelProj1Ideal.nD Cert.KernelProj1Ideal.τ).loc Cert.KernelProj1Ideal.main_v6)),
      θ_run (Cert.KernelProj1Ideal.defs (F := Ideal)) (onTc (τ := Cert.KernelProj1Ideal.τ) (Cert.KernelProj1Ideal.main (F := Ideal))) ⟨m, fun _ => 0, g⟩ (fun r => ∀ c : Dev Cert.KernelProj1Ideal.nD,
          r.2.mem ((c.tc : Thread Cert.KernelProj1Ideal.nD Cert.KernelProj1Ideal.τ).loc Cert.KernelProj1Ideal.main_v6) = v0 c
          ∧ r.2.mem ((c.tc : Thread Cert.KernelProj1Ideal.nD Cert.KernelProj1Ideal.τ).loc Cert.KernelProj1Ideal.main_arg0) = m ((c.tc : Thread Cert.KernelProj1Ideal.nD Cert.KernelProj1Ideal.τ).loc Cert.KernelProj1Ideal.main_arg0)
          ∧ r.2.mem ((c.tc : Thread Cert.KernelProj1Ideal.nD Cert.KernelProj1Ideal.τ).loc Cert.KernelProj1Ideal.main_arg1) = m ((c.tc : Thread Cert.KernelProj1Ideal.nD Cert.KernelProj1Ideal.τ).loc Cert.KernelProj1Ideal.main_arg1)
          ∧ r.2.mem ((c.tc : Thread Cert.KernelProj1Ideal.nD Cert.KernelProj1Ideal.τ).loc Cert.KernelProj1Ideal.main_arg2) = m ((c.tc : Thread Cert.KernelProj1Ideal.nD Cert.KernelProj1Ideal.τ).loc Cert.KernelProj1Ideal.main_arg2))
      ∧ θ_run (Cert.ReferenceProj1Ideal.defs (F := Ideal)) (onTc (τ := Cert.ReferenceProj1Ideal.τ) (Cert.ReferenceProj1Ideal.main (F := Ideal))) ⟨m', fun _ => 0, g'⟩ (fun r => ∀ c : Dev Cert.ReferenceProj1Ideal.nD,
          r.2.mem ((c.tc : Thread Cert.ReferenceProj1Ideal.nD Cert.ReferenceProj1Ideal.τ).loc Cert.ReferenceProj1Ideal.main_v7) = v0 c
          ∧ r.2.mem ((c.tc : Thread Cert.ReferenceProj1Ideal.nD Cert.ReferenceProj1Ideal.τ).loc Cert.ReferenceProj1Ideal.main_arg0) = m' ((c.tc : Thread Cert.ReferenceProj1Ideal.nD Cert.ReferenceProj1Ideal.τ).loc Cert.ReferenceProj1Ideal.main_arg0)
          ∧ r.2.mem ((c.tc : Thread Cert.ReferenceProj1Ideal.nD Cert.ReferenceProj1Ideal.τ).loc Cert.ReferenceProj1Ideal.main_arg1) = m' ((c.tc : Thread Cert.ReferenceProj1Ideal.nD Cert.ReferenceProj1Ideal.τ).loc Cert.ReferenceProj1Ideal.main_arg1)
          ∧ r.2.mem ((c.tc : Thread Cert.ReferenceProj1Ideal.nD Cert.ReferenceProj1Ideal.τ).loc Cert.ReferenceProj1Ideal.main_arg2) = m' ((c.tc : Thread Cert.ReferenceProj1Ideal.nD Cert.ReferenceProj1Ideal.τ).loc Cert.ReferenceProj1Ideal.main_arg2))

def preserves_KernelProj2_KernelProj2Ideal : Prop :=
  True

def algebraic_KernelProj2Ideal_ReferenceProj2Ideal [hKernelProj2Ideal : Cert.KernelProj2Ideal.Facts] [hReferenceProj2Ideal : Cert.ReferenceProj2Ideal.Facts] : Prop :=
  ∀ (m : (ℓ : Loc Cert.KernelProj2Ideal.nD Cert.KernelProj2Ideal.τ Cert.KernelProj2Ideal.sig) → Buf (Elt Ideal) ℓ) (g : Dev Cert.KernelProj2Ideal.nD → PrngReg)
    (m' : (ℓ : Loc Cert.ReferenceProj2Ideal.nD Cert.ReferenceProj2Ideal.τ Cert.ReferenceProj2Ideal.sig) → Buf (Elt Ideal) ℓ) (g' : Dev Cert.ReferenceProj2Ideal.nD → PrngReg), Pre_KernelProj2Ideal m →
    (∀ c : Dev Cert.KernelProj2Ideal.nD,
      m' ((c.tc : Thread Cert.ReferenceProj2Ideal.nD Cert.ReferenceProj2Ideal.τ).loc Cert.ReferenceProj2Ideal.main_arg0) = m ((c.tc : Thread Cert.KernelProj2Ideal.nD Cert.KernelProj2Ideal.τ).loc Cert.KernelProj2Ideal.main_arg0)
      ∧ m' ((c.tc : Thread Cert.ReferenceProj2Ideal.nD Cert.ReferenceProj2Ideal.τ).loc Cert.ReferenceProj2Ideal.main_arg1) = m ((c.tc : Thread Cert.KernelProj2Ideal.nD Cert.KernelProj2Ideal.τ).loc Cert.KernelProj2Ideal.main_arg1)
      ∧ m' ((c.tc : Thread Cert.ReferenceProj2Ideal.nD Cert.ReferenceProj2Ideal.τ).loc Cert.ReferenceProj2Ideal.main_arg2) = m ((c.tc : Thread Cert.KernelProj2Ideal.nD Cert.KernelProj2Ideal.τ).loc Cert.KernelProj2Ideal.main_arg2)) →
    ∃ (v0 : (c : Dev Cert.KernelProj2Ideal.nD) → Buf (Elt Ideal) ((c.tc : Thread Cert.KernelProj2Ideal.nD Cert.KernelProj2Ideal.τ).loc Cert.KernelProj2Ideal.main_v6)),
      θ_run (Cert.KernelProj2Ideal.defs (F := Ideal)) (onTc (τ := Cert.KernelProj2Ideal.τ) (Cert.KernelProj2Ideal.main (F := Ideal))) ⟨m, fun _ => 0, g⟩ (fun r => ∀ c : Dev Cert.KernelProj2Ideal.nD,
          r.2.mem ((c.tc : Thread Cert.KernelProj2Ideal.nD Cert.KernelProj2Ideal.τ).loc Cert.KernelProj2Ideal.main_v6) = v0 c
          ∧ r.2.mem ((c.tc : Thread Cert.KernelProj2Ideal.nD Cert.KernelProj2Ideal.τ).loc Cert.KernelProj2Ideal.main_arg0) = m ((c.tc : Thread Cert.KernelProj2Ideal.nD Cert.KernelProj2Ideal.τ).loc Cert.KernelProj2Ideal.main_arg0)
          ∧ r.2.mem ((c.tc : Thread Cert.KernelProj2Ideal.nD Cert.KernelProj2Ideal.τ).loc Cert.KernelProj2Ideal.main_arg1) = m ((c.tc : Thread Cert.KernelProj2Ideal.nD Cert.KernelProj2Ideal.τ).loc Cert.KernelProj2Ideal.main_arg1)
          ∧ r.2.mem ((c.tc : Thread Cert.KernelProj2Ideal.nD Cert.KernelProj2Ideal.τ).loc Cert.KernelProj2Ideal.main_arg2) = m ((c.tc : Thread Cert.KernelProj2Ideal.nD Cert.KernelProj2Ideal.τ).loc Cert.KernelProj2Ideal.main_arg2))
      ∧ θ_run (Cert.ReferenceProj2Ideal.defs (F := Ideal)) (onTc (τ := Cert.ReferenceProj2Ideal.τ) (Cert.ReferenceProj2Ideal.main (F := Ideal))) ⟨m', fun _ => 0, g'⟩ (fun r => ∀ c : Dev Cert.ReferenceProj2Ideal.nD,
          r.2.mem ((c.tc : Thread Cert.ReferenceProj2Ideal.nD Cert.ReferenceProj2Ideal.τ).loc Cert.ReferenceProj2Ideal.main_v7) = v0 c
          ∧ r.2.mem ((c.tc : Thread Cert.ReferenceProj2Ideal.nD Cert.ReferenceProj2Ideal.τ).loc Cert.ReferenceProj2Ideal.main_arg0) = m' ((c.tc : Thread Cert.ReferenceProj2Ideal.nD Cert.ReferenceProj2Ideal.τ).loc Cert.ReferenceProj2Ideal.main_arg0)
          ∧ r.2.mem ((c.tc : Thread Cert.ReferenceProj2Ideal.nD Cert.ReferenceProj2Ideal.τ).loc Cert.ReferenceProj2Ideal.main_arg1) = m' ((c.tc : Thread Cert.ReferenceProj2Ideal.nD Cert.ReferenceProj2Ideal.τ).loc Cert.ReferenceProj2Ideal.main_arg1)
          ∧ r.2.mem ((c.tc : Thread Cert.ReferenceProj2Ideal.nD Cert.ReferenceProj2Ideal.τ).loc Cert.ReferenceProj2Ideal.main_arg2) = m' ((c.tc : Thread Cert.ReferenceProj2Ideal.nD Cert.ReferenceProj2Ideal.τ).loc Cert.ReferenceProj2Ideal.main_arg2))

def preserves_KernelProj3_KernelProj3Ideal : Prop :=
  True

def algebraic_KernelProj3Ideal_ReferenceProj3Ideal [hKernelProj3Ideal : Cert.KernelProj3Ideal.Facts] [hReferenceProj3Ideal : Cert.ReferenceProj3Ideal.Facts] : Prop :=
  ∀ (m : (ℓ : Loc Cert.KernelProj3Ideal.nD Cert.KernelProj3Ideal.τ Cert.KernelProj3Ideal.sig) → Buf (Elt Ideal) ℓ) (g : Dev Cert.KernelProj3Ideal.nD → PrngReg)
    (m' : (ℓ : Loc Cert.ReferenceProj3Ideal.nD Cert.ReferenceProj3Ideal.τ Cert.ReferenceProj3Ideal.sig) → Buf (Elt Ideal) ℓ) (g' : Dev Cert.ReferenceProj3Ideal.nD → PrngReg), Pre_KernelProj3Ideal m →
    (∀ c : Dev Cert.KernelProj3Ideal.nD,
      m' ((c.tc : Thread Cert.ReferenceProj3Ideal.nD Cert.ReferenceProj3Ideal.τ).loc Cert.ReferenceProj3Ideal.main_arg0) = m ((c.tc : Thread Cert.KernelProj3Ideal.nD Cert.KernelProj3Ideal.τ).loc Cert.KernelProj3Ideal.main_arg0)
      ∧ m' ((c.tc : Thread Cert.ReferenceProj3Ideal.nD Cert.ReferenceProj3Ideal.τ).loc Cert.ReferenceProj3Ideal.main_arg1) = m ((c.tc : Thread Cert.KernelProj3Ideal.nD Cert.KernelProj3Ideal.τ).loc Cert.KernelProj3Ideal.main_arg1)
      ∧ m' ((c.tc : Thread Cert.ReferenceProj3Ideal.nD Cert.ReferenceProj3Ideal.τ).loc Cert.ReferenceProj3Ideal.main_arg2) = m ((c.tc : Thread Cert.KernelProj3Ideal.nD Cert.KernelProj3Ideal.τ).loc Cert.KernelProj3Ideal.main_arg2)) →
    ∃ (v0 : (c : Dev Cert.KernelProj3Ideal.nD) → Buf (Elt Ideal) ((c.tc : Thread Cert.KernelProj3Ideal.nD Cert.KernelProj3Ideal.τ).loc Cert.KernelProj3Ideal.main_v6)),
      θ_run (Cert.KernelProj3Ideal.defs (F := Ideal)) (onTc (τ := Cert.KernelProj3Ideal.τ) (Cert.KernelProj3Ideal.main (F := Ideal))) ⟨m, fun _ => 0, g⟩ (fun r => ∀ c : Dev Cert.KernelProj3Ideal.nD,
          r.2.mem ((c.tc : Thread Cert.KernelProj3Ideal.nD Cert.KernelProj3Ideal.τ).loc Cert.KernelProj3Ideal.main_v6) = v0 c
          ∧ r.2.mem ((c.tc : Thread Cert.KernelProj3Ideal.nD Cert.KernelProj3Ideal.τ).loc Cert.KernelProj3Ideal.main_arg0) = m ((c.tc : Thread Cert.KernelProj3Ideal.nD Cert.KernelProj3Ideal.τ).loc Cert.KernelProj3Ideal.main_arg0)
          ∧ r.2.mem ((c.tc : Thread Cert.KernelProj3Ideal.nD Cert.KernelProj3Ideal.τ).loc Cert.KernelProj3Ideal.main_arg1) = m ((c.tc : Thread Cert.KernelProj3Ideal.nD Cert.KernelProj3Ideal.τ).loc Cert.KernelProj3Ideal.main_arg1)
          ∧ r.2.mem ((c.tc : Thread Cert.KernelProj3Ideal.nD Cert.KernelProj3Ideal.τ).loc Cert.KernelProj3Ideal.main_arg2) = m ((c.tc : Thread Cert.KernelProj3Ideal.nD Cert.KernelProj3Ideal.τ).loc Cert.KernelProj3Ideal.main_arg2))
      ∧ θ_run (Cert.ReferenceProj3Ideal.defs (F := Ideal)) (onTc (τ := Cert.ReferenceProj3Ideal.τ) (Cert.ReferenceProj3Ideal.main (F := Ideal))) ⟨m', fun _ => 0, g'⟩ (fun r => ∀ c : Dev Cert.ReferenceProj3Ideal.nD,
          r.2.mem ((c.tc : Thread Cert.ReferenceProj3Ideal.nD Cert.ReferenceProj3Ideal.τ).loc Cert.ReferenceProj3Ideal.main_v7) = v0 c
          ∧ r.2.mem ((c.tc : Thread Cert.ReferenceProj3Ideal.nD Cert.ReferenceProj3Ideal.τ).loc Cert.ReferenceProj3Ideal.main_arg0) = m' ((c.tc : Thread Cert.ReferenceProj3Ideal.nD Cert.ReferenceProj3Ideal.τ).loc Cert.ReferenceProj3Ideal.main_arg0)
          ∧ r.2.mem ((c.tc : Thread Cert.ReferenceProj3Ideal.nD Cert.ReferenceProj3Ideal.τ).loc Cert.ReferenceProj3Ideal.main_arg1) = m' ((c.tc : Thread Cert.ReferenceProj3Ideal.nD Cert.ReferenceProj3Ideal.τ).loc Cert.ReferenceProj3Ideal.main_arg1)
          ∧ r.2.mem ((c.tc : Thread Cert.ReferenceProj3Ideal.nD Cert.ReferenceProj3Ideal.τ).loc Cert.ReferenceProj3Ideal.main_arg2) = m' ((c.tc : Thread Cert.ReferenceProj3Ideal.nD Cert.ReferenceProj3Ideal.τ).loc Cert.ReferenceProj3Ideal.main_arg2))

def preserves_KernelPool_KernelPoolIdeal : Prop :=
  True

def algebraic_KernelPoolIdeal_ReferencePoolIdeal [hKernelPoolIdeal : Cert.KernelPoolIdeal.Facts] [hReferencePoolIdeal : Cert.ReferencePoolIdeal.Facts] : Prop :=
  ∀ (m : (ℓ : Loc Cert.KernelPoolIdeal.nD Cert.KernelPoolIdeal.τ Cert.KernelPoolIdeal.sig) → Buf (Elt Ideal) ℓ) (g : Dev Cert.KernelPoolIdeal.nD → PrngReg)
    (m' : (ℓ : Loc Cert.ReferencePoolIdeal.nD Cert.ReferencePoolIdeal.τ Cert.ReferencePoolIdeal.sig) → Buf (Elt Ideal) ℓ) (g' : Dev Cert.ReferencePoolIdeal.nD → PrngReg), Pre_KernelPoolIdeal m →
    (∀ c : Dev Cert.KernelPoolIdeal.nD,
      m' ((c.tc : Thread Cert.ReferencePoolIdeal.nD Cert.ReferencePoolIdeal.τ).loc Cert.ReferencePoolIdeal.main_arg0) = m ((c.tc : Thread Cert.KernelPoolIdeal.nD Cert.KernelPoolIdeal.τ).loc Cert.KernelPoolIdeal.main_arg0)
      ∧ m' ((c.tc : Thread Cert.ReferencePoolIdeal.nD Cert.ReferencePoolIdeal.τ).loc Cert.ReferencePoolIdeal.main_arg1) = m ((c.tc : Thread Cert.KernelPoolIdeal.nD Cert.KernelPoolIdeal.τ).loc Cert.KernelPoolIdeal.main_arg1)) →
    ∃ (v0 : (c : Dev Cert.KernelPoolIdeal.nD) → Buf (Elt Ideal) ((c.tc : Thread Cert.KernelPoolIdeal.nD Cert.KernelPoolIdeal.τ).loc Cert.KernelPoolIdeal.main_v2)),
      θ_run (Cert.KernelPoolIdeal.defs (F := Ideal)) (onTc (τ := Cert.KernelPoolIdeal.τ) (Cert.KernelPoolIdeal.main (F := Ideal))) ⟨m, fun _ => 0, g⟩ (fun r => ∀ c : Dev Cert.KernelPoolIdeal.nD,
          r.2.mem ((c.tc : Thread Cert.KernelPoolIdeal.nD Cert.KernelPoolIdeal.τ).loc Cert.KernelPoolIdeal.main_v2) = v0 c
          ∧ r.2.mem ((c.tc : Thread Cert.KernelPoolIdeal.nD Cert.KernelPoolIdeal.τ).loc Cert.KernelPoolIdeal.main_arg0) = m ((c.tc : Thread Cert.KernelPoolIdeal.nD Cert.KernelPoolIdeal.τ).loc Cert.KernelPoolIdeal.main_arg0)
          ∧ r.2.mem ((c.tc : Thread Cert.KernelPoolIdeal.nD Cert.KernelPoolIdeal.τ).loc Cert.KernelPoolIdeal.main_arg1) = m ((c.tc : Thread Cert.KernelPoolIdeal.nD Cert.KernelPoolIdeal.τ).loc Cert.KernelPoolIdeal.main_arg1))
      ∧ θ_run (Cert.ReferencePoolIdeal.defs (F := Ideal)) (onTc (τ := Cert.ReferencePoolIdeal.τ) (Cert.ReferencePoolIdeal.main (F := Ideal))) ⟨m', fun _ => 0, g'⟩ (fun r => ∀ c : Dev Cert.ReferencePoolIdeal.nD,
          r.2.mem ((c.tc : Thread Cert.ReferencePoolIdeal.nD Cert.ReferencePoolIdeal.τ).loc Cert.ReferencePoolIdeal.main_v3) = v0 c
          ∧ r.2.mem ((c.tc : Thread Cert.ReferencePoolIdeal.nD Cert.ReferencePoolIdeal.τ).loc Cert.ReferencePoolIdeal.main_arg0) = m' ((c.tc : Thread Cert.ReferencePoolIdeal.nD Cert.ReferencePoolIdeal.τ).loc Cert.ReferencePoolIdeal.main_arg0)
          ∧ r.2.mem ((c.tc : Thread Cert.ReferencePoolIdeal.nD Cert.ReferencePoolIdeal.τ).loc Cert.ReferencePoolIdeal.main_arg1) = m' ((c.tc : Thread Cert.ReferencePoolIdeal.nD Cert.ReferencePoolIdeal.τ).loc Cert.ReferencePoolIdeal.main_arg1))

def preserves_KernelCoef_KernelCoefIdeal : Prop :=
  True

def algebraic_KernelCoefIdeal_ReferenceCoefIdeal [hKernelCoefIdeal : Cert.KernelCoefIdeal.Facts] [hReferenceCoefIdeal : Cert.ReferenceCoefIdeal.Facts] : Prop :=
  ∀ (m : (ℓ : Loc Cert.KernelCoefIdeal.nD Cert.KernelCoefIdeal.τ Cert.KernelCoefIdeal.sig) → Buf (Elt Ideal) ℓ) (g : Dev Cert.KernelCoefIdeal.nD → PrngReg)
    (m' : (ℓ : Loc Cert.ReferenceCoefIdeal.nD Cert.ReferenceCoefIdeal.τ Cert.ReferenceCoefIdeal.sig) → Buf (Elt Ideal) ℓ) (g' : Dev Cert.ReferenceCoefIdeal.nD → PrngReg), Pre_KernelCoefIdeal m →
    (∀ c : Dev Cert.KernelCoefIdeal.nD,
      m' ((c.tc : Thread Cert.ReferenceCoefIdeal.nD Cert.ReferenceCoefIdeal.τ).loc Cert.ReferenceCoefIdeal.main_arg0) = m ((c.tc : Thread Cert.KernelCoefIdeal.nD Cert.KernelCoefIdeal.τ).loc Cert.KernelCoefIdeal.main_arg0)
      ∧ m' ((c.tc : Thread Cert.ReferenceCoefIdeal.nD Cert.ReferenceCoefIdeal.τ).loc Cert.ReferenceCoefIdeal.main_arg1) = m ((c.tc : Thread Cert.KernelCoefIdeal.nD Cert.KernelCoefIdeal.τ).loc Cert.KernelCoefIdeal.main_arg1)
      ∧ m' ((c.tc : Thread Cert.ReferenceCoefIdeal.nD Cert.ReferenceCoefIdeal.τ).loc Cert.ReferenceCoefIdeal.main_arg2) = m ((c.tc : Thread Cert.KernelCoefIdeal.nD Cert.KernelCoefIdeal.τ).loc Cert.KernelCoefIdeal.main_arg2)
      ∧ m' ((c.tc : Thread Cert.ReferenceCoefIdeal.nD Cert.ReferenceCoefIdeal.τ).loc Cert.ReferenceCoefIdeal.main_arg3) = m ((c.tc : Thread Cert.KernelCoefIdeal.nD Cert.KernelCoefIdeal.τ).loc Cert.KernelCoefIdeal.main_arg3)
      ∧ m' ((c.tc : Thread Cert.ReferenceCoefIdeal.nD Cert.ReferenceCoefIdeal.τ).loc Cert.ReferenceCoefIdeal.main_arg4) = m ((c.tc : Thread Cert.KernelCoefIdeal.nD Cert.KernelCoefIdeal.τ).loc Cert.KernelCoefIdeal.main_arg4)
      ∧ m' ((c.tc : Thread Cert.ReferenceCoefIdeal.nD Cert.ReferenceCoefIdeal.τ).loc Cert.ReferenceCoefIdeal.main_arg5) = m ((c.tc : Thread Cert.KernelCoefIdeal.nD Cert.KernelCoefIdeal.τ).loc Cert.KernelCoefIdeal.main_arg5)) →
    ∃ (v0 : (c : Dev Cert.KernelCoefIdeal.nD) → Buf (Elt Ideal) ((c.tc : Thread Cert.KernelCoefIdeal.nD Cert.KernelCoefIdeal.τ).loc Cert.KernelCoefIdeal.main_v2_0)) (v1 : (c : Dev Cert.KernelCoefIdeal.nD) → Buf (Elt Ideal) ((c.tc : Thread Cert.KernelCoefIdeal.nD Cert.KernelCoefIdeal.τ).loc Cert.KernelCoefIdeal.main_v2_1)),
      θ_run (Cert.KernelCoefIdeal.defs (F := Ideal)) (onTc (τ := Cert.KernelCoefIdeal.τ) (Cert.KernelCoefIdeal.main (F := Ideal))) ⟨m, fun _ => 0, g⟩ (fun r => ∀ c : Dev Cert.KernelCoefIdeal.nD,
          r.2.mem ((c.tc : Thread Cert.KernelCoefIdeal.nD Cert.KernelCoefIdeal.τ).loc Cert.KernelCoefIdeal.main_v2_0) = v0 c
          ∧ r.2.mem ((c.tc : Thread Cert.KernelCoefIdeal.nD Cert.KernelCoefIdeal.τ).loc Cert.KernelCoefIdeal.main_v2_1) = v1 c
          ∧ r.2.mem ((c.tc : Thread Cert.KernelCoefIdeal.nD Cert.KernelCoefIdeal.τ).loc Cert.KernelCoefIdeal.main_arg0) = m ((c.tc : Thread Cert.KernelCoefIdeal.nD Cert.KernelCoefIdeal.τ).loc Cert.KernelCoefIdeal.main_arg0)
          ∧ r.2.mem ((c.tc : Thread Cert.KernelCoefIdeal.nD Cert.KernelCoefIdeal.τ).loc Cert.KernelCoefIdeal.main_arg1) = m ((c.tc : Thread Cert.KernelCoefIdeal.nD Cert.KernelCoefIdeal.τ).loc Cert.KernelCoefIdeal.main_arg1)
          ∧ r.2.mem ((c.tc : Thread Cert.KernelCoefIdeal.nD Cert.KernelCoefIdeal.τ).loc Cert.KernelCoefIdeal.main_arg2) = m ((c.tc : Thread Cert.KernelCoefIdeal.nD Cert.KernelCoefIdeal.τ).loc Cert.KernelCoefIdeal.main_arg2)
          ∧ r.2.mem ((c.tc : Thread Cert.KernelCoefIdeal.nD Cert.KernelCoefIdeal.τ).loc Cert.KernelCoefIdeal.main_arg3) = m ((c.tc : Thread Cert.KernelCoefIdeal.nD Cert.KernelCoefIdeal.τ).loc Cert.KernelCoefIdeal.main_arg3)
          ∧ r.2.mem ((c.tc : Thread Cert.KernelCoefIdeal.nD Cert.KernelCoefIdeal.τ).loc Cert.KernelCoefIdeal.main_arg4) = m ((c.tc : Thread Cert.KernelCoefIdeal.nD Cert.KernelCoefIdeal.τ).loc Cert.KernelCoefIdeal.main_arg4)
          ∧ r.2.mem ((c.tc : Thread Cert.KernelCoefIdeal.nD Cert.KernelCoefIdeal.τ).loc Cert.KernelCoefIdeal.main_arg5) = m ((c.tc : Thread Cert.KernelCoefIdeal.nD Cert.KernelCoefIdeal.τ).loc Cert.KernelCoefIdeal.main_arg5))
      ∧ θ_run (Cert.ReferenceCoefIdeal.defs (F := Ideal)) (onTc (τ := Cert.ReferenceCoefIdeal.τ) (Cert.ReferenceCoefIdeal.main (F := Ideal))) ⟨m', fun _ => 0, g'⟩ (fun r => ∀ c : Dev Cert.ReferenceCoefIdeal.nD,
          r.2.mem ((c.tc : Thread Cert.ReferenceCoefIdeal.nD Cert.ReferenceCoefIdeal.τ).loc Cert.ReferenceCoefIdeal.main_v98) = v0 c
          ∧ r.2.mem ((c.tc : Thread Cert.ReferenceCoefIdeal.nD Cert.ReferenceCoefIdeal.τ).loc Cert.ReferenceCoefIdeal.main_v99) = v1 c
          ∧ r.2.mem ((c.tc : Thread Cert.ReferenceCoefIdeal.nD Cert.ReferenceCoefIdeal.τ).loc Cert.ReferenceCoefIdeal.main_arg0) = m' ((c.tc : Thread Cert.ReferenceCoefIdeal.nD Cert.ReferenceCoefIdeal.τ).loc Cert.ReferenceCoefIdeal.main_arg0)
          ∧ r.2.mem ((c.tc : Thread Cert.ReferenceCoefIdeal.nD Cert.ReferenceCoefIdeal.τ).loc Cert.ReferenceCoefIdeal.main_arg1) = m' ((c.tc : Thread Cert.ReferenceCoefIdeal.nD Cert.ReferenceCoefIdeal.τ).loc Cert.ReferenceCoefIdeal.main_arg1)
          ∧ r.2.mem ((c.tc : Thread Cert.ReferenceCoefIdeal.nD Cert.ReferenceCoefIdeal.τ).loc Cert.ReferenceCoefIdeal.main_arg2) = m' ((c.tc : Thread Cert.ReferenceCoefIdeal.nD Cert.ReferenceCoefIdeal.τ).loc Cert.ReferenceCoefIdeal.main_arg2)
          ∧ r.2.mem ((c.tc : Thread Cert.ReferenceCoefIdeal.nD Cert.ReferenceCoefIdeal.τ).loc Cert.ReferenceCoefIdeal.main_arg3) = m' ((c.tc : Thread Cert.ReferenceCoefIdeal.nD Cert.ReferenceCoefIdeal.τ).loc Cert.ReferenceCoefIdeal.main_arg3)
          ∧ r.2.mem ((c.tc : Thread Cert.ReferenceCoefIdeal.nD Cert.ReferenceCoefIdeal.τ).loc Cert.ReferenceCoefIdeal.main_arg4) = m' ((c.tc : Thread Cert.ReferenceCoefIdeal.nD Cert.ReferenceCoefIdeal.τ).loc Cert.ReferenceCoefIdeal.main_arg4)
          ∧ r.2.mem ((c.tc : Thread Cert.ReferenceCoefIdeal.nD Cert.ReferenceCoefIdeal.τ).loc Cert.ReferenceCoefIdeal.main_arg5) = m' ((c.tc : Thread Cert.ReferenceCoefIdeal.nD Cert.ReferenceCoefIdeal.τ).loc Cert.ReferenceCoefIdeal.main_arg5))

def preserves_KernelMixa_KernelMixaIdeal : Prop :=
  True

def algebraic_KernelMixaIdeal_ReferenceMixaIdeal_pre_states_finite [hKernelMixaIdeal : Cert.KernelMixaIdeal.Facts] [hReferenceMixaIdeal : Cert.ReferenceMixaIdeal.Facts] [hPre_states_finite : Cert.Pre_states_finite.Facts] : Prop :=
  ∀ (m : (ℓ : Loc Cert.KernelMixaIdeal.nD Cert.KernelMixaIdeal.τ Cert.KernelMixaIdeal.sig) → Buf (Elt Ideal) ℓ) (g : Dev Cert.KernelMixaIdeal.nD → PrngReg)
    (m' : (ℓ : Loc Cert.ReferenceMixaIdeal.nD Cert.ReferenceMixaIdeal.τ Cert.ReferenceMixaIdeal.sig) → Buf (Elt Ideal) ℓ) (g' : Dev Cert.ReferenceMixaIdeal.nD → PrngReg), Pre_KernelMixaIdeal_states_finite m →
    (∀ c : Dev Cert.KernelMixaIdeal.nD,
      m' ((c.tc : Thread Cert.ReferenceMixaIdeal.nD Cert.ReferenceMixaIdeal.τ).loc Cert.ReferenceMixaIdeal.main_arg0) = m ((c.tc : Thread Cert.KernelMixaIdeal.nD Cert.KernelMixaIdeal.τ).loc Cert.KernelMixaIdeal.main_arg0)
      ∧ m' ((c.tc : Thread Cert.ReferenceMixaIdeal.nD Cert.ReferenceMixaIdeal.τ).loc Cert.ReferenceMixaIdeal.main_arg1) = m ((c.tc : Thread Cert.KernelMixaIdeal.nD Cert.KernelMixaIdeal.τ).loc Cert.KernelMixaIdeal.main_arg1)
      ∧ m' ((c.tc : Thread Cert.ReferenceMixaIdeal.nD Cert.ReferenceMixaIdeal.τ).loc Cert.ReferenceMixaIdeal.main_arg2) = m ((c.tc : Thread Cert.KernelMixaIdeal.nD Cert.KernelMixaIdeal.τ).loc Cert.KernelMixaIdeal.main_arg2)
      ∧ m' ((c.tc : Thread Cert.ReferenceMixaIdeal.nD Cert.ReferenceMixaIdeal.τ).loc Cert.ReferenceMixaIdeal.main_arg3) = m ((c.tc : Thread Cert.KernelMixaIdeal.nD Cert.KernelMixaIdeal.τ).loc Cert.KernelMixaIdeal.main_arg3)) →
    ∃ (v0 : (c : Dev Cert.KernelMixaIdeal.nD) → Buf (Elt Ideal) ((c.tc : Thread Cert.KernelMixaIdeal.nD Cert.KernelMixaIdeal.τ).loc Cert.KernelMixaIdeal.main_v0_0)) (v1 : (c : Dev Cert.KernelMixaIdeal.nD) → Buf (Elt Ideal) ((c.tc : Thread Cert.KernelMixaIdeal.nD Cert.KernelMixaIdeal.τ).loc Cert.KernelMixaIdeal.main_v0_1)),
      θ_run (Cert.KernelMixaIdeal.defs (F := Ideal)) (onTc (τ := Cert.KernelMixaIdeal.τ) (Cert.KernelMixaIdeal.main (F := Ideal))) ⟨m, fun _ => 0, g⟩ (fun r => ∀ c : Dev Cert.KernelMixaIdeal.nD,
          r.2.mem ((c.tc : Thread Cert.KernelMixaIdeal.nD Cert.KernelMixaIdeal.τ).loc Cert.KernelMixaIdeal.main_v0_0) = v0 c
          ∧ r.2.mem ((c.tc : Thread Cert.KernelMixaIdeal.nD Cert.KernelMixaIdeal.τ).loc Cert.KernelMixaIdeal.main_v0_1) = v1 c
          ∧ r.2.mem ((c.tc : Thread Cert.KernelMixaIdeal.nD Cert.KernelMixaIdeal.τ).loc Cert.KernelMixaIdeal.main_arg0) = m ((c.tc : Thread Cert.KernelMixaIdeal.nD Cert.KernelMixaIdeal.τ).loc Cert.KernelMixaIdeal.main_arg0)
          ∧ r.2.mem ((c.tc : Thread Cert.KernelMixaIdeal.nD Cert.KernelMixaIdeal.τ).loc Cert.KernelMixaIdeal.main_arg1) = m ((c.tc : Thread Cert.KernelMixaIdeal.nD Cert.KernelMixaIdeal.τ).loc Cert.KernelMixaIdeal.main_arg1)
          ∧ r.2.mem ((c.tc : Thread Cert.KernelMixaIdeal.nD Cert.KernelMixaIdeal.τ).loc Cert.KernelMixaIdeal.main_arg2) = m ((c.tc : Thread Cert.KernelMixaIdeal.nD Cert.KernelMixaIdeal.τ).loc Cert.KernelMixaIdeal.main_arg2)
          ∧ r.2.mem ((c.tc : Thread Cert.KernelMixaIdeal.nD Cert.KernelMixaIdeal.τ).loc Cert.KernelMixaIdeal.main_arg3) = m ((c.tc : Thread Cert.KernelMixaIdeal.nD Cert.KernelMixaIdeal.τ).loc Cert.KernelMixaIdeal.main_arg3))
      ∧ θ_run (Cert.ReferenceMixaIdeal.defs (F := Ideal)) (onTc (τ := Cert.ReferenceMixaIdeal.τ) (Cert.ReferenceMixaIdeal.main (F := Ideal))) ⟨m', fun _ => 0, g'⟩ (fun r => ∀ c : Dev Cert.ReferenceMixaIdeal.nD,
          r.2.mem ((c.tc : Thread Cert.ReferenceMixaIdeal.nD Cert.ReferenceMixaIdeal.τ).loc Cert.ReferenceMixaIdeal.main_v10) = v0 c
          ∧ r.2.mem ((c.tc : Thread Cert.ReferenceMixaIdeal.nD Cert.ReferenceMixaIdeal.τ).loc Cert.ReferenceMixaIdeal.main_v17) = v1 c
          ∧ r.2.mem ((c.tc : Thread Cert.ReferenceMixaIdeal.nD Cert.ReferenceMixaIdeal.τ).loc Cert.ReferenceMixaIdeal.main_arg0) = m' ((c.tc : Thread Cert.ReferenceMixaIdeal.nD Cert.ReferenceMixaIdeal.τ).loc Cert.ReferenceMixaIdeal.main_arg0)
          ∧ r.2.mem ((c.tc : Thread Cert.ReferenceMixaIdeal.nD Cert.ReferenceMixaIdeal.τ).loc Cert.ReferenceMixaIdeal.main_arg1) = m' ((c.tc : Thread Cert.ReferenceMixaIdeal.nD Cert.ReferenceMixaIdeal.τ).loc Cert.ReferenceMixaIdeal.main_arg1)
          ∧ r.2.mem ((c.tc : Thread Cert.ReferenceMixaIdeal.nD Cert.ReferenceMixaIdeal.τ).loc Cert.ReferenceMixaIdeal.main_arg2) = m' ((c.tc : Thread Cert.ReferenceMixaIdeal.nD Cert.ReferenceMixaIdeal.τ).loc Cert.ReferenceMixaIdeal.main_arg2)
          ∧ r.2.mem ((c.tc : Thread Cert.ReferenceMixaIdeal.nD Cert.ReferenceMixaIdeal.τ).loc Cert.ReferenceMixaIdeal.main_arg3) = m' ((c.tc : Thread Cert.ReferenceMixaIdeal.nD Cert.ReferenceMixaIdeal.τ).loc Cert.ReferenceMixaIdeal.main_arg3))

def preserves_KernelMixb_KernelMixbIdeal : Prop :=
  True

def algebraic_KernelMixbIdeal_ReferenceMixbIdeal_pre_pool_finite [hKernelMixbIdeal : Cert.KernelMixbIdeal.Facts] [hReferenceMixbIdeal : Cert.ReferenceMixbIdeal.Facts] [hPre_pool_finite : Cert.Pre_pool_finite.Facts] : Prop :=
  ∀ (m : (ℓ : Loc Cert.KernelMixbIdeal.nD Cert.KernelMixbIdeal.τ Cert.KernelMixbIdeal.sig) → Buf (Elt Ideal) ℓ) (g : Dev Cert.KernelMixbIdeal.nD → PrngReg)
    (m' : (ℓ : Loc Cert.ReferenceMixbIdeal.nD Cert.ReferenceMixbIdeal.τ Cert.ReferenceMixbIdeal.sig) → Buf (Elt Ideal) ℓ) (g' : Dev Cert.ReferenceMixbIdeal.nD → PrngReg), Pre_KernelMixbIdeal_pool_finite m →
    (∀ c : Dev Cert.KernelMixbIdeal.nD,
      m' ((c.tc : Thread Cert.ReferenceMixbIdeal.nD Cert.ReferenceMixbIdeal.τ).loc Cert.ReferenceMixbIdeal.main_arg0) = m ((c.tc : Thread Cert.KernelMixbIdeal.nD Cert.KernelMixbIdeal.τ).loc Cert.KernelMixbIdeal.main_arg0)
      ∧ m' ((c.tc : Thread Cert.ReferenceMixbIdeal.nD Cert.ReferenceMixbIdeal.τ).loc Cert.ReferenceMixbIdeal.main_arg1) = m ((c.tc : Thread Cert.KernelMixbIdeal.nD Cert.KernelMixbIdeal.τ).loc Cert.KernelMixbIdeal.main_arg1)
      ∧ m' ((c.tc : Thread Cert.ReferenceMixbIdeal.nD Cert.ReferenceMixbIdeal.τ).loc Cert.ReferenceMixbIdeal.main_arg2) = m ((c.tc : Thread Cert.KernelMixbIdeal.nD Cert.KernelMixbIdeal.τ).loc Cert.KernelMixbIdeal.main_arg2)
      ∧ m' ((c.tc : Thread Cert.ReferenceMixbIdeal.nD Cert.ReferenceMixbIdeal.τ).loc Cert.ReferenceMixbIdeal.main_arg3) = m ((c.tc : Thread Cert.KernelMixbIdeal.nD Cert.KernelMixbIdeal.τ).loc Cert.KernelMixbIdeal.main_arg3)
      ∧ m' ((c.tc : Thread Cert.ReferenceMixbIdeal.nD Cert.ReferenceMixbIdeal.τ).loc Cert.ReferenceMixbIdeal.main_arg4) = m ((c.tc : Thread Cert.KernelMixbIdeal.nD Cert.KernelMixbIdeal.τ).loc Cert.KernelMixbIdeal.main_arg4)
      ∧ m' ((c.tc : Thread Cert.ReferenceMixbIdeal.nD Cert.ReferenceMixbIdeal.τ).loc Cert.ReferenceMixbIdeal.main_arg5) = m ((c.tc : Thread Cert.KernelMixbIdeal.nD Cert.KernelMixbIdeal.τ).loc Cert.KernelMixbIdeal.main_arg5)) →
    ∃ (v0 : (c : Dev Cert.KernelMixbIdeal.nD) → Buf (Elt Ideal) ((c.tc : Thread Cert.KernelMixbIdeal.nD Cert.KernelMixbIdeal.τ).loc Cert.KernelMixbIdeal.main_v0_0)) (v1 : (c : Dev Cert.KernelMixbIdeal.nD) → Buf (Elt Ideal) ((c.tc : Thread Cert.KernelMixbIdeal.nD Cert.KernelMixbIdeal.τ).loc Cert.KernelMixbIdeal.main_v0_1)) (v2 : (c : Dev Cert.KernelMixbIdeal.nD) → Buf (Elt Ideal) ((c.tc : Thread Cert.KernelMixbIdeal.nD Cert.KernelMixbIdeal.τ).loc Cert.KernelMixbIdeal.main_v0_2)) (v3 : (c : Dev Cert.KernelMixbIdeal.nD) → Buf (Elt Ideal) ((c.tc : Thread Cert.KernelMixbIdeal.nD Cert.KernelMixbIdeal.τ).loc Cert.KernelMixbIdeal.main_v0_3)),
      θ_run (Cert.KernelMixbIdeal.defs (F := Ideal)) (onTc (τ := Cert.KernelMixbIdeal.τ) (Cert.KernelMixbIdeal.main (F := Ideal))) ⟨m, fun _ => 0, g⟩ (fun r => ∀ c : Dev Cert.KernelMixbIdeal.nD,
          r.2.mem ((c.tc : Thread Cert.KernelMixbIdeal.nD Cert.KernelMixbIdeal.τ).loc Cert.KernelMixbIdeal.main_v0_0) = v0 c
          ∧ r.2.mem ((c.tc : Thread Cert.KernelMixbIdeal.nD Cert.KernelMixbIdeal.τ).loc Cert.KernelMixbIdeal.main_v0_1) = v1 c
          ∧ r.2.mem ((c.tc : Thread Cert.KernelMixbIdeal.nD Cert.KernelMixbIdeal.τ).loc Cert.KernelMixbIdeal.main_v0_2) = v2 c
          ∧ r.2.mem ((c.tc : Thread Cert.KernelMixbIdeal.nD Cert.KernelMixbIdeal.τ).loc Cert.KernelMixbIdeal.main_v0_3) = v3 c
          ∧ r.2.mem ((c.tc : Thread Cert.KernelMixbIdeal.nD Cert.KernelMixbIdeal.τ).loc Cert.KernelMixbIdeal.main_arg0) = m ((c.tc : Thread Cert.KernelMixbIdeal.nD Cert.KernelMixbIdeal.τ).loc Cert.KernelMixbIdeal.main_arg0)
          ∧ r.2.mem ((c.tc : Thread Cert.KernelMixbIdeal.nD Cert.KernelMixbIdeal.τ).loc Cert.KernelMixbIdeal.main_arg1) = m ((c.tc : Thread Cert.KernelMixbIdeal.nD Cert.KernelMixbIdeal.τ).loc Cert.KernelMixbIdeal.main_arg1)
          ∧ r.2.mem ((c.tc : Thread Cert.KernelMixbIdeal.nD Cert.KernelMixbIdeal.τ).loc Cert.KernelMixbIdeal.main_arg2) = m ((c.tc : Thread Cert.KernelMixbIdeal.nD Cert.KernelMixbIdeal.τ).loc Cert.KernelMixbIdeal.main_arg2)
          ∧ r.2.mem ((c.tc : Thread Cert.KernelMixbIdeal.nD Cert.KernelMixbIdeal.τ).loc Cert.KernelMixbIdeal.main_arg3) = m ((c.tc : Thread Cert.KernelMixbIdeal.nD Cert.KernelMixbIdeal.τ).loc Cert.KernelMixbIdeal.main_arg3)
          ∧ r.2.mem ((c.tc : Thread Cert.KernelMixbIdeal.nD Cert.KernelMixbIdeal.τ).loc Cert.KernelMixbIdeal.main_arg4) = m ((c.tc : Thread Cert.KernelMixbIdeal.nD Cert.KernelMixbIdeal.τ).loc Cert.KernelMixbIdeal.main_arg4)
          ∧ r.2.mem ((c.tc : Thread Cert.KernelMixbIdeal.nD Cert.KernelMixbIdeal.τ).loc Cert.KernelMixbIdeal.main_arg5) = m ((c.tc : Thread Cert.KernelMixbIdeal.nD Cert.KernelMixbIdeal.τ).loc Cert.KernelMixbIdeal.main_arg5))
      ∧ θ_run (Cert.ReferenceMixbIdeal.defs (F := Ideal)) (onTc (τ := Cert.ReferenceMixbIdeal.τ) (Cert.ReferenceMixbIdeal.main (F := Ideal))) ⟨m', fun _ => 0, g'⟩ (fun r => ∀ c : Dev Cert.ReferenceMixbIdeal.nD,
          r.2.mem ((c.tc : Thread Cert.ReferenceMixbIdeal.nD Cert.ReferenceMixbIdeal.τ).loc Cert.ReferenceMixbIdeal.main_v18) = v0 c
          ∧ r.2.mem ((c.tc : Thread Cert.ReferenceMixbIdeal.nD Cert.ReferenceMixbIdeal.τ).loc Cert.ReferenceMixbIdeal.main_v24) = v1 c
          ∧ r.2.mem ((c.tc : Thread Cert.ReferenceMixbIdeal.nD Cert.ReferenceMixbIdeal.τ).loc Cert.ReferenceMixbIdeal.main_v17) = v2 c
          ∧ r.2.mem ((c.tc : Thread Cert.ReferenceMixbIdeal.nD Cert.ReferenceMixbIdeal.τ).loc Cert.ReferenceMixbIdeal.main_v13) = v3 c
          ∧ r.2.mem ((c.tc : Thread Cert.ReferenceMixbIdeal.nD Cert.ReferenceMixbIdeal.τ).loc Cert.ReferenceMixbIdeal.main_arg0) = m' ((c.tc : Thread Cert.ReferenceMixbIdeal.nD Cert.ReferenceMixbIdeal.τ).loc Cert.ReferenceMixbIdeal.main_arg0)
          ∧ r.2.mem ((c.tc : Thread Cert.ReferenceMixbIdeal.nD Cert.ReferenceMixbIdeal.τ).loc Cert.ReferenceMixbIdeal.main_arg1) = m' ((c.tc : Thread Cert.ReferenceMixbIdeal.nD Cert.ReferenceMixbIdeal.τ).loc Cert.ReferenceMixbIdeal.main_arg1)
          ∧ r.2.mem ((c.tc : Thread Cert.ReferenceMixbIdeal.nD Cert.ReferenceMixbIdeal.τ).loc Cert.ReferenceMixbIdeal.main_arg2) = m' ((c.tc : Thread Cert.ReferenceMixbIdeal.nD Cert.ReferenceMixbIdeal.τ).loc Cert.ReferenceMixbIdeal.main_arg2)
          ∧ r.2.mem ((c.tc : Thread Cert.ReferenceMixbIdeal.nD Cert.ReferenceMixbIdeal.τ).loc Cert.ReferenceMixbIdeal.main_arg3) = m' ((c.tc : Thread Cert.ReferenceMixbIdeal.nD Cert.ReferenceMixbIdeal.τ).loc Cert.ReferenceMixbIdeal.main_arg3)
          ∧ r.2.mem ((c.tc : Thread Cert.ReferenceMixbIdeal.nD Cert.ReferenceMixbIdeal.τ).loc Cert.ReferenceMixbIdeal.main_arg4) = m' ((c.tc : Thread Cert.ReferenceMixbIdeal.nD Cert.ReferenceMixbIdeal.τ).loc Cert.ReferenceMixbIdeal.main_arg4)
          ∧ r.2.mem ((c.tc : Thread Cert.ReferenceMixbIdeal.nD Cert.ReferenceMixbIdeal.τ).loc Cert.ReferenceMixbIdeal.main_arg5) = m' ((c.tc : Thread Cert.ReferenceMixbIdeal.nD Cert.ReferenceMixbIdeal.τ).loc Cert.ReferenceMixbIdeal.main_arg5))

def preserves_KernelMix_KernelMixIdeal : Prop :=
  True

def algebraic_KernelMixIdeal_ReferenceMixIdeal [hKernelMixIdeal : Cert.KernelMixIdeal.Facts] [hReferenceMixIdeal : Cert.ReferenceMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.ReferenceMixIdeal.nD Cert.ReferenceMixIdeal.τ Cert.ReferenceMixIdeal.sig) → Buf (Elt Ideal) ℓ) (g' : Dev Cert.ReferenceMixIdeal.nD → PrngReg), Pre_KernelMixIdeal m →
    (∀ c : Dev Cert.KernelMixIdeal.nD,
      m' ((c.tc : Thread Cert.ReferenceMixIdeal.nD Cert.ReferenceMixIdeal.τ).loc Cert.ReferenceMixIdeal.main_arg0) = m ((c.tc : Thread Cert.KernelMixIdeal.nD Cert.KernelMixIdeal.τ).loc Cert.KernelMixIdeal.main_arg0)
      ∧ m' ((c.tc : Thread Cert.ReferenceMixIdeal.nD Cert.ReferenceMixIdeal.τ).loc Cert.ReferenceMixIdeal.main_arg1) = m ((c.tc : Thread Cert.KernelMixIdeal.nD Cert.KernelMixIdeal.τ).loc Cert.KernelMixIdeal.main_arg1)
      ∧ m' ((c.tc : Thread Cert.ReferenceMixIdeal.nD Cert.ReferenceMixIdeal.τ).loc Cert.ReferenceMixIdeal.main_arg2) = m ((c.tc : Thread Cert.KernelMixIdeal.nD Cert.KernelMixIdeal.τ).loc Cert.KernelMixIdeal.main_arg2)
      ∧ m' ((c.tc : Thread Cert.ReferenceMixIdeal.nD Cert.ReferenceMixIdeal.τ).loc Cert.ReferenceMixIdeal.main_arg3) = m ((c.tc : Thread Cert.KernelMixIdeal.nD Cert.KernelMixIdeal.τ).loc Cert.KernelMixIdeal.main_arg3)
      ∧ m' ((c.tc : Thread Cert.ReferenceMixIdeal.nD Cert.ReferenceMixIdeal.τ).loc Cert.ReferenceMixIdeal.main_arg4) = m ((c.tc : Thread Cert.KernelMixIdeal.nD Cert.KernelMixIdeal.τ).loc Cert.KernelMixIdeal.main_arg4)) →
    ∃ (v0 : (c : Dev Cert.KernelMixIdeal.nD) → Buf (Elt Ideal) ((c.tc : Thread Cert.KernelMixIdeal.nD Cert.KernelMixIdeal.τ).loc Cert.KernelMixIdeal.main_v0)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v0) = v0 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
          ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
          ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
          ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4))
      ∧ θ_run (Cert.ReferenceMixIdeal.defs (F := Ideal)) (onTc (τ := Cert.ReferenceMixIdeal.τ) (Cert.ReferenceMixIdeal.main (F := Ideal))) ⟨m', fun _ => 0, g'⟩ (fun r => ∀ c : Dev Cert.ReferenceMixIdeal.nD,
          r.2.mem ((c.tc : Thread Cert.ReferenceMixIdeal.nD Cert.ReferenceMixIdeal.τ).loc Cert.ReferenceMixIdeal.main_v16) = v0 c
          ∧ r.2.mem ((c.tc : Thread Cert.ReferenceMixIdeal.nD Cert.ReferenceMixIdeal.τ).loc Cert.ReferenceMixIdeal.main_arg0) = m' ((c.tc : Thread Cert.ReferenceMixIdeal.nD Cert.ReferenceMixIdeal.τ).loc Cert.ReferenceMixIdeal.main_arg0)
          ∧ r.2.mem ((c.tc : Thread Cert.ReferenceMixIdeal.nD Cert.ReferenceMixIdeal.τ).loc Cert.ReferenceMixIdeal.main_arg1) = m' ((c.tc : Thread Cert.ReferenceMixIdeal.nD Cert.ReferenceMixIdeal.τ).loc Cert.ReferenceMixIdeal.main_arg1)
          ∧ r.2.mem ((c.tc : Thread Cert.ReferenceMixIdeal.nD Cert.ReferenceMixIdeal.τ).loc Cert.ReferenceMixIdeal.main_arg2) = m' ((c.tc : Thread Cert.ReferenceMixIdeal.nD Cert.ReferenceMixIdeal.τ).loc Cert.ReferenceMixIdeal.main_arg2)
          ∧ r.2.mem ((c.tc : Thread Cert.ReferenceMixIdeal.nD Cert.ReferenceMixIdeal.τ).loc Cert.ReferenceMixIdeal.main_arg3) = m' ((c.tc : Thread Cert.ReferenceMixIdeal.nD Cert.ReferenceMixIdeal.τ).loc Cert.ReferenceMixIdeal.main_arg3)
          ∧ r.2.mem ((c.tc : Thread Cert.ReferenceMixIdeal.nD Cert.ReferenceMixIdeal.τ).loc Cert.ReferenceMixIdeal.main_arg4) = m' ((c.tc : Thread Cert.ReferenceMixIdeal.nD Cert.ReferenceMixIdeal.τ).loc Cert.ReferenceMixIdeal.main_arg4))

def preserves_KernelAout_KernelAoutIdeal : Prop :=
  True

def algebraic_KernelAoutIdeal_ReferenceAoutIdeal [hKernelAoutIdeal : Cert.KernelAoutIdeal.Facts] [hReferenceAoutIdeal : Cert.ReferenceAoutIdeal.Facts] : Prop :=
  ∀ (m : (ℓ : Loc Cert.KernelAoutIdeal.nD Cert.KernelAoutIdeal.τ Cert.KernelAoutIdeal.sig) → Buf (Elt Ideal) ℓ) (g : Dev Cert.KernelAoutIdeal.nD → PrngReg)
    (m' : (ℓ : Loc Cert.ReferenceAoutIdeal.nD Cert.ReferenceAoutIdeal.τ Cert.ReferenceAoutIdeal.sig) → Buf (Elt Ideal) ℓ) (g' : Dev Cert.ReferenceAoutIdeal.nD → PrngReg), Pre_KernelAoutIdeal m →
    (∀ c : Dev Cert.KernelAoutIdeal.nD,
      m' ((c.tc : Thread Cert.ReferenceAoutIdeal.nD Cert.ReferenceAoutIdeal.τ).loc Cert.ReferenceAoutIdeal.main_arg0) = m ((c.tc : Thread Cert.KernelAoutIdeal.nD Cert.KernelAoutIdeal.τ).loc Cert.KernelAoutIdeal.main_arg0)
      ∧ m' ((c.tc : Thread Cert.ReferenceAoutIdeal.nD Cert.ReferenceAoutIdeal.τ).loc Cert.ReferenceAoutIdeal.main_arg1) = m ((c.tc : Thread Cert.KernelAoutIdeal.nD Cert.KernelAoutIdeal.τ).loc Cert.KernelAoutIdeal.main_arg1)
      ∧ m' ((c.tc : Thread Cert.ReferenceAoutIdeal.nD Cert.ReferenceAoutIdeal.τ).loc Cert.ReferenceAoutIdeal.main_arg2) = m ((c.tc : Thread Cert.KernelAoutIdeal.nD Cert.KernelAoutIdeal.τ).loc Cert.KernelAoutIdeal.main_arg2)
      ∧ m' ((c.tc : Thread Cert.ReferenceAoutIdeal.nD Cert.ReferenceAoutIdeal.τ).loc Cert.ReferenceAoutIdeal.main_arg3) = m ((c.tc : Thread Cert.KernelAoutIdeal.nD Cert.KernelAoutIdeal.τ).loc Cert.KernelAoutIdeal.main_arg3)) →
    ∃ (v0 : (c : Dev Cert.KernelAoutIdeal.nD) → Buf (Elt Ideal) ((c.tc : Thread Cert.KernelAoutIdeal.nD Cert.KernelAoutIdeal.τ).loc Cert.KernelAoutIdeal.main_v0_0)) (v1 : (c : Dev Cert.KernelAoutIdeal.nD) → Buf (Elt Ideal) ((c.tc : Thread Cert.KernelAoutIdeal.nD Cert.KernelAoutIdeal.τ).loc Cert.KernelAoutIdeal.main_v0_1)) (v2 : (c : Dev Cert.KernelAoutIdeal.nD) → Buf (Elt Ideal) ((c.tc : Thread Cert.KernelAoutIdeal.nD Cert.KernelAoutIdeal.τ).loc Cert.KernelAoutIdeal.main_v0_2)) (v3 : (c : Dev Cert.KernelAoutIdeal.nD) → Buf (Elt Ideal) ((c.tc : Thread Cert.KernelAoutIdeal.nD Cert.KernelAoutIdeal.τ).loc Cert.KernelAoutIdeal.main_v0_3)),
      θ_run (Cert.KernelAoutIdeal.defs (F := Ideal)) (onTc (τ := Cert.KernelAoutIdeal.τ) (Cert.KernelAoutIdeal.main (F := Ideal))) ⟨m, fun _ => 0, g⟩ (fun r => ∀ c : Dev Cert.KernelAoutIdeal.nD,
          r.2.mem ((c.tc : Thread Cert.KernelAoutIdeal.nD Cert.KernelAoutIdeal.τ).loc Cert.KernelAoutIdeal.main_v0_0) = v0 c
          ∧ r.2.mem ((c.tc : Thread Cert.KernelAoutIdeal.nD Cert.KernelAoutIdeal.τ).loc Cert.KernelAoutIdeal.main_v0_1) = v1 c
          ∧ r.2.mem ((c.tc : Thread Cert.KernelAoutIdeal.nD Cert.KernelAoutIdeal.τ).loc Cert.KernelAoutIdeal.main_v0_2) = v2 c
          ∧ r.2.mem ((c.tc : Thread Cert.KernelAoutIdeal.nD Cert.KernelAoutIdeal.τ).loc Cert.KernelAoutIdeal.main_v0_3) = v3 c
          ∧ r.2.mem ((c.tc : Thread Cert.KernelAoutIdeal.nD Cert.KernelAoutIdeal.τ).loc Cert.KernelAoutIdeal.main_arg0) = m ((c.tc : Thread Cert.KernelAoutIdeal.nD Cert.KernelAoutIdeal.τ).loc Cert.KernelAoutIdeal.main_arg0)
          ∧ r.2.mem ((c.tc : Thread Cert.KernelAoutIdeal.nD Cert.KernelAoutIdeal.τ).loc Cert.KernelAoutIdeal.main_arg1) = m ((c.tc : Thread Cert.KernelAoutIdeal.nD Cert.KernelAoutIdeal.τ).loc Cert.KernelAoutIdeal.main_arg1)
          ∧ r.2.mem ((c.tc : Thread Cert.KernelAoutIdeal.nD Cert.KernelAoutIdeal.τ).loc Cert.KernelAoutIdeal.main_arg2) = m ((c.tc : Thread Cert.KernelAoutIdeal.nD Cert.KernelAoutIdeal.τ).loc Cert.KernelAoutIdeal.main_arg2)
          ∧ r.2.mem ((c.tc : Thread Cert.KernelAoutIdeal.nD Cert.KernelAoutIdeal.τ).loc Cert.KernelAoutIdeal.main_arg3) = m ((c.tc : Thread Cert.KernelAoutIdeal.nD Cert.KernelAoutIdeal.τ).loc Cert.KernelAoutIdeal.main_arg3))
      ∧ θ_run (Cert.ReferenceAoutIdeal.defs (F := Ideal)) (onTc (τ := Cert.ReferenceAoutIdeal.τ) (Cert.ReferenceAoutIdeal.main (F := Ideal))) ⟨m', fun _ => 0, g'⟩ (fun r => ∀ c : Dev Cert.ReferenceAoutIdeal.nD,
          r.2.mem ((c.tc : Thread Cert.ReferenceAoutIdeal.nD Cert.ReferenceAoutIdeal.τ).loc Cert.ReferenceAoutIdeal.main_v1) = v0 c
          ∧ r.2.mem ((c.tc : Thread Cert.ReferenceAoutIdeal.nD Cert.ReferenceAoutIdeal.τ).loc Cert.ReferenceAoutIdeal.main_v25) = v1 c
          ∧ r.2.mem ((c.tc : Thread Cert.ReferenceAoutIdeal.nD Cert.ReferenceAoutIdeal.τ).loc Cert.ReferenceAoutIdeal.main_v6) = v2 c
          ∧ r.2.mem ((c.tc : Thread Cert.ReferenceAoutIdeal.nD Cert.ReferenceAoutIdeal.τ).loc Cert.ReferenceAoutIdeal.main_v12) = v3 c
          ∧ r.2.mem ((c.tc : Thread Cert.ReferenceAoutIdeal.nD Cert.ReferenceAoutIdeal.τ).loc Cert.ReferenceAoutIdeal.main_arg0) = m' ((c.tc : Thread Cert.ReferenceAoutIdeal.nD Cert.ReferenceAoutIdeal.τ).loc Cert.ReferenceAoutIdeal.main_arg0)
          ∧ r.2.mem ((c.tc : Thread Cert.ReferenceAoutIdeal.nD Cert.ReferenceAoutIdeal.τ).loc Cert.ReferenceAoutIdeal.main_arg1) = m' ((c.tc : Thread Cert.ReferenceAoutIdeal.nD Cert.ReferenceAoutIdeal.τ).loc Cert.ReferenceAoutIdeal.main_arg1)
          ∧ r.2.mem ((c.tc : Thread Cert.ReferenceAoutIdeal.nD Cert.ReferenceAoutIdeal.τ).loc Cert.ReferenceAoutIdeal.main_arg2) = m' ((c.tc : Thread Cert.ReferenceAoutIdeal.nD Cert.ReferenceAoutIdeal.τ).loc Cert.ReferenceAoutIdeal.main_arg2)
          ∧ r.2.mem ((c.tc : Thread Cert.ReferenceAoutIdeal.nD Cert.ReferenceAoutIdeal.τ).loc Cert.ReferenceAoutIdeal.main_arg3) = m' ((c.tc : Thread Cert.ReferenceAoutIdeal.nD Cert.ReferenceAoutIdeal.τ).loc Cert.ReferenceAoutIdeal.main_arg3))

def preserves_KernelApool_KernelApoolIdeal : Prop :=
  True

def algebraic_KernelApoolIdeal_ReferenceApoolIdeal [hKernelApoolIdeal : Cert.KernelApoolIdeal.Facts] [hReferenceApoolIdeal : Cert.ReferenceApoolIdeal.Facts] : Prop :=
  ∀ (m : (ℓ : Loc Cert.KernelApoolIdeal.nD Cert.KernelApoolIdeal.τ Cert.KernelApoolIdeal.sig) → Buf (Elt Ideal) ℓ) (g : Dev Cert.KernelApoolIdeal.nD → PrngReg)
    (m' : (ℓ : Loc Cert.ReferenceApoolIdeal.nD Cert.ReferenceApoolIdeal.τ Cert.ReferenceApoolIdeal.sig) → Buf (Elt Ideal) ℓ) (g' : Dev Cert.ReferenceApoolIdeal.nD → PrngReg), Pre_KernelApoolIdeal m →
    (∀ c : Dev Cert.KernelApoolIdeal.nD,
      m' ((c.tc : Thread Cert.ReferenceApoolIdeal.nD Cert.ReferenceApoolIdeal.τ).loc Cert.ReferenceApoolIdeal.main_arg0) = m ((c.tc : Thread Cert.KernelApoolIdeal.nD Cert.KernelApoolIdeal.τ).loc Cert.KernelApoolIdeal.main_arg0)
      ∧ m' ((c.tc : Thread Cert.ReferenceApoolIdeal.nD Cert.ReferenceApoolIdeal.τ).loc Cert.ReferenceApoolIdeal.main_arg1) = m ((c.tc : Thread Cert.KernelApoolIdeal.nD Cert.KernelApoolIdeal.τ).loc Cert.KernelApoolIdeal.main_arg1)
      ∧ m' ((c.tc : Thread Cert.ReferenceApoolIdeal.nD Cert.ReferenceApoolIdeal.τ).loc Cert.ReferenceApoolIdeal.main_arg2) = m ((c.tc : Thread Cert.KernelApoolIdeal.nD Cert.KernelApoolIdeal.τ).loc Cert.KernelApoolIdeal.main_arg2)
      ∧ m' ((c.tc : Thread Cert.ReferenceApoolIdeal.nD Cert.ReferenceApoolIdeal.τ).loc Cert.ReferenceApoolIdeal.main_arg3) = m ((c.tc : Thread Cert.KernelApoolIdeal.nD Cert.KernelApoolIdeal.τ).loc Cert.KernelApoolIdeal.main_arg3)) →
    ∃ (v0 : (c : Dev Cert.KernelApoolIdeal.nD) → Buf (Elt Ideal) ((c.tc : Thread Cert.KernelApoolIdeal.nD Cert.KernelApoolIdeal.τ).loc Cert.KernelApoolIdeal.main_v0_0)) (v1 : (c : Dev Cert.KernelApoolIdeal.nD) → Buf (Elt Ideal) ((c.tc : Thread Cert.KernelApoolIdeal.nD Cert.KernelApoolIdeal.τ).loc Cert.KernelApoolIdeal.main_v0_1)) (v2 : (c : Dev Cert.KernelApoolIdeal.nD) → Buf (Elt Ideal) ((c.tc : Thread Cert.KernelApoolIdeal.nD Cert.KernelApoolIdeal.τ).loc Cert.KernelApoolIdeal.main_v0_2)) (v3 : (c : Dev Cert.KernelApoolIdeal.nD) → Buf (Elt Ideal) ((c.tc : Thread Cert.KernelApoolIdeal.nD Cert.KernelApoolIdeal.τ).loc Cert.KernelApoolIdeal.main_v0_3)),
      θ_run (Cert.KernelApoolIdeal.defs (F := Ideal)) (onTc (τ := Cert.KernelApoolIdeal.τ) (Cert.KernelApoolIdeal.main (F := Ideal))) ⟨m, fun _ => 0, g⟩ (fun r => ∀ c : Dev Cert.KernelApoolIdeal.nD,
          r.2.mem ((c.tc : Thread Cert.KernelApoolIdeal.nD Cert.KernelApoolIdeal.τ).loc Cert.KernelApoolIdeal.main_v0_0) = v0 c
          ∧ r.2.mem ((c.tc : Thread Cert.KernelApoolIdeal.nD Cert.KernelApoolIdeal.τ).loc Cert.KernelApoolIdeal.main_v0_1) = v1 c
          ∧ r.2.mem ((c.tc : Thread Cert.KernelApoolIdeal.nD Cert.KernelApoolIdeal.τ).loc Cert.KernelApoolIdeal.main_v0_2) = v2 c
          ∧ r.2.mem ((c.tc : Thread Cert.KernelApoolIdeal.nD Cert.KernelApoolIdeal.τ).loc Cert.KernelApoolIdeal.main_v0_3) = v3 c
          ∧ r.2.mem ((c.tc : Thread Cert.KernelApoolIdeal.nD Cert.KernelApoolIdeal.τ).loc Cert.KernelApoolIdeal.main_arg0) = m ((c.tc : Thread Cert.KernelApoolIdeal.nD Cert.KernelApoolIdeal.τ).loc Cert.KernelApoolIdeal.main_arg0)
          ∧ r.2.mem ((c.tc : Thread Cert.KernelApoolIdeal.nD Cert.KernelApoolIdeal.τ).loc Cert.KernelApoolIdeal.main_arg1) = m ((c.tc : Thread Cert.KernelApoolIdeal.nD Cert.KernelApoolIdeal.τ).loc Cert.KernelApoolIdeal.main_arg1)
          ∧ r.2.mem ((c.tc : Thread Cert.KernelApoolIdeal.nD Cert.KernelApoolIdeal.τ).loc Cert.KernelApoolIdeal.main_arg2) = m ((c.tc : Thread Cert.KernelApoolIdeal.nD Cert.KernelApoolIdeal.τ).loc Cert.KernelApoolIdeal.main_arg2)
          ∧ r.2.mem ((c.tc : Thread Cert.KernelApoolIdeal.nD Cert.KernelApoolIdeal.τ).loc Cert.KernelApoolIdeal.main_arg3) = m ((c.tc : Thread Cert.KernelApoolIdeal.nD Cert.KernelApoolIdeal.τ).loc Cert.KernelApoolIdeal.main_arg3))
      ∧ θ_run (Cert.ReferenceApoolIdeal.defs (F := Ideal)) (onTc (τ := Cert.ReferenceApoolIdeal.τ) (Cert.ReferenceApoolIdeal.main (F := Ideal))) ⟨m', fun _ => 0, g'⟩ (fun r => ∀ c : Dev Cert.ReferenceApoolIdeal.nD,
          r.2.mem ((c.tc : Thread Cert.ReferenceApoolIdeal.nD Cert.ReferenceApoolIdeal.τ).loc Cert.ReferenceApoolIdeal.main_v1) = v0 c
          ∧ r.2.mem ((c.tc : Thread Cert.ReferenceApoolIdeal.nD Cert.ReferenceApoolIdeal.τ).loc Cert.ReferenceApoolIdeal.main_v25) = v1 c
          ∧ r.2.mem ((c.tc : Thread Cert.ReferenceApoolIdeal.nD Cert.ReferenceApoolIdeal.τ).loc Cert.ReferenceApoolIdeal.main_v6) = v2 c
          ∧ r.2.mem ((c.tc : Thread Cert.ReferenceApoolIdeal.nD Cert.ReferenceApoolIdeal.τ).loc Cert.ReferenceApoolIdeal.main_v12) = v3 c
          ∧ r.2.mem ((c.tc : Thread Cert.ReferenceApoolIdeal.nD Cert.ReferenceApoolIdeal.τ).loc Cert.ReferenceApoolIdeal.main_arg0) = m' ((c.tc : Thread Cert.ReferenceApoolIdeal.nD Cert.ReferenceApoolIdeal.τ).loc Cert.ReferenceApoolIdeal.main_arg0)
          ∧ r.2.mem ((c.tc : Thread Cert.ReferenceApoolIdeal.nD Cert.ReferenceApoolIdeal.τ).loc Cert.ReferenceApoolIdeal.main_arg1) = m' ((c.tc : Thread Cert.ReferenceApoolIdeal.nD Cert.ReferenceApoolIdeal.τ).loc Cert.ReferenceApoolIdeal.main_arg1)
          ∧ r.2.mem ((c.tc : Thread Cert.ReferenceApoolIdeal.nD Cert.ReferenceApoolIdeal.τ).loc Cert.ReferenceApoolIdeal.main_arg2) = m' ((c.tc : Thread Cert.ReferenceApoolIdeal.nD Cert.ReferenceApoolIdeal.τ).loc Cert.ReferenceApoolIdeal.main_arg2)
          ∧ r.2.mem ((c.tc : Thread Cert.ReferenceApoolIdeal.nD Cert.ReferenceApoolIdeal.τ).loc Cert.ReferenceApoolIdeal.main_arg3) = m' ((c.tc : Thread Cert.ReferenceApoolIdeal.nD Cert.ReferenceApoolIdeal.τ).loc Cert.ReferenceApoolIdeal.main_arg3))

def preserves_KernelAgate_KernelAgateIdeal : Prop :=
  True

def algebraic_KernelAgateIdeal_ReferenceAgateIdeal [hKernelAgateIdeal : Cert.KernelAgateIdeal.Facts] [hReferenceAgateIdeal : Cert.ReferenceAgateIdeal.Facts] : Prop :=
  ∀ (m : (ℓ : Loc Cert.KernelAgateIdeal.nD Cert.KernelAgateIdeal.τ Cert.KernelAgateIdeal.sig) → Buf (Elt Ideal) ℓ) (g : Dev Cert.KernelAgateIdeal.nD → PrngReg)
    (m' : (ℓ : Loc Cert.ReferenceAgateIdeal.nD Cert.ReferenceAgateIdeal.τ Cert.ReferenceAgateIdeal.sig) → Buf (Elt Ideal) ℓ) (g' : Dev Cert.ReferenceAgateIdeal.nD → PrngReg), Pre_KernelAgateIdeal m →
    (∀ c : Dev Cert.KernelAgateIdeal.nD,
      m' ((c.tc : Thread Cert.ReferenceAgateIdeal.nD Cert.ReferenceAgateIdeal.τ).loc Cert.ReferenceAgateIdeal.main_arg0) = m ((c.tc : Thread Cert.KernelAgateIdeal.nD Cert.KernelAgateIdeal.τ).loc Cert.KernelAgateIdeal.main_arg0)
      ∧ m' ((c.tc : Thread Cert.ReferenceAgateIdeal.nD Cert.ReferenceAgateIdeal.τ).loc Cert.ReferenceAgateIdeal.main_arg1) = m ((c.tc : Thread Cert.KernelAgateIdeal.nD Cert.KernelAgateIdeal.τ).loc Cert.KernelAgateIdeal.main_arg1)
      ∧ m' ((c.tc : Thread Cert.ReferenceAgateIdeal.nD Cert.ReferenceAgateIdeal.τ).loc Cert.ReferenceAgateIdeal.main_arg2) = m ((c.tc : Thread Cert.KernelAgateIdeal.nD Cert.KernelAgateIdeal.τ).loc Cert.KernelAgateIdeal.main_arg2)
      ∧ m' ((c.tc : Thread Cert.ReferenceAgateIdeal.nD Cert.ReferenceAgateIdeal.τ).loc Cert.ReferenceAgateIdeal.main_arg3) = m ((c.tc : Thread Cert.KernelAgateIdeal.nD Cert.KernelAgateIdeal.τ).loc Cert.KernelAgateIdeal.main_arg3)) →
    ∃ (v0 : (c : Dev Cert.KernelAgateIdeal.nD) → Buf (Elt Ideal) ((c.tc : Thread Cert.KernelAgateIdeal.nD Cert.KernelAgateIdeal.τ).loc Cert.KernelAgateIdeal.main_v0_0)) (v1 : (c : Dev Cert.KernelAgateIdeal.nD) → Buf (Elt Ideal) ((c.tc : Thread Cert.KernelAgateIdeal.nD Cert.KernelAgateIdeal.τ).loc Cert.KernelAgateIdeal.main_v0_1)) (v2 : (c : Dev Cert.KernelAgateIdeal.nD) → Buf (Elt Ideal) ((c.tc : Thread Cert.KernelAgateIdeal.nD Cert.KernelAgateIdeal.τ).loc Cert.KernelAgateIdeal.main_v0_2)) (v3 : (c : Dev Cert.KernelAgateIdeal.nD) → Buf (Elt Ideal) ((c.tc : Thread Cert.KernelAgateIdeal.nD Cert.KernelAgateIdeal.τ).loc Cert.KernelAgateIdeal.main_v0_3)),
      θ_run (Cert.KernelAgateIdeal.defs (F := Ideal)) (onTc (τ := Cert.KernelAgateIdeal.τ) (Cert.KernelAgateIdeal.main (F := Ideal))) ⟨m, fun _ => 0, g⟩ (fun r => ∀ c : Dev Cert.KernelAgateIdeal.nD,
          r.2.mem ((c.tc : Thread Cert.KernelAgateIdeal.nD Cert.KernelAgateIdeal.τ).loc Cert.KernelAgateIdeal.main_v0_0) = v0 c
          ∧ r.2.mem ((c.tc : Thread Cert.KernelAgateIdeal.nD Cert.KernelAgateIdeal.τ).loc Cert.KernelAgateIdeal.main_v0_1) = v1 c
          ∧ r.2.mem ((c.tc : Thread Cert.KernelAgateIdeal.nD Cert.KernelAgateIdeal.τ).loc Cert.KernelAgateIdeal.main_v0_2) = v2 c
          ∧ r.2.mem ((c.tc : Thread Cert.KernelAgateIdeal.nD Cert.KernelAgateIdeal.τ).loc Cert.KernelAgateIdeal.main_v0_3) = v3 c
          ∧ r.2.mem ((c.tc : Thread Cert.KernelAgateIdeal.nD Cert.KernelAgateIdeal.τ).loc Cert.KernelAgateIdeal.main_arg0) = m ((c.tc : Thread Cert.KernelAgateIdeal.nD Cert.KernelAgateIdeal.τ).loc Cert.KernelAgateIdeal.main_arg0)
          ∧ r.2.mem ((c.tc : Thread Cert.KernelAgateIdeal.nD Cert.KernelAgateIdeal.τ).loc Cert.KernelAgateIdeal.main_arg1) = m ((c.tc : Thread Cert.KernelAgateIdeal.nD Cert.KernelAgateIdeal.τ).loc Cert.KernelAgateIdeal.main_arg1)
          ∧ r.2.mem ((c.tc : Thread Cert.KernelAgateIdeal.nD Cert.KernelAgateIdeal.τ).loc Cert.KernelAgateIdeal.main_arg2) = m ((c.tc : Thread Cert.KernelAgateIdeal.nD Cert.KernelAgateIdeal.τ).loc Cert.KernelAgateIdeal.main_arg2)
          ∧ r.2.mem ((c.tc : Thread Cert.KernelAgateIdeal.nD Cert.KernelAgateIdeal.τ).loc Cert.KernelAgateIdeal.main_arg3) = m ((c.tc : Thread Cert.KernelAgateIdeal.nD Cert.KernelAgateIdeal.τ).loc Cert.KernelAgateIdeal.main_arg3))
      ∧ θ_run (Cert.ReferenceAgateIdeal.defs (F := Ideal)) (onTc (τ := Cert.ReferenceAgateIdeal.τ) (Cert.ReferenceAgateIdeal.main (F := Ideal))) ⟨m', fun _ => 0, g'⟩ (fun r => ∀ c : Dev Cert.ReferenceAgateIdeal.nD,
          r.2.mem ((c.tc : Thread Cert.ReferenceAgateIdeal.nD Cert.ReferenceAgateIdeal.τ).loc Cert.ReferenceAgateIdeal.main_v1) = v0 c
          ∧ r.2.mem ((c.tc : Thread Cert.ReferenceAgateIdeal.nD Cert.ReferenceAgateIdeal.τ).loc Cert.ReferenceAgateIdeal.main_v25) = v1 c
          ∧ r.2.mem ((c.tc : Thread Cert.ReferenceAgateIdeal.nD Cert.ReferenceAgateIdeal.τ).loc Cert.ReferenceAgateIdeal.main_v6) = v2 c
          ∧ r.2.mem ((c.tc : Thread Cert.ReferenceAgateIdeal.nD Cert.ReferenceAgateIdeal.τ).loc Cert.ReferenceAgateIdeal.main_v12) = v3 c
          ∧ r.2.mem ((c.tc : Thread Cert.ReferenceAgateIdeal.nD Cert.ReferenceAgateIdeal.τ).loc Cert.ReferenceAgateIdeal.main_arg0) = m' ((c.tc : Thread Cert.ReferenceAgateIdeal.nD Cert.ReferenceAgateIdeal.τ).loc Cert.ReferenceAgateIdeal.main_arg0)
          ∧ r.2.mem ((c.tc : Thread Cert.ReferenceAgateIdeal.nD Cert.ReferenceAgateIdeal.τ).loc Cert.ReferenceAgateIdeal.main_arg1) = m' ((c.tc : Thread Cert.ReferenceAgateIdeal.nD Cert.ReferenceAgateIdeal.τ).loc Cert.ReferenceAgateIdeal.main_arg1)
          ∧ r.2.mem ((c.tc : Thread Cert.ReferenceAgateIdeal.nD Cert.ReferenceAgateIdeal.τ).loc Cert.ReferenceAgateIdeal.main_arg2) = m' ((c.tc : Thread Cert.ReferenceAgateIdeal.nD Cert.ReferenceAgateIdeal.τ).loc Cert.ReferenceAgateIdeal.main_arg2)
          ∧ r.2.mem ((c.tc : Thread Cert.ReferenceAgateIdeal.nD Cert.ReferenceAgateIdeal.τ).loc Cert.ReferenceAgateIdeal.main_arg3) = m' ((c.tc : Thread Cert.ReferenceAgateIdeal.nD Cert.ReferenceAgateIdeal.τ).loc Cert.ReferenceAgateIdeal.main_arg3))

def preserves_KernelAwin_KernelAwinIdeal : Prop :=
  True

def algebraic_KernelAwinIdeal_ReferenceAwinIdeal [hKernelAwinIdeal : Cert.KernelAwinIdeal.Facts] [hReferenceAwinIdeal : Cert.ReferenceAwinIdeal.Facts] : Prop :=
  ∀ (m : (ℓ : Loc Cert.KernelAwinIdeal.nD Cert.KernelAwinIdeal.τ Cert.KernelAwinIdeal.sig) → Buf (Elt Ideal) ℓ) (g : Dev Cert.KernelAwinIdeal.nD → PrngReg)
    (m' : (ℓ : Loc Cert.ReferenceAwinIdeal.nD Cert.ReferenceAwinIdeal.τ Cert.ReferenceAwinIdeal.sig) → Buf (Elt Ideal) ℓ) (g' : Dev Cert.ReferenceAwinIdeal.nD → PrngReg), Pre_KernelAwinIdeal m →
    (∀ c : Dev Cert.KernelAwinIdeal.nD,
      m' ((c.tc : Thread Cert.ReferenceAwinIdeal.nD Cert.ReferenceAwinIdeal.τ).loc Cert.ReferenceAwinIdeal.main_arg0) = m ((c.tc : Thread Cert.KernelAwinIdeal.nD Cert.KernelAwinIdeal.τ).loc Cert.KernelAwinIdeal.main_arg0)
      ∧ m' ((c.tc : Thread Cert.ReferenceAwinIdeal.nD Cert.ReferenceAwinIdeal.τ).loc Cert.ReferenceAwinIdeal.main_arg1) = m ((c.tc : Thread Cert.KernelAwinIdeal.nD Cert.KernelAwinIdeal.τ).loc Cert.KernelAwinIdeal.main_arg1)
      ∧ m' ((c.tc : Thread Cert.ReferenceAwinIdeal.nD Cert.ReferenceAwinIdeal.τ).loc Cert.ReferenceAwinIdeal.main_arg2) = m ((c.tc : Thread Cert.KernelAwinIdeal.nD Cert.KernelAwinIdeal.τ).loc Cert.KernelAwinIdeal.main_arg2)
      ∧ m' ((c.tc : Thread Cert.ReferenceAwinIdeal.nD Cert.ReferenceAwinIdeal.τ).loc Cert.ReferenceAwinIdeal.main_arg3) = m ((c.tc : Thread Cert.KernelAwinIdeal.nD Cert.KernelAwinIdeal.τ).loc Cert.KernelAwinIdeal.main_arg3)
      ∧ m' ((c.tc : Thread Cert.ReferenceAwinIdeal.nD Cert.ReferenceAwinIdeal.τ).loc Cert.ReferenceAwinIdeal.main_arg4) = m ((c.tc : Thread Cert.KernelAwinIdeal.nD Cert.KernelAwinIdeal.τ).loc Cert.KernelAwinIdeal.main_arg4)
      ∧ m' ((c.tc : Thread Cert.ReferenceAwinIdeal.nD Cert.ReferenceAwinIdeal.τ).loc Cert.ReferenceAwinIdeal.main_arg5) = m ((c.tc : Thread Cert.KernelAwinIdeal.nD Cert.KernelAwinIdeal.τ).loc Cert.KernelAwinIdeal.main_arg5)
      ∧ m' ((c.tc : Thread Cert.ReferenceAwinIdeal.nD Cert.ReferenceAwinIdeal.τ).loc Cert.ReferenceAwinIdeal.main_arg6) = m ((c.tc : Thread Cert.KernelAwinIdeal.nD Cert.KernelAwinIdeal.τ).loc Cert.KernelAwinIdeal.main_arg6)) →
    ∃ (v0 : (c : Dev Cert.KernelAwinIdeal.nD) → Buf (Elt Ideal) ((c.tc : Thread Cert.KernelAwinIdeal.nD Cert.KernelAwinIdeal.τ).loc Cert.KernelAwinIdeal.main_v0_0)) (v1 : (c : Dev Cert.KernelAwinIdeal.nD) → Buf (Elt Ideal) ((c.tc : Thread Cert.KernelAwinIdeal.nD Cert.KernelAwinIdeal.τ).loc Cert.KernelAwinIdeal.main_v0_1)) (v2 : (c : Dev Cert.KernelAwinIdeal.nD) → Buf (Elt Ideal) ((c.tc : Thread Cert.KernelAwinIdeal.nD Cert.KernelAwinIdeal.τ).loc Cert.KernelAwinIdeal.main_v0_2)) (v3 : (c : Dev Cert.KernelAwinIdeal.nD) → Buf (Elt Ideal) ((c.tc : Thread Cert.KernelAwinIdeal.nD Cert.KernelAwinIdeal.τ).loc Cert.KernelAwinIdeal.main_v0_3)),
      θ_run (Cert.KernelAwinIdeal.defs (F := Ideal)) (onTc (τ := Cert.KernelAwinIdeal.τ) (Cert.KernelAwinIdeal.main (F := Ideal))) ⟨m, fun _ => 0, g⟩ (fun r => ∀ c : Dev Cert.KernelAwinIdeal.nD,
          r.2.mem ((c.tc : Thread Cert.KernelAwinIdeal.nD Cert.KernelAwinIdeal.τ).loc Cert.KernelAwinIdeal.main_v0_0) = v0 c
          ∧ r.2.mem ((c.tc : Thread Cert.KernelAwinIdeal.nD Cert.KernelAwinIdeal.τ).loc Cert.KernelAwinIdeal.main_v0_1) = v1 c
          ∧ r.2.mem ((c.tc : Thread Cert.KernelAwinIdeal.nD Cert.KernelAwinIdeal.τ).loc Cert.KernelAwinIdeal.main_v0_2) = v2 c
          ∧ r.2.mem ((c.tc : Thread Cert.KernelAwinIdeal.nD Cert.KernelAwinIdeal.τ).loc Cert.KernelAwinIdeal.main_v0_3) = v3 c
          ∧ r.2.mem ((c.tc : Thread Cert.KernelAwinIdeal.nD Cert.KernelAwinIdeal.τ).loc Cert.KernelAwinIdeal.main_arg0) = m ((c.tc : Thread Cert.KernelAwinIdeal.nD Cert.KernelAwinIdeal.τ).loc Cert.KernelAwinIdeal.main_arg0)
          ∧ r.2.mem ((c.tc : Thread Cert.KernelAwinIdeal.nD Cert.KernelAwinIdeal.τ).loc Cert.KernelAwinIdeal.main_arg1) = m ((c.tc : Thread Cert.KernelAwinIdeal.nD Cert.KernelAwinIdeal.τ).loc Cert.KernelAwinIdeal.main_arg1)
          ∧ r.2.mem ((c.tc : Thread Cert.KernelAwinIdeal.nD Cert.KernelAwinIdeal.τ).loc Cert.KernelAwinIdeal.main_arg2) = m ((c.tc : Thread Cert.KernelAwinIdeal.nD Cert.KernelAwinIdeal.τ).loc Cert.KernelAwinIdeal.main_arg2)
          ∧ r.2.mem ((c.tc : Thread Cert.KernelAwinIdeal.nD Cert.KernelAwinIdeal.τ).loc Cert.KernelAwinIdeal.main_arg3) = m ((c.tc : Thread Cert.KernelAwinIdeal.nD Cert.KernelAwinIdeal.τ).loc Cert.KernelAwinIdeal.main_arg3)
          ∧ r.2.mem ((c.tc : Thread Cert.KernelAwinIdeal.nD Cert.KernelAwinIdeal.τ).loc Cert.KernelAwinIdeal.main_arg4) = m ((c.tc : Thread Cert.KernelAwinIdeal.nD Cert.KernelAwinIdeal.τ).loc Cert.KernelAwinIdeal.main_arg4)
          ∧ r.2.mem ((c.tc : Thread Cert.KernelAwinIdeal.nD Cert.KernelAwinIdeal.τ).loc Cert.KernelAwinIdeal.main_arg5) = m ((c.tc : Thread Cert.KernelAwinIdeal.nD Cert.KernelAwinIdeal.τ).loc Cert.KernelAwinIdeal.main_arg5)
          ∧ r.2.mem ((c.tc : Thread Cert.KernelAwinIdeal.nD Cert.KernelAwinIdeal.τ).loc Cert.KernelAwinIdeal.main_arg6) = m ((c.tc : Thread Cert.KernelAwinIdeal.nD Cert.KernelAwinIdeal.τ).loc Cert.KernelAwinIdeal.main_arg6))
      ∧ θ_run (Cert.ReferenceAwinIdeal.defs (F := Ideal)) (onTc (τ := Cert.ReferenceAwinIdeal.τ) (Cert.ReferenceAwinIdeal.main (F := Ideal))) ⟨m', fun _ => 0, g'⟩ (fun r => ∀ c : Dev Cert.ReferenceAwinIdeal.nD,
          r.2.mem ((c.tc : Thread Cert.ReferenceAwinIdeal.nD Cert.ReferenceAwinIdeal.τ).loc Cert.ReferenceAwinIdeal.main_v2) = v0 c
          ∧ r.2.mem ((c.tc : Thread Cert.ReferenceAwinIdeal.nD Cert.ReferenceAwinIdeal.τ).loc Cert.ReferenceAwinIdeal.main_v26) = v1 c
          ∧ r.2.mem ((c.tc : Thread Cert.ReferenceAwinIdeal.nD Cert.ReferenceAwinIdeal.τ).loc Cert.ReferenceAwinIdeal.main_v7) = v2 c
          ∧ r.2.mem ((c.tc : Thread Cert.ReferenceAwinIdeal.nD Cert.ReferenceAwinIdeal.τ).loc Cert.ReferenceAwinIdeal.main_v13) = v3 c
          ∧ r.2.mem ((c.tc : Thread Cert.ReferenceAwinIdeal.nD Cert.ReferenceAwinIdeal.τ).loc Cert.ReferenceAwinIdeal.main_arg0) = m' ((c.tc : Thread Cert.ReferenceAwinIdeal.nD Cert.ReferenceAwinIdeal.τ).loc Cert.ReferenceAwinIdeal.main_arg0)
          ∧ r.2.mem ((c.tc : Thread Cert.ReferenceAwinIdeal.nD Cert.ReferenceAwinIdeal.τ).loc Cert.ReferenceAwinIdeal.main_arg1) = m' ((c.tc : Thread Cert.ReferenceAwinIdeal.nD Cert.ReferenceAwinIdeal.τ).loc Cert.ReferenceAwinIdeal.main_arg1)
          ∧ r.2.mem ((c.tc : Thread Cert.ReferenceAwinIdeal.nD Cert.ReferenceAwinIdeal.τ).loc Cert.ReferenceAwinIdeal.main_arg2) = m' ((c.tc : Thread Cert.ReferenceAwinIdeal.nD Cert.ReferenceAwinIdeal.τ).loc Cert.ReferenceAwinIdeal.main_arg2)
          ∧ r.2.mem ((c.tc : Thread Cert.ReferenceAwinIdeal.nD Cert.ReferenceAwinIdeal.τ).loc Cert.ReferenceAwinIdeal.main_arg3) = m' ((c.tc : Thread Cert.ReferenceAwinIdeal.nD Cert.ReferenceAwinIdeal.τ).loc Cert.ReferenceAwinIdeal.main_arg3)
          ∧ r.2.mem ((c.tc : Thread Cert.ReferenceAwinIdeal.nD Cert.ReferenceAwinIdeal.τ).loc Cert.ReferenceAwinIdeal.main_arg4) = m' ((c.tc : Thread Cert.ReferenceAwinIdeal.nD Cert.ReferenceAwinIdeal.τ).loc Cert.ReferenceAwinIdeal.main_arg4)
          ∧ r.2.mem ((c.tc : Thread Cert.ReferenceAwinIdeal.nD Cert.ReferenceAwinIdeal.τ).loc Cert.ReferenceAwinIdeal.main_arg5) = m' ((c.tc : Thread Cert.ReferenceAwinIdeal.nD Cert.ReferenceAwinIdeal.τ).loc Cert.ReferenceAwinIdeal.main_arg5)
          ∧ r.2.mem ((c.tc : Thread Cert.ReferenceAwinIdeal.nD Cert.ReferenceAwinIdeal.τ).loc Cert.ReferenceAwinIdeal.main_arg6) = m' ((c.tc : Thread Cert.ReferenceAwinIdeal.nD Cert.ReferenceAwinIdeal.τ).loc Cert.ReferenceAwinIdeal.main_arg6))

def preserves_KernelNlat_KernelNlatIdeal : Prop :=
  True

def algebraic_KernelNlatIdeal_ReferenceNlatIdeal [hKernelNlatIdeal : Cert.KernelNlatIdeal.Facts] [hReferenceNlatIdeal : Cert.ReferenceNlatIdeal.Facts] : Prop :=
  ∀ (m : (ℓ : Loc Cert.KernelNlatIdeal.nD Cert.KernelNlatIdeal.τ Cert.KernelNlatIdeal.sig) → Buf (Elt Ideal) ℓ) (g : Dev Cert.KernelNlatIdeal.nD → PrngReg)
    (m' : (ℓ : Loc Cert.ReferenceNlatIdeal.nD Cert.ReferenceNlatIdeal.τ Cert.ReferenceNlatIdeal.sig) → Buf (Elt Ideal) ℓ) (g' : Dev Cert.ReferenceNlatIdeal.nD → PrngReg), Pre_KernelNlatIdeal m →
    (∀ c : Dev Cert.KernelNlatIdeal.nD,
      m' ((c.tc : Thread Cert.ReferenceNlatIdeal.nD Cert.ReferenceNlatIdeal.τ).loc Cert.ReferenceNlatIdeal.main_arg0) = m ((c.tc : Thread Cert.KernelNlatIdeal.nD Cert.KernelNlatIdeal.τ).loc Cert.KernelNlatIdeal.main_arg0)
      ∧ m' ((c.tc : Thread Cert.ReferenceNlatIdeal.nD Cert.ReferenceNlatIdeal.τ).loc Cert.ReferenceNlatIdeal.main_arg1) = m ((c.tc : Thread Cert.KernelNlatIdeal.nD Cert.KernelNlatIdeal.τ).loc Cert.KernelNlatIdeal.main_arg1)
      ∧ m' ((c.tc : Thread Cert.ReferenceNlatIdeal.nD Cert.ReferenceNlatIdeal.τ).loc Cert.ReferenceNlatIdeal.main_arg2) = m ((c.tc : Thread Cert.KernelNlatIdeal.nD Cert.KernelNlatIdeal.τ).loc Cert.KernelNlatIdeal.main_arg2)
      ∧ m' ((c.tc : Thread Cert.ReferenceNlatIdeal.nD Cert.ReferenceNlatIdeal.τ).loc Cert.ReferenceNlatIdeal.main_arg3) = m ((c.tc : Thread Cert.KernelNlatIdeal.nD Cert.KernelNlatIdeal.τ).loc Cert.KernelNlatIdeal.main_arg3)) →
    ∃ (v0 : (c : Dev Cert.KernelNlatIdeal.nD) → Buf (Elt Ideal) ((c.tc : Thread Cert.KernelNlatIdeal.nD Cert.KernelNlatIdeal.τ).loc Cert.KernelNlatIdeal.main_v1)),
      θ_run (Cert.KernelNlatIdeal.defs (F := Ideal)) (onTc (τ := Cert.KernelNlatIdeal.τ) (Cert.KernelNlatIdeal.main (F := Ideal))) ⟨m, fun _ => 0, g⟩ (fun r => ∀ c : Dev Cert.KernelNlatIdeal.nD,
          r.2.mem ((c.tc : Thread Cert.KernelNlatIdeal.nD Cert.KernelNlatIdeal.τ).loc Cert.KernelNlatIdeal.main_v1) = v0 c
          ∧ r.2.mem ((c.tc : Thread Cert.KernelNlatIdeal.nD Cert.KernelNlatIdeal.τ).loc Cert.KernelNlatIdeal.main_arg0) = m ((c.tc : Thread Cert.KernelNlatIdeal.nD Cert.KernelNlatIdeal.τ).loc Cert.KernelNlatIdeal.main_arg0)
          ∧ r.2.mem ((c.tc : Thread Cert.KernelNlatIdeal.nD Cert.KernelNlatIdeal.τ).loc Cert.KernelNlatIdeal.main_arg1) = m ((c.tc : Thread Cert.KernelNlatIdeal.nD Cert.KernelNlatIdeal.τ).loc Cert.KernelNlatIdeal.main_arg1)
          ∧ r.2.mem ((c.tc : Thread Cert.KernelNlatIdeal.nD Cert.KernelNlatIdeal.τ).loc Cert.KernelNlatIdeal.main_arg2) = m ((c.tc : Thread Cert.KernelNlatIdeal.nD Cert.KernelNlatIdeal.τ).loc Cert.KernelNlatIdeal.main_arg2)
          ∧ r.2.mem ((c.tc : Thread Cert.KernelNlatIdeal.nD Cert.KernelNlatIdeal.τ).loc Cert.KernelNlatIdeal.main_arg3) = m ((c.tc : Thread Cert.KernelNlatIdeal.nD Cert.KernelNlatIdeal.τ).loc Cert.KernelNlatIdeal.main_arg3))
      ∧ θ_run (Cert.ReferenceNlatIdeal.defs (F := Ideal)) (onTc (τ := Cert.ReferenceNlatIdeal.τ) (Cert.ReferenceNlatIdeal.main (F := Ideal))) ⟨m', fun _ => 0, g'⟩ (fun r => ∀ c : Dev Cert.ReferenceNlatIdeal.nD,
          r.2.mem ((c.tc : Thread Cert.ReferenceNlatIdeal.nD Cert.ReferenceNlatIdeal.τ).loc Cert.ReferenceNlatIdeal.main_v18) = v0 c
          ∧ r.2.mem ((c.tc : Thread Cert.ReferenceNlatIdeal.nD Cert.ReferenceNlatIdeal.τ).loc Cert.ReferenceNlatIdeal.main_arg0) = m' ((c.tc : Thread Cert.ReferenceNlatIdeal.nD Cert.ReferenceNlatIdeal.τ).loc Cert.ReferenceNlatIdeal.main_arg0)
          ∧ r.2.mem ((c.tc : Thread Cert.ReferenceNlatIdeal.nD Cert.ReferenceNlatIdeal.τ).loc Cert.ReferenceNlatIdeal.main_arg1) = m' ((c.tc : Thread Cert.ReferenceNlatIdeal.nD Cert.ReferenceNlatIdeal.τ).loc Cert.ReferenceNlatIdeal.main_arg1)
          ∧ r.2.mem ((c.tc : Thread Cert.ReferenceNlatIdeal.nD Cert.ReferenceNlatIdeal.τ).loc Cert.ReferenceNlatIdeal.main_arg2) = m' ((c.tc : Thread Cert.ReferenceNlatIdeal.nD Cert.ReferenceNlatIdeal.τ).loc Cert.ReferenceNlatIdeal.main_arg2)
          ∧ r.2.mem ((c.tc : Thread Cert.ReferenceNlatIdeal.nD Cert.ReferenceNlatIdeal.τ).loc Cert.ReferenceNlatIdeal.main_arg3) = m' ((c.tc : Thread Cert.ReferenceNlatIdeal.nD Cert.ReferenceNlatIdeal.τ).loc Cert.ReferenceNlatIdeal.main_arg3))

def preserves_KernelNctx_KernelNctxIdeal : Prop :=
  True

def algebraic_KernelNctxIdeal_ReferenceNctxIdeal [hKernelNctxIdeal : Cert.KernelNctxIdeal.Facts] [hReferenceNctxIdeal : Cert.ReferenceNctxIdeal.Facts] : Prop :=
  ∀ (m : (ℓ : Loc Cert.KernelNctxIdeal.nD Cert.KernelNctxIdeal.τ Cert.KernelNctxIdeal.sig) → Buf (Elt Ideal) ℓ) (g : Dev Cert.KernelNctxIdeal.nD → PrngReg)
    (m' : (ℓ : Loc Cert.ReferenceNctxIdeal.nD Cert.ReferenceNctxIdeal.τ Cert.ReferenceNctxIdeal.sig) → Buf (Elt Ideal) ℓ) (g' : Dev Cert.ReferenceNctxIdeal.nD → PrngReg), Pre_KernelNctxIdeal m →
    (∀ c : Dev Cert.KernelNctxIdeal.nD,
      m' ((c.tc : Thread Cert.ReferenceNctxIdeal.nD Cert.ReferenceNctxIdeal.τ).loc Cert.ReferenceNctxIdeal.main_arg0) = m ((c.tc : Thread Cert.KernelNctxIdeal.nD Cert.KernelNctxIdeal.τ).loc Cert.KernelNctxIdeal.main_arg0)
      ∧ m' ((c.tc : Thread Cert.ReferenceNctxIdeal.nD Cert.ReferenceNctxIdeal.τ).loc Cert.ReferenceNctxIdeal.main_arg1) = m ((c.tc : Thread Cert.KernelNctxIdeal.nD Cert.KernelNctxIdeal.τ).loc Cert.KernelNctxIdeal.main_arg1)
      ∧ m' ((c.tc : Thread Cert.ReferenceNctxIdeal.nD Cert.ReferenceNctxIdeal.τ).loc Cert.ReferenceNctxIdeal.main_arg2) = m ((c.tc : Thread Cert.KernelNctxIdeal.nD Cert.KernelNctxIdeal.τ).loc Cert.KernelNctxIdeal.main_arg2)
      ∧ m' ((c.tc : Thread Cert.ReferenceNctxIdeal.nD Cert.ReferenceNctxIdeal.τ).loc Cert.ReferenceNctxIdeal.main_arg3) = m ((c.tc : Thread Cert.KernelNctxIdeal.nD Cert.KernelNctxIdeal.τ).loc Cert.KernelNctxIdeal.main_arg3)
      ∧ m' ((c.tc : Thread Cert.ReferenceNctxIdeal.nD Cert.ReferenceNctxIdeal.τ).loc Cert.ReferenceNctxIdeal.main_arg4) = m ((c.tc : Thread Cert.KernelNctxIdeal.nD Cert.KernelNctxIdeal.τ).loc Cert.KernelNctxIdeal.main_arg4)) →
    ∃ (v0 : (c : Dev Cert.KernelNctxIdeal.nD) → Buf (Elt Ideal) ((c.tc : Thread Cert.KernelNctxIdeal.nD Cert.KernelNctxIdeal.τ).loc Cert.KernelNctxIdeal.main_v0)),
      θ_run (Cert.KernelNctxIdeal.defs (F := Ideal)) (onTc (τ := Cert.KernelNctxIdeal.τ) (Cert.KernelNctxIdeal.main (F := Ideal))) ⟨m, fun _ => 0, g⟩ (fun r => ∀ c : Dev Cert.KernelNctxIdeal.nD,
          r.2.mem ((c.tc : Thread Cert.KernelNctxIdeal.nD Cert.KernelNctxIdeal.τ).loc Cert.KernelNctxIdeal.main_v0) = v0 c
          ∧ r.2.mem ((c.tc : Thread Cert.KernelNctxIdeal.nD Cert.KernelNctxIdeal.τ).loc Cert.KernelNctxIdeal.main_arg0) = m ((c.tc : Thread Cert.KernelNctxIdeal.nD Cert.KernelNctxIdeal.τ).loc Cert.KernelNctxIdeal.main_arg0)
          ∧ r.2.mem ((c.tc : Thread Cert.KernelNctxIdeal.nD Cert.KernelNctxIdeal.τ).loc Cert.KernelNctxIdeal.main_arg1) = m ((c.tc : Thread Cert.KernelNctxIdeal.nD Cert.KernelNctxIdeal.τ).loc Cert.KernelNctxIdeal.main_arg1)
          ∧ r.2.mem ((c.tc : Thread Cert.KernelNctxIdeal.nD Cert.KernelNctxIdeal.τ).loc Cert.KernelNctxIdeal.main_arg2) = m ((c.tc : Thread Cert.KernelNctxIdeal.nD Cert.KernelNctxIdeal.τ).loc Cert.KernelNctxIdeal.main_arg2)
          ∧ r.2.mem ((c.tc : Thread Cert.KernelNctxIdeal.nD Cert.KernelNctxIdeal.τ).loc Cert.KernelNctxIdeal.main_arg3) = m ((c.tc : Thread Cert.KernelNctxIdeal.nD Cert.KernelNctxIdeal.τ).loc Cert.KernelNctxIdeal.main_arg3)
          ∧ r.2.mem ((c.tc : Thread Cert.KernelNctxIdeal.nD Cert.KernelNctxIdeal.τ).loc Cert.KernelNctxIdeal.main_arg4) = m ((c.tc : Thread Cert.KernelNctxIdeal.nD Cert.KernelNctxIdeal.τ).loc Cert.KernelNctxIdeal.main_arg4))
      ∧ θ_run (Cert.ReferenceNctxIdeal.defs (F := Ideal)) (onTc (τ := Cert.ReferenceNctxIdeal.τ) (Cert.ReferenceNctxIdeal.main (F := Ideal))) ⟨m', fun _ => 0, g'⟩ (fun r => ∀ c : Dev Cert.ReferenceNctxIdeal.nD,
          r.2.mem ((c.tc : Thread Cert.ReferenceNctxIdeal.nD Cert.ReferenceNctxIdeal.τ).loc Cert.ReferenceNctxIdeal.main_v20) = v0 c
          ∧ r.2.mem ((c.tc : Thread Cert.ReferenceNctxIdeal.nD Cert.ReferenceNctxIdeal.τ).loc Cert.ReferenceNctxIdeal.main_arg0) = m' ((c.tc : Thread Cert.ReferenceNctxIdeal.nD Cert.ReferenceNctxIdeal.τ).loc Cert.ReferenceNctxIdeal.main_arg0)
          ∧ r.2.mem ((c.tc : Thread Cert.ReferenceNctxIdeal.nD Cert.ReferenceNctxIdeal.τ).loc Cert.ReferenceNctxIdeal.main_arg1) = m' ((c.tc : Thread Cert.ReferenceNctxIdeal.nD Cert.ReferenceNctxIdeal.τ).loc Cert.ReferenceNctxIdeal.main_arg1)
          ∧ r.2.mem ((c.tc : Thread Cert.ReferenceNctxIdeal.nD Cert.ReferenceNctxIdeal.τ).loc Cert.ReferenceNctxIdeal.main_arg2) = m' ((c.tc : Thread Cert.ReferenceNctxIdeal.nD Cert.ReferenceNctxIdeal.τ).loc Cert.ReferenceNctxIdeal.main_arg2)
          ∧ r.2.mem ((c.tc : Thread Cert.ReferenceNctxIdeal.nD Cert.ReferenceNctxIdeal.τ).loc Cert.ReferenceNctxIdeal.main_arg3) = m' ((c.tc : Thread Cert.ReferenceNctxIdeal.nD Cert.ReferenceNctxIdeal.τ).loc Cert.ReferenceNctxIdeal.main_arg3)
          ∧ r.2.mem ((c.tc : Thread Cert.ReferenceNctxIdeal.nD Cert.ReferenceNctxIdeal.τ).loc Cert.ReferenceNctxIdeal.main_arg4) = m' ((c.tc : Thread Cert.ReferenceNctxIdeal.nD Cert.ReferenceNctxIdeal.τ).loc Cert.ReferenceNctxIdeal.main_arg4))

def preserves_KernelConv_KernelConvIdeal : Prop :=
  True

def algebraic_KernelConvIdeal_ReferenceConvIdeal [hKernelConvIdeal : Cert.KernelConvIdeal.Facts] [hReferenceConvIdeal : Cert.ReferenceConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg)
    (m' : (ℓ : Loc Cert.ReferenceConvIdeal.nD Cert.ReferenceConvIdeal.τ Cert.ReferenceConvIdeal.sig) → Buf (Elt Ideal) ℓ) (g' : Dev Cert.ReferenceConvIdeal.nD → PrngReg), Pre_KernelConvIdeal m →
    (∀ c : Dev Cert.KernelConvIdeal.nD,
      m' ((c.tc : Thread Cert.ReferenceConvIdeal.nD Cert.ReferenceConvIdeal.τ).loc Cert.ReferenceConvIdeal.main_arg0) = m ((c.tc : Thread Cert.KernelConvIdeal.nD Cert.KernelConvIdeal.τ).loc Cert.KernelConvIdeal.main_arg0)
      ∧ m' ((c.tc : Thread Cert.ReferenceConvIdeal.nD Cert.ReferenceConvIdeal.τ).loc Cert.ReferenceConvIdeal.main_arg1) = m ((c.tc : Thread Cert.KernelConvIdeal.nD Cert.KernelConvIdeal.τ).loc Cert.KernelConvIdeal.main_arg1)
      ∧ m' ((c.tc : Thread Cert.ReferenceConvIdeal.nD Cert.ReferenceConvIdeal.τ).loc Cert.ReferenceConvIdeal.main_arg2) = m ((c.tc : Thread Cert.KernelConvIdeal.nD Cert.KernelConvIdeal.τ).loc Cert.KernelConvIdeal.main_arg2)) →
    ∃ (v0 : (c : Dev Cert.KernelConvIdeal.nD) → Buf (Elt Ideal) ((c.tc : Thread Cert.KernelConvIdeal.nD Cert.KernelConvIdeal.τ).loc Cert.KernelConvIdeal.main_v0)),
      θ_run (Cert.KernelConvIdeal.defs (F := Ideal)) (onTc (τ := Cert.KernelConvIdeal.τ) (Cert.KernelConvIdeal.main (F := Ideal))) ⟨m, fun _ => 0, g⟩ (fun r => ∀ c : Dev Cert.KernelConvIdeal.nD,
          r.2.mem ((c.tc : Thread Cert.KernelConvIdeal.nD Cert.KernelConvIdeal.τ).loc Cert.KernelConvIdeal.main_v0) = v0 c
          ∧ r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
          ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
          ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2))
      ∧ θ_run (Cert.ReferenceConvIdeal.defs (F := Ideal)) (onTc (τ := Cert.ReferenceConvIdeal.τ) (Cert.ReferenceConvIdeal.main (F := Ideal))) ⟨m', fun _ => 0, g'⟩ (fun r => ∀ c : Dev Cert.ReferenceConvIdeal.nD,
          r.2.mem ((c.tc : Thread Cert.ReferenceConvIdeal.nD Cert.ReferenceConvIdeal.τ).loc Cert.ReferenceConvIdeal.main_v63) = v0 c
          ∧ r.2.mem ((c.tc : Thread Cert.ReferenceConvIdeal.nD Cert.ReferenceConvIdeal.τ).loc Cert.ReferenceConvIdeal.main_arg0) = m' ((c.tc : Thread Cert.ReferenceConvIdeal.nD Cert.ReferenceConvIdeal.τ).loc Cert.ReferenceConvIdeal.main_arg0)
          ∧ r.2.mem ((c.tc : Thread Cert.ReferenceConvIdeal.nD Cert.ReferenceConvIdeal.τ).loc Cert.ReferenceConvIdeal.main_arg1) = m' ((c.tc : Thread Cert.ReferenceConvIdeal.nD Cert.ReferenceConvIdeal.τ).loc Cert.ReferenceConvIdeal.main_arg1)
          ∧ r.2.mem ((c.tc : Thread Cert.ReferenceConvIdeal.nD Cert.ReferenceConvIdeal.τ).loc Cert.ReferenceConvIdeal.main_arg2) = m' ((c.tc : Thread Cert.ReferenceConvIdeal.nD Cert.ReferenceConvIdeal.τ).loc Cert.ReferenceConvIdeal.main_arg2))

def preserves_KernelSsum_KernelSsumIdeal : Prop :=
  True

def algebraic_KernelSsumIdeal_ReferenceSsumIdeal [hKernelSsumIdeal : Cert.KernelSsumIdeal.Facts] [hReferenceSsumIdeal : Cert.ReferenceSsumIdeal.Facts] : Prop :=
  ∀ (m : (ℓ : Loc Cert.KernelSsumIdeal.nD Cert.KernelSsumIdeal.τ Cert.KernelSsumIdeal.sig) → Buf (Elt Ideal) ℓ) (g : Dev Cert.KernelSsumIdeal.nD → PrngReg)
    (m' : (ℓ : Loc Cert.ReferenceSsumIdeal.nD Cert.ReferenceSsumIdeal.τ Cert.ReferenceSsumIdeal.sig) → Buf (Elt Ideal) ℓ) (g' : Dev Cert.ReferenceSsumIdeal.nD → PrngReg), Pre_KernelSsumIdeal m →
    (∀ c : Dev Cert.KernelSsumIdeal.nD,
      m' ((c.tc : Thread Cert.ReferenceSsumIdeal.nD Cert.ReferenceSsumIdeal.τ).loc Cert.ReferenceSsumIdeal.main_arg0) = m ((c.tc : Thread Cert.KernelSsumIdeal.nD Cert.KernelSsumIdeal.τ).loc Cert.KernelSsumIdeal.main_arg0)
      ∧ m' ((c.tc : Thread Cert.ReferenceSsumIdeal.nD Cert.ReferenceSsumIdeal.τ).loc Cert.ReferenceSsumIdeal.main_arg1) = m ((c.tc : Thread Cert.KernelSsumIdeal.nD Cert.KernelSsumIdeal.τ).loc Cert.KernelSsumIdeal.main_arg1)
      ∧ m' ((c.tc : Thread Cert.ReferenceSsumIdeal.nD Cert.ReferenceSsumIdeal.τ).loc Cert.ReferenceSsumIdeal.main_arg2) = m ((c.tc : Thread Cert.KernelSsumIdeal.nD Cert.KernelSsumIdeal.τ).loc Cert.KernelSsumIdeal.main_arg2)) →
    ∃ (v0 : (c : Dev Cert.KernelSsumIdeal.nD) → Buf (Elt Ideal) ((c.tc : Thread Cert.KernelSsumIdeal.nD Cert.KernelSsumIdeal.τ).loc Cert.KernelSsumIdeal.main_v0_0)) (v1 : (c : Dev Cert.KernelSsumIdeal.nD) → Buf (Elt Ideal) ((c.tc : Thread Cert.KernelSsumIdeal.nD Cert.KernelSsumIdeal.τ).loc Cert.KernelSsumIdeal.main_v0_1)),
      θ_run (Cert.KernelSsumIdeal.defs (F := Ideal)) (onTc (τ := Cert.KernelSsumIdeal.τ) (Cert.KernelSsumIdeal.main (F := Ideal))) ⟨m, fun _ => 0, g⟩ (fun r => ∀ c : Dev Cert.KernelSsumIdeal.nD,
          r.2.mem ((c.tc : Thread Cert.KernelSsumIdeal.nD Cert.KernelSsumIdeal.τ).loc Cert.KernelSsumIdeal.main_v0_0) = v0 c
          ∧ r.2.mem ((c.tc : Thread Cert.KernelSsumIdeal.nD Cert.KernelSsumIdeal.τ).loc Cert.KernelSsumIdeal.main_v0_1) = v1 c
          ∧ r.2.mem ((c.tc : Thread Cert.KernelSsumIdeal.nD Cert.KernelSsumIdeal.τ).loc Cert.KernelSsumIdeal.main_arg0) = m ((c.tc : Thread Cert.KernelSsumIdeal.nD Cert.KernelSsumIdeal.τ).loc Cert.KernelSsumIdeal.main_arg0)
          ∧ r.2.mem ((c.tc : Thread Cert.KernelSsumIdeal.nD Cert.KernelSsumIdeal.τ).loc Cert.KernelSsumIdeal.main_arg1) = m ((c.tc : Thread Cert.KernelSsumIdeal.nD Cert.KernelSsumIdeal.τ).loc Cert.KernelSsumIdeal.main_arg1)
          ∧ r.2.mem ((c.tc : Thread Cert.KernelSsumIdeal.nD Cert.KernelSsumIdeal.τ).loc Cert.KernelSsumIdeal.main_arg2) = m ((c.tc : Thread Cert.KernelSsumIdeal.nD Cert.KernelSsumIdeal.τ).loc Cert.KernelSsumIdeal.main_arg2))
      ∧ θ_run (Cert.ReferenceSsumIdeal.defs (F := Ideal)) (onTc (τ := Cert.ReferenceSsumIdeal.τ) (Cert.ReferenceSsumIdeal.main (F := Ideal))) ⟨m', fun _ => 0, g'⟩ (fun r => ∀ c : Dev Cert.ReferenceSsumIdeal.nD,
          r.2.mem ((c.tc : Thread Cert.ReferenceSsumIdeal.nD Cert.ReferenceSsumIdeal.τ).loc Cert.ReferenceSsumIdeal.main_v1) = v0 c
          ∧ r.2.mem ((c.tc : Thread Cert.ReferenceSsumIdeal.nD Cert.ReferenceSsumIdeal.τ).loc Cert.ReferenceSsumIdeal.main_v6) = v1 c
          ∧ r.2.mem ((c.tc : Thread Cert.ReferenceSsumIdeal.nD Cert.ReferenceSsumIdeal.τ).loc Cert.ReferenceSsumIdeal.main_arg0) = m' ((c.tc : Thread Cert.ReferenceSsumIdeal.nD Cert.ReferenceSsumIdeal.τ).loc Cert.ReferenceSsumIdeal.main_arg0)
          ∧ r.2.mem ((c.tc : Thread Cert.ReferenceSsumIdeal.nD Cert.ReferenceSsumIdeal.τ).loc Cert.ReferenceSsumIdeal.main_arg1) = m' ((c.tc : Thread Cert.ReferenceSsumIdeal.nD Cert.ReferenceSsumIdeal.τ).loc Cert.ReferenceSsumIdeal.main_arg1)
          ∧ r.2.mem ((c.tc : Thread Cert.ReferenceSsumIdeal.nD Cert.ReferenceSsumIdeal.τ).loc Cert.ReferenceSsumIdeal.main_arg2) = m' ((c.tc : Thread Cert.ReferenceSsumIdeal.nD Cert.ReferenceSsumIdeal.τ).loc Cert.ReferenceSsumIdeal.main_arg2))

def preserves_KernelNbc_KernelNbcIdeal : Prop :=
  True

def algebraic_KernelNbcIdeal_ReferenceNbcIdeal [hKernelNbcIdeal : Cert.KernelNbcIdeal.Facts] [hReferenceNbcIdeal : Cert.ReferenceNbcIdeal.Facts] : Prop :=
  ∀ (m : (ℓ : Loc Cert.KernelNbcIdeal.nD Cert.KernelNbcIdeal.τ Cert.KernelNbcIdeal.sig) → Buf (Elt Ideal) ℓ) (g : Dev Cert.KernelNbcIdeal.nD → PrngReg)
    (m' : (ℓ : Loc Cert.ReferenceNbcIdeal.nD Cert.ReferenceNbcIdeal.τ Cert.ReferenceNbcIdeal.sig) → Buf (Elt Ideal) ℓ) (g' : Dev Cert.ReferenceNbcIdeal.nD → PrngReg), Pre_KernelNbcIdeal m →
    (∀ c : Dev Cert.KernelNbcIdeal.nD,
      m' ((c.tc : Thread Cert.ReferenceNbcIdeal.nD Cert.ReferenceNbcIdeal.τ).loc Cert.ReferenceNbcIdeal.main_arg0) = m ((c.tc : Thread Cert.KernelNbcIdeal.nD Cert.KernelNbcIdeal.τ).loc Cert.KernelNbcIdeal.main_arg0)
      ∧ m' ((c.tc : Thread Cert.ReferenceNbcIdeal.nD Cert.ReferenceNbcIdeal.τ).loc Cert.ReferenceNbcIdeal.main_arg1) = m ((c.tc : Thread Cert.KernelNbcIdeal.nD Cert.KernelNbcIdeal.τ).loc Cert.KernelNbcIdeal.main_arg1)
      ∧ m' ((c.tc : Thread Cert.ReferenceNbcIdeal.nD Cert.ReferenceNbcIdeal.τ).loc Cert.ReferenceNbcIdeal.main_arg2) = m ((c.tc : Thread Cert.KernelNbcIdeal.nD Cert.KernelNbcIdeal.τ).loc Cert.KernelNbcIdeal.main_arg2)
      ∧ m' ((c.tc : Thread Cert.ReferenceNbcIdeal.nD Cert.ReferenceNbcIdeal.τ).loc Cert.ReferenceNbcIdeal.main_arg3) = m ((c.tc : Thread Cert.KernelNbcIdeal.nD Cert.KernelNbcIdeal.τ).loc Cert.KernelNbcIdeal.main_arg3)
      ∧ m' ((c.tc : Thread Cert.ReferenceNbcIdeal.nD Cert.ReferenceNbcIdeal.τ).loc Cert.ReferenceNbcIdeal.main_arg4) = m ((c.tc : Thread Cert.KernelNbcIdeal.nD Cert.KernelNbcIdeal.τ).loc Cert.KernelNbcIdeal.main_arg4)
      ∧ m' ((c.tc : Thread Cert.ReferenceNbcIdeal.nD Cert.ReferenceNbcIdeal.τ).loc Cert.ReferenceNbcIdeal.main_arg5) = m ((c.tc : Thread Cert.KernelNbcIdeal.nD Cert.KernelNbcIdeal.τ).loc Cert.KernelNbcIdeal.main_arg5)) →
    ∃ (v0 : (c : Dev Cert.KernelNbcIdeal.nD) → Buf (Elt Ideal) ((c.tc : Thread Cert.KernelNbcIdeal.nD Cert.KernelNbcIdeal.τ).loc Cert.KernelNbcIdeal.main_v0_0)) (v1 : (c : Dev Cert.KernelNbcIdeal.nD) → Buf (Elt Ideal) ((c.tc : Thread Cert.KernelNbcIdeal.nD Cert.KernelNbcIdeal.τ).loc Cert.KernelNbcIdeal.main_v0_1)) (v2 : (c : Dev Cert.KernelNbcIdeal.nD) → Buf (Elt Ideal) ((c.tc : Thread Cert.KernelNbcIdeal.nD Cert.KernelNbcIdeal.τ).loc Cert.KernelNbcIdeal.main_v0_2)),
      θ_run (Cert.KernelNbcIdeal.defs (F := Ideal)) (onTc (τ := Cert.KernelNbcIdeal.τ) (Cert.KernelNbcIdeal.main (F := Ideal))) ⟨m, fun _ => 0, g⟩ (fun r => ∀ c : Dev Cert.KernelNbcIdeal.nD,
          r.2.mem ((c.tc : Thread Cert.KernelNbcIdeal.nD Cert.KernelNbcIdeal.τ).loc Cert.KernelNbcIdeal.main_v0_0) = v0 c
          ∧ r.2.mem ((c.tc : Thread Cert.KernelNbcIdeal.nD Cert.KernelNbcIdeal.τ).loc Cert.KernelNbcIdeal.main_v0_1) = v1 c
          ∧ r.2.mem ((c.tc : Thread Cert.KernelNbcIdeal.nD Cert.KernelNbcIdeal.τ).loc Cert.KernelNbcIdeal.main_v0_2) = v2 c
          ∧ r.2.mem ((c.tc : Thread Cert.KernelNbcIdeal.nD Cert.KernelNbcIdeal.τ).loc Cert.KernelNbcIdeal.main_arg0) = m ((c.tc : Thread Cert.KernelNbcIdeal.nD Cert.KernelNbcIdeal.τ).loc Cert.KernelNbcIdeal.main_arg0)
          ∧ r.2.mem ((c.tc : Thread Cert.KernelNbcIdeal.nD Cert.KernelNbcIdeal.τ).loc Cert.KernelNbcIdeal.main_arg1) = m ((c.tc : Thread Cert.KernelNbcIdeal.nD Cert.KernelNbcIdeal.τ).loc Cert.KernelNbcIdeal.main_arg1)
          ∧ r.2.mem ((c.tc : Thread Cert.KernelNbcIdeal.nD Cert.KernelNbcIdeal.τ).loc Cert.KernelNbcIdeal.main_arg2) = m ((c.tc : Thread Cert.KernelNbcIdeal.nD Cert.KernelNbcIdeal.τ).loc Cert.KernelNbcIdeal.main_arg2)
          ∧ r.2.mem ((c.tc : Thread Cert.KernelNbcIdeal.nD Cert.KernelNbcIdeal.τ).loc Cert.KernelNbcIdeal.main_arg3) = m ((c.tc : Thread Cert.KernelNbcIdeal.nD Cert.KernelNbcIdeal.τ).loc Cert.KernelNbcIdeal.main_arg3)
          ∧ r.2.mem ((c.tc : Thread Cert.KernelNbcIdeal.nD Cert.KernelNbcIdeal.τ).loc Cert.KernelNbcIdeal.main_arg4) = m ((c.tc : Thread Cert.KernelNbcIdeal.nD Cert.KernelNbcIdeal.τ).loc Cert.KernelNbcIdeal.main_arg4)
          ∧ r.2.mem ((c.tc : Thread Cert.KernelNbcIdeal.nD Cert.KernelNbcIdeal.τ).loc Cert.KernelNbcIdeal.main_arg5) = m ((c.tc : Thread Cert.KernelNbcIdeal.nD Cert.KernelNbcIdeal.τ).loc Cert.KernelNbcIdeal.main_arg5))
      ∧ θ_run (Cert.ReferenceNbcIdeal.defs (F := Ideal)) (onTc (τ := Cert.ReferenceNbcIdeal.τ) (Cert.ReferenceNbcIdeal.main (F := Ideal))) ⟨m', fun _ => 0, g'⟩ (fun r => ∀ c : Dev Cert.ReferenceNbcIdeal.nD,
          r.2.mem ((c.tc : Thread Cert.ReferenceNbcIdeal.nD Cert.ReferenceNbcIdeal.τ).loc Cert.ReferenceNbcIdeal.main_v20) = v0 c
          ∧ r.2.mem ((c.tc : Thread Cert.ReferenceNbcIdeal.nD Cert.ReferenceNbcIdeal.τ).loc Cert.ReferenceNbcIdeal.main_v23) = v1 c
          ∧ r.2.mem ((c.tc : Thread Cert.ReferenceNbcIdeal.nD Cert.ReferenceNbcIdeal.τ).loc Cert.ReferenceNbcIdeal.main_v29) = v2 c
          ∧ r.2.mem ((c.tc : Thread Cert.ReferenceNbcIdeal.nD Cert.ReferenceNbcIdeal.τ).loc Cert.ReferenceNbcIdeal.main_arg0) = m' ((c.tc : Thread Cert.ReferenceNbcIdeal.nD Cert.ReferenceNbcIdeal.τ).loc Cert.ReferenceNbcIdeal.main_arg0)
          ∧ r.2.mem ((c.tc : Thread Cert.ReferenceNbcIdeal.nD Cert.ReferenceNbcIdeal.τ).loc Cert.ReferenceNbcIdeal.main_arg1) = m' ((c.tc : Thread Cert.ReferenceNbcIdeal.nD Cert.ReferenceNbcIdeal.τ).loc Cert.ReferenceNbcIdeal.main_arg1)
          ∧ r.2.mem ((c.tc : Thread Cert.ReferenceNbcIdeal.nD Cert.ReferenceNbcIdeal.τ).loc Cert.ReferenceNbcIdeal.main_arg2) = m' ((c.tc : Thread Cert.ReferenceNbcIdeal.nD Cert.ReferenceNbcIdeal.τ).loc Cert.ReferenceNbcIdeal.main_arg2)
          ∧ r.2.mem ((c.tc : Thread Cert.ReferenceNbcIdeal.nD Cert.ReferenceNbcIdeal.τ).loc Cert.ReferenceNbcIdeal.main_arg3) = m' ((c.tc : Thread Cert.ReferenceNbcIdeal.nD Cert.ReferenceNbcIdeal.τ).loc Cert.ReferenceNbcIdeal.main_arg3)
          ∧ r.2.mem ((c.tc : Thread Cert.ReferenceNbcIdeal.nD Cert.ReferenceNbcIdeal.τ).loc Cert.ReferenceNbcIdeal.main_arg4) = m' ((c.tc : Thread Cert.ReferenceNbcIdeal.nD Cert.ReferenceNbcIdeal.τ).loc Cert.ReferenceNbcIdeal.main_arg4)
          ∧ r.2.mem ((c.tc : Thread Cert.ReferenceNbcIdeal.nD Cert.ReferenceNbcIdeal.τ).loc Cert.ReferenceNbcIdeal.main_arg5) = m' ((c.tc : Thread Cert.ReferenceNbcIdeal.nD Cert.ReferenceNbcIdeal.τ).loc Cert.ReferenceNbcIdeal.main_arg5))

def preserves_KernelAfwd_KernelAfwdIdeal : Prop :=
  True

def algebraic_KernelAfwdIdeal_ReferenceAfwdIdeal [hKernelAfwdIdeal : Cert.KernelAfwdIdeal.Facts] [hReferenceAfwdIdeal : Cert.ReferenceAfwdIdeal.Facts] : Prop :=
  ∀ (m : (ℓ : Loc Cert.KernelAfwdIdeal.nD Cert.KernelAfwdIdeal.τ Cert.KernelAfwdIdeal.sig) → Buf (Elt Ideal) ℓ) (g : Dev Cert.KernelAfwdIdeal.nD → PrngReg)
    (m' : (ℓ : Loc Cert.ReferenceAfwdIdeal.nD Cert.ReferenceAfwdIdeal.τ Cert.ReferenceAfwdIdeal.sig) → Buf (Elt Ideal) ℓ) (g' : Dev Cert.ReferenceAfwdIdeal.nD → PrngReg), Pre_KernelAfwdIdeal m →
    (∀ c : Dev Cert.KernelAfwdIdeal.nD,
      m' ((c.tc : Thread Cert.ReferenceAfwdIdeal.nD Cert.ReferenceAfwdIdeal.τ).loc Cert.ReferenceAfwdIdeal.main_arg0) = m ((c.tc : Thread Cert.KernelAfwdIdeal.nD Cert.KernelAfwdIdeal.τ).loc Cert.KernelAfwdIdeal.main_arg0)
      ∧ m' ((c.tc : Thread Cert.ReferenceAfwdIdeal.nD Cert.ReferenceAfwdIdeal.τ).loc Cert.ReferenceAfwdIdeal.main_arg1) = m ((c.tc : Thread Cert.KernelAfwdIdeal.nD Cert.KernelAfwdIdeal.τ).loc Cert.KernelAfwdIdeal.main_arg1)
      ∧ m' ((c.tc : Thread Cert.ReferenceAfwdIdeal.nD Cert.ReferenceAfwdIdeal.τ).loc Cert.ReferenceAfwdIdeal.main_arg2) = m ((c.tc : Thread Cert.KernelAfwdIdeal.nD Cert.KernelAfwdIdeal.τ).loc Cert.KernelAfwdIdeal.main_arg2)) →
    ∃ (v0 : (c : Dev Cert.KernelAfwdIdeal.nD) → Buf (Elt Ideal) ((c.tc : Thread Cert.KernelAfwdIdeal.nD Cert.KernelAfwdIdeal.τ).loc Cert.KernelAfwdIdeal.main_v0_0)) (v1 : (c : Dev Cert.KernelAfwdIdeal.nD) → Buf (Elt Ideal) ((c.tc : Thread Cert.KernelAfwdIdeal.nD Cert.KernelAfwdIdeal.τ).loc Cert.KernelAfwdIdeal.main_v0_1)),
      θ_run (Cert.KernelAfwdIdeal.defs (F := Ideal)) (onTc (τ := Cert.KernelAfwdIdeal.τ) (Cert.KernelAfwdIdeal.main (F := Ideal))) ⟨m, fun _ => 0, g⟩ (fun r => ∀ c : Dev Cert.KernelAfwdIdeal.nD,
          r.2.mem ((c.tc : Thread Cert.KernelAfwdIdeal.nD Cert.KernelAfwdIdeal.τ).loc Cert.KernelAfwdIdeal.main_v0_0) = v0 c
          ∧ r.2.mem ((c.tc : Thread Cert.KernelAfwdIdeal.nD Cert.KernelAfwdIdeal.τ).loc Cert.KernelAfwdIdeal.main_v0_1) = v1 c
          ∧ r.2.mem ((c.tc : Thread Cert.KernelAfwdIdeal.nD Cert.KernelAfwdIdeal.τ).loc Cert.KernelAfwdIdeal.main_arg0) = m ((c.tc : Thread Cert.KernelAfwdIdeal.nD Cert.KernelAfwdIdeal.τ).loc Cert.KernelAfwdIdeal.main_arg0)
          ∧ r.2.mem ((c.tc : Thread Cert.KernelAfwdIdeal.nD Cert.KernelAfwdIdeal.τ).loc Cert.KernelAfwdIdeal.main_arg1) = m ((c.tc : Thread Cert.KernelAfwdIdeal.nD Cert.KernelAfwdIdeal.τ).loc Cert.KernelAfwdIdeal.main_arg1)
          ∧ r.2.mem ((c.tc : Thread Cert.KernelAfwdIdeal.nD Cert.KernelAfwdIdeal.τ).loc Cert.KernelAfwdIdeal.main_arg2) = m ((c.tc : Thread Cert.KernelAfwdIdeal.nD Cert.KernelAfwdIdeal.τ).loc Cert.KernelAfwdIdeal.main_arg2))
      ∧ θ_run (Cert.ReferenceAfwdIdeal.defs (F := Ideal)) (onTc (τ := Cert.ReferenceAfwdIdeal.τ) (Cert.ReferenceAfwdIdeal.main (F := Ideal))) ⟨m', fun _ => 0, g'⟩ (fun r => ∀ c : Dev Cert.ReferenceAfwdIdeal.nD,
          r.2.mem ((c.tc : Thread Cert.ReferenceAfwdIdeal.nD Cert.ReferenceAfwdIdeal.τ).loc Cert.ReferenceAfwdIdeal.main_v3) = v0 c
          ∧ r.2.mem ((c.tc : Thread Cert.ReferenceAfwdIdeal.nD Cert.ReferenceAfwdIdeal.τ).loc Cert.ReferenceAfwdIdeal.main_v0) = v1 c
          ∧ r.2.mem ((c.tc : Thread Cert.ReferenceAfwdIdeal.nD Cert.ReferenceAfwdIdeal.τ).loc Cert.ReferenceAfwdIdeal.main_arg0) = m' ((c.tc : Thread Cert.ReferenceAfwdIdeal.nD Cert.ReferenceAfwdIdeal.τ).loc Cert.ReferenceAfwdIdeal.main_arg0)
          ∧ r.2.mem ((c.tc : Thread Cert.ReferenceAfwdIdeal.nD Cert.ReferenceAfwdIdeal.τ).loc Cert.ReferenceAfwdIdeal.main_arg1) = m' ((c.tc : Thread Cert.ReferenceAfwdIdeal.nD Cert.ReferenceAfwdIdeal.τ).loc Cert.ReferenceAfwdIdeal.main_arg1)
          ∧ r.2.mem ((c.tc : Thread Cert.ReferenceAfwdIdeal.nD Cert.ReferenceAfwdIdeal.τ).loc Cert.ReferenceAfwdIdeal.main_arg2) = m' ((c.tc : Thread Cert.ReferenceAfwdIdeal.nD Cert.ReferenceAfwdIdeal.τ).loc Cert.ReferenceAfwdIdeal.main_arg2))

def preserves_KernelAbwd_KernelAbwdIdeal : Prop :=
  True

def algebraic_KernelAbwdIdeal_ReferenceAbwdIdeal [hKernelAbwdIdeal : Cert.KernelAbwdIdeal.Facts] [hReferenceAbwdIdeal : Cert.ReferenceAbwdIdeal.Facts] : Prop :=
  ∀ (m : (ℓ : Loc Cert.KernelAbwdIdeal.nD Cert.KernelAbwdIdeal.τ Cert.KernelAbwdIdeal.sig) → Buf (Elt Ideal) ℓ) (g : Dev Cert.KernelAbwdIdeal.nD → PrngReg)
    (m' : (ℓ : Loc Cert.ReferenceAbwdIdeal.nD Cert.ReferenceAbwdIdeal.τ Cert.ReferenceAbwdIdeal.sig) → Buf (Elt Ideal) ℓ) (g' : Dev Cert.ReferenceAbwdIdeal.nD → PrngReg), Pre_KernelAbwdIdeal m →
    (∀ c : Dev Cert.KernelAbwdIdeal.nD,
      m' ((c.tc : Thread Cert.ReferenceAbwdIdeal.nD Cert.ReferenceAbwdIdeal.τ).loc Cert.ReferenceAbwdIdeal.main_arg0) = m ((c.tc : Thread Cert.KernelAbwdIdeal.nD Cert.KernelAbwdIdeal.τ).loc Cert.KernelAbwdIdeal.main_arg0)
      ∧ m' ((c.tc : Thread Cert.ReferenceAbwdIdeal.nD Cert.ReferenceAbwdIdeal.τ).loc Cert.ReferenceAbwdIdeal.main_arg1) = m ((c.tc : Thread Cert.KernelAbwdIdeal.nD Cert.KernelAbwdIdeal.τ).loc Cert.KernelAbwdIdeal.main_arg1)
      ∧ m' ((c.tc : Thread Cert.ReferenceAbwdIdeal.nD Cert.ReferenceAbwdIdeal.τ).loc Cert.ReferenceAbwdIdeal.main_arg2) = m ((c.tc : Thread Cert.KernelAbwdIdeal.nD Cert.KernelAbwdIdeal.τ).loc Cert.KernelAbwdIdeal.main_arg2)
      ∧ m' ((c.tc : Thread Cert.ReferenceAbwdIdeal.nD Cert.ReferenceAbwdIdeal.τ).loc Cert.ReferenceAbwdIdeal.main_arg3) = m ((c.tc : Thread Cert.KernelAbwdIdeal.nD Cert.KernelAbwdIdeal.τ).loc Cert.KernelAbwdIdeal.main_arg3)
      ∧ m' ((c.tc : Thread Cert.ReferenceAbwdIdeal.nD Cert.ReferenceAbwdIdeal.τ).loc Cert.ReferenceAbwdIdeal.main_arg4) = m ((c.tc : Thread Cert.KernelAbwdIdeal.nD Cert.KernelAbwdIdeal.τ).loc Cert.KernelAbwdIdeal.main_arg4)
      ∧ m' ((c.tc : Thread Cert.ReferenceAbwdIdeal.nD Cert.ReferenceAbwdIdeal.τ).loc Cert.ReferenceAbwdIdeal.main_arg5) = m ((c.tc : Thread Cert.KernelAbwdIdeal.nD Cert.KernelAbwdIdeal.τ).loc Cert.KernelAbwdIdeal.main_arg5)) →
    ∃ (v0 : (c : Dev Cert.KernelAbwdIdeal.nD) → Buf (Elt Ideal) ((c.tc : Thread Cert.KernelAbwdIdeal.nD Cert.KernelAbwdIdeal.τ).loc Cert.KernelAbwdIdeal.main_v0_0)) (v1 : (c : Dev Cert.KernelAbwdIdeal.nD) → Buf (Elt Ideal) ((c.tc : Thread Cert.KernelAbwdIdeal.nD Cert.KernelAbwdIdeal.τ).loc Cert.KernelAbwdIdeal.main_v0_1)) (v2 : (c : Dev Cert.KernelAbwdIdeal.nD) → Buf (Elt Ideal) ((c.tc : Thread Cert.KernelAbwdIdeal.nD Cert.KernelAbwdIdeal.τ).loc Cert.KernelAbwdIdeal.main_v0_2)) (v3 : (c : Dev Cert.KernelAbwdIdeal.nD) → Buf (Elt Ideal) ((c.tc : Thread Cert.KernelAbwdIdeal.nD Cert.KernelAbwdIdeal.τ).loc Cert.KernelAbwdIdeal.main_v0_3)) (v4 : (c : Dev Cert.KernelAbwdIdeal.nD) → Buf (Elt Ideal) ((c.tc : Thread Cert.KernelAbwdIdeal.nD Cert.KernelAbwdIdeal.τ).loc Cert.KernelAbwdIdeal.main_v1)),
      θ_run (Cert.KernelAbwdIdeal.defs (F := Ideal)) (onTc (τ := Cert.KernelAbwdIdeal.τ) (Cert.KernelAbwdIdeal.main (F := Ideal))) ⟨m, fun _ => 0, g⟩ (fun r => ∀ c : Dev Cert.KernelAbwdIdeal.nD,
          r.2.mem ((c.tc : Thread Cert.KernelAbwdIdeal.nD Cert.KernelAbwdIdeal.τ).loc Cert.KernelAbwdIdeal.main_v0_0) = v0 c
          ∧ r.2.mem ((c.tc : Thread Cert.KernelAbwdIdeal.nD Cert.KernelAbwdIdeal.τ).loc Cert.KernelAbwdIdeal.main_v0_1) = v1 c
          ∧ r.2.mem ((c.tc : Thread Cert.KernelAbwdIdeal.nD Cert.KernelAbwdIdeal.τ).loc Cert.KernelAbwdIdeal.main_v0_2) = v2 c
          ∧ r.2.mem ((c.tc : Thread Cert.KernelAbwdIdeal.nD Cert.KernelAbwdIdeal.τ).loc Cert.KernelAbwdIdeal.main_v0_3) = v3 c
          ∧ r.2.mem ((c.tc : Thread Cert.KernelAbwdIdeal.nD Cert.KernelAbwdIdeal.τ).loc Cert.KernelAbwdIdeal.main_v1) = v4 c
          ∧ r.2.mem ((c.tc : Thread Cert.KernelAbwdIdeal.nD Cert.KernelAbwdIdeal.τ).loc Cert.KernelAbwdIdeal.main_arg0) = m ((c.tc : Thread Cert.KernelAbwdIdeal.nD Cert.KernelAbwdIdeal.τ).loc Cert.KernelAbwdIdeal.main_arg0)
          ∧ r.2.mem ((c.tc : Thread Cert.KernelAbwdIdeal.nD Cert.KernelAbwdIdeal.τ).loc Cert.KernelAbwdIdeal.main_arg1) = m ((c.tc : Thread Cert.KernelAbwdIdeal.nD Cert.KernelAbwdIdeal.τ).loc Cert.KernelAbwdIdeal.main_arg1)
          ∧ r.2.mem ((c.tc : Thread Cert.KernelAbwdIdeal.nD Cert.KernelAbwdIdeal.τ).loc Cert.KernelAbwdIdeal.main_arg2) = m ((c.tc : Thread Cert.KernelAbwdIdeal.nD Cert.KernelAbwdIdeal.τ).loc Cert.KernelAbwdIdeal.main_arg2)
          ∧ r.2.mem ((c.tc : Thread Cert.KernelAbwdIdeal.nD Cert.KernelAbwdIdeal.τ).loc Cert.KernelAbwdIdeal.main_arg3) = m ((c.tc : Thread Cert.KernelAbwdIdeal.nD Cert.KernelAbwdIdeal.τ).loc Cert.KernelAbwdIdeal.main_arg3)
          ∧ r.2.mem ((c.tc : Thread Cert.KernelAbwdIdeal.nD Cert.KernelAbwdIdeal.τ).loc Cert.KernelAbwdIdeal.main_arg4) = m ((c.tc : Thread Cert.KernelAbwdIdeal.nD Cert.KernelAbwdIdeal.τ).loc Cert.KernelAbwdIdeal.main_arg4)
          ∧ r.2.mem ((c.tc : Thread Cert.KernelAbwdIdeal.nD Cert.KernelAbwdIdeal.τ).loc Cert.KernelAbwdIdeal.main_arg5) = m ((c.tc : Thread Cert.KernelAbwdIdeal.nD Cert.KernelAbwdIdeal.τ).loc Cert.KernelAbwdIdeal.main_arg5))
      ∧ θ_run (Cert.ReferenceAbwdIdeal.defs (F := Ideal)) (onTc (τ := Cert.ReferenceAbwdIdeal.τ) (Cert.ReferenceAbwdIdeal.main (F := Ideal))) ⟨m', fun _ => 0, g'⟩ (fun r => ∀ c : Dev Cert.ReferenceAbwdIdeal.nD,
          r.2.mem ((c.tc : Thread Cert.ReferenceAbwdIdeal.nD Cert.ReferenceAbwdIdeal.τ).loc Cert.ReferenceAbwdIdeal.main_v6) = v0 c
          ∧ r.2.mem ((c.tc : Thread Cert.ReferenceAbwdIdeal.nD Cert.ReferenceAbwdIdeal.τ).loc Cert.ReferenceAbwdIdeal.main_v33) = v1 c
          ∧ r.2.mem ((c.tc : Thread Cert.ReferenceAbwdIdeal.nD Cert.ReferenceAbwdIdeal.τ).loc Cert.ReferenceAbwdIdeal.main_v14) = v2 c
          ∧ r.2.mem ((c.tc : Thread Cert.ReferenceAbwdIdeal.nD Cert.ReferenceAbwdIdeal.τ).loc Cert.ReferenceAbwdIdeal.main_v20) = v3 c
          ∧ r.2.mem ((c.tc : Thread Cert.ReferenceAbwdIdeal.nD Cert.ReferenceAbwdIdeal.τ).loc Cert.ReferenceAbwdIdeal.main_v9) = v4 c
          ∧ r.2.mem ((c.tc : Thread Cert.ReferenceAbwdIdeal.nD Cert.ReferenceAbwdIdeal.τ).loc Cert.ReferenceAbwdIdeal.main_arg0) = m' ((c.tc : Thread Cert.ReferenceAbwdIdeal.nD Cert.ReferenceAbwdIdeal.τ).loc Cert.ReferenceAbwdIdeal.main_arg0)
          ∧ r.2.mem ((c.tc : Thread Cert.ReferenceAbwdIdeal.nD Cert.ReferenceAbwdIdeal.τ).loc Cert.ReferenceAbwdIdeal.main_arg1) = m' ((c.tc : Thread Cert.ReferenceAbwdIdeal.nD Cert.ReferenceAbwdIdeal.τ).loc Cert.ReferenceAbwdIdeal.main_arg1)
          ∧ r.2.mem ((c.tc : Thread Cert.ReferenceAbwdIdeal.nD Cert.ReferenceAbwdIdeal.τ).loc Cert.ReferenceAbwdIdeal.main_arg2) = m' ((c.tc : Thread Cert.ReferenceAbwdIdeal.nD Cert.ReferenceAbwdIdeal.τ).loc Cert.ReferenceAbwdIdeal.main_arg2)
          ∧ r.2.mem ((c.tc : Thread Cert.ReferenceAbwdIdeal.nD Cert.ReferenceAbwdIdeal.τ).loc Cert.ReferenceAbwdIdeal.main_arg3) = m' ((c.tc : Thread Cert.ReferenceAbwdIdeal.nD Cert.ReferenceAbwdIdeal.τ).loc Cert.ReferenceAbwdIdeal.main_arg3)
          ∧ r.2.mem ((c.tc : Thread Cert.ReferenceAbwdIdeal.nD Cert.ReferenceAbwdIdeal.τ).loc Cert.ReferenceAbwdIdeal.main_arg4) = m' ((c.tc : Thread Cert.ReferenceAbwdIdeal.nD Cert.ReferenceAbwdIdeal.τ).loc Cert.ReferenceAbwdIdeal.main_arg4)
          ∧ r.2.mem ((c.tc : Thread Cert.ReferenceAbwdIdeal.nD Cert.ReferenceAbwdIdeal.τ).loc Cert.ReferenceAbwdIdeal.main_arg5) = m' ((c.tc : Thread Cert.ReferenceAbwdIdeal.nD Cert.ReferenceAbwdIdeal.τ).loc Cert.ReferenceAbwdIdeal.main_arg5))

def Claim : Prop :=
  ∃ (hKernel : Cert.Kernel.Facts) (hKernelIdeal : Cert.KernelIdeal.Facts) (hReferenceIdeal : Cert.ReferenceIdeal.Facts) (hKernelDh : Cert.KernelDh.Facts) (hKernelDhIdeal : Cert.KernelDhIdeal.Facts) (hReferenceDhIdeal : Cert.ReferenceDhIdeal.Facts) (hKernelGwin0 : Cert.KernelGwin0.Facts) (hKernelGwin0Ideal : Cert.KernelGwin0Ideal.Facts) (hReferenceGwin0Ideal : Cert.ReferenceGwin0Ideal.Facts) (hKernelGwin1 : Cert.KernelGwin1.Facts) (hKernelGwin1Ideal : Cert.KernelGwin1Ideal.Facts) (hReferenceGwin1Ideal : Cert.ReferenceGwin1Ideal.Facts) (hKernelGwin2 : Cert.KernelGwin2.Facts) (hKernelGwin2Ideal : Cert.KernelGwin2Ideal.Facts) (hReferenceGwin2Ideal : Cert.ReferenceGwin2Ideal.Facts) (hKernelGwin3 : Cert.KernelGwin3.Facts) (hKernelGwin3Ideal : Cert.KernelGwin3Ideal.Facts) (hReferenceGwin3Ideal : Cert.ReferenceGwin3Ideal.Facts) (hKernelDmixed : Cert.KernelDmixed.Facts) (hKernelDmixedIdeal : Cert.KernelDmixedIdeal.Facts) (hReferenceDmixedIdeal : Cert.ReferenceDmixedIdeal.Facts) (hKernelGwout : Cert.KernelGwout.Facts) (hKernelGwoutIdeal : Cert.KernelGwoutIdeal.Facts) (hReferenceGwoutIdeal : Cert.ReferenceGwoutIdeal.Facts) (hKernelOut : Cert.KernelOut.Facts) (hKernelOutIdeal : Cert.KernelOutIdeal.Facts) (hReferenceOutIdeal : Cert.ReferenceOutIdeal.Facts) (hKernelDz : Cert.KernelDz.Facts) (hKernelDzIdeal : Cert.KernelDzIdeal.Facts) (hReferenceDzIdeal : Cert.ReferenceDzIdeal.Facts) (hKernelGwpool : Cert.KernelGwpool.Facts) (hKernelGwpoolIdeal : Cert.KernelGwpoolIdeal.Facts) (hReferenceGwpoolIdeal : Cert.ReferenceGwpoolIdeal.Facts) (hKernelProj0 : Cert.KernelProj0.Facts) (hKernelProj0Ideal : Cert.KernelProj0Ideal.Facts) (hReferenceProj0Ideal : Cert.ReferenceProj0Ideal.Facts) (hKernelProj1 : Cert.KernelProj1.Facts) (hKernelProj1Ideal : Cert.KernelProj1Ideal.Facts) (hReferenceProj1Ideal : Cert.ReferenceProj1Ideal.Facts) (hKernelProj2 : Cert.KernelProj2.Facts) (hKernelProj2Ideal : Cert.KernelProj2Ideal.Facts) (hReferenceProj2Ideal : Cert.ReferenceProj2Ideal.Facts) (hKernelProj3 : Cert.KernelProj3.Facts) (hKernelProj3Ideal : Cert.KernelProj3Ideal.Facts) (hReferenceProj3Ideal : Cert.ReferenceProj3Ideal.Facts) (hKernelPool : Cert.KernelPool.Facts) (hKernelPoolIdeal : Cert.KernelPoolIdeal.Facts) (hReferencePoolIdeal : Cert.ReferencePoolIdeal.Facts) (hKernelCoef : Cert.KernelCoef.Facts) (hKernelCoefIdeal : Cert.KernelCoefIdeal.Facts) (hReferenceCoefIdeal : Cert.ReferenceCoefIdeal.Facts) (hKernelMixa : Cert.KernelMixa.Facts) (hKernelMixaIdeal : Cert.KernelMixaIdeal.Facts) (hReferenceMixaIdeal : Cert.ReferenceMixaIdeal.Facts) (hKernelMixb : Cert.KernelMixb.Facts) (hKernelMixbIdeal : Cert.KernelMixbIdeal.Facts) (hReferenceMixbIdeal : Cert.ReferenceMixbIdeal.Facts) (hKernelMix : Cert.KernelMix.Facts) (hKernelMixIdeal : Cert.KernelMixIdeal.Facts) (hReferenceMixIdeal : Cert.ReferenceMixIdeal.Facts) (hKernelAout : Cert.KernelAout.Facts) (hKernelAoutIdeal : Cert.KernelAoutIdeal.Facts) (hReferenceAoutIdeal : Cert.ReferenceAoutIdeal.Facts) (hKernelApool : Cert.KernelApool.Facts) (hKernelApoolIdeal : Cert.KernelApoolIdeal.Facts) (hReferenceApoolIdeal : Cert.ReferenceApoolIdeal.Facts) (hKernelAgate : Cert.KernelAgate.Facts) (hKernelAgateIdeal : Cert.KernelAgateIdeal.Facts) (hReferenceAgateIdeal : Cert.ReferenceAgateIdeal.Facts) (hKernelAwin : Cert.KernelAwin.Facts) (hKernelAwinIdeal : Cert.KernelAwinIdeal.Facts) (hReferenceAwinIdeal : Cert.ReferenceAwinIdeal.Facts) (hKernelNlat : Cert.KernelNlat.Facts) (hKernelNlatIdeal : Cert.KernelNlatIdeal.Facts) (hReferenceNlatIdeal : Cert.ReferenceNlatIdeal.Facts) (hKernelNctx : Cert.KernelNctx.Facts) (hKernelNctxIdeal : Cert.KernelNctxIdeal.Facts) (hReferenceNctxIdeal : Cert.ReferenceNctxIdeal.Facts) (hKernelConv : Cert.KernelConv.Facts) (hKernelConvIdeal : Cert.KernelConvIdeal.Facts) (hReferenceConvIdeal : Cert.ReferenceConvIdeal.Facts) (hKernelSsum : Cert.KernelSsum.Facts) (hKernelSsumIdeal : Cert.KernelSsumIdeal.Facts) (hReferenceSsumIdeal : Cert.ReferenceSsumIdeal.Facts) (hKernelNbc : Cert.KernelNbc.Facts) (hKernelNbcIdeal : Cert.KernelNbcIdeal.Facts) (hReferenceNbcIdeal : Cert.ReferenceNbcIdeal.Facts) (hKernelAfwd : Cert.KernelAfwd.Facts) (hKernelAfwdIdeal : Cert.KernelAfwdIdeal.Facts) (hReferenceAfwdIdeal : Cert.ReferenceAfwdIdeal.Facts) (hKernelAbwd : Cert.KernelAbwd.Facts) (hKernelAbwdIdeal : Cert.KernelAbwdIdeal.Facts) (hReferenceAbwdIdeal : Cert.ReferenceAbwdIdeal.Facts) (hPre_gates_finite : Cert.Pre_gates_finite.Facts) (hPre_states_finite : Cert.Pre_states_finite.Facts) (hPre_pool_finite : Cert.Pre_pool_finite.Facts),
    quiescent_Kernel (hKernel := hKernel)
    ∧ quiescent_KernelIdeal (hKernelIdeal := hKernelIdeal)
    ∧ quiescent_KernelIdeal_pre_gates_finite (hKernelIdeal := hKernelIdeal) (hPre_gates_finite := hPre_gates_finite)
    ∧ quiescent_ReferenceIdeal (hReferenceIdeal := hReferenceIdeal)
    ∧ quiescent_ReferenceIdeal_pre_gates_finite (hReferenceIdeal := hReferenceIdeal) (hPre_gates_finite := hPre_gates_finite)
    ∧ quiescent_KernelDh (hKernelDh := hKernelDh)
    ∧ quiescent_KernelDhIdeal (hKernelDhIdeal := hKernelDhIdeal)
    ∧ quiescent_ReferenceDhIdeal (hReferenceDhIdeal := hReferenceDhIdeal)
    ∧ quiescent_KernelGwin0 (hKernelGwin0 := hKernelGwin0)
    ∧ quiescent_KernelGwin0Ideal (hKernelGwin0Ideal := hKernelGwin0Ideal)
    ∧ quiescent_ReferenceGwin0Ideal (hReferenceGwin0Ideal := hReferenceGwin0Ideal)
    ∧ quiescent_KernelGwin1 (hKernelGwin1 := hKernelGwin1)
    ∧ quiescent_KernelGwin1Ideal (hKernelGwin1Ideal := hKernelGwin1Ideal)
    ∧ quiescent_ReferenceGwin1Ideal (hReferenceGwin1Ideal := hReferenceGwin1Ideal)
    ∧ quiescent_KernelGwin2 (hKernelGwin2 := hKernelGwin2)
    ∧ quiescent_KernelGwin2Ideal (hKernelGwin2Ideal := hKernelGwin2Ideal)
    ∧ quiescent_ReferenceGwin2Ideal (hReferenceGwin2Ideal := hReferenceGwin2Ideal)
    ∧ quiescent_KernelGwin3 (hKernelGwin3 := hKernelGwin3)
    ∧ quiescent_KernelGwin3Ideal (hKernelGwin3Ideal := hKernelGwin3Ideal)
    ∧ quiescent_ReferenceGwin3Ideal (hReferenceGwin3Ideal := hReferenceGwin3Ideal)
    ∧ quiescent_KernelDmixed (hKernelDmixed := hKernelDmixed)
    ∧ quiescent_KernelDmixedIdeal (hKernelDmixedIdeal := hKernelDmixedIdeal)
    ∧ quiescent_ReferenceDmixedIdeal (hReferenceDmixedIdeal := hReferenceDmixedIdeal)
    ∧ quiescent_KernelGwout (hKernelGwout := hKernelGwout)
    ∧ quiescent_KernelGwoutIdeal (hKernelGwoutIdeal := hKernelGwoutIdeal)
    ∧ quiescent_ReferenceGwoutIdeal (hReferenceGwoutIdeal := hReferenceGwoutIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelDz (hKernelDz := hKernelDz)
    ∧ quiescent_KernelDzIdeal (hKernelDzIdeal := hKernelDzIdeal)
    ∧ quiescent_ReferenceDzIdeal (hReferenceDzIdeal := hReferenceDzIdeal)
    ∧ quiescent_KernelGwpool (hKernelGwpool := hKernelGwpool)
    ∧ quiescent_KernelGwpoolIdeal (hKernelGwpoolIdeal := hKernelGwpoolIdeal)
    ∧ quiescent_ReferenceGwpoolIdeal (hReferenceGwpoolIdeal := hReferenceGwpoolIdeal)
    ∧ quiescent_KernelProj0 (hKernelProj0 := hKernelProj0)
    ∧ quiescent_KernelProj0Ideal (hKernelProj0Ideal := hKernelProj0Ideal)
    ∧ quiescent_ReferenceProj0Ideal (hReferenceProj0Ideal := hReferenceProj0Ideal)
    ∧ quiescent_KernelProj1 (hKernelProj1 := hKernelProj1)
    ∧ quiescent_KernelProj1Ideal (hKernelProj1Ideal := hKernelProj1Ideal)
    ∧ quiescent_ReferenceProj1Ideal (hReferenceProj1Ideal := hReferenceProj1Ideal)
    ∧ quiescent_KernelProj2 (hKernelProj2 := hKernelProj2)
    ∧ quiescent_KernelProj2Ideal (hKernelProj2Ideal := hKernelProj2Ideal)
    ∧ quiescent_ReferenceProj2Ideal (hReferenceProj2Ideal := hReferenceProj2Ideal)
    ∧ quiescent_KernelProj3 (hKernelProj3 := hKernelProj3)
    ∧ quiescent_KernelProj3Ideal (hKernelProj3Ideal := hKernelProj3Ideal)
    ∧ quiescent_ReferenceProj3Ideal (hReferenceProj3Ideal := hReferenceProj3Ideal)
    ∧ quiescent_KernelPool (hKernelPool := hKernelPool)
    ∧ quiescent_KernelPoolIdeal (hKernelPoolIdeal := hKernelPoolIdeal)
    ∧ quiescent_ReferencePoolIdeal (hReferencePoolIdeal := hReferencePoolIdeal)
    ∧ quiescent_KernelCoef (hKernelCoef := hKernelCoef)
    ∧ quiescent_KernelCoefIdeal (hKernelCoefIdeal := hKernelCoefIdeal)
    ∧ quiescent_ReferenceCoefIdeal (hReferenceCoefIdeal := hReferenceCoefIdeal)
    ∧ quiescent_KernelMixa (hKernelMixa := hKernelMixa)
    ∧ quiescent_KernelMixaIdeal (hKernelMixaIdeal := hKernelMixaIdeal)
    ∧ quiescent_KernelMixaIdeal_pre_states_finite (hKernelMixaIdeal := hKernelMixaIdeal) (hPre_states_finite := hPre_states_finite)
    ∧ quiescent_ReferenceMixaIdeal (hReferenceMixaIdeal := hReferenceMixaIdeal)
    ∧ quiescent_ReferenceMixaIdeal_pre_states_finite (hReferenceMixaIdeal := hReferenceMixaIdeal) (hPre_states_finite := hPre_states_finite)
    ∧ quiescent_KernelMixb (hKernelMixb := hKernelMixb)
    ∧ quiescent_KernelMixbIdeal (hKernelMixbIdeal := hKernelMixbIdeal)
    ∧ quiescent_KernelMixbIdeal_pre_pool_finite (hKernelMixbIdeal := hKernelMixbIdeal) (hPre_pool_finite := hPre_pool_finite)
    ∧ quiescent_ReferenceMixbIdeal (hReferenceMixbIdeal := hReferenceMixbIdeal)
    ∧ quiescent_ReferenceMixbIdeal_pre_pool_finite (hReferenceMixbIdeal := hReferenceMixbIdeal) (hPre_pool_finite := hPre_pool_finite)
    ∧ quiescent_KernelMix (hKernelMix := hKernelMix)
    ∧ quiescent_KernelMixIdeal (hKernelMixIdeal := hKernelMixIdeal)
    ∧ quiescent_ReferenceMixIdeal (hReferenceMixIdeal := hReferenceMixIdeal)
    ∧ quiescent_KernelAout (hKernelAout := hKernelAout)
    ∧ quiescent_KernelAoutIdeal (hKernelAoutIdeal := hKernelAoutIdeal)
    ∧ quiescent_ReferenceAoutIdeal (hReferenceAoutIdeal := hReferenceAoutIdeal)
    ∧ quiescent_KernelApool (hKernelApool := hKernelApool)
    ∧ quiescent_KernelApoolIdeal (hKernelApoolIdeal := hKernelApoolIdeal)
    ∧ quiescent_ReferenceApoolIdeal (hReferenceApoolIdeal := hReferenceApoolIdeal)
    ∧ quiescent_KernelAgate (hKernelAgate := hKernelAgate)
    ∧ quiescent_KernelAgateIdeal (hKernelAgateIdeal := hKernelAgateIdeal)
    ∧ quiescent_ReferenceAgateIdeal (hReferenceAgateIdeal := hReferenceAgateIdeal)
    ∧ quiescent_KernelAwin (hKernelAwin := hKernelAwin)
    ∧ quiescent_KernelAwinIdeal (hKernelAwinIdeal := hKernelAwinIdeal)
    ∧ quiescent_ReferenceAwinIdeal (hReferenceAwinIdeal := hReferenceAwinIdeal)
    ∧ quiescent_KernelNlat (hKernelNlat := hKernelNlat)
    ∧ quiescent_KernelNlatIdeal (hKernelNlatIdeal := hKernelNlatIdeal)
    ∧ quiescent_ReferenceNlatIdeal (hReferenceNlatIdeal := hReferenceNlatIdeal)
    ∧ quiescent_KernelNctx (hKernelNctx := hKernelNctx)
    ∧ quiescent_KernelNctxIdeal (hKernelNctxIdeal := hKernelNctxIdeal)
    ∧ quiescent_ReferenceNctxIdeal (hReferenceNctxIdeal := hReferenceNctxIdeal)
    ∧ quiescent_KernelConv (hKernelConv := hKernelConv)
    ∧ quiescent_KernelConvIdeal (hKernelConvIdeal := hKernelConvIdeal)
    ∧ quiescent_ReferenceConvIdeal (hReferenceConvIdeal := hReferenceConvIdeal)
    ∧ quiescent_KernelSsum (hKernelSsum := hKernelSsum)
    ∧ quiescent_KernelSsumIdeal (hKernelSsumIdeal := hKernelSsumIdeal)
    ∧ quiescent_ReferenceSsumIdeal (hReferenceSsumIdeal := hReferenceSsumIdeal)
    ∧ quiescent_KernelNbc (hKernelNbc := hKernelNbc)
    ∧ quiescent_KernelNbcIdeal (hKernelNbcIdeal := hKernelNbcIdeal)
    ∧ quiescent_ReferenceNbcIdeal (hReferenceNbcIdeal := hReferenceNbcIdeal)
    ∧ quiescent_KernelAfwd (hKernelAfwd := hKernelAfwd)
    ∧ quiescent_KernelAfwdIdeal (hKernelAfwdIdeal := hKernelAfwdIdeal)
    ∧ quiescent_ReferenceAfwdIdeal (hReferenceAfwdIdeal := hReferenceAfwdIdeal)
    ∧ quiescent_KernelAbwd (hKernelAbwd := hKernelAbwd)
    ∧ quiescent_KernelAbwdIdeal (hKernelAbwdIdeal := hKernelAbwdIdeal)
    ∧ quiescent_ReferenceAbwdIdeal (hReferenceAbwdIdeal := hReferenceAbwdIdeal)
    ∧ preserves_Kernel_KernelIdeal
    ∧ algebraic_KernelIdeal_ReferenceIdeal_pre_gates_finite (hKernelIdeal := hKernelIdeal) (hReferenceIdeal := hReferenceIdeal) (hPre_gates_finite := hPre_gates_finite)
    ∧ preserves_KernelDh_KernelDhIdeal
    ∧ algebraic_KernelDhIdeal_ReferenceDhIdeal (hKernelDhIdeal := hKernelDhIdeal) (hReferenceDhIdeal := hReferenceDhIdeal)
    ∧ preserves_KernelGwin0_KernelGwin0Ideal
    ∧ algebraic_KernelGwin0Ideal_ReferenceGwin0Ideal (hKernelGwin0Ideal := hKernelGwin0Ideal) (hReferenceGwin0Ideal := hReferenceGwin0Ideal)
    ∧ preserves_KernelGwin1_KernelGwin1Ideal
    ∧ algebraic_KernelGwin1Ideal_ReferenceGwin1Ideal (hKernelGwin1Ideal := hKernelGwin1Ideal) (hReferenceGwin1Ideal := hReferenceGwin1Ideal)
    ∧ preserves_KernelGwin2_KernelGwin2Ideal
    ∧ algebraic_KernelGwin2Ideal_ReferenceGwin2Ideal (hKernelGwin2Ideal := hKernelGwin2Ideal) (hReferenceGwin2Ideal := hReferenceGwin2Ideal)
    ∧ preserves_KernelGwin3_KernelGwin3Ideal
    ∧ algebraic_KernelGwin3Ideal_ReferenceGwin3Ideal (hKernelGwin3Ideal := hKernelGwin3Ideal) (hReferenceGwin3Ideal := hReferenceGwin3Ideal)
    ∧ preserves_KernelDmixed_KernelDmixedIdeal
    ∧ algebraic_KernelDmixedIdeal_ReferenceDmixedIdeal (hKernelDmixedIdeal := hKernelDmixedIdeal) (hReferenceDmixedIdeal := hReferenceDmixedIdeal)
    ∧ preserves_KernelGwout_KernelGwoutIdeal
    ∧ algebraic_KernelGwoutIdeal_ReferenceGwoutIdeal (hKernelGwoutIdeal := hKernelGwoutIdeal) (hReferenceGwoutIdeal := hReferenceGwoutIdeal)
    ∧ preserves_KernelOut_KernelOutIdeal
    ∧ algebraic_KernelOutIdeal_ReferenceOutIdeal (hKernelOutIdeal := hKernelOutIdeal) (hReferenceOutIdeal := hReferenceOutIdeal)
    ∧ preserves_KernelDz_KernelDzIdeal
    ∧ algebraic_KernelDzIdeal_ReferenceDzIdeal (hKernelDzIdeal := hKernelDzIdeal) (hReferenceDzIdeal := hReferenceDzIdeal)
    ∧ preserves_KernelGwpool_KernelGwpoolIdeal
    ∧ algebraic_KernelGwpoolIdeal_ReferenceGwpoolIdeal (hKernelGwpoolIdeal := hKernelGwpoolIdeal) (hReferenceGwpoolIdeal := hReferenceGwpoolIdeal)
    ∧ preserves_KernelProj0_KernelProj0Ideal
    ∧ algebraic_KernelProj0Ideal_ReferenceProj0Ideal (hKernelProj0Ideal := hKernelProj0Ideal) (hReferenceProj0Ideal := hReferenceProj0Ideal)
    ∧ preserves_KernelProj1_KernelProj1Ideal
    ∧ algebraic_KernelProj1Ideal_ReferenceProj1Ideal (hKernelProj1Ideal := hKernelProj1Ideal) (hReferenceProj1Ideal := hReferenceProj1Ideal)
    ∧ preserves_KernelProj2_KernelProj2Ideal
    ∧ algebraic_KernelProj2Ideal_ReferenceProj2Ideal (hKernelProj2Ideal := hKernelProj2Ideal) (hReferenceProj2Ideal := hReferenceProj2Ideal)
    ∧ preserves_KernelProj3_KernelProj3Ideal
    ∧ algebraic_KernelProj3Ideal_ReferenceProj3Ideal (hKernelProj3Ideal := hKernelProj3Ideal) (hReferenceProj3Ideal := hReferenceProj3Ideal)
    ∧ preserves_KernelPool_KernelPoolIdeal
    ∧ algebraic_KernelPoolIdeal_ReferencePoolIdeal (hKernelPoolIdeal := hKernelPoolIdeal) (hReferencePoolIdeal := hReferencePoolIdeal)
    ∧ preserves_KernelCoef_KernelCoefIdeal
    ∧ algebraic_KernelCoefIdeal_ReferenceCoefIdeal (hKernelCoefIdeal := hKernelCoefIdeal) (hReferenceCoefIdeal := hReferenceCoefIdeal)
    ∧ preserves_KernelMixa_KernelMixaIdeal
    ∧ algebraic_KernelMixaIdeal_ReferenceMixaIdeal_pre_states_finite (hKernelMixaIdeal := hKernelMixaIdeal) (hReferenceMixaIdeal := hReferenceMixaIdeal) (hPre_states_finite := hPre_states_finite)
    ∧ preserves_KernelMixb_KernelMixbIdeal
    ∧ algebraic_KernelMixbIdeal_ReferenceMixbIdeal_pre_pool_finite (hKernelMixbIdeal := hKernelMixbIdeal) (hReferenceMixbIdeal := hReferenceMixbIdeal) (hPre_pool_finite := hPre_pool_finite)
    ∧ preserves_KernelMix_KernelMixIdeal
    ∧ algebraic_KernelMixIdeal_ReferenceMixIdeal (hKernelMixIdeal := hKernelMixIdeal) (hReferenceMixIdeal := hReferenceMixIdeal)
    ∧ preserves_KernelAout_KernelAoutIdeal
    ∧ algebraic_KernelAoutIdeal_ReferenceAoutIdeal (hKernelAoutIdeal := hKernelAoutIdeal) (hReferenceAoutIdeal := hReferenceAoutIdeal)
    ∧ preserves_KernelApool_KernelApoolIdeal
    ∧ algebraic_KernelApoolIdeal_ReferenceApoolIdeal (hKernelApoolIdeal := hKernelApoolIdeal) (hReferenceApoolIdeal := hReferenceApoolIdeal)
    ∧ preserves_KernelAgate_KernelAgateIdeal
    ∧ algebraic_KernelAgateIdeal_ReferenceAgateIdeal (hKernelAgateIdeal := hKernelAgateIdeal) (hReferenceAgateIdeal := hReferenceAgateIdeal)
    ∧ preserves_KernelAwin_KernelAwinIdeal
    ∧ algebraic_KernelAwinIdeal_ReferenceAwinIdeal (hKernelAwinIdeal := hKernelAwinIdeal) (hReferenceAwinIdeal := hReferenceAwinIdeal)
    ∧ preserves_KernelNlat_KernelNlatIdeal
    ∧ algebraic_KernelNlatIdeal_ReferenceNlatIdeal (hKernelNlatIdeal := hKernelNlatIdeal) (hReferenceNlatIdeal := hReferenceNlatIdeal)
    ∧ preserves_KernelNctx_KernelNctxIdeal
    ∧ algebraic_KernelNctxIdeal_ReferenceNctxIdeal (hKernelNctxIdeal := hKernelNctxIdeal) (hReferenceNctxIdeal := hReferenceNctxIdeal)
    ∧ preserves_KernelConv_KernelConvIdeal
    ∧ algebraic_KernelConvIdeal_ReferenceConvIdeal (hKernelConvIdeal := hKernelConvIdeal) (hReferenceConvIdeal := hReferenceConvIdeal)
    ∧ preserves_KernelSsum_KernelSsumIdeal
    ∧ algebraic_KernelSsumIdeal_ReferenceSsumIdeal (hKernelSsumIdeal := hKernelSsumIdeal) (hReferenceSsumIdeal := hReferenceSsumIdeal)
    ∧ preserves_KernelNbc_KernelNbcIdeal
    ∧ algebraic_KernelNbcIdeal_ReferenceNbcIdeal (hKernelNbcIdeal := hKernelNbcIdeal) (hReferenceNbcIdeal := hReferenceNbcIdeal)
    ∧ preserves_KernelAfwd_KernelAfwdIdeal
    ∧ algebraic_KernelAfwdIdeal_ReferenceAfwdIdeal (hKernelAfwdIdeal := hKernelAfwdIdeal) (hReferenceAfwdIdeal := hReferenceAfwdIdeal)
    ∧ preserves_KernelAbwd_KernelAbwdIdeal
    ∧ algebraic_KernelAbwdIdeal_ReferenceAbwdIdeal (hKernelAbwdIdeal := hKernelAbwdIdeal) (hReferenceAbwdIdeal := hReferenceAbwdIdeal)
-- ==== Pre_gates_finite.lean ====
abbrev S4352x4096 : Shape := ⟨2, ![4352, 4096]⟩
abbrev S2x4096 : Shape := ⟨2, ![2, 4096]⟩
abbrev S2x16x256x256 : Shape := ⟨4, ![2, 16, 256, 256]⟩
abbrev S2x4352x4096 : Shape := ⟨3, ![2, 4352, 4096]⟩
abbrev S_ : Shape := ⟨0, ![]⟩

class Facts : Prop where
  bcast_S_S4352x4096 : S_.BroadcastsInDim S4352x4096 (![] : Fin 0 → Fin S4352x4096.rank)
  reducesTo_S4352x4096_S_d0_1 : S4352x4096.ReducesTo [0, 1] S_
  h_S_ : 0 < S_.numel
  bcast_S_S2x4096 : S_.BroadcastsInDim S2x4096 (![] : Fin 0 → Fin S2x4096.rank)
  reducesTo_S2x4096_S_d0_1 : S2x4096.ReducesTo [0, 1] S_
  bcast_S_S2x16x256x256 : S_.BroadcastsInDim S2x16x256x256 (![] : Fin 0 → Fin S2x16x256x256.rank)
  reducesTo_S2x16x256x256_S_d0_1_2_3 : S2x16x256x256.ReducesTo [0, 1, 2, 3] S_

variable [Facts]

def fn_part1 {F : FTy → Type} [FloatOps F] (main_v13 : IVec S_ 1) (main_v16 : IVec S2x4096 1) : IVec S_ 1 :=
  let main_c_5 : IVec S_ 1 := constantI S_ 1 1#1
  let main_v17 : IVec S_ 1 := (fun x v => Host.reduce IntOp.andi x v reducesTo_S2x4096_S_d0_1 h_S_) main_v16 main_c_5
  let main_v18 : IVec S_ 1 := andi main_v13 main_v17
  main_v18

def fn {F : FTy → Type} [FloatOps F] (main_arg0 : FVec F S4352x4096 .f32) (main_arg1 : FVec F S2x4096 .f32) (main_arg2 : FVec F S2x16x256x256 .f32) (main_arg3 : FVec F S2x4096 .f32) (main_arg4 : FVec F S2x16x256x256 .f32) (main_arg5 : FVec F S2x4096 .f32) (main_arg6 : FVec F S2x4352x4096 .f32) (main_arg7 : FVec F S2x4352x4096 .f32) : IVec S_ 1 :=
  let main_v0 : FVec F S4352x4096 .f32 := Host.absf main_arg0
  let main_cst : FVec F S_ .f32 := constant S_ .f32 0x7F800000#32
  let main_v1 : FVec F S4352x4096 .f32 := broadcastInDim S4352x4096 ![] bcast_S_S4352x4096 main_cst
  let main_v2 : IVec S4352x4096 1 := cmpf .olt main_v0 main_v1
  let main_c : IVec S_ 1 := constantI S_ 1 1#1
  let main_v3 : IVec S_ 1 := (fun x v => Host.reduce IntOp.andi x v reducesTo_S4352x4096_S_d0_1 h_S_) main_v2 main_c
  let main_v4 : FVec F S2x4096 .f32 := Host.absf main_arg1
  let main_cst_0 : FVec F S_ .f32 := constant S_ .f32 0x7F800000#32
  let main_v5 : FVec F S2x4096 .f32 := broadcastInDim S2x4096 ![] bcast_S_S2x4096 main_cst_0
  let main_v6 : IVec S2x4096 1 := cmpf .olt main_v4 main_v5
  let main_c_1 : IVec S_ 1 := constantI S_ 1 1#1
  let main_v7 : IVec S_ 1 := (fun x v => Host.reduce IntOp.andi x v reducesTo_S2x4096_S_d0_1 h_S_) main_v6 main_c_1
  let main_v8 : IVec S_ 1 := andi main_v3 main_v7
  let main_v9 : FVec F S2x16x256x256 .f32 := Host.absf main_arg2
  let main_cst_2 : FVec F S_ .f32 := constant S_ .f32 0x7F800000#32
  let main_v10 : FVec F S2x16x256x256 .f32 := broadcastInDim S2x16x256x256 ![] bcast_S_S2x16x256x256 main_cst_2
  let main_v11 : IVec S2x16x256x256 1 := cmpf .olt main_v9 main_v10
  let main_c_3 : IVec S_ 1 := constantI S_ 1 1#1
  let main_v12 : IVec S_ 1 := (fun x v => Host.reduce IntOp.andi x v reducesTo_S2x16x256x256_S_d0_1_2_3 h_S_) main_v11 main_c_3
  let main_v13 : IVec S_ 1 := andi main_v8 main_v12
  let main_v14 : FVec F S2x4096 .f32 := Host.absf main_arg3
  let main_cst_4 : FVec F S_ .f32 := constant S_ .f32 0x7F800000#32
  let main_v15 : FVec F S2x4096 .f32 := broadcastInDim S2x4096 ![] bcast_S_S2x4096 main_cst_4
  let main_v16 : IVec S2x4096 1 := cmpf .olt main_v14 main_v15
  fn_part1 (F := F) main_v13 main_v16
-- ==== Pre_pool_finite.lean ====
abbrev S4096x8192 : Shape := ⟨2, ![4096, 8192]⟩
abbrev S4096x4096 : Shape := ⟨2, ![4096, 4096]⟩
abbrev S4352x16384 : Shape := ⟨2, ![4352, 16384]⟩
abbrev S1x4096 : Shape := ⟨2, ![1, 4096]⟩
abbrev S_ : Shape := ⟨0, ![]⟩

class Facts : Prop where
  slices_S4096x8192_S4096x4096_0_4096 : S4096x8192.Slices ![0, 4096] S4096x4096
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S1x4096 : S_.BroadcastsInDim S1x4096 (![] : Fin 0 → Fin S1x4096.rank)
  reducesTo_S1x4096_S_d0_1 : S1x4096.ReducesTo [0, 1] S_

variable [Facts]

def fn_part1 {F : FTy → Type} [FloatOps F] (main_v14 : IVec S_ 1) (main_v15 : FVec F S1x4096 .f32) (main_v16 : FVec F S1x4096 .f32) : IVec S_ 1 :=
  let main_v17 : IVec S1x4096 1 := cmpf .olt main_v15 main_v16
  let main_c_5 : IVec S_ 1 := constantI S_ 1 1#1
  let main_v18 : IVec S_ 1 := (fun x v => Host.reduce IntOp.andi x v reducesTo_S1x4096_S_d0_1 h_S_) main_v17 main_c_5
  let main_v19 : IVec S_ 1 := andi main_v14 main_v18
  main_v19

def fn {F : FTy → Type} [FloatOps F] (main_arg0 : FVec F S4096x8192 .f32) (main_arg1 : FVec F S4096x4096 .f32) (main_arg2 : FVec F S4352x16384 .f32) (main_arg3 : FVec F S1x4096 .f32) (main_arg4 : FVec F S1x4096 .f32) (main_arg5 : FVec F S4352x16384 .bf16) : IVec S_ 1 :=
  let main_v0 : FVec F S4096x4096 .f32 := (extractStridedSlice S4096x4096 ![0, 4096] · slices_S4096x8192_S4096x4096_0_4096) main_arg0
  let main_v1 : FVec F S4096x4096 .f32 := Host.absf main_v0
  let main_cst : FVec F S_ .f32 := constant S_ .f32 0x7F800000#32
  let main_v2 : FVec F S4096x4096 .f32 := broadcastInDim S4096x4096 ![] bcast_S_S4096x4096 main_cst
  let main_v3 : IVec S4096x4096 1 := cmpf .olt main_v1 main_v2
  let main_c : IVec S_ 1 := constantI S_ 1 1#1
  let main_v4 : IVec S_ 1 := (fun x v => Host.reduce IntOp.andi x v reducesTo_S4096x4096_S_d0_1 h_S_) main_v3 main_c
  let main_v5 : FVec F S4096x4096 .f32 := Host.absf main_arg1
  let main_cst_0 : FVec F S_ .f32 := constant S_ .f32 0x7F800000#32
  let main_v6 : FVec F S4096x4096 .f32 := broadcastInDim S4096x4096 ![] bcast_S_S4096x4096 main_cst_0
  let main_v7 : IVec S4096x4096 1 := cmpf .olt main_v5 main_v6
  let main_c_1 : IVec S_ 1 := constantI S_ 1 1#1
  let main_v8 : IVec S_ 1 := (fun x v => Host.reduce IntOp.andi x v reducesTo_S4096x4096_S_d0_1 h_S_) main_v7 main_c_1
  let main_v9 : IVec S_ 1 := andi main_v4 main_v8
  let main_v10 : FVec F S1x4096 .f32 := Host.absf main_arg3
  let main_cst_2 : FVec F S_ .f32 := constant S_ .f32 0x7F800000#32
  let main_v11 : FVec F S1x4096 .f32 := broadcastInDim S1x4096 ![] bcast_S_S1x4096 main_cst_2
  let main_v12 : IVec S1x4096 1 := cmpf .olt main_v10 main_v11
  let main_c_3 : IVec S_ 1 := constantI S_ 1 1#1
  let main_v13 : IVec S_ 1 := (fun x v => Host.reduce IntOp.andi x v reducesTo_S1x4096_S_d0_1 h_S_) main_v12 main_c_3
  let main_v14 : IVec S_ 1 := andi main_v9 main_v13
  let main_v15 : FVec F S1x4096 .f32 := Host.absf main_arg4
  let main_cst_4 : FVec F S_ .f32 := constant S_ .f32 0x7F800000#32
  let main_v16 : FVec F S1x4096 .f32 := broadcastInDim S1x4096 ![] bcast_S_S1x4096 main_cst_4
  fn_part1 (F := F) main_v14 main_v15 main_v16
-- ==== Pre_states_finite.lean ====
abbrev S4096x8192 : Shape := ⟨2, ![4096, 8192]⟩
abbrev S2x4352x4096 : Shape := ⟨3, ![2, 4352, 4096]⟩
abbrev S4352x16384 : Shape := ⟨2, ![4352, 16384]⟩
abbrev S4096x4096 : Shape := ⟨2, ![4096, 4096]⟩
abbrev S_ : Shape := ⟨0, ![]⟩
abbrev S2x4096x4096 : Shape := ⟨3, ![2, 4096, 4096]⟩

class Facts : Prop where
  slices_S4096x8192_S4096x4096_0_0 : S4096x8192.Slices ![0, 0] S4096x4096
  bcast_S_S4096x4096 : S_.BroadcastsInDim S4096x4096 (![] : Fin 0 → Fin S4096x4096.rank)
  reducesTo_S4096x4096_S_d0_1 : S4096x4096.ReducesTo [0, 1] S_
  h_S_ : 0 < S_.numel
  slices_S2x4352x4096_S2x4096x4096_0_256_0 : S2x4352x4096.Slices ![0, 256, 0] S2x4096x4096
  bcast_S_S2x4096x4096 : S_.BroadcastsInDim S2x4096x4096 (![] : Fin 0 → Fin S2x4096x4096.rank)
  reducesTo_S2x4096x4096_S_d0_1_2 : S2x4096x4096.ReducesTo [0, 1, 2] S_

variable [Facts]

def fn {F : FTy → Type} [FloatOps F] (main_arg0 : FVec F S4096x8192 .f32) (main_arg1 : FVec F S2x4352x4096 .f32) (main_arg2 : FVec F S4352x16384 .f32) (main_arg3 : FVec F S4352x16384 .bf16) : IVec S_ 1 :=
  let main_v0 : FVec F S4096x4096 .f32 := (extractStridedSlice S4096x4096 ![0, 0] · slices_S4096x8192_S4096x4096_0_0) main_arg0
  let main_v1 : FVec F S4096x4096 .f32 := Host.absf main_v0
  let main_cst : FVec F S_ .f32 := constant S_ .f32 0x7F800000#32
  let main_v2 : FVec F S4096x4096 .f32 := broadcastInDim S4096x4096 ![] bcast_S_S4096x4096 main_cst
  let main_v3 : IVec S4096x4096 1 := cmpf .olt main_v1 main_v2
  let main_c : IVec S_ 1 := constantI S_ 1 1#1
  let main_v4 : IVec S_ 1 := (fun x v => Host.reduce IntOp.andi x v reducesTo_S4096x4096_S_d0_1 h_S_) main_v3 main_c
  let main_v5 : FVec F S2x4096x4096 .f32 := (extractStridedSlice S2x4096x4096 ![0, 256, 0] · slices_S2x4352x4096_S2x4096x4096_0_256_0) main_arg1
  let main_v6 : FVec F S2x4096x4096 .f32 := Host.absf main_v5
  let main_cst_0 : FVec F S_ .f32 := constant S_ .f32 0x7F800000#32
  let main_v7 : FVec F S2x4096x4096 .f32 := broadcastInDim S2x4096x4096 ![] bcast_S_S2x4096x4096 main_cst_0
  let main_v8 : IVec S2x4096x4096 1 := cmpf .olt main_v6 main_v7
  let main_c_1 : IVec S_ 1 := constantI S_ 1 1#1
  let main_v9 : IVec S_ 1 := (fun x v => Host.reduce IntOp.andi x v reducesTo_S2x4096x4096_S_d0_1_2 h_S_) main_v8 main_c_1
  let main_v10 : IVec S_ 1 := andi main_v4 main_v9
  main_v10
-- ==== Kernel.lean ====
abbrev S4352x4096 : Shape := ⟨2, ![4352, 4096]⟩
abbrev S2x4096 : Shape := ⟨2, ![2, 4096]⟩
abbrev S2x16x256x256 : Shape := ⟨4, ![2, 16, 256, 256]⟩
abbrev S2x4352x4096 : Shape := ⟨3, ![2, 4352, 4096]⟩
abbrev S1088x256 : Shape := ⟨2, ![1088, 256]⟩
abbrev S2x1088x256 : Shape := ⟨3, ![2, 1088, 256]⟩
abbrev S2x1x256x256 : Shape := ⟨4, ![2, 1, 256, 256]⟩
abbrev S2x256 : Shape := ⟨2, ![2, 256]⟩
abbrev S2x256x256 : Shape := ⟨3, ![2, 256, 256]⟩
abbrev S1x256 : Shape := ⟨2, ![1, 256]⟩
abbrev S1x1x256x256 : Shape := ⟨4, ![1, 1, 256, 256]⟩
abbrev S256x256 : Shape := ⟨2, ![256, 256]⟩
abbrev S1x1088x256 : Shape := ⟨3, ![1, 1088, 256]⟩
abbrev S256 : Shape := ⟨1, ![256]⟩
abbrev S1x256x256 : Shape := ⟨3, ![1, 256, 256]⟩

abbrev nBuf : Space → Nat
  | .hbm => 16
  | .vmem => 30
  | .smem => 0
  | _ => 0

abbrev bufTy : (tb : Table) → Fin (tcTables nBuf tb) → BufTy
  | .hbm, ⟨0, _⟩ => ⟨S4352x4096, .f32⟩
  | .hbm, ⟨1, _⟩ => ⟨S2x4096, .f32⟩
  | .hbm, ⟨2, _⟩ => ⟨S2x16x256x256, .f32⟩
  | .hbm, ⟨3, _⟩ => ⟨S2x4096, .f32⟩
  | .hbm, ⟨4, _⟩ => ⟨S2x16x256x256, .f32⟩
  | .hbm, ⟨5, _⟩ => ⟨S2x4096, .f32⟩
  | .hbm, ⟨6, _⟩ => ⟨S2x4352x4096, .f32⟩
  | .hbm, ⟨7, _⟩ => ⟨S2x4352x4096, .f32⟩
  | .hbm, ⟨8, _⟩ => ⟨S2x16x256x256, .bf16⟩
  | .hbm, ⟨9, _⟩ => ⟨S2x16x256x256, .bf16⟩
  | .hbm, ⟨10, _⟩ => ⟨S4352x4096, .f32⟩
  | .hbm, ⟨11, _⟩ => ⟨S2x16x256x256, .bf16⟩
  | .hbm, ⟨12, _⟩ => ⟨S2x16x256x256, .bf16⟩
  | .hbm, ⟨13, _⟩ => ⟨S2x4096, .f32⟩
  | .hbm, ⟨14, _⟩ => ⟨S2x4096, .f32⟩
  | .hbm, ⟨15, _⟩ => ⟨S2x4096, .f32⟩
  | .local _ .vmem, ⟨0, _⟩ => ⟨S1088x256, .f32⟩
  | .local _ .vmem, ⟨1, _⟩ => ⟨S1088x256, .f32⟩
  | .local _ .vmem, ⟨2, _⟩ => ⟨S2x1088x256, .f32⟩
  | .local _ .vmem, ⟨3, _⟩ => ⟨S2x1088x256, .f32⟩
  | .local _ .vmem, ⟨4, _⟩ => ⟨S2x1088x256, .f32⟩
  | .local _ .vmem, ⟨5, _⟩ => ⟨S2x1088x256, .f32⟩
  | .local _ .vmem, ⟨6, _⟩ => ⟨S2x1x256x256, .bf16⟩
  | .local _ .vmem, ⟨7, _⟩ => ⟨S2x1x256x256, .bf16⟩
  | .local _ .vmem, ⟨8, _⟩ => ⟨S2x1x256x256, .bf16⟩
  | .local _ .vmem, ⟨9, _⟩ => ⟨S2x1x256x256, .bf16⟩
  | .local _ .vmem, ⟨10, _⟩ => ⟨S2x256, .f32⟩
  | .local _ .vmem, ⟨11, _⟩ => ⟨S2x256, .f32⟩
  | .local _ .vmem, ⟨12, _⟩ => ⟨S2x256, .f32⟩
  | .local _ .vmem, ⟨13, _⟩ => ⟨S2x256, .f32⟩
  | .local _ .vmem, ⟨14, _⟩ => ⟨S2x256, .f32⟩
  | .local _ .vmem, ⟨15, _⟩ => ⟨S2x256, .f32⟩
  | .local _ .vmem, ⟨16, _⟩ => ⟨S1088x256, .f32⟩
  | .local _ .vmem, ⟨17, _⟩ => ⟨S1088x256, .f32⟩
  | .local _ .vmem, ⟨18, _⟩ => ⟨S2x1x256x256, .bf16⟩
  | .local _ .vmem, ⟨19, _⟩ => ⟨S2x1x256x256, .bf16⟩
  | .local _ .vmem, ⟨20, _⟩ => ⟨S2x1x256x256, .bf16⟩
  | .local _ .vmem, ⟨21, _⟩ => ⟨S2x1x256x256, .bf16⟩
  | .local _ .vmem, ⟨22, _⟩ => ⟨S2x256, .f32⟩
  | .local _ .vmem, ⟨23, _⟩ => ⟨S2x256, .f32⟩
  | .local _ .vmem, ⟨24, _⟩ => ⟨S2x256, .f32⟩
  | .local _ .vmem, ⟨25, _⟩ => ⟨S2x256, .f32⟩
  | .local _ .vmem, ⟨26, _⟩ => ⟨S2x256, .f32⟩
  | .local _ .vmem, ⟨27, _⟩ => ⟨S2x256, .f32⟩
  | .local _ .vmem, ⟨28, _⟩ => ⟨S2x256x256, .f32⟩
  | .local _ .vmem, ⟨29, _⟩ => ⟨S2x256x256, .f32⟩
  | _, _ => ⟨S4352x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev main_v2_4 : Ref sig .tc := ⟨.hbm, 14, rfl⟩
abbrev main_v2_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v243 : BitVec 1 := Scalar.cmpi .eq arg1 c3_i32
  let v244 : BitVec 32 := Scalar.extui v243
  let c0_i32_153 : BitVec 32 := 0#32
  let v245 : BitVec 1 := Scalar.cmpi .ne v244 c0_i32_153
  v245

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1088x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1088x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1088x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1088x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x1x256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2x1x256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S2x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S2x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S2x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== ReferenceIdeal.lean ====
abbrev S4352x4096 : Shape := ⟨2, ![4352, 4096]⟩
abbrev S2x4096 : Shape := ⟨2, ![2, 4096]⟩
abbrev S2x16x256x256 : Shape := ⟨4, ![2, 16, 256, 256]⟩
abbrev S2x4352x4096 : Shape := ⟨3, ![2, 4352, 4096]⟩
abbrev S_ : Shape := ⟨0, ![]⟩
abbrev S1x4352x4096 : Shape := ⟨3, ![1, 4352, 4096]⟩
abbrev S1x4096 : Shape := ⟨2, ![1, 4096]⟩
abbrev S4096 : Shape := ⟨1, ![4096]⟩
abbrev S1x16x256x256 : Shape := ⟨4, ![1, 16, 256, 256]⟩
abbrev S16x256x256 : Shape := ⟨3, ![16, 256, 256]⟩
abbrev S1x4352x16x256 : Shape := ⟨4, ![1, 4352, 16, 256]⟩
abbrev S16x256x1x4352 : Shape := ⟨4, ![16, 256, 1, 4352]⟩
abbrev S1x1x4096 : Shape := ⟨3, ![1, 1, 4096]⟩
abbrev S16x1x4352x256 : Shape := ⟨4, ![16, 1, 4352, 256]⟩

abbrev nBuf : Space → Nat
  | .hbm => 296
  | .vmem => 0
  | .smem => 0
  | _ => 0

abbrev hbmTy0_0 (i : Nat) : BufTy := match i % 128 with
  | 0 => ⟨S4352x4096, .f32⟩
  | 1 => ⟨S2x4096, .f32⟩
  | 2 => ⟨S2x16x256x256, .f32⟩
  | 3 => ⟨S2x4096, .f32⟩
  | 4 => ⟨S2x16x256x256, .f32⟩
  | 5 => ⟨S2x4096, .f32⟩
  | 6 => ⟨S2x4352x4096, .f32⟩
  | 7 => ⟨S2x4352x4096, .f32⟩
  | 8 => ⟨S2x4096, .f32⟩
  | 9 => ⟨S_, .f32⟩
  | 10 => ⟨S2x4096, .f32⟩
  | 11 => ⟨S2x4096, .f32⟩
  | 12 => ⟨S2x4096, .f32⟩
  | 13 => ⟨S2x4096, .f32⟩
  | 14 => ⟨S2x4096, .i1⟩
  | 15 => ⟨S2x4096, .f32⟩
  | 16 => ⟨S2x4096, .f32⟩
  | 17 => ⟨S2x4096, .f32⟩
  | 18 => ⟨S2x4096, .f32⟩
  | 19 => ⟨S2x4096, .f32⟩
  | 20 => ⟨S2x4096, .f32⟩
  | 21 => ⟨S2x4096, .f32⟩
  | 22 => ⟨S2x4096, .f32⟩
  | 23 => ⟨S_, .f32⟩
  | 24 => ⟨S2x4096, .f32⟩
  | 25 => ⟨S2x4096, .f32⟩
  | 26 => ⟨S1x4352x4096, .f32⟩
  | 27 => ⟨S1x4096, .f32⟩
  | 28 => ⟨S4096, .f32⟩
  | 29 => ⟨S1x16x256x256, .f32⟩
  | 30 => ⟨S16x256x256, .f32⟩
  | 31 => ⟨S1x4096, .f32⟩
  | 32 => ⟨S4096, .f32⟩
  | 33 => ⟨S1x16x256x256, .f32⟩
  | 34 => ⟨S16x256x256, .f32⟩
  | 35 => ⟨S1x4096, .f32⟩
  | 36 => ⟨S4096, .f32⟩
  | 37 => ⟨S1x4352x16x256, .f32⟩
  | 38 => ⟨S16x256x1x4352, .f32⟩
  | 39 => ⟨S1x4352x16x256, .f32⟩
  | 40 => ⟨S1x4352x4096, .f32⟩
  | 41 => ⟨S1x1x4096, .f32⟩
  | 42 => ⟨S1x4352x4096, .f32⟩
  | 43 => ⟨S1x4352x4096, .f32⟩
  | 44 => ⟨S1x4352x4096, .f32⟩
  | 45 => ⟨S1x4352x4096, .f32⟩
  | 46 => ⟨S_, .f32⟩
  | 47 => ⟨S1x4352x4096, .f32⟩
  | 48 => ⟨S1x4352x4096, .f32⟩
  | 49 => ⟨S_, .f32⟩
  | 50 => ⟨S1x4352x4096, .f32⟩
  | 51 => ⟨S1x4352x4096, .f32⟩
  | 52 => ⟨S_, .f32⟩
  | 53 => ⟨S1x4352x4096, .f32⟩
  | 54 => ⟨S1x4352x4096, .f32⟩
  | 55 => ⟨S1x4352x4096, .f32⟩
  | 56 => ⟨S16x256x1x4352, .f32⟩
  | 57 => ⟨S1x4352x16x256, .f32⟩
  | 58 => ⟨S1x4352x4096, .f32⟩
  | 59 => ⟨S1x1x4096, .f32⟩
  | 60 => ⟨S1x4352x4096, .f32⟩
  | 61 => ⟨S1x4352x4096, .f32⟩
  | 62 => ⟨S1x4352x4096, .f32⟩
  | 63 => ⟨S1x4352x4096, .f32⟩
  | 64 => ⟨S_, .f32⟩
  | 65 => ⟨S1x4352x4096, .f32⟩
  | 66 => ⟨S1x4352x4096, .f32⟩
  | 67 => ⟨S_, .f32⟩
  | 68 => ⟨S1x4352x4096, .f32⟩
  | 69 => ⟨S1x4352x4096, .f32⟩
  | 70 => ⟨S_, .f32⟩
  | 71 => ⟨S1x4352x4096, .f32⟩
  | 72 => ⟨S1x4352x4096, .f32⟩
  | 73 => ⟨S1x4352x4096, .f32⟩
  | 74 => ⟨S1x1x4096, .f32⟩
  | 75 => ⟨S1x4352x4096, .f32⟩
  | 76 => ⟨S1x4352x4096, .f32⟩
  | 77 => ⟨S1x4352x4096, .f32⟩
  | 78 => ⟨S_, .f32⟩
  | 79 => ⟨S1x4352x4096, .f32⟩
  | 80 => ⟨S1x4352x4096, .f32⟩
  | 81 => ⟨S1x4352x4096, .f32⟩
  | 82 => ⟨S1x4352x4096, .f32⟩
  | 83 => ⟨S1x4352x4096, .f32⟩
  | 84 => ⟨S1x4352x4096, .f32⟩
  | 85 => ⟨S_, .f32⟩
  | 86 => ⟨S1x4352x4096, .f32⟩
  | 87 => ⟨S1x4352x4096, .f32⟩
  | 88 => ⟨S1x4352x4096, .f32⟩
  | 89 => ⟨S1x4352x4096, .f32⟩
  | 90 => ⟨S1x4352x4096, .f32⟩
  | 91 => ⟨S1x4096, .f32⟩
  | 92 => ⟨S4096, .f32⟩
  | 93 => ⟨S1x16x256x256, .f32⟩
  | 94 => ⟨S16x256x256, .f32⟩
  | 95 => ⟨S1x4096, .f32⟩
  | 96 => ⟨S4096, .f32⟩
  | 97 => ⟨S1x16x256x256, .f32⟩
  | 98 => ⟨S16x256x256, .f32⟩
  | 99 => ⟨S1x4096, .f32⟩
  | 100 => ⟨S4096, .f32⟩
  | 101 => ⟨S1x4352x16x256, .f32⟩
  | 102 => ⟨S16x256x1x4352, .f32⟩
  | 103 => ⟨S1x4352x16x256, .f32⟩
  | 104 => ⟨S1x4352x4096, .f32⟩
  | 105 => ⟨S1x1x4096, .f32⟩
  | 106 => ⟨S1x4352x4096, .f32⟩
  | 107 => ⟨S1x4352x4096, .f32⟩
  | 108 => ⟨S1x4352x4096, .f32⟩
  | 109 => ⟨S1x4352x4096, .f32⟩
  | 110 => ⟨S_, .f32⟩
  | 111 => ⟨S1x4352x4096, .f32⟩
  | 112 => ⟨S1x4352x4096, .f32⟩
  | 113 => ⟨S_, .f32⟩
  | 114 => ⟨S1x4352x4096, .f32⟩
  | 115 => ⟨S1x4352x4096, .f32⟩
  | 116 => ⟨S_, .f32⟩
  | 117 => ⟨S1x4352x4096, .f32⟩
  | 118 => ⟨S1x4352x4096, .f32⟩
  | 119 => ⟨S1x4352x4096, .f32⟩
  | 120 => ⟨S16x256x1x4352, .f32⟩
  | 121 => ⟨S1x4352x16x256, .f32⟩
  | 122 => ⟨S1x4352x4096, .f32⟩
  | 123 => ⟨S1x1x4096, .f32⟩
  | 124 => ⟨S1x4352x4096, .f32⟩
  | 125 => ⟨S1x4352x4096, .f32⟩
  | 126 => ⟨S1x4352x4096, .f32⟩
  | 127 => ⟨S1x4352x4096, .f32⟩
  | _ => ⟨S4352x4096, .f32⟩

abbrev hbmTy0_1 (i : Nat) : BufTy := match i % 128 with
  | 0 => ⟨S_, .f32⟩
  | 1 => ⟨S1x4352x4096, .f32⟩
  | 2 => ⟨S1x4352x4096, .f32⟩
  | 3 => ⟨S_, .f32⟩
  | 4 => ⟨S1x4352x4096, .f32⟩
  | 5 => ⟨S1x4352x4096, .f32⟩
  | 6 => ⟨S_, .f32⟩
  | 7 => ⟨S1x4352x4096, .f32⟩
  | 8 => ⟨S1x4352x4096, .f32⟩
  | 9 => ⟨S1x4352x4096, .f32⟩
  | 10 => ⟨S1x1x4096, .f32⟩
  | 11 => ⟨S1x4352x4096, .f32⟩
  | 12 => ⟨S1x4352x4096, .f32⟩
  | 13 => ⟨S1x4352x4096, .f32⟩
  | 14 => ⟨S_, .f32⟩
  | 15 => ⟨S1x4352x4096, .f32⟩
  | 16 => ⟨S1x4352x4096, .f32⟩
  | 17 => ⟨S1x4352x4096, .f32⟩
  | 18 => ⟨S1x4352x4096, .f32⟩
  | 19 => ⟨S1x4352x4096, .f32⟩
  | 20 => ⟨S1x4352x4096, .f32⟩
  | 21 => ⟨S_, .f32⟩
  | 22 => ⟨S1x4352x4096, .f32⟩
  | 23 => ⟨S1x4352x4096, .f32⟩
  | 24 => ⟨S1x4352x4096, .f32⟩
  | 25 => ⟨S1x4352x4096, .f32⟩
  | 26 => ⟨S2x4352x4096, .f32⟩
  | 27 => ⟨S2x4352x4096, .f32⟩
  | 28 => ⟨S1x4352x4096, .f32⟩
  | 29 => ⟨S1x4352x4096, .f32⟩
  | 30 => ⟨S1x4352x4096, .f32⟩
  | 31 => ⟨S1x4352x4096, .f32⟩
  | 32 => ⟨S1x4352x4096, .f32⟩
  | 33 => ⟨S1x4352x4096, .f32⟩
  | 34 => ⟨S1x4352x4096, .f32⟩
  | 35 => ⟨S1x4352x4096, .f32⟩
  | 36 => ⟨S1x4352x4096, .f32⟩
  | 37 => ⟨S1x4352x4096, .f32⟩
  | 38 => ⟨S1x4352x4096, .f32⟩
  | 39 => ⟨S_, .f32⟩
  | 40 => ⟨S1x4352x4096, .f32⟩
  | 41 => ⟨S1x4352x4096, .f32⟩
  | 42 => ⟨S1x4352x4096, .f32⟩
  | 43 => ⟨S1x4352x4096, .f32⟩
  | 44 => ⟨S1x4352x4096, .f32⟩
  | 45 => ⟨S1x4352x4096, .f32⟩
  | 46 => ⟨S1x4352x4096, .f32⟩
  | 47 => ⟨S_, .f32⟩
  | 48 => ⟨S1x4096, .f32⟩
  | 49 => ⟨S1x1x4096, .f32⟩
  | 50 => ⟨S_, .f32⟩
  | 51 => ⟨S4096, .f32⟩
  | 52 => ⟨S1x4352x4096, .f32⟩
  | 53 => ⟨S_, .f32⟩
  | 54 => ⟨S1x4096, .f32⟩
  | 55 => ⟨S1x1x4096, .f32⟩
  | 56 => ⟨S_, .f32⟩
  | 57 => ⟨S4096, .f32⟩
  | 58 => ⟨S1x4352x16x256, .f32⟩
  | 59 => ⟨S16x256x1x4352, .f32⟩
  | 60 => ⟨S16x1x4352x256, .f32⟩
  | 61 => ⟨S1x4352x16x256, .f32⟩
  | 62 => ⟨S16x256x256, .f32⟩
  | 63 => ⟨S16x256x256, .f32⟩
  | 64 => ⟨S1x4352x4096, .f32⟩
  | 65 => ⟨S_, .f32⟩
  | 66 => ⟨S1x4096, .f32⟩
  | 67 => ⟨S1x1x4096, .f32⟩
  | 68 => ⟨S_, .f32⟩
  | 69 => ⟨S4096, .f32⟩
  | 70 => ⟨S1x4352x16x256, .f32⟩
  | 71 => ⟨S16x256x1x4352, .f32⟩
  | 72 => ⟨S16x1x4352x256, .f32⟩
  | 73 => ⟨S1x4352x16x256, .f32⟩
  | 74 => ⟨S1x4352x16x256, .f32⟩
  | 75 => ⟨S16x256x256, .f32⟩
  | 76 => ⟨S16x256x256, .f32⟩
  | 77 => ⟨S1x4352x4096, .f32⟩
  | 78 => ⟨S1x4352x4096, .f32⟩
  | 79 => ⟨S1x4096, .f32⟩
  | 80 => ⟨S_, .f32⟩
  | 81 => ⟨S2x4096, .f32⟩
  | 82 => ⟨S1x16x256x256, .f32⟩
  | 83 => ⟨S_, .f32⟩
  | 84 => ⟨S2x16x256x256, .f32⟩
  | 85 => ⟨S1x4096, .f32⟩
  | 86 => ⟨S_, .f32⟩
  | 87 => ⟨S2x4096, .f32⟩
  | 88 => ⟨S1x16x256x256, .f32⟩
  | 89 => ⟨S_, .f32⟩
  | 90 => ⟨S2x16x256x256, .f32⟩
  | 91 => ⟨S1x4096, .f32⟩
  | 92 => ⟨S_, .f32⟩
  | 93 => ⟨S2x4096, .f32⟩
  | 94 => ⟨S_, .f32⟩
  | 95 => ⟨S4352x4096, .f32⟩
  | 96 => ⟨S1x4352x4096, .f32⟩
  | 97 => ⟨S1x4352x4096, .f32⟩
  | 98 => ⟨S1x4352x4096, .f32⟩
  | 99 => ⟨S1x4352x4096, .f32⟩
  | 100 => ⟨S1x4352x4096, .f32⟩
  | 101 => ⟨S1x4352x4096, .f32⟩
  | 102 => ⟨S1x4352x4096, .f32⟩
  | 103 => ⟨S_, .f32⟩
  | 104 => ⟨S1x4352x4096, .f32⟩
  | 105 => ⟨S1x4352x4096, .f32⟩
  | 106 => ⟨S1x4352x4096, .f32⟩
  | 107 => ⟨S1x4352x4096, .f32⟩
  | 108 => ⟨S1x4352x4096, .f32⟩
  | 109 => ⟨S1x4352x4096, .f32⟩
  | 110 => ⟨S1x4352x4096, .f32⟩
  | 111 => ⟨S_, .f32⟩
  | 112 => ⟨S1x4096, .f32⟩
  | 113 => ⟨S1x1x4096, .f32⟩
  | 114 => ⟨S_, .f32⟩
  | 115 => ⟨S4096, .f32⟩
  | 116 => ⟨S1x4352x4096, .f32⟩
  | 117 => ⟨S_, .f32⟩
  | 118 => ⟨S1x4096, .f32⟩
  | 119 => ⟨S1x1x4096, .f32⟩
  | 120 => ⟨S_, .f32⟩
  | 121 => ⟨S4096, .f32⟩
  | 122 => ⟨S1x4352x16x256, .f32⟩
  | 123 => ⟨S16x256x1x4352, .f32⟩
  | 124 => ⟨S16x1x4352x256, .f32⟩
  | 125 => ⟨S1x4352x16x256, .f32⟩
  | 126 => ⟨S16x256x256, .f32⟩
  | 127 => ⟨S16x256x256, .f32⟩
  | _ => ⟨S4352x4096, .f32⟩

abbrev hbmTy0_2 (i : Nat) : BufTy := match i % 128 with
  | 0 => ⟨S1x4352x4096, .f32⟩
  | 1 => ⟨S_, .f32⟩
  | 2 => ⟨S1x4096, .f32⟩
  | 3 => ⟨S1x1x4096, .f32⟩
  | 4 => ⟨S_, .f32⟩
  | 5 => ⟨S4096, .f32⟩
  | 6 => ⟨S1x4352x16x256, .f32⟩
  | 7 => ⟨S16x256x1x4352, .f32⟩
  | 8 => ⟨S16x1x4352x256, .f32⟩
  | 9 => ⟨S1x4352x16x256, .f32⟩
  | 10 => ⟨S1x4352x16x256, .f32⟩
  | 11 => ⟨S16x256x256, .f32⟩
  | 12 => ⟨S16x256x256, .f32⟩
  | 13 => ⟨S1x4352x4096, .f32⟩
  | 14 => ⟨S1x4352x4096, .f32⟩
  | 15 => ⟨S1x4096, .f32⟩
  | 16 => ⟨S_, .f32⟩
  | 17 => ⟨S2x4096, .f32⟩
  | 18 => ⟨S2x4096, .f32⟩
  | 19 => ⟨S1x16x256x256, .f32⟩
  | 20 => ⟨S_, .f32⟩
  | 21 => ⟨S2x16x256x256, .f32⟩
  | 22 => ⟨S2x16x256x256, .f32⟩
  | 23 => ⟨S1x4096, .f32⟩
  | 24 => ⟨S_, .f32⟩
  | 25 => ⟨S2x4096, .f32⟩
  | 26 => ⟨S2x4096, .f32⟩
  | 27 => ⟨S1x16x256x256, .f32⟩
  | 28 => ⟨S_, .f32⟩
  | 29 => ⟨S2x16x256x256, .f32⟩
  | 30 => ⟨S2x16x256x256, .f32⟩
  | 31 => ⟨S1x4096, .f32⟩
  | 32 => ⟨S_, .f32⟩
  | 33 => ⟨S2x4096, .f32⟩
  | 34 => ⟨S2x4096, .f32⟩
  | 35 => ⟨S_, .f32⟩
  | 36 => ⟨S4352x4096, .f32⟩
  | 37 => ⟨S4352x4096, .f32⟩
  | 38 => ⟨S2x16x256x256, .bf16⟩
  | 39 => ⟨S2x16x256x256, .bf16⟩
  | _ => ⟨S4352x4096, .f32⟩

abbrev hbmTy (i : Nat) : BufTy := match i / 128 with
  | 0 => hbmTy0_0 i
  | 1 => hbmTy0_1 i
  | 2 => hbmTy0_2 i
  | _ => ⟨S4352x4096, .f32⟩

abbrev bufTy : (tb : Table) → Fin (tcTables nBuf tb) → BufTy
  | .hbm, ⟨i, _⟩ => hbmTy i
  | _, _ => ⟨S4352x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_cst : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_v1 : Ref sig .tc := ⟨.hbm, 22, rfl⟩
abbrev main_cst : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_0 : Ref sig .tc := ⟨.hbm, 46, rfl⟩
abbrev main_v24 : Ref sig .tc := ⟨.hbm, 47, rfl⟩
abbrev main_v25 : Ref sig .tc := ⟨.hbm, 48, rfl⟩
abbrev main_cst_1 : Ref sig .tc := ⟨.hbm, 49, rfl⟩
abbrev main_v26 : Ref sig .tc := ⟨.hbm, 50, rfl⟩
abbrev main_v27 : Ref sig .tc := ⟨.hbm, 51, rfl⟩
abbrev main_cst_2 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_3 : Ref sig .tc := ⟨.hbm, 64, rfl⟩
abbrev main_v39 : Ref sig .tc := ⟨.hbm, 65, rfl⟩
abbrev main_v40 : Ref sig .tc := ⟨.hbm, 66, rfl⟩
abbrev main_cst_4 : Ref sig .tc := ⟨.hbm, 67, rfl⟩
abbrev main_v41 : Ref sig .tc := ⟨.hbm, 68, rfl⟩
abbrev main_v42 : Ref sig .tc := ⟨.hbm, 69, rfl⟩
abbrev main_cst_5 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_6 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_7 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_8 : Ref sig .tc := ⟨.hbm, 110, rfl⟩
abbrev main_v80 : Ref sig .tc := ⟨.hbm, 111, rfl⟩
abbrev main_v81 : Ref sig .tc := ⟨.hbm, 112, rfl⟩
abbrev main_cst_9 : Ref sig .tc := ⟨.hbm, 113, rfl⟩
abbrev main_v82 : Ref sig .tc := ⟨.hbm, 114, rfl⟩
abbrev main_v83 : Ref sig .tc := ⟨.hbm, 115, rfl⟩
abbrev main_cst_10 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_cst_11 : Ref sig .tc := ⟨.hbm, 128, rfl⟩
abbrev main_v95 : Ref sig .tc := ⟨.hbm, 129, rfl⟩
abbrev main_v96 : Ref sig .tc := ⟨.hbm, 130, rfl⟩
abbrev main_cst_12 : Ref sig .tc := ⟨.hbm, 131, rfl⟩
abbrev main_v97 : Ref sig .tc := ⟨.hbm, 132, rfl⟩
abbrev main_v98 : Ref sig .tc := ⟨.hbm, 133, rfl⟩
abbrev main_cst_13 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_cst_14 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_cst_15 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_cst_16 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_cst_17 : Ref sig .tc := ⟨.hbm, 175, rfl⟩
abbrev main_v136 : Ref sig .tc := ⟨.hbm, 176, rfl⟩
abbrev main_v137 : Ref sig .tc := ⟨.hbm, 177, rfl⟩
abbrev main_cst_18 : Ref sig .tc := ⟨.hbm, 178, rfl⟩
abbrev main_v138 : Ref sig .tc := ⟨.hbm, 179, rfl⟩
abbrev main_v139 : Ref sig .tc := ⟨.hbm, 180, rfl⟩
abbrev main_cst_19 : Ref sig .tc := ⟨.hbm, 181, rfl⟩
abbrev main_v140 : Ref sig .tc := ⟨.hbm, 182, rfl⟩
abbrev main_v141 : Ref sig .tc := ⟨.hbm, 183, rfl⟩
abbrev main_cst_20 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_cst_21 : Ref sig .tc := ⟨.hbm, 193, rfl⟩
abbrev main_v150 : Ref sig .tc := ⟨.hbm, 194, rfl⟩
abbrev main_v151 : Ref sig .tc := ⟨.hbm, 195, rfl⟩
abbrev main_cst_22 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_cst_23 : Ref sig .tc := ⟨.hbm, 208, rfl⟩
abbrev main_v163 : Ref sig .tc := ⟨.hbm, 209, rfl⟩
abbrev main_v164 : Ref sig .tc := ⟨.hbm, 210, rfl⟩
abbrev main_cst_24 : Ref sig .tc := ⟨.hbm, 211, rfl⟩
abbrev main_v165 : Ref sig .tc := ⟨.hbm, 212, rfl⟩
abbrev main_v166 : Ref sig .tc := ⟨.hbm, 213, rfl⟩
abbrev main_cst_25 : Ref sig .tc := ⟨.hbm, 214, rfl⟩
abbrev main_v167 : Ref sig .tc := ⟨.hbm, 215, rfl⟩
abbrev main_v168 : Ref sig .tc := ⟨.hbm, 216, rfl⟩
abbrev main_cst_26 : Ref sig .tc := ⟨.hbm, 217, rfl⟩
abbrev main_v169 : Ref sig .tc := ⟨.hbm, 218, rfl⟩
abbrev main_v170 : Ref sig .tc := ⟨.hbm, 219, rfl⟩
abbrev main_cst_27 : Ref sig .tc := ⟨.hbm, 220, rfl⟩
abbrev main_v171 : Ref sig .tc := ⟨.hbm, 221, rfl⟩
abbrev main_cst_28 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_cst_29 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_cst_30 : Ref sig .tc := ⟨.hbm, 239, rfl⟩
abbrev main_v187 : Ref sig .tc := ⟨.hbm, 240, rfl⟩
abbrev main_v188 : Ref sig .tc := ⟨.hbm, 241, rfl⟩
abbrev main_cst_31 : Ref sig .tc := ⟨.hbm, 242, rfl⟩
abbrev main_v189 : Ref sig .tc := ⟨.hbm, 243, rfl⟩
abbrev main_v190 : Ref sig .tc := ⟨.hbm, 244, rfl⟩
abbrev main_cst_32 : Ref sig .tc := ⟨.hbm, 245, rfl⟩
abbrev main_v191 : Ref sig .tc := ⟨.hbm, 246, rfl⟩
abbrev main_v192 : Ref sig .tc := ⟨.hbm, 247, rfl⟩
abbrev main_cst_33 : Ref sig .tc := ⟨.hbm, 248, rfl⟩
abbrev main_v193 : Ref sig .tc := ⟨.hbm, 249, rfl⟩
abbrev main_v194 : Ref sig .tc := ⟨.hbm, 250, rfl⟩
abbrev main_v195 : Ref sig .tc := ⟨.hbm, 251, rfl⟩
abbrev main_v196 : Ref sig .tc := ⟨.hbm, 252, rfl⟩
abbrev main_v197 : Ref sig .tc := ⟨.hbm, 253, rfl⟩
abbrev main_v198 : Ref sig .tc := ⟨.hbm, 254, rfl⟩
abbrev main_v199 : Ref sig .tc := ⟨.hbm, 255, rfl⟩
abbrev main_v200 : Ref sig .tc := ⟨.hbm, 256, rfl⟩
abbrev main_cst_34 : Ref sig .tc := ⟨.hbm, 257, rfl⟩
abbrev main_v201 : Ref sig .tc := ⟨.hbm, 258, rfl⟩
abbrev main_v202 : Ref sig .tc := ⟨.hbm, 259, rfl⟩
abbrev main_cst_35 : Ref sig .tc := ⟨.hbm, 260, rfl⟩
abbrev main_v203 : Ref sig .tc := ⟨.hbm, 261, rfl⟩
abbrev main_v204 : Ref sig .tc := ⟨.hbm, 262, rfl⟩
abbrev main_v205 : Ref sig .tc := ⟨.hbm, 263, rfl⟩
abbrev main_v206 : Ref sig .tc := ⟨.hbm, 264, rfl⟩
abbrev main_v207 : Ref sig .tc := ⟨.hbm, 265, rfl⟩
abbrev main_v208 : Ref sig .tc := ⟨.hbm, 266, rfl⟩
abbrev main_v209 : Ref sig .tc := ⟨.hbm, 267, rfl⟩
abbrev main_v210 : Ref sig .tc := ⟨.hbm, 268, rfl⟩
abbrev main_v211 : Ref sig .tc := ⟨.hbm, 269, rfl⟩
abbrev main_v212 : Ref sig .tc := ⟨.hbm, 270, rfl⟩
abbrev main_v213 : Ref sig .tc := ⟨.hbm, 271, rfl⟩
abbrev main_cst_36 : Ref sig .tc := ⟨.hbm, 272, rfl⟩
abbrev main_v214 : Ref sig .tc := ⟨.hbm, 273, rfl⟩
abbrev main_v215 : Ref sig .tc := ⟨.hbm, 274, rfl⟩
abbrev main_v216 : Ref sig .tc := ⟨.hbm, 275, rfl⟩
abbrev main_cst_37 : Ref sig .tc := ⟨.hbm, 276, rfl⟩
abbrev main_v217 : Ref sig .tc := ⟨.hbm, 277, rfl⟩
abbrev main_v218 : Ref sig .tc := ⟨.hbm, 278, rfl⟩
abbrev main_v219 : Ref sig .tc := ⟨.hbm, 279, rfl⟩
abbrev main_cst_38 : Ref sig .tc := ⟨.hbm, 280, rfl⟩
abbrev main_v220 : Ref sig .tc := ⟨.hbm, 281, rfl⟩
abbrev main_v221 : Ref sig .tc := ⟨.hbm, 282, rfl⟩
abbrev main_v222 : Ref sig .tc := ⟨.hbm, 283, rfl⟩
abbrev main_cst_39 : Ref sig .tc := ⟨.hbm, 284, rfl⟩
abbrev main_v223 : Ref sig .tc := ⟨.hbm, 285, rfl⟩
abbrev main_v224 : Ref sig .tc := ⟨.hbm, 286, rfl⟩
abbrev main_v225 : Ref sig .tc := ⟨.hbm, 287, rfl⟩
abbrev main_cst_40 : Ref sig .tc := ⟨.hbm, 288, rfl⟩
abbrev main_v226 : Ref sig .tc := ⟨.hbm, 289, rfl⟩
abbrev main_v227 : Ref sig .tc := ⟨.hbm, 290, rfl⟩
abbrev main_cst_41 : Ref sig .tc := ⟨.hbm, 291, rfl⟩
abbrev main_v228 : Ref sig .tc := ⟨.hbm, 292, rfl⟩
abbrev main_v229 : Ref sig .tc := ⟨.hbm, 293, rfl⟩
abbrev main_v230 : Ref sig .tc := ⟨.hbm, 294, rfl⟩
abbrev main_v231 : Ref sig .tc := ⟨.hbm, 295, rfl⟩

abbrev nD : Nat := 1
abbrev τ : Topo := Topo.v7x

variable {F : FTy → Type} [FloatOps F]
-- ==== KernelDh.lean ====
abbrev S4352x4096 : Shape := ⟨2, ![4352, 4096]⟩
abbrev S4096x16384 : Shape := ⟨2, ![4096, 16384]⟩
abbrev S4352x16384 : Shape := ⟨2, ![4352, 16384]⟩
abbrev S4096x8x4x512 : Shape := ⟨4, ![4096, 8, 4, 512]⟩
abbrev S4096x8x1x512 : Shape := ⟨4, ![4096, 8, 1, 512]⟩
abbrev S4096x8x512 : Shape := ⟨3, ![4096, 8, 512]⟩
abbrev S8x4096x512 : Shape := ⟨3, ![8, 4096, 512]⟩
abbrev S_ : Shape := ⟨0, ![]⟩
abbrev S8x128 : Shape := ⟨2, ![8, 128]⟩
abbrev S1088x2048 : Shape := ⟨2, ![1088, 2048]⟩
abbrev S1x1024x512 : Shape := ⟨3, ![1, 1024, 512]⟩
abbrev S1088x1024 : Shape := ⟨2, ![1088, 1024]⟩
abbrev S1088x512 : Shape := ⟨2, ![1088, 512]⟩
abbrev S1024x512 : Shape := ⟨2, ![1024, 512]⟩

abbrev nBuf : Space → Nat
  | .hbm => 27
  | .vmem => 13
  | .smem => 0
  | _ => 0

abbrev bufTy : (tb : Table) → Fin (tcTables nBuf tb) → BufTy
  | .hbm, ⟨0, _⟩ => ⟨S4352x4096, .f32⟩
  | .hbm, ⟨1, _⟩ => ⟨S4096x16384, .f32⟩
  | .hbm, ⟨2, _⟩ => ⟨S4352x16384, .f32⟩
  | .hbm, ⟨3, _⟩ => ⟨S4096x8x4x512, .f32⟩
  | .hbm, ⟨4, _⟩ => ⟨S4096x8x1x512, .f32⟩
  | .hbm, ⟨5, _⟩ => ⟨S4096x8x512, .f32⟩
  | .hbm, ⟨6, _⟩ => ⟨S8x4096x512, .f32⟩
  | .hbm, ⟨7, _⟩ => ⟨S8x4096x512, .bf16⟩
  | .hbm, ⟨8, _⟩ => ⟨S4096x8x4x512, .f32⟩
  | .hbm, ⟨9, _⟩ => ⟨S4096x8x1x512, .f32⟩
  | .hbm, ⟨10, _⟩ => ⟨S4096x8x512, .f32⟩
  | .hbm, ⟨11, _⟩ => ⟨S8x4096x512, .f32⟩
  | .hbm, ⟨12, _⟩ => ⟨S8x4096x512, .bf16⟩
  | .hbm, ⟨13, _⟩ => ⟨S4096x8x4x512, .f32⟩
  | .hbm, ⟨14, _⟩ => ⟨S4096x8x1x512, .f32⟩
  | .hbm, ⟨15, _⟩ => ⟨S4096x8x512, .f32⟩
  | .hbm, ⟨16, _⟩ => ⟨S8x4096x512, .f32⟩
  | .hbm, ⟨17, _⟩ => ⟨S8x4096x512, .bf16⟩
  | .hbm, ⟨18, _⟩ => ⟨S4096x8x4x512, .f32⟩
  | .hbm, ⟨19, _⟩ => ⟨S4096x8x1x512, .f32⟩
  | .hbm, ⟨20, _⟩ => ⟨S4096x8x512, .f32⟩
  | .hbm, ⟨21, _⟩ => ⟨S8x4096x512, .f32⟩
  | .hbm, ⟨22, _⟩ => ⟨S8x4096x512, .bf16⟩
  | .hbm, ⟨23, _⟩ => ⟨S4352x16384, .bf16⟩
  | .hbm, ⟨24, _⟩ => ⟨S_, .f32⟩
  | .hbm, ⟨25, _⟩ => ⟨S8x128, .f32⟩
  | .hbm, ⟨26, _⟩ => ⟨S4352x4096, .f32⟩
  | .local _ .vmem, ⟨0, _⟩ => ⟨S1088x2048, .bf16⟩
  | .local _ .vmem, ⟨1, _⟩ => ⟨S1088x2048, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x1024x512, .bf16⟩
  | .local _ .vmem, ⟨9, _⟩ => ⟨S1x1024x512, .bf16⟩
  | .local _ .vmem, ⟨10, _⟩ => ⟨S1088x1024, .f32⟩
  | .local _ .vmem, ⟨11, _⟩ => ⟨S1088x1024, .f32⟩
  | .local _ .vmem, ⟨12, _⟩ => ⟨S1088x1024, .f32⟩
  | _, _ => ⟨S4352x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_cst : Ref sig .tc := ⟨.hbm, 24, rfl⟩
abbrev main_v21 : Ref sig .tc := ⟨.hbm, 25, rfl⟩
abbrev main_v22 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 8], ![false, false, false]⟩

def k0_cond3 (i : grid0.Coords) : BitVec 1 :=
  let arg2 : BitVec 32 := BitVec.ofNat 32 (i 2).val
  let c7_i32_3 : BitVec 32 := 7#32
  let v8 : BitVec 1 := Scalar.cmpi .eq arg2 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1088x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ReferenceDhIdeal.lean ====
abbrev S4352x4096 : Shape := ⟨2, ![4352, 4096]⟩
abbrev S4096x16384 : Shape := ⟨2, ![4096, 16384]⟩
abbrev S4352x16384 : Shape := ⟨2, ![4352, 16384]⟩
abbrev S16384x4096 : Shape := ⟨2, ![16384, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4352x4096, .f32⟩
  | .hbm, ⟨1, _⟩ => ⟨S4096x16384, .f32⟩
  | .hbm, ⟨2, _⟩ => ⟨S4352x16384, .f32⟩
  | .hbm, ⟨3, _⟩ => ⟨S4352x16384, .f32⟩
  | .hbm, ⟨4, _⟩ => ⟨S16384x4096, .f32⟩
  | .hbm, ⟨5, _⟩ => ⟨S4096x16384, .f32⟩
  | .hbm, ⟨6, _⟩ => ⟨S4352x4096, .f32⟩
  | _, _ => ⟨S4352x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelGwin0.lean ====
abbrev S4352x4096 : Shape := ⟨2, ![4352, 4096]⟩
abbrev S4096x16384 : Shape := ⟨2, ![4096, 16384]⟩
abbrev S4352x16384 : Shape := ⟨2, ![4352, 16384]⟩
abbrev S4096x4352 : Shape := ⟨2, ![4096, 4352]⟩
abbrev S8x4096x512 : Shape := ⟨3, ![8, 4096, 512]⟩
abbrev S1024x4352 : Shape := ⟨2, ![1024, 4352]⟩
abbrev S4352x512 : Shape := ⟨2, ![4352, 512]⟩
abbrev S1x1024x512 : Shape := ⟨3, ![1, 1024, 512]⟩
abbrev S1024x512 : Shape := ⟨2, ![1024, 512]⟩

abbrev nBuf : Space → Nat
  | .hbm => 7
  | .vmem => 7
  | .smem => 0
  | _ => 0

abbrev bufTy : (tb : Table) → Fin (tcTables nBuf tb) → BufTy
  | .hbm, ⟨0, _⟩ => ⟨S4352x4096, .f32⟩
  | .hbm, ⟨1, _⟩ => ⟨S4096x16384, .f32⟩
  | .hbm, ⟨2, _⟩ => ⟨S4352x16384, .f32⟩
  | .hbm, ⟨3, _⟩ => ⟨S4352x4096, .bf16⟩
  | .hbm, ⟨4, _⟩ => ⟨S4096x4352, .bf16⟩
  | .hbm, ⟨5, _⟩ => ⟨S4352x16384, .bf16⟩
  | .hbm, ⟨6, _⟩ => ⟨S8x4096x512, .bf16⟩
  | .local _ .vmem, ⟨0, _⟩ => ⟨S1024x4352, .bf16⟩
  | .local _ .vmem, ⟨1, _⟩ => ⟨S1024x4352, .bf16⟩
  | .local _ .vmem, ⟨2, _⟩ => ⟨S4352x512, .bf16⟩
  | .local _ .vmem, ⟨3, _⟩ => ⟨S4352x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x512, .f32⟩
  | _, _ => ⟨S4352x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c4_i32 : BitVec 32 := 4#32
  let v17 : BitVec 32 := Scalar.muli v16 c4_i32
  let c0_i32_5 : BitVec 32 := 0#32
  let v18 : BitVec 32 := Scalar.addi v17 c0_i32_5
  let c1_i32_6 : BitVec 32 := 1#32
  let c0_i32_7 : BitVec 32 := 0#32
  let v19 : BitVec 1 := Scalar.cmpi .eq c1_i32_6 c0_i32_7
  let c1_i32_8 : BitVec 32 := 1#32
  let v20 : BitVec 32 := Scalar.select v19 c1_i32_8 c1_i32_6
  let v21 : BitVec 32 := Scalar.remsi arg1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let v29 : BitVec 32 := Scalar.addi v18 v28
  let c0_i32_12 : BitVec 32 := 0#32
  ![arg2.toNat, v29.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x4352 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4352x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGwin0Ideal.lean ====
abbrev S4352x4096 : Shape := ⟨2, ![4352, 4096]⟩
abbrev S4096x16384 : Shape := ⟨2, ![4096, 16384]⟩
abbrev S4352x16384 : Shape := ⟨2, ![4352, 16384]⟩
abbrev S16384x4096 : Shape := ⟨2, ![16384, 4096]⟩
abbrev S4096x8x2048 : Shape := ⟨3, ![4096, 8, 2048]⟩
abbrev S4096x8x512 : Shape := ⟨3, ![4096, 8, 512]⟩
abbrev S8x4096x512 : Shape := ⟨3, ![8, 4096, 512]⟩

abbrev nBuf : Space → Nat
  | .hbm => 11
  | .vmem => 0
  | .smem => 0
  | _ => 0

abbrev bufTy : (tb : Table) → Fin (tcTables nBuf tb) → BufTy
  | .hbm, ⟨0, _⟩ => ⟨S4352x4096, .f32⟩
  | .hbm, ⟨1, _⟩ => ⟨S4096x16384, .f32⟩
  | .hbm, ⟨2, _⟩ => ⟨S4352x16384, .f32⟩
  | .hbm, ⟨3, _⟩ => ⟨S4352x16384, .f32⟩
  | .hbm, ⟨4, _⟩ => ⟨S16384x4096, .f32⟩
  | .hbm, ⟨5, _⟩ => ⟨S4096x16384, .f32⟩
  | .hbm, ⟨6, _⟩ => ⟨S4352x4096, .f32⟩
  | .hbm, ⟨7, _⟩ => ⟨S4096x16384, .bf16⟩
  | .hbm, ⟨8, _⟩ => ⟨S4096x8x2048, .bf16⟩
  | .hbm, ⟨9, _⟩ => ⟨S4096x8x512, .bf16⟩
  | .hbm, ⟨10, _⟩ => ⟨S8x4096x512, .bf16⟩
  | _, _ => ⟨S4352x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelGwin1.lean ====
abbrev S4352x4096 : Shape := ⟨2, ![4352, 4096]⟩
abbrev S4096x16384 : Shape := ⟨2, ![4096, 16384]⟩
abbrev S4352x16384 : Shape := ⟨2, ![4352, 16384]⟩
abbrev S_ : Shape := ⟨0, ![]⟩
abbrev S8x128 : Shape := ⟨2, ![8, 128]⟩
abbrev S4096x4352 : Shape := ⟨2, ![4096, 4352]⟩
abbrev S8x4096x512 : Shape := ⟨3, ![8, 4096, 512]⟩
abbrev S1024x4352 : Shape := ⟨2, ![1024, 4352]⟩
abbrev S4352x512 : Shape := ⟨2, ![4352, 512]⟩
abbrev S1x1024x512 : Shape := ⟨3, ![1, 1024, 512]⟩
abbrev S1024x512 : Shape := ⟨2, ![1024, 512]⟩

abbrev nBuf : Space → Nat
  | .hbm => 9
  | .vmem => 7
  | .smem => 0
  | _ => 0

abbrev bufTy : (tb : Table) → Fin (tcTables nBuf tb) → BufTy
  | .hbm, ⟨0, _⟩ => ⟨S4352x4096, .f32⟩
  | .hbm, ⟨1, _⟩ => ⟨S4096x16384, .f32⟩
  | .hbm, ⟨2, _⟩ => ⟨S4352x16384, .f32⟩
  | .hbm, ⟨3, _⟩ => ⟨S_, .f32⟩
  | .hbm, ⟨4, _⟩ => ⟨S8x128, .f32⟩
  | .hbm, ⟨5, _⟩ => ⟨S4352x4096, .bf16⟩
  | .hbm, ⟨6, _⟩ => ⟨S4096x4352, .bf16⟩
  | .hbm, ⟨7, _⟩ => ⟨S4352x16384, .bf16⟩
  | .hbm, ⟨8, _⟩ => ⟨S8x4096x512, .bf16⟩
  | .local _ .vmem, ⟨0, _⟩ => ⟨S1024x4352, .bf16⟩
  | .local _ .vmem, ⟨1, _⟩ => ⟨S1024x4352, .bf16⟩
  | .local _ .vmem, ⟨2, _⟩ => ⟨S4352x512, .bf16⟩
  | .local _ .vmem, ⟨3, _⟩ => ⟨S4352x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x512, .f32⟩
  | _, _ => ⟨S4352x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c4_i32 : BitVec 32 := 4#32
  let v17 : BitVec 32 := Scalar.muli v16 c4_i32
  let c1_i32_5 : BitVec 32 := 1#32
  let v18 : BitVec 32 := Scalar.addi v17 c1_i32_5
  let c1_i32_6 : BitVec 32 := 1#32
  let c0_i32_7 : BitVec 32 := 0#32
  let v19 : BitVec 1 := Scalar.cmpi .eq c1_i32_6 c0_i32_7
  let c1_i32_8 : BitVec 32 := 1#32
  let v20 : BitVec 32 := Scalar.select v19 c1_i32_8 c1_i32_6
  let v21 : BitVec 32 := Scalar.remsi arg1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let v29 : BitVec 32 := Scalar.addi v18 v28
  let c0_i32_12 : BitVec 32 := 0#32
  ![arg2.toNat, v29.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x4352 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4352x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGwin1Ideal.lean ====
abbrev S4352x4096 : Shape := ⟨2, ![4352, 4096]⟩
abbrev S4096x16384 : Shape := ⟨2, ![4096, 16384]⟩
abbrev S4352x16384 : Shape := ⟨2, ![4352, 16384]⟩
abbrev S16384x4096 : Shape := ⟨2, ![16384, 4096]⟩
abbrev S4096x8x2048 : Shape := ⟨3, ![4096, 8, 2048]⟩
abbrev S4096x8x512 : Shape := ⟨3, ![4096, 8, 512]⟩
abbrev S8x4096x512 : Shape := ⟨3, ![8, 4096, 512]⟩

abbrev nBuf : Space → Nat
  | .hbm => 11
  | .vmem => 0
  | .smem => 0
  | _ => 0

abbrev bufTy : (tb : Table) → Fin (tcTables nBuf tb) → BufTy
  | .hbm, ⟨0, _⟩ => ⟨S4352x4096, .f32⟩
  | .hbm, ⟨1, _⟩ => ⟨S4096x16384, .f32⟩
  | .hbm, ⟨2, _⟩ => ⟨S4352x16384, .f32⟩
  | .hbm, ⟨3, _⟩ => ⟨S4352x16384, .f32⟩
  | .hbm, ⟨4, _⟩ => ⟨S16384x4096, .f32⟩
  | .hbm, ⟨5, _⟩ => ⟨S4096x16384, .f32⟩
  | .hbm, ⟨6, _⟩ => ⟨S4352x4096, .f32⟩
  | .hbm, ⟨7, _⟩ => ⟨S4096x16384, .bf16⟩
  | .hbm, ⟨8, _⟩ => ⟨S4096x8x2048, .bf16⟩
  | .hbm, ⟨9, _⟩ => ⟨S4096x8x512, .bf16⟩
  | .hbm, ⟨10, _⟩ => ⟨S8x4096x512, .bf16⟩
  | _, _ => ⟨S4352x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelGwin2.lean ====
abbrev S4352x4096 : Shape := ⟨2, ![4352, 4096]⟩
abbrev S4096x16384 : Shape := ⟨2, ![4096, 16384]⟩
abbrev S4352x16384 : Shape := ⟨2, ![4352, 16384]⟩
abbrev S_ : Shape := ⟨0, ![]⟩
abbrev S8x128 : Shape := ⟨2, ![8, 128]⟩
abbrev S4096x4352 : Shape := ⟨2, ![4096, 4352]⟩
abbrev S8x4096x512 : Shape := ⟨3, ![8, 4096, 512]⟩
abbrev S1024x4352 : Shape := ⟨2, ![1024, 4352]⟩
abbrev S4352x512 : Shape := ⟨2, ![4352, 512]⟩
abbrev S1x1024x512 : Shape := ⟨3, ![1, 1024, 512]⟩
abbrev S1024x512 : Shape := ⟨2, ![1024, 512]⟩

abbrev nBuf : Space → Nat
  | .hbm => 9
  | .vmem => 7
  | .smem => 0
  | _ => 0

abbrev bufTy : (tb : Table) → Fin (tcTables nBuf tb) → BufTy
  | .hbm, ⟨0, _⟩ => ⟨S4352x4096, .f32⟩
  | .hbm, ⟨1, _⟩ => ⟨S4096x16384, .f32⟩
  | .hbm, ⟨2, _⟩ => ⟨S4352x16384, .f32⟩
  | .hbm, ⟨3, _⟩ => ⟨S_, .f32⟩
  | .hbm, ⟨4, _⟩ => ⟨S8x128, .f32⟩
  | .hbm, ⟨5, _⟩ => ⟨S4352x4096, .bf16⟩
  | .hbm, ⟨6, _⟩ => ⟨S4096x4352, .bf16⟩
  | .hbm, ⟨7, _⟩ => ⟨S4352x16384, .bf16⟩
  | .hbm, ⟨8, _⟩ => ⟨S8x4096x512, .bf16⟩
  | .local _ .vmem, ⟨0, _⟩ => ⟨S1024x4352, .bf16⟩
  | .local _ .vmem, ⟨1, _⟩ => ⟨S1024x4352, .bf16⟩
  | .local _ .vmem, ⟨2, _⟩ => ⟨S4352x512, .bf16⟩
  | .local _ .vmem, ⟨3, _⟩ => ⟨S4352x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x512, .f32⟩
  | _, _ => ⟨S4352x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c4_i32 : BitVec 32 := 4#32
  let v17 : BitVec 32 := Scalar.muli v16 c4_i32
  let c2_i32 : BitVec 32 := 2#32
  let v18 : BitVec 32 := Scalar.addi v17 c2_i32
  let c1_i32_5 : BitVec 32 := 1#32
  let c0_i32_6 : BitVec 32 := 0#32
  let v19 : BitVec 1 := Scalar.cmpi .eq c1_i32_5 c0_i32_6
  let c1_i32_7 : BitVec 32 := 1#32
  let v20 : BitVec 32 := Scalar.select v19 c1_i32_7 c1_i32_5
  let v21 : BitVec 32 := Scalar.remsi arg1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let v29 : BitVec 32 := Scalar.addi v18 v28
  let c0_i32_11 : BitVec 32 := 0#32
  ![arg2.toNat, v29.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x4352 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4352x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGwin2Ideal.lean ====
abbrev S4352x4096 : Shape := ⟨2, ![4352, 4096]⟩
abbrev S4096x16384 : Shape := ⟨2, ![4096, 16384]⟩
abbrev S4352x16384 : Shape := ⟨2, ![4352, 16384]⟩
abbrev S16384x4096 : Shape := ⟨2, ![16384, 4096]⟩
abbrev S4096x8x2048 : Shape := ⟨3, ![4096, 8, 2048]⟩
abbrev S4096x8x512 : Shape := ⟨3, ![4096, 8, 512]⟩
abbrev S8x4096x512 : Shape := ⟨3, ![8, 4096, 512]⟩

abbrev nBuf : Space → Nat
  | .hbm => 11
  | .vmem => 0
  | .smem => 0
  | _ => 0

abbrev bufTy : (tb : Table) → Fin (tcTables nBuf tb) → BufTy
  | .hbm, ⟨0, _⟩ => ⟨S4352x4096, .f32⟩
  | .hbm, ⟨1, _⟩ => ⟨S4096x16384, .f32⟩
  | .hbm, ⟨2, _⟩ => ⟨S4352x16384, .f32⟩
  | .hbm, ⟨3, _⟩ => ⟨S4352x16384, .f32⟩
  | .hbm, ⟨4, _⟩ => ⟨S16384x4096, .f32⟩
  | .hbm, ⟨5, _⟩ => ⟨S4096x16384, .f32⟩
  | .hbm, ⟨6, _⟩ => ⟨S4352x4096, .f32⟩
  | .hbm, ⟨7, _⟩ => ⟨S4096x16384, .bf16⟩
  | .hbm, ⟨8, _⟩ => ⟨S4096x8x2048, .bf16⟩
  | .hbm, ⟨9, _⟩ => ⟨S4096x8x512, .bf16⟩
  | .hbm, ⟨10, _⟩ => ⟨S8x4096x512, .bf16⟩
  | _, _ => ⟨S4352x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelGwin3.lean ====
abbrev S4352x4096 : Shape := ⟨2, ![4352, 4096]⟩
abbrev S4096x16384 : Shape := ⟨2, ![4096, 16384]⟩
abbrev S4352x16384 : Shape := ⟨2, ![4352, 16384]⟩
abbrev S_ : Shape := ⟨0, ![]⟩
abbrev S8x128 : Shape := ⟨2, ![8, 128]⟩
abbrev S4096x4352 : Shape := ⟨2, ![4096, 4352]⟩
abbrev S8x4096x512 : Shape := ⟨3, ![8, 4096, 512]⟩
abbrev S1024x4352 : Shape := ⟨2, ![1024, 4352]⟩
abbrev S4352x512 : Shape := ⟨2, ![4352, 512]⟩
abbrev S1x1024x512 : Shape := ⟨3, ![1, 1024, 512]⟩
abbrev S1024x512 : Shape := ⟨2, ![1024, 512]⟩

abbrev nBuf : Space → Nat
  | .hbm => 9
  | .vmem => 7
  | .smem => 0
  | _ => 0

abbrev bufTy : (tb : Table) → Fin (tcTables nBuf tb) → BufTy
  | .hbm, ⟨0, _⟩ => ⟨S4352x4096, .f32⟩
  | .hbm, ⟨1, _⟩ => ⟨S4096x16384, .f32⟩
  | .hbm, ⟨2, _⟩ => ⟨S4352x16384, .f32⟩
  | .hbm, ⟨3, _⟩ => ⟨S_, .f32⟩
  | .hbm, ⟨4, _⟩ => ⟨S8x128, .f32⟩
  | .hbm, ⟨5, _⟩ => ⟨S4352x4096, .bf16⟩
  | .hbm, ⟨6, _⟩ => ⟨S4096x4352, .bf16⟩
  | .hbm, ⟨7, _⟩ => ⟨S4352x16384, .bf16⟩
  | .hbm, ⟨8, _⟩ => ⟨S8x4096x512, .bf16⟩
  | .local _ .vmem, ⟨0, _⟩ => ⟨S1024x4352, .bf16⟩
  | .local _ .vmem, ⟨1, _⟩ => ⟨S1024x4352, .bf16⟩
  | .local _ .vmem, ⟨2, _⟩ => ⟨S4352x512, .bf16⟩
  | .local _ .vmem, ⟨3, _⟩ => ⟨S4352x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x512, .f32⟩
  | _, _ => ⟨S4352x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c4_i32 : BitVec 32 := 4#32
  let v17 : BitVec 32 := Scalar.muli v16 c4_i32
  let c3_i32 : BitVec 32 := 3#32
  let v18 : BitVec 32 := Scalar.addi v17 c3_i32
  let c1_i32_5 : BitVec 32 := 1#32
  let c0_i32_6 : BitVec 32 := 0#32
  let v19 : BitVec 1 := Scalar.cmpi .eq c1_i32_5 c0_i32_6
  let c1_i32_7 : BitVec 32 := 1#32
  let v20 : BitVec 32 := Scalar.select v19 c1_i32_7 c1_i32_5
  let v21 : BitVec 32 := Scalar.remsi arg1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let v29 : BitVec 32 := Scalar.addi v18 v28
  let c0_i32_11 : BitVec 32 := 0#32
  ![arg2.toNat, v29.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x4352 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4352x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGwin3Ideal.lean ====
abbrev S4352x4096 : Shape := ⟨2, ![4352, 4096]⟩
abbrev S4096x16384 : Shape := ⟨2, ![4096, 16384]⟩
abbrev S4352x16384 : Shape := ⟨2, ![4352, 16384]⟩
abbrev S16384x4096 : Shape := ⟨2, ![16384, 4096]⟩
abbrev S4096x8x2048 : Shape := ⟨3, ![4096, 8, 2048]⟩
abbrev S4096x8x512 : Shape := ⟨3, ![4096, 8, 512]⟩
abbrev S8x4096x512 : Shape := ⟨3, ![8, 4096, 512]⟩

abbrev nBuf : Space → Nat
  | .hbm => 11
  | .vmem => 0
  | .smem => 0
  | _ => 0

abbrev bufTy : (tb : Table) → Fin (tcTables nBuf tb) → BufTy
  | .hbm, ⟨0, _⟩ => ⟨S4352x4096, .f32⟩
  | .hbm, ⟨1, _⟩ => ⟨S4096x16384, .f32⟩
  | .hbm, ⟨2, _⟩ => ⟨S4352x16384, .f32⟩
  | .hbm, ⟨3, _⟩ => ⟨S4352x16384, .f32⟩
  | .hbm, ⟨4, _⟩ => ⟨S16384x4096, .f32⟩
  | .hbm, ⟨5, _⟩ => ⟨S4096x16384, .f32⟩
  | .hbm, ⟨6, _⟩ => ⟨S4352x4096, .f32⟩
  | .hbm, ⟨7, _⟩ => ⟨S4096x16384, .bf16⟩
  | .hbm, ⟨8, _⟩ => ⟨S4096x8x2048, .bf16⟩
  | .hbm, ⟨9, _⟩ => ⟨S4096x8x512, .bf16⟩
  | .hbm, ⟨10, _⟩ => ⟨S8x4096x512, .bf16⟩
  | _, _ => ⟨S4352x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelDmixed.lean ====
abbrev S4096x8192 : Shape := ⟨2, ![4096, 8192]⟩
abbrev S8192x4096 : Shape := ⟨2, ![8192, 4096]⟩
abbrev S4096x4096 : Shape := ⟨2, ![4096, 4096]⟩
abbrev S1024x2048 : Shape := ⟨2, ![1024, 2048]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x8192, .f32⟩
  | .hbm, ⟨1, _⟩ => ⟨S8192x4096, .f32⟩
  | .hbm, ⟨2, _⟩ => ⟨S4096x4096, .f32⟩
  | .hbm, ⟨3, _⟩ => ⟨S4096x4096, .bf16⟩
  | .hbm, ⟨4, _⟩ => ⟨S8192x4096, .bf16⟩
  | .hbm, ⟨5, _⟩ => ⟨S4096x8192, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 2], ![false, false, false]⟩

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDmixedIdeal.lean ====
abbrev S4096x8192 : Shape := ⟨2, ![4096, 8192]⟩
abbrev S8192x4096 : Shape := ⟨2, ![8192, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192x4096, .f32⟩
  | .hbm, ⟨2, _⟩ => ⟨S4096x4096, .f32⟩
  | .hbm, ⟨3, _⟩ => ⟨S4096x4096, .f32⟩
  | .hbm, ⟨4, _⟩ => ⟨S4096x8192, .f32⟩
  | .hbm, ⟨5, _⟩ => ⟨S8192x4096, .f32⟩
  | .hbm, ⟨6, _⟩ => ⟨S4096x8192, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelGwout.lean ====
abbrev S4096x8192 : Shape := ⟨2, ![4096, 8192]⟩
abbrev S8192x4096 : Shape := ⟨2, ![8192, 4096]⟩
abbrev S4096x4096 : Shape := ⟨2, ![4096, 4096]⟩
abbrev S2048x1024 : Shape := ⟨2, ![2048, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x8192, .f32⟩
  | .hbm, ⟨1, _⟩ => ⟨S8192x4096, .f32⟩
  | .hbm, ⟨2, _⟩ => ⟨S4096x4096, .f32⟩
  | .hbm, ⟨3, _⟩ => ⟨S4096x8192, .bf16⟩
  | .hbm, ⟨4, _⟩ => ⟨S4096x4096, .bf16⟩
  | .hbm, ⟨5, _⟩ => ⟨S8192x4096, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 2], ![false, false, false]⟩

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGwoutIdeal.lean ====
abbrev S4096x8192 : Shape := ⟨2, ![4096, 8192]⟩
abbrev S8192x4096 : Shape := ⟨2, ![8192, 4096]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192x4096, .f32⟩
  | .hbm, ⟨2, _⟩ => ⟨S4096x4096, .f32⟩
  | .hbm, ⟨3, _⟩ => ⟨S4096x4096, .f32⟩
  | .hbm, ⟨4, _⟩ => ⟨S4096x8192, .f32⟩
  | .hbm, ⟨5, _⟩ => ⟨S8192x4096, .f32⟩
  | .hbm, ⟨6, _⟩ => ⟨S4096x8192, .f32⟩
  | .hbm, ⟨7, _⟩ => ⟨S8192x4096, .bf16⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelOut.lean ====
abbrev S4096x8192 : Shape := ⟨2, ![4096, 8192]⟩
abbrev S8192x4096 : Shape := ⟨2, ![8192, 4096]⟩
abbrev S4096x4096 : Shape := ⟨2, ![4096, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x8192, .f32⟩
  | .hbm, ⟨1, _⟩ => ⟨S8192x4096, .f32⟩
  | .hbm, ⟨2, _⟩ => ⟨S4096x8192, .bf16⟩
  | .hbm, ⟨3, _⟩ => ⟨S8192x4096, .bf16⟩
  | .hbm, ⟨4, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceOutIdeal.lean ====
abbrev S4096x8192 : Shape := ⟨2, ![4096, 8192]⟩
abbrev S8192x4096 : Shape := ⟨2, ![8192, 4096]⟩
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192x4096, .f32⟩
  | .hbm, ⟨2, _⟩ => ⟨S4096x4096, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelDz.lean ====
abbrev S4096x4096 : Shape := ⟨2, ![4096, 4096]⟩
abbrev S4x1024x1024 : Shape := ⟨3, ![4, 1024, 1024]⟩
abbrev S1024x1024 : Shape := ⟨2, ![1024, 1024]⟩
abbrev S1x1024x1024 : Shape := ⟨3, ![1, 1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4x1024x1024, .f32⟩
  | .hbm, ⟨2, _⟩ => ⟨S4096x4096, .f32⟩
  | .hbm, ⟨3, _⟩ => ⟨S4096x4096, .bf16⟩
  | .hbm, ⟨4, _⟩ => ⟨S4x1024x1024, .bf16⟩
  | .hbm, ⟨5, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 4, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg3
  let c0_i32 : BitVec 32 := 0#32
  ![arg1.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c0_i32 : BitVec 32 := 0#32
  ![arg1.toNat, v1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== ReferenceDzIdeal.lean ====
abbrev S4096x4096 : Shape := ⟨2, ![4096, 4096]⟩
abbrev S4x1024x1024 : Shape := ⟨3, ![4, 1024, 1024]⟩
abbrev S4096x4x1024 : Shape := ⟨3, ![4096, 4, 1024]⟩
abbrev S4x1024x4096 : Shape := ⟨3, ![4, 1024, 4096]⟩
abbrev S4x4096x1024 : Shape := ⟨3, ![4, 4096, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4x1024x1024, .f32⟩
  | .hbm, ⟨2, _⟩ => ⟨S4096x4096, .f32⟩
  | .hbm, ⟨3, _⟩ => ⟨S4096x4x1024, .f32⟩
  | .hbm, ⟨4, _⟩ => ⟨S4x1024x4096, .f32⟩
  | .hbm, ⟨5, _⟩ => ⟨S4096x4x1024, .f32⟩
  | .hbm, ⟨6, _⟩ => ⟨S4096x4096, .f32⟩
  | .hbm, ⟨7, _⟩ => ⟨S4096x4x1024, .f32⟩
  | .hbm, ⟨8, _⟩ => ⟨S4x1024x4096, .f32⟩
  | .hbm, ⟨9, _⟩ => ⟨S4x4096x1024, .f32⟩
  | .hbm, ⟨10, _⟩ => ⟨S4096x4x1024, .f32⟩
  | .hbm, ⟨11, _⟩ => ⟨S4x1024x1024, .f32⟩
  | .hbm, ⟨12, _⟩ => ⟨S4x1024x1024, .f32⟩
  | .hbm, ⟨13, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== KernelGwpool.lean ====
abbrev S4096x4096 : Shape := ⟨2, ![4096, 4096]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4x1024x1024, .f32⟩
  | .hbm, ⟨2, _⟩ => ⟨S4096x4096, .f32⟩
  | .hbm, ⟨3, _⟩ => ⟨S4096x4096, .bf16⟩
  | .hbm, ⟨4, _⟩ => ⟨S4096x4096, .bf16⟩
  | .hbm, ⟨5, _⟩ => ⟨S4x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 1, 1, 2], ![false, false, false, false]⟩

def k0_cond2 (i : grid0.Coords) : BitVec 1 :=
  let arg3 : BitVec 32 := BitVec.ofNat 32 (i 3).val
  let c1_i32 : BitVec 32 := 1#32
  let v3 : BitVec 1 := Scalar.cmpi .eq arg3 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg1
  let c0_i32 : BitVec 32 := 0#32
  ![arg3.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c0_i32 : BitVec 32 := 0#32
  ![arg3.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== ReferenceGwpoolIdeal.lean ====
abbrev S4096x4096 : Shape := ⟨2, ![4096, 4096]⟩
abbrev S4x1024x1024 : Shape := ⟨3, ![4, 1024, 1024]⟩
abbrev S4096x4x1024 : Shape := ⟨3, ![4096, 4, 1024]⟩
abbrev S4x1024x4096 : Shape := ⟨3, ![4, 1024, 4096]⟩
abbrev S4x4096x1024 : Shape := ⟨3, ![4, 4096, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4x1024x1024, .f32⟩
  | .hbm, ⟨2, _⟩ => ⟨S4096x4096, .f32⟩
  | .hbm, ⟨3, _⟩ => ⟨S4096x4x1024, .f32⟩
  | .hbm, ⟨4, _⟩ => ⟨S4x1024x4096, .f32⟩
  | .hbm, ⟨5, _⟩ => ⟨S4096x4x1024, .f32⟩
  | .hbm, ⟨6, _⟩ => ⟨S4096x4096, .f32⟩
  | .hbm, ⟨7, _⟩ => ⟨S4096x4x1024, .f32⟩
  | .hbm, ⟨8, _⟩ => ⟨S4x1024x4096, .f32⟩
  | .hbm, ⟨9, _⟩ => ⟨S4x4096x1024, .f32⟩
  | .hbm, ⟨10, _⟩ => ⟨S4096x4x1024, .f32⟩
  | .hbm, ⟨11, _⟩ => ⟨S4x1024x1024, .f32⟩
  | .hbm, ⟨12, _⟩ => ⟨S4x1024x1024, .f32⟩
  | .hbm, ⟨13, _⟩ => ⟨S4096x4096, .f32⟩
  | .hbm, ⟨14, _⟩ => ⟨S4x1024x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== KernelProj0.lean ====
abbrev S4352x4096 : Shape := ⟨2, ![4352, 4096]⟩
abbrev S4096x16384 : Shape := ⟨2, ![4096, 16384]⟩
abbrev S4096x8x4x512 : Shape := ⟨4, ![4096, 8, 4, 512]⟩
abbrev S4096x8x1x512 : Shape := ⟨4, ![4096, 8, 1, 512]⟩
abbrev S4096x8x512 : Shape := ⟨3, ![4096, 8, 512]⟩
abbrev S8x4096x512 : Shape := ⟨3, ![8, 4096, 512]⟩
abbrev S4352x16384 : Shape := ⟨2, ![4352, 16384]⟩
abbrev S1088x4096 : Shape := ⟨2, ![1088, 4096]⟩
abbrev S1x4096x512 : Shape := ⟨3, ![1, 4096, 512]⟩
abbrev S1088x512 : Shape := ⟨2, ![1088, 512]⟩
abbrev S4096x512 : Shape := ⟨2, ![4096, 512]⟩
abbrev S4352x8x2048 : Shape := ⟨3, ![4352, 8, 2048]⟩
abbrev S4352x8x512 : Shape := ⟨3, ![4352, 8, 512]⟩

abbrev nBuf : Space → Nat
  | .hbm => 11
  | .vmem => 7
  | .smem => 0
  | _ => 0

abbrev bufTy : (tb : Table) → Fin (tcTables nBuf tb) → BufTy
  | .hbm, ⟨0, _⟩ => ⟨S4352x4096, .f32⟩
  | .hbm, ⟨1, _⟩ => ⟨S4096x16384, .f32⟩
  | .hbm, ⟨2, _⟩ => ⟨S4352x4096, .bf16⟩
  | .hbm, ⟨3, _⟩ => ⟨S4096x8x4x512, .f32⟩
  | .hbm, ⟨4, _⟩ => ⟨S4096x8x1x512, .f32⟩
  | .hbm, ⟨5, _⟩ => ⟨S4096x8x512, .f32⟩
  | .hbm, ⟨6, _⟩ => ⟨S8x4096x512, .f32⟩
  | .hbm, ⟨7, _⟩ => ⟨S8x4096x512, .bf16⟩
  | .hbm, ⟨8, _⟩ => ⟨S4352x16384, .f32⟩
  | .hbm, ⟨9, _⟩ => ⟨S4352x8x2048, .f32⟩
  | .hbm, ⟨10, _⟩ => ⟨S4352x8x512, .f32⟩
  | .local _ .vmem, ⟨0, _⟩ => ⟨S1088x4096, .bf16⟩
  | .local _ .vmem, ⟨1, _⟩ => ⟨S1088x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1088x512, .f32⟩
  | .local _ .vmem, ⟨5, _⟩ => ⟨S1088x512, .f32⟩
  | .local _ .vmem, ⟨6, _⟩ => ⟨S1088x512, .f32⟩
  | _, _ => ⟨S4352x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c4_i32 : BitVec 32 := 4#32
  let v17 : BitVec 32 := Scalar.muli v16 c4_i32
  let c0_i32_5 : BitVec 32 := 0#32
  let v18 : BitVec 32 := Scalar.addi v17 c0_i32_5
  let c1_i32_6 : BitVec 32 := 1#32
  let c0_i32_7 : BitVec 32 := 0#32
  let v19 : BitVec 1 := Scalar.cmpi .eq c1_i32_6 c0_i32_7
  let c1_i32_8 : BitVec 32 := 1#32
  let v20 : BitVec 32 := Scalar.select v19 c1_i32_8 c1_i32_6
  let v21 : BitVec 32 := Scalar.remsi arg1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let v29 : BitVec 32 := Scalar.addi v18 v28
  let c0_i32_12 : BitVec 32 := 0#32
  ![arg0.toNat, v29.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceProj0Ideal.lean ====
abbrev S4352x4096 : Shape := ⟨2, ![4352, 4096]⟩
abbrev S4096x16384 : Shape := ⟨2, ![4096, 16384]⟩
abbrev S4352x16384 : Shape := ⟨2, ![4352, 16384]⟩
abbrev S4352x8x2048 : Shape := ⟨3, ![4352, 8, 2048]⟩
abbrev S4352x8x512 : Shape := ⟨3, ![4352, 8, 512]⟩

abbrev nBuf : Space → Nat
  | .hbm => 5
  | .vmem => 0
  | .smem => 0
  | _ => 0

abbrev bufTy : (tb : Table) → Fin (tcTables nBuf tb) → BufTy
  | .hbm, ⟨0, _⟩ => ⟨S4352x4096, .f32⟩
  | .hbm, ⟨1, _⟩ => ⟨S4096x16384, .f32⟩
  | .hbm, ⟨2, _⟩ => ⟨S4352x16384, .f32⟩
  | .hbm, ⟨3, _⟩ => ⟨S4352x8x2048, .f32⟩
  | .hbm, ⟨4, _⟩ => ⟨S4352x8x512, .f32⟩
  | _, _ => ⟨S4352x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelProj1.lean ====
abbrev S4352x4096 : Shape := ⟨2, ![4352, 4096]⟩
abbrev S4096x16384 : Shape := ⟨2, ![4096, 16384]⟩
abbrev S4352x16384 : Shape := ⟨2, ![4352, 16384]⟩
abbrev S4096x8x4x512 : Shape := ⟨4, ![4096, 8, 4, 512]⟩
abbrev S4096x8x1x512 : Shape := ⟨4, ![4096, 8, 1, 512]⟩
abbrev S4096x8x512 : Shape := ⟨3, ![4096, 8, 512]⟩
abbrev S8x4096x512 : Shape := ⟨3, ![8, 4096, 512]⟩
abbrev S1088x4096 : Shape := ⟨2, ![1088, 4096]⟩
abbrev S1x4096x512 : Shape := ⟨3, ![1, 4096, 512]⟩
abbrev S1088x512 : Shape := ⟨2, ![1088, 512]⟩
abbrev S4096x512 : Shape := ⟨2, ![4096, 512]⟩

abbrev nBuf : Space → Nat
  | .hbm => 10
  | .vmem => 7
  | .smem => 0
  | _ => 0

abbrev bufTy : (tb : Table) → Fin (tcTables nBuf tb) → BufTy
  | .hbm, ⟨0, _⟩ => ⟨S4352x4096, .f32⟩
  | .hbm, ⟨1, _⟩ => ⟨S4096x16384, .f32⟩
  | .hbm, ⟨2, _⟩ => ⟨S4352x16384, .f32⟩
  | .hbm, ⟨3, _⟩ => ⟨S4352x4096, .bf16⟩
  | .hbm, ⟨4, _⟩ => ⟨S4096x8x4x512, .f32⟩
  | .hbm, ⟨5, _⟩ => ⟨S4096x8x1x512, .f32⟩
  | .hbm, ⟨6, _⟩ => ⟨S4096x8x512, .f32⟩
  | .hbm, ⟨7, _⟩ => ⟨S8x4096x512, .f32⟩
  | .hbm, ⟨8, _⟩ => ⟨S8x4096x512, .bf16⟩
  | .hbm, ⟨9, _⟩ => ⟨S4352x16384, .f32⟩
  | .local _ .vmem, ⟨0, _⟩ => ⟨S1088x4096, .bf16⟩
  | .local _ .vmem, ⟨1, _⟩ => ⟨S1088x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1088x512, .f32⟩
  | .local _ .vmem, ⟨5, _⟩ => ⟨S1088x512, .f32⟩
  | .local _ .vmem, ⟨6, _⟩ => ⟨S1088x512, .f32⟩
  | _, _ => ⟨S4352x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c4_i32 : BitVec 32 := 4#32
  let v17 : BitVec 32 := Scalar.muli v16 c4_i32
  let c1_i32_5 : BitVec 32 := 1#32
  let v18 : BitVec 32 := Scalar.addi v17 c1_i32_5
  let c1_i32_6 : BitVec 32 := 1#32
  let c0_i32_7 : BitVec 32 := 0#32
  let v19 : BitVec 1 := Scalar.cmpi .eq c1_i32_6 c0_i32_7
  let c1_i32_8 : BitVec 32 := 1#32
  let v20 : BitVec 32 := Scalar.select v19 c1_i32_8 c1_i32_6
  let v21 : BitVec 32 := Scalar.remsi arg1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let v29 : BitVec 32 := Scalar.addi v18 v28
  let c0_i32_12 : BitVec 32 := 0#32
  ![arg0.toNat, v29.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceProj1Ideal.lean ====
abbrev S4352x4096 : Shape := ⟨2, ![4352, 4096]⟩
abbrev S4096x16384 : Shape := ⟨2, ![4096, 16384]⟩
abbrev S4352x16384 : Shape := ⟨2, ![4352, 16384]⟩
abbrev S4352x8x2048 : Shape := ⟨3, ![4352, 8, 2048]⟩
abbrev S4352x8x512 : Shape := ⟨3, ![4352, 8, 512]⟩
abbrev S4352x8x1024 : Shape := ⟨3, ![4352, 8, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4352x4096, .f32⟩
  | .hbm, ⟨1, _⟩ => ⟨S4096x16384, .f32⟩
  | .hbm, ⟨2, _⟩ => ⟨S4352x16384, .f32⟩
  | .hbm, ⟨3, _⟩ => ⟨S4352x16384, .f32⟩
  | .hbm, ⟨4, _⟩ => ⟨S4352x8x2048, .f32⟩
  | .hbm, ⟨5, _⟩ => ⟨S4352x8x2048, .f32⟩
  | .hbm, ⟨6, _⟩ => ⟨S4352x8x512, .f32⟩
  | .hbm, ⟨7, _⟩ => ⟨S4352x8x512, .f32⟩
  | .hbm, ⟨8, _⟩ => ⟨S4352x8x1024, .f32⟩
  | .hbm, ⟨9, _⟩ => ⟨S4352x8x2048, .f32⟩
  | .hbm, ⟨10, _⟩ => ⟨S4352x16384, .f32⟩
  | _, _ => ⟨S4352x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelProj2.lean ====
abbrev S4352x4096 : Shape := ⟨2, ![4352, 4096]⟩
abbrev S4096x16384 : Shape := ⟨2, ![4096, 16384]⟩
abbrev S4352x16384 : Shape := ⟨2, ![4352, 16384]⟩
abbrev S4096x8x4x512 : Shape := ⟨4, ![4096, 8, 4, 512]⟩
abbrev S4096x8x1x512 : Shape := ⟨4, ![4096, 8, 1, 512]⟩
abbrev S4096x8x512 : Shape := ⟨3, ![4096, 8, 512]⟩
abbrev S8x4096x512 : Shape := ⟨3, ![8, 4096, 512]⟩
abbrev S1088x4096 : Shape := ⟨2, ![1088, 4096]⟩
abbrev S1x4096x512 : Shape := ⟨3, ![1, 4096, 512]⟩
abbrev S1088x512 : Shape := ⟨2, ![1088, 512]⟩
abbrev S4096x512 : Shape := ⟨2, ![4096, 512]⟩

abbrev nBuf : Space → Nat
  | .hbm => 10
  | .vmem => 7
  | .smem => 0
  | _ => 0

abbrev bufTy : (tb : Table) → Fin (tcTables nBuf tb) → BufTy
  | .hbm, ⟨0, _⟩ => ⟨S4352x4096, .f32⟩
  | .hbm, ⟨1, _⟩ => ⟨S4096x16384, .f32⟩
  | .hbm, ⟨2, _⟩ => ⟨S4352x16384, .f32⟩
  | .hbm, ⟨3, _⟩ => ⟨S4352x4096, .bf16⟩
  | .hbm, ⟨4, _⟩ => ⟨S4096x8x4x512, .f32⟩
  | .hbm, ⟨5, _⟩ => ⟨S4096x8x1x512, .f32⟩
  | .hbm, ⟨6, _⟩ => ⟨S4096x8x512, .f32⟩
  | .hbm, ⟨7, _⟩ => ⟨S8x4096x512, .f32⟩
  | .hbm, ⟨8, _⟩ => ⟨S8x4096x512, .bf16⟩
  | .hbm, ⟨9, _⟩ => ⟨S4352x16384, .f32⟩
  | .local _ .vmem, ⟨0, _⟩ => ⟨S1088x4096, .bf16⟩
  | .local _ .vmem, ⟨1, _⟩ => ⟨S1088x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1088x512, .f32⟩
  | .local _ .vmem, ⟨5, _⟩ => ⟨S1088x512, .f32⟩
  | .local _ .vmem, ⟨6, _⟩ => ⟨S1088x512, .f32⟩
  | _, _ => ⟨S4352x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c4_i32 : BitVec 32 := 4#32
  let v17 : BitVec 32 := Scalar.muli v16 c4_i32
  let c2_i32 : BitVec 32 := 2#32
  let v18 : BitVec 32 := Scalar.addi v17 c2_i32
  let c1_i32_5 : BitVec 32 := 1#32
  let c0_i32_6 : BitVec 32 := 0#32
  let v19 : BitVec 1 := Scalar.cmpi .eq c1_i32_5 c0_i32_6
  let c1_i32_7 : BitVec 32 := 1#32
  let v20 : BitVec 32 := Scalar.select v19 c1_i32_7 c1_i32_5
  let v21 : BitVec 32 := Scalar.remsi arg1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let v29 : BitVec 32 := Scalar.addi v18 v28
  let c0_i32_11 : BitVec 32 := 0#32
  ![arg0.toNat, v29.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceProj2Ideal.lean ====
abbrev S4352x4096 : Shape := ⟨2, ![4352, 4096]⟩
abbrev S4096x16384 : Shape := ⟨2, ![4096, 16384]⟩
abbrev S4352x16384 : Shape := ⟨2, ![4352, 16384]⟩
abbrev S4352x8x2048 : Shape := ⟨3, ![4352, 8, 2048]⟩
abbrev S4352x8x1024 : Shape := ⟨3, ![4352, 8, 1024]⟩
abbrev S4352x8x512 : Shape := ⟨3, ![4352, 8, 512]⟩

abbrev nBuf : Space → Nat
  | .hbm => 11
  | .vmem => 0
  | .smem => 0
  | _ => 0

abbrev bufTy : (tb : Table) → Fin (tcTables nBuf tb) → BufTy
  | .hbm, ⟨0, _⟩ => ⟨S4352x4096, .f32⟩
  | .hbm, ⟨1, _⟩ => ⟨S4096x16384, .f32⟩
  | .hbm, ⟨2, _⟩ => ⟨S4352x16384, .f32⟩
  | .hbm, ⟨3, _⟩ => ⟨S4352x16384, .f32⟩
  | .hbm, ⟨4, _⟩ => ⟨S4352x8x2048, .f32⟩
  | .hbm, ⟨5, _⟩ => ⟨S4352x8x2048, .f32⟩
  | .hbm, ⟨6, _⟩ => ⟨S4352x8x1024, .f32⟩
  | .hbm, ⟨7, _⟩ => ⟨S4352x8x512, .f32⟩
  | .hbm, ⟨8, _⟩ => ⟨S4352x8x512, .f32⟩
  | .hbm, ⟨9, _⟩ => ⟨S4352x8x2048, .f32⟩
  | .hbm, ⟨10, _⟩ => ⟨S4352x16384, .f32⟩
  | _, _ => ⟨S4352x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelProj3.lean ====
abbrev S4352x4096 : Shape := ⟨2, ![4352, 4096]⟩
abbrev S4096x16384 : Shape := ⟨2, ![4096, 16384]⟩
abbrev S4352x16384 : Shape := ⟨2, ![4352, 16384]⟩
abbrev S4096x8x4x512 : Shape := ⟨4, ![4096, 8, 4, 512]⟩
abbrev S4096x8x1x512 : Shape := ⟨4, ![4096, 8, 1, 512]⟩
abbrev S4096x8x512 : Shape := ⟨3, ![4096, 8, 512]⟩
abbrev S8x4096x512 : Shape := ⟨3, ![8, 4096, 512]⟩
abbrev S1088x4096 : Shape := ⟨2, ![1088, 4096]⟩
abbrev S1x4096x512 : Shape := ⟨3, ![1, 4096, 512]⟩
abbrev S1088x512 : Shape := ⟨2, ![1088, 512]⟩
abbrev S4096x512 : Shape := ⟨2, ![4096, 512]⟩

abbrev nBuf : Space → Nat
  | .hbm => 10
  | .vmem => 7
  | .smem => 0
  | _ => 0

abbrev bufTy : (tb : Table) → Fin (tcTables nBuf tb) → BufTy
  | .hbm, ⟨0, _⟩ => ⟨S4352x4096, .f32⟩
  | .hbm, ⟨1, _⟩ => ⟨S4096x16384, .f32⟩
  | .hbm, ⟨2, _⟩ => ⟨S4352x16384, .f32⟩
  | .hbm, ⟨3, _⟩ => ⟨S4352x4096, .bf16⟩
  | .hbm, ⟨4, _⟩ => ⟨S4096x8x4x512, .f32⟩
  | .hbm, ⟨5, _⟩ => ⟨S4096x8x1x512, .f32⟩
  | .hbm, ⟨6, _⟩ => ⟨S4096x8x512, .f32⟩
  | .hbm, ⟨7, _⟩ => ⟨S8x4096x512, .f32⟩
  | .hbm, ⟨8, _⟩ => ⟨S8x4096x512, .bf16⟩
  | .hbm, ⟨9, _⟩ => ⟨S4352x16384, .f32⟩
  | .local _ .vmem, ⟨0, _⟩ => ⟨S1088x4096, .bf16⟩
  | .local _ .vmem, ⟨1, _⟩ => ⟨S1088x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1088x512, .f32⟩
  | .local _ .vmem, ⟨5, _⟩ => ⟨S1088x512, .f32⟩
  | .local _ .vmem, ⟨6, _⟩ => ⟨S1088x512, .f32⟩
  | _, _ => ⟨S4352x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c4_i32 : BitVec 32 := 4#32
  let v17 : BitVec 32 := Scalar.muli v16 c4_i32
  let c3_i32 : BitVec 32 := 3#32
  let v18 : BitVec 32 := Scalar.addi v17 c3_i32
  let c1_i32_5 : BitVec 32 := 1#32
  let c0_i32_6 : BitVec 32 := 0#32
  let v19 : BitVec 1 := Scalar.cmpi .eq c1_i32_5 c0_i32_6
  let c1_i32_7 : BitVec 32 := 1#32
  let v20 : BitVec 32 := Scalar.select v19 c1_i32_7 c1_i32_5
  let v21 : BitVec 32 := Scalar.remsi arg1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let v29 : BitVec 32 := Scalar.addi v18 v28
  let c0_i32_11 : BitVec 32 := 0#32
  ![arg0.toNat, v29.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceProj3Ideal.lean ====
abbrev S4352x4096 : Shape := ⟨2, ![4352, 4096]⟩
abbrev S4096x16384 : Shape := ⟨2, ![4096, 16384]⟩
abbrev S4352x16384 : Shape := ⟨2, ![4352, 16384]⟩
abbrev S4352x8x2048 : Shape := ⟨3, ![4352, 8, 2048]⟩
abbrev S4352x8x1536 : Shape := ⟨3, ![4352, 8, 1536]⟩
abbrev S4352x8x512 : Shape := ⟨3, ![4352, 8, 512]⟩
abbrev S4352x8x0 : Shape := ⟨3, ![4352, 8, 0]⟩

abbrev nBuf : Space → Nat
  | .hbm => 11
  | .vmem => 0
  | .smem => 0
  | _ => 0

abbrev bufTy : (tb : Table) → Fin (tcTables nBuf tb) → BufTy
  | .hbm, ⟨0, _⟩ => ⟨S4352x4096, .f32⟩
  | .hbm, ⟨1, _⟩ => ⟨S4096x16384, .f32⟩
  | .hbm, ⟨2, _⟩ => ⟨S4352x16384, .f32⟩
  | .hbm, ⟨3, _⟩ => ⟨S4352x16384, .f32⟩
  | .hbm, ⟨4, _⟩ => ⟨S4352x8x2048, .f32⟩
  | .hbm, ⟨5, _⟩ => ⟨S4352x8x2048, .f32⟩
  | .hbm, ⟨6, _⟩ => ⟨S4352x8x1536, .f32⟩
  | .hbm, ⟨7, _⟩ => ⟨S4352x8x512, .f32⟩
  | .hbm, ⟨8, _⟩ => ⟨S4352x8x0, .f32⟩
  | .hbm, ⟨9, _⟩ => ⟨S4352x8x2048, .f32⟩
  | .hbm, ⟨10, _⟩ => ⟨S4352x16384, .f32⟩
  | _, _ => ⟨S4352x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelPool.lean ====
abbrev S4096x4096 : Shape := ⟨2, ![4096, 4096]⟩
abbrev S4x1024x1024 : Shape := ⟨3, ![4, 1024, 1024]⟩
abbrev S1024x1024 : Shape := ⟨2, ![1024, 1024]⟩
abbrev S1x1024x1024 : Shape := ⟨3, ![1, 1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4x1024x1024, .f32⟩
  | .hbm, ⟨2, _⟩ => ⟨S4096x4096, .bf16⟩
  | .hbm, ⟨3, _⟩ => ⟨S4x1024x1024, .bf16⟩
  | .hbm, ⟨4, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 4, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg3
  let c0_i32 : BitVec 32 := 0#32
  ![arg1.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c0_i32 : BitVec 32 := 0#32
  ![arg1.toNat, v1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== ReferencePoolIdeal.lean ====
abbrev S4096x4096 : Shape := ⟨2, ![4096, 4096]⟩
abbrev S4x1024x1024 : Shape := ⟨3, ![4, 1024, 1024]⟩
abbrev S4096x4x1024 : Shape := ⟨3, ![4096, 4, 1024]⟩
abbrev S4x1024x4096 : Shape := ⟨3, ![4, 1024, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4x1024x1024, .f32⟩
  | .hbm, ⟨2, _⟩ => ⟨S4096x4x1024, .f32⟩
  | .hbm, ⟨3, _⟩ => ⟨S4x1024x4096, .f32⟩
  | .hbm, ⟨4, _⟩ => ⟨S4096x4x1024, .f32⟩
  | .hbm, ⟨5, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelCoef.lean ====
abbrev S4352x4096 : Shape := ⟨2, ![4352, 4096]⟩
abbrev S2x4096 : Shape := ⟨2, ![2, 4096]⟩
abbrev S2x16x256x256 : Shape := ⟨4, ![2, 16, 256, 256]⟩
abbrev S2x4352x4096 : Shape := ⟨3, ![2, 4352, 4096]⟩
abbrev S1088x256 : Shape := ⟨2, ![1088, 256]⟩
abbrev S2x1x256x256 : Shape := ⟨4, ![2, 1, 256, 256]⟩
abbrev S2x256 : Shape := ⟨2, ![2, 256]⟩
abbrev S2x1088x256 : Shape := ⟨3, ![2, 1088, 256]⟩
abbrev S1x256 : Shape := ⟨2, ![1, 256]⟩
abbrev S1x1x256x256 : Shape := ⟨4, ![1, 1, 256, 256]⟩
abbrev S256x256 : Shape := ⟨2, ![256, 256]⟩
abbrev S1x1088x256 : Shape := ⟨3, ![1, 1088, 256]⟩

abbrev nBuf : Space → Nat
  | .hbm => 10
  | .vmem => 16
  | .smem => 0
  | _ => 0

abbrev bufTy : (tb : Table) → Fin (tcTables nBuf tb) → BufTy
  | .hbm, ⟨0, _⟩ => ⟨S4352x4096, .f32⟩
  | .hbm, ⟨1, _⟩ => ⟨S2x4096, .f32⟩
  | .hbm, ⟨2, _⟩ => ⟨S2x16x256x256, .f32⟩
  | .hbm, ⟨3, _⟩ => ⟨S2x4096, .f32⟩
  | .hbm, ⟨4, _⟩ => ⟨S2x16x256x256, .f32⟩
  | .hbm, ⟨5, _⟩ => ⟨S2x4096, .f32⟩
  | .hbm, ⟨6, _⟩ => ⟨S2x16x256x256, .bf16⟩
  | .hbm, ⟨7, _⟩ => ⟨S2x16x256x256, .bf16⟩
  | .hbm, ⟨8, _⟩ => ⟨S2x4352x4096, .f32⟩
  | .hbm, ⟨9, _⟩ => ⟨S2x4352x4096, .f32⟩
  | .local _ .vmem, ⟨0, _⟩ => ⟨S1088x256, .f32⟩
  | .local _ .vmem, ⟨1, _⟩ => ⟨S1088x256, .f32⟩
  | .local _ .vmem, ⟨2, _⟩ => ⟨S2x1x256x256, .bf16⟩
  | .local _ .vmem, ⟨3, _⟩ => ⟨S2x1x256x256, .bf16⟩
  | .local _ .vmem, ⟨4, _⟩ => ⟨S2x1x256x256, .bf16⟩
  | .local _ .vmem, ⟨5, _⟩ => ⟨S2x1x256x256, .bf16⟩
  | .local _ .vmem, ⟨6, _⟩ => ⟨S2x256, .f32⟩
  | .local _ .vmem, ⟨7, _⟩ => ⟨S2x256, .f32⟩
  | .local _ .vmem, ⟨8, _⟩ => ⟨S2x256, .f32⟩
  | .local _ .vmem, ⟨9, _⟩ => ⟨S2x256, .f32⟩
  | .local _ .vmem, ⟨10, _⟩ => ⟨S2x256, .f32⟩
  | .local _ .vmem, ⟨11, _⟩ => ⟨S2x256, .f32⟩
  | .local _ .vmem, ⟨12, _⟩ => ⟨S2x1088x256, .f32⟩
  | .local _ .vmem, ⟨13, _⟩ => ⟨S2x1088x256, .f32⟩
  | .local _ .vmem, ⟨14, _⟩ => ⟨S2x1088x256, .f32⟩
  | .local _ .vmem, ⟨15, _⟩ => ⟨S2x1088x256, .f32⟩
  | _, _ => ⟨S4352x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S1088x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x1088x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x1088x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceCoefIdeal.lean ====
abbrev S4352x4096 : Shape := ⟨2, ![4352, 4096]⟩
abbrev S2x4096 : Shape := ⟨2, ![2, 4096]⟩
abbrev S2x16x256x256 : Shape := ⟨4, ![2, 16, 256, 256]⟩
abbrev S_ : Shape := ⟨0, ![]⟩
abbrev S1x4352x4096 : Shape := ⟨3, ![1, 4352, 4096]⟩
abbrev S1x4096 : Shape := ⟨2, ![1, 4096]⟩
abbrev S4096 : Shape := ⟨1, ![4096]⟩
abbrev S1x16x256x256 : Shape := ⟨4, ![1, 16, 256, 256]⟩
abbrev S16x256x256 : Shape := ⟨3, ![16, 256, 256]⟩
abbrev S1x4352x16x256 : Shape := ⟨4, ![1, 4352, 16, 256]⟩
abbrev S16x256x1x4352 : Shape := ⟨4, ![16, 256, 1, 4352]⟩
abbrev S1x1x4096 : Shape := ⟨3, ![1, 1, 4096]⟩
abbrev S2x4352x4096 : Shape := ⟨3, ![2, 4352, 4096]⟩

abbrev nBuf : Space → Nat
  | .hbm => 130
  | .vmem => 0
  | .smem => 0
  | _ => 0

abbrev hbmTy0_0 (i : Nat) : BufTy := match i % 128 with
  | 0 => ⟨S4352x4096, .f32⟩
  | 1 => ⟨S2x4096, .f32⟩
  | 2 => ⟨S2x16x256x256, .f32⟩
  | 3 => ⟨S2x4096, .f32⟩
  | 4 => ⟨S2x16x256x256, .f32⟩
  | 5 => ⟨S2x4096, .f32⟩
  | 6 => ⟨S2x4096, .f32⟩
  | 7 => ⟨S_, .f32⟩
  | 8 => ⟨S2x4096, .f32⟩
  | 9 => ⟨S2x4096, .f32⟩
  | 10 => ⟨S2x4096, .f32⟩
  | 11 => ⟨S2x4096, .f32⟩
  | 12 => ⟨S2x4096, .i1⟩
  | 13 => ⟨S2x4096, .f32⟩
  | 14 => ⟨S2x4096, .f32⟩
  | 15 => ⟨S2x4096, .f32⟩
  | 16 => ⟨S2x4096, .f32⟩
  | 17 => ⟨S2x4096, .f32⟩
  | 18 => ⟨S2x4096, .f32⟩
  | 19 => ⟨S2x4096, .f32⟩
  | 20 => ⟨S2x4096, .f32⟩
  | 21 => ⟨S_, .f32⟩
  | 22 => ⟨S2x4096, .f32⟩
  | 23 => ⟨S2x4096, .f32⟩
  | 24 => ⟨S1x4352x4096, .f32⟩
  | 25 => ⟨S1x4096, .f32⟩
  | 26 => ⟨S4096, .f32⟩
  | 27 => ⟨S1x16x256x256, .f32⟩
  | 28 => ⟨S16x256x256, .f32⟩
  | 29 => ⟨S1x4096, .f32⟩
  | 30 => ⟨S4096, .f32⟩
  | 31 => ⟨S1x16x256x256, .f32⟩
  | 32 => ⟨S16x256x256, .f32⟩
  | 33 => ⟨S1x4096, .f32⟩
  | 34 => ⟨S4096, .f32⟩
  | 35 => ⟨S1x4352x16x256, .f32⟩
  | 36 => ⟨S16x256x1x4352, .f32⟩
  | 37 => ⟨S1x4352x16x256, .f32⟩
  | 38 => ⟨S1x4352x4096, .f32⟩
  | 39 => ⟨S1x1x4096, .f32⟩
  | 40 => ⟨S1x4352x4096, .f32⟩
  | 41 => ⟨S1x4352x4096, .f32⟩
  | 42 => ⟨S1x4352x4096, .f32⟩
  | 43 => ⟨S1x4352x4096, .f32⟩
  | 44 => ⟨S_, .f32⟩
  | 45 => ⟨S1x4352x4096, .f32⟩
  | 46 => ⟨S1x4352x4096, .f32⟩
  | 47 => ⟨S_, .f32⟩
  | 48 => ⟨S1x4352x4096, .f32⟩
  | 49 => ⟨S1x4352x4096, .f32⟩
  | 50 => ⟨S16x256x1x4352, .f32⟩
  | 51 => ⟨S1x4352x16x256, .f32⟩
  | 52 => ⟨S1x4352x4096, .f32⟩
  | 53 => ⟨S1x1x4096, .f32⟩
  | 54 => ⟨S1x4352x4096, .f32⟩
  | 55 => ⟨S1x4352x4096, .f32⟩
  | 56 => ⟨S1x4352x4096, .f32⟩
  | 57 => ⟨S1x4352x4096, .f32⟩
  | 58 => ⟨S_, .f32⟩
  | 59 => ⟨S1x4352x4096, .f32⟩
  | 60 => ⟨S1x4352x4096, .f32⟩
  | 61 => ⟨S_, .f32⟩
  | 62 => ⟨S1x4352x4096, .f32⟩
  | 63 => ⟨S1x4352x4096, .f32⟩
  | 64 => ⟨S1x1x4096, .f32⟩
  | 65 => ⟨S1x4352x4096, .f32⟩
  | 66 => ⟨S1x4352x4096, .f32⟩
  | 67 => ⟨S1x4352x4096, .f32⟩
  | 68 => ⟨S_, .f32⟩
  | 69 => ⟨S1x4352x4096, .f32⟩
  | 70 => ⟨S1x4352x4096, .f32⟩
  | 71 => ⟨S1x4352x4096, .f32⟩
  | 72 => ⟨S1x4352x4096, .f32⟩
  | 73 => ⟨S1x4352x4096, .f32⟩
  | 74 => ⟨S1x4352x4096, .f32⟩
  | 75 => ⟨S1x4352x4096, .f32⟩
  | 76 => ⟨S1x4352x4096, .f32⟩
  | 77 => ⟨S1x4096, .f32⟩
  | 78 => ⟨S4096, .f32⟩
  | 79 => ⟨S1x16x256x256, .f32⟩
  | 80 => ⟨S16x256x256, .f32⟩
  | 81 => ⟨S1x4096, .f32⟩
  | 82 => ⟨S4096, .f32⟩
  | 83 => ⟨S1x16x256x256, .f32⟩
  | 84 => ⟨S16x256x256, .f32⟩
  | 85 => ⟨S1x4096, .f32⟩
  | 86 => ⟨S4096, .f32⟩
  | 87 => ⟨S1x4352x16x256, .f32⟩
  | 88 => ⟨S16x256x1x4352, .f32⟩
  | 89 => ⟨S1x4352x16x256, .f32⟩
  | 90 => ⟨S1x4352x4096, .f32⟩
  | 91 => ⟨S1x1x4096, .f32⟩
  | 92 => ⟨S1x4352x4096, .f32⟩
  | 93 => ⟨S1x4352x4096, .f32⟩
  | 94 => ⟨S1x4352x4096, .f32⟩
  | 95 => ⟨S1x4352x4096, .f32⟩
  | 96 => ⟨S_, .f32⟩
  | 97 => ⟨S1x4352x4096, .f32⟩
  | 98 => ⟨S1x4352x4096, .f32⟩
  | 99 => ⟨S_, .f32⟩
  | 100 => ⟨S1x4352x4096, .f32⟩
  | 101 => ⟨S1x4352x4096, .f32⟩
  | 102 => ⟨S16x256x1x4352, .f32⟩
  | 103 => ⟨S1x4352x16x256, .f32⟩
  | 104 => ⟨S1x4352x4096, .f32⟩
  | 105 => ⟨S1x1x4096, .f32⟩
  | 106 => ⟨S1x4352x4096, .f32⟩
  | 107 => ⟨S1x4352x4096, .f32⟩
  | 108 => ⟨S1x4352x4096, .f32⟩
  | 109 => ⟨S1x4352x4096, .f32⟩
  | 110 => ⟨S_, .f32⟩
  | 111 => ⟨S1x4352x4096, .f32⟩
  | 112 => ⟨S1x4352x4096, .f32⟩
  | 113 => ⟨S_, .f32⟩
  | 114 => ⟨S1x4352x4096, .f32⟩
  | 115 => ⟨S1x4352x4096, .f32⟩
  | 116 => ⟨S1x1x4096, .f32⟩
  | 117 => ⟨S1x4352x4096, .f32⟩
  | 118 => ⟨S1x4352x4096, .f32⟩
  | 119 => ⟨S1x4352x4096, .f32⟩
  | 120 => ⟨S_, .f32⟩
  | 121 => ⟨S1x4352x4096, .f32⟩
  | 122 => ⟨S1x4352x4096, .f32⟩
  | 123 => ⟨S1x4352x4096, .f32⟩
  | 124 => ⟨S1x4352x4096, .f32⟩
  | 125 => ⟨S1x4352x4096, .f32⟩
  | 126 => ⟨S1x4352x4096, .f32⟩
  | 127 => ⟨S1x4352x4096, .f32⟩
  | _ => ⟨S4352x4096, .f32⟩

abbrev hbmTy0_1 (i : Nat) : BufTy := match i % 128 with
  | 0 => ⟨S2x4352x4096, .f32⟩
  | 1 => ⟨S2x4352x4096, .f32⟩
  | _ => ⟨S4352x4096, .f32⟩

abbrev hbmTy (i : Nat) : BufTy := match i / 128 with
  | 0 => hbmTy0_0 i
  | 1 => hbmTy0_1 i
  | _ => ⟨S4352x4096, .f32⟩

abbrev bufTy : (tb : Table) → Fin (tcTables nBuf tb) → BufTy
  | .hbm, ⟨i, _⟩ => hbmTy i
  | _, _ => ⟨S4352x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_cst : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_v1 : Ref sig .tc := ⟨.hbm, 20, rfl⟩
abbrev main_cst : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_0 : Ref sig .tc := ⟨.hbm, 44, rfl⟩
abbrev main_v24 : Ref sig .tc := ⟨.hbm, 45, rfl⟩
abbrev main_v25 : Ref sig .tc := ⟨.hbm, 46, rfl⟩
abbrev main_cst_1 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_2 : Ref sig .tc := ⟨.hbm, 58, rfl⟩
abbrev main_v36 : Ref sig .tc := ⟨.hbm, 59, rfl⟩
abbrev main_v37 : Ref sig .tc := ⟨.hbm, 60, rfl⟩
abbrev main_cst_3 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_4 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_5 : Ref sig .tc := ⟨.hbm, 96, rfl⟩
abbrev main_v71 : Ref sig .tc := ⟨.hbm, 97, rfl⟩
abbrev main_v72 : Ref sig .tc := ⟨.hbm, 98, rfl⟩
abbrev main_cst_6 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_7 : Ref sig .tc := ⟨.hbm, 110, rfl⟩
abbrev main_v83 : Ref sig .tc := ⟨.hbm, 111, rfl⟩
abbrev main_v84 : Ref sig .tc := ⟨.hbm, 112, rfl⟩
abbrev main_cst_8 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_cst_9 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩

abbrev nD : Nat := 1
abbrev τ : Topo := Topo.v7x

variable {F : FTy → Type} [FloatOps F]
-- ==== KernelMixa.lean ====
abbrev S4096x8192 : Shape := ⟨2, ![4096, 8192]⟩
abbrev S2x4352x4096 : Shape := ⟨3, ![2, 4352, 4096]⟩
abbrev S4352x16384 : Shape := ⟨2, ![4352, 16384]⟩
abbrev S4096x4096 : Shape := ⟨2, ![4096, 4096]⟩
abbrev S256x4096 : Shape := ⟨2, ![256, 4096]⟩
abbrev S2x256x4096 : Shape := ⟨3, ![2, 256, 4096]⟩
abbrev S1x256x4096 : Shape := ⟨3, ![1, 256, 4096]⟩

abbrev nBuf : Space → Nat
  | .hbm => 6
  | .vmem => 10
  | .smem => 0
  | _ => 0

abbrev bufTy : (tb : Table) → Fin (tcTables nBuf tb) → BufTy
  | .hbm, ⟨0, _⟩ => ⟨S4096x8192, .f32⟩
  | .hbm, ⟨1, _⟩ => ⟨S2x4352x4096, .f32⟩
  | .hbm, ⟨2, _⟩ => ⟨S4352x16384, .f32⟩
  | .hbm, ⟨3, _⟩ => ⟨S4352x16384, .bf16⟩
  | .hbm, ⟨4, _⟩ => ⟨S4096x4096, .f32⟩
  | .hbm, ⟨5, _⟩ => ⟨S4352x16384, .bf16⟩
  | .local _ .vmem, ⟨0, _⟩ => ⟨S256x4096, .f32⟩
  | .local _ .vmem, ⟨1, _⟩ => ⟨S256x4096, .f32⟩
  | .local _ .vmem, ⟨2, _⟩ => ⟨S2x256x4096, .f32⟩
  | .local _ .vmem, ⟨3, _⟩ => ⟨S2x256x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .bf16⟩
  | .local _ .vmem, ⟨9, _⟩ => ⟨S256x4096, .bf16⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![c0_i32.toNat, v0.toNat, arg1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c2_i32 : BitVec 32 := 2#32
  let v1 : BitVec 32 := Scalar.addi c2_i32 arg1
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c2_i32 : BitVec 32 := 2#32
  let v1 : BitVec 32 := Scalar.addi c2_i32 arg1
  let c0_i32 : BitVec 32 := 0#32
  ![v0.toNat, v1.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceMixaIdeal.lean ====
abbrev S4096x8192 : Shape := ⟨2, ![4096, 8192]⟩
abbrev S2x4352x4096 : Shape := ⟨3, ![2, 4352, 4096]⟩
abbrev S4352x16384 : Shape := ⟨2, ![4352, 16384]⟩
abbrev S1x4096x4096 : Shape := ⟨3, ![1, 4096, 4096]⟩
abbrev S4096x4096 : Shape := ⟨2, ![4096, 4096]⟩
abbrev S_ : Shape := ⟨0, ![]⟩
abbrev S4096x16384 : Shape := ⟨2, ![4096, 16384]⟩
abbrev S256x16384 : Shape := ⟨2, ![256, 16384]⟩

abbrev nBuf : Space → Nat
  | .hbm => 37
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S2x4352x4096, .f32⟩
  | .hbm, ⟨2, _⟩ => ⟨S4352x16384, .f32⟩
  | .hbm, ⟨3, _⟩ => ⟨S4352x16384, .bf16⟩
  | .hbm, ⟨4, _⟩ => ⟨S1x4096x4096, .f32⟩
  | .hbm, ⟨5, _⟩ => ⟨S4096x4096, .f32⟩
  | .hbm, ⟨6, _⟩ => ⟨S1x4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S4096x4096, .bf16⟩
  | .hbm, ⟨32, _⟩ => ⟨S4096x8192, .bf16⟩
  | .hbm, ⟨33, _⟩ => ⟨S4096x4096, .bf16⟩
  | .hbm, ⟨34, _⟩ => ⟨S4096x16384, .bf16⟩
  | .hbm, ⟨35, _⟩ => ⟨S256x16384, .bf16⟩
  | .hbm, ⟨36, _⟩ => ⟨S4352x16384, .bf16⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v6_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v6_1 : Ref sig .tc := ⟨.hbm, 21, rfl⟩
abbrev main_v6_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩

abbrev nD : Nat := 1
abbrev τ : Topo := Topo.v7x

variable {F : FTy → Type} [FloatOps F]
-- ==== KernelMixb.lean ====
abbrev S4096x8192 : Shape := ⟨2, ![4096, 8192]⟩
abbrev S4096x4096 : Shape := ⟨2, ![4096, 4096]⟩
abbrev S4352x16384 : Shape := ⟨2, ![4352, 16384]⟩
abbrev S1x4096 : Shape := ⟨2, ![1, 4096]⟩
abbrev S256x4096 : Shape := ⟨2, ![256, 4096]⟩
abbrev S4096 : Shape := ⟨1, ![4096]⟩

abbrev nBuf : Space → Nat
  | .hbm => 10
  | .vmem => 14
  | .smem => 0
  | _ => 0

abbrev bufTy : (tb : Table) → Fin (tcTables nBuf tb) → BufTy
  | .hbm, ⟨0, _⟩ => ⟨S4096x8192, .f32⟩
  | .hbm, ⟨1, _⟩ => ⟨S4096x4096, .f32⟩
  | .hbm, ⟨2, _⟩ => ⟨S4352x16384, .f32⟩
  | .hbm, ⟨3, _⟩ => ⟨S1x4096, .f32⟩
  | .hbm, ⟨4, _⟩ => ⟨S1x4096, .f32⟩
  | .hbm, ⟨5, _⟩ => ⟨S4352x16384, .bf16⟩
  | .hbm, ⟨6, _⟩ => ⟨S4096x4096, .bf16⟩
  | .hbm, ⟨7, _⟩ => ⟨S4352x16384, .bf16⟩
  | .hbm, ⟨8, _⟩ => ⟨S1x4096, .f32⟩
  | .hbm, ⟨9, _⟩ => ⟨S1x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S1x4096, .f32⟩
  | .local _ .vmem, ⟨7, _⟩ => ⟨S1x4096, .f32⟩
  | .local _ .vmem, ⟨8, _⟩ => ⟨S256x4096, .bf16⟩
  | .local _ .vmem, ⟨9, _⟩ => ⟨S256x4096, .bf16⟩
  | .local _ .vmem, ⟨10, _⟩ => ⟨S256x4096, .bf16⟩
  | .local _ .vmem, ⟨11, _⟩ => ⟨S256x4096, .bf16⟩
  | .local _ .vmem, ⟨12, _⟩ => ⟨S1x4096, .f32⟩
  | .local _ .vmem, ⟨13, _⟩ => ⟨S1x4096, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c3_i32 : BitVec 32 := 3#32
  let v1 : BitVec 32 := Scalar.addi c3_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c3_i32 : BitVec 32 := 3#32
  let v1 : BitVec 32 := Scalar.addi c3_i32 arg0
  let c0_i32 : BitVec 32 := 0#32
  ![v0.toNat, v1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]
-- ==== ReferenceMixbIdeal.lean ====
abbrev S4096x8192 : Shape := ⟨2, ![4096, 8192]⟩
abbrev S4096x4096 : Shape := ⟨2, ![4096, 4096]⟩
abbrev S4352x16384 : Shape := ⟨2, ![4352, 16384]⟩
abbrev S1x4096 : Shape := ⟨2, ![1, 4096]⟩
abbrev S_ : Shape := ⟨0, ![]⟩
abbrev S4096 : Shape := ⟨1, ![4096]⟩
abbrev S4096x12288 : Shape := ⟨2, ![4096, 12288]⟩
abbrev S4096x0 : Shape := ⟨2, ![4096, 0]⟩
abbrev S4096x16384 : Shape := ⟨2, ![4096, 16384]⟩
abbrev S256x16384 : Shape := ⟨2, ![256, 16384]⟩

abbrev nBuf : Space → Nat
  | .hbm => 48
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x4096, .f32⟩
  | .hbm, ⟨2, _⟩ => ⟨S4352x16384, .f32⟩
  | .hbm, ⟨3, _⟩ => ⟨S1x4096, .f32⟩
  | .hbm, ⟨4, _⟩ => ⟨S1x4096, .f32⟩
  | .hbm, ⟨5, _⟩ => ⟨S4352x16384, .bf16⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S_, .f32⟩
  | .hbm, ⟨34, _⟩ => ⟨S4096, .f32⟩
  | .hbm, ⟨35, _⟩ => ⟨S1x4096, .f32⟩
  | .hbm, ⟨36, _⟩ => ⟨S4096x4096, .f32⟩
  | .hbm, ⟨37, _⟩ => ⟨S4096x4096, .f32⟩
  | .hbm, ⟨38, _⟩ => ⟨S_, .f32⟩
  | .hbm, ⟨39, _⟩ => ⟨S4096, .f32⟩
  | .hbm, ⟨40, _⟩ => ⟨S1x4096, .f32⟩
  | .hbm, ⟨41, _⟩ => ⟨S4096x4096, .bf16⟩
  | .hbm, ⟨42, _⟩ => ⟨S4096x4096, .bf16⟩
  | .hbm, ⟨43, _⟩ => ⟨S4096x12288, .bf16⟩
  | .hbm, ⟨44, _⟩ => ⟨S4096x0, .bf16⟩
  | .hbm, ⟨45, _⟩ => ⟨S4096x16384, .bf16⟩
  | .hbm, ⟨46, _⟩ => ⟨S256x16384, .bf16⟩
  | .hbm, ⟨47, _⟩ => ⟨S4352x16384, .bf16⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_v5_2 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_v5_1 : Ref sig .tc := ⟨.hbm, 22, rfl⟩
abbrev main_v5_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v10 : Ref sig .tc := ⟨.hbm, 31, rfl⟩
abbrev main_v11 : Ref sig .tc := ⟨.hbm, 32, rfl⟩
abbrev main_cst : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_0 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩

abbrev nD : Nat := 1
abbrev τ : Topo := Topo.v7x

variable {F : FTy → Type} [FloatOps F]
-- ==== KernelMix.lean ====
abbrev S2x4352x4096 : Shape := ⟨3, ![2, 4352, 4096]⟩
abbrev S4352x16384 : Shape := ⟨2, ![4352, 16384]⟩
abbrev S4096x4096 : Shape := ⟨2, ![4096, 4096]⟩
abbrev S1x4096 : Shape := ⟨2, ![1, 4096]⟩
abbrev S4096x8192 : Shape := ⟨2, ![4096, 8192]⟩
abbrev S2x256x4096 : Shape := ⟨3, ![2, 256, 4096]⟩
abbrev S256x4096 : Shape := ⟨2, ![256, 4096]⟩
abbrev S1x256x4096 : Shape := ⟨3, ![1, 256, 4096]⟩

abbrev nBuf : Space → Nat
  | .hbm => 6
  | .vmem => 12
  | .smem => 0
  | _ => 0

abbrev bufTy : (tb : Table) → Fin (tcTables nBuf tb) → BufTy
  | .hbm, ⟨0, _⟩ => ⟨S2x4352x4096, .f32⟩
  | .hbm, ⟨1, _⟩ => ⟨S4352x16384, .f32⟩
  | .hbm, ⟨2, _⟩ => ⟨S4096x4096, .f32⟩
  | .hbm, ⟨3, _⟩ => ⟨S1x4096, .f32⟩
  | .hbm, ⟨4, _⟩ => ⟨S1x4096, .f32⟩
  | .hbm, ⟨5, _⟩ => ⟨S4096x8192, .bf16⟩
  | .local _ .vmem, ⟨0, _⟩ => ⟨S2x256x4096, .f32⟩
  | .local _ .vmem, ⟨1, _⟩ => ⟨S2x256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .f32⟩
  | .local _ .vmem, ⟨8, _⟩ => ⟨S1x4096, .f32⟩
  | .local _ .vmem, ⟨9, _⟩ => ⟨S1x4096, .f32⟩
  | .local _ .vmem, ⟨10, _⟩ => ⟨S256x4096, .bf16⟩
  | .local _ .vmem, ⟨11, _⟩ => ⟨S256x4096, .bf16⟩
  | _, _ => ⟨S2x4352x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![16, 1, 2], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg0 c1_i32
  let c0_i32 : BitVec 32 := 0#32
  let c0_i32_0 : BitVec 32 := 0#32
  ![c0_i32.toNat, v0.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg0 c1_i32
  let c2_i32 : BitVec 32 := 2#32
  let v1 : BitVec 32 := Scalar.addi c2_i32 arg1
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg0 c1_i32
  let c3_i32 : BitVec 32 := 3#32
  let v1 : BitVec 32 := Scalar.addi c3_i32 arg1
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let v1 : BitVec 32 := Scalar.addi v0 arg1
  let c0_i32 : BitVec 32 := 0#32
  ![arg0.toNat, v1.toNat]

abbrev stage0_0 : Fin 2 → Memref sig .tc .vmem S2x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceMixIdeal.lean ====
abbrev S2x4352x4096 : Shape := ⟨3, ![2, 4352, 4096]⟩
abbrev S4352x16384 : Shape := ⟨2, ![4352, 16384]⟩
abbrev S4096x4096 : Shape := ⟨2, ![4096, 4096]⟩
abbrev S1x4096 : Shape := ⟨2, ![1, 4096]⟩
abbrev S1x4096x4096 : Shape := ⟨3, ![1, 4096, 4096]⟩
abbrev S_ : Shape := ⟨0, ![]⟩
abbrev S4096x8192 : Shape := ⟨2, ![4096, 8192]⟩

abbrev nBuf : Space → Nat
  | .hbm => 38
  | .vmem => 0
  | .smem => 0
  | _ => 0

abbrev bufTy : (tb : Table) → Fin (tcTables nBuf tb) → BufTy
  | .hbm, ⟨0, _⟩ => ⟨S2x4352x4096, .f32⟩
  | .hbm, ⟨1, _⟩ => ⟨S4352x16384, .f32⟩
  | .hbm, ⟨2, _⟩ => ⟨S4096x4096, .f32⟩
  | .hbm, ⟨3, _⟩ => ⟨S1x4096, .f32⟩
  | .hbm, ⟨4, _⟩ => ⟨S1x4096, .f32⟩
  | .hbm, ⟨5, _⟩ => ⟨S1x4096x4096, .f32⟩
  | .hbm, ⟨6, _⟩ => ⟨S4096x4096, .f32⟩
  | .hbm, ⟨7, _⟩ => ⟨S1x4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S4096x4096, .f32⟩
  | .hbm, ⟨30, _⟩ => ⟨S4096x4096, .f32⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S4096x8192, .f32⟩
  | .hbm, ⟨37, _⟩ => ⟨S4096x8192, .bf16⟩
  | _, _ => ⟨S2x4352x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_call1_v0 : Ref sig .tc := ⟨.hbm, 26, rfl⟩
abbrev main_call1_v1 : Ref sig .tc := ⟨.hbm, 27, rfl⟩
abbrev main_call1_cst : Ref sig .tc := ⟨.hbm, 28, rfl⟩
abbrev main_call1_v2 : Ref sig .tc := ⟨.hbm, 29, rfl⟩
abbrev main_call1_v3 : Ref sig .tc := ⟨.hbm, 30, rfl⟩
abbrev main_call1_cst_0 : Ref sig .tc := ⟨.hbm, 31, rfl⟩
abbrev main_call1_v4 : Ref sig .tc := ⟨.hbm, 32, rfl⟩
abbrev main_call1_v5 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩

abbrev nD : Nat := 1
abbrev τ : Topo := Topo.v7x

variable {F : FTy → Type} [FloatOps F]
-- ==== KernelAout.lean ====
abbrev S1024x4096 : Shape := ⟨2, ![1024, 4096]⟩
abbrev S8x1024x4096 : Shape := ⟨3, ![8, 1024, 4096]⟩
abbrev S64x4096 : Shape := ⟨2, ![64, 4096]⟩
abbrev S8x64x4096 : Shape := ⟨3, ![8, 64, 4096]⟩
abbrev S1x64x4096 : Shape := ⟨3, ![1, 64, 4096]⟩

abbrev nBuf : Space → Nat
  | .hbm => 8
  | .vmem => 16
  | .smem => 0
  | _ => 0

abbrev bufTy : (tb : Table) → Fin (tcTables nBuf tb) → BufTy
  | .hbm, ⟨0, _⟩ => ⟨S1024x4096, .f32⟩
  | .hbm, ⟨1, _⟩ => ⟨S8x1024x4096, .bf16⟩
  | .hbm, ⟨2, _⟩ => ⟨S1024x4096, .f32⟩
  | .hbm, ⟨3, _⟩ => ⟨S1024x4096, .f32⟩
  | .hbm, ⟨4, _⟩ => ⟨S1024x4096, .f32⟩
  | .hbm, ⟨5, _⟩ => ⟨S1024x4096, .f32⟩
  | .hbm, ⟨6, _⟩ => ⟨S1024x4096, .f32⟩
  | .hbm, ⟨7, _⟩ => ⟨S1024x4096, .f32⟩
  | .local _ .vmem, ⟨0, _⟩ => ⟨S64x4096, .f32⟩
  | .local _ .vmem, ⟨1, _⟩ => ⟨S64x4096, .f32⟩
  | .local _ .vmem, ⟨2, _⟩ => ⟨S8x64x4096, .bf16⟩
  | .local _ .vmem, ⟨3, _⟩ => ⟨S8x64x4096, .bf16⟩
  | .local _ .vmem, ⟨4, _⟩ => ⟨S64x4096, .f32⟩
  | .local _ .vmem, ⟨5, _⟩ => ⟨S64x4096, .f32⟩
  | .local _ .vmem, ⟨6, _⟩ => ⟨S64x4096, .f32⟩
  | .local _ .vmem, ⟨7, _⟩ => ⟨S64x4096, .f32⟩
  | .local _ .vmem, ⟨8, _⟩ => ⟨S64x4096, .f32⟩
  | .local _ .vmem, ⟨9, _⟩ => ⟨S64x4096, .f32⟩
  | .local _ .vmem, ⟨10, _⟩ => ⟨S64x4096, .f32⟩
  | .local _ .vmem, ⟨11, _⟩ => ⟨S64x4096, .f32⟩
  | .local _ .vmem, ⟨12, _⟩ => ⟨S64x4096, .f32⟩
  | .local _ .vmem, ⟨13, _⟩ => ⟨S64x4096, .f32⟩
  | .local _ .vmem, ⟨14, _⟩ => ⟨S64x4096, .f32⟩
  | .local _ .vmem, ⟨15, _⟩ => ⟨S64x4096, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x64x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceAoutIdeal.lean ====
abbrev S1024x4096 : Shape := ⟨2, ![1024, 4096]⟩
abbrev S8x1024x4096 : Shape := ⟨3, ![8, 1024, 4096]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S8x1024x4096, .bf16⟩
  | .hbm, ⟨2, _⟩ => ⟨S1024x4096, .f32⟩
  | .hbm, ⟨3, _⟩ => ⟨S1024x4096, .f32⟩
  | .hbm, ⟨4, _⟩ => ⟨S8x1024x4096, .f32⟩
  | .hbm, ⟨5, _⟩ => ⟨S_, .f32⟩
  | .hbm, ⟨6, _⟩ => ⟨S1024x4096, .f32⟩
  | .hbm, ⟨7, _⟩ => ⟨S_, .f32⟩
  | .hbm, ⟨8, _⟩ => ⟨S1024x4096, .f32⟩
  | .hbm, ⟨9, _⟩ => ⟨S1024x4096, .f32⟩
  | .hbm, ⟨10, _⟩ => ⟨S_, .f32⟩
  | .hbm, ⟨11, _⟩ => ⟨S1024x4096, .f32⟩
  | .hbm, ⟨12, _⟩ => ⟨S1024x4096, .f32⟩
  | .hbm, ⟨13, _⟩ => ⟨S1024x4096, .f32⟩
  | .hbm, ⟨14, _⟩ => ⟨S_, .f32⟩
  | .hbm, ⟨15, _⟩ => ⟨S1024x4096, .f32⟩
  | .hbm, ⟨16, _⟩ => ⟨S1024x4096, .f32⟩
  | .hbm, ⟨17, _⟩ => ⟨S1024x4096, .f32⟩
  | .hbm, ⟨18, _⟩ => ⟨S_, .f32⟩
  | .hbm, ⟨19, _⟩ => ⟨S1024x4096, .f32⟩
  | .hbm, ⟨20, _⟩ => ⟨S1024x4096, .f32⟩
  | .hbm, ⟨21, _⟩ => ⟨S1024x4096, .f32⟩
  | .hbm, ⟨22, _⟩ => ⟨S_, .f32⟩
  | .hbm, ⟨23, _⟩ => ⟨S1024x4096, .f32⟩
  | .hbm, ⟨24, _⟩ => ⟨S1024x4096, .f32⟩
  | .hbm, ⟨25, _⟩ => ⟨S_, .f32⟩
  | .hbm, ⟨26, _⟩ => ⟨S1024x4096, .f32⟩
  | .hbm, ⟨27, _⟩ => ⟨S1024x4096, .f32⟩
  | .hbm, ⟨28, _⟩ => ⟨S1024x4096, .f32⟩
  | .hbm, ⟨29, _⟩ => ⟨S_, .f32⟩
  | .hbm, ⟨30, _⟩ => ⟨S1024x4096, .f32⟩
  | .hbm, ⟨31, _⟩ => ⟨S1024x4096, .f32⟩
  | .hbm, ⟨32, _⟩ => ⟨S1024x4096, .f32⟩
  | .hbm, ⟨33, _⟩ => ⟨S_, .f32⟩
  | .hbm, ⟨34, _⟩ => ⟨S1024x4096, .f32⟩
  | .hbm, ⟨35, _⟩ => ⟨S1024x4096, .f32⟩
  | .hbm, ⟨36, _⟩ => ⟨S1024x4096, .f32⟩
  | .hbm, ⟨37, _⟩ => ⟨S_, .f32⟩
  | .hbm, ⟨38, _⟩ => ⟨S1024x4096, .f32⟩
  | .hbm, ⟨39, _⟩ => ⟨S1024x4096, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== KernelApool.lean ====
abbrev S512x1024 : Shape := ⟨2, ![512, 1024]⟩
abbrev S8x512x1024 : Shape := ⟨3, ![8, 512, 1024]⟩
abbrev S256x1024 : Shape := ⟨2, ![256, 1024]⟩
abbrev S8x256x1024 : Shape := ⟨3, ![8, 256, 1024]⟩
abbrev S1x256x1024 : Shape := ⟨3, ![1, 256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S512x1024, .f32⟩
  | .hbm, ⟨1, _⟩ => ⟨S8x512x1024, .bf16⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S8x256x1024, .bf16⟩
  | .local _ .vmem, ⟨3, _⟩ => ⟨S8x256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceApoolIdeal.lean ====
abbrev S512x1024 : Shape := ⟨2, ![512, 1024]⟩
abbrev S8x512x1024 : Shape := ⟨3, ![8, 512, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S8x512x1024, .bf16⟩
  | .hbm, ⟨2, _⟩ => ⟨S512x1024, .f32⟩
  | .hbm, ⟨3, _⟩ => ⟨S512x1024, .f32⟩
  | .hbm, ⟨4, _⟩ => ⟨S8x512x1024, .f32⟩
  | .hbm, ⟨5, _⟩ => ⟨S_, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S_, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S_, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S_, .f32⟩
  | .hbm, ⟨19, _⟩ => ⟨S512x1024, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S_, .f32⟩
  | .hbm, ⟨26, _⟩ => ⟨S512x1024, .f32⟩
  | .hbm, ⟨27, _⟩ => ⟨S512x1024, .f32⟩
  | .hbm, ⟨28, _⟩ => ⟨S512x1024, .f32⟩
  | .hbm, ⟨29, _⟩ => ⟨S_, .f32⟩
  | .hbm, ⟨30, _⟩ => ⟨S512x1024, .f32⟩
  | .hbm, ⟨31, _⟩ => ⟨S512x1024, .f32⟩
  | .hbm, ⟨32, _⟩ => ⟨S512x1024, .f32⟩
  | .hbm, ⟨33, _⟩ => ⟨S_, .f32⟩
  | .hbm, ⟨34, _⟩ => ⟨S512x1024, .f32⟩
  | .hbm, ⟨35, _⟩ => ⟨S512x1024, .f32⟩
  | .hbm, ⟨36, _⟩ => ⟨S512x1024, .f32⟩
  | .hbm, ⟨37, _⟩ => ⟨S_, .f32⟩
  | .hbm, ⟨38, _⟩ => ⟨S512x1024, .f32⟩
  | .hbm, ⟨39, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== KernelAgate.lean ====
abbrev S1024x256 : Shape := ⟨2, ![1024, 256]⟩
abbrev S8x1024x256 : Shape := ⟨3, ![8, 1024, 256]⟩
abbrev S1x1024x256 : Shape := ⟨3, ![1, 1024, 256]⟩

abbrev nBuf : Space → Nat
  | .hbm => 8
  | .vmem => 8
  | .smem => 0
  | _ => 0

abbrev bufTy : (tb : Table) → Fin (tcTables nBuf tb) → BufTy
  | .hbm, ⟨0, _⟩ => ⟨S1024x256, .f32⟩
  | .hbm, ⟨1, _⟩ => ⟨S8x1024x256, .bf16⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .local _ .vmem, ⟨0, _⟩ => ⟨S1024x256, .f32⟩
  | .local _ .vmem, ⟨1, _⟩ => ⟨S8x1024x256, .bf16⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S8x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1024x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== ReferenceAgateIdeal.lean ====
abbrev S1024x256 : Shape := ⟨2, ![1024, 256]⟩
abbrev S8x1024x256 : Shape := ⟨3, ![8, 1024, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S8x1024x256, .bf16⟩
  | .hbm, ⟨2, _⟩ => ⟨S1024x256, .f32⟩
  | .hbm, ⟨3, _⟩ => ⟨S1024x256, .f32⟩
  | .hbm, ⟨4, _⟩ => ⟨S8x1024x256, .f32⟩
  | .hbm, ⟨5, _⟩ => ⟨S_, .f32⟩
  | .hbm, ⟨6, _⟩ => ⟨S1024x256, .f32⟩
  | .hbm, ⟨7, _⟩ => ⟨S_, .f32⟩
  | .hbm, ⟨8, _⟩ => ⟨S1024x256, .f32⟩
  | .hbm, ⟨9, _⟩ => ⟨S1024x256, .f32⟩
  | .hbm, ⟨10, _⟩ => ⟨S_, .f32⟩
  | .hbm, ⟨11, _⟩ => ⟨S1024x256, .f32⟩
  | .hbm, ⟨12, _⟩ => ⟨S1024x256, .f32⟩
  | .hbm, ⟨13, _⟩ => ⟨S1024x256, .f32⟩
  | .hbm, ⟨14, _⟩ => ⟨S_, .f32⟩
  | .hbm, ⟨15, _⟩ => ⟨S1024x256, .f32⟩
  | .hbm, ⟨16, _⟩ => ⟨S1024x256, .f32⟩
  | .hbm, ⟨17, _⟩ => ⟨S1024x256, .f32⟩
  | .hbm, ⟨18, _⟩ => ⟨S_, .f32⟩
  | .hbm, ⟨19, _⟩ => ⟨S1024x256, .f32⟩
  | .hbm, ⟨20, _⟩ => ⟨S1024x256, .f32⟩
  | .hbm, ⟨21, _⟩ => ⟨S1024x256, .f32⟩
  | .hbm, ⟨22, _⟩ => ⟨S_, .f32⟩
  | .hbm, ⟨23, _⟩ => ⟨S1024x256, .f32⟩
  | .hbm, ⟨24, _⟩ => ⟨S1024x256, .f32⟩
  | .hbm, ⟨25, _⟩ => ⟨S_, .f32⟩
  | .hbm, ⟨26, _⟩ => ⟨S1024x256, .f32⟩
  | .hbm, ⟨27, _⟩ => ⟨S1024x256, .f32⟩
  | .hbm, ⟨28, _⟩ => ⟨S1024x256, .f32⟩
  | .hbm, ⟨29, _⟩ => ⟨S_, .f32⟩
  | .hbm, ⟨30, _⟩ => ⟨S1024x256, .f32⟩
  | .hbm, ⟨31, _⟩ => ⟨S1024x256, .f32⟩
  | .hbm, ⟨32, _⟩ => ⟨S1024x256, .f32⟩
  | .hbm, ⟨33, _⟩ => ⟨S_, .f32⟩
  | .hbm, ⟨34, _⟩ => ⟨S1024x256, .f32⟩
  | .hbm, ⟨35, _⟩ => ⟨S1024x256, .f32⟩
  | .hbm, ⟨36, _⟩ => ⟨S1024x256, .f32⟩
  | .hbm, ⟨37, _⟩ => ⟨S_, .f32⟩
  | .hbm, ⟨38, _⟩ => ⟨S1024x256, .f32⟩
  | .hbm, ⟨39, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== KernelAwin.lean ====
abbrev S4096x2048 : Shape := ⟨2, ![4096, 2048]⟩
abbrev S8x4096x512 : Shape := ⟨3, ![8, 4096, 512]⟩
abbrev S128x512 : Shape := ⟨2, ![128, 512]⟩
abbrev S8x128x512 : Shape := ⟨3, ![8, 128, 512]⟩
abbrev S1x128x512 : Shape := ⟨3, ![1, 128, 512]⟩

abbrev nBuf : Space → Nat
  | .hbm => 11
  | .vmem => 22
  | .smem => 0
  | _ => 0

abbrev bufTy : (tb : Table) → Fin (tcTables nBuf tb) → BufTy
  | .hbm, ⟨0, _⟩ => ⟨S4096x2048, .f32⟩
  | .hbm, ⟨1, _⟩ => ⟨S8x4096x512, .bf16⟩
  | .hbm, ⟨2, _⟩ => ⟨S8x4096x512, .bf16⟩
  | .hbm, ⟨3, _⟩ => ⟨S8x4096x512, .bf16⟩
  | .hbm, ⟨4, _⟩ => ⟨S8x4096x512, .bf16⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .local _ .vmem, ⟨0, _⟩ => ⟨S128x512, .f32⟩
  | .local _ .vmem, ⟨1, _⟩ => ⟨S128x512, .f32⟩
  | .local _ .vmem, ⟨2, _⟩ => ⟨S8x128x512, .bf16⟩
  | .local _ .vmem, ⟨3, _⟩ => ⟨S8x128x512, .bf16⟩
  | .local _ .vmem, ⟨4, _⟩ => ⟨S8x128x512, .bf16⟩
  | .local _ .vmem, ⟨5, _⟩ => ⟨S8x128x512, .bf16⟩
  | .local _ .vmem, ⟨6, _⟩ => ⟨S8x128x512, .bf16⟩
  | .local _ .vmem, ⟨7, _⟩ => ⟨S8x128x512, .bf16⟩
  | .local _ .vmem, ⟨8, _⟩ => ⟨S8x128x512, .bf16⟩
  | .local _ .vmem, ⟨9, _⟩ => ⟨S8x128x512, .bf16⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | .local _ .vmem, ⟨16, _⟩ => ⟨S128x512, .f32⟩
  | .local _ .vmem, ⟨17, _⟩ => ⟨S128x512, .f32⟩
  | .local _ .vmem, ⟨18, _⟩ => ⟨S128x512, .f32⟩
  | .local _ .vmem, ⟨19, _⟩ => ⟨S128x512, .f32⟩
  | .local _ .vmem, ⟨20, _⟩ => ⟨S128x512, .f32⟩
  | .local _ .vmem, ⟨21, _⟩ => ⟨S128x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![32, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c2_i32 : BitVec 32 := 2#32
  let v6 : BitVec 1 := Scalar.cmpi .eq arg1 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceAwinIdeal.lean ====
abbrev S4096x2048 : Shape := ⟨2, ![4096, 2048]⟩
abbrev S8x4096x512 : Shape := ⟨3, ![8, 4096, 512]⟩
abbrev S8x4096x2048 : Shape := ⟨3, ![8, 4096, 2048]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S8x4096x512, .bf16⟩
  | .hbm, ⟨2, _⟩ => ⟨S8x4096x512, .bf16⟩
  | .hbm, ⟨3, _⟩ => ⟨S8x4096x512, .bf16⟩
  | .hbm, ⟨4, _⟩ => ⟨S8x4096x512, .bf16⟩
  | .hbm, ⟨5, _⟩ => ⟨S4096x2048, .f32⟩
  | .hbm, ⟨6, _⟩ => ⟨S4096x2048, .f32⟩
  | .hbm, ⟨7, _⟩ => ⟨S8x4096x2048, .bf16⟩
  | .hbm, ⟨8, _⟩ => ⟨S8x4096x2048, .f32⟩
  | .hbm, ⟨9, _⟩ => ⟨S_, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S_, .f32⟩
  | .hbm, ⟨42, _⟩ => ⟨S4096x2048, .f32⟩
  | .hbm, ⟨43, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_4 : Ref sig .tc := ⟨.hbm, 26, rfl⟩
abbrev main_v14 : Ref sig .tc := ⟨.hbm, 27, rfl⟩
abbrev main_v15 : Ref sig .tc := ⟨.hbm, 28, rfl⟩
abbrev main_cst_5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_6 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_7 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_8 : Ref sig .tc := ⟨.hbm, 41, rfl⟩
abbrev main_v25 : Ref sig .tc := ⟨.hbm, 42, rfl⟩
abbrev main_v26 : Ref sig .tc := ⟨.hbm, 43, rfl⟩

abbrev nD : Nat := 1
abbrev τ : Topo := Topo.v7x

variable {F : FTy → Type} [FloatOps F]
-- ==== KernelNlat.lean ====
abbrev S4096x4096 : Shape := ⟨2, ![4096, 4096]⟩
abbrev S1x4096 : Shape := ⟨2, ![1, 4096]⟩
abbrev S4352x4096 : Shape := ⟨2, ![4352, 4096]⟩
abbrev S256x4096 : Shape := ⟨2, ![256, 4096]⟩
abbrev S256 : Shape := ⟨1, ![256]⟩
abbrev S256x1 : Shape := ⟨2, ![256, 1]⟩

abbrev nBuf : Space → Nat
  | .hbm => 6
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S1x4096, .f32⟩
  | .hbm, ⟨3, _⟩ => ⟨S1x4096, .f32⟩
  | .hbm, ⟨4, _⟩ => ⟨S4352x4096, .bf16⟩
  | .hbm, ⟨5, _⟩ => ⟨S4096x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S1x4096, .f32⟩
  | .local _ .vmem, ⟨5, _⟩ => ⟨S256x4096, .bf16⟩
  | .local _ .vmem, ⟨6, _⟩ => ⟨S256x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceNlatIdeal.lean ====
abbrev S4096x4096 : Shape := ⟨2, ![4096, 4096]⟩
abbrev S1x4096 : Shape := ⟨2, ![1, 4096]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S1x4096, .f32⟩
  | .hbm, ⟨3, _⟩ => ⟨S1x4096, .f32⟩
  | .hbm, ⟨4, _⟩ => ⟨S4096x4096, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S1x4096, .f32⟩
  | .hbm, ⟨21, _⟩ => ⟨S1x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== KernelNctx.lean ====
abbrev S256x4096 : Shape := ⟨2, ![256, 4096]⟩
abbrev S1x4096 : Shape := ⟨2, ![1, 4096]⟩
abbrev S4352x4096 : Shape := ⟨2, ![4352, 4096]⟩
abbrev S256 : Shape := ⟨1, ![256]⟩
abbrev S256x1 : Shape := ⟨2, ![256, 1]⟩

abbrev nBuf : Space → Nat
  | .hbm => 6
  | .vmem => 5
  | .smem => 0
  | _ => 0

abbrev bufTy : (tb : Table) → Fin (tcTables nBuf tb) → BufTy
  | .hbm, ⟨0, _⟩ => ⟨S256x4096, .f32⟩
  | .hbm, ⟨1, _⟩ => ⟨S1x4096, .f32⟩
  | .hbm, ⟨2, _⟩ => ⟨S1x4096, .f32⟩
  | .hbm, ⟨3, _⟩ => ⟨S1x4096, .f32⟩
  | .hbm, ⟨4, _⟩ => ⟨S4352x4096, .bf16⟩
  | .hbm, ⟨5, _⟩ => ⟨S4352x4096, .bf16⟩
  | .local _ .vmem, ⟨0, _⟩ => ⟨S256x4096, .f32⟩
  | .local _ .vmem, ⟨1, _⟩ => ⟨S1x4096, .f32⟩
  | .local _ .vmem, ⟨2, _⟩ => ⟨S1x4096, .f32⟩
  | .local _ .vmem, ⟨3, _⟩ => ⟨S1x4096, .f32⟩
  | .local _ .vmem, ⟨4, _⟩ => ⟨S256x4096, .bf16⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== ReferenceNctxIdeal.lean ====
abbrev S256x4096 : Shape := ⟨2, ![256, 4096]⟩
abbrev S1x4096 : Shape := ⟨2, ![1, 4096]⟩
abbrev S4352x4096 : Shape := ⟨2, ![4352, 4096]⟩
abbrev S_ : Shape := ⟨0, ![]⟩
abbrev S256 : Shape := ⟨1, ![256]⟩
abbrev S256x1 : Shape := ⟨2, ![256, 1]⟩
abbrev S4096x4096 : Shape := ⟨2, ![4096, 4096]⟩

abbrev nBuf : Space → Nat
  | .hbm => 30
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S1x4096, .f32⟩
  | .hbm, ⟨2, _⟩ => ⟨S1x4096, .f32⟩
  | .hbm, ⟨3, _⟩ => ⟨S1x4096, .f32⟩
  | .hbm, ⟨4, _⟩ => ⟨S4352x4096, .bf16⟩
  | .hbm, ⟨5, _⟩ => ⟨S256x4096, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S256x4096, .f32⟩
  | .hbm, ⟨17, _⟩ => ⟨S256x4096, .f32⟩
  | .hbm, ⟨18, _⟩ => ⟨S256x4096, .f32⟩
  | .hbm, ⟨19, _⟩ => ⟨S256x4096, .f32⟩
  | .hbm, ⟨20, _⟩ => ⟨S_, .f32⟩
  | .hbm, ⟨21, _⟩ => ⟨S1x4096, .f32⟩
  | .hbm, ⟨22, _⟩ => ⟨S1x4096, .f32⟩
  | .hbm, ⟨23, _⟩ => ⟨S256x4096, .f32⟩
  | .hbm, ⟨24, _⟩ => ⟨S256x4096, .f32⟩
  | .hbm, ⟨25, _⟩ => ⟨S256x4096, .f32⟩
  | .hbm, ⟨26, _⟩ => ⟨S256x4096, .f32⟩
  | .hbm, ⟨27, _⟩ => ⟨S256x4096, .bf16⟩
  | .hbm, ⟨28, _⟩ => ⟨S4096x4096, .bf16⟩
  | .hbm, ⟨29, _⟩ => ⟨S4352x4096, .bf16⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== KernelConv.lean ====
abbrev S4352x16384 : Shape := ⟨2, ![4352, 16384]⟩
abbrev S4x4096 : Shape := ⟨2, ![4, 4096]⟩
abbrev S1x4096 : Shape := ⟨2, ![1, 4096]⟩
abbrev S4352x4096 : Shape := ⟨2, ![4352, 4096]⟩
abbrev S4352x256 : Shape := ⟨2, ![4352, 256]⟩
abbrev S4x256 : Shape := ⟨2, ![4, 256]⟩
abbrev S1x256 : Shape := ⟨2, ![1, 256]⟩
abbrev S4368x256 : Shape := ⟨2, ![4368, 256]⟩
abbrev S8x256 : Shape := ⟨2, ![8, 256]⟩
abbrev S560x256 : Shape := ⟨2, ![560, 256]⟩
abbrev S544x256 : Shape := ⟨2, ![544, 256]⟩

abbrev nBuf : Space → Nat
  | .hbm => 4
  | .vmem => 9
  | .smem => 0
  | _ => 0

abbrev bufTy : (tb : Table) → Fin (tcTables nBuf tb) → BufTy
  | .hbm, ⟨0, _⟩ => ⟨S4352x16384, .f32⟩
  | .hbm, ⟨1, _⟩ => ⟨S4x4096, .f32⟩
  | .hbm, ⟨2, _⟩ => ⟨S1x4096, .f32⟩
  | .hbm, ⟨3, _⟩ => ⟨S4352x4096, .f32⟩
  | .local _ .vmem, ⟨0, _⟩ => ⟨S4352x256, .f32⟩
  | .local _ .vmem, ⟨1, _⟩ => ⟨S4352x256, .f32⟩
  | .local _ .vmem, ⟨2, _⟩ => ⟨S4x256, .f32⟩
  | .local _ .vmem, ⟨3, _⟩ => ⟨S4x256, .f32⟩
  | .local _ .vmem, ⟨4, _⟩ => ⟨S1x256, .f32⟩
  | .local _ .vmem, ⟨5, _⟩ => ⟨S1x256, .f32⟩
  | .local _ .vmem, ⟨6, _⟩ => ⟨S4352x256, .f32⟩
  | .local _ .vmem, ⟨7, _⟩ => ⟨S4352x256, .f32⟩
  | .local _ .vmem, ⟨8, _⟩ => ⟨S4368x256, .f32⟩
  | _, _ => ⟨S4352x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c8_i32 : BitVec 32 := 8#32
  let v14 : BitVec 32 := Scalar.addi c0_i32 c8_i32
  let c1_i32 : BitVec 32 := 1#32
  ⟨c0_i32, v14, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c544_i32 : BitVec 32 := 544#32
  let v15 : BitVec 32 := Scalar.muli arg6 c544_i32
  v15
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c544_i32 : BitVec 32 := 544#32
  let v15 : BitVec 32 := Scalar.muli arg6 c544_i32
  let v16 : BitVec 32 := v15
  let v17 : Index := Scalar.indexCast v16
  let c0_11 : Index := 0#32
  ![v17.toNat, 0]
def k0_off2 (k0_t1 : Fin k0_t1_loop.trips) : Fin 2 → Nat :=
  let c0_i32 : BitVec 32 := 0#32
  let c1_i32 : BitVec 32 := 1#32
  let arg6 : BitVec 32 := Scf.iv c0_i32 c1_i32 k0_t1
  let c544_i32 : BitVec 32 := 544#32
  let v15 : BitVec 32 := Scalar.muli arg6 c544_i32
  let v16 : BitVec 32 := v15
  let v107 : Index := Scalar.indexCast v16
  let c0_37 : Index := 0#32
  ![v107.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4352x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4352x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceConvIdeal.lean ====
abbrev S4352x16384 : Shape := ⟨2, ![4352, 16384]⟩
abbrev S4x4096 : Shape := ⟨2, ![4, 4096]⟩
abbrev S1x4096 : Shape := ⟨2, ![1, 4096]⟩
abbrev S4352x4096 : Shape := ⟨2, ![4352, 4096]⟩
abbrev S256x4096 : Shape := ⟨2, ![256, 4096]⟩
abbrev S_ : Shape := ⟨0, ![]⟩
abbrev S259x4096 : Shape := ⟨2, ![259, 4096]⟩
abbrev S4096 : Shape := ⟨1, ![4096]⟩
abbrev S4096x4096 : Shape := ⟨2, ![4096, 4096]⟩
abbrev S4099x4096 : Shape := ⟨2, ![4099, 4096]⟩

abbrev nBuf : Space → Nat
  | .hbm => 71
  | .vmem => 0
  | .smem => 0
  | _ => 0

abbrev bufTy : (tb : Table) → Fin (tcTables nBuf tb) → BufTy
  | .hbm, ⟨0, _⟩ => ⟨S4352x16384, .f32⟩
  | .hbm, ⟨1, _⟩ => ⟨S4x4096, .f32⟩
  | .hbm, ⟨2, _⟩ => ⟨S1x4096, .f32⟩
  | .hbm, ⟨3, _⟩ => ⟨S4352x4096, .f32⟩
  | .hbm, ⟨4, _⟩ => ⟨S256x4096, .f32⟩
  | .hbm, ⟨5, _⟩ => ⟨S_, .i32⟩
  | .hbm, ⟨6, _⟩ => ⟨S_, .f32⟩
  | .hbm, ⟨7, _⟩ => ⟨S259x4096, .f32⟩
  | .hbm, ⟨8, _⟩ => ⟨S256x4096, .f32⟩
  | .hbm, ⟨9, _⟩ => ⟨S1x4096, .f32⟩
  | .hbm, ⟨10, _⟩ => ⟨S4096, .f32⟩
  | .hbm, ⟨11, _⟩ => ⟨S1x4096, .f32⟩
  | .hbm, ⟨12, _⟩ => ⟨S256x4096, .f32⟩
  | .hbm, ⟨13, _⟩ => ⟨S256x4096, .f32⟩
  | .hbm, ⟨14, _⟩ => ⟨S256x4096, .f32⟩
  | .hbm, ⟨15, _⟩ => ⟨S256x4096, .f32⟩
  | .hbm, ⟨16, _⟩ => ⟨S256x4096, .f32⟩
  | .hbm, ⟨17, _⟩ => ⟨S1x4096, .f32⟩
  | .hbm, ⟨18, _⟩ => ⟨S4096, .f32⟩
  | .hbm, ⟨19, _⟩ => ⟨S1x4096, .f32⟩
  | .hbm, ⟨20, _⟩ => ⟨S256x4096, .f32⟩
  | .hbm, ⟨21, _⟩ => ⟨S256x4096, .f32⟩
  | .hbm, ⟨22, _⟩ => ⟨S256x4096, .f32⟩
  | .hbm, ⟨23, _⟩ => ⟨S256x4096, .f32⟩
  | .hbm, ⟨24, _⟩ => ⟨S1x4096, .f32⟩
  | .hbm, ⟨25, _⟩ => ⟨S4096, .f32⟩
  | .hbm, ⟨26, _⟩ => ⟨S1x4096, .f32⟩
  | .hbm, ⟨27, _⟩ => ⟨S256x4096, .f32⟩
  | .hbm, ⟨28, _⟩ => ⟨S256x4096, .f32⟩
  | .hbm, ⟨29, _⟩ => ⟨S256x4096, .f32⟩
  | .hbm, ⟨30, _⟩ => ⟨S256x4096, .f32⟩
  | .hbm, ⟨31, _⟩ => ⟨S1x4096, .f32⟩
  | .hbm, ⟨32, _⟩ => ⟨S4096, .f32⟩
  | .hbm, ⟨33, _⟩ => ⟨S1x4096, .f32⟩
  | .hbm, ⟨34, _⟩ => ⟨S256x4096, .f32⟩
  | .hbm, ⟨35, _⟩ => ⟨S256x4096, .f32⟩
  | .hbm, ⟨36, _⟩ => ⟨S256x4096, .f32⟩
  | .hbm, ⟨37, _⟩ => ⟨S4096x4096, .f32⟩
  | .hbm, ⟨38, _⟩ => ⟨S_, .i32⟩
  | .hbm, ⟨39, _⟩ => ⟨S_, .f32⟩
  | .hbm, ⟨40, _⟩ => ⟨S4099x4096, .f32⟩
  | .hbm, ⟨41, _⟩ => ⟨S4096x4096, .f32⟩
  | .hbm, ⟨42, _⟩ => ⟨S1x4096, .f32⟩
  | .hbm, ⟨43, _⟩ => ⟨S4096, .f32⟩
  | .hbm, ⟨44, _⟩ => ⟨S1x4096, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S1x4096, .f32⟩
  | .hbm, ⟨51, _⟩ => ⟨S4096, .f32⟩
  | .hbm, ⟨52, _⟩ => ⟨S1x4096, .f32⟩
  | .hbm, ⟨53, _⟩ => ⟨S4096x4096, .f32⟩
  | .hbm, ⟨54, _⟩ => ⟨S4096x4096, .f32⟩
  | .hbm, ⟨55, _⟩ => ⟨S4096x4096, .f32⟩
  | .hbm, ⟨56, _⟩ => ⟨S4096x4096, .f32⟩
  | .hbm, ⟨57, _⟩ => ⟨S1x4096, .f32⟩
  | .hbm, ⟨58, _⟩ => ⟨S4096, .f32⟩
  | .hbm, ⟨59, _⟩ => ⟨S1x4096, .f32⟩
  | .hbm, ⟨60, _⟩ => ⟨S4096x4096, .f32⟩
  | .hbm, ⟨61, _⟩ => ⟨S4096x4096, .f32⟩
  | .hbm, ⟨62, _⟩ => ⟨S4096x4096, .f32⟩
  | .hbm, ⟨63, _⟩ => ⟨S4096x4096, .f32⟩
  | .hbm, ⟨64, _⟩ => ⟨S1x4096, .f32⟩
  | .hbm, ⟨65, _⟩ => ⟨S4096, .f32⟩
  | .hbm, ⟨66, _⟩ => ⟨S1x4096, .f32⟩
  | .hbm, ⟨67, _⟩ => ⟨S4096x4096, .f32⟩
  | .hbm, ⟨68, _⟩ => ⟨S4096x4096, .f32⟩
  | .hbm, ⟨69, _⟩ => ⟨S4096x4096, .f32⟩
  | .hbm, ⟨70, _⟩ => ⟨S4352x4096, .f32⟩
  | _, _ => ⟨S4352x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_c_0 : Ref sig .tc := ⟨.hbm, 38, rfl⟩
abbrev main_call1_v0 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩

abbrev nD : Nat := 1
abbrev τ : Topo := Topo.v7x

variable {F : FTy → Type} [FloatOps F]
-- ==== KernelSsum.lean ====
abbrev S8x65664 : Shape := ⟨2, ![8, 65664]⟩
abbrev S8x12288 : Shape := ⟨2, ![8, 12288]⟩
abbrev S1x65664 : Shape := ⟨2, ![1, 65664]⟩
abbrev S1x12288 : Shape := ⟨2, ![1, 12288]⟩

abbrev nBuf : Space → Nat
  | .hbm => 5
  | .vmem => 5
  | .smem => 0
  | _ => 0

abbrev bufTy : (tb : Table) → Fin (tcTables nBuf tb) → BufTy
  | .hbm, ⟨0, _⟩ => ⟨S8x65664, .f32⟩
  | .hbm, ⟨1, _⟩ => ⟨S8x12288, .f32⟩
  | .hbm, ⟨2, _⟩ => ⟨S8x12288, .f32⟩
  | .hbm, ⟨3, _⟩ => ⟨S1x65664, .f32⟩
  | .hbm, ⟨4, _⟩ => ⟨S1x12288, .f32⟩
  | .local _ .vmem, ⟨0, _⟩ => ⟨S8x65664, .f32⟩
  | .local _ .vmem, ⟨1, _⟩ => ⟨S8x12288, .f32⟩
  | .local _ .vmem, ⟨2, _⟩ => ⟨S8x12288, .f32⟩
  | .local _ .vmem, ⟨3, _⟩ => ⟨S1x65664, .f32⟩
  | .local _ .vmem, ⟨4, _⟩ => ⟨S1x12288, .f32⟩
  | _, _ => ⟨S8x65664, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S8x65664 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x12288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x12288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x65664 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x12288 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceSsumIdeal.lean ====
abbrev S8x65664 : Shape := ⟨2, ![8, 65664]⟩
abbrev S8x12288 : Shape := ⟨2, ![8, 12288]⟩
abbrev S_ : Shape := ⟨0, ![]⟩
abbrev S65664 : Shape := ⟨1, ![65664]⟩
abbrev S1x65664 : Shape := ⟨2, ![1, 65664]⟩
abbrev S12288 : Shape := ⟨1, ![12288]⟩
abbrev S1x12288 : Shape := ⟨2, ![1, 12288]⟩

abbrev nBuf : Space → Nat
  | .hbm => 13
  | .vmem => 0
  | .smem => 0
  | _ => 0

abbrev bufTy : (tb : Table) → Fin (tcTables nBuf tb) → BufTy
  | .hbm, ⟨0, _⟩ => ⟨S8x65664, .f32⟩
  | .hbm, ⟨1, _⟩ => ⟨S8x12288, .f32⟩
  | .hbm, ⟨2, _⟩ => ⟨S8x12288, .f32⟩
  | .hbm, ⟨3, _⟩ => ⟨S_, .f32⟩
  | .hbm, ⟨4, _⟩ => ⟨S65664, .f32⟩
  | .hbm, ⟨5, _⟩ => ⟨S1x65664, .f32⟩
  | .hbm, ⟨6, _⟩ => ⟨S_, .f32⟩
  | .hbm, ⟨7, _⟩ => ⟨S12288, .f32⟩
  | .hbm, ⟨8, _⟩ => ⟨S1x12288, .f32⟩
  | .hbm, ⟨9, _⟩ => ⟨S_, .f32⟩
  | .hbm, ⟨10, _⟩ => ⟨S12288, .f32⟩
  | .hbm, ⟨11, _⟩ => ⟨S1x12288, .f32⟩
  | .hbm, ⟨12, _⟩ => ⟨S1x12288, .f32⟩
  | _, _ => ⟨S8x65664, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== KernelNbc.lean ====
abbrev S256x4096 : Shape := ⟨2, ![256, 4096]⟩
abbrev S4352x4096 : Shape := ⟨2, ![4352, 4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩
abbrev S4096 : Shape := ⟨1, ![4096]⟩

abbrev nBuf : Space → Nat
  | .hbm => 9
  | .vmem => 10
  | .smem => 0
  | _ => 0

abbrev bufTy : (tb : Table) → Fin (tcTables nBuf tb) → BufTy
  | .hbm, ⟨0, _⟩ => ⟨S256x4096, .f32⟩
  | .hbm, ⟨1, _⟩ => ⟨S4352x4096, .f32⟩
  | .hbm, ⟨2, _⟩ => ⟨S1x4096, .f32⟩
  | .hbm, ⟨3, _⟩ => ⟨S1x4096, .f32⟩
  | .hbm, ⟨4, _⟩ => ⟨S1x4096, .f32⟩
  | .hbm, ⟨5, _⟩ => ⟨S1x4096, .f32⟩
  | .hbm, ⟨6, _⟩ => ⟨S1x4096, .f32⟩
  | .hbm, ⟨7, _⟩ => ⟨S1x4096, .f32⟩
  | .hbm, ⟨8, _⟩ => ⟨S1x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S1x4096, .f32⟩
  | .local _ .vmem, ⟨5, _⟩ => ⟨S1x4096, .f32⟩
  | .local _ .vmem, ⟨6, _⟩ => ⟨S1x4096, .f32⟩
  | .local _ .vmem, ⟨7, _⟩ => ⟨S1x4096, .f32⟩
  | .local _ .vmem, ⟨8, _⟩ => ⟨S1x4096, .f32⟩
  | .local _ .vmem, ⟨9, _⟩ => ⟨S1x4096, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceNbcIdeal.lean ====
abbrev S256x4096 : Shape := ⟨2, ![256, 4096]⟩
abbrev S4352x4096 : Shape := ⟨2, ![4352, 4096]⟩
abbrev S1x4096 : Shape := ⟨2, ![1, 4096]⟩
abbrev S_ : Shape := ⟨0, ![]⟩
abbrev S256 : Shape := ⟨1, ![256]⟩
abbrev S256x1 : Shape := ⟨2, ![256, 1]⟩
abbrev S4096 : Shape := ⟨1, ![4096]⟩

abbrev nBuf : Space → Nat
  | .hbm => 43
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S4352x4096, .f32⟩
  | .hbm, ⟨2, _⟩ => ⟨S1x4096, .f32⟩
  | .hbm, ⟨3, _⟩ => ⟨S1x4096, .f32⟩
  | .hbm, ⟨4, _⟩ => ⟨S1x4096, .f32⟩
  | .hbm, ⟨5, _⟩ => ⟨S1x4096, .f32⟩
  | .hbm, ⟨6, _⟩ => ⟨S256x4096, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x4096, .f32⟩
  | .hbm, ⟨18, _⟩ => ⟨S256x4096, .f32⟩
  | .hbm, ⟨19, _⟩ => ⟨S256x4096, .f32⟩
  | .hbm, ⟨20, _⟩ => ⟨S256x4096, .f32⟩
  | .hbm, ⟨21, _⟩ => ⟨S_, .f32⟩
  | .hbm, ⟨22, _⟩ => ⟨S1x4096, .f32⟩
  | .hbm, ⟨23, _⟩ => ⟨S1x4096, .f32⟩
  | .hbm, ⟨24, _⟩ => ⟨S256x4096, .f32⟩
  | .hbm, ⟨25, _⟩ => ⟨S256x4096, .f32⟩
  | .hbm, ⟨26, _⟩ => ⟨S256x4096, .f32⟩
  | .hbm, ⟨27, _⟩ => ⟨S256x4096, .f32⟩
  | .hbm, ⟨28, _⟩ => ⟨S256x4096, .f32⟩
  | .hbm, ⟨29, _⟩ => ⟨S_, .f32⟩
  | .hbm, ⟨30, _⟩ => ⟨S4096, .f32⟩
  | .hbm, ⟨31, _⟩ => ⟨S1x4096, .f32⟩
  | .hbm, ⟨32, _⟩ => ⟨S256x4096, .f32⟩
  | .hbm, ⟨33, _⟩ => ⟨S_, .f32⟩
  | .hbm, ⟨34, _⟩ => ⟨S4096, .f32⟩
  | .hbm, ⟨35, _⟩ => ⟨S1x4096, .f32⟩
  | .hbm, ⟨36, _⟩ => ⟨S256x4096, .f32⟩
  | .hbm, ⟨37, _⟩ => ⟨S256x4096, .f32⟩
  | .hbm, ⟨38, _⟩ => ⟨S256x4096, .f32⟩
  | .hbm, ⟨39, _⟩ => ⟨S_, .f32⟩
  | .hbm, ⟨40, _⟩ => ⟨S4096, .f32⟩
  | .hbm, ⟨41, _⟩ => ⟨S1x4096, .f32⟩
  | .hbm, ⟨42, _⟩ => ⟨S1x4096, .f32⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== KernelAfwd.lean ====
abbrev S16x4096 : Shape := ⟨2, ![16, 4096]⟩
abbrev S4096x1536 : Shape := ⟨2, ![4096, 1536]⟩
abbrev S1x1536 : Shape := ⟨2, ![1, 1536]⟩
abbrev S16x1536 : Shape := ⟨2, ![16, 1536]⟩
abbrev S16x512 : Shape := ⟨2, ![16, 512]⟩
abbrev S512x1536 : Shape := ⟨2, ![512, 1536]⟩

abbrev nBuf : Space → Nat
  | .hbm => 5
  | .vmem => 8
  | .smem => 0
  | _ => 0

abbrev bufTy : (tb : Table) → Fin (tcTables nBuf tb) → BufTy
  | .hbm, ⟨0, _⟩ => ⟨S16x4096, .f32⟩
  | .hbm, ⟨1, _⟩ => ⟨S4096x1536, .f32⟩
  | .hbm, ⟨2, _⟩ => ⟨S1x1536, .f32⟩
  | .hbm, ⟨3, _⟩ => ⟨S16x1536, .f32⟩
  | .hbm, ⟨4, _⟩ => ⟨S16x4096, .f32⟩
  | .local _ .vmem, ⟨0, _⟩ => ⟨S16x512, .f32⟩
  | .local _ .vmem, ⟨1, _⟩ => ⟨S16x512, .f32⟩
  | .local _ .vmem, ⟨2, _⟩ => ⟨S512x1536, .f32⟩
  | .local _ .vmem, ⟨3, _⟩ => ⟨S512x1536, .f32⟩
  | .local _ .vmem, ⟨4, _⟩ => ⟨S1x1536, .f32⟩
  | .local _ .vmem, ⟨5, _⟩ => ⟨S16x1536, .f32⟩
  | .local _ .vmem, ⟨6, _⟩ => ⟨S16x512, .f32⟩
  | .local _ .vmem, ⟨7, _⟩ => ⟨S16x512, .f32⟩
  | _, _ => ⟨S16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceAfwdIdeal.lean ====
abbrev S16x4096 : Shape := ⟨2, ![16, 4096]⟩
abbrev S4096x1536 : Shape := ⟨2, ![4096, 1536]⟩
abbrev S1x1536 : Shape := ⟨2, ![1, 1536]⟩
abbrev S_ : Shape := ⟨0, ![]⟩
abbrev S16x1536 : Shape := ⟨2, ![16, 1536]⟩

abbrev nBuf : Space → Nat
  | .hbm => 15
  | .vmem => 0
  | .smem => 0
  | _ => 0

abbrev bufTy : (tb : Table) → Fin (tcTables nBuf tb) → BufTy
  | .hbm, ⟨0, _⟩ => ⟨S16x4096, .f32⟩
  | .hbm, ⟨1, _⟩ => ⟨S4096x1536, .f32⟩
  | .hbm, ⟨2, _⟩ => ⟨S1x1536, .f32⟩
  | .hbm, ⟨3, _⟩ => ⟨S16x4096, .f32⟩
  | .hbm, ⟨4, _⟩ => ⟨S16x4096, .f32⟩
  | .hbm, ⟨5, _⟩ => ⟨S_, .f32⟩
  | .hbm, ⟨6, _⟩ => ⟨S16x4096, .f32⟩
  | .hbm, ⟨7, _⟩ => ⟨S16x4096, .f32⟩
  | .hbm, ⟨8, _⟩ => ⟨S_, .f32⟩
  | .hbm, ⟨9, _⟩ => ⟨S16x4096, .f32⟩
  | .hbm, ⟨10, _⟩ => ⟨S16x4096, .f32⟩
  | .hbm, ⟨11, _⟩ => ⟨S16x4096, .f32⟩
  | .hbm, ⟨12, _⟩ => ⟨S16x1536, .f32⟩
  | .hbm, ⟨13, _⟩ => ⟨S16x1536, .f32⟩
  | .hbm, ⟨14, _⟩ => ⟨S16x1536, .f32⟩
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== KernelAbwd.lean ====
abbrev S16x4096 : Shape := ⟨2, ![16, 4096]⟩
abbrev S8x1536 : Shape := ⟨2, ![8, 1536]⟩
abbrev S4096x1536 : Shape := ⟨2, ![4096, 1536]⟩
abbrev S16x256 : Shape := ⟨2, ![16, 256]⟩
abbrev S256x1536 : Shape := ⟨2, ![256, 1536]⟩
abbrev S1x1536 : Shape := ⟨2, ![1, 1536]⟩
abbrev S16x1536 : Shape := ⟨2, ![16, 1536]⟩
abbrev S1x4096 : Shape := ⟨2, ![1, 4096]⟩

abbrev nBuf : Space → Nat
  | .hbm => 12
  | .vmem => 20
  | .smem => 0
  | _ => 0

abbrev bufTy : (tb : Table) → Fin (tcTables nBuf tb) → BufTy
  | .hbm, ⟨0, _⟩ => ⟨S16x4096, .f32⟩
  | .hbm, ⟨1, _⟩ => ⟨S8x1536, .f32⟩
  | .hbm, ⟨2, _⟩ => ⟨S8x1536, .f32⟩
  | .hbm, ⟨3, _⟩ => ⟨S4096x1536, .f32⟩
  | .hbm, ⟨4, _⟩ => ⟨S4096x1536, .f32⟩
  | .hbm, ⟨5, _⟩ => ⟨S4096x1536, .f32⟩
  | .hbm, ⟨6, _⟩ => ⟨S4096x1536, .f32⟩
  | .hbm, ⟨7, _⟩ => ⟨S4096x1536, .f32⟩
  | .hbm, ⟨8, _⟩ => ⟨S4096x1536, .f32⟩
  | .hbm, ⟨9, _⟩ => ⟨S4096x1536, .f32⟩
  | .hbm, ⟨10, _⟩ => ⟨S16x4096, .f32⟩
  | .hbm, ⟨11, _⟩ => ⟨S1x4096, .f32⟩
  | .local _ .vmem, ⟨0, _⟩ => ⟨S16x256, .f32⟩
  | .local _ .vmem, ⟨1, _⟩ => ⟨S16x256, .f32⟩
  | .local _ .vmem, ⟨2, _⟩ => ⟨S8x1536, .f32⟩
  | .local _ .vmem, ⟨3, _⟩ => ⟨S8x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | .local _ .vmem, ⟨14, _⟩ => ⟨S256x1536, .f32⟩
  | .local _ .vmem, ⟨15, _⟩ => ⟨S256x1536, .f32⟩
  | .local _ .vmem, ⟨16, _⟩ => ⟨S256x1536, .f32⟩
  | .local _ .vmem, ⟨17, _⟩ => ⟨S256x1536, .f32⟩
  | .local _ .vmem, ⟨18, _⟩ => ⟨S16x256, .f32⟩
  | .local _ .vmem, ⟨19, _⟩ => ⟨S16x256, .f32⟩
  | _, _ => ⟨S16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceAbwdIdeal.lean ====
abbrev S16x4096 : Shape := ⟨2, ![16, 4096]⟩
abbrev S8x1536 : Shape := ⟨2, ![8, 1536]⟩
abbrev S4096x1536 : Shape := ⟨2, ![4096, 1536]⟩
abbrev S_ : Shape := ⟨0, ![]⟩
abbrev S1536 : Shape := ⟨1, ![1536]⟩
abbrev S1x1536 : Shape := ⟨2, ![1, 1536]⟩
abbrev S9x4096 : Shape := ⟨2, ![9, 4096]⟩
abbrev S9x1536 : Shape := ⟨2, ![9, 1536]⟩
abbrev S1536x4096 : Shape := ⟨2, ![1536, 4096]⟩
abbrev S1x4096 : Shape := ⟨2, ![1, 4096]⟩

abbrev nBuf : Space → Nat
  | .hbm => 50
  | .vmem => 0
  | .smem => 0
  | _ => 0

abbrev bufTy : (tb : Table) → Fin (tcTables nBuf tb) → BufTy
  | .hbm, ⟨0, _⟩ => ⟨S16x4096, .f32⟩
  | .hbm, ⟨1, _⟩ => ⟨S8x1536, .f32⟩
  | .hbm, ⟨2, _⟩ => ⟨S8x1536, .f32⟩
  | .hbm, ⟨3, _⟩ => ⟨S4096x1536, .f32⟩
  | .hbm, ⟨4, _⟩ => ⟨S4096x1536, .f32⟩
  | .hbm, ⟨5, _⟩ => ⟨S4096x1536, .f32⟩
  | .hbm, ⟨6, _⟩ => ⟨S_, .f32⟩
  | .hbm, ⟨7, _⟩ => ⟨S1536, .f32⟩
  | .hbm, ⟨8, _⟩ => ⟨S1x1536, .f32⟩
  | .hbm, ⟨9, _⟩ => ⟨S9x4096, .f32⟩
  | .hbm, ⟨10, _⟩ => ⟨S9x1536, .f32⟩
  | .hbm, ⟨11, _⟩ => ⟨S9x1536, .f32⟩
  | .hbm, ⟨12, _⟩ => ⟨S1536x4096, .f32⟩
  | .hbm, ⟨13, _⟩ => ⟨S4096x1536, .f32⟩
  | .hbm, ⟨14, _⟩ => ⟨S1x4096, .f32⟩
  | .hbm, ⟨15, _⟩ => ⟨S1x1536, .f32⟩
  | .hbm, ⟨16, _⟩ => ⟨S1x4096, .f32⟩
  | .hbm, ⟨17, _⟩ => ⟨S_, .f32⟩
  | .hbm, ⟨18, _⟩ => ⟨S4096x1536, .f32⟩
  | .hbm, ⟨19, _⟩ => ⟨S4096x1536, .f32⟩
  | .hbm, ⟨20, _⟩ => ⟨S_, .f32⟩
  | .hbm, ⟨21, _⟩ => ⟨S4096x1536, .f32⟩
  | .hbm, ⟨22, _⟩ => ⟨S4096x1536, .f32⟩
  | .hbm, ⟨23, _⟩ => ⟨S4096x1536, .f32⟩
  | .hbm, ⟨24, _⟩ => ⟨S_, .f32⟩
  | .hbm, ⟨25, _⟩ => ⟨S4096x1536, .f32⟩
  | .hbm, ⟨26, _⟩ => ⟨S4096x1536, .f32⟩
  | .hbm, ⟨27, _⟩ => ⟨S4096x1536, .f32⟩
  | .hbm, ⟨28, _⟩ => ⟨S_, .f32⟩
  | .hbm, ⟨29, _⟩ => ⟨S4096x1536, .f32⟩
  | .hbm, ⟨30, _⟩ => ⟨S4096x1536, .f32⟩
  | .hbm, ⟨31, _⟩ => ⟨S4096x1536, .f32⟩
  | .hbm, ⟨32, _⟩ => ⟨S_, .f32⟩
  | .hbm, ⟨33, _⟩ => ⟨S4096x1536, .f32⟩
  | .hbm, ⟨34, _⟩ => ⟨S4096x1536, .f32⟩
  | .hbm, ⟨35, _⟩ => ⟨S_, .f32⟩
  | .hbm, ⟨36, _⟩ => ⟨S4096x1536, .f32⟩
  | .hbm, ⟨37, _⟩ => ⟨S4096x1536, .f32⟩
  | .hbm, ⟨38, _⟩ => ⟨S4096x1536, .f32⟩
  | .hbm, ⟨39, _⟩ => ⟨S_, .f32⟩
  | .hbm, ⟨40, _⟩ => ⟨S4096x1536, .f32⟩
  | .hbm, ⟨41, _⟩ => ⟨S4096x1536, .f32⟩
  | .hbm, ⟨42, _⟩ => ⟨S4096x1536, .f32⟩
  | .hbm, ⟨43, _⟩ => ⟨S_, .f32⟩
  | .hbm, ⟨44, _⟩ => ⟨S4096x1536, .f32⟩
  | .hbm, ⟨45, _⟩ => ⟨S4096x1536, .f32⟩
  | .hbm, ⟨46, _⟩ => ⟨S4096x1536, .f32⟩
  | .hbm, ⟨47, _⟩ => ⟨S_, .f32⟩
  | .hbm, ⟨48, _⟩ => ⟨S4096x1536, .f32⟩
  | .hbm, ⟨49, _⟩ => ⟨S4096x1536, .f32⟩
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_8 : Ref sig .tc := ⟨.hbm, 47, rfl⟩
abbrev main_v32 : Ref sig .tc := ⟨.hbm, 48, rfl⟩
abbrev main_v33 : Ref sig .tc := ⟨.hbm, 49, rfl⟩

abbrev nD : Nat := 1
abbrev τ : Topo := Topo.v7x

variable {F : FTy → Type} [FloatOps F]
-- ==== Proof.GateScalars.lean ====
module

public import Idealize.ShloMosaic.Lib.Pointwise
public import Idealize.ShloMosaic.PureOps.Ideal
/-! # The gate of the recurrence, one element at a time

The scalar functions that the kernel's body applies at one row and one channel, over the extended reals. `c` is the
channel's coefficient, `r` and `ig` the values of the recurrence gate and of the input gate, `u` the input, `ca` and
`cb` the cotangents of the decay and of the input term. -/
@[expose] public section

noncomputable section
open Idealize.ShloMosaic
namespace Cert.Gate

/-- The kernel's logistic function, by way of the hyperbolic tangent. -/
def kSig (v : EReal) : EReal :=
  Ideal.ofBits .f32 0x3F000000#32 * Ideal.tanh (Ideal.ofBits .f32 0x3F000000#32 * v) + Ideal.ofBits .f32 0x3F000000#32

/-- The kernel's coefficient `-8 softplus(-lam)`. -/
def kC (lam : EReal) : EReal :=
  Ideal.ofBits .f32 0xC1000000#32
    * (max (0 - lam) 0 + Ideal.log1p (Ideal.exp (0 - max (0 - lam) (-(0 - lam)))))

/-- The decay. -/
def kA (c r : EReal) : EReal := Ideal.exp (c * r)

/-- The factor of the input, `sqrt(1 - a^2)`, by way of the hyperbolic tangent. -/
def kS (c r : EReal) : EReal := Ideal.sqrt ((0 - Ideal.tanh (c * r)) * (1 + kA c r * kA c r))

/-- The gradient of the logarithm of the decay. -/
def kDla (c r ig u ca cb : EReal) : EReal :=
  ca * kA c r - Ideal.div ((cb * ig * u) * (kA c r * kA c r)) (kS c r)

/-- The gradient of the recurrence gate's pre-activation. -/
def kP (c r ig u ca cb : EReal) : EReal := (kDla c r ig u ca cb * c) * (r * (1 - r))

/-- The gradient of the input gate's pre-activation. -/
def kQ (c r ig u cb : EReal) : EReal := ((cb * kS c r) * u) * (ig * (1 - ig))

/-- The direct part of the gradient of the input. -/
def kT (c r ig cb : EReal) : EReal := (cb * kS c r) * ig

/-- The summand of the coefficient's gradient. -/
def kG (c r ig u ca cb : EReal) : EReal := kDla c r ig u ca cb * r

end Cert.Gate
-- ==== Proof.GatePay.lean ====
module

public import proofs.«01_k».proof.Proof.Gen.KernelIdeal.Value
public import proofs.«01_k».proof.Proof.GateScalars
public import Idealize.ShloMosaic.Lib.Pipeline.ValueKit
public import Idealize.ShloMosaic.Lib.Pointwise
/-! # The values that the gate kernel's body stores, at one element

Each lemma reads one of the body's named tensors at an index, for any operands. -/
@[expose] public section

set_option maxRecDepth 16384
noncomputable section
open Idealize.ShloMosaic Idealize.ShloMosaic.TcCoe Idealize.SL.Sem
namespace Cert.KernelIdeal.Gates
open Cert.KernelIdeal Cert.KernelIdeal.Gen Cert.Gate

theorem coef0 (v6 : Vec Ideal S1x256 .f32) (q : Fin 256) : k0_pay8 v6 (ix2 0 q) = kC (v6 (ix2 0 q)) := by
  pointwise [k0_pay8, kC]
  rfl
theorem rec0 (v3 : Vec Ideal S1088x256 .f32) (v19 : Vec Ideal S1x1x256x256 .bf16) (v22 : Vec Ideal S1x256 .f32) (p : Fin 1088) (q : Fin 256) :
    k0_pay9 v3 v19 v22 (ix2 p q) = kSig (∑ k : Fin 256, v3 (ix2 p k) * v19 (ix4 0 0 k q) + v22 (ix2 0 q)) := by
  pointwise [k0_pay9, k0_pay6, kSig]
theorem inp0 (v3 : FVec Ideal S1088x256 .bf16) (v19 : Vec Ideal S1x1x256x256 .bf16) (v22 : Vec Ideal S1x256 .f32) (p : Fin 1088) (q : Fin 256) :
    k0_pay10 v3 v19 v22 (ix2 p q) = kSig (∑ k : Fin 256, v3 (ix2 p k) * v19 (ix4 0 0 k q) + v22 (ix2 0 q)) := by
  pointwise [k0_pay10, kSig]
theorem sq0 (v18 : FVec Ideal S1x256 .f32) (v31 : FVec Ideal S1088x256 .f32) (p : Fin 1088) (q : Fin 256) :
    k0_pay13 v18 v31 (ix2 p q) = kS (v18 (ix2 0 q)) (v31 (ix2 p q)) := by
  pointwise [k0_pay13, k0_pay12, k0_pay11, kS, kA]
theorem dla0 (v3 : Vec Ideal S1088x256 .f32) (v4 : FVec Ideal S1088x256 .bf16) (v18 : FVec Ideal S1x256 .f32) (v31 : FVec Ideal S1088x256 .f32)
    (v32 : Vec Ideal S1x1x256x256 .bf16) (v35 : Vec Ideal S1x256 .f32) (v56 v61 : Vec Ideal S1x1088x256 .f32) (p : Fin 1088) (q : Fin 256) :
    k0_pay17 v3 v4 v18 v31 v32 v35 v56 v61 (ix2 p q)
      = kDla (v18 (ix2 0 q)) (v31 (ix2 p q)) (k0_pay10 v4 v32 v35 (ix2 p q)) (v3 (ix2 p q)) (v61 (ix3 0 p q)) (v56 (ix3 0 p q)) := by
  pointwise [k0_pay17, k0_pay14, k0_pay13, k0_pay12, k0_pay11, kDla, kS, kA]
theorem dpr0 (v18 : FVec Ideal S1x256 .f32) (v31 v69 : FVec Ideal S1088x256 .f32) (p : Fin 1088) (q : Fin 256) :
    k0_pay21 v18 v31 v69 (ix2 p q) = (v69 (ix2 p q) * v18 (ix2 0 q)) * (v31 (ix2 p q) * (1 - v31 (ix2 p q))) := by
  pointwise [k0_pay21]
theorem dpi0 (v3 : Vec Ideal S1088x256 .f32) (v44 v58 : FVec Ideal S1088x256 .f32) (p : Fin 1088) (q : Fin 256) :
    k0_pay22 v3 v44 v58 (ix2 p q) = (v58 (ix2 p q) * v3 (ix2 p q)) * (v44 (ix2 p q) * (1 - v44 (ix2 p q))) := by
  pointwise [k0_pay22]

/-! ## The second direction -/

theorem coef1 (v6 : Vec Ideal S1x256 .f32) (q : Fin 256) : k0_pay32 v6 (ix2 0 q) = kC (v6 (ix2 0 q)) := by
  pointwise [k0_pay32, kC]
  rfl
theorem rec1 (v3 : FVec Ideal S1088x256 .bf16) (v19 : Vec Ideal S1x1x256x256 .bf16) (v22 : Vec Ideal S1x256 .f32) (p : Fin 1088) (q : Fin 256) :
    k0_pay34 (k0_pay33 v3 v19) v22 (ix2 p q) = kSig (∑ k : Fin 256, v3 (ix2 p k) * v19 (ix4 0 0 k q) + v22 (ix2 0 q)) := by
  pointwise [k0_pay34, k0_pay33, kSig]
theorem inp1 (v3 : FVec Ideal S1088x256 .bf16) (v19 : Vec Ideal S1x1x256x256 .bf16) (v22 : Vec Ideal S1x256 .f32) (p : Fin 1088) (q : Fin 256) :
    k0_pay35 v3 v19 v22 (ix2 p q) = kSig (∑ k : Fin 256, v3 (ix2 p k) * v19 (ix4 0 0 k q) + v22 (ix2 0 q)) := by
  pointwise [k0_pay35, kSig]
theorem dec1 (v136 : FVec Ideal S1x256 .f32) (v139 : FVec Ideal S1088x256 .f32) (v140 : Vec Ideal S1x256 .f32) (p : Fin 1088) (q : Fin 256) :
    k0_pay37 v136 v139 v140 (ix2 p q) = kA (v136 (ix2 0 q)) (k0_pay34 v139 v140 (ix2 p q)) := by
  pointwise [k0_pay37, k0_pay36, kA]
theorem sq1 (v136 : FVec Ideal S1x256 .f32) (v139 : FVec Ideal S1088x256 .f32) (v140 : Vec Ideal S1x256 .f32) (p : Fin 1088) (q : Fin 256) :
    k0_pay38 v136 v139 v140 (ix2 p q) = kS (v136 (ix2 0 q)) (k0_pay34 v139 v140 (ix2 p q)) := by
  pointwise [k0_pay38, k0_pay37, k0_pay36, kS, kA]
theorem dla1 (v3 : Vec Ideal S1088x256 .f32) (v162 v165 v173 v175 : FVec Ideal S1088x256 .f32) (v179 : Vec Ideal S1x1088x256 .f32) (p : Fin 1088) (q : Fin 256) :
    k0_pay42 v3 v162 v165 v173 v175 v179 (ix2 p q)
      = v179 (ix3 0 p q) * v165 (ix2 p q)
        - Ideal.div ((v175 (ix2 p q) * v162 (ix2 p q) * v3 (ix2 p q)) * (v165 (ix2 p q) * v165 (ix2 p q))) (v173 (ix2 p q)) := by
  pointwise [k0_pay42]
theorem dpr1 (v3 : Vec Ideal S1088x256 .f32) (v136 : FVec Ideal S1x256 .f32) (v149 v162 v165 v173 v175 : FVec Ideal S1088x256 .f32) (v179 : Vec Ideal S1x1088x256 .f32)
    (p : Fin 1088) (q : Fin 256) :
    k0_pay44 v3 v136 v149 v162 v165 v173 v175 v179 (ix2 p q)
      = (k0_pay42 v3 v162 v165 v173 v175 v179 (ix2 p q) * v136 (ix2 0 q)) * (v149 (ix2 p q) * (1 - v149 (ix2 p q))) := by
  pointwise [k0_pay44]
theorem dpi1 (v3 : Vec Ideal S1088x256 .f32) (v44 v58 : FVec Ideal S1088x256 .f32) (p : Fin 1088) (q : Fin 256) :
    k0_pay45 v3 v44 v58 (ix2 p q) = (v58 (ix2 p q) * v3 (ix2 p q)) * (v44 (ix2 p q) * (1 - v44 (ix2 p q))) := by
  pointwise [k0_pay45]

theorem mat3 (v : Vec Ideal S2x256x256 .f32) (d : Fin 2) (k q : Fin 256) : (k0_pay53 v (ix4 d 0 k q) : EReal) = v (ix3 d k q) := by
  pointwise [k0_pay53]
theorem mat4 (v : Vec Ideal S2x256x256 .f32) (d : Fin 2) (k q : Fin 256) : (k0_pay54 v (ix4 d 0 k q) : EReal) = v (ix3 d k q) := by
  pointwise [k0_pay54]

/-! ## The two directions alike, in a point's blocks -/

/-- A gate of direction `d` at row `p` and channel `q` of a point's blocks. -/
def bGate (x0 : Vec Ideal S1088x256 .f32) (w : Vec Ideal S2x1x256x256 .bf16) (b : Vec Ideal S2x256 .f32) (d : Fin 2) (p : Fin 1088) (q : Fin 256) : EReal :=
  kSig (∑ k : Fin 256, x0 (ix2 p k) * w (ix4 d 0 k q) + b (ix2 d q))
/-- The gradient of the recurrence gate's pre-activation. -/
def bP (x0 : Vec Ideal S1088x256 .f32) (x1 x2 : Vec Ideal S2x1088x256 .f32) (x3 x4 : Vec Ideal S2x1x256x256 .bf16) (x5 x6 x7 : Vec Ideal S2x256 .f32)
    (d : Fin 2) (p : Fin 1088) (q : Fin 256) : EReal :=
  kP (kC (x7 (ix2 d q))) (bGate x0 x3 x5 d p q) (bGate x0 x4 x6 d p q) (x0 (ix2 p q)) (x1 (ix3 d p q)) (x2 (ix3 d p q))
/-- The gradient of the input gate's pre-activation. -/
def bQ (x0 : Vec Ideal S1088x256 .f32) (x2 : Vec Ideal S2x1088x256 .f32) (x3 x4 : Vec Ideal S2x1x256x256 .bf16) (x5 x6 x7 : Vec Ideal S2x256 .f32)
    (d : Fin 2) (p : Fin 1088) (q : Fin 256) : EReal :=
  kQ (kC (x7 (ix2 d q))) (bGate x0 x3 x5 d p q) (bGate x0 x4 x6 d p q) (x0 (ix2 p q)) (x2 (ix3 d p q))
/-- The summand of the coefficient's gradient. -/
def bG (x0 : Vec Ideal S1088x256 .f32) (x1 x2 : Vec Ideal S2x1088x256 .f32) (x3 x4 : Vec Ideal S2x1x256x256 .bf16) (x5 x6 x7 : Vec Ideal S2x256 .f32)
    (d : Fin 2) (p : Fin 1088) (q : Fin 256) : EReal :=
  kG (kC (x7 (ix2 d q))) (bGate x0 x3 x5 d p q) (bGate x0 x4 x6 d p q) (x0 (ix2 p q)) (x1 (ix3 d p q)) (x2 (ix3 d p q))
/-- The direct part of the gradient of the input. -/
def bT (x0 : Vec Ideal S1088x256 .f32) (x2 : Vec Ideal S2x1088x256 .f32) (x3 x4 : Vec Ideal S2x1x256x256 .bf16) (x5 x6 x7 : Vec Ideal S2x256 .f32)
    (d : Fin 2) (p : Fin 1088) (q : Fin 256) : EReal :=
  kT (kC (x7 (ix2 d q))) (bGate x0 x3 x5 d p q) (bGate x0 x4 x6 d p q) (x2 (ix3 d p q))

end Cert.KernelIdeal.Gates
-- ==== Proof.GateSteps.lean ====
module

public import proofs.«01_k».proof.Proof.Gen.KernelIdeal.Value
public import proofs.«01_k».proof.Proof.GatePay
public import Idealize.ShloMosaic.Lib.Pipeline.ValueKit
public import Idealize.ShloMosaic.Lib.Pipeline.ReadBack
public import Idealize.ShloMosaic.Lib.Pointwise
/-! # One grid point of the gate kernel

What one grid point adds to the blocks that the kernel accumulates over the four row tiles of a head, and what it
writes of the gradient of the input. -/
@[expose] public section

set_option maxRecDepth 16384
noncomputable section
open Idealize.ShloMosaic Idealize.ShloMosaic.TcCoe Idealize.SL.Sem
open Idealize.ShloMosaic.Pipeline (Dat)
namespace Cert.KernelIdeal.Gates
open Cert.KernelIdeal Cert.KernelIdeal.Gen Cert.Gate

/-! ## Reading an array of two rows, each stored by itself -/

theorem rows_one (w1 w0 : FVec Ideal S1x256 .f32) (i1 i0) (L : List (View.Piece (Elt Ideal) S2x256 .f32)) (q : Fin 256) :
    View.canon ((⟨Rect.unit (s := S2x256) ![1, 0] ![1, 256] i1, w1⟩ : View.Piece (Elt Ideal) S2x256 .f32)
        :: ⟨Rect.unit (s := S2x256) ![0, 0] ![1, 256] i0, w0⟩ :: L) (ix2 1 q) = w1 (ix2 0 q) := by
  have he : (Rect.unit (s := S2x256) ![1, 0] ![1, 256] i1).emb (ix2 (0 : Fin 1) q) = ix2 (1 : Fin 2) q := by
    funext x; apply Fin.ext
    fin_cases x
    · rfl
    · show 0 + 1 * q.val = q.val; omega
  rw [← he]
  exact View.canon_cons_emb (Val := Elt Ideal) (e := .f32) (Rect.unit (s := S2x256) ![1, 0] ![1, 256] i1) w1 _ _

theorem rows_zero (w1 w0 : FVec Ideal S1x256 .f32) (i1 i0) (L : List (View.Piece (Elt Ideal) S2x256 .f32)) (q : Fin 256) :
    View.canon ((⟨Rect.unit (s := S2x256) ![1, 0] ![1, 256] i1, w1⟩ : View.Piece (Elt Ideal) S2x256 .f32)
        :: ⟨Rect.unit (s := S2x256) ![0, 0] ![1, 256] i0, w0⟩ :: L) (ix2 0 q) = w0 (ix2 0 q) := by
  rw [View.canon_cons_of_not_mem]
  · have he : (Rect.unit (s := S2x256) ![0, 0] ![1, 256] i0).emb (ix2 (0 : Fin 1) q) = ix2 (0 : Fin 2) q := by
      funext x; apply Fin.ext
      fin_cases x
      · rfl
      · show 0 + 1 * q.val = q.val; omega
    rw [← he]
    exact View.canon_cons_emb (Val := Elt Ideal) (e := .f32) (Rect.unit (s := S2x256) ![0, 0] ![1, 256] i0) w0 _ _
  · intro hm
    obtain ⟨i, hi, he⟩ := (LoadRect.mem_set _).mp hm (0 : Fin 2)
    have he' : 0 = 1 + 1 * i := he
    omega

theorem mats_one (w1 w0 : FVec Ideal S1x256x256 .f32) (i1 i0) (L : List (View.Piece (Elt Ideal) S2x256x256 .f32)) (p q : Fin 256) :
    View.canon ((⟨Rect.unit (s := S2x256x256) ![1, 0, 0] ![1, 256, 256] i1, w1⟩ : View.Piece (Elt Ideal) S2x256x256 .f32)
        :: ⟨Rect.unit (s := S2x256x256) ![0, 0, 0] ![1, 256, 256] i0, w0⟩ :: L) (ix3 1 p q) = w1 (ix3 0 p q) := by
  have he : (Rect.unit (s := S2x256x256) ![1, 0, 0] ![1, 256, 256] i1).emb (ix3 (0 : Fin 1) p q) = ix3 (1 : Fin 2) p q := by
    funext x; apply Fin.ext
    fin_cases x
    · rfl
    · show 0 + 1 * p.val = p.val; omega
    · show 0 + 1 * q.val = q.val; omega
  rw [← he]
  exact View.canon_cons_emb (Val := Elt Ideal) (e := .f32) (Rect.unit (s := S2x256x256) ![1, 0, 0] ![1, 256, 256] i1) w1 _ _

theorem mats_zero (w1 w0 : FVec Ideal S1x256x256 .f32) (i1 i0) (L : List (View.Piece (Elt Ideal) S2x256x256 .f32)) (p q : Fin 256) :
    View.canon ((⟨Rect.unit (s := S2x256x256) ![1, 0, 0] ![1, 256, 256] i1, w1⟩ : View.Piece (Elt Ideal) S2x256x256 .f32)
        :: ⟨Rect.unit (s := S2x256x256) ![0, 0, 0] ![1, 256, 256] i0, w0⟩ :: L) (ix3 0 p q) = w0 (ix3 0 p q) := by
  rw [View.canon_cons_of_not_mem]
  · have he : (Rect.unit (s := S2x256x256) ![0, 0, 0] ![1, 256, 256] i0).emb (ix3 (0 : Fin 1) p q) = ix3 (0 : Fin 2) p q := by
      funext x; apply Fin.ext
      fin_cases x
      · rfl
      · show 0 + 1 * p.val = p.val; omega
      · show 0 + 1 * q.val = q.val; omega
    rw [← he]
    exact View.canon_cons_emb (Val := Elt Ideal) (e := .f32) (Rect.unit (s := S2x256x256) ![0, 0, 0] ![1, 256, 256] i0) w0 _ _
  · intro hm
    obtain ⟨i, hi, he⟩ := (LoadRect.mem_set _).mp hm (0 : Fin 3)
    have he' : 0 = 1 + 1 * i := he
    omega

theorem mats_read {κ : Kind} {sp : Space} (v : View sig κ sp S2x256x256 .f32) (i) (L : List (View.Piece (Elt Ideal) S2x256x256 .f32)) (y : S2x256x256.Idx) :
    v.readCov L (Rect.unit (s := S2x256x256) ![0, 0, 0] ![2, 256, 256] i).toLoadRect y = View.canon L y := by
  rw [View.readCov_eq_canon']
  refine congrArg (View.canon L) (funext fun a => Fin.ext ?_)
  fin_cases a <;> exact (Nat.zero_add _).trans (Nat.one_mul _)

variable (m : (ℓ : Loc nD τ sig) → Buf (Elt Ideal) ℓ)

/-- The terms that point `t` adds, at its own blocks. -/
abbrev tP (c : Dev nD) (t : Fin cfg0.N) := bP (iblk m c 0 t) (iblk m c 1 t) (iblk m c 2 t) (iblk m c 3 t) (iblk m c 4 t) (iblk m c 5 t) (iblk m c 6 t) (iblk m c 7 t)
abbrev tQ (c : Dev nD) (t : Fin cfg0.N) := bQ (iblk m c 0 t) (iblk m c 2 t) (iblk m c 3 t) (iblk m c 4 t) (iblk m c 5 t) (iblk m c 6 t) (iblk m c 7 t)
abbrev tG (c : Dev nD) (t : Fin cfg0.N) := bG (iblk m c 0 t) (iblk m c 1 t) (iblk m c 2 t) (iblk m c 3 t) (iblk m c 4 t) (iblk m c 5 t) (iblk m c 6 t) (iblk m c 7 t)
abbrev tT (c : Dev nD) (t : Fin cfg0.N) := bT (iblk m c 0 t) (iblk m c 2 t) (iblk m c 3 t) (iblk m c 4 t) (iblk m c 5 t) (iblk m c 6 t) (iblk m c 7 t)
abbrev tU (c : Dev nD) (t : Fin cfg0.N) : Vec Ideal S1088x256 .f32 := iblk m c 0 t

/-- What the point before left in the blocks. -/
abbrev prev (c : Dev nD) (t : Fin cfg0.N) := outsAt0 m c (t.val - 1) (Nat.lt_of_le_of_lt (Nat.sub_le _ _) t.isLt)

set_option maxHeartbeats 1000000 in
/-- A point inside a head's sweep adds its terms to what the point before left. -/
theorem step_B (c : Dev nD) (t : Fin cfg0.N) (h0 : ¬ t.val % 4 = 0) (h1 : ¬ t.val % 4 = 3) (d : Fin 2) (q : Fin 256) :
    (outsAt0 m c t.val t.isLt).2.2.2.1 (ix2 d q) = (prev m c t).2.2.2.1 (ix2 d q) + ∑ p : Fin 1088, tP m c t d p q
    ∧ (outsAt0 m c t.val t.isLt).2.2.2.2.1 (ix2 d q) = (prev m c t).2.2.2.2.1 (ix2 d q) + ∑ p : Fin 1088, tQ m c t d p q
    ∧ (outsAt0 m c t.val t.isLt).2.2.2.2.2.1 (ix2 d q) = (prev m c t).2.2.2.2.2.1 (ix2 d q) + ∑ p : Fin 1088, tG m c t d p q
    ∧ ∀ k : Fin 256, (outsAt0 m c t.val t.isLt).2.2.2.2.2.2.1 (ix3 d k q) = (prev m c t).2.2.2.2.2.2.1 (ix3 d k q) + ∑ p : Fin 1088, tU m c t (ix2 p k) * tP m c t d p q
      ∧ (outsAt0 m c t.val t.isLt).2.2.2.2.2.2.2 (ix3 d k q) = (prev m c t).2.2.2.2.2.2.2 (ix3 d k q) + ∑ p : Fin 1088, tU m c t (ix2 p k) * tQ m c t d p q := by
  rw [outsAt0_B m c t h0 h1]
  fin_cases d
  · refine ⟨?_, ?_, ?_, fun k => ⟨?_, ?_⟩⟩
    all_goals frame_out
    iterate 3
      · refine (rows_zero _ _ _ _ _ q).trans ?_
        pointwise [k0_pay20, k0_pay18, k0_pay19, k0_pay23, k0_pay24, k0_pay30, k0_pay31, k0_pay25, k0_pay26, dpr0, dpi0, dla0, k0_pay15, k0_pay14, sq0, rec0, inp0, coef0, k0_pay6, bP, bQ, bG, bGate, kP, kQ, kG, kDla]
    all_goals
      refine (mats_zero _ _ _ _ _ k q).trans ?_
      pointwise [k0_pay20, k0_pay18, k0_pay19, k0_pay23, k0_pay24, k0_pay30, k0_pay31, k0_pay25, k0_pay26, dpr0, dpi0, dla0, k0_pay15, k0_pay14, sq0, rec0, inp0, coef0, k0_pay6, bP, bQ, bG, bGate, kP, kQ, kG, kDla]
      rw [read_unread_whole]
  · refine ⟨?_, ?_, ?_, fun k => ⟨?_, ?_⟩⟩
    all_goals frame_out
    iterate 3
      · refine (rows_one _ _ _ _ _ q).trans ?_
        pointwise [k0_pay43, k0_pay46, k0_pay47, k0_pay51, k0_pay52, k0_pay48, k0_pay49, dpr1, dpi1, dla1, k0_pay40, k0_pay39, sq1, dec1, rec1, inp1, coef1, k0_pay6, bP, bQ, bG, bGate, kP, kQ, kG, kDla]
    all_goals
      refine (mats_one _ _ _ _ _ k q).trans ?_
      pointwise [k0_pay43, k0_pay46, k0_pay47, k0_pay51, k0_pay52, k0_pay48, k0_pay49, dpr1, dpi1, dla1, k0_pay40, k0_pay39, sq1, dec1, rec1, inp1, coef1, k0_pay6, bP, bQ, bG, bGate, kP, kQ, kG, kDla]
      rw [read_unread_whole]

set_option maxHeartbeats 1000000 in
/-- The first point of a head's sweep adds its terms to zero. -/
theorem step_A (c : Dev nD) (t : Fin cfg0.N) (h0 : t.val % 4 = 0) (h1 : ¬ t.val % 4 = 3) (d : Fin 2) (q : Fin 256) :
    (outsAt0 m c t.val t.isLt).2.2.2.1 (ix2 d q) = 0 + ∑ p : Fin 1088, tP m c t d p q
    ∧ (outsAt0 m c t.val t.isLt).2.2.2.2.1 (ix2 d q) = 0 + ∑ p : Fin 1088, tQ m c t d p q
    ∧ (outsAt0 m c t.val t.isLt).2.2.2.2.2.1 (ix2 d q) = 0 + ∑ p : Fin 1088, tG m c t d p q
    ∧ ∀ k : Fin 256, (outsAt0 m c t.val t.isLt).2.2.2.2.2.2.1 (ix3 d k q) = 0 + ∑ p : Fin 1088, tU m c t (ix2 p k) * tP m c t d p q
      ∧ (outsAt0 m c t.val t.isLt).2.2.2.2.2.2.2 (ix3 d k q) = 0 + ∑ p : Fin 1088, tU m c t (ix2 p k) * tQ m c t d p q := by
  rw [outsAt0_A m c t h0 h1]
  fin_cases d
  · refine ⟨?_, ?_, ?_, fun k => ⟨?_, ?_⟩⟩
    all_goals
      frame_open
      simp (disch := decide) only [↓ View.readCov_skip, ↓ View.readCov_cons_toLoadRect, ↓ View.readCov_fill]
    all_goals frame_out
    iterate 3
      · refine (rows_zero _ _ _ _ _ q).trans ?_
        pointwise [k0_pay1, k0_pay2, k0_pay3, k0_pay4, k0_pay5, k0_pay20, k0_pay18, k0_pay19, k0_pay23, k0_pay24, k0_pay30, k0_pay31, k0_pay25, k0_pay26, dpr0, dpi0, dla0, k0_pay15, k0_pay14, sq0, rec0, inp0, coef0, k0_pay6, bP, bQ, bG, bGate, kP, kQ, kG, kDla]
    all_goals
      refine (mats_zero _ _ _ _ _ k q).trans ?_
      pointwise [k0_pay1, k0_pay2, k0_pay3, k0_pay4, k0_pay5, k0_pay20, k0_pay18, k0_pay19, k0_pay23, k0_pay24, k0_pay30, k0_pay31, k0_pay25, k0_pay26, dpr0, dpi0, dla0, k0_pay15, k0_pay14, sq0, rec0, inp0, coef0, k0_pay6, bP, bQ, bG, bGate, kP, kQ, kG, kDla]
  · refine ⟨?_, ?_, ?_, fun k => ⟨?_, ?_⟩⟩
    all_goals
      frame_open
      simp (disch := decide) only [↓ View.readCov_skip, ↓ View.readCov_cons_toLoadRect, ↓ View.readCov_fill]
    all_goals frame_out
    iterate 3
      · refine (rows_one _ _ _ _ _ q).trans ?_
        pointwise [k0_pay1, k0_pay2, k0_pay3, k0_pay4, k0_pay5, k0_pay43, k0_pay46, k0_pay47, k0_pay51, k0_pay52, k0_pay48, k0_pay49, dpr1, dpi1, dla1, k0_pay40, k0_pay39, sq1, dec1, rec1, inp1, coef1, k0_pay6, bP, bQ, bG, bGate, kP, kQ, kG, kDla]
    all_goals
      refine (mats_one _ _ _ _ _ k q).trans ?_
      pointwise [k0_pay1, k0_pay2, k0_pay3, k0_pay4, k0_pay5, k0_pay43, k0_pay46, k0_pay47, k0_pay51, k0_pay52, k0_pay48, k0_pay49, dpr1, dpi1, dla1, k0_pay40, k0_pay39, sq1, dec1, rec1, inp1, coef1, k0_pay6, bP, bQ, bG, bGate, kP, kQ, kG, kDla]

set_option maxHeartbeats 1000000 in
/-- The last point of a head's sweep adds its terms to what the point before left. -/
theorem step_C (c : Dev nD) (t : Fin cfg0.N) (h0 : ¬ t.val % 4 = 0) (h1 : t.val % 4 = 3) (d : Fin 2) (q : Fin 256) :
    (outsAt0 m c t.val t.isLt).2.2.2.1 (ix2 d q) = (prev m c t).2.2.2.1 (ix2 d q) + ∑ p : Fin 1088, tP m c t d p q
    ∧ (outsAt0 m c t.val t.isLt).2.2.2.2.1 (ix2 d q) = (prev m c t).2.2.2.2.1 (ix2 d q) + ∑ p : Fin 1088, tQ m c t d p q
    ∧ (outsAt0 m c t.val t.isLt).2.2.2.2.2.1 (ix2 d q) = (prev m c t).2.2.2.2.2.1 (ix2 d q) + ∑ p : Fin 1088, tG m c t d p q
    ∧ ∀ k : Fin 256, (outsAt0 m c t.val t.isLt).2.2.2.2.2.2.1 (ix3 d k q) = (prev m c t).2.2.2.2.2.2.1 (ix3 d k q) + ∑ p : Fin 1088, tU m c t (ix2 p k) * tP m c t d p q
      ∧ (outsAt0 m c t.val t.isLt).2.2.2.2.2.2.2 (ix3 d k q) = (prev m c t).2.2.2.2.2.2.2 (ix3 d k q) + ∑ p : Fin 1088, tU m c t (ix2 p k) * tQ m c t d p q := by
  rw [outsAt0_C m c t h0 h1]
  fin_cases d
  · refine ⟨?_, ?_, ?_, fun k => ⟨?_, ?_⟩⟩
    all_goals frame_out
    iterate 3
      · refine (rows_zero _ _ _ _ _ q).trans ?_
        pointwise [k0_pay20, k0_pay18, k0_pay19, k0_pay23, k0_pay24, k0_pay30, k0_pay31, k0_pay25, k0_pay26, dpr0, dpi0, dla0, k0_pay15, k0_pay14, sq0, rec0, inp0, coef0, k0_pay6, bP, bQ, bG, bGate, kP, kQ, kG, kDla]
    all_goals
      refine (mats_zero _ _ _ _ _ k q).trans ?_
      pointwise [k0_pay20, k0_pay18, k0_pay19, k0_pay23, k0_pay24, k0_pay30, k0_pay31, k0_pay25, k0_pay26, dpr0, dpi0, dla0, k0_pay15, k0_pay14, sq0, rec0, inp0, coef0, k0_pay6, bP, bQ, bG, bGate, kP, kQ, kG, kDla]
      rw [read_unread_whole]
  · refine ⟨?_, ?_, ?_, fun k => ⟨?_, ?_⟩⟩
    all_goals frame_out
    iterate 3
      · refine (rows_one _ _ _ _ _ q).trans ?_
        pointwise [k0_pay43, k0_pay46, k0_pay47, k0_pay51, k0_pay52, k0_pay48, k0_pay49, dpr1, dpi1, dla1, k0_pay40, k0_pay39, sq1, dec1, rec1, inp1, coef1, k0_pay6, bP, bQ, bG, bGate, kP, kQ, kG, kDla]
    all_goals
      refine (mats_one _ _ _ _ _ k q).trans ?_
      pointwise [k0_pay43, k0_pay46, k0_pay47, k0_pay51, k0_pay52, k0_pay48, k0_pay49, dpr1, dpi1, dla1, k0_pay40, k0_pay39, sq1, dec1, rec1, inp1, coef1, k0_pay6, bP, bQ, bG, bGate, kP, kQ, kG, kDla]
      rw [read_unread_whole]

/-- The last point of a head's sweep writes the two accumulated matrices. -/
theorem out_C (c : Dev nD) (t : Fin cfg0.N) (h0 : ¬ t.val % 4 = 0) (h1 : t.val % 4 = 3) (d : Fin 2) (k q : Fin 256) :
    (outsAt0 m c t.val t.isLt).2.1 (ix4 d 0 k q) = (outsAt0 m c t.val t.isLt).2.2.2.2.2.2.1 (ix3 d k q)
    ∧ (outsAt0 m c t.val t.isLt).2.2.1 (ix4 d 0 k q) = (outsAt0 m c t.val t.isLt).2.2.2.2.2.2.2 (ix3 d k q) := by
  rw [outsAt0_C m c t h0 h1]
  constructor
  · frame_out
    refine (mat3 _ d k q).trans ?_
    exact mats_read _ _ _ _
  · frame_out
    refine (mat4 _ d k q).trans ?_
    exact mats_read _ _ _ _

set_option maxHeartbeats 1000000 in
/-- Every point writes its tile of the gradient of the input. -/
theorem out_U (c : Dev nD) (t : Fin cfg0.N) (p : Fin 1088) (q : Fin 256) :
    (outsAt0 m c t.val t.isLt).1 (ix2 p q)
      = ((((tT m c t 0 p q + ∑ k : Fin 256, tP m c t 0 p k * (iblk m c 3 t : Vec Ideal S2x1x256x256 .bf16) (ix4 0 0 q k))
        + ∑ k : Fin 256, tQ m c t 0 p k * (iblk m c 4 t : Vec Ideal S2x1x256x256 .bf16) (ix4 0 0 q k)) + tT m c t 1 p q)
        + ∑ k : Fin 256, tP m c t 1 p k * (iblk m c 3 t : Vec Ideal S2x1x256x256 .bf16) (ix4 1 0 q k))
        + ∑ k : Fin 256, tQ m c t 1 p k * (iblk m c 4 t : Vec Ideal S2x1x256x256 .bf16) (ix4 1 0 q k) := by
  by_cases h0 : t.val % 4 = 0
  · rw [outsAt0_A m c t h0 (by omega)]; frame_out; pointwise [k0_pay50, k0_pay48, k0_pay49, k0_pay41, k0_pay29, k0_pay27, k0_pay28, k0_pay25, k0_pay26, k0_pay16, k0_pay7, dpr0, dpi0, dla0, k0_pay15, k0_pay14, sq0, rec0, inp0, coef0, dpr1, dpi1, dla1, k0_pay40, k0_pay39, sq1, dec1, rec1, inp1, coef1, k0_pay6, bT, bP, bQ, bGate, kT, kP, kQ, kDla]
  by_cases h1 : t.val % 4 = 3
  · rw [outsAt0_C m c t h0 h1]; frame_out; pointwise [k0_pay50, k0_pay48, k0_pay49, k0_pay41, k0_pay29, k0_pay27, k0_pay28, k0_pay25, k0_pay26, k0_pay16, k0_pay7, dpr0, dpi0, dla0, k0_pay15, k0_pay14, sq0, rec0, inp0, coef0, dpr1, dpi1, dla1, k0_pay40, k0_pay39, sq1, dec1, rec1, inp1, coef1, k0_pay6, bT, bP, bQ, bGate, kT, kP, kQ, kDla]
  · rw [outsAt0_B m c t h0 h1]; frame_out; pointwise [k0_pay50, k0_pay48, k0_pay49, k0_pay41, k0_pay29, k0_pay27, k0_pay28, k0_pay25, k0_pay26, k0_pay16, k0_pay7, dpr0, dpi0, dla0, k0_pay15, k0_pay14, sq0, rec0, inp0, coef0, dpr1, dpi1, dla1, k0_pay40, k0_pay39, sq1, dec1, rec1, inp1, coef1, k0_pay6, bT, bP, bQ, bGate, kT, kP, kQ, kDla]

end Cert.KernelIdeal.Gates
-- ==== Proof.GateArrays.lean ====
module

public import proofs.«01_k».proof.Proof.Gen.KernelIdeal
public import proofs.«01_k».proof.Proof.GateScalars
public import Idealize.ShloMosaic.Lib.ValueIdx
/-! # The results of the gate's backward pass as functions of the operands

The kernel's results over the extended reals: every sum over the rows is one sum over all 4352 of them. -/
@[expose] public section

set_option maxRecDepth 16384
noncomputable section
open Idealize.ShloMosaic
namespace Cert.Gate
open Cert.KernelIdeal

/-- The operands of the backward pass. -/
structure Ops where
  u : Vec Ideal S4352x4096 .f32
  lam : Vec Ideal S2x4096 .f32
  wr : Vec Ideal S2x16x256x256 .f32
  br : Vec Ideal S2x4096 .f32
  wi : Vec Ideal S2x16x256x256 .f32
  bi : Vec Ideal S2x4096 .f32
  ca : Vec Ideal S2x4352x4096 .f32
  cb : Vec Ideal S2x4352x4096 .f32

/-- Channel `e` of head `h`. -/
def col (h : Fin 16) (e : Fin 256) : Fin 4096 := ⟨h.val * 256 + e.val, by omega⟩
/-- The head of a channel. -/
def hd (q : Fin 4096) : Fin 16 := ⟨q.val / 256, by omega⟩
/-- A channel's place in its head. -/
def ln (q : Fin 4096) : Fin 256 := ⟨q.val % 256, by omega⟩

theorem col_hd_ln (q : Fin 4096) : col (hd q) (ln q) = q := Fin.ext (Nat.div_add_mod' q.val 256)

/-- A gate's pre-activation of direction `d` at row `p` and channel `e` of head `h`. -/
def pre (u : Vec Ideal S4352x4096 .f32) (w : Vec Ideal S2x16x256x256 .f32) (b : Vec Ideal S2x4096 .f32) (d : Fin 2) (p : Fin 4352) (h : Fin 16)
    (e : Fin 256) : EReal :=
  ∑ k : Fin 256, u (ix2 p (col h k)) * w (ix4 d h k e) + b (ix2 d (col h e))

namespace Ops
variable (x : Ops)
def c (d : Fin 2) (h : Fin 16) (e : Fin 256) : EReal := kC (x.lam (ix2 d (col h e)))
def r (d : Fin 2) (p : Fin 4352) (h : Fin 16) (e : Fin 256) : EReal := kSig (pre x.u x.wr x.br d p h e)
def ig (d : Fin 2) (p : Fin 4352) (h : Fin 16) (e : Fin 256) : EReal := kSig (pre x.u x.wi x.bi d p h e)
/-- The gradient of the recurrence gate's pre-activation. -/
def P (d : Fin 2) (p : Fin 4352) (h : Fin 16) (e : Fin 256) : EReal :=
  kP (x.c d h e) (x.r d p h e) (x.ig d p h e) (x.u (ix2 p (col h e))) (x.ca (ix3 d p (col h e))) (x.cb (ix3 d p (col h e)))
/-- The gradient of the input gate's pre-activation. -/
def Q (d : Fin 2) (p : Fin 4352) (h : Fin 16) (e : Fin 256) : EReal :=
  kQ (x.c d h e) (x.r d p h e) (x.ig d p h e) (x.u (ix2 p (col h e))) (x.cb (ix3 d p (col h e)))
/-- The summand of the coefficient's gradient. -/
def G (d : Fin 2) (p : Fin 4352) (h : Fin 16) (e : Fin 256) : EReal :=
  kG (x.c d h e) (x.r d p h e) (x.ig d p h e) (x.u (ix2 p (col h e))) (x.ca (ix3 d p (col h e))) (x.cb (ix3 d p (col h e)))
/-- The direct part of the gradient of the input. -/
def T (d : Fin 2) (p : Fin 4352) (h : Fin 16) (e : Fin 256) : EReal :=
  kT (x.c d h e) (x.r d p h e) (x.ig d p h e) (x.cb (ix3 d p (col h e)))

/-- The gradient of the input. -/
def du (p : Fin 4352) (h : Fin 16) (e : Fin 256) : EReal :=
  ((((x.T 0 p h e + ∑ k : Fin 256, x.P 0 p h k * x.wr (ix4 0 h e k)) + ∑ k : Fin 256, x.Q 0 p h k * x.wi (ix4 0 h e k)) + x.T 1 p h e)
    + ∑ k : Fin 256, x.P 1 p h k * x.wr (ix4 1 h e k)) + ∑ k : Fin 256, x.Q 1 p h k * x.wi (ix4 1 h e k)
/-- The gradients of the two gates' weights. -/
def gwr (d : Fin 2) (h : Fin 16) (k e : Fin 256) : EReal := ∑ p : Fin 4352, x.u (ix2 p (col h k)) * x.P d p h e
def gwi (d : Fin 2) (h : Fin 16) (k e : Fin 256) : EReal := ∑ p : Fin 4352, x.u (ix2 p (col h k)) * x.Q d p h e
/-- The gradients of the two gates' biases and of the coefficient. -/
def gbr (d : Fin 2) (h : Fin 16) (e : Fin 256) : EReal := ∑ p : Fin 4352, x.P d p h e
def gbi (d : Fin 2) (h : Fin 16) (e : Fin 256) : EReal := ∑ p : Fin 4352, x.Q d p h e
def gc (d : Fin 2) (h : Fin 16) (e : Fin 256) : EReal := ∑ p : Fin 4352, x.G d p h e
end Ops

end Cert.Gate
-- ==== Proof.GateBlocks.lean ====
module

public import proofs.«01_k».proof.Proof.GateSteps
public import proofs.«01_k».proof.Proof.GateArrays
/-! # The result arrays of the gate kernel

The blocks of every grid point read at their place in the operands, and the arrays that the sweep leaves. -/
@[expose] public section

set_option maxRecDepth 16384
noncomputable section
open Idealize.ShloMosaic Idealize.ShloMosaic.TcCoe Idealize.SL.Sem
open Idealize.ShloMosaic.Pipeline (Dat)
namespace Cert.KernelIdeal.Gates
open Cert.KernelIdeal Cert.KernelIdeal.Gen Cert.Gate

variable (m : (ℓ : Loc nD τ sig) → Buf (Elt Ideal) ℓ)

theorem idx : ∀ t : Fin cfg0.N, win0_0.index t = ![t.val % 4, t.val / 4] ∧ win0_1.index t = ![0, t.val % 4, t.val / 4]
    ∧ win0_2.index t = ![0, t.val % 4, t.val / 4] ∧ win0_3.index t = ![0, t.val / 4, 0, 0] ∧ win0_4.index t = ![0, t.val / 4, 0, 0]
    ∧ win0_5.index t = ![0, t.val / 4] ∧ win0_6.index t = ![0, t.val / 4] ∧ win0_7.index t = ![0, t.val / 4]
    ∧ win0_8.index t = ![t.val % 4, t.val / 4] ∧ win0_9.index t = ![0, t.val / 4, 0, 0] ∧ win0_10.index t = ![0, t.val / 4, 0, 0]
    ∧ win0_11.index t = ![0, t.val / 4] ∧ win0_12.index t = ![0, t.val / 4] ∧ win0_13.index t = ![0, t.val / 4] :=
  (by decide +kernel : ∀ t : Fin grid0.N, _)

/-- The operands in the launch memory. -/
def ops (c : Dev nD) : Ops where
  u := m ((c : Thread nD τ).loc main_arg0)
  lam := m ((c : Thread nD τ).loc main_arg1)
  wr := m ((c : Thread nD τ).loc main_arg2)
  br := m ((c : Thread nD τ).loc main_arg3)
  wi := m ((c : Thread nD τ).loc main_arg4)
  bi := m ((c : Thread nD τ).loc main_arg5)
  ca := m ((c : Thread nD τ).loc main_arg6)
  cb := m ((c : Thread nD τ).loc main_arg7)

/-- The head of point `t`, and row `p` of its row tile. -/
def head (t : Fin cfg0.N) : Fin 16 := ⟨t.val / 4, by have := lt_of_lt_of_eq t.isLt (show cfg0.N = 64 from N_0); omega⟩
def row (t : Fin cfg0.N) (p : Fin 1088) : Fin 4352 := ⟨t.val % 4 * 1088 + p.val, by omega⟩

theorem blk_u (c : Dev nD) (t : Fin cfg0.N) (p : Fin 1088) (k : Fin 256) :
    (iblk m c 0 t : Vec Ideal S1088x256 .f32) (ix2 p k) = (ops m c).u (ix2 (row t p) (col (head t) k)) := by
  blk_ext [iblk, V, idx t, ops, row, col, head]
theorem blk_ca (c : Dev nD) (t : Fin cfg0.N) (d : Fin 2) (p : Fin 1088) (k : Fin 256) :
    (iblk m c 1 t : Vec Ideal S2x1088x256 .f32) (ix3 d p k) = (ops m c).ca (ix3 d (row t p) (col (head t) k)) := by
  blk_ext [iblk, V, idx t, ops, row, col, head]
theorem blk_cb (c : Dev nD) (t : Fin cfg0.N) (d : Fin 2) (p : Fin 1088) (k : Fin 256) :
    (iblk m c 2 t : Vec Ideal S2x1088x256 .f32) (ix3 d p k) = (ops m c).cb (ix3 d (row t p) (col (head t) k)) := by
  blk_ext [iblk, V, idx t, ops, row, col, head]
theorem blk_wr (c : Dev nD) (t : Fin cfg0.N) (d : Fin 2) (k e : Fin 256) :
    (iblk m c 3 t : Vec Ideal S2x1x256x256 .bf16) (ix4 d 0 k e) = (ops m c).wr (ix4 d (head t) k e) := by
  blk_simp [iblk]
  entry_read
  blk_ext [V, idx t, ops, head]
theorem blk_wi (c : Dev nD) (t : Fin cfg0.N) (d : Fin 2) (k e : Fin 256) :
    (iblk m c 4 t : Vec Ideal S2x1x256x256 .bf16) (ix4 d 0 k e) = (ops m c).wi (ix4 d (head t) k e) := by
  blk_simp [iblk]
  entry_read
  blk_ext [V, idx t, ops, head]
theorem blk_br (c : Dev nD) (t : Fin cfg0.N) (d : Fin 2) (e : Fin 256) :
    (iblk m c 5 t : Vec Ideal S2x256 .f32) (ix2 d e) = (ops m c).br (ix2 d (col (head t) e)) := by
  blk_ext [iblk, V, idx t, ops, col, head]
theorem blk_bi (c : Dev nD) (t : Fin cfg0.N) (d : Fin 2) (e : Fin 256) :
    (iblk m c 6 t : Vec Ideal S2x256 .f32) (ix2 d e) = (ops m c).bi (ix2 d (col (head t) e)) := by
  blk_ext [iblk, V, idx t, ops, col, head]
theorem blk_lam (c : Dev nD) (t : Fin cfg0.N) (d : Fin 2) (e : Fin 256) :
    (iblk m c 7 t : Vec Ideal S2x256 .f32) (ix2 d e) = (ops m c).lam (ix2 d (col (head t) e)) := by
  blk_ext [iblk, V, idx t, ops, col, head]

/-! ## The terms of a point, at their place -/

theorem gate_r (c : Dev nD) (t : Fin cfg0.N) (d : Fin 2) (p : Fin 1088) (e : Fin 256) :
    bGate (iblk m c 0 t) (iblk m c 3 t) (iblk m c 5 t) d p e = (ops m c).r d (row t p) (head t) e := by
  unfold bGate Ops.r pre
  rw [blk_br m c t d e]
  refine congrArg (fun z => kSig (z + _)) (Finset.sum_congr rfl fun k _ => ?_)
  rw [blk_u m c t p k, blk_wr m c t d k e]
theorem gate_i (c : Dev nD) (t : Fin cfg0.N) (d : Fin 2) (p : Fin 1088) (e : Fin 256) :
    bGate (iblk m c 0 t) (iblk m c 4 t) (iblk m c 6 t) d p e = (ops m c).ig d (row t p) (head t) e := by
  unfold bGate Ops.ig pre
  rw [blk_bi m c t d e]
  refine congrArg (fun z => kSig (z + _)) (Finset.sum_congr rfl fun k _ => ?_)
  rw [blk_u m c t p k, blk_wi m c t d k e]
theorem at_P (c : Dev nD) (t : Fin cfg0.N) (d : Fin 2) (p : Fin 1088) (e : Fin 256) : tP m c t d p e = (ops m c).P d (row t p) (head t) e := by
  unfold tP bP Ops.P Ops.c
  rw [blk_lam m c t d e, gate_r m c t d p e, gate_i m c t d p e, blk_u m c t p e, blk_ca m c t d p e, blk_cb m c t d p e]
theorem at_Q (c : Dev nD) (t : Fin cfg0.N) (d : Fin 2) (p : Fin 1088) (e : Fin 256) : tQ m c t d p e = (ops m c).Q d (row t p) (head t) e := by
  unfold tQ bQ Ops.Q Ops.c
  rw [blk_lam m c t d e, gate_r m c t d p e, gate_i m c t d p e, blk_u m c t p e, blk_cb m c t d p e]
theorem at_G (c : Dev nD) (t : Fin cfg0.N) (d : Fin 2) (p : Fin 1088) (e : Fin 256) : tG m c t d p e = (ops m c).G d (row t p) (head t) e := by
  unfold tG bG Ops.G Ops.c
  rw [blk_lam m c t d e, gate_r m c t d p e, gate_i m c t d p e, blk_u m c t p e, blk_ca m c t d p e, blk_cb m c t d p e]
theorem at_T (c : Dev nD) (t : Fin cfg0.N) (d : Fin 2) (p : Fin 1088) (e : Fin 256) : tT m c t d p e = (ops m c).T d (row t p) (head t) e := by
  unfold tT bT Ops.T Ops.c
  rw [blk_lam m c t d e, gate_r m c t d p e, gate_i m c t d p e, blk_cb m c t d p e]

/-! ## A head's sweep over its four row tiles -/

/-- The four row tiles of a head's sweep, seen from its last point, are the rows 0 to 4351. -/
theorem sweep_sum (t : Fin cfg0.N) (ht : t.val % 4 = 3) (g : Fin cfg0.N → Fin 1088 → EReal) (F : Fin 4352 → EReal)
    (hg : ∀ (s : Fin cfg0.N) p, s.val / 4 = t.val / 4 → g s p = F (row s p)) :
    ∑ s : Fin 4, ∑ p : Fin 1088, g ⟨4 * (t.val / 4) + s.val, Pipeline.run_point_lt_of_flush t ht s⟩ p = ∑ p : Fin 4352, F p := by
  refine Fin.sum_mul_add_congr fun s p hl => ?_
  rw [hg _ p (by show (4 * (t.val / 4) + s.val) / 4 = _; omega)]
  refine congrArg F (Fin.ext ?_)
  show (4 * (t.val / 4) + s.val) % 4 * 1088 + p.val = s.val * 1088 + p.val
  omega

theorem head_eq {s t : Fin cfg0.N} (h : s.val / 4 = t.val / 4) : head s = head t := Fin.ext h

/-- A block that starts a head's sweep at zero and takes a point's terms at every point holds, at the last point, their
    sum over all the rows. -/
theorem sweep (f : (n : ℕ) → n < cfg0.N → EReal) (g : Fin cfg0.N → Fin 1088 → EReal) (F : Fin 4352 → EReal) (t : Fin cfg0.N) (ht : t.val % 4 = 3)
    (h0 : ∀ s : Fin cfg0.N, s.val % 4 = 0 → f s.val s.isLt = 0 + ∑ p : Fin 1088, g s p)
    (hs : ∀ s : Fin cfg0.N, ¬ s.val % 4 = 0 → f s.val s.isLt = f (s.val - 1) (Nat.lt_of_le_of_lt (Nat.sub_le _ _) s.isLt) + ∑ p : Fin 1088, g s p)
    (hg : ∀ (s : Fin cfg0.N) p, s.val / 4 = t.val / 4 → g s p = F (row s p)) :
    f t.val t.isLt = ∑ p : Fin 4352, F p :=
  ((Pipeline.eq_sum_fin_of_reset_step_apply_of_flush (fun n h (_ : Unit) => f n h) 4 (fun _ => 0) (fun s _ => ∑ p : Fin 1088, g s p)
    (fun s h _ => h0 s h) (fun s h _ => hs s h) t ht ()).trans (zero_add _)).trans (sweep_sum t ht g F hg)

variable (c : Dev nD) (t : Fin cfg0.N) (ht : t.val % 4 = 3) (d : Fin 2) (e : Fin 256)
include ht

theorem sweep_gbr : (outsAt0 m c t.val t.isLt).2.2.2.1 (ix2 d e) = (ops m c).gbr d (head t) e :=
  sweep (fun n h => (outsAt0 m c n h).2.2.2.1 (ix2 d e)) (fun s p => tP m c s d p e) (fun p => (ops m c).P d p (head t) e) t ht
    (fun s h => (step_A m c s h (by omega) d e).1)
    (fun s h => if h1 : s.val % 4 = 3 then (step_C m c s h h1 d e).1 else (step_B m c s h h1 d e).1)
    fun s p hs => by rw [at_P, head_eq hs]

theorem sweep_gbi : (outsAt0 m c t.val t.isLt).2.2.2.2.1 (ix2 d e) = (ops m c).gbi d (head t) e :=
  sweep (fun n h => (outsAt0 m c n h).2.2.2.2.1 (ix2 d e)) (fun s p => tQ m c s d p e) (fun p => (ops m c).Q d p (head t) e) t ht
    (fun s h => (step_A m c s h (by omega) d e).2.1)
    (fun s h => if h1 : s.val % 4 = 3 then (step_C m c s h h1 d e).2.1 else (step_B m c s h h1 d e).2.1)
    fun s p hs => by rw [at_Q, head_eq hs]

theorem sweep_gc : (outsAt0 m c t.val t.isLt).2.2.2.2.2.1 (ix2 d e) = (ops m c).gc d (head t) e :=
  sweep (fun n h => (outsAt0 m c n h).2.2.2.2.2.1 (ix2 d e)) (fun s p => tG m c s d p e) (fun p => (ops m c).G d p (head t) e) t ht
    (fun s h => (step_A m c s h (by omega) d e).2.2.1)
    (fun s h => if h1 : s.val % 4 = 3 then (step_C m c s h h1 d e).2.2.1 else (step_B m c s h h1 d e).2.2.1)
    fun s p hs => by rw [at_G, head_eq hs]

theorem sweep_gwr (k : Fin 256) : (outsAt0 m c t.val t.isLt).2.1 (ix4 d 0 k e) = (ops m c).gwr d (head t) k e :=
  ((out_C m c t (by omega) ht d k e).1).trans <|
  sweep (fun n h => (outsAt0 m c n h).2.2.2.2.2.2.1 (ix3 d k e)) (fun s p => tU m c s (ix2 p k) * tP m c s d p e)
    (fun p => (ops m c).u (ix2 p (col (head t) k)) * (ops m c).P d p (head t) e) t ht
    (fun s h => ((step_A m c s h (by omega) d e).2.2.2 k).1)
    (fun s h => if h1 : s.val % 4 = 3 then ((step_C m c s h h1 d e).2.2.2 k).1 else ((step_B m c s h h1 d e).2.2.2 k).1)
    fun s p hs => by rw [at_P, head_eq hs, show tU m c s (ix2 p k) = _ from blk_u m c s p k, head_eq hs]

theorem sweep_gwi (k : Fin 256) : (outsAt0 m c t.val t.isLt).2.2.1 (ix4 d 0 k e) = (ops m c).gwi d (head t) k e :=
  ((out_C m c t (by omega) ht d k e).2).trans <|
  sweep (fun n h => (outsAt0 m c n h).2.2.2.2.2.2.2 (ix3 d k e)) (fun s p => tU m c s (ix2 p k) * tQ m c s d p e)
    (fun p => (ops m c).u (ix2 p (col (head t) k)) * (ops m c).Q d p (head t) e) t ht
    (fun s h => ((step_A m c s h (by omega) d e).2.2.2 k).2)
    (fun s h => if h1 : s.val % 4 = 3 then ((step_C m c s h h1 d e).2.2.2 k).2 else ((step_B m c s h h1 d e).2.2.2 k).2)
    fun s p hs => by rw [at_Q, head_eq hs, show tU m c s (ix2 p k) = _ from blk_u m c s p k, head_eq hs]

omit ht
theorem tile_du (p : Fin 1088) : (outsAt0 m c t.val t.isLt).1 (ix2 p e) = (ops m c).du (row t p) (head t) e := by
  rw [out_U m c t p e]
  unfold Ops.du
  simp only [at_P, at_Q, at_T, blk_wr, blk_wi]

/-! ## The arrays after the run -/

theorem at_col {n : ℕ} (f : Fin n → Fin 16 → Fin 256 → EReal) {d d' : Fin n} {h : Fin 16} {e : Fin 256} {q : Fin 4096} (h1 : d.val = d'.val)
    (h2 : h.val * 256 + e.val = q.val) : f d h e = f d' (hd q) (ln q) := by
  obtain rfl : d = d' := Fin.ext h1
  obtain rfl : q = col h e := Fin.ext h2.symm
  rw [show hd (col h e) = h from Fin.ext (by show (h.val * 256 + e.val) / 256 = h.val; omega),
    show ln (col h e) = e from Fin.ext (by show (h.val * 256 + e.val) % 256 = e.val; omega)]
theorem at_mat (f : Fin 2 → Fin 16 → Fin 256 → Fin 256 → EReal) {d d' : Fin 2} {h h' : Fin 16} {k k' e e' : Fin 256} (h1 : d.val = d'.val)
    (h2 : h.val = h'.val) (h3 : k.val = k'.val) (h4 : e.val = e'.val) : f d h k e = f d' h' k' e' := by
  rw [Fin.ext h1, Fin.ext h2, Fin.ext h3, Fin.ext h4]

theorem final_gbr (c : Dev nD) : (dats m 0 c).arrAt 11 cfg0.N = fun i => (ops m c).gbr (i 0) (hd (i 1)) (ln (i 1)) := by
  refine (dats m 0 c).arrAt_eq_of_covers 11 _ (by decide +kernel) fun t hf y => ?_
  blk_simp
  rw [after0_11]
  idx_vars y
  refine (sweep_gbr m c t ((flush0_11 t).mp hf) y0 y1).trans (at_col (ops m c).gbr ?_ ?_) <;> blk_simp [idx t, head, row] <;> omega

theorem final_gbi (c : Dev nD) : (dats m 0 c).arrAt 12 cfg0.N = fun i => (ops m c).gbi (i 0) (hd (i 1)) (ln (i 1)) := by
  refine (dats m 0 c).arrAt_eq_of_covers 12 _ (by decide +kernel) fun t hf y => ?_
  blk_simp
  rw [after0_12]
  idx_vars y
  refine (sweep_gbi m c t ((flush0_12 t).mp hf) y0 y1).trans (at_col (ops m c).gbi ?_ ?_) <;> blk_simp [idx t, head, row] <;> omega

theorem final_gc (c : Dev nD) : (dats m 0 c).arrAt 13 cfg0.N = fun i => (ops m c).gc (i 0) (hd (i 1)) (ln (i 1)) := by
  refine (dats m 0 c).arrAt_eq_of_covers 13 _ (by decide +kernel) fun t hf y => ?_
  blk_simp
  rw [after0_13]
  idx_vars y
  refine (sweep_gc m c t ((flush0_13 t).mp hf) y0 y1).trans (at_col (ops m c).gc ?_ ?_) <;> blk_simp [idx t, head, row] <;> omega

theorem final_du (c : Dev nD) : (dats m 0 c).arrAt 8 cfg0.N = fun i => (ops m c).du (i 0) (hd (i 1)) (ln (i 1)) := by
  refine (dats m 0 c).arrAt_eq_of_covers 8 _ (by decide +kernel) fun t hf y => ?_
  blk_simp
  rw [after0_8]
  idx_vars y
  refine (tile_du m c t y1 y0).trans (at_col (ops m c).du ?_ ?_) <;> blk_simp [idx t, head, row] <;> omega

theorem final_gwr (c : Dev nD) : (dats m 0 c).arrAt 9 cfg0.N = fun i => (ops m c).gwr (i 0) (i 1) (i 2) (i 3) := by
  refine (dats m 0 c).arrAt_eq_of_covers 9 _ (by decide +kernel) fun t hf y => ?_
  blk_simp
  rw [after0_9]
  idx_vars y
  obtain rfl : y1 = 0 := Subsingleton.elim _ _
  refine (sweep_gwr m c t ((flush0_9 t).mp hf) y0 y3 y2).trans (at_mat (ops m c).gwr ?_ ?_ ?_ ?_) <;> blk_simp [idx t, head, row] <;> first | omega | exact (Nat.add_zero _).symm | rfl

theorem final_gwi (c : Dev nD) : (dats m 0 c).arrAt 10 cfg0.N = fun i => (ops m c).gwi (i 0) (i 1) (i 2) (i 3) := by
  refine (dats m 0 c).arrAt_eq_of_covers 10 _ (by decide +kernel) fun t hf y => ?_
  blk_simp
  rw [after0_10]
  idx_vars y
  obtain rfl : y1 = 0 := Subsingleton.elim _ _
  refine (sweep_gwi m c t ((flush0_10 t).mp hf) y0 y3 y2).trans (at_mat (ops m c).gwi ?_ ?_ ?_ ?_) <;> blk_simp [idx t, head, row] <;> first | omega | exact (Nat.add_zero _).symm | rfl

end Cert.KernelIdeal.Gates
-- ==== Proof.GateReal.lean ====
module

public import proofs.«01_k».proof.Proof.GateScalars
public import Idealize.ShloMosaic.PureOps.Ideal.Laws
public import Idealize.ShloMosaic.Lib.IdealHost
/-! # The gate's scalar functions in the plain text

The same scalar functions as the reference writes them (a quotient for the logistic function, `expm1` for the factor of
the input, the derivative of the square root as `1/2` over the root), and the proof that both texts agree wherever the
channel's parameter and the recurrence gate's pre-activation are real. The cotangents, the input gate and the biases of
the input gate may be infinite: nothing here distributes a product over a sum. -/
@[expose] public section

noncomputable section
open Idealize.ShloMosaic
namespace Cert.Gate

theorem half : Ideal.ofBits .f32 0x3F000000#32 = ((1 / 2 : ℝ) : EReal) := by
  simp [Ideal.ofBits, Ideal.ieee, -EReal.coe_mul, -EReal.coe_neg]
  norm_num
theorem two : Ideal.ofBits .f32 0x40000000#32 = ((2 : ℝ) : EReal) := by
  simp [Ideal.ofBits, Ideal.ieee, -EReal.coe_mul, -EReal.coe_neg]
  norm_num
theorem neg_eight : Ideal.ofBits .f32 0xC1000000#32 = ((-8 : ℝ) : EReal) := by
  simp [Ideal.ofBits, Ideal.ieee, -EReal.coe_mul, -EReal.coe_neg]
  norm_num
theorem inf : Ideal.ofBits .f32 0x7F800000#32 = ⊤ := by
  simp [Ideal.ofBits, Ideal.ieee, -EReal.coe_mul, -EReal.coe_neg]

/-! ## Real arithmetic -/

theorem sig_real (v : ℝ) : 1 / 2 * Real.tanh (1 / 2 * v) + 1 / 2 = (1 + Real.exp (-v))⁻¹ := by
  have h : Real.exp (-v) = Real.exp (-(1 / 2 * v)) * Real.exp (-(1 / 2 * v)) := by rw [← Real.exp_add]; congr 1; ring
  have hp : 0 < Real.exp (1 / 2 * v) := Real.exp_pos _
  have hm : 0 < Real.exp (-(1 / 2 * v)) := Real.exp_pos _
  have h1 : Real.exp (1 / 2 * v) * Real.exp (-(1 / 2 * v)) = 1 := by rw [← Real.exp_add]; simp
  rw [Real.tanh_eq_sinh_div_cosh, Real.sinh_eq, Real.cosh_eq, h]
  generalize Real.exp (1 / 2 * v) = a at *
  generalize Real.exp (-(1 / 2 * v)) = b at *
  have : a + b ≠ 0 := by positivity
  have : 1 + b * b ≠ 0 := by positivity
  field_simp
  linear_combination (2 * b) * h1

theorem decay_real (x : ℝ) : (-Real.tanh x) * (1 + Real.exp x * Real.exp x) = -(Real.exp (2 * x) - 1) := by
  have h : Real.exp (2 * x) = Real.exp x * Real.exp x := by rw [← Real.exp_add]; congr 1; ring
  have hp : 0 < Real.exp x := Real.exp_pos _
  have hm : 0 < Real.exp (-x) := Real.exp_pos _
  have h1 : Real.exp x * Real.exp (-x) = 1 := by rw [← Real.exp_add]; simp
  rw [Real.tanh_eq_sinh_div_cosh, Real.sinh_eq, Real.cosh_eq, h]
  generalize Real.exp x = a at *
  generalize Real.exp (-x) = b at *
  have : a + b ≠ 0 := by positivity
  field_simp
  linear_combination (2 * a) * h1

/-! ## The logistic function -/

theorem kSig_eq (v : EReal) : kSig v = Ideal.div 1 (1 + Ideal.exp (-v)) := by
  rw [kSig, half, show Ideal.div 1 (1 + Ideal.exp (-v)) = Ideal.logistic v from rfl]
  induction v with
  | bot =>
    rw [EReal.coe_mul_bot_of_pos (by norm_num), Ideal.tanh_bot, Ideal.logistic_bot, ← EReal.coe_one, ← EReal.coe_neg, ← EReal.coe_mul, ← EReal.coe_add]
    norm_num
  | top =>
    rw [EReal.coe_mul_top_of_pos (by norm_num), Ideal.tanh_top, Ideal.logistic_top, ← EReal.coe_one, ← EReal.coe_mul, ← EReal.coe_add]
    norm_num
  | coe x =>
    rw [← EReal.coe_mul, Ideal.tanh_coe, Ideal.logistic_coe, ← EReal.coe_mul, ← EReal.coe_add, sig_real]

/-- The logistic function of a real number is real and positive. -/
theorem kSig_real (v : ℝ) : ∃ r : ℝ, 0 < r ∧ kSig v = r := by
  refine ⟨(1 + Real.exp (-v))⁻¹, by positivity, ?_⟩
  rw [kSig_eq]
  exact Ideal.logistic_coe v

/-! ## The coefficient -/

/-- The coefficient of a channel as the reference writes it. -/
def rC (lam : EReal) : EReal :=
  Ideal.ofBits .f32 0xC1000000#32
    * (if Ideal.cmp .une (-lam - 0) (-lam - 0) = 1#1 then -lam + 0
        else max (-lam) 0 + Ideal.log1p (Ideal.exp (-(max (-lam - 0) (-(-lam - 0))))))

theorem rC_eq (lam : EReal) : rC lam = kC lam := by
  simp [rC, kC, Ideal.cmp, sub_eq_add_neg]

/-- The coefficient of a real parameter is a negative real number. -/
theorem kC_real (x : ℝ) : ∃ c : ℝ, c < 0 ∧ kC x = c := by
  have e : ((0 : EReal) - (x : EReal)) = ((-x : ℝ) : EReal) := by rw [← EReal.coe_zero, ← EReal.coe_sub, zero_sub]
  have hp : 0 < Real.exp (0 - max (-x) (- -x)) := Real.exp_pos _
  have hl : 0 < Real.log (1 + Real.exp (0 - max (-x) (- -x))) := Real.log_pos (by linarith)
  refine ⟨-8 * (max (-x) 0 + Real.log (1 + Real.exp (0 - max (-x) (- -x)))), ?_, ?_⟩
  · have := le_max_right (-x) 0
    nlinarith
  · rw [kC, neg_eight, e, ← EReal.coe_zero, ← EReal.coe_neg, ← EReal.coe_strictMono.monotone.map_max, ← EReal.coe_strictMono.monotone.map_max,
      ← EReal.coe_sub, Ideal.exp_coe, Ideal.log1p, ← EReal.coe_one, ← EReal.coe_add, Ideal.log_coe, if_neg (by linarith), ← EReal.coe_add,
      ← EReal.coe_mul]

/-! ## The factor of the input and the gradient of the logarithm of the decay -/

/-- The factor of the input as the reference writes it. -/
def rS (c r : EReal) : EReal := Ideal.sqrt (-(Ideal.exp (Ideal.ofBits .f32 0x40000000#32 * (c * r)) - 1))

/-- The gradient of the logarithm of the decay as the reference writes it. -/
def rDla (c r ig u ca cb : EReal) : EReal :=
  Ideal.ofBits .f32 0x40000000#32
      * (-((cb * (ig * u)) * Ideal.div (Ideal.ofBits .f32 0x3F000000#32) (rS c r)) * Ideal.exp (Ideal.ofBits .f32 0x40000000#32 * (c * r)))
    + ca * Ideal.exp (c * r)

theorem exp_two (x : ℝ) : Ideal.exp (Ideal.ofBits .f32 0x40000000#32 * (x : EReal)) = ((Real.exp x * Real.exp x : ℝ) : EReal) := by
  rw [two, ← EReal.coe_mul, Ideal.exp_coe, ← Real.exp_add]
  congr 2
  ring

theorem rS_eq (c r : ℝ) : rS c r = kS c r := by
  have h : (((-(Real.exp (2 * (c * r)) - 1) : ℝ)) : EReal) = -(Ideal.exp (Ideal.ofBits .f32 0x40000000#32 * ((c : EReal) * r)) - 1) := by
    rw [two, ← EReal.coe_mul, ← EReal.coe_mul, Ideal.exp_coe, ← EReal.coe_one, ← EReal.coe_sub, ← EReal.coe_neg]
  rw [rS, kS, kA, ← h, ← EReal.coe_mul, Ideal.tanh_coe, Ideal.exp_coe, ← EReal.coe_mul, ← EReal.coe_one, ← EReal.coe_zero, ← EReal.coe_sub,
    ← EReal.coe_add, ← EReal.coe_mul, zero_sub, decay_real]

theorem kS_real {c r : ℝ} (h : c * r < 0) : ∃ s : ℝ, 0 < s ∧ kS c r = s := by
  have hlt : Real.exp (2 * (c * r)) < 1 := by rw [Real.exp_lt_one_iff]; linarith
  refine ⟨Real.sqrt (-(Real.exp (2 * (c * r)) - 1)), Real.sqrt_pos.mpr (by linarith), ?_⟩
  rw [← rS_eq, rS, two, ← EReal.coe_mul, ← EReal.coe_mul, Ideal.exp_coe, ← EReal.coe_one, ← EReal.coe_sub, ← EReal.coe_neg, Ideal.sqrt_coe,
    if_neg (by linarith)]

theorem rDla_eq {c r : ℝ} (h : c * r < 0) (ig u ca cb : EReal) : rDla c r ig u ca cb = kDla c r ig u ca cb := by
  obtain ⟨s, hs, es⟩ := kS_real h
  have hs' : s ≠ 0 := hs.ne'
  rw [rDla, kDla, rS_eq, es, kA, ← EReal.coe_mul, exp_two, half, Ideal.div_coe hs', Ideal.div_coe hs', two, mul_assoc cb ig u]
  generalize cb * (ig * u) = y
  rw [Ideal.exp_coe, sub_eq_add_neg, add_comm]
  congr 1
  rw [← EReal.coe_mul, ← EReal.coe_mul, EReal.neg_mul, mul_comm ((2 : ℝ) : EReal), EReal.neg_mul, mul_assoc, mul_assoc, mul_assoc, ← EReal.coe_mul, ← EReal.coe_mul,
    ← EReal.coe_mul]
  congr 3
  field_simp

end Cert.Gate
-- ==== Proof.GateFinite.lean ====
module

public import proofs.«01_k».proof.Proof.GateArrays
public import proofs.«01_k».proof.Proof.GateReal
/-! # Where the gate's operands are real

The claim's precondition makes the input, the channels' parameter and the recurrence gate's weights and biases real
numbers. Then the coefficient is a negative real number and the recurrence gate a positive one, so that the factor of the
input is a positive real number and the two texts of the gradient agree. -/
@[expose] public section

noncomputable section
open Idealize.ShloMosaic
namespace Cert.Gate

/-- The operands that the claim assumes to be real numbers. -/
structure Ops.Finite (x : Ops) : Prop where
  u : ∀ i, ∃ r : ℝ, x.u i = (r : EReal)
  lam : ∀ i, ∃ r : ℝ, x.lam i = (r : EReal)
  wr : ∀ i, ∃ r : ℝ, x.wr i = (r : EReal)
  br : ∀ i, ∃ r : ℝ, x.br i = (r : EReal)

/-- A finite sum of real numbers is real. -/
theorem sum_real {n : ℕ} (f : Fin n → EReal) (hf : ∀ k, ∃ r : ℝ, f k = (r : EReal)) : ∃ r : ℝ, ∑ k, f k = (r : EReal) := by
  refine Finset.sum_induction f (fun v => ∃ r : ℝ, v = (r : EReal)) ?_ ⟨0, EReal.coe_zero.symm⟩ fun k _ => hf k
  rintro _ _ ⟨a, rfl⟩ ⟨b, rfl⟩
  exact ⟨a + b, (EReal.coe_add a b).symm⟩

namespace Ops.Finite
variable {x : Ops}

theorem pre_real (hx : x.Finite) (d : Fin 2) (p : Fin 4352) (h : Fin 16) (e : Fin 256) : ∃ r : ℝ, pre x.u x.wr x.br d p h e = (r : EReal) := by
  obtain ⟨s, hs⟩ := sum_real (fun k : Fin 256 => x.u (ix2 p (col h k)) * x.wr (ix4 d h k e)) fun k => by
    obtain ⟨a, ha⟩ := hx.u (ix2 p (col h k))
    obtain ⟨b, hb⟩ := hx.wr (ix4 d h k e)
    exact ⟨a * b, by rw [ha, hb, EReal.coe_mul]⟩
  obtain ⟨b, hb⟩ := hx.br (ix2 d (col h e))
  exact ⟨s + b, by rw [pre, hb, EReal.coe_add, ← hs]⟩

theorem decay (hx : x.Finite) (d : Fin 2) (p : Fin 4352) (h : Fin 16) (e : Fin 256) :
    ∃ c r : ℝ, c * r < 0 ∧ x.c d h e = c ∧ x.r d p h e = r := by
  obtain ⟨l, hl⟩ := hx.lam (ix2 d (col h e))
  obtain ⟨v, hv⟩ := hx.pre_real d p h e
  obtain ⟨c, hc, ec⟩ := kC_real l
  obtain ⟨r, hr, er⟩ := kSig_real v
  exact ⟨c, r, mul_neg_of_neg_of_pos hc hr, by rw [Ops.c, hl, ec], by rw [Ops.r, hv, er]⟩

theorem rS_eq (hx : x.Finite) (d : Fin 2) (p : Fin 4352) (h : Fin 16) (e : Fin 256) :
    rS (x.c d h e) (x.r d p h e) = kS (x.c d h e) (x.r d p h e) := by
  obtain ⟨c, r, -, ec, er⟩ := hx.decay d p h e
  rw [ec, er, Gate.rS_eq]

theorem rDla_eq (hx : x.Finite) (d : Fin 2) (p : Fin 4352) (h : Fin 16) (e : Fin 256) (ig u ca cb : EReal) :
    rDla (x.c d h e) (x.r d p h e) ig u ca cb = kDla (x.c d h e) (x.r d p h e) ig u ca cb := by
  obtain ⟨c, r, hlt, ec, er⟩ := hx.decay d p h e
  rw [ec, er, Gate.rDla_eq hlt]

end Ops.Finite
end Cert.Gate
-- ==== Proof.GateRef.lean ====
module

public import proofs.«01_k».proof.Proof.Gen.ReferenceIdeal.Run
public import proofs.«01_k».proof.Proof.GateArrays
public import proofs.«01_k».proof.Proof.GateFinite
public import Idealize.ShloMosaic.Lib.Pointwise
/-! # The reference's tensors at one element

The reference's named intermediate tensors over the extended reals, read at an index, for any operands. -/
@[expose] public section

set_option maxRecDepth 16384
noncomputable section
open Idealize.ShloMosaic Idealize.ShloMosaic.TcCoe Idealize.SL.Sem
namespace Cert.ReferenceIdeal.Gates
open Cert.ReferenceIdeal Cert.ReferenceIdeal.Gen Cert.ReferenceIdeal.Value Cert.Gate

variable (V : Valuation τ sig (Elt Ideal))

/-- The operands as the reference holds them. -/
def ops : Ops where
  u := V (Proc.devRef .tc main_arg0)
  lam := V (Proc.devRef .tc main_arg1)
  wr := V (Proc.devRef .tc main_arg2)
  br := V (Proc.devRef .tc main_arg3)
  wi := V (Proc.devRef .tc main_arg4)
  bi := V (Proc.devRef .tc main_arg5)
  ca := V (Proc.devRef .tc main_arg6)
  cb := V (Proc.devRef .tc main_arg7)

theorem coef (d : Fin 2) (q : Fin 4096) : res_main_v3 V (ix2 d q) = kC ((ops V).lam (ix2 d q)) := by
  refine Eq.trans ?_ (rC_eq _)
  pointwise [res_main_v3, res_main_call0_v3, res_main_call0_cst, res_main_v0, rC, ops]
  simp only [ne_eq, not_true_eq_false, decide_false, BitVec.ofBool_false, if_false]
  rfl

/-- Splitting the channels into heads. -/
theorem split_read (x : Vec Ideal S1x4352x4096 .f32) (p : Fin 4352) (h : Fin 16) (e : Fin 256) :
    (shapeCast S1x4352x16x256 x shapeCasts_S1x4352x4096_S1x4352x16x256) (ix4 0 p h e) = x (ix3 0 p (col h e)) := by
  pointwise [col]
/-- Joining the heads. -/
theorem join_read (x : Vec Ideal S1x4352x16x256 .f32) (p : Fin 4352) (h : Fin 16) (e : Fin 256) :
    (shapeCast S1x4352x4096 x shapeCasts_S1x4352x16x256_S1x4352x4096) (ix3 0 p (col h e)) = x (ix4 0 p h e) := by
  pointwise [col]

/-- One gate: the logistic function of the product and the bias. -/
theorem gate_read (w : FVec Ideal S16x256x256 .f32) (x : FVec Ideal S1x4352x16x256 .f32) (b : FVec Ideal S1x1x4096 .f32) (p : Fin 4352) (h : Fin 16) (e : Fin 256) :
    Host.divf (broadcastInDim S1x4352x4096 ![] bcast_S_S1x4352x4096 (constant S_ .f32 0x3F800000#32)) (addf (broadcastInDim S1x4352x4096 ![] bcast_S_S1x4352x4096 (constant S_ .f32 0x3F800000#32)) (Host.exp (Host.negf (addf (shapeCast S1x4352x4096 (transpose S1x4352x16x256 [2, 3, 0, 1] (Host.dotGeneral dot_S16x256x256_S1x4352x16x256_S16x256x1x4352_1_3_2_01_0_2 none w x) transposes_S16x256x1x4352_S1x4352x16x256_2_3_0_1) shapeCasts_S1x4352x16x256_S1x4352x4096) (broadcastInDim S1x4352x4096 ![0, 1, 2] bcast_S1x1x4096_S1x4352x4096_0_1_2 b))))) (ix3 0 p (col h e))
      = kSig (∑ k : Fin 256, x (ix4 0 p h k) * w (ix3 h k e) + b (ix3 0 0 (col h e))) := by
  refine Eq.trans ?_ (kSig_eq _).symm
  pointwise
  simp only [mul_comm, show ∀ H, (⟨(col h e).val / 256, H⟩ : Fin 16) = h from fun _ => Fin.ext (by show (h.val * 256 + e.val) / 256 = h.val; omega),
    show ∀ H, (⟨(col h e).val % 256, H⟩ : Fin 256) = e from fun _ => Fin.ext (by show (h.val * 256 + e.val) % 256 = e.val; omega)]

/-! ## The first direction -/

theorem us0 (p : Fin 4352) (h : Fin 16) (k : Fin 256) : res_main_v15 V (ix4 0 p h k) = (ops V).u (ix2 p (col h k)) := by
  refine (split_read (res_main_v4 V) p h k).trans ?_
  pointwise [res_main_v4, ops]
theorem wr0 (h : Fin 16) (k e : Fin 256) : res_main_v8 V (ix3 h k e) = (ops V).wr (ix4 0 h k e) := by
  pointwise [res_main_v8, ops]
theorem wi0 (h : Fin 16) (k e : Fin 256) : res_main_v12 V (ix3 h k e) = (ops V).wi (ix4 0 h k e) := by
  pointwise [res_main_v12, ops]
theorem r0 (p : Fin 4352) (h : Fin 16) (e : Fin 256) : res_main_v27 V (ix3 0 p (col h e)) = (ops V).r 0 p h e := by
  refine (gate_read (res_main_v8 V) (res_main_v15 V) _ p h e).trans ?_
  simp only [us0, wr0, Ops.r, pre]
  congr 2
  pointwise [ops]
theorem i0 (p : Fin 4352) (h : Fin 16) (e : Fin 256) : res_main_v42 V (ix3 0 p (col h e)) = (ops V).ig 0 p h e := by
  refine (gate_read (res_main_v12 V) (res_main_v15 V) _ p h e).trans ?_
  simp only [us0, wi0, Ops.ig, pre]
  congr 2
  pointwise [ops]
theorem c0 (h : Fin 16) (e : Fin 256) : res_main_v46 V (ix3 0 0 (col h e)) = (ops V).c 0 h e := by
  refine Eq.trans ?_ (coef V 0 (col h e))
  pointwise [res_main_v46]
theorem la0 (p : Fin 4352) (h : Fin 16) (e : Fin 256) : res_main_v48 V (ix3 0 p (col h e)) = (ops V).c 0 h e * (ops V).r 0 p h e := by
  pointwise [res_main_v48, r0, c0]
theorem sq0 (p : Fin 4352) (h : Fin 16) (e : Fin 256) : res_main_v55 V (ix3 0 p (col h e)) = rS ((ops V).c 0 h e) ((ops V).r 0 p h e) := by
  pointwise [res_main_v55, res_main_v51, la0, rS]
theorem dla0 (p : Fin 4352) (h : Fin 16) (e : Fin 256) :
    res_main_v183 V (ix3 0 p (col h e)) = rDla ((ops V).c 0 h e) ((ops V).r 0 p h e) ((ops V).ig 0 p h e) ((ops V).u (ix2 p (col h e)))
      ((ops V).ca (ix3 0 p (col h e))) ((ops V).cb (ix3 0 p (col h e))) := by
  pointwise [res_main_v183, res_main_v49, res_main_v51, res_main_v58, res_main_v118, res_main_v4, sq0, la0, i0, rDla, ops]
theorem t0 (hx : (ops V).Finite) (p : Fin 4352) (h : Fin 16) (e : Fin 256) :
    res_main_v173 V (ix3 0 p (col h e)) = (ops V).cb (ix3 0 p (col h e)) * kS ((ops V).c 0 h e) ((ops V).r 0 p h e) := by
  rw [← hx.rS_eq 0 p h e, mul_comm]
  pointwise [res_main_v173, res_main_v118, sq0, ops]
theorem q0 (hx : (ops V).Finite) (p : Fin 4352) (h : Fin 16) (e : Fin 256) : res_main_v190 V (ix3 0 p (col h e)) = (ops V).Q 0 p h e := by
  pointwise [res_main_v190, res_main_v4, t0 V hx, i0, Ops.Q, kQ, ops]
theorem p0 (hx : (ops V).Finite) (p : Fin 4352) (h : Fin 16) (e : Fin 256) : res_main_v200 V (ix3 0 p (col h e)) = (ops V).P 0 p h e := by
  rw [Ops.P, kP, ← hx.rDla_eq 0 p h e, mul_comm (rDla _ _ _ _ _ _)]
  pointwise [res_main_v200, dla0, c0, r0]
theorem g0 (hx : (ops V).Finite) (p : Fin 4352) (h : Fin 16) (e : Fin 256) :
    (mulf (res_main_v183 V) (res_main_v27 V) : FVec Ideal S1x4352x4096 .f32) (ix3 0 p (col h e)) = (ops V).G 0 p h e := by
  rw [Ops.G, kG, ← hx.rDla_eq 0 p h e]
  pointwise [dla0, r0]
theorem pT0 (hx : (ops V).Finite) (p : Fin 4352) (h : Fin 16) (e : Fin 256) : res_main_v205 V (ix4 h e 0 p) = (ops V).P 0 p h e := by
  pointwise [res_main_v205, split_read, p0 V hx]
  exact p0 V hx p h e
theorem qT0 (hx : (ops V).Finite) (p : Fin 4352) (h : Fin 16) (e : Fin 256) : res_main_v195 V (ix4 h e 0 p) = (ops V).Q 0 p h e := by
  pointwise [res_main_v195, split_read, q0 V hx]
  exact q0 V hx p h e

/-! ## The second direction -/

theorem us1 (p : Fin 4352) (h : Fin 16) (k : Fin 256) : res_main_v71 V (ix4 0 p h k) = (ops V).u (ix2 p (col h k)) := by
  refine (split_read (res_main_v60 V) p h k).trans ?_
  pointwise [res_main_v60, ops]
theorem wr1 (h : Fin 16) (k e : Fin 256) : res_main_v64 V (ix3 h k e) = (ops V).wr (ix4 1 h k e) := by
  pointwise [res_main_v64, ops]
theorem wi1 (h : Fin 16) (k e : Fin 256) : res_main_v68 V (ix3 h k e) = (ops V).wi (ix4 1 h k e) := by
  pointwise [res_main_v68, ops]
theorem r1 (p : Fin 4352) (h : Fin 16) (e : Fin 256) : res_main_v83 V (ix3 0 p (col h e)) = (ops V).r 1 p h e := by
  refine (gate_read (res_main_v64 V) (res_main_v71 V) _ p h e).trans ?_
  simp only [us1, wr1, Ops.r, pre]
  congr 2
  pointwise [ops]
theorem i1 (p : Fin 4352) (h : Fin 16) (e : Fin 256) : res_main_v98 V (ix3 0 p (col h e)) = (ops V).ig 1 p h e := by
  refine (gate_read (res_main_v68 V) (res_main_v71 V) _ p h e).trans ?_
  simp only [us1, wi1, Ops.ig, pre]
  congr 2
  pointwise [ops]
theorem c1 (h : Fin 16) (e : Fin 256) : res_main_v102 V (ix3 0 0 (col h e)) = (ops V).c 1 h e := by
  refine Eq.trans ?_ (coef V 1 (col h e))
  pointwise [res_main_v102]
theorem la1 (p : Fin 4352) (h : Fin 16) (e : Fin 256) : res_main_v104 V (ix3 0 p (col h e)) = (ops V).c 1 h e * (ops V).r 1 p h e := by
  pointwise [res_main_v104, r1, c1]
theorem sq1 (p : Fin 4352) (h : Fin 16) (e : Fin 256) : res_main_v111 V (ix3 0 p (col h e)) = rS ((ops V).c 1 h e) ((ops V).r 1 p h e) := by
  pointwise [res_main_v111, res_main_v107, la1, rS]
theorem dla1 (p : Fin 4352) (h : Fin 16) (e : Fin 256) :
    res_main_v132 V (ix3 0 p (col h e)) = rDla ((ops V).c 1 h e) ((ops V).r 1 p h e) ((ops V).ig 1 p h e) ((ops V).u (ix2 p (col h e)))
      ((ops V).ca (ix3 1 p (col h e))) ((ops V).cb (ix3 1 p (col h e))) := by
  pointwise [res_main_v132, res_main_v105, res_main_v107, res_main_v114, res_main_v119, res_main_v60, sq1, la1, i1, rDla, ops]
theorem t1 (hx : (ops V).Finite) (p : Fin 4352) (h : Fin 16) (e : Fin 256) :
    res_main_v122 V (ix3 0 p (col h e)) = (ops V).cb (ix3 1 p (col h e)) * kS ((ops V).c 1 h e) ((ops V).r 1 p h e) := by
  rw [← hx.rS_eq 1 p h e, mul_comm]
  pointwise [res_main_v122, res_main_v119, sq1, ops]
theorem q1 (hx : (ops V).Finite) (p : Fin 4352) (h : Fin 16) (e : Fin 256) : res_main_v139 V (ix3 0 p (col h e)) = (ops V).Q 1 p h e := by
  pointwise [res_main_v139, res_main_v60, t1 V hx, i1, Ops.Q, kQ, ops]
theorem p1 (hx : (ops V).Finite) (p : Fin 4352) (h : Fin 16) (e : Fin 256) : res_main_v149 V (ix3 0 p (col h e)) = (ops V).P 1 p h e := by
  rw [Ops.P, kP, ← hx.rDla_eq 1 p h e, mul_comm (rDla _ _ _ _ _ _)]
  pointwise [res_main_v149, dla1, c1, r1]
theorem g1 (hx : (ops V).Finite) (p : Fin 4352) (h : Fin 16) (e : Fin 256) :
    (mulf (res_main_v132 V) (res_main_v83 V) : FVec Ideal S1x4352x4096 .f32) (ix3 0 p (col h e)) = (ops V).G 1 p h e := by
  rw [Ops.G, kG, ← hx.rDla_eq 1 p h e]
  pointwise [dla1, r1]
theorem pT1 (hx : (ops V).Finite) (p : Fin 4352) (h : Fin 16) (e : Fin 256) : res_main_v154 V (ix4 h e 0 p) = (ops V).P 1 p h e := by
  pointwise [res_main_v154, split_read, p1 V hx]
  exact p1 V hx p h e
theorem qT1 (hx : (ops V).Finite) (p : Fin 4352) (h : Fin 16) (e : Fin 256) : res_main_v144 V (ix4 h e 0 p) = (ops V).Q 1 p h e := by
  pointwise [res_main_v144, split_read, q1 V hx]
  exact q1 V hx p h e

end Cert.ReferenceIdeal.Gates
-- ==== Proof.GateRefOut.lean ====
module

public import proofs.«01_k».proof.Proof.GateRef
/-! # The reference's six results as functions of the operands -/
@[expose] public section

set_option maxRecDepth 16384
noncomputable section
open Idealize.ShloMosaic Idealize.ShloMosaic.TcCoe Idealize.SL.Sem
namespace Cert.ReferenceIdeal.Gates
open Cert.ReferenceIdeal Cert.ReferenceIdeal.Gen Cert.ReferenceIdeal.Value Cert.Gate

/-- A sum over the rows, both directions put side by side. -/
def rows (y1 y0 : FVec Ideal S1x4352x4096 .f32) : FVec Ideal S2x4096 .f32 :=
  addf (pad S2x4096 ![1, 0] ![0, 0] ![0, 0] (broadcastInDim S1x4096 ![1] bcast_S4096_S1x4096_1 (Host.reduceAdd (shapeCast _ (Host.reduceAdd y1 (constant S_ .f32 0x00000000#32) reducesTo_S1x4352x4096_S1x4096_d1 h_S_) shapeCasts_S1x4096_S1x1x4096) (constant S_ .f32 0x00000000#32) reducesTo_S1x1x4096_S4096_d0_1 h_S_)) (constant S_ .f32 0x00000000#32) pads_S1x4096_S2x4096_100_000 h_S_) (pad S2x4096 ![0, 0] ![1, 0] ![0, 0] (broadcastInDim S1x4096 ![1] bcast_S4096_S1x4096_1 (Host.reduceAdd (shapeCast _ (Host.reduceAdd y0 (constant S_ .f32 0x00000000#32) reducesTo_S1x4352x4096_S1x4096_d1 h_S_) shapeCasts_S1x4096_S1x1x4096) (constant S_ .f32 0x00000000#32) reducesTo_S1x1x4096_S4096_d0_1 h_S_)) (constant S_ .f32 0x00000000#32) pads_S1x4096_S2x4096_010_000 h_S_)

/-- A sum over two axes of length one. -/
theorem unit_read (v : S1x1x4096.Idx → EReal) (q : Fin 4096) : Ideal.hostReduceAdd reducesTo_S1x1x4096_S4096_d0_1 v 0 (ix1 q) = v (ix3 0 0 q) := by
  rw [Ideal.hostReduceAdd, zero_add, show Finset.univ.filter (fun i => reducesTo_S1x1x4096_S4096_d0_1.drop i = ix1 q) = {ix3 0 0 q} from ?_,
    Finset.sum_singleton]
  ext i
  rw [Finset.mem_filter, Finset.mem_singleton]
  idx_vars i
  obtain rfl : i0 = 0 := Subsingleton.elim _ _
  obtain rfl : i1 = 0 := Subsingleton.elim _ _
  constructor
  · rintro ⟨-, e⟩
    have e' : i2.val = q.val := congrArg Fin.val (congrFun e 0)
    rw [Fin.ext e']
  · intro e
    refine ⟨Finset.mem_univ _, ?_⟩
    have e' : i2 = q := congrFun e 2
    subst e'
    funext b
    obtain rfl : b = 0 := Subsingleton.elim _ _
    rfl

theorem rows_zero (y1 y0 : FVec Ideal S1x4352x4096 .f32) (q : Fin 4096) : rows y1 y0 (ix2 0 q) = ∑ p : Fin 4352, y0 (ix3 0 p q) := by
  pointwise [rows, unit_read]
theorem rows_one (y1 y0 : FVec Ideal S1x4352x4096 .f32) (q : Fin 4096) : rows y1 y0 (ix2 1 q) = ∑ p : Fin 4352, y1 (ix3 0 p q) := by
  pointwise [rows, unit_read]

/-- The weights' gradient, both directions put side by side. -/
def mats (y1 y0 : FVec Ideal S16x256x1x4352 .f32) (x1 x0 : FVec Ideal S1x4352x16x256 .f32) : FVec Ideal S2x16x256x256 .bf16 :=
  truncf .bf16 (addf (pad S2x16x256x256 ![1, 0, 0, 0] ![0, 0, 0, 0] ![0, 0, 0, 0] (broadcastInDim S1x16x256x256 ![1, 2, 3] bcast_S16x256x256_S1x16x256x256_1_2_3 (transpose S16x256x256 [0, 2, 1] (Host.dotGeneral dot_S16x256x1x4352_S1x4352x16x256_S16x256x256_23_01_1_3_0_2 none y1 x1) transposes_S16x256x256_S16x256x256_0_2_1)) (constant S_ .f32 0x00000000#32) pads_S1x16x256x256_S2x16x256x256_100_000_000_000 h_S_) (pad S2x16x256x256 ![0, 0, 0, 0] ![1, 0, 0, 0] ![0, 0, 0, 0] (broadcastInDim S1x16x256x256 ![1, 2, 3] bcast_S16x256x256_S1x16x256x256_1_2_3 (transpose S16x256x256 [0, 2, 1] (Host.dotGeneral dot_S16x256x1x4352_S1x4352x16x256_S16x256x256_23_01_1_3_0_2 none y0 x0) transposes_S16x256x256_S16x256x256_0_2_1)) (constant S_ .f32 0x00000000#32) pads_S1x16x256x256_S2x16x256x256_010_000_000_000 h_S_)) bitsLt_bf16_f32

theorem mats_zero (y1 y0 : FVec Ideal S16x256x1x4352 .f32) (x1 x0 : FVec Ideal S1x4352x16x256 .f32) (h : Fin 16) (k e : Fin 256) :
    mats y1 y0 x1 x0 (ix4 0 h k e) = ∑ p : Fin 4352, y0 (ix4 h e 0 p) * x0 (ix4 0 p h k) := by
  pointwise [mats]
  simp only [Fin.sum_univ_one]
theorem mats_one (y1 y0 : FVec Ideal S16x256x1x4352 .f32) (x1 x0 : FVec Ideal S1x4352x16x256 .f32) (h : Fin 16) (k e : Fin 256) :
    mats y1 y0 x1 x0 (ix4 1 h k e) = ∑ p : Fin 4352, y1 (ix4 h e 0 p) * x1 (ix4 0 p h k) := by
  pointwise [mats]
  simp only [Fin.sum_univ_one]

/-- One direction's part of the input's gradient. -/
def part (ig t : FVec Ideal S1x4352x4096 .f32) (yq yp : FVec Ideal S16x256x1x4352 .f32) (wi wr : FVec Ideal S16x256x256 .f32) : FVec Ideal S4352x4096 .f32 :=
  Host.reduceAdd (addf (mulf ig t) (shapeCast _ (addf (transpose S1x4352x16x256 [1, 2, 0, 3] (Host.dotGeneral dot_S16x256x1x4352_S16x256x256_S16x1x4352x256_1_2_23_1_0_0 none yq wi) transposes_S16x1x4352x256_S1x4352x16x256_1_2_0_3) (transpose S1x4352x16x256 [1, 2, 0, 3] (Host.dotGeneral dot_S16x256x1x4352_S16x256x256_S16x1x4352x256_1_2_23_1_0_0 none yp wr) transposes_S16x1x4352x256_S1x4352x16x256_1_2_0_3)) shapeCasts_S1x4352x16x256_S1x4352x4096)) (constant S_ .f32 0x00000000#32) reducesTo_S1x4352x4096_S4352x4096_d0 h_S_

theorem part_read (ig t : FVec Ideal S1x4352x4096 .f32) (yq yp : FVec Ideal S16x256x1x4352 .f32) (wi wr : FVec Ideal S16x256x256 .f32) (p : Fin 4352)
    (h : Fin 16) (e : Fin 256) :
    part ig t yq yp wi wr (ix2 p (col h e)) = ig (ix3 0 p (col h e)) * t (ix3 0 p (col h e))
      + (∑ k : Fin 256, yq (ix4 h k 0 p) * wi (ix3 h e k) + ∑ k : Fin 256, yp (ix4 h k 0 p) * wr (ix3 h e k)) := by
  pointwise [part]
  rw [Fin.sum_univ_one]
  simp only [show ∀ H, (⟨(col h e).val / 256, H⟩ : Fin 16) = h from fun _ => Fin.ext (by show (h.val * 256 + e.val) / 256 = h.val; omega),
    show ∀ H, (⟨(col h e).val % 256, H⟩ : Fin 256) = e from fun _ => Fin.ext (by show (h.val * 256 + e.val) % 256 = e.val; omega)]

variable (V : Valuation τ sig (Elt Ideal))

/-- A sum over the rows of tensors whose elements are known, both directions put side by side. -/
theorem rows_eq {y1 y0 : FVec Ideal S1x4352x4096 .f32} {f : Fin 2 → Fin 4352 → Fin 16 → Fin 256 → EReal}
    (h0 : ∀ p h e, y0 (ix3 0 p (col h e)) = f 0 p h e) (h1 : ∀ p h e, y1 (ix3 0 p (col h e)) = f 1 p h e) :
    rows y1 y0 = fun i => ∑ p : Fin 4352, f (i 0) p (hd (i 1)) (ln (i 1)) := by
  funext i
  idx_vars i
  show rows y1 y0 (ix2 i0 i1) = ∑ p : Fin 4352, f i0 p (hd i1) (ln i1)
  obtain rfl | rfl : i0 = 0 ∨ i0 = 1 := by omega
  · rw [rows_zero]
    exact Finset.sum_congr rfl fun p _ => by rw [← h0, col_hd_ln]
  · rw [rows_one]
    exact Finset.sum_congr rfl fun p _ => by rw [← h1, col_hd_ln]

theorem out_gbr (hx : (ops V).Finite) : rows (res_main_v149 V) (res_main_v200 V) = fun i => (ops V).gbr (i 0) (hd (i 1)) (ln (i 1)) :=
  rows_eq (p0 V hx) (p1 V hx)
theorem out_gbi (hx : (ops V).Finite) : rows (res_main_v139 V) (res_main_v190 V) = fun i => (ops V).gbi (i 0) (hd (i 1)) (ln (i 1)) :=
  rows_eq (q0 V hx) (q1 V hx)
theorem out_gc (hx : (ops V).Finite) :
    rows (mulf (φ := .f32) (res_main_v132 V) (res_main_v83 V)) (mulf (φ := .f32) (res_main_v183 V) (res_main_v27 V)) = fun i => (ops V).gc (i 0) (hd (i 1)) (ln (i 1)) :=
  rows_eq (g0 V hx) (g1 V hx)

/-- The weights' gradient of tensors whose elements are known. -/
theorem mats_eq {y1 y0 : FVec Ideal S16x256x1x4352 .f32} {x1 x0 : FVec Ideal S1x4352x16x256 .f32} {f : Fin 2 → Fin 4352 → Fin 16 → Fin 256 → EReal}
    {u : Fin 4352 → Fin 4096 → EReal} (h0 : ∀ p h e, y0 (ix4 h e 0 p) = f 0 p h e) (h1 : ∀ p h e, y1 (ix4 h e 0 p) = f 1 p h e)
    (u0 : ∀ p h k, x0 (ix4 0 p h k) = u p (col h k)) (u1 : ∀ p h k, x1 (ix4 0 p h k) = u p (col h k)) :
    mats y1 y0 x1 x0 = fun i => ∑ p : Fin 4352, u p (col (i 1) (i 2)) * f (i 0) p (i 1) (i 3) := by
  funext i
  idx_vars i
  show mats y1 y0 x1 x0 (ix4 i0 i1 i2 i3) = ∑ p : Fin 4352, u p (col i1 i2) * f i0 p i1 i3
  obtain rfl | rfl : i0 = 0 ∨ i0 = 1 := by omega
  · rw [mats_zero]
    exact Finset.sum_congr rfl fun p _ => by rw [h0, u0, mul_comm]
  · rw [mats_one]
    exact Finset.sum_congr rfl fun p _ => by rw [h1, u1, mul_comm]

theorem out_gwr (hx : (ops V).Finite) :
    mats (res_main_v154 V) (res_main_v205 V) (res_main_v71 V) (res_main_v15 V) = fun i => (ops V).gwr (i 0) (i 1) (i 2) (i 3) :=
  mats_eq (u := fun p q => (ops V).u (ix2 p q)) (pT0 V hx) (pT1 V hx) (us0 V) (us1 V)
theorem out_gwi (hx : (ops V).Finite) :
    mats (res_main_v144 V) (res_main_v195 V) (res_main_v71 V) (res_main_v15 V) = fun i => (ops V).gwi (i 0) (i 1) (i 2) (i 3) :=
  mats_eq (u := fun p q => (ops V).u (ix2 p q)) (qT0 V hx) (qT1 V hx) (us0 V) (us1 V)

/-- The input's gradient: the sum of both directions' parts. -/
theorem out_du (hx : (ops V).Finite) :
    addf (part (res_main_v98 V) (res_main_v122 V) (res_main_v144 V) (res_main_v154 V) (res_main_v68 V) (res_main_v64 V))
        (part (res_main_v42 V) (res_main_v173 V) (res_main_v195 V) (res_main_v205 V) (res_main_v12 V) (res_main_v8 V))
      = fun i => (ops V).du (i 0) (hd (i 1)) (ln (i 1)) := by
  funext i
  idx_vars i
  show part _ _ _ _ _ _ (ix2 i0 i1) + part _ _ _ _ _ _ (ix2 i0 i1) = (ops V).du i0 (hd i1) (ln i1)
  conv_lhs => rw [← col_hd_ln i1]
  rw [part_read, part_read]
  simp only [qT0 V hx, qT1 V hx, pT0 V hx, pT1 V hx, wr0, wr1, wi0, wi1, Gates.i0, Gates.i1, t0 V hx, t1 V hx]
  unfold Ops.du Ops.T kT
  rw [mul_comm ((ops V).ig 0 _ _ _), mul_comm ((ops V).ig 1 _ _ _)]
  generalize (∑ k : Fin 256, (ops V).P 0 _ _ k * _) = a0
  generalize (∑ k : Fin 256, (ops V).P 1 _ _ k * _) = a1
  generalize (∑ k : Fin 256, (ops V).Q 0 _ _ k * _) = b0
  generalize (∑ k : Fin 256, (ops V).Q 1 _ _ k * _) = b1
  ac_rfl

end Cert.ReferenceIdeal.Gates
-- ==== Proof.RealArrays.lean ====
module

public import proofs.«01_k».proof.Proof.GateReal
public import Idealize.ShloMosaic.Lib.ReduceAll
public import Idealize.ShloMosaic.Lib.Pointwise
/-! # A printed comparison with infinity, read back -/
@[expose] public section

noncomputable section
open Idealize.ShloMosaic
namespace Cert.Gate

/-- An extended real whose absolute value is below infinity is a real number. -/
theorem real_of_cmp (v : EReal) (h : Ideal.cmp .olt (max v (-v)) ⊤ = 1#1) : ∃ r : ℝ, v = (r : EReal) := by
  induction v with
  | bot => simp [Ideal.cmp] at h
  | top => simp [Ideal.cmp] at h
  | coe r => exact ⟨r, rfl⟩

/-- One operand's comparison, read back at one element. -/
theorem real_of_all {s : Shape} (x : FVec Ideal s .f32) (init : (⟨0, ![]⟩ : Shape).Idx → BitVec 1) (axes : List (Fin s.rank))
    (hb : (⟨0, ![]⟩ : Shape).BroadcastsInDim s (![] : Fin 0 → Fin s.rank)) (h : s.ReducesTo axes ⟨0, ![]⟩) (hu : 0 < (⟨0, ![]⟩ : Shape).numel) (j : (⟨0, ![]⟩ : Shape).Idx)
    (e : Host.reduce IntOp.andi (cmpf .olt (Host.absf x) (broadcastInDim s ![] hb (constant ⟨0, ![]⟩ .f32 0x7F800000#32))) init h hu j = 1#1) (i : s.Idx) :
    ∃ r : ℝ, x i = (r : EReal) := by
  haveI : Subsingleton (⟨0, ![]⟩ : Shape).Idx := ⟨fun a b => funext fun k => k.elim0⟩
  have he := Host.reduce_andi_all _ init h hu j e i
  refine real_of_cmp (x i) ?_
  rw [← Cert.Gate.inf]
  exact he

end Cert.Gate
-- ==== Proof.GatePre.lean ====
module

public import proofs.«01_k».proof.Pre_gates_finite
public import proofs.«01_k».proof.Proof.GateFinite
public import proofs.«01_k».proof.Proof.RealArrays
/-! # The precondition read back

The printed precondition compares four operands' absolute values with infinity and joins the comparisons; where it is
one, every element of the four operands is a real number. -/
@[expose] public section

set_option maxRecDepth 16384
noncomputable section
open Idealize.ShloMosaic
namespace Cert.Pre_gates_finite

theorem facts : Cert.Pre_gates_finite.Facts where
  bcast_S_S4352x4096 := by decide
  reducesTo_S4352x4096_S_d0_1 := by decide
  h_S_ := by decide
  bcast_S_S2x4096 := by decide
  reducesTo_S2x4096_S_d0_1 := by decide
  bcast_S_S2x16x256x256 := by decide
  reducesTo_S2x16x256x256_S_d0_1_2_3 := by decide

theorem fn_real [Facts] (x : Cert.Gate.Ops) (h : fn (F := Ideal) x.u x.lam x.wr x.br x.wi x.bi x.ca x.cb = fun _ => 1#1) : x.Finite := by
  have e := congrFun h ix0
  obtain ⟨e1, e4⟩ := IntOp.andi_eq_one.1 e
  obtain ⟨e1, e3⟩ := IntOp.andi_eq_one.1 e1
  obtain ⟨e1, e2⟩ := IntOp.andi_eq_one.1 e1
  exact ⟨Cert.Gate.real_of_all _ _ _ _ _ _ _ e1, Cert.Gate.real_of_all _ _ _ _ _ _ _ e2, Cert.Gate.real_of_all _ _ _ _ _ _ _ e3, Cert.Gate.real_of_all _ _ _ _ _ _ _ e4⟩

end Cert.Pre_gates_finite
-- ==== Proof.GateClaim.lean ====
module

public import proofs.«01_k».proof.Defs
public import proofs.«01_k».proof.Proof.GateBlocks
public import proofs.«01_k».proof.Proof.GateRefOut
public import proofs.«01_k».proof.Proof.GatePre
public import Idealize.ShloMosaic.Adequacy
public import Idealize.ShloMosaic.Init
/-! # The backward pass of the gates computes the reference's gradients -/
@[expose] public section

set_option maxRecDepth 16384
noncomputable section
open Idealize.ShloMosaic Idealize.ShloMosaic.TcCoe Idealize.SL.Sem
namespace Cert.Proof

/-- The reference terminates, leaves its arguments as they were, and declares no semaphore. -/
theorem gates_ref_frame : Cert.quiescent_ReferenceIdeal := fun m ρ _ =>
  (θ_run Cert.ReferenceIdeal.defs _ _).mono
    (fun r h => ⟨fun c => (h c).2.2.2.2.2.2, sem_eq_zero_of_no_sems (by decide) r.2⟩)
    (Cert.ReferenceIdeal.Value.run (F := Ideal) m ρ)

/-- The reference's operands are the kernel's when their arguments agree. -/
theorem gates_ops_eq {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} {c : Dev Cert.KernelIdeal.nD}
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Gates.ops (StableHlo.launchContents m' c) = Cert.KernelIdeal.Gates.ops m c := by
  show Cert.Gate.Ops.mk _ _ _ _ _ _ _ _ = Cert.Gate.Ops.mk _ _ _ _ _ _ _ _
  exact congr (congr (congr (congr (congr (congr (congr (congrArg Cert.Gate.Ops.mk h0) h1) h2) h3) h4) h5) h6) h7

/-- The value claim: all six gradients. -/
theorem gates_algebraic [Cert.Pre_gates_finite.Facts] : Cert.algebraic_KernelIdeal_ReferenceIdeal_pre_gates_finite := by
  intro m ρ m' ρ' hpre hag
  have hops : ∀ c : Dev Cert.KernelIdeal.nD, Cert.ReferenceIdeal.Gates.ops (StableHlo.launchContents m' c) = Cert.KernelIdeal.Gates.ops m c :=
    fun c => by
      obtain ⟨h0, h1, h2, h3, h4, h5, h6, h7⟩ := hag c
      exact gates_ops_eq h0 h1 h2 h3 h4 h5 h6 h7
  have hfin : ∀ c : Dev Cert.KernelIdeal.nD, (Cert.ReferenceIdeal.Gates.ops (StableHlo.launchContents m' c)).Finite := fun c =>
    hops c ▸ Cert.Pre_gates_finite.fn_real (Cert.KernelIdeal.Gates.ops m c) (hpre c)
  refine ⟨fun c => Cert.KernelIdeal.Value.G8 m c, fun c => Cert.KernelIdeal.Value.G9 m c, fun c => Cert.KernelIdeal.Value.G10 m c,
    fun c => Cert.KernelIdeal.Value.G11 m c, fun c => Cert.KernelIdeal.Value.G12 m c, fun c => Cert.KernelIdeal.Value.G13 m c,
    Cert.KernelIdeal.Value.run m ρ, ?_⟩
  refine (θ_run Cert.ReferenceIdeal.defs _ _).mono (fun r h c => ?_) (Cert.ReferenceIdeal.Value.run (F := Ideal) m' ρ')
  obtain ⟨e0, e1, e2, e3, e4, e5, ea⟩ := h c
  refine ⟨e0.trans ?_, e1.trans ?_, e2.trans ?_, e3.trans ?_, e4.trans ?_, e5.trans ?_, ea⟩
  · refine (Cert.ReferenceIdeal.Gates.out_du _ (hfin c)).trans ?_
    rw [hops c]
    exact (Cert.KernelIdeal.Gates.final_du m c).symm.trans (Cert.KernelIdeal.Value.final8 m c)
  · refine (Cert.ReferenceIdeal.Gates.out_gwr _ (hfin c)).trans ?_
    rw [hops c]
    exact (Cert.KernelIdeal.Gates.final_gwr m c).symm.trans (Cert.KernelIdeal.Value.final9 m c)
  · refine (Cert.ReferenceIdeal.Gates.out_gwi _ (hfin c)).trans ?_
    rw [hops c]
    exact (Cert.KernelIdeal.Gates.final_gwi m c).symm.trans (Cert.KernelIdeal.Value.final10 m c)
  · refine (Cert.ReferenceIdeal.Gates.out_gbr _ (hfin c)).trans ?_
    rw [hops c]
    exact (Cert.KernelIdeal.Gates.final_gbr m c).symm.trans (Cert.KernelIdeal.Value.final11 m c)
  · refine (Cert.ReferenceIdeal.Gates.out_gbi _ (hfin c)).trans ?_
    rw [hops c]
    exact (Cert.KernelIdeal.Gates.final_gbi m c).symm.trans (Cert.KernelIdeal.Value.final12 m c)
  · refine (Cert.ReferenceIdeal.Gates.out_gc _ (hfin c)).trans ?_
    rw [hops c]
    exact (Cert.KernelIdeal.Gates.final_gc m c).symm.trans (Cert.KernelIdeal.Value.final13 m c)

end Cert.Proof
-- ==== Proof.Dh.lean ====
module

public import proofs.«01_k».proof.Defs
public import proofs.«01_k».proof.Proof.Gen.KernelDh.Frame
public import proofs.«01_k».proof.Proof.Gen.KernelDhIdeal.Value
public import proofs.«01_k».proof.Proof.Gen.ReferenceDhIdeal.Run
public import Idealize.ShloMosaic.Lib.Pipeline.ValueKit
public import Idealize.ShloMosaic.Lib.Pipeline.ReadBack
public import Idealize.ShloMosaic.Lib.Pointwise
public import Idealize.ShloMosaic.Lib.Claim
/-! # The gradient of the input projection's input

Each block of the result is summed over eight tiles of the 16384 columns, each in four parts, in a scratch block that the kernel carries. -/
@[expose] public section

set_option maxRecDepth 16384
noncomputable section
open Idealize.ShloMosaic Idealize.ShloMosaic.TcCoe Idealize.SL.Sem
open Idealize.ShloMosaic.Pipeline (Dat)

namespace Cert.ReferenceDhIdeal.Product
open Cert.ReferenceDhIdeal Cert.ReferenceDhIdeal.Gen

/-- The reference's result as a function of its two operands. -/
def gh (ct : FVec Ideal S4352x16384 .f32) (w : FVec Ideal S4096x16384 .f32) : FVec Ideal S4352x4096 .f32 :=
  Host.dotGeneral dot_S4352x16384_S4096x16384_S4352x4096_1_1_0_0_n_n none ct w

theorem gh_apply (ct : FVec Ideal S4352x16384 .f32) (w : FVec Ideal S4096x16384 .f32) (i : Fin 4352) (j : Fin 4096) :
    gh ct w (ix2 i j) = ∑ k : Fin 16384, ct (ix2 i k) * w (ix2 j k) := by
  pointwise [gh]

end Cert.ReferenceDhIdeal.Product

namespace Cert.KernelDhIdeal.Product
open Cert.KernelDhIdeal Cert.KernelDhIdeal.Gen

variable (m : (ℓ : Loc nD τ sig) → Buf (Elt Ideal) ℓ)

theorem idx : ∀ t : Fin cfg0.N, win0_0.index t = ![t.val / 32, t.val % 8] ∧ win0_1.index t = ![t.val % 8, t.val / 8 % 4, 0]
    ∧ win0_2.index t = ![t.val % 8, t.val / 8 % 4, 0] ∧ win0_3.index t = ![t.val % 8, t.val / 8 % 4, 0] ∧ win0_4.index t = ![t.val % 8, t.val / 8 % 4, 0]
    ∧ win0_5.index t = ![t.val / 32, t.val / 8 % 4] ∧ t.val < 128 :=
  (by decide +kernel : ∀ t : Fin grid0.N, _)

/-- The result as a function of the two operands. -/
def G (a : FVec Ideal S4352x16384 .f32) (b : FVec Ideal S4096x16384 .f32) : FVec Ideal S4352x4096 .f32 := fun y =>
  ∑ k : Fin 16384, a (ix2 (y 0) k) * b (ix2 (y 1) k)

/-- The product of 512 columns of a tile, from `o` on, with a part of the weight. -/
def part (a : FVec Ideal S1088x2048 .bf16) (b : FVec Ideal S1x1024x512 .bf16) (o : ℕ) (ho : o + 512 ≤ 2048) (p : Fin 1088) (q : Fin 1024) : EReal :=
  ∑ k : Fin 512, a (ix2 p ⟨o + k.val, by omega⟩) * b (ix3 0 q k)

/-- The product of a tile with the four parts of the weight. -/
def dot (a : FVec Ideal S1088x2048 .bf16) (b0 b1 b2 b3 : FVec Ideal S1x1024x512 .bf16) (p : Fin 1088) (q : Fin 1024) : EReal :=
  part a b0 0 (by omega) p q + part a b1 512 (by omega) p q + part a b2 1024 (by omega) p q + part a b3 1536 (by omega) p q

/-- The product of the tiles of a point. -/
def term (c : Dev nD) (t : Fin cfg0.N) (p : Fin 1088) (q : Fin 1024) : EReal :=
  dot (iblk m c 0 t) (iblk m c 1 t) (iblk m c 2 t) (iblk m c 3 t) (iblk m c 4 t) p q

/-- What the block of a point holds after it: the scratch inside a sweep, the result block at its end. -/
def acc (c : Dev nD) (p : Fin 1088) (q : Fin 1024) (n : ℕ) (h : n < cfg0.N) : EReal :=
  if n % 8 = 7 then (outsAt0 m c n h).1 (ix2 p q) else (outsAt0 m c n h).2 (ix2 p q)

theorem acc_first (c : Dev nD) (p : Fin 1088) (q : Fin 1024) (t : Fin cfg0.N) (h : t.val % 8 = 0) : acc m c p q t.val t.isLt = 0 + term m c t p q := by
  unfold acc term dot part
  rw [if_neg (by omega), outsAt0_A m c t h (by omega) (by omega), zero_add]
  frame_out
  pointwise [k0_pay1]

theorem acc_next (c : Dev nD) (p : Fin 1088) (q : Fin 1024) (t : Fin cfg0.N) (h : ¬ t.val % 8 = 0) :
    acc m c p q t.val t.isLt = acc m c p q (t.val - 1) (Nat.lt_of_le_of_lt (Nat.sub_le _ _) t.isLt) + term m c t p q := by
  unfold acc term dot part
  by_cases h' : t.val % 8 = 7
  · rw [if_pos h', if_neg (by omega), outsAt0_C m c t h (by omega) h']
    frame_out
    pointwise [k0_pay3]
    rw [read_unread_whole]
  · rw [if_neg h', if_neg (by omega), outsAt0_B m c t h (by omega) h']
    frame_out
    pointwise [k0_pay2]
    rw [read_unread_whole]

/-- The summand of the result's element `(p, q)` of a point at column `k` of its tile. -/
def summand (a : FVec Ideal S4352x16384 .f32) (b : FVec Ideal S4096x16384 .f32) (t : Fin cfg0.N) (p : Fin 1088) (q : Fin 1024) (k : Fin 2048) : EReal :=
  a (ix2 ⟨t.val / 32 * 1088 + p.val, by have := idx t; omega⟩ ⟨t.val % 8 * 2048 + k.val, by omega⟩)
    * b (ix2 ⟨t.val / 8 % 4 * 1024 + q.val, by omega⟩ ⟨t.val % 8 * 2048 + k.val, by omega⟩)

theorem part_0 (c : Dev nD) (t : Fin cfg0.N) (p : Fin 1088) (q : Fin 1024) :
    part (iblk m c 0 t) (iblk m c 1 t) 0 (by omega) p q = ∑ k : Fin 512, summand (m ((c : Thread nD τ).loc main_arg2)) (m ((c : Thread nD τ).loc main_arg1)) t p q ⟨0 + k.val, by omega⟩ := by
  unfold part summand
  refine Finset.sum_congr rfl fun k _ => ?_
  blk_point [iblk, V, idx t]

theorem part_1 (c : Dev nD) (t : Fin cfg0.N) (p : Fin 1088) (q : Fin 1024) :
    part (iblk m c 0 t) (iblk m c 2 t) 512 (by omega) p q = ∑ k : Fin 512, summand (m ((c : Thread nD τ).loc main_arg2)) (m ((c : Thread nD τ).loc main_arg1)) t p q ⟨512 + k.val, by omega⟩ := by
  unfold part summand
  refine Finset.sum_congr rfl fun k _ => ?_
  blk_point [iblk, V, idx t]

theorem part_2 (c : Dev nD) (t : Fin cfg0.N) (p : Fin 1088) (q : Fin 1024) :
    part (iblk m c 0 t) (iblk m c 3 t) 1024 (by omega) p q = ∑ k : Fin 512, summand (m ((c : Thread nD τ).loc main_arg2)) (m ((c : Thread nD τ).loc main_arg1)) t p q ⟨1024 + k.val, by omega⟩ := by
  unfold part summand
  refine Finset.sum_congr rfl fun k _ => ?_
  blk_point [iblk, V, idx t]

theorem part_3 (c : Dev nD) (t : Fin cfg0.N) (p : Fin 1088) (q : Fin 1024) :
    part (iblk m c 0 t) (iblk m c 4 t) 1536 (by omega) p q = ∑ k : Fin 512, summand (m ((c : Thread nD τ).loc main_arg2)) (m ((c : Thread nD τ).loc main_arg1)) t p q ⟨1536 + k.val, by omega⟩ := by
  unfold part summand
  refine Finset.sum_congr rfl fun k _ => ?_
  blk_point [iblk, V, idx t]

/-- A sum over 2048 columns in four parts. -/
theorem sum_parts (f : Fin 2048 → EReal) :
    (∑ k : Fin 512, f ⟨0 + k.val, by omega⟩) + (∑ k : Fin 512, f ⟨512 + k.val, by omega⟩) + (∑ k : Fin 512, f ⟨1024 + k.val, by omega⟩)
      + (∑ k : Fin 512, f ⟨1536 + k.val, by omega⟩) = ∑ k : Fin 2048, f k := by
  rw [← Fin.sum_mul_add_fin 4 512 f, Fin.sum_univ_four]
  rfl

theorem term_eq (c : Dev nD) (t : Fin cfg0.N) (p : Fin 1088) (q : Fin 1024) : term m c t p q = ∑ k : Fin 2048, summand (m ((c : Thread nD τ).loc main_arg2)) (m ((c : Thread nD τ).loc main_arg1)) t p q k := by
  unfold term dot
  rw [part_0, part_1, part_2, part_3]
  exact sum_parts _

theorem final (c : Dev nD) : (dats m 0 c).arrAt 5 cfg0.N = G (m ((c : Thread nD τ).loc main_arg2)) (m ((c : Thread nD τ).loc main_arg1)) := by
  refine (dats m 0 c).arrAt_eq_of_covers 5 _ (by decide +kernel) fun t hf y => ?_
  have ht : t.val % 8 = 7 := (flush0_5 t).mp hf
  blk_simp
  rw [after0_5]
  idx_vars y
  have e : acc m c y0 y1 t.val t.isLt = _ := ((Pipeline.eq_sum_fin_of_reset_step_apply_of_flush (fun n h (_ : Unit) => acc m c y0 y1 n h) 8 (fun _ => 0)
    (fun s _ => term m c s y0 y1) (fun s h _ => acc_first m c y0 y1 s h) (fun s h _ => acc_next m c y0 y1 s h) t ht ())).trans (zero_add _)
  rw [acc, if_pos ht] at e
  refine e.trans ?_
  simp only [term_eq]
  unfold summand G
  refine Fin.sum_mul_add_congr fun s k hl => ?_
  blk_point [idx t, idx ⟨_, Pipeline.run_point_lt_of_flush t ht s⟩]

end Cert.KernelDhIdeal.Product

namespace Cert.Proof

theorem dh_ref_frame : Cert.quiescent_ReferenceDhIdeal := fun m ρ _ =>
  (θ_run Cert.ReferenceDhIdeal.defs _ _).mono (fun _ h => ⟨fun c => (h c).2, sem_eq_zero_of_no_sems (by decide) _⟩)
    (Cert.ReferenceDhIdeal.Value.run (F := Ideal) m ρ)

theorem dh_algebraic : Cert.algebraic_KernelDhIdeal_ReferenceDhIdeal := by
  intro m ρ m' ρ' _ hin
  refine ⟨_, Cert.KernelDhIdeal.Value.run_blocks m ρ, ?_⟩
  refine (θ_run Cert.ReferenceDhIdeal.defs _ _).mono (fun r h c => ?_) (Cert.ReferenceDhIdeal.Value.run (F := Ideal) m' ρ')
  refine ⟨(h c).1.trans ?_, (h c).2⟩
  refine Eq.trans ?_ (Cert.KernelDhIdeal.Product.final m c).symm
  rw [(hin c).2.1, (hin c).2.2]
  funext y
  idx_vars y
  exact Cert.ReferenceDhIdeal.Product.gh_apply _ _ y0 y1

end Cert.Proof
-- ==== Proof.Gwin0.lean ====
module

public import proofs.«01_k».proof.Defs
public import proofs.«01_k».proof.Proof.Gen.KernelGwin0.Frame
public import proofs.«01_k».proof.Proof.Gen.KernelGwin0Ideal.Value
public import proofs.«01_k».proof.Proof.Gen.ReferenceGwin0Ideal.Run
public import Idealize.ShloMosaic.Lib.Pipeline.ValueKit
public import Idealize.ShloMosaic.Lib.Pointwise
public import Idealize.ShloMosaic.Lib.Claim
/-! # The gradient of the input projection's weight, its first quarter -/
@[expose] public section

set_option maxRecDepth 16384
noncomputable section
open Idealize.ShloMosaic Idealize.ShloMosaic.TcCoe Idealize.SL.Sem
open Idealize.ShloMosaic.Pipeline (Dat)

namespace Cert.ReferenceGwin0Ideal.Product
open Cert.ReferenceGwin0Ideal Cert.ReferenceGwin0Ideal.Gen

/-- The reference's result as a function of its two operands. -/
def gw (ct : FVec Ideal S4352x16384 .f32) (h : FVec Ideal S4352x4096 .f32) : FVec Ideal S8x4096x512 .bf16 :=
  transpose S8x4096x512 [1, 0, 2] (extractStridedSlice S4096x8x512 ![0, 0, 0] (shapeCast S4096x8x2048 (truncf .bf16 (transpose S4096x16384 [1, 0] (Host.dotGeneral dot_S4352x16384_S4352x4096_S16384x4096_0_0_1_1_n_n none ct h) transposes_S16384x4096_S4096x16384_1_0) bitsLt_bf16_f32) shapeCasts_S4096x16384_S4096x8x2048) slices_S4096x8x2048_S4096x8x512_0_0_0) transposes_S4096x8x512_S8x4096x512_1_0_2

theorem gw_apply (ct : FVec Ideal S4352x16384 .f32) (h : FVec Ideal S4352x4096 .f32) (d : Fin 8) (i : Fin 4096) (j : Fin 512) :
    gw ct h (ix3 d i j) = ∑ p : Fin 4352, ct (ix2 p ⟨d.val * 2048 + j.val, by omega⟩) * h (ix2 p i) := by
  pointwise [gw]

end Cert.ReferenceGwin0Ideal.Product

namespace Cert.KernelGwin0Ideal.Product
open Cert.KernelGwin0Ideal Cert.KernelGwin0Ideal.Gen

variable (m : (ℓ : Loc nD τ sig) → Buf (Elt Ideal) ℓ)

theorem idx : ∀ t : Fin cfg0.N, win0_0.index t = ![t.val / 8, 0] ∧ win0_1.index t = ![0, t.val % 8 * 4] ∧ win0_2.index t = ![t.val % 8, t.val / 8, 0] :=
  (by decide +kernel : ∀ t : Fin grid0.N, _)

/-- The kernel's result as a function of its two operands. -/
def G (ct : FVec Ideal S4352x16384 .f32) (h : FVec Ideal S4352x4096 .f32) : FVec Ideal S8x4096x512 .bf16 := fun y =>
  ∑ p : Fin 4352, h (ix2 p (y 1)) * ct (ix2 p ⟨(y 0).val * 2048 + (y 2).val, by idx_bounds y; omega⟩)

theorem final (c : Dev nD) : (dats m 0 c).arrAt 2 cfg0.N = G (m ((c : Thread nD τ).loc main_arg2)) (m ((c : Thread nD τ).loc main_arg0)) := by
  refine (dats m 0 c).arrAt_eq_of_covers 2 _ (by decide +kernel) fun t hf y => ?_
  blk_simp
  rw [after0_2]
  unfold outsAt0
  frame_out
  idx_vars y
  pointwise [k0_pay1, G]
  blk_point [iblk, V, idx t]

end Cert.KernelGwin0Ideal.Product

namespace Cert.Proof

theorem gwin0_ref_frame : Cert.quiescent_ReferenceGwin0Ideal := fun m ρ _ =>
  (θ_run Cert.ReferenceGwin0Ideal.defs _ _).mono (fun _ h => ⟨fun c => (h c).2, sem_eq_zero_of_no_sems (by decide) _⟩)
    (Cert.ReferenceGwin0Ideal.Value.run (F := Ideal) m ρ)

theorem gwin0_algebraic : Cert.algebraic_KernelGwin0Ideal_ReferenceGwin0Ideal := by
  intro m ρ m' ρ' _ hin
  refine ⟨_, Cert.KernelGwin0Ideal.Value.run_blocks m ρ, ?_⟩
  refine (θ_run Cert.ReferenceGwin0Ideal.defs _ _).mono (fun r h c => ?_) (Cert.ReferenceGwin0Ideal.Value.run (F := Ideal) m' ρ')
  refine ⟨(h c).1.trans ?_, (h c).2⟩
  refine Eq.trans ?_ (Cert.KernelGwin0Ideal.Product.final m c).symm
  rw [(hin c).1, (hin c).2.2]
  funext y
  idx_vars y
  refine (Cert.ReferenceGwin0Ideal.Product.gw_apply _ _ y0 y1 y2).trans ?_
  exact Finset.sum_congr rfl fun p _ => mul_comm _ _

end Cert.Proof
-- ==== Proof.Gwin1.lean ====
module

public import proofs.«01_k».proof.Defs
public import proofs.«01_k».proof.Proof.Gen.KernelGwin1.Frame
public import proofs.«01_k».proof.Proof.Gen.KernelGwin1Ideal.Value
public import proofs.«01_k».proof.Proof.Gen.ReferenceGwin1Ideal.Run
public import Idealize.ShloMosaic.Lib.Pipeline.ValueKit
public import Idealize.ShloMosaic.Lib.Pointwise
public import Idealize.ShloMosaic.Lib.Claim
/-! # The gradient of the input projection's weight, its second quarter -/
@[expose] public section

set_option maxRecDepth 16384
noncomputable section
open Idealize.ShloMosaic Idealize.ShloMosaic.TcCoe Idealize.SL.Sem
open Idealize.ShloMosaic.Pipeline (Dat)

namespace Cert.ReferenceGwin1Ideal.Product
open Cert.ReferenceGwin1Ideal Cert.ReferenceGwin1Ideal.Gen

/-- The reference's result as a function of its two operands. -/
def gw (ct : FVec Ideal S4352x16384 .f32) (h : FVec Ideal S4352x4096 .f32) : FVec Ideal S8x4096x512 .bf16 :=
  transpose S8x4096x512 [1, 0, 2] (extractStridedSlice S4096x8x512 ![0, 0, 512] (shapeCast S4096x8x2048 (truncf .bf16 (transpose S4096x16384 [1, 0] (Host.dotGeneral dot_S4352x16384_S4352x4096_S16384x4096_0_0_1_1_n_n none ct h) transposes_S16384x4096_S4096x16384_1_0) bitsLt_bf16_f32) shapeCasts_S4096x16384_S4096x8x2048) slices_S4096x8x2048_S4096x8x512_0_0_512) transposes_S4096x8x512_S8x4096x512_1_0_2

theorem gw_apply (ct : FVec Ideal S4352x16384 .f32) (h : FVec Ideal S4352x4096 .f32) (d : Fin 8) (i : Fin 4096) (j : Fin 512) :
    gw ct h (ix3 d i j) = ∑ p : Fin 4352, ct (ix2 p ⟨d.val * 2048 + (512 + j.val), by omega⟩) * h (ix2 p i) := by
  pointwise [gw]

end Cert.ReferenceGwin1Ideal.Product

namespace Cert.KernelGwin1Ideal.Product
open Cert.KernelGwin1Ideal Cert.KernelGwin1Ideal.Gen

variable (m : (ℓ : Loc nD τ sig) → Buf (Elt Ideal) ℓ)

theorem idx : ∀ t : Fin cfg0.N, win0_0.index t = ![t.val / 8, 0] ∧ win0_1.index t = ![0, t.val % 8 * 4 + 1] ∧ win0_2.index t = ![t.val % 8, t.val / 8, 0] :=
  (by decide +kernel : ∀ t : Fin grid0.N, _)

/-- The kernel's result as a function of its two operands. -/
def G (ct : FVec Ideal S4352x16384 .f32) (h : FVec Ideal S4352x4096 .f32) : FVec Ideal S8x4096x512 .bf16 := fun y =>
  ∑ p : Fin 4352, h (ix2 p (y 1)) * ct (ix2 p ⟨(y 0).val * 2048 + (512 + (y 2).val), by idx_bounds y; omega⟩)

theorem final (c : Dev nD) : (dats m 0 c).arrAt 2 cfg0.N = G (m ((c : Thread nD τ).loc main_arg2)) (m ((c : Thread nD τ).loc main_arg0)) := by
  refine (dats m 0 c).arrAt_eq_of_covers 2 _ (by decide +kernel) fun t hf y => ?_
  blk_simp
  rw [after0_2]
  unfold outsAt0
  frame_out
  idx_vars y
  pointwise [k0_pay1, G]
  blk_point [iblk, V, idx t]

end Cert.KernelGwin1Ideal.Product

namespace Cert.Proof

theorem gwin1_ref_frame : Cert.quiescent_ReferenceGwin1Ideal := fun m ρ _ =>
  (θ_run Cert.ReferenceGwin1Ideal.defs _ _).mono (fun _ h => ⟨fun c => (h c).2, sem_eq_zero_of_no_sems (by decide) _⟩)
    (Cert.ReferenceGwin1Ideal.Value.run (F := Ideal) m ρ)

theorem gwin1_algebraic : Cert.algebraic_KernelGwin1Ideal_ReferenceGwin1Ideal := by
  intro m ρ m' ρ' _ hin
  refine ⟨_, Cert.KernelGwin1Ideal.Value.run_blocks m ρ, ?_⟩
  refine (θ_run Cert.ReferenceGwin1Ideal.defs _ _).mono (fun r h c => ?_) (Cert.ReferenceGwin1Ideal.Value.run (F := Ideal) m' ρ')
  refine ⟨(h c).1.trans ?_, (h c).2⟩
  refine Eq.trans ?_ (Cert.KernelGwin1Ideal.Product.final m c).symm
  rw [(hin c).1, (hin c).2.2]
  funext y
  idx_vars y
  refine (Cert.ReferenceGwin1Ideal.Product.gw_apply _ _ y0 y1 y2).trans ?_
  exact Finset.sum_congr rfl fun p _ => mul_comm _ _

end Cert.Proof
-- ==== Proof.Gwin2.lean ====
module

public import proofs.«01_k».proof.Defs
public import proofs.«01_k».proof.Proof.Gen.KernelGwin2.Frame
public import proofs.«01_k».proof.Proof.Gen.KernelGwin2Ideal.Value
public import proofs.«01_k».proof.Proof.Gen.ReferenceGwin2Ideal.Run
public import Idealize.ShloMosaic.Lib.Pipeline.ValueKit
public import Idealize.ShloMosaic.Lib.Pointwise
public import Idealize.ShloMosaic.Lib.Claim
/-! # The gradient of the input projection's weight, its third quarter -/
@[expose] public section

set_option maxRecDepth 16384
noncomputable section
open Idealize.ShloMosaic Idealize.ShloMosaic.TcCoe Idealize.SL.Sem
open Idealize.ShloMosaic.Pipeline (Dat)

namespace Cert.ReferenceGwin2Ideal.Product
open Cert.ReferenceGwin2Ideal Cert.ReferenceGwin2Ideal.Gen

/-- The reference's result as a function of its two operands. -/
def gw (ct : FVec Ideal S4352x16384 .f32) (h : FVec Ideal S4352x4096 .f32) : FVec Ideal S8x4096x512 .bf16 :=
  transpose S8x4096x512 [1, 0, 2] (extractStridedSlice S4096x8x512 ![0, 0, 1024] (shapeCast S4096x8x2048 (truncf .bf16 (transpose S4096x16384 [1, 0] (Host.dotGeneral dot_S4352x16384_S4352x4096_S16384x4096_0_0_1_1_n_n none ct h) transposes_S16384x4096_S4096x16384_1_0) bitsLt_bf16_f32) shapeCasts_S4096x16384_S4096x8x2048) slices_S4096x8x2048_S4096x8x512_0_0_1024) transposes_S4096x8x512_S8x4096x512_1_0_2

theorem gw_apply (ct : FVec Ideal S4352x16384 .f32) (h : FVec Ideal S4352x4096 .f32) (d : Fin 8) (i : Fin 4096) (j : Fin 512) :
    gw ct h (ix3 d i j) = ∑ p : Fin 4352, ct (ix2 p ⟨d.val * 2048 + (1024 + j.val), by omega⟩) * h (ix2 p i) := by
  pointwise [gw]

end Cert.ReferenceGwin2Ideal.Product

namespace Cert.KernelGwin2Ideal.Product
open Cert.KernelGwin2Ideal Cert.KernelGwin2Ideal.Gen

variable (m : (ℓ : Loc nD τ sig) → Buf (Elt Ideal) ℓ)

theorem idx : ∀ t : Fin cfg0.N, win0_0.index t = ![t.val / 8, 0] ∧ win0_1.index t = ![0, t.val % 8 * 4 + 2] ∧ win0_2.index t = ![t.val % 8, t.val / 8, 0] :=
  (by decide +kernel : ∀ t : Fin grid0.N, _)

/-- The kernel's result as a function of its two operands. -/
def G (ct : FVec Ideal S4352x16384 .f32) (h : FVec Ideal S4352x4096 .f32) : FVec Ideal S8x4096x512 .bf16 := fun y =>
  ∑ p : Fin 4352, h (ix2 p (y 1)) * ct (ix2 p ⟨(y 0).val * 2048 + (1024 + (y 2).val), by idx_bounds y; omega⟩)

theorem final (c : Dev nD) : (dats m 0 c).arrAt 2 cfg0.N = G (m ((c : Thread nD τ).loc main_arg2)) (m ((c : Thread nD τ).loc main_arg0)) := by
  refine (dats m 0 c).arrAt_eq_of_covers 2 _ (by decide +kernel) fun t hf y => ?_
  blk_simp
  rw [after0_2]
  unfold outsAt0
  frame_out
  idx_vars y
  pointwise [k0_pay1, G]
  blk_point [iblk, V, idx t]

end Cert.KernelGwin2Ideal.Product

namespace Cert.Proof

theorem gwin2_ref_frame : Cert.quiescent_ReferenceGwin2Ideal := fun m ρ _ =>
  (θ_run Cert.ReferenceGwin2Ideal.defs _ _).mono (fun _ h => ⟨fun c => (h c).2, sem_eq_zero_of_no_sems (by decide) _⟩)
    (Cert.ReferenceGwin2Ideal.Value.run (F := Ideal) m ρ)

theorem gwin2_algebraic : Cert.algebraic_KernelGwin2Ideal_ReferenceGwin2Ideal := by
  intro m ρ m' ρ' _ hin
  refine ⟨_, Cert.KernelGwin2Ideal.Value.run_blocks m ρ, ?_⟩
  refine (θ_run Cert.ReferenceGwin2Ideal.defs _ _).mono (fun r h c => ?_) (Cert.ReferenceGwin2Ideal.Value.run (F := Ideal) m' ρ')
  refine ⟨(h c).1.trans ?_, (h c).2⟩
  refine Eq.trans ?_ (Cert.KernelGwin2Ideal.Product.final m c).symm
  rw [(hin c).1, (hin c).2.2]
  funext y
  idx_vars y
  refine (Cert.ReferenceGwin2Ideal.Product.gw_apply _ _ y0 y1 y2).trans ?_
  exact Finset.sum_congr rfl fun p _ => mul_comm _ _

end Cert.Proof
-- ==== Proof.Gwin3.lean ====
module

public import proofs.«01_k».proof.Defs
public import proofs.«01_k».proof.Proof.Gen.KernelGwin3.Frame
public import proofs.«01_k».proof.Proof.Gen.KernelGwin3Ideal.Value
public import proofs.«01_k».proof.Proof.Gen.ReferenceGwin3Ideal.Run
public import Idealize.ShloMosaic.Lib.Pipeline.ValueKit
public import Idealize.ShloMosaic.Lib.Pointwise
public import Idealize.ShloMosaic.Lib.Claim
/-! # The gradient of the input projection's weight, its last quarter -/
@[expose] public section

set_option maxRecDepth 16384
noncomputable section
open Idealize.ShloMosaic Idealize.ShloMosaic.TcCoe Idealize.SL.Sem
open Idealize.ShloMosaic.Pipeline (Dat)

namespace Cert.ReferenceGwin3Ideal.Product
open Cert.ReferenceGwin3Ideal Cert.ReferenceGwin3Ideal.Gen

/-- The reference's result as a function of its two operands. -/
def gw (ct : FVec Ideal S4352x16384 .f32) (h : FVec Ideal S4352x4096 .f32) : FVec Ideal S8x4096x512 .bf16 :=
  transpose S8x4096x512 [1, 0, 2] (extractStridedSlice S4096x8x512 ![0, 0, 1536] (shapeCast S4096x8x2048 (truncf .bf16 (transpose S4096x16384 [1, 0] (Host.dotGeneral dot_S4352x16384_S4352x4096_S16384x4096_0_0_1_1_n_n none ct h) transposes_S16384x4096_S4096x16384_1_0) bitsLt_bf16_f32) shapeCasts_S4096x16384_S4096x8x2048) slices_S4096x8x2048_S4096x8x512_0_0_1536) transposes_S4096x8x512_S8x4096x512_1_0_2

theorem gw_apply (ct : FVec Ideal S4352x16384 .f32) (h : FVec Ideal S4352x4096 .f32) (d : Fin 8) (i : Fin 4096) (j : Fin 512) :
    gw ct h (ix3 d i j) = ∑ p : Fin 4352, ct (ix2 p ⟨d.val * 2048 + (1536 + j.val), by omega⟩) * h (ix2 p i) := by
  pointwise [gw]

end Cert.ReferenceGwin3Ideal.Product

namespace Cert.KernelGwin3Ideal.Product
open Cert.KernelGwin3Ideal Cert.KernelGwin3Ideal.Gen

variable (m : (ℓ : Loc nD τ sig) → Buf (Elt Ideal) ℓ)

theorem idx : ∀ t : Fin cfg0.N, win0_0.index t = ![t.val / 8, 0] ∧ win0_1.index t = ![0, t.val % 8 * 4 + 3] ∧ win0_2.index t = ![t.val % 8, t.val / 8, 0] :=
  (by decide +kernel : ∀ t : Fin grid0.N, _)

/-- The kernel's result as a function of its two operands. -/
def G (ct : FVec Ideal S4352x16384 .f32) (h : FVec Ideal S4352x4096 .f32) : FVec Ideal S8x4096x512 .bf16 := fun y =>
  ∑ p : Fin 4352, h (ix2 p (y 1)) * ct (ix2 p ⟨(y 0).val * 2048 + (1536 + (y 2).val), by idx_bounds y; omega⟩)

theorem final (c : Dev nD) : (dats m 0 c).arrAt 2 cfg0.N = G (m ((c : Thread nD τ).loc main_arg2)) (m ((c : Thread nD τ).loc main_arg0)) := by
  refine (dats m 0 c).arrAt_eq_of_covers 2 _ (by decide +kernel) fun t hf y => ?_
  blk_simp
  rw [after0_2]
  unfold outsAt0
  frame_out
  idx_vars y
  pointwise [k0_pay1, G]
  blk_point [iblk, V, idx t]

end Cert.KernelGwin3Ideal.Product

namespace Cert.Proof

theorem gwin3_ref_frame : Cert.quiescent_ReferenceGwin3Ideal := fun m ρ _ =>
  (θ_run Cert.ReferenceGwin3Ideal.defs _ _).mono (fun _ h => ⟨fun c => (h c).2, sem_eq_zero_of_no_sems (by decide) _⟩)
    (Cert.ReferenceGwin3Ideal.Value.run (F := Ideal) m ρ)

theorem gwin3_algebraic : Cert.algebraic_KernelGwin3Ideal_ReferenceGwin3Ideal := by
  intro m ρ m' ρ' _ hin
  refine ⟨_, Cert.KernelGwin3Ideal.Value.run_blocks m ρ, ?_⟩
  refine (θ_run Cert.ReferenceGwin3Ideal.defs _ _).mono (fun r h c => ?_) (Cert.ReferenceGwin3Ideal.Value.run (F := Ideal) m' ρ')
  refine ⟨(h c).1.trans ?_, (h c).2⟩
  refine Eq.trans ?_ (Cert.KernelGwin3Ideal.Product.final m c).symm
  rw [(hin c).1, (hin c).2.2]
  funext y
  idx_vars y
  refine (Cert.ReferenceGwin3Ideal.Product.gw_apply _ _ y0 y1 y2).trans ?_
  exact Finset.sum_congr rfl fun p _ => mul_comm _ _

end Cert.Proof
-- ==== Proof.Dmixed.lean ====
module

public import proofs.«01_k».proof.Defs
public import proofs.«01_k».proof.Proof.Gen.KernelDmixed.Frame
public import proofs.«01_k».proof.Proof.Gen.KernelDmixedIdeal.Value
public import proofs.«01_k».proof.Proof.Gen.ReferenceDmixedIdeal.Run
public import Idealize.ShloMosaic.Lib.Pipeline.ValueKit
public import Idealize.ShloMosaic.Lib.Pipeline.ReadBack
public import Idealize.ShloMosaic.Lib.Pointwise
public import Idealize.ShloMosaic.Lib.Claim
/-! # The gradient of the output projection's input

Each block of the result is summed over two tiles of the 4096 columns, in a scratch block that the kernel carries. -/
@[expose] public section

set_option maxRecDepth 16384
noncomputable section
open Idealize.ShloMosaic Idealize.ShloMosaic.TcCoe Idealize.SL.Sem
open Idealize.ShloMosaic.Pipeline (Dat)

namespace Cert.ReferenceDmixedIdeal.Product
open Cert.ReferenceDmixedIdeal Cert.ReferenceDmixedIdeal.Gen

/-- The reference's result as a function of its two operands. -/
def gm (ct : FVec Ideal S4096x4096 .f32) (w : FVec Ideal S8192x4096 .f32) : FVec Ideal S4096x8192 .f32 :=
  Host.dotGeneral dot_S4096x4096_S8192x4096_S4096x8192_1_1_0_0_n_n none ct w

theorem gm_apply (ct : FVec Ideal S4096x4096 .f32) (w : FVec Ideal S8192x4096 .f32) (i : Fin 4096) (j : Fin 8192) :
    gm ct w (ix2 i j) = ∑ k : Fin 4096, ct (ix2 i k) * w (ix2 j k) := by
  pointwise [gm]

end Cert.ReferenceDmixedIdeal.Product

namespace Cert.KernelDmixedIdeal.Product
open Cert.KernelDmixedIdeal Cert.KernelDmixedIdeal.Gen

variable (m : (ℓ : Loc nD τ sig) → Buf (Elt Ideal) ℓ)

theorem idx : ∀ t : Fin cfg0.N, win0_0.index t = ![t.val / 16, t.val % 2] ∧ win0_1.index t = ![t.val / 2 % 8, t.val % 2] ∧ win0_2.index t = ![t.val / 16, t.val / 2 % 8]
    ∧ t.val < 64 :=
  (by decide +kernel : ∀ t : Fin grid0.N, _)

/-- The result as a function of the two operands. -/
def G (a : FVec Ideal S4096x4096 .f32) (b : FVec Ideal S8192x4096 .f32) : FVec Ideal S4096x8192 .f32 := fun y =>
  ∑ k : Fin 4096, a (ix2 (y 0) k) * b (ix2 (y 1) k)

/-- The product of two tiles. -/
def dot (a b : FVec Ideal S1024x2048 .bf16) (p q : Fin 1024) : EReal := ∑ k : Fin 2048, a (ix2 p k) * b (ix2 q k)

/-- The product of the two tiles of a point. -/
def term (c : Dev nD) (t : Fin cfg0.N) (p q : Fin 1024) : EReal := dot (iblk m c 0 t) (iblk m c 1 t) p q

/-- What the block of a point holds after it: the scratch inside a sweep, the result block at its end. -/
def acc (c : Dev nD) (p q : Fin 1024) (n : ℕ) (h : n < cfg0.N) : EReal :=
  if n % 2 = 1 then (outsAt0 m c n h).1 (ix2 p q) else (outsAt0 m c n h).2 (ix2 p q)

theorem acc_first (c : Dev nD) (p q : Fin 1024) (t : Fin cfg0.N) (h : t.val % 2 = 0) : acc m c p q t.val t.isLt = 0 + term m c t p q := by
  unfold acc term dot
  rw [if_neg (by omega), outsAt0_A m c t h (by omega), zero_add]
  frame_out
  pointwise [k0_pay1]

theorem acc_next (c : Dev nD) (p q : Fin 1024) (t : Fin cfg0.N) (h : ¬ t.val % 2 = 0) :
    acc m c p q t.val t.isLt = acc m c p q (t.val - 1) (Nat.lt_of_le_of_lt (Nat.sub_le _ _) t.isLt) + term m c t p q := by
  unfold acc term dot
  rw [if_pos (by omega), if_neg (by omega), outsAt0_B m c t h (by omega)]
  frame_out
  pointwise [k0_pay2]
  rw [read_unread_whole]

theorem final (c : Dev nD) : (dats m 0 c).arrAt 2 cfg0.N = G (m ((c : Thread nD τ).loc main_arg2)) (m ((c : Thread nD τ).loc main_arg1)) := by
  refine (dats m 0 c).arrAt_eq_of_covers 2 _ (by decide +kernel) fun t hf y => ?_
  have ht : t.val % 2 = 1 := (flush0_2 t).mp hf
  blk_simp
  rw [after0_2]
  idx_vars y
  have e : acc m c y0 y1 t.val t.isLt = _ := ((Pipeline.eq_sum_fin_of_reset_step_apply_of_flush (fun n h (_ : Unit) => acc m c y0 y1 n h) 2 (fun _ => 0)
    (fun s _ => term m c s y0 y1) (fun s h _ => acc_first m c y0 y1 s h) (fun s h _ => acc_next m c y0 y1 s h) t ht ())).trans (zero_add _)
  rw [acc, if_pos ht] at e
  refine e.trans ?_
  unfold term dot G
  refine Fin.sum_mul_add_congr fun s k hl => ?_
  blk_point [iblk, V, idx t, idx ⟨_, Pipeline.run_point_lt_of_flush t ht s⟩]

end Cert.KernelDmixedIdeal.Product

namespace Cert.Proof

theorem dmixed_ref_frame : Cert.quiescent_ReferenceDmixedIdeal := fun m ρ _ =>
  (θ_run Cert.ReferenceDmixedIdeal.defs _ _).mono (fun _ h => ⟨fun c => (h c).2, sem_eq_zero_of_no_sems (by decide) _⟩)
    (Cert.ReferenceDmixedIdeal.Value.run (F := Ideal) m ρ)

theorem dmixed_algebraic : Cert.algebraic_KernelDmixedIdeal_ReferenceDmixedIdeal := by
  intro m ρ m' ρ' _ hin
  refine ⟨_, Cert.KernelDmixedIdeal.Value.run_blocks m ρ, ?_⟩
  refine (θ_run Cert.ReferenceDmixedIdeal.defs _ _).mono (fun r h c => ?_) (Cert.ReferenceDmixedIdeal.Value.run (F := Ideal) m' ρ')
  refine ⟨(h c).1.trans ?_, (h c).2⟩
  refine Eq.trans ?_ (Cert.KernelDmixedIdeal.Product.final m c).symm
  rw [(hin c).2.1, (hin c).2.2]
  funext y
  idx_vars y
  exact Cert.ReferenceDmixedIdeal.Product.gm_apply _ _ y0 y1

end Cert.Proof
-- ==== Proof.Gwout.lean ====
module

public import proofs.«01_k».proof.Defs
public import proofs.«01_k».proof.Proof.Gen.KernelGwout.Frame
public import proofs.«01_k».proof.Proof.Gen.KernelGwoutIdeal.Value
public import proofs.«01_k».proof.Proof.Gen.ReferenceGwoutIdeal.Run
public import Idealize.ShloMosaic.Lib.Pipeline.ValueKit
public import Idealize.ShloMosaic.Lib.Pipeline.ReadBack
public import Idealize.ShloMosaic.Lib.Pointwise
public import Idealize.ShloMosaic.Lib.Claim
/-! # The gradient of the output projection's weight

Each block of the result is summed over two tiles of the 4096 rows, in a scratch block that the kernel carries. -/
@[expose] public section

set_option maxRecDepth 16384
noncomputable section
open Idealize.ShloMosaic Idealize.ShloMosaic.TcCoe Idealize.SL.Sem
open Idealize.ShloMosaic.Pipeline (Dat)

namespace Cert.ReferenceGwoutIdeal.Product
open Cert.ReferenceGwoutIdeal Cert.ReferenceGwoutIdeal.Gen

/-- The reference's result as a function of its two operands. -/
def gw (ct : FVec Ideal S4096x4096 .f32) (mixed : FVec Ideal S4096x8192 .f32) : FVec Ideal S8192x4096 .bf16 :=
  truncf .bf16 (transpose S8192x4096 [1, 0] (Host.dotGeneral dot_S4096x4096_S4096x8192_S4096x8192_0_0_1_1_n_n none ct mixed) transposes_S4096x8192_S8192x4096_1_0) bitsLt_bf16_f32

theorem gw_apply (ct : FVec Ideal S4096x4096 .f32) (mixed : FVec Ideal S4096x8192 .f32) (i : Fin 8192) (j : Fin 4096) :
    gw ct mixed (ix2 i j) = ∑ k : Fin 4096, ct (ix2 k j) * mixed (ix2 k i) := by
  pointwise [gw]

end Cert.ReferenceGwoutIdeal.Product

namespace Cert.KernelGwoutIdeal.Product
open Cert.KernelGwoutIdeal Cert.KernelGwoutIdeal.Gen

variable (m : (ℓ : Loc nD τ sig) → Buf (Elt Ideal) ℓ)

theorem idx : ∀ t : Fin cfg0.N, win0_0.index t = ![t.val % 2, t.val / 8] ∧ win0_1.index t = ![t.val % 2, t.val / 2 % 4] ∧ win0_2.index t = ![t.val / 8, t.val / 2 % 4]
    ∧ t.val < 64 :=
  (by decide +kernel : ∀ t : Fin grid0.N, _)

/-- The result as a function of the two operands. -/
def G (a : FVec Ideal S4096x8192 .f32) (b : FVec Ideal S4096x4096 .f32) : FVec Ideal S8192x4096 .bf16 := fun y =>
  ∑ k : Fin 4096, a (ix2 k (y 0)) * b (ix2 k (y 1))

/-- The product of two tiles. -/
def dot (a b : FVec Ideal S2048x1024 .bf16) (p q : Fin 1024) : EReal := ∑ k : Fin 2048, a (ix2 k p) * b (ix2 k q)

/-- The product of the two tiles of a point. -/
def term (c : Dev nD) (t : Fin cfg0.N) (p q : Fin 1024) : EReal := dot (iblk m c 0 t) (iblk m c 1 t) p q

/-- What the block of a point holds after it: the scratch inside a sweep, the result block at its end. -/
def acc (c : Dev nD) (p q : Fin 1024) (n : ℕ) (h : n < cfg0.N) : EReal :=
  if n % 2 = 1 then (outsAt0 m c n h).1 (ix2 p q) else (outsAt0 m c n h).2 (ix2 p q)

theorem acc_first (c : Dev nD) (p q : Fin 1024) (t : Fin cfg0.N) (h : t.val % 2 = 0) : acc m c p q t.val t.isLt = 0 + term m c t p q := by
  unfold acc term dot
  rw [if_neg (by omega), outsAt0_A m c t h (by omega), zero_add]
  frame_out
  pointwise [k0_pay1]

theorem acc_next (c : Dev nD) (p q : Fin 1024) (t : Fin cfg0.N) (h : ¬ t.val % 2 = 0) :
    acc m c p q t.val t.isLt = acc m c p q (t.val - 1) (Nat.lt_of_le_of_lt (Nat.sub_le _ _) t.isLt) + term m c t p q := by
  unfold acc term dot
  rw [if_pos (by omega), if_neg (by omega), outsAt0_B m c t h (by omega)]
  frame_out
  pointwise [k0_pay2]
  rw [read_unread_whole]

theorem final (c : Dev nD) : (dats m 0 c).arrAt 2 cfg0.N = G (m ((c : Thread nD τ).loc main_arg0)) (m ((c : Thread nD τ).loc main_arg2)) := by
  refine (dats m 0 c).arrAt_eq_of_covers 2 _ (by decide +kernel) fun t hf y => ?_
  have ht : t.val % 2 = 1 := (flush0_2 t).mp hf
  blk_simp
  rw [after0_2]
  idx_vars y
  have e : acc m c y0 y1 t.val t.isLt = _ := ((Pipeline.eq_sum_fin_of_reset_step_apply_of_flush (fun n h (_ : Unit) => acc m c y0 y1 n h) 2 (fun _ => 0)
    (fun s _ => term m c s y0 y1) (fun s h _ => acc_first m c y0 y1 s h) (fun s h _ => acc_next m c y0 y1 s h) t ht ())).trans (zero_add _)
  rw [acc, if_pos ht] at e
  refine e.trans ?_
  unfold term dot G
  refine Fin.sum_mul_add_congr fun s k hl => ?_
  blk_point [iblk, V, idx t, idx ⟨_, Pipeline.run_point_lt_of_flush t ht s⟩]

end Cert.KernelGwoutIdeal.Product

namespace Cert.Proof

theorem gwout_ref_frame : Cert.quiescent_ReferenceGwoutIdeal := fun m ρ _ =>
  (θ_run Cert.ReferenceGwoutIdeal.defs _ _).mono (fun _ h => ⟨fun c => (h c).2, sem_eq_zero_of_no_sems (by decide) _⟩)
    (Cert.ReferenceGwoutIdeal.Value.run (F := Ideal) m ρ)

theorem gwout_algebraic : Cert.algebraic_KernelGwoutIdeal_ReferenceGwoutIdeal := by
  intro m ρ m' ρ' _ hin
  refine ⟨_, Cert.KernelGwoutIdeal.Value.run_blocks m ρ, ?_⟩
  refine (θ_run Cert.ReferenceGwoutIdeal.defs _ _).mono (fun r h c => ?_) (Cert.ReferenceGwoutIdeal.Value.run (F := Ideal) m' ρ')
  refine ⟨(h c).1.trans ?_, (h c).2⟩
  refine Eq.trans ?_ (Cert.KernelGwoutIdeal.Product.final m c).symm
  rw [(hin c).1, (hin c).2.2]
  funext y
  idx_vars y
  refine (Cert.ReferenceGwoutIdeal.Product.gw_apply _ _ y0 y1).trans ?_
  exact Finset.sum_congr rfl fun k _ => mul_comm _ _

end Cert.Proof
-- ==== Proof.Out.lean ====
module

public import proofs.«01_k».proof.Defs
public import proofs.«01_k».proof.Proof.Gen.KernelOut.Frame
public import proofs.«01_k».proof.Proof.Gen.KernelOutIdeal.Value
public import proofs.«01_k».proof.Proof.Gen.ReferenceOutIdeal.Run
public import Idealize.ShloMosaic.Lib.Pipeline.ValueKit
public import Idealize.ShloMosaic.Lib.Pipeline.ReadBack
public import Idealize.ShloMosaic.Lib.Pointwise
public import Idealize.ShloMosaic.Lib.Claim
/-! # The output projection

Each block of the result is summed over four tiles of the 8192 columns, in a scratch block that the kernel carries. -/
@[expose] public section

set_option maxRecDepth 16384
noncomputable section
open Idealize.ShloMosaic Idealize.ShloMosaic.TcCoe Idealize.SL.Sem
open Idealize.ShloMosaic.Pipeline (Dat)

namespace Cert.ReferenceOutIdeal.Product
open Cert.ReferenceOutIdeal Cert.ReferenceOutIdeal.Gen

/-- The reference's result as a function of its two operands. -/
def proj (mixed : FVec Ideal S4096x8192 .f32) (w : FVec Ideal S8192x4096 .f32) : FVec Ideal S4096x4096 .f32 :=
  Host.dotGeneral dot_S4096x8192_S8192x4096_S4096x4096_1_0_0_1_n_n none mixed w

theorem proj_apply (mixed : FVec Ideal S4096x8192 .f32) (w : FVec Ideal S8192x4096 .f32) (i j : Fin 4096) :
    proj mixed w (ix2 i j) = ∑ k : Fin 8192, mixed (ix2 i k) * w (ix2 k j) := by
  pointwise [proj]

end Cert.ReferenceOutIdeal.Product

namespace Cert.KernelOutIdeal.Product
open Cert.KernelOutIdeal Cert.KernelOutIdeal.Gen

variable (m : (ℓ : Loc nD τ sig) → Buf (Elt Ideal) ℓ)

theorem idx : ∀ t : Fin cfg0.N, win0_0.index t = ![t.val / 16, t.val % 4] ∧ win0_1.index t = ![t.val % 4, t.val / 4 % 4] ∧ win0_2.index t = ![t.val / 16, t.val / 4 % 4]
    ∧ t.val < 64 :=
  (by decide +kernel : ∀ t : Fin grid0.N, _)

/-- The result as a function of the two operands. -/
def G (a : FVec Ideal S4096x8192 .f32) (b : FVec Ideal S8192x4096 .f32) : FVec Ideal S4096x4096 .f32 := fun y =>
  ∑ k : Fin 8192, a (ix2 (y 0) k) * b (ix2 k (y 1))

/-- The product of two tiles. -/
def dot (a : FVec Ideal S1024x2048 .bf16) (b : FVec Ideal S2048x1024 .bf16) (p q : Fin 1024) : EReal := ∑ k : Fin 2048, a (ix2 p k) * b (ix2 k q)

/-- The product of the two tiles of a point. -/
def term (c : Dev nD) (t : Fin cfg0.N) (p q : Fin 1024) : EReal := dot (iblk m c 0 t) (iblk m c 1 t) p q

/-- What the block of a point holds after it: the scratch inside a sweep, the result block at its end. -/
def acc (c : Dev nD) (p q : Fin 1024) (n : ℕ) (h : n < cfg0.N) : EReal :=
  if n % 4 = 3 then (outsAt0 m c n h).1 (ix2 p q) else (outsAt0 m c n h).2 (ix2 p q)

theorem acc_first (c : Dev nD) (p q : Fin 1024) (t : Fin cfg0.N) (h : t.val % 4 = 0) : acc m c p q t.val t.isLt = 0 + term m c t p q := by
  unfold acc term dot
  rw [if_neg (by omega), outsAt0_A m c t h (by omega) (by omega), zero_add]
  frame_out
  pointwise [k0_pay1]

theorem acc_next (c : Dev nD) (p q : Fin 1024) (t : Fin cfg0.N) (h : ¬ t.val % 4 = 0) :
    acc m c p q t.val t.isLt = acc m c p q (t.val - 1) (Nat.lt_of_le_of_lt (Nat.sub_le _ _) t.isLt) + term m c t p q := by
  unfold acc term dot
  by_cases h' : t.val % 4 = 3
  · rw [if_pos h', if_neg (by omega), outsAt0_C m c t h (by omega) h']
    frame_out
    pointwise [k0_pay3]
    rw [read_unread_whole]
  · rw [if_neg h', if_neg (by omega), outsAt0_B m c t h (by omega) h']
    frame_out
    pointwise [k0_pay2]
    rw [read_unread_whole]

theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  have ht : t.val % 4 = 3 := (flush0_2 t).mp hf
  blk_simp
  rw [after0_2]
  idx_vars y
  have e : acc m c y0 y1 t.val t.isLt = _ := ((Pipeline.eq_sum_fin_of_reset_step_apply_of_flush (fun n h (_ : Unit) => acc m c y0 y1 n h) 4 (fun _ => 0)
    (fun s _ => term m c s y0 y1) (fun s h _ => acc_first m c y0 y1 s h) (fun s h _ => acc_next m c y0 y1 s h) t ht ())).trans (zero_add _)
  rw [acc, if_pos ht] at e
  refine e.trans ?_
  unfold term dot G
  refine Fin.sum_mul_add_congr fun s k hl => ?_
  blk_point [iblk, V, idx t, idx ⟨_, Pipeline.run_point_lt_of_flush t ht s⟩]

end Cert.KernelOutIdeal.Product

namespace Cert.Proof

theorem out_ref_frame : Cert.quiescent_ReferenceOutIdeal := fun m ρ _ =>
  (θ_run Cert.ReferenceOutIdeal.defs _ _).mono (fun _ h => ⟨fun c => (h c).2, sem_eq_zero_of_no_sems (by decide) _⟩)
    (Cert.ReferenceOutIdeal.Value.run (F := Ideal) m ρ)

theorem out_algebraic : Cert.algebraic_KernelOutIdeal_ReferenceOutIdeal := by
  intro m ρ m' ρ' _ hin
  refine ⟨_, Cert.KernelOutIdeal.Value.run_blocks m ρ, ?_⟩
  refine (θ_run Cert.ReferenceOutIdeal.defs _ _).mono (fun r h c => ?_) (Cert.ReferenceOutIdeal.Value.run (F := Ideal) m' ρ')
  refine ⟨(h c).1.trans ?_, (h c).2⟩
  refine Eq.trans ?_ (Cert.KernelOutIdeal.Product.final m c).symm
  rw [(hin c).1, (hin c).2]
  funext y
  idx_vars y
  exact Cert.ReferenceOutIdeal.Product.proj_apply _ _ y0 y1

end Cert.Proof
-- ==== Proof.Dz.lean ====
module

public import proofs.«01_k».proof.Defs
public import proofs.«01_k».proof.Proof.Gen.KernelDz.Frame
public import proofs.«01_k».proof.Proof.Gen.KernelDzIdeal.Value
public import proofs.«01_k».proof.Proof.Gen.ReferenceDzIdeal.Run
public import Idealize.ShloMosaic.Lib.Pipeline.ValueKit
public import Idealize.ShloMosaic.Lib.Pipeline.ReadBack
public import Idealize.ShloMosaic.Lib.Pointwise
public import Idealize.ShloMosaic.Lib.Claim
/-! # The gradient of the pool's product, for its input -/
@[expose] public section

set_option maxRecDepth 16384
noncomputable section
open Idealize.ShloMosaic Idealize.ShloMosaic.TcCoe Idealize.SL.Sem
open Idealize.ShloMosaic.Pipeline (Dat)

namespace Cert.ReferenceDzIdeal.Product
open Cert.ReferenceDzIdeal Cert.ReferenceDzIdeal.Gen

/-- The reference's result as a function of its two operands. -/
def ref (a : FVec Ideal S4096x4096 .f32) (w : FVec Ideal S4x1024x1024 .f32) : FVec Ideal S4096x4096 .f32 :=
  shapeCast _ (transpose S4096x4x1024 [1, 0, 2] (Host.dotGeneral dot_S4x1024x4096_S4x1024x1024_S4x4096x1024_1_2_2_1_0_0 none (transpose S4x1024x4096 [1, 2, 0] (shapeCast _ a shapeCasts_S4096x4096_S4096x4x1024) transposes_S4096x4x1024_S4x1024x4096_1_2_0) w) transposes_S4x4096x1024_S4096x4x1024_1_0_2) shapeCasts_S4096x4x1024_S4096x4096

theorem ref_apply (a : FVec Ideal S4096x4096 .f32) (w : FVec Ideal S4x1024x1024 .f32) (i j : Fin 4096) :
    ref a w (ix2 i j) = ∑ k : Fin 1024, a (ix2 i ⟨j.val / 1024 * 1024 + k.val, by omega⟩) * w (ix3 ⟨j.val / 1024, by omega⟩ ⟨j.val % 1024, by omega⟩ k) := by
  pointwise [ref]

end Cert.ReferenceDzIdeal.Product

namespace Cert.KernelDzIdeal.Product
open Cert.KernelDzIdeal Cert.KernelDzIdeal.Gen

variable (m : (ℓ : Loc nD τ sig) → Buf (Elt Ideal) ℓ)

theorem idx : ∀ t : Fin cfg0.N, win0_0.index t = ![t.val % 4, t.val / 4] ∧ win0_1.index t = ![t.val / 4, 0, 0] ∧ win0_2.index t = ![t.val % 4, t.val / 4]
    ∧ t.val < 16 :=
  (by decide +kernel : ∀ t : Fin grid0.N, _)

/-- The result as a function of the two operands. -/
def G (a : FVec Ideal S4096x4096 .f32) (w : FVec Ideal S4x1024x1024 .f32) : FVec Ideal S4096x4096 .f32 := fun y =>
  ∑ k : Fin 1024, a (ix2 (y 0) ⟨(y 1).val / 1024 * 1024 + k.val, by idx_bounds y; omega⟩) * w (ix3 ⟨(y 1).val / 1024, by idx_bounds y; omega⟩ ⟨(y 1).val % 1024, by idx_bounds y; omega⟩ k)

theorem final (c : Dev nD) : (dats m 0 c).arrAt 2 cfg0.N = G (m ((c : Thread nD τ).loc main_arg2)) (m ((c : Thread nD τ).loc main_arg1)) := by
  refine (dats m 0 c).arrAt_eq_of_covers 2 _ (by decide +kernel) fun t hf y => ?_
  blk_simp
  rw [after0_2]
  unfold outsAt0
  frame_out
  idx_vars y
  pointwise [k0_pay1, G]
  blk_point [iblk, V, idx t]

end Cert.KernelDzIdeal.Product

namespace Cert.Proof

theorem dz_ref_frame : Cert.quiescent_ReferenceDzIdeal := fun m ρ _ =>
  (θ_run Cert.ReferenceDzIdeal.defs _ _).mono (fun _ h => ⟨fun c => (h c).2, sem_eq_zero_of_no_sems (by decide) _⟩)
    (Cert.ReferenceDzIdeal.Value.run (F := Ideal) m ρ)

theorem dz_algebraic : Cert.algebraic_KernelDzIdeal_ReferenceDzIdeal := by
  intro m ρ m' ρ' _ hin
  refine ⟨_, Cert.KernelDzIdeal.Value.run_blocks m ρ, ?_⟩
  refine (θ_run Cert.ReferenceDzIdeal.defs _ _).mono (fun r h c => ?_) (Cert.ReferenceDzIdeal.Value.run (F := Ideal) m' ρ')
  refine ⟨(h c).1.trans ?_, (h c).2⟩
  refine Eq.trans ?_ (Cert.KernelDzIdeal.Product.final m c).symm
  rw [(hin c).2.1, (hin c).2.2]
  funext y
  idx_vars y
  exact Cert.ReferenceDzIdeal.Product.ref_apply _ _ y0 y1

end Cert.Proof
-- ==== Proof.Gwpool.lean ====
module

public import proofs.«01_k».proof.Defs
public import proofs.«01_k».proof.Proof.Gen.KernelGwpool.Frame
public import proofs.«01_k».proof.Proof.Gen.KernelGwpoolIdeal.Value
public import proofs.«01_k».proof.Proof.Gen.ReferenceGwpoolIdeal.Run
public import Idealize.ShloMosaic.Lib.Pipeline.ValueKit
public import Idealize.ShloMosaic.Lib.Pipeline.ReadBack
public import Idealize.ShloMosaic.Lib.Pointwise
public import Idealize.ShloMosaic.Lib.Claim
/-! # The gradient of the pool's weight -/
@[expose] public section

set_option maxRecDepth 16384
noncomputable section
open Idealize.ShloMosaic Idealize.ShloMosaic.TcCoe Idealize.SL.Sem
open Idealize.ShloMosaic.Pipeline (Dat)

namespace Cert.ReferenceGwpoolIdeal.Product
open Cert.ReferenceGwpoolIdeal Cert.ReferenceGwpoolIdeal.Gen

/-- The reference's result as a function of its two operands. -/
def ref (z ct : FVec Ideal S4096x4096 .f32) : FVec Ideal S4x1024x1024 .bf16 :=
  truncf .bf16 (transpose S4x1024x1024 [0, 2, 1] (Host.dotGeneral dot_S4x1024x4096_S4096x4x1024_S4x1024x1024_2_0_1_2_0_1 none (transpose S4x1024x4096 [1, 2, 0] (shapeCast _ ct shapeCasts_S4096x4096_S4096x4x1024) transposes_S4096x4x1024_S4x1024x4096_1_2_0) (shapeCast _ z shapeCasts_S4096x4096_S4096x4x1024)) transposes_S4x1024x1024_S4x1024x1024_0_2_1) bitsLt_bf16_f32

theorem ref_apply (z ct : FVec Ideal S4096x4096 .f32) (g : Fin 4) (i j : Fin 1024) :
    ref z ct (ix3 g i j) = ∑ k : Fin 4096, z (ix2 k ⟨g.val * 1024 + i.val, by omega⟩) * ct (ix2 k ⟨g.val * 1024 + j.val, by omega⟩) := by
  pointwise [ref]
  exact Finset.sum_congr rfl fun k _ => mul_comm _ _

end Cert.ReferenceGwpoolIdeal.Product

namespace Cert.KernelGwpoolIdeal.Product
open Cert.KernelGwpoolIdeal Cert.KernelGwpoolIdeal.Gen

variable (m : (ℓ : Loc nD τ sig) → Buf (Elt Ideal) ℓ)

theorem idx : ∀ t : Fin cfg0.N, win0_0.index t = ![t.val % 2, t.val / 2] ∧ win0_1.index t = ![t.val % 2, t.val / 2] ∧ win0_2.index t = ![t.val / 2, 0, 0]
    ∧ t.val < 8 :=
  (by decide +kernel : ∀ t : Fin grid0.N, _)

/-- The result as a function of the two operands. -/
def G (z ct : FVec Ideal S4096x4096 .f32) : FVec Ideal S4x1024x1024 .bf16 := fun y =>
  ∑ k : Fin 4096, z (ix2 k ⟨(y 0).val * 1024 + (y 1).val, by idx_bounds y; omega⟩) * ct (ix2 k ⟨(y 0).val * 1024 + (y 2).val, by idx_bounds y; omega⟩)

/-- The product of two tiles. -/
def dot (a b : FVec Ideal S2048x1024 .bf16) (p q : Fin 1024) : EReal := ∑ k : Fin 2048, a (ix2 k p) * b (ix2 k q)

/-- The product of the two tiles of a point. -/
def term (c : Dev nD) (t : Fin cfg0.N) (p q : Fin 1024) : EReal := dot (iblk m c 0 t) (iblk m c 1 t) p q

/-- What the block of a point holds after it: the scratch inside a sweep, the result block at its end. -/
def acc (c : Dev nD) (p q : Fin 1024) (n : ℕ) (h : n < cfg0.N) : EReal :=
  if n % 2 = 1 then (outsAt0 m c n h).1 (ix3 0 p q) else (outsAt0 m c n h).2 (ix2 p q)

theorem acc_first (c : Dev nD) (p q : Fin 1024) (t : Fin cfg0.N) (h : t.val % 2 = 0) : acc m c p q t.val t.isLt = 0 + term m c t p q := by
  unfold acc term dot
  rw [if_neg (by omega), outsAt0_A m c t h (by omega), zero_add]
  frame_out
  pointwise [k0_pay1]

theorem acc_next (c : Dev nD) (p q : Fin 1024) (t : Fin cfg0.N) (h : ¬ t.val % 2 = 0) :
    acc m c p q t.val t.isLt = acc m c p q (t.val - 1) (Nat.lt_of_le_of_lt (Nat.sub_le _ _) t.isLt) + term m c t p q := by
  unfold acc term dot
  rw [if_pos (by omega), if_neg (by omega), outsAt0_B m c t h (by omega)]
  frame_out
  pointwise [k0_pay2]
  rw [read_unread_whole]

theorem final (c : Dev nD) : (dats m 0 c).arrAt 2 cfg0.N = G (m ((c : Thread nD τ).loc main_arg0)) (m ((c : Thread nD τ).loc main_arg2)) := by
  refine (dats m 0 c).arrAt_eq_of_covers 2 _ (by decide +kernel) fun t hf y => ?_
  have ht : t.val % 2 = 1 := (flush0_2 t).mp hf
  blk_simp
  rw [after0_2]
  idx_vars y
  obtain rfl : y0 = 0 := Subsingleton.elim _ _
  have e : acc m c y1 y2 t.val t.isLt = _ := ((Pipeline.eq_sum_fin_of_reset_step_apply_of_flush (fun n h (_ : Unit) => acc m c y1 y2 n h) 2 (fun _ => 0)
    (fun s _ => term m c s y1 y2) (fun s h _ => acc_first m c y1 y2 s h) (fun s h _ => acc_next m c y1 y2 s h) t ht ())).trans (zero_add _)
  rw [acc, if_pos ht] at e
  refine e.trans ?_
  unfold term dot G
  refine Fin.sum_mul_add_congr fun s k hl => ?_
  blk_point [iblk, V, idx t, idx ⟨_, Pipeline.run_point_lt_of_flush t ht s⟩]

end Cert.KernelGwpoolIdeal.Product

namespace Cert.Proof

theorem gwpool_ref_frame : Cert.quiescent_ReferenceGwpoolIdeal := fun m ρ _ =>
  (θ_run Cert.ReferenceGwpoolIdeal.defs _ _).mono (fun _ h => ⟨fun c => (h c).2, sem_eq_zero_of_no_sems (by decide) _⟩)
    (Cert.ReferenceGwpoolIdeal.Value.run (F := Ideal) m ρ)

theorem gwpool_algebraic : Cert.algebraic_KernelGwpoolIdeal_ReferenceGwpoolIdeal := by
  intro m ρ m' ρ' _ hin
  refine ⟨_, Cert.KernelGwpoolIdeal.Value.run_blocks m ρ, ?_⟩
  refine (θ_run Cert.ReferenceGwpoolIdeal.defs _ _).mono (fun r h c => ?_) (Cert.ReferenceGwpoolIdeal.Value.run (F := Ideal) m' ρ')
  refine ⟨(h c).1.trans ?_, (h c).2⟩
  refine Eq.trans ?_ (Cert.KernelGwpoolIdeal.Product.final m c).symm
  rw [(hin c).1, (hin c).2.2]
  funext y
  idx_vars y
  exact Cert.ReferenceGwpoolIdeal.Product.ref_apply _ _ y0 y1 y2

end Cert.Proof
-- ==== Proof.Proj0.lean ====
module

public import proofs.«01_k».proof.Defs
public import proofs.«01_k».proof.Proof.Gen.KernelProj0.Frame
public import proofs.«01_k».proof.Proof.Gen.KernelProj0Ideal.Frame
public import proofs.«01_k».proof.Proof.Gen.ReferenceProj0Ideal.Run
public import Idealize.ShloMosaic.Lib.Pipeline.ValueKit
public import Idealize.ShloMosaic.Lib.Pointwise
public import Idealize.ShloMosaic.Lib.Claim
/-! # The input projection, its first call

The call writes 512 of each device's 2048 columns and no others, and the program's result is the columns that it writes. -/
@[expose] public section

set_option maxRecDepth 16384
noncomputable section
open Idealize.ShloMosaic Idealize.ShloMosaic.TcCoe Idealize.SL.Sem
open Idealize.ShloMosaic.Pipeline (Dat)

namespace Cert.ReferenceProj0Ideal.Product
open Cert.ReferenceProj0Ideal Cert.ReferenceProj0Ideal.Gen

/-- The reference's result as a function of its operands. -/
def proj (h : FVec Ideal S4352x4096 .f32) (w : FVec Ideal S4096x16384 .f32) : FVec Ideal S4352x8x512 .f32 :=
  extractStridedSlice S4352x8x512 ![0, 0, 0] (shapeCast _ (Host.dotGeneral dot_S4352x4096_S4096x16384_S4352x16384_1_0_0_1_n_n none h w) shapeCasts_S4352x16384_S4352x8x2048) slices_S4352x8x2048_S4352x8x512_0_0_0

theorem proj_apply (h : FVec Ideal S4352x4096 .f32) (w : FVec Ideal S4096x16384 .f32) (i : Fin 4352) (d : Fin 8) (j : Fin 512) :
    proj h w (ix3 i d j) = ∑ k : Fin 4096, h (ix2 i k) * w (ix2 k ⟨d.val * 2048 + j.val, by omega⟩) := by
  pointwise [proj]

end Cert.ReferenceProj0Ideal.Product

namespace Cert.KernelProj0Ideal.Product
open Cert.KernelProj0Ideal Cert.KernelProj0Ideal.Gen

variable (m : (ℓ : Loc nD τ sig) → Buf (Elt Ideal) ℓ)

theorem idx : ∀ t : Fin cfg0.N, win0_0.index t = ![t.val / 8, 0] ∧ win0_1.index t = ![t.val % 8, 0, 0] ∧ win0_2.index t = ![t.val / 8, t.val % 8 * 4]
    ∧ t.val < 32 :=
  (by decide +kernel : ∀ t : Fin grid0.N, _)

/-- The columns that the call writes, as a function of its two operands. -/
def G (h : FVec Ideal S4352x4096 .f32) (w : FVec Ideal S4096x16384 .f32) : FVec Ideal S4352x16384 .f32 := fun y =>
  ∑ k : Fin 4096, h (ix2 (y 0) k) * w (ix2 k (y 1))

theorem final (c : Dev nD) : (dats m 0 c).arrAt 2 cfg0.N = fun y => if (y 1).val / 512 % 4 = 0
    then G (m ((c : Thread nD τ).loc main_arg0)) (m ((c : Thread nD τ).loc main_arg1)) y else V m c main_v6 y := by
  refine (dats m 0 c).arrAt_eq_of_coversWhere 2 _ (fun β => β (1 : Fin _) % 4 = 0) (by decide +kernel) (fun t hf y => ?_) (fun j => Iff.rfl)
  blk_simp
  rw [after0_2]
  unfold outsAt0
  frame_out
  idx_vars y
  pointwise [k0_pay1, G]
  have e : V m c main_v5 = StableHlo.after hostOps0 (fun b => m (c, b)) (Proc.devRef .tc main_v5) := by
    show StableHlo.after (List.flatten [hostOps0]) _ _ = _
    simp only [List.flatten_cons, List.flatten_nil, List.append_nil]
  blk_point [iblk, idx t, V_main_arg0]
  rw [e]
  entry_read
  pointwise
  blk_ext [idx t]

variable (ρ : Dev nD → PrngReg)

/-- The columns that the program returns, of an array. -/
def cols (a : FVec Ideal S4352x16384 .f32) : FVec Ideal S4352x8x512 .f32 :=
  extractStridedSlice S4352x8x512 ![0, 0, 0] (shapeCast S4352x8x2048 a shapeCasts_S4352x16384_S4352x8x2048) slices_S4352x8x2048_S4352x8x512_0_0_0

theorem cols_apply (a : FVec Ideal S4352x16384 .f32) (i : Fin 4352) (d : Fin 8) (j : Fin 512) :
    cols a (ix3 i d j) = a (ix2 i ⟨d.val * 2048 + j.val, by omega⟩) := by
  pointwise [cols]

/-- The result after the host code that follows the call. -/
theorem tail (c : Dev nD) : Pipeline.afterTail₀ cfgs (dats m) 0 (V0 m) [hostOps1] c main_v8 = cols ((dats m 0 c).arrAt 2 cfg0.N) := by
  have e : Pipeline.withArrays (cfgs 0).spec c (V0 m c) (fun w => (dats m 0 c).arrAt w (cfgs 0).N) (Proc.devRef .tc main_v6) = (dats m 0 c).arrAt 2 cfg0.N :=
    Pipeline.withArrays_arr (cfgs 0).spec (by decide) c _ _ 2
  rw [← e]
  unfold Pipeline.afterTail₀
  simp only [List.flatten_cons, List.flatten_nil, List.append_nil]
  after_results
  rfl

theorem run_blocks : θ_run defs (onTc (τ := τ) (main (F := Ideal))) ⟨m, fun _ => 0, ρ⟩ fun r => ∀ c : Dev nD,
      r.2.mem ((c : Thread nD τ).loc main_v8) = cols ((dats m 0 c).arrAt 2 cfg0.N)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h.1 c).2 main_v8 (Pipeline.mem_restRefs_of main_v8 (by decide) (by decide))).trans (tail m c), h.2 c⟩)
    (θ_run_and (run_main m ρ) (unchanged m ρ))

end Cert.KernelProj0Ideal.Product

namespace Cert.Proof

theorem proj0_ref_frame : Cert.quiescent_ReferenceProj0Ideal := fun m ρ _ =>
  (θ_run Cert.ReferenceProj0Ideal.defs _ _).mono (fun _ h => ⟨fun c => (h c).2, sem_eq_zero_of_no_sems (by decide) _⟩)
    (Cert.ReferenceProj0Ideal.Value.run (F := Ideal) m ρ)

theorem proj0_algebraic : Cert.algebraic_KernelProj0Ideal_ReferenceProj0Ideal := by
  intro m ρ m' ρ' _ hin
  refine ⟨_, Cert.KernelProj0Ideal.Product.run_blocks m ρ, ?_⟩
  refine (θ_run Cert.ReferenceProj0Ideal.defs _ _).mono (fun r h c => ?_) (Cert.ReferenceProj0Ideal.Value.run (F := Ideal) m' ρ')
  refine ⟨(h c).1.trans ?_, (h c).2⟩
  rw [Cert.KernelProj0Ideal.Product.final, (hin c).1, (hin c).2]
  funext y
  idx_vars y
  refine (Cert.ReferenceProj0Ideal.Product.proj_apply _ _ y0 y1 y2).trans ?_
  refine Eq.trans ?_ (Cert.KernelProj0Ideal.Product.cols_apply _ y0 y1 y2).symm
  exact (if_pos (by show (y1.val * 2048 + y2.val) / 512 % 4 = 0; omega)).symm

end Cert.Proof
-- ==== Proof.Proj1.lean ====
module

public import proofs.«01_k».proof.Defs
public import proofs.«01_k».proof.Proof.Gen.KernelProj1.Frame
public import proofs.«01_k».proof.Proof.Gen.KernelProj1Ideal.Value
public import proofs.«01_k».proof.Proof.Gen.ReferenceProj1Ideal.Run
public import Idealize.ShloMosaic.Lib.Pipeline.ValueKit
public import Idealize.ShloMosaic.Lib.Pointwise
public import Idealize.ShloMosaic.Lib.Claim
/-! # The input projection, its second call

The call writes 512 of each device's 2048 columns and leaves the others as the calls before it left them. -/
@[expose] public section

set_option maxRecDepth 16384
noncomputable section
open Idealize.ShloMosaic Idealize.ShloMosaic.TcCoe Idealize.SL.Sem
open Idealize.ShloMosaic.Pipeline (Dat)

namespace Cert.ReferenceProj1Ideal.Product
open Cert.ReferenceProj1Ideal Cert.ReferenceProj1Ideal.Gen

/-- The reference's result as a function of its operands. -/
def proj (h : FVec Ideal S4352x4096 .f32) (w : FVec Ideal S4096x16384 .f32) (b : FVec Ideal S4352x16384 .f32) : FVec Ideal S4352x16384 .f32 :=
  shapeCast _ ((concatenate S4352x8x2048 2 [⟨S4352x8x512, ((extractStridedSlice S4352x8x512 ![0, 0, 0] (shapeCast _ b shapeCasts_S4352x16384_S4352x8x2048) slices_S4352x8x2048_S4352x8x512_0_0_0) : (⟨S4352x8x512, .f32⟩ : BufTy).Contents (Elt Ideal))⟩, ⟨S4352x8x512, ((extractStridedSlice S4352x8x512 ![0, 0, 512] (shapeCast _ (Host.dotGeneral dot_S4352x4096_S4096x16384_S4352x16384_1_0_0_1_n_n none h w) shapeCasts_S4352x16384_S4352x8x2048) slices_S4352x8x2048_S4352x8x512_0_0_512) : (⟨S4352x8x512, .f32⟩ : BufTy).Contents (Elt Ideal))⟩, ⟨S4352x8x1024, ((extractStridedSlice S4352x8x1024 ![0, 0, 1024] (shapeCast _ b shapeCasts_S4352x16384_S4352x8x2048) slices_S4352x8x2048_S4352x8x1024_0_0_1024) : (⟨S4352x8x1024, .f32⟩ : BufTy).Contents (Elt Ideal))⟩] concatenates_S4352x8x512_S4352x8x512_S4352x8x1024_S4352x8x2048_d2 : (⟨S4352x8x2048, .f32⟩ : BufTy).Contents (Elt Ideal))) shapeCasts_S4352x8x2048_S4352x16384

theorem proj_apply (h : FVec Ideal S4352x4096 .f32) (w : FVec Ideal S4096x16384 .f32) (b : FVec Ideal S4352x16384 .f32) (i : Fin 4352) (j : Fin 16384) :
    proj h w b (ix2 i j) = if j.val / 512 % 4 = 1 then ∑ k : Fin 4096, h (ix2 i k) * w (ix2 k j) else b (ix2 i j) := by
  pointwise [proj]
  by_cases e : j.val / 512 % 4 = 1 <;> first
    | rw [if_pos e]
    | rw [if_neg e]
  all_goals split_ifs <;> first
    | rfl
    | omega
    | refine congrArg (a₂ := j) (fun z => b (ix2 i z)) ?_; exact Fin.ext (by dsimp only; omega)
    | refine congrArg (a₂ := j) (fun z => ∑ k : Fin 4096, h (ix2 i k) * w (ix2 k z)) ?_; exact Fin.ext (by dsimp only; omega)

end Cert.ReferenceProj1Ideal.Product

namespace Cert.KernelProj1Ideal.Product
open Cert.KernelProj1Ideal Cert.KernelProj1Ideal.Gen

variable (m : (ℓ : Loc nD τ sig) → Buf (Elt Ideal) ℓ)

theorem idx : ∀ t : Fin cfg0.N, win0_0.index t = ![t.val / 8, 0] ∧ win0_1.index t = ![t.val % 8, 0, 0] ∧ win0_2.index t = ![t.val / 8, t.val % 8 * 4 + 1]
    ∧ t.val < 32 :=
  (by decide +kernel : ∀ t : Fin grid0.N, _)

/-- The columns that the call writes, as a function of its two operands. -/
def G (h : FVec Ideal S4352x4096 .f32) (w : FVec Ideal S4096x16384 .f32) : FVec Ideal S4352x16384 .f32 := fun y =>
  ∑ k : Fin 4096, h (ix2 (y 0) k) * w (ix2 k (y 1))

theorem final (c : Dev nD) : (dats m 0 c).arrAt 2 cfg0.N = fun y => if (y 1).val / 512 % 4 = 1
    then G (m ((c : Thread nD τ).loc main_arg0)) (m ((c : Thread nD τ).loc main_arg1)) y else V m c main_v6 y := by
  refine (dats m 0 c).arrAt_eq_of_coversWhere 2 _ (fun β => β (1 : Fin _) % 4 = 1) (by decide +kernel) (fun t hf y => ?_) (fun j => Iff.rfl)
  blk_simp
  rw [after0_2]
  unfold outsAt0
  frame_out
  idx_vars y
  pointwise [k0_pay1, G]
  blk_point [iblk, V, idx t]

/-- The columns that the call does not write hold what the earlier calls left. -/
theorem before (c : Dev nD) : V m c main_v6 = m ((c : Thread nD τ).loc main_arg2) := by
  entry_read
  rfl

end Cert.KernelProj1Ideal.Product

namespace Cert.Proof

theorem proj1_ref_frame : Cert.quiescent_ReferenceProj1Ideal := fun m ρ _ =>
  (θ_run Cert.ReferenceProj1Ideal.defs _ _).mono (fun _ h => ⟨fun c => (h c).2, sem_eq_zero_of_no_sems (by decide) _⟩)
    (Cert.ReferenceProj1Ideal.Value.run (F := Ideal) m ρ)

theorem proj1_algebraic : Cert.algebraic_KernelProj1Ideal_ReferenceProj1Ideal := by
  intro m ρ m' ρ' _ hin
  refine ⟨_, Cert.KernelProj1Ideal.Value.run_blocks m ρ, ?_⟩
  refine (θ_run Cert.ReferenceProj1Ideal.defs _ _).mono (fun r h c => ?_) (Cert.ReferenceProj1Ideal.Value.run (F := Ideal) m' ρ')
  refine ⟨(h c).1.trans ?_, (h c).2⟩
  refine Eq.trans ?_ (Cert.KernelProj1Ideal.Product.final m c).symm
  rw [Cert.KernelProj1Ideal.Product.before, (hin c).1, (hin c).2.1, (hin c).2.2]
  funext y
  idx_vars y
  exact Cert.ReferenceProj1Ideal.Product.proj_apply _ _ _ y0 y1

end Cert.Proof
-- ==== Proof.Proj2.lean ====
module

public import proofs.«01_k».proof.Defs
public import proofs.«01_k».proof.Proof.Gen.KernelProj2.Frame
public import proofs.«01_k».proof.Proof.Gen.KernelProj2Ideal.Value
public import proofs.«01_k».proof.Proof.Gen.ReferenceProj2Ideal.Run
public import Idealize.ShloMosaic.Lib.Pipeline.ValueKit
public import Idealize.ShloMosaic.Lib.Pointwise
public import Idealize.ShloMosaic.Lib.Claim
/-! # The input projection, its third call

The call writes 512 of each device's 2048 columns and leaves the others as the calls before it left them. -/
@[expose] public section

set_option maxRecDepth 16384
noncomputable section
open Idealize.ShloMosaic Idealize.ShloMosaic.TcCoe Idealize.SL.Sem
open Idealize.ShloMosaic.Pipeline (Dat)

namespace Cert.ReferenceProj2Ideal.Product
open Cert.ReferenceProj2Ideal Cert.ReferenceProj2Ideal.Gen

/-- The reference's result as a function of its operands. -/
def proj (h : FVec Ideal S4352x4096 .f32) (w : FVec Ideal S4096x16384 .f32) (b : FVec Ideal S4352x16384 .f32) : FVec Ideal S4352x16384 .f32 :=
  shapeCast _ ((concatenate S4352x8x2048 2 [⟨S4352x8x1024, ((extractStridedSlice S4352x8x1024 ![0, 0, 0] (shapeCast _ b shapeCasts_S4352x16384_S4352x8x2048) slices_S4352x8x2048_S4352x8x1024_0_0_0) : (⟨S4352x8x1024, .f32⟩ : BufTy).Contents (Elt Ideal))⟩, ⟨S4352x8x512, ((extractStridedSlice S4352x8x512 ![0, 0, 1024] (shapeCast _ (Host.dotGeneral dot_S4352x4096_S4096x16384_S4352x16384_1_0_0_1_n_n none h w) shapeCasts_S4352x16384_S4352x8x2048) slices_S4352x8x2048_S4352x8x512_0_0_1024) : (⟨S4352x8x512, .f32⟩ : BufTy).Contents (Elt Ideal))⟩, ⟨S4352x8x512, ((extractStridedSlice S4352x8x512 ![0, 0, 1536] (shapeCast _ b shapeCasts_S4352x16384_S4352x8x2048) slices_S4352x8x2048_S4352x8x512_0_0_1536) : (⟨S4352x8x512, .f32⟩ : BufTy).Contents (Elt Ideal))⟩] concatenates_S4352x8x1024_S4352x8x512_S4352x8x512_S4352x8x2048_d2 : (⟨S4352x8x2048, .f32⟩ : BufTy).Contents (Elt Ideal))) shapeCasts_S4352x8x2048_S4352x16384

theorem proj_apply (h : FVec Ideal S4352x4096 .f32) (w : FVec Ideal S4096x16384 .f32) (b : FVec Ideal S4352x16384 .f32) (i : Fin 4352) (j : Fin 16384) :
    proj h w b (ix2 i j) = if j.val / 512 % 4 = 2 then ∑ k : Fin 4096, h (ix2 i k) * w (ix2 k j) else b (ix2 i j) := by
  pointwise [proj]
  by_cases e : j.val / 512 % 4 = 2 <;> first
    | rw [if_pos e]
    | rw [if_neg e]
  all_goals split_ifs <;> first
    | rfl
    | omega
    | refine congrArg (a₂ := j) (fun z => b (ix2 i z)) ?_; exact Fin.ext (by dsimp only; omega)
    | refine congrArg (a₂ := j) (fun z => ∑ k : Fin 4096, h (ix2 i k) * w (ix2 k z)) ?_; exact Fin.ext (by dsimp only; omega)

end Cert.ReferenceProj2Ideal.Product

namespace Cert.KernelProj2Ideal.Product
open Cert.KernelProj2Ideal Cert.KernelProj2Ideal.Gen

variable (m : (ℓ : Loc nD τ sig) → Buf (Elt Ideal) ℓ)

theorem idx : ∀ t : Fin cfg0.N, win0_0.index t = ![t.val / 8, 0] ∧ win0_1.index t = ![t.val % 8, 0, 0] ∧ win0_2.index t = ![t.val / 8, t.val % 8 * 4 + 2]
    ∧ t.val < 32 :=
  (by decide +kernel : ∀ t : Fin grid0.N, _)

/-- The columns that the call writes, as a function of its two operands. -/
def G (h : FVec Ideal S4352x4096 .f32) (w : FVec Ideal S4096x16384 .f32) : FVec Ideal S4352x16384 .f32 := fun y =>
  ∑ k : Fin 4096, h (ix2 (y 0) k) * w (ix2 k (y 1))

theorem final (c : Dev nD) : (dats m 0 c).arrAt 2 cfg0.N = fun y => if (y 1).val / 512 % 4 = 2
    then G (m ((c : Thread nD τ).loc main_arg0)) (m ((c : Thread nD τ).loc main_arg1)) y else V m c main_v6 y := by
  refine (dats m 0 c).arrAt_eq_of_coversWhere 2 _ (fun β => β (1 : Fin _) % 4 = 2) (by decide +kernel) (fun t hf y => ?_) (fun j => Iff.rfl)
  blk_simp
  rw [after0_2]
  unfold outsAt0
  frame_out
  idx_vars y
  pointwise [k0_pay1, G]
  blk_point [iblk, V, idx t]

/-- The columns that the call does not write hold what the earlier calls left. -/
theorem before (c : Dev nD) : V m c main_v6 = m ((c : Thread nD τ).loc main_arg2) := by
  entry_read
  rfl

end Cert.KernelProj2Ideal.Product

namespace Cert.Proof

theorem proj2_ref_frame : Cert.quiescent_ReferenceProj2Ideal := fun m ρ _ =>
  (θ_run Cert.ReferenceProj2Ideal.defs _ _).mono (fun _ h => ⟨fun c => (h c).2, sem_eq_zero_of_no_sems (by decide) _⟩)
    (Cert.ReferenceProj2Ideal.Value.run (F := Ideal) m ρ)

theorem proj2_algebraic : Cert.algebraic_KernelProj2Ideal_ReferenceProj2Ideal := by
  intro m ρ m' ρ' _ hin
  refine ⟨_, Cert.KernelProj2Ideal.Value.run_blocks m ρ, ?_⟩
  refine (θ_run Cert.ReferenceProj2Ideal.defs _ _).mono (fun r h c => ?_) (Cert.ReferenceProj2Ideal.Value.run (F := Ideal) m' ρ')
  refine ⟨(h c).1.trans ?_, (h c).2⟩
  refine Eq.trans ?_ (Cert.KernelProj2Ideal.Product.final m c).symm
  rw [Cert.KernelProj2Ideal.Product.before, (hin c).1, (hin c).2.1, (hin c).2.2]
  funext y
  idx_vars y
  exact Cert.ReferenceProj2Ideal.Product.proj_apply _ _ _ y0 y1

end Cert.Proof
-- ==== Proof.Proj3.lean ====
module

public import proofs.«01_k».proof.Defs
public import proofs.«01_k».proof.Proof.Gen.KernelProj3.Frame
public import proofs.«01_k».proof.Proof.Gen.KernelProj3Ideal.Value
public import proofs.«01_k».proof.Proof.Gen.ReferenceProj3Ideal.Run
public import Idealize.ShloMosaic.Lib.Pipeline.ValueKit
public import Idealize.ShloMosaic.Lib.Pointwise
public import Idealize.ShloMosaic.Lib.Claim
/-! # The input projection, its fourth call

The call writes 512 of each device's 2048 columns and leaves the others as the calls before it left them. -/
@[expose] public section

set_option maxRecDepth 16384
noncomputable section
open Idealize.ShloMosaic Idealize.ShloMosaic.TcCoe Idealize.SL.Sem
open Idealize.ShloMosaic.Pipeline (Dat)

namespace Cert.ReferenceProj3Ideal.Product
open Cert.ReferenceProj3Ideal Cert.ReferenceProj3Ideal.Gen

/-- The reference's result as a function of its operands. -/
def proj (h : FVec Ideal S4352x4096 .f32) (w : FVec Ideal S4096x16384 .f32) (b : FVec Ideal S4352x16384 .f32) : FVec Ideal S4352x16384 .f32 :=
  shapeCast _ ((concatenate S4352x8x2048 2 [⟨S4352x8x1536, ((extractStridedSlice S4352x8x1536 ![0, 0, 0] (shapeCast _ b shapeCasts_S4352x16384_S4352x8x2048) slices_S4352x8x2048_S4352x8x1536_0_0_0) : (⟨S4352x8x1536, .f32⟩ : BufTy).Contents (Elt Ideal))⟩, ⟨S4352x8x512, ((extractStridedSlice S4352x8x512 ![0, 0, 1536] (shapeCast _ (Host.dotGeneral dot_S4352x4096_S4096x16384_S4352x16384_1_0_0_1_n_n none h w) shapeCasts_S4352x16384_S4352x8x2048) slices_S4352x8x2048_S4352x8x512_0_0_1536) : (⟨S4352x8x512, .f32⟩ : BufTy).Contents (Elt Ideal))⟩, ⟨S4352x8x0, ((extractStridedSlice S4352x8x0 ![0, 0, 2048] (shapeCast _ b shapeCasts_S4352x16384_S4352x8x2048) slices_S4352x8x2048_S4352x8x0_0_0_2048) : (⟨S4352x8x0, .f32⟩ : BufTy).Contents (Elt Ideal))⟩] concatenates_S4352x8x1536_S4352x8x512_S4352x8x0_S4352x8x2048_d2 : (⟨S4352x8x2048, .f32⟩ : BufTy).Contents (Elt Ideal))) shapeCasts_S4352x8x2048_S4352x16384

theorem proj_apply (h : FVec Ideal S4352x4096 .f32) (w : FVec Ideal S4096x16384 .f32) (b : FVec Ideal S4352x16384 .f32) (i : Fin 4352) (j : Fin 16384) :
    proj h w b (ix2 i j) = if j.val / 512 % 4 = 3 then ∑ k : Fin 4096, h (ix2 i k) * w (ix2 k j) else b (ix2 i j) := by
  pointwise [proj]
  by_cases e : j.val / 512 % 4 = 3 <;> first
    | rw [if_pos e]
    | rw [if_neg e]
  all_goals split_ifs <;> first
    | rfl
    | omega
    | refine congrArg (a₂ := j) (fun z => b (ix2 i z)) ?_; exact Fin.ext (by dsimp only; omega)
    | refine congrArg (a₂ := j) (fun z => ∑ k : Fin 4096, h (ix2 i k) * w (ix2 k z)) ?_; exact Fin.ext (by dsimp only; omega)

end Cert.ReferenceProj3Ideal.Product

namespace Cert.KernelProj3Ideal.Product
open Cert.KernelProj3Ideal Cert.KernelProj3Ideal.Gen

variable (m : (ℓ : Loc nD τ sig) → Buf (Elt Ideal) ℓ)

theorem idx : ∀ t : Fin cfg0.N, win0_0.index t = ![t.val / 8, 0] ∧ win0_1.index t = ![t.val % 8, 0, 0] ∧ win0_2.index t = ![t.val / 8, t.val % 8 * 4 + 3]
    ∧ t.val < 32 :=
  (by decide +kernel : ∀ t : Fin grid0.N, _)

/-- The columns that the call writes, as a function of its two operands. -/
def G (h : FVec Ideal S4352x4096 .f32) (w : FVec Ideal S4096x16384 .f32) : FVec Ideal S4352x16384 .f32 := fun y =>
  ∑ k : Fin 4096, h (ix2 (y 0) k) * w (ix2 k (y 1))

theorem final (c : Dev nD) : (dats m 0 c).arrAt 2 cfg0.N = fun y => if (y 1).val / 512 % 4 = 3
    then G (m ((c : Thread nD τ).loc main_arg0)) (m ((c : Thread nD τ).loc main_arg1)) y else V m c main_v6 y := by
  refine (dats m 0 c).arrAt_eq_of_coversWhere 2 _ (fun β => β (1 : Fin _) % 4 = 3) (by decide +kernel) (fun t hf y => ?_) (fun j => Iff.rfl)
  blk_simp
  rw [after0_2]
  unfold outsAt0
  frame_out
  idx_vars y
  pointwise [k0_pay1, G]
  blk_point [iblk, V, idx t]

/-- The columns that the call does not write hold what the earlier calls left. -/
theorem before (c : Dev nD) : V m c main_v6 = m ((c : Thread nD τ).loc main_arg2) := by
  entry_read
  rfl

end Cert.KernelProj3Ideal.Product

namespace Cert.Proof

theorem proj3_ref_frame : Cert.quiescent_ReferenceProj3Ideal := fun m ρ _ =>
  (θ_run Cert.ReferenceProj3Ideal.defs _ _).mono (fun _ h => ⟨fun c => (h c).2, sem_eq_zero_of_no_sems (by decide) _⟩)
    (Cert.ReferenceProj3Ideal.Value.run (F := Ideal) m ρ)

theorem proj3_algebraic : Cert.algebraic_KernelProj3Ideal_ReferenceProj3Ideal := by
  intro m ρ m' ρ' _ hin
  refine ⟨_, Cert.KernelProj3Ideal.Value.run_blocks m ρ, ?_⟩
  refine (θ_run Cert.ReferenceProj3Ideal.defs _ _).mono (fun r h c => ?_) (Cert.ReferenceProj3Ideal.Value.run (F := Ideal) m' ρ')
  refine ⟨(h c).1.trans ?_, (h c).2⟩
  refine Eq.trans ?_ (Cert.KernelProj3Ideal.Product.final m c).symm
  rw [Cert.KernelProj3Ideal.Product.before, (hin c).1, (hin c).2.1, (hin c).2.2]
  funext y
  idx_vars y
  exact Cert.ReferenceProj3Ideal.Product.proj_apply _ _ _ y0 y1

end Cert.Proof
-- ==== Proof.Pool.lean ====
module

public import proofs.«01_k».proof.Defs
public import proofs.«01_k».proof.Proof.Gen.KernelPool.Frame
public import proofs.«01_k».proof.Proof.Gen.KernelPoolIdeal.Value
public import proofs.«01_k».proof.Proof.Gen.ReferencePoolIdeal.Run
public import Idealize.ShloMosaic.Lib.Pipeline.ValueKit
public import Idealize.ShloMosaic.Lib.Pipeline.ReadBack
public import Idealize.ShloMosaic.Lib.Pointwise
public import Idealize.ShloMosaic.Lib.Claim
/-! # The pool's product -/
@[expose] public section

set_option maxRecDepth 16384
noncomputable section
open Idealize.ShloMosaic Idealize.ShloMosaic.TcCoe Idealize.SL.Sem
open Idealize.ShloMosaic.Pipeline (Dat)

namespace Cert.ReferencePoolIdeal.Product
open Cert.ReferencePoolIdeal Cert.ReferencePoolIdeal.Gen

/-- The reference's result as a function of its two operands. -/
def ref (a : FVec Ideal S4096x4096 .f32) (w : FVec Ideal S4x1024x1024 .f32) : FVec Ideal S4096x4096 .f32 :=
  shapeCast _ (transpose S4096x4x1024 [2, 0, 1] (Host.dotGeneral dot_S4x1024x1024_S4096x4x1024_S4x1024x4096_1_2_2_0_0_1 none w (shapeCast _ a shapeCasts_S4096x4096_S4096x4x1024)) transposes_S4x1024x4096_S4096x4x1024_2_0_1) shapeCasts_S4096x4x1024_S4096x4096

theorem ref_apply (a : FVec Ideal S4096x4096 .f32) (w : FVec Ideal S4x1024x1024 .f32) (i j : Fin 4096) :
    ref a w (ix2 i j) = ∑ k : Fin 1024, a (ix2 i ⟨j.val / 1024 * 1024 + k.val, by omega⟩) * w (ix3 ⟨j.val / 1024, by omega⟩ k ⟨j.val % 1024, by omega⟩) := by
  pointwise [ref]
  exact Finset.sum_congr rfl fun k _ => mul_comm _ _

end Cert.ReferencePoolIdeal.Product

namespace Cert.KernelPoolIdeal.Product
open Cert.KernelPoolIdeal Cert.KernelPoolIdeal.Gen

variable (m : (ℓ : Loc nD τ sig) → Buf (Elt Ideal) ℓ)

theorem idx : ∀ t : Fin cfg0.N, win0_0.index t = ![t.val % 4, t.val / 4] ∧ win0_1.index t = ![t.val / 4, 0, 0] ∧ win0_2.index t = ![t.val % 4, t.val / 4]
    ∧ t.val < 16 :=
  (by decide +kernel : ∀ t : Fin grid0.N, _)

/-- The result as a function of the two operands. -/
def G (a : FVec Ideal S4096x4096 .f32) (w : FVec Ideal S4x1024x1024 .f32) : FVec Ideal S4096x4096 .f32 := fun y =>
  ∑ k : Fin 1024, a (ix2 (y 0) ⟨(y 1).val / 1024 * 1024 + k.val, by idx_bounds y; omega⟩) * w (ix3 ⟨(y 1).val / 1024, by idx_bounds y; omega⟩ k ⟨(y 1).val % 1024, by idx_bounds y; omega⟩)

theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  idx_vars y
  pointwise [k0_pay1, G]
  blk_point [iblk, V, idx t]

end Cert.KernelPoolIdeal.Product

namespace Cert.Proof

theorem pool_ref_frame : Cert.quiescent_ReferencePoolIdeal := fun m ρ _ =>
  (θ_run Cert.ReferencePoolIdeal.defs _ _).mono (fun _ h => ⟨fun c => (h c).2, sem_eq_zero_of_no_sems (by decide) _⟩)
    (Cert.ReferencePoolIdeal.Value.run (F := Ideal) m ρ)

theorem pool_algebraic : Cert.algebraic_KernelPoolIdeal_ReferencePoolIdeal := by
  intro m ρ m' ρ' _ hin
  refine ⟨_, Cert.KernelPoolIdeal.Value.run_blocks m ρ, ?_⟩
  refine (θ_run Cert.ReferencePoolIdeal.defs _ _).mono (fun r h c => ?_) (Cert.ReferencePoolIdeal.Value.run (F := Ideal) m' ρ')
  refine ⟨(h c).1.trans ?_, (h c).2⟩
  refine Eq.trans ?_ (Cert.KernelPoolIdeal.Product.final m c).symm
  rw [(hin c).1, (hin c).2]
  funext y
  idx_vars y
  exact Cert.ReferencePoolIdeal.Product.ref_apply _ _ y0 y1

end Cert.Proof
-- ==== Proof.CoefRef.lean ====
module

public import proofs.«01_k».proof.Proof.Gen.ReferenceCoefIdeal.Run
public import proofs.«01_k».proof.Proof.GateReal
public import Idealize.ShloMosaic.Lib.Pointwise
/-! # The gates' forward pass as the reference writes it

The decays and the input terms at one element, in the kernel's scalar functions. No operand has to be finite: the
coefficient is never positive and a gate never negative, so the logarithm of a decay is never infinite upwards. -/
@[expose] public section

set_option maxRecDepth 16384
noncomputable section
open Idealize.ShloMosaic Idealize.ShloMosaic.TcCoe Idealize.SL.Sem
namespace Cert.Gate

theorem log_one : Ideal.log 1 = 0 := by
  rw [← EReal.coe_one, Ideal.log_coe, if_neg (by norm_num), Real.log_one, EReal.coe_zero]

theorem kC_nonpos (lam : EReal) : kC lam ≤ 0 := by
  induction lam with
  | bot =>
    rw [kC, neg_eight]
    refine mul_nonpos_of_nonpos_of_nonneg (by exact_mod_cast (by norm_num : (-8 : ℝ) ≤ 0)) ?_
    simp [Ideal.log1p, log_one]
  | top =>
    rw [kC, neg_eight]
    refine mul_nonpos_of_nonpos_of_nonneg (by exact_mod_cast (by norm_num : (-8 : ℝ) ≤ 0)) ?_
    simp [Ideal.log1p, log_one]
  | coe x =>
    obtain ⟨c, hc, e⟩ := kC_real x
    rw [e]
    exact_mod_cast hc.le

theorem kSig_nonneg (v : EReal) : 0 ≤ kSig v := by
  induction v with
  | bot => rw [kSig_eq, show Ideal.div 1 (1 + Ideal.exp (-⊥)) = Ideal.logistic ⊥ from rfl, Ideal.logistic_bot]
  | top => rw [kSig_eq, show Ideal.div 1 (1 + Ideal.exp (-⊤)) = Ideal.logistic ⊤ from rfl, Ideal.logistic_top]; exact zero_le_one
  | coe x =>
    obtain ⟨r, hr, e⟩ := kSig_real x
    rw [e]
    exact_mod_cast hr.le

theorem rS_of_nonpos {c r : EReal} (hc : c ≤ 0) (hr : 0 ≤ r) : rS c r = kS c r := by
  have h : c * r ≤ 0 := mul_nonpos_of_nonpos_of_nonneg hc hr
  rw [rS, kS, kA]
  generalize c * r = x at h
  induction x with
  | bot =>
    rw [two, EReal.coe_mul_bot_of_pos (by norm_num), Ideal.exp_bot, Ideal.tanh_bot]
    simp
  | top => exact absurd h (by simp)
  | coe x =>
    have := rS_eq x 1
    rwa [rS, kS, kA, EReal.coe_one, mul_one] at this

/-- Channel `e` of head `h`, and a channel's head and place in it. -/
def chan (h : Fin 16) (e : Fin 256) : Fin 4096 := ⟨h.val * 256 + e.val, by omega⟩
def chanHd (q : Fin 4096) : Fin 16 := ⟨q.val / 256, by omega⟩
def chanLn (q : Fin 4096) : Fin 256 := ⟨q.val % 256, by omega⟩
theorem chan_eq (q : Fin 4096) : chan (chanHd q) (chanLn q) = q := Fin.ext (Nat.div_add_mod' q.val 256)

end Cert.Gate
namespace Cert.ReferenceCoefIdeal.Coef
open Cert.ReferenceCoefIdeal Cert.ReferenceCoefIdeal.Gen Cert.ReferenceCoefIdeal.Value Cert.Gate

/-- The reference's coefficients. -/
def cR (lam : FVec Ideal S2x4096 .f32) : FVec Ideal S2x4096 .f32 :=
  mulf (broadcastInDim S2x4096 ![] bcast_S_S2x4096 (constant S_ .f32 0xC1000000#32)) (select (cmpf .une (subf (Host.negf lam) (broadcastInDim S2x4096 ![] bcast_S_S2x4096 (constant S_ .f32 0x00000000#32))) (subf (Host.negf lam) (broadcastInDim S2x4096 ![] bcast_S_S2x4096 (constant S_ .f32 0x00000000#32)))) (addf (Host.negf lam) (broadcastInDim S2x4096 ![] bcast_S_S2x4096 (constant S_ .f32 0x00000000#32))) (addf (maximumf (Host.negf lam) (broadcastInDim S2x4096 ![] bcast_S_S2x4096 (constant S_ .f32 0x00000000#32))) (Host.log1p (Host.exp (Host.negf (Host.absf (subf (Host.negf lam) (broadcastInDim S2x4096 ![] bcast_S_S2x4096 (constant S_ .f32 0x00000000#32)))))))))
/-- A gate of the first direction. -/
def gR0 (u : FVec Ideal S4352x4096 .f32) (w : FVec Ideal S2x16x256x256 .f32) (b : FVec Ideal S2x4096 .f32) : FVec Ideal S1x4352x4096 .f32 :=
  Host.divf (broadcastInDim S1x4352x4096 ![] bcast_S_S1x4352x4096 (constant S_ .f32 0x3F800000#32)) (addf (broadcastInDim S1x4352x4096 ![] bcast_S_S1x4352x4096 (constant S_ .f32 0x3F800000#32)) (Host.exp (Host.negf (addf (shapeCast S1x4352x4096 (transpose S1x4352x16x256 [2, 3, 0, 1] (Host.dotGeneral dot_S16x256x256_S1x4352x16x256_S16x256x1x4352_1_3_2_01_0_2 none (shapeCast _ (extractStridedSlice S1x16x256x256 ![0, 0, 0, 0] w slices_S2x16x256x256_S1x16x256x256_0_0_0_0) shapeCasts_S1x16x256x256_S16x256x256) (shapeCast _ (broadcastInDim S1x4352x4096 ![1, 2] bcast_S4352x4096_S1x4352x4096_1_2 u) shapeCasts_S1x4352x4096_S1x4352x16x256)) transposes_S16x256x1x4352_S1x4352x16x256_2_3_0_1) shapeCasts_S1x4352x16x256_S1x4352x4096) (broadcastInDim S1x4352x4096 ![0, 1, 2] bcast_S1x1x4096_S1x4352x4096_0_1_2 (broadcastInDim S1x1x4096 ![2] bcast_S4096_S1x1x4096_2 (shapeCast _ (extractStridedSlice S1x4096 ![0, 0] b slices_S2x4096_S1x4096_0_0) shapeCasts_S1x4096_S4096)))))))
/-- A gate of the second direction. -/
def gR1 (u : FVec Ideal S4352x4096 .f32) (w : FVec Ideal S2x16x256x256 .f32) (b : FVec Ideal S2x4096 .f32) : FVec Ideal S1x4352x4096 .f32 :=
  Host.divf (broadcastInDim S1x4352x4096 ![] bcast_S_S1x4352x4096 (constant S_ .f32 0x3F800000#32)) (addf (broadcastInDim S1x4352x4096 ![] bcast_S_S1x4352x4096 (constant S_ .f32 0x3F800000#32)) (Host.exp (Host.negf (addf (shapeCast S1x4352x4096 (transpose S1x4352x16x256 [2, 3, 0, 1] (Host.dotGeneral dot_S16x256x256_S1x4352x16x256_S16x256x1x4352_1_3_2_01_0_2 none (shapeCast _ (extractStridedSlice S1x16x256x256 ![1, 0, 0, 0] w slices_S2x16x256x256_S1x16x256x256_1_0_0_0) shapeCasts_S1x16x256x256_S16x256x256) (shapeCast _ (broadcastInDim S1x4352x4096 ![1, 2] bcast_S4352x4096_S1x4352x4096_1_2 u) shapeCasts_S1x4352x4096_S1x4352x16x256)) transposes_S16x256x1x4352_S1x4352x16x256_2_3_0_1) shapeCasts_S1x4352x16x256_S1x4352x4096) (broadcastInDim S1x4352x4096 ![0, 1, 2] bcast_S1x1x4096_S1x4352x4096_0_1_2 (broadcastInDim S1x1x4096 ![2] bcast_S4096_S1x1x4096_2 (shapeCast _ (extractStridedSlice S1x4096 ![1, 0] b slices_S2x4096_S1x4096_1_0) shapeCasts_S1x4096_S4096)))))))
/-- The logarithm of the decay in either direction. -/
def laR0 (lam : FVec Ideal S2x4096 .f32) (r : FVec Ideal S1x4352x4096 .f32) : FVec Ideal S1x4352x4096 .f32 :=
  mulf (broadcastInDim S1x4352x4096 ![0, 1, 2] bcast_S1x1x4096_S1x4352x4096_0_1_2 (broadcastInDim S1x1x4096 ![2] bcast_S4096_S1x1x4096_2 (shapeCast _ (extractStridedSlice S1x4096 ![0, 0] (cR lam) slices_S2x4096_S1x4096_0_0) shapeCasts_S1x4096_S4096))) r
def laR1 (lam : FVec Ideal S2x4096 .f32) (r : FVec Ideal S1x4352x4096 .f32) : FVec Ideal S1x4352x4096 .f32 :=
  mulf (broadcastInDim S1x4352x4096 ![0, 1, 2] bcast_S1x1x4096_S1x4352x4096_0_1_2 (broadcastInDim S1x1x4096 ![2] bcast_S4096_S1x1x4096_2 (shapeCast _ (extractStridedSlice S1x4096 ![1, 0] (cR lam) slices_S2x4096_S1x4096_1_0) shapeCasts_S1x4096_S4096))) r
/-- The factor of the input. -/
def sqR (la : FVec Ideal S1x4352x4096 .f32) : FVec Ideal S1x4352x4096 .f32 :=
  Host.sqrt (Host.negf (Host.expm1 (mulf (broadcastInDim S1x4352x4096 ![] bcast_S_S1x4352x4096 (constant S_ .f32 0x40000000#32)) la)))
/-- The reference's decays. -/
def aR (u : FVec Ideal S4352x4096 .f32) (lam : FVec Ideal S2x4096 .f32) (wr : FVec Ideal S2x16x256x256 .f32) (br : FVec Ideal S2x4096 .f32) : FVec Ideal S2x4352x4096 .f32 :=
  concatenate S2x4352x4096 0 [⟨S1x4352x4096, (Host.exp (laR0 lam (gR0 u wr br)))⟩, ⟨S1x4352x4096, (Host.exp (laR1 lam (gR1 u wr br)))⟩] concatenates_S1x4352x4096_S1x4352x4096_S2x4352x4096_d0
/-- The reference's input terms. -/
def bR (u : FVec Ideal S4352x4096 .f32) (lam : FVec Ideal S2x4096 .f32) (wr : FVec Ideal S2x16x256x256 .f32) (br : FVec Ideal S2x4096 .f32) (wi : FVec Ideal S2x16x256x256 .f32) (bi : FVec Ideal S2x4096 .f32) : FVec Ideal S2x4352x4096 .f32 :=
  concatenate S2x4352x4096 0 [⟨S1x4352x4096, (mulf (sqR (laR0 lam (gR0 u wr br))) (mulf (gR0 u wi bi) (broadcastInDim S1x4352x4096 ![1, 2] bcast_S4352x4096_S1x4352x4096_1_2 u)))⟩, ⟨S1x4352x4096, (mulf (sqR (laR1 lam (gR1 u wr br))) (mulf (gR1 u wi bi) (broadcastInDim S1x4352x4096 ![1, 2] bcast_S4352x4096_S1x4352x4096_1_2 u)))⟩] concatenates_S1x4352x4096_S1x4352x4096_S2x4352x4096_d0

/-- A gate of direction `d` at row `p` and channel `e` of head `h`. -/
def gate (u : FVec Ideal S4352x4096 .f32) (w : FVec Ideal S2x16x256x256 .f32) (b : FVec Ideal S2x4096 .f32) (d : Fin 2) (p : Fin 4352) (h : Fin 16)
    (e : Fin 256) : EReal :=
  kSig (∑ k : Fin 256, u (ix2 p (chan h k)) * w (ix4 d h k e) + b (ix2 d (chan h e)))

theorem cR_apply (lam : FVec Ideal S2x4096 .f32) (d : Fin 2) (q : Fin 4096) : cR lam (ix2 d q) = kC (lam (ix2 d q)) := by
  refine Eq.trans ?_ (rC_eq _)
  pointwise [cR, rC]
  simp only [ne_eq, not_true_eq_false, decide_false, BitVec.ofBool_false, if_false]
  rfl

theorem split_read (x : FVec Ideal S1x4352x4096 .f32) (p : Fin 4352) (h : Fin 16) (e : Fin 256) :
    (shapeCast S1x4352x16x256 x shapeCasts_S1x4352x4096_S1x4352x16x256) (ix4 0 p h e) = x (ix3 0 p (chan h e)) := by
  pointwise [chan]

theorem gR0_apply (u : FVec Ideal S4352x4096 .f32) (w : FVec Ideal S2x16x256x256 .f32) (b : FVec Ideal S2x4096 .f32) (p : Fin 4352) (h : Fin 16) (e : Fin 256) :
    gR0 u w b (ix3 0 p (chan h e)) = gate u w b 0 p h e := by
  refine Eq.trans ?_ (kSig_eq _).symm
  pointwise [gR0, split_read]
  simp only [mul_comm, show ∀ H, (⟨(chan h e).val / 256, H⟩ : Fin 16) = h from fun _ => Fin.ext (by show (h.val * 256 + e.val) / 256 = h.val; omega),
    show ∀ H, (⟨(chan h e).val % 256, H⟩ : Fin 256) = e from fun _ => Fin.ext (by show (h.val * 256 + e.val) % 256 = e.val; omega)]
theorem gR1_apply (u : FVec Ideal S4352x4096 .f32) (w : FVec Ideal S2x16x256x256 .f32) (b : FVec Ideal S2x4096 .f32) (p : Fin 4352) (h : Fin 16) (e : Fin 256) :
    gR1 u w b (ix3 0 p (chan h e)) = gate u w b 1 p h e := by
  refine Eq.trans ?_ (kSig_eq _).symm
  pointwise [gR1, split_read]
  simp only [mul_comm, show ∀ H, (⟨(chan h e).val / 256, H⟩ : Fin 16) = h from fun _ => Fin.ext (by show (h.val * 256 + e.val) / 256 = h.val; omega),
    show ∀ H, (⟨(chan h e).val % 256, H⟩ : Fin 256) = e from fun _ => Fin.ext (by show (h.val * 256 + e.val) % 256 = e.val; omega)]

theorem laR0_apply (lam : FVec Ideal S2x4096 .f32) (r : FVec Ideal S1x4352x4096 .f32) (p : Fin 4352) (q : Fin 4096) :
    laR0 lam r (ix3 0 p q) = kC (lam (ix2 0 q)) * r (ix3 0 p q) := by
  rw [← cR_apply]
  pointwise [laR0]
theorem laR1_apply (lam : FVec Ideal S2x4096 .f32) (r : FVec Ideal S1x4352x4096 .f32) (p : Fin 4352) (q : Fin 4096) :
    laR1 lam r (ix3 0 p q) = kC (lam (ix2 1 q)) * r (ix3 0 p q) := by
  rw [← cR_apply]
  pointwise [laR1]

theorem sqR0_apply (lam : FVec Ideal S2x4096 .f32) (r : FVec Ideal S1x4352x4096 .f32) (p : Fin 4352) (q : Fin 4096) :
    sqR (laR0 lam r) (ix3 0 p q) = rS (kC (lam (ix2 0 q))) (r (ix3 0 p q)) := by
  pointwise [sqR, laR0_apply, rS]
theorem sqR1_apply (lam : FVec Ideal S2x4096 .f32) (r : FVec Ideal S1x4352x4096 .f32) (p : Fin 4352) (q : Fin 4096) :
    sqR (laR1 lam r) (ix3 0 p q) = rS (kC (lam (ix2 1 q))) (r (ix3 0 p q)) := by
  pointwise [sqR, laR1_apply, rS]

/-- The decay and the input term of direction `d` at row `p` and channel `e` of head `h`. -/
def decay (u : FVec Ideal S4352x4096 .f32) (lam : FVec Ideal S2x4096 .f32) (wr : FVec Ideal S2x16x256x256 .f32) (br : FVec Ideal S2x4096 .f32)
    (d : Fin 2) (p : Fin 4352) (h : Fin 16) (e : Fin 256) : EReal :=
  kA (kC (lam (ix2 d (chan h e)))) (gate u wr br d p h e)
def input (u : FVec Ideal S4352x4096 .f32) (lam : FVec Ideal S2x4096 .f32) (wr : FVec Ideal S2x16x256x256 .f32) (br : FVec Ideal S2x4096 .f32)
    (wi : FVec Ideal S2x16x256x256 .f32) (bi : FVec Ideal S2x4096 .f32) (d : Fin 2) (p : Fin 4352) (h : Fin 16) (e : Fin 256) : EReal :=
  kS (kC (lam (ix2 d (chan h e)))) (gate u wr br d p h e) * (gate u wi bi d p h e * u (ix2 p (chan h e)))

theorem aR_apply (u : FVec Ideal S4352x4096 .f32) (lam : FVec Ideal S2x4096 .f32) (wr : FVec Ideal S2x16x256x256 .f32) (br : FVec Ideal S2x4096 .f32)
    (d : Fin 2) (p : Fin 4352) (h : Fin 16) (e : Fin 256) : aR u lam wr br (ix3 d p (chan h e)) = decay u lam wr br d p h e := by
  fin_cases d
  · refine Eq.trans ?_ (congrArg (fun r => Ideal.exp (kC (lam (ix2 0 (chan h e))) * r)) (gR0_apply u wr br p h e))
    pointwise [aR, laR0_apply]
  · refine Eq.trans ?_ (congrArg (fun r => Ideal.exp (kC (lam (ix2 1 (chan h e))) * r)) (gR1_apply u wr br p h e))
    pointwise [aR, laR1_apply]

theorem bR_apply (u : FVec Ideal S4352x4096 .f32) (lam : FVec Ideal S2x4096 .f32) (wr : FVec Ideal S2x16x256x256 .f32) (br : FVec Ideal S2x4096 .f32)
    (wi : FVec Ideal S2x16x256x256 .f32) (bi : FVec Ideal S2x4096 .f32)
    (d : Fin 2) (p : Fin 4352) (h : Fin 16) (e : Fin 256) : bR u lam wr br wi bi (ix3 d p (chan h e)) = input u lam wr br wi bi d p h e := by
  rw [input, gate, ← rS_of_nonpos (kC_nonpos _) (kSig_nonneg _)]
  fin_cases d
  · refine Eq.trans ?_ (congrArg₂ (fun r i => rS (kC (lam (ix2 0 (chan h e)))) r * (i * u (ix2 p (chan h e)))) (gR0_apply u wr br p h e) (gR0_apply u wi bi p h e))
    pointwise [bR, sqR0_apply]
  · refine Eq.trans ?_ (congrArg₂ (fun r i => rS (kC (lam (ix2 1 (chan h e)))) r * (i * u (ix2 p (chan h e)))) (gR1_apply u wr br p h e) (gR1_apply u wi bi p h e))
    pointwise [bR, sqR1_apply]

variable (m : (ℓ : Loc nD τ sig) → Buf (Elt Ideal) ℓ)

theorem res_a (c : Dev nD) : res_main_v98 m c = aR (m ((c.tc : Thread nD τ).loc main_arg0)) (m ((c.tc : Thread nD τ).loc main_arg1))
    (m ((c.tc : Thread nD τ).loc main_arg2)) (m ((c.tc : Thread nD τ).loc main_arg3)) := rfl
theorem res_b (c : Dev nD) : res_main_v99 m c = bR (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) := rfl

end Cert.ReferenceCoefIdeal.Coef
-- ==== Proof.Coef.lean ====
module

public import proofs.«01_k».proof.Defs
public import proofs.«01_k».proof.Proof.CoefRef
public import proofs.«01_k».proof.Proof.Gen.KernelCoef.Frame
public import proofs.«01_k».proof.Proof.Gen.KernelCoefIdeal.Value
public import Idealize.ShloMosaic.Lib.Pipeline.ValueKit
public import Idealize.ShloMosaic.Lib.Pointwise
public import Idealize.ShloMosaic.Lib.Claim
/-! # The gates' forward pass

The decays and the input terms of both directions. -/
@[expose] public section

set_option maxRecDepth 16384
noncomputable section
open Idealize.ShloMosaic Idealize.ShloMosaic.TcCoe Idealize.SL.Sem
open Idealize.ShloMosaic.Pipeline (Dat)
namespace Cert.KernelCoefIdeal.Coef
open Cert.KernelCoefIdeal Cert.KernelCoefIdeal.Gen Cert.Gate Cert.ReferenceCoefIdeal.Coef

/-! ## An array of two slabs, each stored by itself -/

theorem slab_one (w1 w0 : FVec Ideal S1x1088x256 .f32) (i1 i0) (L : List (View.Piece (Elt Ideal) S2x1088x256 .f32)) (p : Fin 1088) (q : Fin 256) :
    View.canon ((⟨Rect.unit (s := S2x1088x256) ![1, 0, 0] ![1, 1088, 256] i1, w1⟩ : View.Piece (Elt Ideal) S2x1088x256 .f32)
        :: ⟨Rect.unit (s := S2x1088x256) ![0, 0, 0] ![1, 1088, 256] i0, w0⟩ :: L) (ix3 1 p q) = w1 (ix3 0 p q) := by
  have he : (Rect.unit (s := S2x1088x256) ![1, 0, 0] ![1, 1088, 256] i1).emb (ix3 (0 : Fin 1) p q) = ix3 (1 : Fin 2) p q := by
    funext x; apply Fin.ext
    fin_cases x
    · rfl
    · show 0 + 1 * p.val = p.val; omega
    · show 0 + 1 * q.val = q.val; omega
  rw [← he]
  exact View.canon_cons_emb (Val := Elt Ideal) (e := .f32) (Rect.unit (s := S2x1088x256) ![1, 0, 0] ![1, 1088, 256] i1) w1 _ _

theorem slab_zero (w1 w0 : FVec Ideal S1x1088x256 .f32) (i1 i0) (L : List (View.Piece (Elt Ideal) S2x1088x256 .f32)) (p : Fin 1088) (q : Fin 256) :
    View.canon ((⟨Rect.unit (s := S2x1088x256) ![1, 0, 0] ![1, 1088, 256] i1, w1⟩ : View.Piece (Elt Ideal) S2x1088x256 .f32)
        :: ⟨Rect.unit (s := S2x1088x256) ![0, 0, 0] ![1, 1088, 256] i0, w0⟩ :: L) (ix3 0 p q) = w0 (ix3 0 p q) := by
  rw [View.canon_cons_of_not_mem]
  · have he : (Rect.unit (s := S2x1088x256) ![0, 0, 0] ![1, 1088, 256] i0).emb (ix3 (0 : Fin 1) p q) = ix3 (0 : Fin 2) p q := by
      funext x; apply Fin.ext
      fin_cases x
      · rfl
      · show 0 + 1 * p.val = p.val; omega
      · show 0 + 1 * q.val = q.val; omega
    rw [← he]
    exact View.canon_cons_emb (Val := Elt Ideal) (e := .f32) (Rect.unit (s := S2x1088x256) ![0, 0, 0] ![1, 1088, 256] i0) w0 _ _
  · intro hm
    obtain ⟨i, hi, he⟩ := (LoadRect.mem_set _).mp hm (0 : Fin 3)
    have he' : 0 = 1 + 1 * i := he
    omega

/-! ## The body's stores at one element -/

/-- A gate of direction `d` in a point's blocks. -/
def bGate (x0 : Vec Ideal S1088x256 .f32) (w : Vec Ideal S2x1x256x256 .bf16) (b : Vec Ideal S2x256 .f32) (d : Fin 2) (p : Fin 1088) (q : Fin 256) : EReal :=
  kSig (∑ k : Fin 256, x0 (ix2 p k) * w (ix4 d 0 k q) + b (ix2 d q))

theorem coef0 (v6 : Vec Ideal S1x256 .f32) (q : Fin 256) : k0_pay4 v6 (ix2 0 q) = kC (v6 (ix2 0 q)) := by
  pointwise [k0_pay4, kC]
  rfl
theorem coef1 (v6 : Vec Ideal S1x256 .f32) (q : Fin 256) : k0_pay12 v6 (ix2 0 q) = kC (v6 (ix2 0 q)) := by
  pointwise [k0_pay12, kC]
  rfl

variable (x0 : Vec Ideal S1088x256 .f32) (x1 x2 : Vec Ideal S2x1x256x256 .bf16) (x3 x4 x5 : Vec Ideal S2x256 .f32) (d : Fin 2) (p : Fin 1088) (q : Fin 256)

theorem out_a : out0_6 x0 x1 x2 x3 x4 x5 (ix3 d p q) = kA (kC (x5 (ix2 d q))) (bGate x0 x1 x3 d p q) := by
  unfold_out out0_6
  fin_cases d
  · refine (slab_zero _ _ _ _ _ p q).trans ?_
    pointwise [k0_pay10, k0_pay9, k0_pay8, k0_pay5, k0_pay3, coef0, kA, bGate, kSig]
  · refine (slab_one _ _ _ _ _ p q).trans ?_
    pointwise [k0_pay1, k0_pay15, k0_pay14, k0_pay3, coef1, kA, bGate, kSig]

theorem out_b : out0_7 x0 x1 x2 x3 x4 x5 (ix3 d p q)
    = kS (kC (x5 (ix2 d q))) (bGate x0 x1 x3 d p q) * (bGate x0 x2 x4 d p q * x0 (ix2 p q)) := by
  unfold_out out0_7
  fin_cases d
  · refine (slab_zero _ _ _ _ _ p q).trans ?_
    pointwise [k0_pay11, k0_pay9, k0_pay8, k0_pay7, k0_pay6, k0_pay5, k0_pay3, coef0, kS, kA, bGate, kSig]
  · refine (slab_one _ _ _ _ _ p q).trans ?_
    pointwise [k0_pay2, k0_pay13, k0_pay16, k0_pay15, k0_pay14, k0_pay3, coef1, kS, kA, bGate, kSig]

/-! ## The blocks at their place in the operands -/

variable (m : (ℓ : Loc nD τ sig) → Buf (Elt Ideal) ℓ)

theorem idx : ∀ t : Fin cfg0.N, win0_0.index t = ![t.val % 4, t.val / 4] ∧ win0_1.index t = ![0, t.val / 4, 0, 0] ∧ win0_2.index t = ![0, t.val / 4, 0, 0]
    ∧ win0_3.index t = ![0, t.val / 4] ∧ win0_4.index t = ![0, t.val / 4] ∧ win0_5.index t = ![0, t.val / 4]
    ∧ win0_6.index t = ![0, t.val % 4, t.val / 4] ∧ win0_7.index t = ![0, t.val % 4, t.val / 4] ∧ t.val < 64 :=
  (by decide +kernel : ∀ t : Fin grid0.N, _)

/-- The operands in the launch memory. -/
def u (c : Dev nD) : FVec Ideal S4352x4096 .f32 := m ((c : Thread nD τ).loc main_arg0)
def lam (c : Dev nD) : FVec Ideal S2x4096 .f32 := m ((c : Thread nD τ).loc main_arg1)
def wr (c : Dev nD) : FVec Ideal S2x16x256x256 .f32 := m ((c : Thread nD τ).loc main_arg2)
def br (c : Dev nD) : FVec Ideal S2x4096 .f32 := m ((c : Thread nD τ).loc main_arg3)
def wi (c : Dev nD) : FVec Ideal S2x16x256x256 .f32 := m ((c : Thread nD τ).loc main_arg4)
def bi (c : Dev nD) : FVec Ideal S2x4096 .f32 := m ((c : Thread nD τ).loc main_arg5)

/-- The head of point `t`, and row `p` of its row tile. -/
def head (t : Fin cfg0.N) : Fin 16 := ⟨t.val / 4, by have := lt_of_lt_of_eq t.isLt (show cfg0.N = 64 from N_0); omega⟩
def row (t : Fin cfg0.N) (p : Fin 1088) : Fin 4352 := ⟨t.val % 4 * 1088 + p.val, by omega⟩

theorem blk_u (c : Dev nD) (t : Fin cfg0.N) (p : Fin 1088) (k : Fin 256) :
    (iblk m c 0 t : Vec Ideal S1088x256 .f32) (ix2 p k) = u m c (ix2 (row t p) (chan (head t) k)) := by
  blk_ext [iblk, V, idx t, u, row, chan, head]
theorem blk_wr (c : Dev nD) (t : Fin cfg0.N) (d : Fin 2) (k e : Fin 256) :
    (iblk m c 1 t : Vec Ideal S2x1x256x256 .bf16) (ix4 d 0 k e) = wr m c (ix4 d (head t) k e) := by
  blk_simp [iblk]
  entry_read
  blk_ext [V, idx t, wr, head]
theorem blk_wi (c : Dev nD) (t : Fin cfg0.N) (d : Fin 2) (k e : Fin 256) :
    (iblk m c 2 t : Vec Ideal S2x1x256x256 .bf16) (ix4 d 0 k e) = wi m c (ix4 d (head t) k e) := by
  blk_simp [iblk]
  entry_read
  blk_ext [V, idx t, wi, head]
theorem blk_br (c : Dev nD) (t : Fin cfg0.N) (d : Fin 2) (e : Fin 256) :
    (iblk m c 3 t : Vec Ideal S2x256 .f32) (ix2 d e) = br m c (ix2 d (chan (head t) e)) := by
  blk_ext [iblk, V, idx t, br, chan, head]
theorem blk_bi (c : Dev nD) (t : Fin cfg0.N) (d : Fin 2) (e : Fin 256) :
    (iblk m c 4 t : Vec Ideal S2x256 .f32) (ix2 d e) = bi m c (ix2 d (chan (head t) e)) := by
  blk_ext [iblk, V, idx t, bi, chan, head]
theorem blk_lam (c : Dev nD) (t : Fin cfg0.N) (d : Fin 2) (e : Fin 256) :
    (iblk m c 5 t : Vec Ideal S2x256 .f32) (ix2 d e) = lam m c (ix2 d (chan (head t) e)) := by
  blk_ext [iblk, V, idx t, lam, chan, head]

theorem gate_r (c : Dev nD) (t : Fin cfg0.N) (d : Fin 2) (p : Fin 1088) (e : Fin 256) :
    bGate (iblk m c 0 t) (iblk m c 1 t) (iblk m c 3 t) d p e = gate (u m c) (wr m c) (br m c) d (row t p) (head t) e := by
  unfold bGate gate
  rw [blk_br m c t d e]
  refine congrArg (fun z => kSig (z + _)) (Finset.sum_congr rfl fun k _ => ?_)
  rw [blk_u m c t p k, blk_wr m c t d k e]
theorem gate_i (c : Dev nD) (t : Fin cfg0.N) (d : Fin 2) (p : Fin 1088) (e : Fin 256) :
    bGate (iblk m c 0 t) (iblk m c 2 t) (iblk m c 4 t) d p e = gate (u m c) (wi m c) (bi m c) d (row t p) (head t) e := by
  unfold bGate gate
  rw [blk_bi m c t d e]
  refine congrArg (fun z => kSig (z + _)) (Finset.sum_congr rfl fun k _ => ?_)
  rw [blk_u m c t p k, blk_wi m c t d k e]

/-! ## The arrays after the run -/

theorem at_chan (f : Fin 2 → Fin 4352 → Fin 16 → Fin 256 → EReal) {d d' : Fin 2} {p p' : Fin 4352} {h : Fin 16} {e : Fin 256} {q : Fin 4096}
    (h1 : d.val = d'.val) (h2 : p.val = p'.val) (h3 : h.val * 256 + e.val = q.val) : f d p h e = f d' p' (chanHd q) (chanLn q) := by
  obtain rfl : d = d' := Fin.ext h1
  obtain rfl : p = p' := Fin.ext h2
  obtain rfl : q = chan h e := Fin.ext h3.symm
  rw [show chanHd (chan h e) = h from Fin.ext (by show (h.val * 256 + e.val) / 256 = h.val; omega),
    show chanLn (chan h e) = e from Fin.ext (by show (h.val * 256 + e.val) % 256 = e.val; omega)]

theorem final_a (c : Dev nD) : (dats m 0 c).arrAt 6 cfg0.N = fun i =>
    decay (u m c) (lam m c) (wr m c) (br m c) (i 0) (i 1) (chanHd (i 2)) (chanLn (i 2)) := by
  refine (dats m 0 c).arrAt_eq_of_covers 6 _ (by decide +kernel) fun t hf y => ?_
  blk_simp
  rw [after0_6]
  idx_vars y
  refine ((out_a _ _ _ _ _ _ y0 y1 y2).trans ?_).trans
    (at_chan (decay (u m c) (lam m c) (wr m c) (br m c)) (d := y0) (p := row t y1) (h := head t) (e := y2) ?_ ?_ ?_)
  · rw [gate_r, blk_lam, decay]
  all_goals blk_simp [idx t, head, row] <;> omega

theorem final_b (c : Dev nD) : (dats m 0 c).arrAt 7 cfg0.N = fun i =>
    input (u m c) (lam m c) (wr m c) (br m c) (wi m c) (bi m c) (i 0) (i 1) (chanHd (i 2)) (chanLn (i 2)) := by
  refine (dats m 0 c).arrAt_eq_of_covers 7 _ (by decide +kernel) fun t hf y => ?_
  blk_simp
  rw [after0_7]
  idx_vars y
  refine ((out_b _ _ _ _ _ _ y0 y1 y2).trans ?_).trans
    (at_chan (input (u m c) (lam m c) (wr m c) (br m c) (wi m c) (bi m c)) (d := y0) (p := row t y1) (h := head t) (e := y2) ?_ ?_ ?_)
  · rw [gate_r, gate_i, blk_lam, blk_u, input]
  all_goals blk_simp [idx t, head, row] <;> omega

end Cert.KernelCoefIdeal.Coef

namespace Cert.Proof

theorem coef_ref_frame : Cert.quiescent_ReferenceCoefIdeal := fun m ρ _ =>
  (θ_run Cert.ReferenceCoefIdeal.defs _ _).mono (fun _ h => ⟨fun c => (h c).2.2, sem_eq_zero_of_no_sems (by decide) _⟩)
    (Cert.ReferenceCoefIdeal.Value.run (F := Ideal) m ρ)

theorem coef_algebraic : Cert.algebraic_KernelCoefIdeal_ReferenceCoefIdeal := by
  intro m ρ m' ρ' _ hin
  refine ⟨_, _, Cert.KernelCoefIdeal.Value.run_blocks m ρ, ?_⟩
  refine (θ_run Cert.ReferenceCoefIdeal.defs _ _).mono (fun r h c => ?_) (Cert.ReferenceCoefIdeal.Value.run (F := Ideal) m' ρ')
  obtain ⟨h0, h1, h2, h3, h4, h5⟩ := hin c
  obtain ⟨e0, e1, ea⟩ := h c
  refine ⟨e0.trans ?_, e1.trans ?_, ea⟩
  · refine (Cert.ReferenceCoefIdeal.Coef.res_a m' c).trans (Eq.trans ?_ (Cert.KernelCoefIdeal.Coef.final_a m c).symm)
    rw [h0, h1, h2, h3]
    funext y
    idx_vars y
    refine Eq.trans ?_ (Cert.ReferenceCoefIdeal.Coef.aR_apply _ _ _ _ y0 y1 (Cert.Gate.chanHd y2) (Cert.Gate.chanLn y2))
    rw [Cert.Gate.chan_eq]
    rfl
  · refine (Cert.ReferenceCoefIdeal.Coef.res_b m' c).trans (Eq.trans ?_ (Cert.KernelCoefIdeal.Coef.final_b m c).symm)
    rw [h0, h1, h2, h3, h4, h5]
    funext y
    idx_vars y
    refine Eq.trans ?_ (Cert.ReferenceCoefIdeal.Coef.bR_apply _ _ _ _ _ _ y0 y1 (Cert.Gate.chanHd y2) (Cert.Gate.chanLn y2))
    rw [Cert.Gate.chan_eq]
    rfl

end Cert.Proof
-- ==== Proof.MixGate.lean ====
module

public import proofs.«01_k».proof.Proof.GateReal
/-! # The gate of a half and its derivative

The kernels multiply the cotangent by the derivative in one piece, the reference adds the derivative's two terms after
each is multiplied. Both agree where what is multiplied is real, whatever the gate's argument. -/
@[expose] public section

noncomputable section
open Idealize.ShloMosaic
namespace Cert.Gate

/-- The gate. -/
def silu (g : EReal) : EReal := g * kSig g

/-- The gate's derivative as the kernels write it, and `c` times that derivative as the reference writes it. -/
def kSlope (g : EReal) : EReal := kSig g * (1 + g * (1 - kSig g))
def rSlope (c g : EReal) : EReal := c * kSig g + (g * c) * (kSig g * (1 - kSig g))

theorem kSig_top : kSig ⊤ = 1 := by rw [kSig_eq]; exact Ideal.logistic_top
theorem kSig_bot : kSig ⊥ = 0 := by rw [kSig_eq]; exact Ideal.logistic_bot

theorem slope_eq (c : ℝ) (g : EReal) : (c : EReal) * kSlope g = rSlope c g := by
  unfold kSlope rSlope
  induction g with
  | bot => rw [kSig_bot]; simp
  | top =>
    rw [kSig_top, show (1 : EReal) - 1 = 0 by rw [← EReal.coe_one, ← EReal.coe_sub]; simp]
    simp
  | coe x =>
    obtain ⟨s, -, hs⟩ := kSig_real x
    rw [hs]
    norm_cast
    ring

end Cert.Gate
-- ==== Proof.MixPre.lean ====
module

public import proofs.«01_k».proof.Pre_states_finite
public import proofs.«01_k».proof.Pre_pool_finite
public import proofs.«01_k».proof.Proof.RealArrays
/-! # The preconditions of the gated halves' gradients, read back -/
@[expose] public section

set_option maxRecDepth 16384
noncomputable section
open Idealize.ShloMosaic

namespace Cert.Pre_states_finite

theorem facts : Cert.Pre_states_finite.Facts where
  slices_S4096x8192_S4096x4096_0_0 := by decide
  bcast_S_S4096x4096 := by decide
  reducesTo_S4096x4096_S_d0_1 := by decide
  h_S_ := by decide
  slices_S2x4352x4096_S2x4096x4096_0_256_0 := by decide
  bcast_S_S2x4096x4096 := by decide
  reducesTo_S2x4096x4096_S_d0_1_2 := by decide

/-- Every cotangent of the first half and every latent's state is a real number. -/
theorem fn_real [Facts] (dm : FVec Ideal S4096x8192 .f32) (hs : FVec Ideal S2x4352x4096 .f32) (proj : FVec Ideal S4352x16384 .f32) (dp : FVec Ideal S4352x16384 .bf16)
    (h : fn (F := Ideal) dm hs proj dp = fun _ => 1#1) (i j : Fin 4096) :
    (∃ r : ℝ, dm (ix2 i ⟨j.val, by omega⟩) = (r : EReal)) ∧ ∀ d : Fin 2, ∃ r : ℝ, hs (ix3 d ⟨256 + i.val, by omega⟩ j) = (r : EReal) := by
  have e := congrFun h ix0
  obtain ⟨e1, e2⟩ := IntOp.andi_eq_one.1 e
  have h1 := Cert.Gate.real_of_all _ _ _ _ _ _ _ e1 (ix2 i j)
  have h2 := fun d : Fin 2 => Cert.Gate.real_of_all _ _ _ _ _ _ _ e2 (ix3 d i j)
  refine ⟨?_, fun d => ?_⟩
  · obtain ⟨r, hr⟩ := h1
    refine ⟨r, Eq.trans ?_ hr⟩
    pointwise []
  · obtain ⟨r, hr⟩ := h2 d
    refine ⟨r, Eq.trans ?_ hr⟩
    pointwise []

end Cert.Pre_states_finite

namespace Cert.Pre_pool_finite

theorem facts : Cert.Pre_pool_finite.Facts where
  slices_S4096x8192_S4096x4096_0_4096 := by decide
  bcast_S_S4096x4096 := by decide
  reducesTo_S4096x4096_S_d0_1 := by decide
  h_S_ := by decide
  bcast_S_S1x4096 := by decide
  reducesTo_S1x4096_S_d0_1 := by decide

/-- Every cotangent of the second half and every element of the pool's result, of its bias and of its scale is a real number. -/
theorem fn_real [Facts] (dm : FVec Ideal S4096x8192 .f32) (y : FVec Ideal S4096x4096 .f32) (proj : FVec Ideal S4352x16384 .f32) (b s : FVec Ideal S1x4096 .f32) (dp : FVec Ideal S4352x16384 .bf16)
    (h : fn (F := Ideal) dm y proj b s dp = fun _ => 1#1) (i j : Fin 4096) :
    (∃ r : ℝ, dm (ix2 i ⟨4096 + j.val, by omega⟩) = (r : EReal)) ∧ (∃ r : ℝ, y (ix2 i j) = (r : EReal))
      ∧ (∃ r : ℝ, b (ix2 0 j) = (r : EReal)) ∧ ∃ r : ℝ, s (ix2 0 j) = (r : EReal) := by
  have e := congrFun h ix0
  obtain ⟨e1, e4⟩ := IntOp.andi_eq_one.1 e
  obtain ⟨e1, e3⟩ := IntOp.andi_eq_one.1 e1
  obtain ⟨e1, e2⟩ := IntOp.andi_eq_one.1 e1
  have h1 := Cert.Gate.real_of_all _ _ _ _ _ _ _ e1 (ix2 i j)
  refine ⟨?_, Cert.Gate.real_of_all _ _ _ _ _ _ _ e2 _, Cert.Gate.real_of_all _ _ _ _ _ _ _ e3 _, Cert.Gate.real_of_all _ _ _ _ _ _ _ e4 _⟩
  obtain ⟨r, hr⟩ := h1
  refine ⟨r, Eq.trans ?_ hr⟩
  pointwise []

end Cert.Pre_pool_finite
-- ==== Proof.Mixa.lean ====
module

public import proofs.«01_k».proof.Defs
public import proofs.«01_k».proof.Proof.MixGate
public import proofs.«01_k».proof.Proof.MixPre
public import proofs.«01_k».proof.Proof.Gen.KernelMixa.Frame
public import proofs.«01_k».proof.Proof.Gen.KernelMixaIdeal.Value
public import proofs.«01_k».proof.Proof.Gen.ReferenceMixaIdeal.Run
public import Idealize.ShloMosaic.Lib.Pipeline.ValueKit
public import Idealize.ShloMosaic.Lib.Pointwise
public import Idealize.ShloMosaic.Lib.Claim
/-! # The gradients of the first gated half -/
@[expose] public section

set_option maxRecDepth 16384
noncomputable section
open Idealize.ShloMosaic Idealize.ShloMosaic.TcCoe Idealize.SL.Sem
open Idealize.ShloMosaic.Pipeline (Dat)

namespace Cert.ReferenceMixaIdeal.Mixa
open Cert.ReferenceMixaIdeal Cert.ReferenceMixaIdeal.Gen Cert.Gate

/-- The reference's two results as functions of its operands. -/
def dya (dm : FVec Ideal S4096x8192 .f32) (proj : FVec Ideal S4352x16384 .f32) : FVec Ideal S4096x4096 .f32 :=
  mulf (extractStridedSlice S4096x4096 ![0, 0] dm slices_S4096x8192_S4096x4096_0_0) (mulf (extractStridedSlice S4096x4096 ![256, 8192] proj slices_S4352x16384_S4096x4096_256_8192) (Host.divf (broadcastInDim S4096x4096 ![] bcast_S_S4096x4096 (constant S_ .f32 0x3F800000#32)) (addf (broadcastInDim S4096x4096 ![] bcast_S_S4096x4096 (constant S_ .f32 0x3F800000#32)) (Host.exp (Host.negf (extractStridedSlice S4096x4096 ![256, 8192] proj slices_S4352x16384_S4096x4096_256_8192))))))
def dproj (dm : FVec Ideal S4096x8192 .f32) (hs : FVec Ideal S2x4352x4096 .f32) (proj : FVec Ideal S4352x16384 .f32) (dp : FVec Ideal S4352x16384 .bf16) : FVec Ideal S4352x16384 .bf16 :=
  concatenate S4352x16384 0 [⟨S256x16384, (extractStridedSlice S256x16384 ![0, 0] dp slices_S4352x16384_S256x16384_0_0)⟩, ⟨S4096x16384, ((concatenate S4096x16384 1 [⟨S4096x8192, ((extractStridedSlice S4096x8192 ![256, 0] dp slices_S4352x16384_S4096x8192_256_0) : (⟨S4096x8192, .bf16⟩ : BufTy).Contents (Elt Ideal))⟩, ⟨S4096x4096, ((truncf .bf16 (addf (mulf (mulf (addf (shapeCast _ (extractStridedSlice S1x4096x4096 ![0, 256, 0] hs slices_S2x4352x4096_S1x4096x4096_0_256_0) shapeCasts_S1x4096x4096_S4096x4096) (shapeCast _ (extractStridedSlice S1x4096x4096 ![1, 256, 0] hs slices_S2x4352x4096_S1x4096x4096_1_256_0) shapeCasts_S1x4096x4096_S4096x4096)) (extractStridedSlice S4096x4096 ![0, 0] dm slices_S4096x8192_S4096x4096_0_0)) (Host.divf (broadcastInDim S4096x4096 ![] bcast_S_S4096x4096 (constant S_ .f32 0x3F800000#32)) (addf (broadcastInDim S4096x4096 ![] bcast_S_S4096x4096 (constant S_ .f32 0x3F800000#32)) (Host.exp (Host.negf (extractStridedSlice S4096x4096 ![256, 8192] proj slices_S4352x16384_S4096x4096_256_8192)))))) (mulf (mulf (extractStridedSlice S4096x4096 ![256, 8192] proj slices_S4352x16384_S4096x4096_256_8192) (mulf (addf (shapeCast _ (extractStridedSlice S1x4096x4096 ![0, 256, 0] hs slices_S2x4352x4096_S1x4096x4096_0_256_0) shapeCasts_S1x4096x4096_S4096x4096) (shapeCast _ (extractStridedSlice S1x4096x4096 ![1, 256, 0] hs slices_S2x4352x4096_S1x4096x4096_1_256_0) shapeCasts_S1x4096x4096_S4096x4096)) (extractStridedSlice S4096x4096 ![0, 0] dm slices_S4096x8192_S4096x4096_0_0))) (mulf (Host.divf (broadcastInDim S4096x4096 ![] bcast_S_S4096x4096 (constant S_ .f32 0x3F800000#32)) (addf (broadcastInDim S4096x4096 ![] bcast_S_S4096x4096 (constant S_ .f32 0x3F800000#32)) (Host.exp (Host.negf (extractStridedSlice S4096x4096 ![256, 8192] proj slices_S4352x16384_S4096x4096_256_8192))))) (subf (broadcastInDim S4096x4096 ![] bcast_S_S4096x4096 (constant S_ .f32 0x3F800000#32)) (Host.divf (broadcastInDim S4096x4096 ![] bcast_S_S4096x4096 (constant S_ .f32 0x3F800000#32)) (addf (broadcastInDim S4096x4096 ![] bcast_S_S4096x4096 (constant S_ .f32 0x3F800000#32)) (Host.exp (Host.negf (extractStridedSlice S4096x4096 ![256, 8192] proj slices_S4352x16384_S4096x4096_256_8192))))))))) bitsLt_bf16_f32) : (⟨S4096x4096, .bf16⟩ : BufTy).Contents (Elt Ideal))⟩, ⟨S4096x4096, ((extractStridedSlice S4096x4096 ![256, 12288] dp slices_S4352x16384_S4096x4096_256_12288) : (⟨S4096x4096, .bf16⟩ : BufTy).Contents (Elt Ideal))⟩] concatenates_S4096x8192_S4096x4096_S4096x4096_S4096x16384_d1 : (⟨S4096x16384, .bf16⟩ : BufTy).Contents (Elt Ideal)))⟩] concatenates_S256x16384_S4096x16384_S4352x16384_d0

/-- A latent's row among all the rows, a column of the gate among the projection's, and a column of the first half. -/
def row (i : Fin 4096) : Fin 4352 := ⟨256 + i.val, by omega⟩
def gcol (j : Fin 4096) : Fin 16384 := ⟨8192 + j.val, by omega⟩
def hcol (j : Fin 4096) : Fin 8192 := ⟨j.val, by omega⟩

theorem at_eq {n k : ℕ} (f : Fin n → Fin k → EReal) {i i' : Fin n} {j j' : Fin k} (h1 : i.val = i'.val) (h2 : j.val = j'.val) : f i j = f i' j' := by
  rw [Fin.ext h1, Fin.ext h2]

theorem dya_apply (dm : FVec Ideal S4096x8192 .f32) (proj : FVec Ideal S4352x16384 .f32) (i j : Fin 4096) :
    dya dm proj (ix2 i j) = dm (ix2 i (hcol j)) * silu (proj (ix2 (row i) (gcol j))) := by
  rw [silu, kSig_eq]
  pointwise [dya, row, gcol, hcol]

/-- The gate's gradient at one of the latents. -/
def rG (dm : FVec Ideal S4096x8192 .f32) (hs : FVec Ideal S2x4352x4096 .f32) (proj : FVec Ideal S4352x16384 .f32) (i j : Fin 4096) : EReal :=
  rSlope ((hs (ix3 0 (row i) j) + hs (ix3 1 (row i) j)) * dm (ix2 i (hcol j))) (proj (ix2 (row i) (gcol j)))

/-- The latent and the gate's column of an element that the call writes. -/
def lat (i : Fin 4352) : Fin 4096 := ⟨(i.val + 3840) % 4096, by omega⟩
def col (j : Fin 16384) : Fin 4096 := ⟨j.val % 4096, by omega⟩

set_option maxHeartbeats 1000000 in
theorem dproj_apply (dm : FVec Ideal S4096x8192 .f32) (hs : FVec Ideal S2x4352x4096 .f32) (proj : FVec Ideal S4352x16384 .f32) (dp : FVec Ideal S4352x16384 .bf16) (i : Fin 4352) (j : Fin 16384) :
    dproj dm hs proj dp (ix2 i j) = if 1 ≤ i.val / 256 ∧ j.val / 4096 = 2 then rG dm hs proj (lat i) (col j) else dp (ix2 i j) := by
  rw [rG, rSlope, kSig_eq]
  pointwise [dproj]
  by_cases e : 1 ≤ i.val / 256 ∧ j.val / 4096 = 2
  · have a : lat i = ⟨i.val - 256, by omega⟩ := Fin.ext (show (i.val + 3840) % 4096 = i.val - 256 by omega)
    have b : col j = ⟨j.val - 8192, by omega⟩ := Fin.ext (show j.val % 4096 = j.val - 8192 by omega)
    rw [if_pos e, dif_neg (show ¬ i.val < 256 by omega), dif_neg (show ¬ j.val < 8192 by omega), dif_pos (show j.val - 8192 < 4096 by omega), a, b]
    rfl
  · rw [if_neg e]
    split_ifs <;> first
      | omega
      | exact at_eq (fun i j => dp (ix2 i j)) (by first | omega | (show 256 + (i.val - 256) = i.val; omega)) (by first | omega | (show 12288 + (j.val - 8192 - 4096) = j.val; omega))

end Cert.ReferenceMixaIdeal.Mixa

namespace Cert.KernelMixaIdeal.Mixa
open Cert.KernelMixaIdeal Cert.KernelMixaIdeal.Gen Cert.Gate Cert.ReferenceMixaIdeal.Mixa

variable (m : (ℓ : Loc nD τ sig) → Buf (Elt Ideal) ℓ)

theorem idx : ∀ t : Fin cfg0.N, win0_0.index t = ![t.val, 0] ∧ win0_1.index t = ![0, t.val + 1, 0] ∧ win0_2.index t = ![t.val + 1, 2]
    ∧ win0_3.index t = ![t.val, 0] ∧ win0_4.index t = ![t.val + 1, 2] ∧ t.val < 16 :=
  (by decide +kernel : ∀ t : Fin grid0.N, _)

/-- The operands in the launch memory. -/
def dm (c : Dev nD) : FVec Ideal S4096x8192 .f32 := m ((c : Thread nD τ).loc main_arg0)
def hs (c : Dev nD) : FVec Ideal S2x4352x4096 .f32 := m ((c : Thread nD τ).loc main_arg1)
def proj (c : Dev nD) : FVec Ideal S4352x16384 .f32 := m ((c : Thread nD τ).loc main_arg2)
def dp (c : Dev nD) : FVec Ideal S4352x16384 .bf16 := m ((c : Thread nD τ).loc main_arg3)

/-- Row `p` of point `t`. -/
def prow (t : Fin cfg0.N) (p : Fin 256) : Fin 4096 := ⟨t.val * 256 + p.val, by have := (idx t).2.2.2.2.2; omega⟩

theorem blk_dm (c : Dev nD) (t : Fin cfg0.N) (p : Fin 256) (k : Fin 4096) :
    (iblk m c 0 t : Vec Ideal S256x4096 .f32) (ix2 p k) = dm m c (ix2 (prow t p) (hcol k)) := by
  blk_ext [iblk, V, idx t, dm, prow, hcol]
theorem blk_hs (c : Dev nD) (t : Fin cfg0.N) (d : Fin 2) (p : Fin 256) (k : Fin 4096) :
    (iblk m c 1 t : Vec Ideal S2x256x4096 .f32) (ix3 d p k) = hs m c (ix3 d (row (prow t p)) k) := by
  blk_ext [iblk, V, idx t, hs, row, prow]
theorem blk_ga (c : Dev nD) (t : Fin cfg0.N) (p : Fin 256) (k : Fin 4096) :
    (iblk m c 2 t : Vec Ideal S256x4096 .f32) (ix2 p k) = proj m c (ix2 (row (prow t p)) (gcol k)) := by
  blk_ext [iblk, V, idx t, proj, row, prow, gcol]

/-- A point's two blocks, in terms of its own blocks. -/
def blkY (x0 x2 : Vec Ideal S256x4096 .f32) (p : Fin 256) (k : Fin 4096) : EReal := x0 (ix2 p k) * silu (x2 (ix2 p k))
def blkG (x0 : Vec Ideal S256x4096 .f32) (x1 : Vec Ideal S2x256x4096 .f32) (x2 : Vec Ideal S256x4096 .f32) (p : Fin 256) (k : Fin 4096) : EReal :=
  x0 (ix2 p k) * (x1 (ix3 0 p k) + x1 (ix3 1 p k)) * kSlope (x2 (ix2 p k))

theorem out_Y (c : Dev nD) (t : Fin cfg0.N) (p : Fin 256) (k : Fin 4096) :
    (outsAt0 m c t).1 (ix2 p k) = blkY (iblk m c 0 t) (iblk m c 2 t) p k := by
  unfold outsAt0
  frame_out
  pointwise [k0_pay2, k0_pay1, blkY, silu, kSig]
theorem out_G (c : Dev nD) (t : Fin cfg0.N) (p : Fin 256) (k : Fin 4096) :
    (outsAt0 m c t).2 (ix2 p k) = blkG (iblk m c 0 t) (iblk m c 1 t) (iblk m c 2 t) p k := by
  unfold outsAt0
  frame_out
  pointwise [k0_pay3, k0_pay1, blkG, kSlope, kSig]

/-- The results at one of the latents. -/
def atY (dm : FVec Ideal S4096x8192 .f32) (proj : FVec Ideal S4352x16384 .f32) (i j : Fin 4096) : EReal :=
  dm (ix2 i (hcol j)) * silu (proj (ix2 (row i) (gcol j)))
def atG (dm : FVec Ideal S4096x8192 .f32) (hs : FVec Ideal S2x4352x4096 .f32) (proj : FVec Ideal S4352x16384 .f32) (i j : Fin 4096) : EReal :=
  dm (ix2 i (hcol j)) * (hs (ix3 0 (row i) j) + hs (ix3 1 (row i) j)) * kSlope (proj (ix2 (row i) (gcol j)))

/-- Where the operands are real, a latent's gradient is the reference's. -/
theorem slope {dm : FVec Ideal S4096x8192 .f32} {hs : FVec Ideal S2x4352x4096 .f32} {proj : FVec Ideal S4352x16384 .f32}
    (hr : ∀ i j : Fin 4096, (∃ r : ℝ, dm (ix2 i (hcol j)) = (r : EReal)) ∧ ∀ d : Fin 2, ∃ r : ℝ, hs (ix3 d (row i) j) = (r : EReal)) (i j : Fin 4096) :
    atG dm hs proj i j = rG dm hs proj i j := by
  obtain ⟨⟨a, ha⟩, hh⟩ := hr i j
  obtain ⟨b, hb⟩ := hh 0
  obtain ⟨d, hd⟩ := hh 1
  rw [atG, rG, ha, hb, hd, mul_comm (a : EReal), ← EReal.coe_add, ← EReal.coe_mul, slope_eq]

theorem point_Y (c : Dev nD) (t : Fin cfg0.N) (p : Fin 256) (k : Fin 4096) :
    (outsAt0 m c t).1 (ix2 p k) = atY (dm m c) (proj m c) (prow t p) k := by
  rw [out_Y, blkY, blk_dm, blk_ga, atY]
theorem point_G (c : Dev nD) (t : Fin cfg0.N) (p : Fin 256) (k : Fin 4096) :
    (outsAt0 m c t).2 (ix2 p k) = atG (dm m c) (hs m c) (proj m c) (prow t p) k := by
  rw [out_G, blkG, blk_dm, blk_hs, blk_hs, blk_ga, atG]

theorem final_Y (c : Dev nD) : (dats m 0 c).arrAt 3 cfg0.N = fun y => atY (dm m c) (proj m c) (y 0) (y 1) := by
  refine (dats m 0 c).arrAt_eq_of_covers 3 _ (by decide +kernel) fun t hf y => ?_
  blk_simp
  rw [after0_3]
  idx_vars y
  refine (point_Y m c t y0 y1).trans (at_eq (atY (dm m c) (proj m c)) ?_ ?_)
  all_goals blk_simp [idx t, prow]

theorem final_G (c : Dev nD) : (dats m 0 c).arrAt 4 cfg0.N = fun y => if 1 ≤ (y 0).val / 256 ∧ (y 1).val / 4096 = 2
    then atG (dm m c) (hs m c) (proj m c) (lat (y 0)) (col (y 1)) else V m c (Pipeline.arrRef spec0 4) y := by
  refine (dats m 0 c).arrAt_eq_of_coversWhere 4 _ (fun β => 1 ≤ β (0 : Fin _) ∧ β (1 : Fin _) = 2) (by decide +kernel) (fun t hf y => ?_) (fun j => Iff.rfl)
  blk_simp
  rw [after0_4]
  idx_vars y
  refine (point_G m c t y0 y1).trans (at_eq (atG (dm m c) (hs m c) (proj m c)) ?_ ?_)
  all_goals blk_simp [idx t, prow, lat, col]
  · show t.val * 256 + y0.val = ((t.val + 1) * 256 + y0.val + 3840) % 4096
    have := (idx t).2.2.2.2.2
    omega
  · show y1.val = (2 * 4096 + y1.val) % 4096
    omega

/-- The elements that the call does not write hold what the caller's array holds. -/
theorem before (c : Dev nD) : V m c (Pipeline.arrRef spec0 4) = dp m c := by
  entry_read
  rfl

end Cert.KernelMixaIdeal.Mixa

namespace Cert.Proof

theorem mixa_ref_frame : Cert.quiescent_ReferenceMixaIdeal := fun m ρ _ =>
  (θ_run Cert.ReferenceMixaIdeal.defs _ _).mono (fun _ h => ⟨fun c => (h c).2.2, sem_eq_zero_of_no_sems (by decide) _⟩)
    (Cert.ReferenceMixaIdeal.Value.run (F := Ideal) m ρ)

theorem mixa_algebraic [Cert.Pre_states_finite.Facts] : Cert.algebraic_KernelMixaIdeal_ReferenceMixaIdeal_pre_states_finite := by
  intro m ρ m' ρ' hpre hin
  refine ⟨_, _, Cert.KernelMixaIdeal.Value.run_blocks m ρ, ?_⟩
  refine (θ_run Cert.ReferenceMixaIdeal.defs _ _).mono (fun r h c => ?_) (Cert.ReferenceMixaIdeal.Value.run (F := Ideal) m' ρ')
  obtain ⟨h0, h1, h2, h3⟩ := hin c
  refine ⟨(h c).1.trans ?_, (h c).2.1.trans ?_, (h c).2.2⟩
  · refine Eq.trans ?_ (Cert.KernelMixaIdeal.Mixa.final_Y m c).symm
    rw [h0, h2]
    funext y
    idx_vars y
    exact Cert.ReferenceMixaIdeal.Mixa.dya_apply _ _ y0 y1
  · refine Eq.trans ?_ (Cert.KernelMixaIdeal.Mixa.final_G m c).symm
    rw [Cert.KernelMixaIdeal.Mixa.before, h0, h1, h2, h3]
    funext y
    idx_vars y
    refine (Cert.ReferenceMixaIdeal.Mixa.dproj_apply _ _ _ _ y0 y1).trans ?_
    refine if_congr Iff.rfl ?_ rfl
    exact (Cert.KernelMixaIdeal.Mixa.slope (fun i j => Cert.Pre_states_finite.fn_real _ _ _ _ (hpre c) i j) _ _).symm

end Cert.Proof
-- ==== Proof.Mixb.lean ====
module

public import proofs.«01_k».proof.Defs
public import proofs.«01_k».proof.Proof.MixGate
public import proofs.«01_k».proof.Proof.MixPre
public import proofs.«01_k».proof.Proof.Gen.KernelMixb.Frame
public import proofs.«01_k».proof.Proof.Gen.KernelMixbIdeal.Value
public import proofs.«01_k».proof.Proof.Gen.ReferenceMixbIdeal.Run
public import Idealize.ShloMosaic.Lib.Pipeline.ValueKit
public import Idealize.ShloMosaic.Lib.Pointwise
public import Idealize.ShloMosaic.Lib.Claim
/-! # The gradients of the second gated half -/
@[expose] public section

set_option maxRecDepth 16384
noncomputable section
open Idealize.ShloMosaic Idealize.ShloMosaic.TcCoe Idealize.SL.Sem
open Idealize.ShloMosaic.Pipeline (Dat)

namespace Cert.ReferenceMixbIdeal.Mixb
open Cert.ReferenceMixbIdeal Cert.ReferenceMixbIdeal.Gen Cert.Gate

/-- The reference's four results as functions of its operands. -/
def dyp (dm : FVec Ideal S4096x8192 .f32) (proj : FVec Ideal S4352x16384 .f32) (s : FVec Ideal S1x4096 .f32) : FVec Ideal S4096x4096 .bf16 :=
  truncf .bf16 (mulf (mulf (extractStridedSlice S4096x4096 ![0, 4096] dm slices_S4096x8192_S4096x4096_0_4096) (mulf (extractStridedSlice S4096x4096 ![256, 12288] proj slices_S4352x16384_S4096x4096_256_12288) (Host.divf (broadcastInDim S4096x4096 ![] bcast_S_S4096x4096 (constant S_ .f32 0x3F800000#32)) (addf (broadcastInDim S4096x4096 ![] bcast_S_S4096x4096 (constant S_ .f32 0x3F800000#32)) (Host.exp (Host.negf (extractStridedSlice S4096x4096 ![256, 12288] proj slices_S4352x16384_S4096x4096_256_12288))))))) (broadcastInDim S4096x4096 ![0, 1] bcast_S1x4096_S4096x4096_0_1 s)) bitsLt_bf16_f32
def dproj (dm : FVec Ideal S4096x8192 .f32) (y : FVec Ideal S4096x4096 .f32) (proj : FVec Ideal S4352x16384 .f32) (b s : FVec Ideal S1x4096 .f32) (dp : FVec Ideal S4352x16384 .bf16) : FVec Ideal S4352x16384 .bf16 :=
  concatenate S4352x16384 0 [⟨S256x16384, (extractStridedSlice S256x16384 ![0, 0] dp slices_S4352x16384_S256x16384_0_0)⟩, ⟨S4096x16384, ((concatenate S4096x16384 1 [⟨S4096x12288, ((extractStridedSlice S4096x12288 ![256, 0] dp slices_S4352x16384_S4096x12288_256_0) : (⟨S4096x12288, .bf16⟩ : BufTy).Contents (Elt Ideal))⟩, ⟨S4096x4096, ((truncf .bf16 (addf (mulf (mulf (mulf (addf y (broadcastInDim S4096x4096 ![0, 1] bcast_S1x4096_S4096x4096_0_1 b)) (broadcastInDim S4096x4096 ![0, 1] bcast_S1x4096_S4096x4096_0_1 s)) (extractStridedSlice S4096x4096 ![0, 4096] dm slices_S4096x8192_S4096x4096_0_4096)) (Host.divf (broadcastInDim S4096x4096 ![] bcast_S_S4096x4096 (constant S_ .f32 0x3F800000#32)) (addf (broadcastInDim S4096x4096 ![] bcast_S_S4096x4096 (constant S_ .f32 0x3F800000#32)) (Host.exp (Host.negf (extractStridedSlice S4096x4096 ![256, 12288] proj slices_S4352x16384_S4096x4096_256_12288)))))) (mulf (mulf (extractStridedSlice S4096x4096 ![256, 12288] proj slices_S4352x16384_S4096x4096_256_12288) (mulf (mulf (addf y (broadcastInDim S4096x4096 ![0, 1] bcast_S1x4096_S4096x4096_0_1 b)) (broadcastInDim S4096x4096 ![0, 1] bcast_S1x4096_S4096x4096_0_1 s)) (extractStridedSlice S4096x4096 ![0, 4096] dm slices_S4096x8192_S4096x4096_0_4096))) (mulf (Host.divf (broadcastInDim S4096x4096 ![] bcast_S_S4096x4096 (constant S_ .f32 0x3F800000#32)) (addf (broadcastInDim S4096x4096 ![] bcast_S_S4096x4096 (constant S_ .f32 0x3F800000#32)) (Host.exp (Host.negf (extractStridedSlice S4096x4096 ![256, 12288] proj slices_S4352x16384_S4096x4096_256_12288))))) (subf (broadcastInDim S4096x4096 ![] bcast_S_S4096x4096 (constant S_ .f32 0x3F800000#32)) (Host.divf (broadcastInDim S4096x4096 ![] bcast_S_S4096x4096 (constant S_ .f32 0x3F800000#32)) (addf (broadcastInDim S4096x4096 ![] bcast_S_S4096x4096 (constant S_ .f32 0x3F800000#32)) (Host.exp (Host.negf (extractStridedSlice S4096x4096 ![256, 12288] proj slices_S4352x16384_S4096x4096_256_12288))))))))) bitsLt_bf16_f32) : (⟨S4096x4096, .bf16⟩ : BufTy).Contents (Elt Ideal))⟩, ⟨S4096x0, ((extractStridedSlice S4096x0 ![256, 16384] dp slices_S4352x16384_S4096x0_256_16384) : (⟨S4096x0, .bf16⟩ : BufTy).Contents (Elt Ideal))⟩] concatenates_S4096x12288_S4096x4096_S4096x0_S4096x16384_d1 : (⟨S4096x16384, .bf16⟩ : BufTy).Contents (Elt Ideal)))⟩] concatenates_S256x16384_S4096x16384_S4352x16384_d0
def gbp (dm : FVec Ideal S4096x8192 .f32) (proj : FVec Ideal S4352x16384 .f32) (s : FVec Ideal S1x4096 .f32) : FVec Ideal S1x4096 .f32 :=
  shapeCast _ (Host.reduceAdd (mulf (mulf (extractStridedSlice S4096x4096 ![0, 4096] dm slices_S4096x8192_S4096x4096_0_4096) (mulf (extractStridedSlice S4096x4096 ![256, 12288] proj slices_S4352x16384_S4096x4096_256_12288) (Host.divf (broadcastInDim S4096x4096 ![] bcast_S_S4096x4096 (constant S_ .f32 0x3F800000#32)) (addf (broadcastInDim S4096x4096 ![] bcast_S_S4096x4096 (constant S_ .f32 0x3F800000#32)) (Host.exp (Host.negf (extractStridedSlice S4096x4096 ![256, 12288] proj slices_S4352x16384_S4096x4096_256_12288))))))) (broadcastInDim S4096x4096 ![0, 1] bcast_S1x4096_S4096x4096_0_1 s)) (constant S_ .f32 0x00000000#32) reducesTo_S4096x4096_S4096_d0 h_S_) shapeCasts_S4096_S1x4096
def gps (dm : FVec Ideal S4096x8192 .f32) (y : FVec Ideal S4096x4096 .f32) (proj : FVec Ideal S4352x16384 .f32) (b : FVec Ideal S1x4096 .f32) : FVec Ideal S1x4096 .f32 :=
  shapeCast _ (Host.reduceAdd (mulf (addf y (broadcastInDim S4096x4096 ![0, 1] bcast_S1x4096_S4096x4096_0_1 b)) (mulf (extractStridedSlice S4096x4096 ![0, 4096] dm slices_S4096x8192_S4096x4096_0_4096) (mulf (extractStridedSlice S4096x4096 ![256, 12288] proj slices_S4352x16384_S4096x4096_256_12288) (Host.divf (broadcastInDim S4096x4096 ![] bcast_S_S4096x4096 (constant S_ .f32 0x3F800000#32)) (addf (broadcastInDim S4096x4096 ![] bcast_S_S4096x4096 (constant S_ .f32 0x3F800000#32)) (Host.exp (Host.negf (extractStridedSlice S4096x4096 ![256, 12288] proj slices_S4352x16384_S4096x4096_256_12288)))))))) (constant S_ .f32 0x00000000#32) reducesTo_S4096x4096_S4096_d0 h_S_) shapeCasts_S4096_S1x4096

/-- A latent's row among all the rows, a column of the gate among the projection's, and a column of the second half. -/
def row (i : Fin 4096) : Fin 4352 := ⟨256 + i.val, by omega⟩
def gcol (j : Fin 4096) : Fin 16384 := ⟨12288 + j.val, by omega⟩
def hcol (j : Fin 4096) : Fin 8192 := ⟨4096 + j.val, by omega⟩

theorem at_eq {n k : ℕ} (f : Fin n → Fin k → EReal) {i i' : Fin n} {j j' : Fin k} (h1 : i.val = i'.val) (h2 : j.val = j'.val) : f i j = f i' j' := by
  rw [Fin.ext h1, Fin.ext h2]

/-- The half's cotangent past its gate, and the pool's result. -/
def atD (dm : FVec Ideal S4096x8192 .f32) (proj : FVec Ideal S4352x16384 .f32) (i j : Fin 4096) : EReal := dm (ix2 i (hcol j)) * silu (proj (ix2 (row i) (gcol j)))
def atP (y : FVec Ideal S4096x4096 .f32) (b : FVec Ideal S1x4096 .f32) (i j : Fin 4096) : EReal := y (ix2 i j) + b (ix2 0 j)
def atY (dm : FVec Ideal S4096x8192 .f32) (proj : FVec Ideal S4352x16384 .f32) (s : FVec Ideal S1x4096 .f32) (i j : Fin 4096) : EReal := atD dm proj i j * s (ix2 0 j)

theorem dyp_apply (dm : FVec Ideal S4096x8192 .f32) (proj : FVec Ideal S4352x16384 .f32) (s : FVec Ideal S1x4096 .f32) (i j : Fin 4096) : dyp dm proj s (ix2 i j) = atY dm proj s i j := by
  rw [atY, atD, silu, kSig_eq]
  pointwise [dyp, row, gcol, hcol]

theorem gbp_apply (dm : FVec Ideal S4096x8192 .f32) (proj : FVec Ideal S4352x16384 .f32) (s : FVec Ideal S1x4096 .f32) (j : Fin 4096) : gbp dm proj s (ix2 0 j) = ∑ i : Fin 4096, atY dm proj s i j := by
  simp only [atY, atD, silu, kSig_eq]
  pointwise [gbp, row, gcol, hcol]

theorem gps_apply (dm : FVec Ideal S4096x8192 .f32) (y : FVec Ideal S4096x4096 .f32) (proj : FVec Ideal S4352x16384 .f32) (b : FVec Ideal S1x4096 .f32) (j : Fin 4096) :
    gps dm y proj b (ix2 0 j) = ∑ i : Fin 4096, atP y b i j * atD dm proj i j := by
  simp only [atP, atD, silu, kSig_eq]
  pointwise [gps, row, gcol, hcol]

/-- The gate's gradient at one of the latents. -/
def rG (dm : FVec Ideal S4096x8192 .f32) (y : FVec Ideal S4096x4096 .f32) (proj : FVec Ideal S4352x16384 .f32) (b s : FVec Ideal S1x4096 .f32) (i j : Fin 4096) : EReal :=
  rSlope ((y (ix2 i j) + b (ix2 0 j)) * s (ix2 0 j) * dm (ix2 i (hcol j))) (proj (ix2 (row i) (gcol j)))

/-- The latent and the gate's column of an element that the call writes. -/
def lat (i : Fin 4352) : Fin 4096 := ⟨(i.val + 3840) % 4096, by omega⟩
def col (j : Fin 16384) : Fin 4096 := ⟨j.val % 4096, by omega⟩

set_option maxHeartbeats 1000000 in
theorem dproj_apply (dm : FVec Ideal S4096x8192 .f32) (y : FVec Ideal S4096x4096 .f32) (proj : FVec Ideal S4352x16384 .f32) (b s : FVec Ideal S1x4096 .f32) (dp : FVec Ideal S4352x16384 .bf16) (i : Fin 4352) (j : Fin 16384) :
    dproj dm y proj b s dp (ix2 i j) = if 1 ≤ i.val / 256 ∧ j.val / 4096 = 3 then rG dm y proj b s (lat i) (col j) else dp (ix2 i j) := by
  rw [rG, rSlope, kSig_eq]
  pointwise [dproj]
  by_cases e : 1 ≤ i.val / 256 ∧ j.val / 4096 = 3
  · have a : lat i = ⟨i.val - 256, by omega⟩ := Fin.ext (show (i.val + 3840) % 4096 = i.val - 256 by omega)
    have b : col j = ⟨j.val - 12288, by omega⟩ := Fin.ext (show j.val % 4096 = j.val - 12288 by omega)
    rw [if_pos e, dif_neg (show ¬ i.val < 256 by omega), dif_neg (show ¬ j.val < 12288 by omega), dif_pos (show j.val - 12288 < 4096 by omega), a, b]
    rfl
  · rw [if_neg e]
    split_ifs <;> first
      | omega
      | exact at_eq (fun i j => dp (ix2 i j)) (by first | omega | (show 256 + (i.val - 256) = i.val; omega)) (by omega)

end Cert.ReferenceMixbIdeal.Mixb

namespace Cert.KernelMixbIdeal.Mixb
open Cert.KernelMixbIdeal Cert.KernelMixbIdeal.Gen Cert.Gate Cert.ReferenceMixbIdeal.Mixb

variable (m : (ℓ : Loc nD τ sig) → Buf (Elt Ideal) ℓ)

theorem idx : ∀ t : Fin cfg0.N, win0_0.index t = ![t.val, 1] ∧ win0_1.index t = ![t.val, 0] ∧ win0_2.index t = ![t.val + 1, 3]
    ∧ win0_3.index t = ![0, 0] ∧ win0_4.index t = ![0, 0] ∧ win0_5.index t = ![t.val, 0] ∧ win0_6.index t = ![t.val + 1, 3]
    ∧ win0_7.index t = ![0, 0] ∧ win0_8.index t = ![0, 0] ∧ t.val < 16 :=
  (by decide +kernel : ∀ t : Fin grid0.N, _)
theorem lt (t : Fin cfg0.N) : t.val < 16 := (idx t).2.2.2.2.2.2.2.2.2

/-- The operands in the launch memory. -/
def dm (c : Dev nD) : FVec Ideal S4096x8192 .f32 := m ((c : Thread nD τ).loc main_arg0)
def yp (c : Dev nD) : FVec Ideal S4096x4096 .f32 := m ((c : Thread nD τ).loc main_arg1)
def proj (c : Dev nD) : FVec Ideal S4352x16384 .f32 := m ((c : Thread nD τ).loc main_arg2)
def bp (c : Dev nD) : FVec Ideal S1x4096 .f32 := m ((c : Thread nD τ).loc main_arg3)
def ps (c : Dev nD) : FVec Ideal S1x4096 .f32 := m ((c : Thread nD τ).loc main_arg4)
def dp (c : Dev nD) : FVec Ideal S4352x16384 .bf16 := m ((c : Thread nD τ).loc main_arg5)

/-- Row `p` of point `t`. -/
def prow (t : Fin cfg0.N) (p : Fin 256) : Fin 4096 := ⟨t.val * 256 + p.val, by have := lt t; omega⟩

theorem blk_dm (c : Dev nD) (t : Fin cfg0.N) (p : Fin 256) (k : Fin 4096) :
    (iblk m c 0 t : Vec Ideal S256x4096 .f32) (ix2 p k) = dm m c (ix2 (prow t p) (hcol k)) := by
  blk_ext [iblk, V, idx t, dm, prow, hcol]
theorem blk_yp (c : Dev nD) (t : Fin cfg0.N) (p : Fin 256) (k : Fin 4096) :
    (iblk m c 1 t : Vec Ideal S256x4096 .f32) (ix2 p k) = yp m c (ix2 (prow t p) k) := by
  blk_ext [iblk, V, idx t, yp, prow]
theorem blk_gb (c : Dev nD) (t : Fin cfg0.N) (p : Fin 256) (k : Fin 4096) :
    (iblk m c 2 t : Vec Ideal S256x4096 .f32) (ix2 p k) = proj m c (ix2 (row (prow t p)) (gcol k)) := by
  blk_ext [iblk, V, idx t, proj, row, prow, gcol]
theorem blk_bp (c : Dev nD) (t : Fin cfg0.N) (k : Fin 4096) :
    (iblk m c 3 t : Vec Ideal S1x4096 .f32) (ix2 0 k) = bp m c (ix2 0 k) := by
  blk_ext [iblk, V, idx t, bp]
theorem blk_ps (c : Dev nD) (t : Fin cfg0.N) (k : Fin 4096) :
    (iblk m c 4 t : Vec Ideal S1x4096 .f32) (ix2 0 k) = ps m c (ix2 0 k) := by
  blk_ext [iblk, V, idx t, ps]

/-! ## A point's terms, in its own blocks -/

def blkD (x0 x2 : Vec Ideal S256x4096 .f32) (p : Fin 256) (k : Fin 4096) : EReal := x0 (ix2 p k) * silu (x2 (ix2 p k))
def blkY (x0 x2 : Vec Ideal S256x4096 .f32) (x4 : Vec Ideal S1x4096 .f32) (p : Fin 256) (k : Fin 4096) : EReal := blkD x0 x2 p k * x4 (ix2 0 k)
def blkS (x0 x1 x2 : Vec Ideal S256x4096 .f32) (x3 : Vec Ideal S1x4096 .f32) (p : Fin 256) (k : Fin 4096) : EReal :=
  blkD x0 x2 p k * (x1 (ix2 p k) + x3 (ix2 0 k))
def blkG (x0 x1 x2 : Vec Ideal S256x4096 .f32) (x3 x4 : Vec Ideal S1x4096 .f32) (p : Fin 256) (k : Fin 4096) : EReal :=
  x0 (ix2 p k) * ((x1 (ix2 p k) + x3 (ix2 0 k)) * x4 (ix2 0 k)) * kSlope (x2 (ix2 p k))

theorem out_Y (c : Dev nD) (t : Fin cfg0.N) (p : Fin 256) (k : Fin 4096) :
    (outsAt0 m c t.val t.isLt).1 (ix2 p k) = blkY (iblk m c 0 t) (iblk m c 2 t) (iblk m c 4 t) p k := by
  by_cases h : t.val % 16 = 0
  · rw [outsAt0_A m c t h]
    frame_out
    pointwise [k0_pay10, k0_pay8, k0_pay7, k0_pay5, blkY, blkD, silu, kSig]
  · rw [outsAt0_B m c t h]
    frame_out
    pointwise [k0_pay10, k0_pay8, k0_pay7, k0_pay5, blkY, blkD, silu, kSig]
theorem out_G (c : Dev nD) (t : Fin cfg0.N) (p : Fin 256) (k : Fin 4096) :
    (outsAt0 m c t.val t.isLt).2.1 (ix2 p k) = blkG (iblk m c 0 t) (iblk m c 1 t) (iblk m c 2 t) (iblk m c 3 t) (iblk m c 4 t) p k := by
  by_cases h : t.val % 16 = 0
  · rw [outsAt0_A m c t h]
    frame_out
    pointwise [k0_pay9, k0_pay6, k0_pay5, blkG, kSlope, kSig]
  · rw [outsAt0_B m c t h]
    frame_out
    pointwise [k0_pay9, k0_pay6, k0_pay5, blkG, kSlope, kSig]

/-- The two rows that are summed over the points: the first point starts them at zero, every point adds its rows. -/
theorem step_A (c : Dev nD) (t : Fin cfg0.N) (h : t.val % 16 = 0) (k : Fin 4096) :
    (outsAt0 m c t.val t.isLt).2.2.1 (ix2 0 k) = 0 + ∑ p : Fin 256, blkY (iblk m c 0 t) (iblk m c 2 t) (iblk m c 4 t) p k
    ∧ (outsAt0 m c t.val t.isLt).2.2.2 (ix2 0 k) = 0 + ∑ p : Fin 256, blkS (iblk m c 0 t) (iblk m c 1 t) (iblk m c 2 t) (iblk m c 3 t) p k := by
  rw [outsAt0_A m c t h]
  constructor
  · frame_out
    pointwise [k0_pay1, k0_pay3, k0_pay4, k0_pay8, k0_pay7, k0_pay5, blkY, blkD, silu, kSig]
  · frame_out
    pointwise [k0_pay2, k0_pay3, k0_pay4, k0_pay6, k0_pay7, k0_pay5, blkS, blkD, silu, kSig]
theorem step_B (c : Dev nD) (t : Fin cfg0.N) (h : ¬ t.val % 16 = 0) (k : Fin 4096) :
    (outsAt0 m c t.val t.isLt).2.2.1 (ix2 0 k) = (outsAt0 m c (t.val - 1) (Nat.lt_of_le_of_lt (Nat.sub_le _ _) t.isLt)).2.2.1 (ix2 0 k)
        + ∑ p : Fin 256, blkY (iblk m c 0 t) (iblk m c 2 t) (iblk m c 4 t) p k
    ∧ (outsAt0 m c t.val t.isLt).2.2.2 (ix2 0 k) = (outsAt0 m c (t.val - 1) (Nat.lt_of_le_of_lt (Nat.sub_le _ _) t.isLt)).2.2.2 (ix2 0 k)
        + ∑ p : Fin 256, blkS (iblk m c 0 t) (iblk m c 1 t) (iblk m c 2 t) (iblk m c 3 t) p k := by
  rw [outsAt0_B m c t h]
  constructor
  · frame_out
    pointwise [k0_pay1, k0_pay8, k0_pay7, k0_pay5, blkY, blkD, silu, kSig]
  · frame_out
    pointwise [k0_pay2, k0_pay6, k0_pay7, k0_pay5, blkS, blkD, silu, kSig]

/-! ## The terms at their place in the operands -/

def atS (dm : FVec Ideal S4096x8192 .f32) (y : FVec Ideal S4096x4096 .f32) (proj : FVec Ideal S4352x16384 .f32) (b : FVec Ideal S1x4096 .f32) (i j : Fin 4096) : EReal := atD dm proj i j * atP y b i j
def atG (dm : FVec Ideal S4096x8192 .f32) (y : FVec Ideal S4096x4096 .f32) (proj : FVec Ideal S4352x16384 .f32) (b s : FVec Ideal S1x4096 .f32) (i j : Fin 4096) : EReal :=
  dm (ix2 i (hcol j)) * ((y (ix2 i j) + b (ix2 0 j)) * s (ix2 0 j)) * kSlope (proj (ix2 (row i) (gcol j)))

/-- Where the operands are real, a latent's gradient is the reference's. -/
theorem slope {dm : FVec Ideal S4096x8192 .f32} {y : FVec Ideal S4096x4096 .f32} {proj : FVec Ideal S4352x16384 .f32} {b s : FVec Ideal S1x4096 .f32}
    (hr : ∀ i j : Fin 4096, (∃ r : ℝ, dm (ix2 i (hcol j)) = (r : EReal)) ∧ (∃ r : ℝ, y (ix2 i j) = (r : EReal))
      ∧ (∃ r : ℝ, b (ix2 0 j) = (r : EReal)) ∧ ∃ r : ℝ, s (ix2 0 j) = (r : EReal)) (i j : Fin 4096) :
    atG dm y proj b s i j = rG dm y proj b s i j := by
  obtain ⟨⟨a, ha⟩, ⟨d, hd⟩, ⟨e, he⟩, f, hf⟩ := hr i j
  rw [atG, rG, ha, hd, he, hf, mul_comm (a : EReal), ← EReal.coe_add, ← EReal.coe_mul, ← EReal.coe_mul, slope_eq]

theorem point_D (c : Dev nD) (t : Fin cfg0.N) (p : Fin 256) (k : Fin 4096) :
    blkD (iblk m c 0 t) (iblk m c 2 t) p k = atD (dm m c) (proj m c) (prow t p) k := by
  rw [blkD, blk_dm, blk_gb, atD]
theorem point_Y (c : Dev nD) (t : Fin cfg0.N) (p : Fin 256) (k : Fin 4096) :
    blkY (iblk m c 0 t) (iblk m c 2 t) (iblk m c 4 t) p k = atY (dm m c) (proj m c) (ps m c) (prow t p) k := by
  rw [blkY, point_D, blk_ps, atY]
theorem point_S (c : Dev nD) (t : Fin cfg0.N) (p : Fin 256) (k : Fin 4096) :
    blkS (iblk m c 0 t) (iblk m c 1 t) (iblk m c 2 t) (iblk m c 3 t) p k = atS (dm m c) (yp m c) (proj m c) (bp m c) (prow t p) k := by
  rw [blkS, point_D, blk_yp, blk_bp, atS, atP]
theorem point_G (c : Dev nD) (t : Fin cfg0.N) (p : Fin 256) (k : Fin 4096) :
    blkG (iblk m c 0 t) (iblk m c 1 t) (iblk m c 2 t) (iblk m c 3 t) (iblk m c 4 t) p k = atG (dm m c) (yp m c) (proj m c) (bp m c) (ps m c) (prow t p) k := by
  rw [blkG, blk_dm, blk_yp, blk_gb, blk_bp, blk_ps, atG]

/-! ## The arrays after the run -/

/-- A row that the first point starts at zero and to which every point adds its rows' terms holds, at the last point, the
    sum over all the latents. -/
theorem sweep (f : (n : ℕ) → n < cfg0.N → EReal) (g : Fin cfg0.N → Fin 256 → EReal) (F : Fin 4096 → EReal) (t : Fin cfg0.N) (ht : t.val % 16 = 15)
    (h0 : ∀ s : Fin cfg0.N, s.val % 16 = 0 → f s.val s.isLt = 0 + ∑ p : Fin 256, g s p)
    (hs : ∀ s : Fin cfg0.N, ¬ s.val % 16 = 0 → f s.val s.isLt = f (s.val - 1) (Nat.lt_of_le_of_lt (Nat.sub_le _ _) s.isLt) + ∑ p : Fin 256, g s p)
    (hg : ∀ (s : Fin cfg0.N) p, g s p = F (prow s p)) :
    f t.val t.isLt = ∑ p : Fin 4096, F p := by
  refine ((Pipeline.eq_sum_fin_of_reset_step_apply_of_flush (fun n h (_ : Unit) => f n h) 16 (fun _ => 0) (fun s _ => ∑ p : Fin 256, g s p)
    (fun s h _ => h0 s h) (fun s h _ => hs s h) t ht ()).trans (zero_add _)).trans ?_
  refine Fin.sum_mul_add_congr fun s p hl => ?_
  rw [hg _ p]
  refine congrArg F (Fin.ext ?_)
  show (16 * (t.val / 16) + s.val) * 256 + p.val = s.val * 256 + p.val
  have := lt t
  omega

theorem final_Y (c : Dev nD) : (dats m 0 c).arrAt 5 cfg0.N = fun y => atY (dm m c) (proj m c) (ps m c) (y 0) (y 1) := by
  refine (dats m 0 c).arrAt_eq_of_covers 5 _ (by decide +kernel) fun t hf y => ?_
  blk_simp
  rw [after0_5]
  idx_vars y
  refine ((out_Y m c t y0 y1).trans (point_Y m c t y0 y1)).trans (at_eq (atY (dm m c) (proj m c) (ps m c)) ?_ ?_)
  all_goals blk_simp [idx t, prow]

theorem final_G (c : Dev nD) : (dats m 0 c).arrAt 6 cfg0.N = fun y => if 1 ≤ (y 0).val / 256 ∧ (y 1).val / 4096 = 3
    then atG (dm m c) (yp m c) (proj m c) (bp m c) (ps m c) (lat (y 0)) (col (y 1)) else V m c (Pipeline.arrRef spec0 6) y := by
  refine (dats m 0 c).arrAt_eq_of_coversWhere 6 _ (fun β => 1 ≤ β (0 : Fin _) ∧ β (1 : Fin _) = 3) (by decide +kernel) (fun t hf y => ?_) (fun j => Iff.rfl)
  blk_simp
  rw [after0_6]
  idx_vars y
  refine ((out_G m c t y0 y1).trans (point_G m c t y0 y1)).trans (at_eq (atG (dm m c) (yp m c) (proj m c) (bp m c) (ps m c)) ?_ ?_)
  all_goals blk_simp [idx t, prow, lat, col]
  · show t.val * 256 + y0.val = ((t.val + 1) * 256 + y0.val + 3840) % 4096
    have := lt t
    omega
  · show y1.val = (3 * 4096 + y1.val) % 4096
    omega

/-- The elements that the call does not write hold what the caller's array holds. -/
theorem before (c : Dev nD) : V m c (Pipeline.arrRef spec0 6) = dp m c := by
  entry_read
  rfl

theorem final_b (c : Dev nD) : (dats m 0 c).arrAt 7 cfg0.N = fun y => ∑ i : Fin 4096, atY (dm m c) (proj m c) (ps m c) i (y 1) := by
  refine (dats m 0 c).arrAt_eq_of_covers 7 _ (by decide +kernel) fun t hf y => ?_
  blk_simp
  rw [after0_7]
  idx_vars y
  obtain rfl := Subsingleton.elim y0 (0 : Fin 1)
  refine (sweep (fun n h => (outsAt0 m c n h).2.2.1 (ix2 0 y1)) (fun s p => blkY (iblk m c 0 s) (iblk m c 2 s) (iblk m c 4 s) p y1)
    (fun i => atY (dm m c) (proj m c) (ps m c) i y1) t ((flush0_7 t).mp hf) (fun s h => (step_A m c s h y1).1) (fun s h => (step_B m c s h y1).1)
    fun s p => point_Y m c s p y1).trans ?_
  refine Finset.sum_congr rfl fun i _ => at_eq (atY (dm m c) (proj m c) (ps m c)) rfl ?_
  blk_simp [idx t]

theorem final_s (c : Dev nD) : (dats m 0 c).arrAt 8 cfg0.N = fun y => ∑ i : Fin 4096, atS (dm m c) (yp m c) (proj m c) (bp m c) i (y 1) := by
  refine (dats m 0 c).arrAt_eq_of_covers 8 _ (by decide +kernel) fun t hf y => ?_
  blk_simp
  rw [after0_8]
  idx_vars y
  obtain rfl := Subsingleton.elim y0 (0 : Fin 1)
  refine (sweep (fun n h => (outsAt0 m c n h).2.2.2 (ix2 0 y1)) (fun s p => blkS (iblk m c 0 s) (iblk m c 1 s) (iblk m c 2 s) (iblk m c 3 s) p y1)
    (fun i => atS (dm m c) (yp m c) (proj m c) (bp m c) i y1) t ((flush0_8 t).mp hf) (fun s h => (step_A m c s h y1).2) (fun s h => (step_B m c s h y1).2)
    fun s p => point_S m c s p y1).trans ?_
  refine Finset.sum_congr rfl fun i _ => at_eq (atS (dm m c) (yp m c) (proj m c) (bp m c)) rfl ?_
  blk_simp [idx t]

end Cert.KernelMixbIdeal.Mixb

namespace Cert.Proof

theorem mixb_ref_frame : Cert.quiescent_ReferenceMixbIdeal := fun m ρ _ =>
  (θ_run Cert.ReferenceMixbIdeal.defs _ _).mono (fun _ h => ⟨fun c => (h c).2.2.2.2, sem_eq_zero_of_no_sems (by decide) _⟩)
    (Cert.ReferenceMixbIdeal.Value.run (F := Ideal) m ρ)

theorem mixb_algebraic [Cert.Pre_pool_finite.Facts] : Cert.algebraic_KernelMixbIdeal_ReferenceMixbIdeal_pre_pool_finite := by
  intro m ρ m' ρ' hpre hin
  refine ⟨_, _, _, _, Cert.KernelMixbIdeal.Value.run_blocks m ρ, ?_⟩
  refine (θ_run Cert.ReferenceMixbIdeal.defs _ _).mono (fun r h c => ?_) (Cert.ReferenceMixbIdeal.Value.run (F := Ideal) m' ρ')
  obtain ⟨h0, h1, h2, h3, h4, h5⟩ := hin c
  refine ⟨(h c).1.trans ?_, (h c).2.1.trans ?_, (h c).2.2.1.trans ?_, (h c).2.2.2.1.trans ?_, (h c).2.2.2.2⟩
  · refine Eq.trans ?_ (Cert.KernelMixbIdeal.Mixb.final_Y m c).symm
    rw [h0, h2, h4]
    funext y
    idx_vars y
    exact Cert.ReferenceMixbIdeal.Mixb.dyp_apply _ _ _ y0 y1
  · refine Eq.trans ?_ (Cert.KernelMixbIdeal.Mixb.final_G m c).symm
    rw [Cert.KernelMixbIdeal.Mixb.before, h0, h1, h2, h3, h4, h5]
    funext y
    idx_vars y
    refine (Cert.ReferenceMixbIdeal.Mixb.dproj_apply _ _ _ _ _ _ y0 y1).trans ?_
    refine if_congr Iff.rfl ?_ rfl
    exact (Cert.KernelMixbIdeal.Mixb.slope (fun i j => Cert.Pre_pool_finite.fn_real _ _ _ _ _ _ (hpre c) i j) _ _).symm
  · refine Eq.trans ?_ (Cert.KernelMixbIdeal.Mixb.final_b m c).symm
    rw [h0, h2, h4]
    funext y
    idx_vars y
    obtain rfl := Subsingleton.elim y0 (0 : Fin 1)
    exact Cert.ReferenceMixbIdeal.Mixb.gbp_apply _ _ _ y1
  · refine Eq.trans ?_ (Cert.KernelMixbIdeal.Mixb.final_s m c).symm
    rw [h0, h1, h2, h3]
    funext y
    idx_vars y
    obtain rfl := Subsingleton.elim y0 (0 : Fin 1)
    refine (Cert.ReferenceMixbIdeal.Mixb.gps_apply _ _ _ _ y1).trans ?_
    exact Finset.sum_congr rfl fun i _ => mul_comm _ _

end Cert.Proof
-- ==== Proof.Mix.lean ====
module

public import proofs.«01_k».proof.Defs
public import proofs.«01_k».proof.Proof.MixGate
public import proofs.«01_k».proof.Proof.Gen.KernelMix.Frame
public import proofs.«01_k».proof.Proof.Gen.KernelMixIdeal.Value
public import proofs.«01_k».proof.Proof.Gen.ReferenceMixIdeal.Run
public import Idealize.ShloMosaic.Lib.Pipeline.ValueKit
public import Idealize.ShloMosaic.Lib.Pointwise
public import Idealize.ShloMosaic.Lib.Claim
/-! # The two gated halves that the output projection reads -/
@[expose] public section

set_option maxRecDepth 16384
noncomputable section
open Idealize.ShloMosaic Idealize.ShloMosaic.TcCoe Idealize.SL.Sem
open Idealize.ShloMosaic.Pipeline (Dat)

namespace Cert.ReferenceMixIdeal.Mix
open Cert.ReferenceMixIdeal Cert.ReferenceMixIdeal.Gen Cert.Gate

/-- The reference's result as a function of its operands. -/
def mix (hs : FVec Ideal S2x4352x4096 .f32) (proj : FVec Ideal S4352x16384 .f32) (y : FVec Ideal S4096x4096 .f32) (b s : FVec Ideal S1x4096 .f32) : FVec Ideal S4096x8192 .bf16 :=
  truncf .bf16 (concatenate S4096x8192 1 [⟨S4096x4096, (mulf (addf (shapeCast _ (extractStridedSlice S1x4096x4096 ![0, 256, 0] hs slices_S2x4352x4096_S1x4096x4096_0_256_0) shapeCasts_S1x4096x4096_S4096x4096) (shapeCast _ (extractStridedSlice S1x4096x4096 ![1, 256, 0] hs slices_S2x4352x4096_S1x4096x4096_1_256_0) shapeCasts_S1x4096x4096_S4096x4096)) (mulf (extractStridedSlice S4096x4096 ![256, 8192] proj slices_S4352x16384_S4096x4096_256_8192) (Host.divf (broadcastInDim S4096x4096 ![] bcast_S_S4096x4096 (constant S_ .f32 0x3F800000#32)) (addf (broadcastInDim S4096x4096 ![] bcast_S_S4096x4096 (constant S_ .f32 0x3F800000#32)) (Host.exp (Host.negf (extractStridedSlice S4096x4096 ![256, 8192] proj slices_S4352x16384_S4096x4096_256_8192)))))))⟩, ⟨S4096x4096, (mulf (mulf (addf y (broadcastInDim S4096x4096 ![0, 1] bcast_S1x4096_S4096x4096_0_1 b)) (broadcastInDim S4096x4096 ![0, 1] bcast_S1x4096_S4096x4096_0_1 s)) (mulf (extractStridedSlice S4096x4096 ![256, 12288] proj slices_S4352x16384_S4096x4096_256_12288) (Host.divf (broadcastInDim S4096x4096 ![] bcast_S_S4096x4096 (constant S_ .f32 0x3F800000#32)) (addf (broadcastInDim S4096x4096 ![] bcast_S_S4096x4096 (constant S_ .f32 0x3F800000#32)) (Host.exp (Host.negf (extractStridedSlice S4096x4096 ![256, 12288] proj slices_S4352x16384_S4096x4096_256_12288)))))))⟩] concatenates_S4096x4096_S4096x4096_S4096x8192_d1) bitsLt_bf16_f32

/-- A latent's row among all the rows, a column of the gates among the projection's, and a column of one half. -/
def row (i : Fin 4096) : Fin 4352 := ⟨256 + i.val, by omega⟩
def gcol (j : Fin 8192) : Fin 16384 := ⟨8192 + j.val, by omega⟩
def half (j : Fin 8192) : Fin 4096 := ⟨j.val % 4096, by omega⟩

/-- The first half's value before its gate, the second's, and the gate. -/
def left (hs : FVec Ideal S2x4352x4096 .f32) (i : Fin 4096) (k : Fin 4096) : EReal := hs (ix3 0 (row i) k) + hs (ix3 1 (row i) k)
def right (y : FVec Ideal S4096x4096 .f32) (b s : FVec Ideal S1x4096 .f32) (i : Fin 4096) (k : Fin 4096) : EReal :=
  (y (ix2 i k) + b (ix2 0 k)) * s (ix2 0 k)

/-- The result at row `i` and column `j`. -/
def at' (hs : FVec Ideal S2x4352x4096 .f32) (proj : FVec Ideal S4352x16384 .f32) (y : FVec Ideal S4096x4096 .f32) (b s : FVec Ideal S1x4096 .f32) (i : Fin 4096) (j : Fin 8192) : EReal :=
  (if j.val / 4096 = 0 then left hs i (half j) else right y b s i (half j)) * silu (proj (ix2 (row i) (gcol j)))

theorem mix_apply (hs : FVec Ideal S2x4352x4096 .f32) (proj : FVec Ideal S4352x16384 .f32) (y : FVec Ideal S4096x4096 .f32) (b s : FVec Ideal S1x4096 .f32) (i : Fin 4096) (j : Fin 8192) :
    mix hs proj y b s (ix2 i j) = at' hs proj y b s i j := by
  rw [at', silu, kSig_eq, left, right]
  pointwise [mix, row, gcol, half]
  by_cases e : j.val < 4096
  · rw [if_pos (show j.val / 4096 = 0 by omega), dif_pos e]
    simp only [Nat.mod_eq_of_lt e]
  · rw [if_neg (show ¬ j.val / 4096 = 0 by omega), dif_neg e]
    simp only [show j.val % 4096 = j.val - 4096 by omega, show 12288 + (j.val - 4096) = 8192 + j.val by omega]

end Cert.ReferenceMixIdeal.Mix

namespace Cert.KernelMixIdeal.Mix
open Cert.KernelMixIdeal Cert.KernelMixIdeal.Gen Cert.Gate Cert.ReferenceMixIdeal.Mix

variable (m : (ℓ : Loc nD τ sig) → Buf (Elt Ideal) ℓ)

theorem idx : ∀ t : Fin cfg0.N, win0_0.index t = ![0, t.val / 2 + 1, 0] ∧ win0_1.index t = ![t.val / 2 + 1, 2] ∧ win0_2.index t = ![t.val / 2, 0]
    ∧ win0_3.index t = ![t.val / 2 + 1, 3] ∧ win0_4.index t = ![0, 0] ∧ win0_5.index t = ![0, 0] ∧ win0_6.index t = ![t.val / 2, t.val % 2] ∧ t.val < 32 :=
  (by decide +kernel : ∀ t : Fin grid0.N, _)

/-- The operands in the launch memory. -/
def hs (c : Dev nD) : FVec Ideal S2x4352x4096 .f32 := m ((c : Thread nD τ).loc main_arg0)
def proj (c : Dev nD) : FVec Ideal S4352x16384 .f32 := m ((c : Thread nD τ).loc main_arg1)
def yp (c : Dev nD) : FVec Ideal S4096x4096 .f32 := m ((c : Thread nD τ).loc main_arg2)
def bp (c : Dev nD) : FVec Ideal S1x4096 .f32 := m ((c : Thread nD τ).loc main_arg3)
def ps (c : Dev nD) : FVec Ideal S1x4096 .f32 := m ((c : Thread nD τ).loc main_arg4)

/-- Row `p` of point `t`. -/
def prow (t : Fin cfg0.N) (p : Fin 256) : Fin 4096 := ⟨t.val / 2 * 256 + p.val, by have := (idx t).2.2.2.2.2.2.2; omega⟩

theorem blk_hs (c : Dev nD) (t : Fin cfg0.N) (d : Fin 2) (p : Fin 256) (k : Fin 4096) :
    (iblk m c 0 t : Vec Ideal S2x256x4096 .f32) (ix3 d p k) = hs m c (ix3 d (row (prow t p)) k) := by
  blk_ext [iblk, V, idx t, hs, row, prow]
theorem blk_ga (c : Dev nD) (t : Fin cfg0.N) (p : Fin 256) (k : Fin 4096) :
    (iblk m c 1 t : Vec Ideal S256x4096 .f32) (ix2 p k) = proj m c (ix2 (row (prow t p)) (gcol ⟨k.val, by omega⟩)) := by
  blk_ext [iblk, V, idx t, proj, row, prow, gcol]
theorem blk_gb (c : Dev nD) (t : Fin cfg0.N) (p : Fin 256) (k : Fin 4096) :
    (iblk m c 3 t : Vec Ideal S256x4096 .f32) (ix2 p k) = proj m c (ix2 (row (prow t p)) (gcol ⟨4096 + k.val, by omega⟩)) := by
  blk_ext [iblk, V, idx t, proj, row, prow, gcol]
theorem blk_yp (c : Dev nD) (t : Fin cfg0.N) (p : Fin 256) (k : Fin 4096) :
    (iblk m c 2 t : Vec Ideal S256x4096 .f32) (ix2 p k) = yp m c (ix2 (prow t p) k) := by
  blk_ext [iblk, V, idx t, yp, prow]
theorem blk_bp (c : Dev nD) (t : Fin cfg0.N) (k : Fin 4096) :
    (iblk m c 4 t : Vec Ideal S1x4096 .f32) (ix2 0 k) = bp m c (ix2 0 k) := by
  blk_ext [iblk, V, idx t, bp]
theorem blk_ps (c : Dev nD) (t : Fin cfg0.N) (k : Fin 4096) :
    (iblk m c 5 t : Vec Ideal S1x4096 .f32) (ix2 0 k) = ps m c (ix2 0 k) := by
  blk_ext [iblk, V, idx t, ps]

/-- A point's block, in terms of its own blocks. -/
def blkA (x0 : Vec Ideal S2x256x4096 .f32) (x1 : Vec Ideal S256x4096 .f32) (p : Fin 256) (k : Fin 4096) : EReal :=
  (x0 (ix3 0 p k) + x0 (ix3 1 p k)) * silu (x1 (ix2 p k))
def blkB (x2 x3 : Vec Ideal S256x4096 .f32) (x4 x5 : Vec Ideal S1x4096 .f32) (p : Fin 256) (k : Fin 4096) : EReal :=
  ((x2 (ix2 p k) + x4 (ix2 0 k)) * x5 (ix2 0 k)) * silu (x3 (ix2 p k))

theorem out_A (c : Dev nD) (t : Fin cfg0.N) (h0 : t.val % 2 = 0) (p : Fin 256) (k : Fin 4096) :
    outsAt0 m c t.val t.isLt (ix2 p k) = blkA (iblk m c 0 t) (iblk m c 1 t) p k := by
  rw [outsAt0_A m c t h0 (by omega)]
  frame_out
  pointwise [k0_pay1, blkA, silu, kSig]
theorem out_B (c : Dev nD) (t : Fin cfg0.N) (h1 : t.val % 2 = 1) (p : Fin 256) (k : Fin 4096) :
    outsAt0 m c t.val t.isLt (ix2 p k) = blkB (iblk m c 2 t) (iblk m c 3 t) (iblk m c 4 t) (iblk m c 5 t) p k := by
  rw [outsAt0_B m c t (by omega) h1]
  frame_out
  pointwise [k0_pay2, blkB, silu, kSig]

theorem point_A (c : Dev nD) (t : Fin cfg0.N) (p : Fin 256) (k : Fin 4096) :
    blkA (iblk m c 0 t) (iblk m c 1 t) p k = at' (hs m c) (proj m c) (yp m c) (bp m c) (ps m c) (prow t p) ⟨k.val, by omega⟩ := by
  rw [blkA, at', left, blk_hs, blk_hs, blk_ga, if_pos (by show k.val / 4096 = 0; omega)]
  simp only [ReferenceMixIdeal.Mix.half, Nat.mod_eq_of_lt k.isLt]
theorem point_B (c : Dev nD) (t : Fin cfg0.N) (p : Fin 256) (k : Fin 4096) :
    blkB (iblk m c 2 t) (iblk m c 3 t) (iblk m c 4 t) (iblk m c 5 t) p k
      = at' (hs m c) (proj m c) (yp m c) (bp m c) (ps m c) (prow t p) ⟨4096 + k.val, by omega⟩ := by
  rw [blkB, at', right, blk_yp, blk_gb, blk_bp, blk_ps, if_neg (by show ¬ (4096 + k.val) / 4096 = 0; omega)]
  simp only [ReferenceMixIdeal.Mix.half, show (4096 + k.val) % 4096 = k.val by omega]

theorem at_eq (f : Fin 4096 → Fin 8192 → EReal) {i i' : Fin 4096} {j j' : Fin 8192} (h1 : i.val = i'.val) (h2 : j.val = j'.val) : f i j = f i' j' := by
  rw [Fin.ext h1, Fin.ext h2]

theorem final (c : Dev nD) : (dats m 0 c).arrAt 6 cfg0.N = fun y => at' (hs m c) (proj m c) (yp m c) (bp m c) (ps m c) (y 0) (y 1) := by
  refine (dats m 0 c).arrAt_eq_of_covers 6 _ (by decide +kernel) fun t hf y => ?_
  blk_simp
  rw [after0_6]
  idx_vars y
  by_cases h : t.val % 2 = 0
  · refine ((out_A m c t h y0 y1).trans (point_A m c t y0 y1)).trans (at_eq (at' (hs m c) (proj m c) (yp m c) (bp m c) (ps m c)) ?_ ?_)
    all_goals blk_simp [idx t, prow]
    show y1.val = t.val % 2 * 4096 + y1.val
    omega
  · refine ((out_B m c t (by omega) y0 y1).trans (point_B m c t y0 y1)).trans (at_eq (at' (hs m c) (proj m c) (yp m c) (bp m c) (ps m c)) ?_ ?_)
    all_goals blk_simp [idx t, prow]
    show 4096 + y1.val = t.val % 2 * 4096 + y1.val
    omega

end Cert.KernelMixIdeal.Mix

namespace Cert.Proof

theorem mix_ref_frame : Cert.quiescent_ReferenceMixIdeal := fun m ρ _ =>
  (θ_run Cert.ReferenceMixIdeal.defs _ _).mono (fun _ h => ⟨fun c => (h c).2, sem_eq_zero_of_no_sems (by decide) _⟩)
    (Cert.ReferenceMixIdeal.Value.run (F := Ideal) m ρ)

theorem mix_algebraic : Cert.algebraic_KernelMixIdeal_ReferenceMixIdeal := by
  intro m ρ m' ρ' _ hin
  refine ⟨_, Cert.KernelMixIdeal.Value.run_blocks m ρ, ?_⟩
  refine (θ_run Cert.ReferenceMixIdeal.defs _ _).mono (fun r h c => ?_) (Cert.ReferenceMixIdeal.Value.run (F := Ideal) m' ρ')
  obtain ⟨h0, h1, h2, h3, h4⟩ := hin c
  refine ⟨(h c).1.trans ?_, (h c).2⟩
  refine Eq.trans ?_ (Cert.KernelMixIdeal.Mix.final m c).symm
  rw [h0, h1, h2, h3, h4]
  funext y
  idx_vars y
  exact Cert.ReferenceMixIdeal.Mix.mix_apply _ _ _ _ _ y0 y1

end Cert.Proof
-- ==== Proof.AdamStep.lean ====
module

public import proofs.«01_k».proof.Defs
public import Idealize.ShloMosaic.Lib.Pointwise
public import Idealize.ShloMosaic.Lib.Claim
/-! # One step of the optimiser at one element -/
@[expose] public section

noncomputable section
open Idealize.ShloMosaic

namespace Cert.Adam

/-- The gradient: the sum of the eight devices' parts. -/
def grad (p : Fin 8 → EReal) : EReal := ∑ d : Fin 8, p d

/-- The new first moment. -/
def mom (g m : EReal) : EReal :=
  Scalar.ofBits (F := Ideal) .f32 0x3F666666#32 * m + Scalar.ofBits (F := Ideal) .f32 0x3DCCCCCD#32 * g

/-- The new second moment. -/
def sec (g v : EReal) : EReal :=
  Scalar.ofBits (F := Ideal) .f32 0x3F7FBE77#32 * v + Scalar.ofBits (F := Ideal) .f32 0x3A83126F#32 * (g * g)

/-- The change of a weight, from its new moments. -/
def move (w m v : EReal) : EReal :=
  Scalar.ofBits (F := Ideal) .f32 0xBA83126F#32 * (Ideal.div (Ideal.div m (Scalar.ofBits (F := Ideal) .f32 0x3F26BD02#32))
    (Ideal.sqrt (Ideal.div v (Scalar.ofBits (F := Ideal) .f32 0x3C231ACC#32)) + Scalar.ofBits (F := Ideal) .f32 0x322BCC77#32)
    + Scalar.ofBits (F := Ideal) .f32 0x3C23D70A#32 * w)

/-- The sum of the parts, one after the other. -/
theorem grad_eq (p : Fin 8 → EReal) : p 0 + p 1 + p 2 + p 3 + p 4 + p 5 + p 6 + p 7 = grad p := by
  rw [grad, Fin.sum_univ_eight]

end Cert.Adam
-- ==== Proof.Aout.lean ====
module

public import proofs.«01_k».proof.Defs
public import proofs.«01_k».proof.Proof.AdamStep
public import proofs.«01_k».proof.Proof.Gen.KernelAout.Frame
public import proofs.«01_k».proof.Proof.Gen.KernelAoutIdeal.Value
public import proofs.«01_k».proof.Proof.Gen.ReferenceAoutIdeal.Run
public import Idealize.ShloMosaic.Lib.Pipeline.ValueKit
public import Idealize.ShloMosaic.Lib.Pointwise
public import Idealize.ShloMosaic.Lib.Claim
/-! # The optimiser's step of the output projection -/
@[expose] public section

set_option maxRecDepth 16384
noncomputable section
open Idealize.ShloMosaic Idealize.ShloMosaic.TcCoe Idealize.SL.Sem
open Idealize.ShloMosaic.Pipeline (Dat)

namespace Cert.ReferenceAoutIdeal.Step
open Cert.ReferenceAoutIdeal Cert.ReferenceAoutIdeal.Gen Cert.Adam

/-- The reference's gradient, moments and change of the weights. -/
def g (p : FVec Ideal S8x1024x4096 .bf16) : FVec Ideal S1024x4096 .f32 :=
  Host.reduceAdd (extf .f32 p bitsLt_bf16_f32) (constant S_ .f32 0x00000000#32) reducesTo_S8x1024x4096_S1024x4096_d0 h_S_
def nm (g m : FVec Ideal S1024x4096 .f32) : FVec Ideal S1024x4096 .f32 :=
  addf (mulf (broadcastInDim S1024x4096 ![] bcast_S_S1024x4096 (constant S_ .f32 0x3F666666#32)) m) (mulf (broadcastInDim S1024x4096 ![] bcast_S_S1024x4096 (constant S_ .f32 0x3DCCCCCD#32)) g)
def nv (g v : FVec Ideal S1024x4096 .f32) : FVec Ideal S1024x4096 .f32 :=
  addf (mulf (broadcastInDim S1024x4096 ![] bcast_S_S1024x4096 (constant S_ .f32 0x3F7FBE77#32)) v) (mulf (broadcastInDim S1024x4096 ![] bcast_S_S1024x4096 (constant S_ .f32 0x3A83126F#32)) (mulf g g))
def delta (w nm nv : FVec Ideal S1024x4096 .f32) : FVec Ideal S1024x4096 .f32 :=
  mulf (broadcastInDim S1024x4096 ![] bcast_S_S1024x4096 (constant S_ .f32 0xBA83126F#32)) (addf (Host.divf (Host.divf nm (broadcastInDim S1024x4096 ![] bcast_S_S1024x4096 (constant S_ .f32 0x3F26BD02#32))) (addf (Host.sqrt (Host.divf nv (broadcastInDim S1024x4096 ![] bcast_S_S1024x4096 (constant S_ .f32 0x3C231ACC#32)))) (broadcastInDim S1024x4096 ![] bcast_S_S1024x4096 (constant S_ .f32 0x322BCC77#32)))) (mulf (broadcastInDim S1024x4096 ![] bcast_S_S1024x4096 (constant S_ .f32 0x3C23D70A#32)) w))

theorem g_apply (p : FVec Ideal S8x1024x4096 .bf16) (i : Fin 1024) (j : Fin 4096) : g p (ix2 i j) = grad fun d => p (ix3 d i j) := by
  pointwise [g, grad]
theorem nm_apply (g m : FVec Ideal S1024x4096 .f32) (i : Fin 1024) (j : Fin 4096) : nm g m (ix2 i j) = mom (g (ix2 i j)) (m (ix2 i j)) := by
  pointwise [nm, mom]
theorem nv_apply (g v : FVec Ideal S1024x4096 .f32) (i : Fin 1024) (j : Fin 4096) : nv g v (ix2 i j) = sec (g (ix2 i j)) (v (ix2 i j)) := by
  pointwise [nv, sec]
theorem delta_apply (w a b : FVec Ideal S1024x4096 .f32) (i : Fin 1024) (j : Fin 4096) : delta w a b (ix2 i j) = move (w (ix2 i j)) (a (ix2 i j)) (b (ix2 i j)) := by
  pointwise [delta, move]

end Cert.ReferenceAoutIdeal.Step

namespace Cert.KernelAoutIdeal.Step
open Cert.KernelAoutIdeal Cert.KernelAoutIdeal.Gen Cert.Adam

variable (m : (ℓ : Loc nD τ sig) → Buf (Elt Ideal) ℓ)

theorem idx : ∀ t : Fin cfg0.N, win0_0.index t = ![t.val, 0] ∧ win0_1.index t = ![0, t.val, 0] ∧ win0_2.index t = ![t.val, 0]
    ∧ win0_3.index t = ![t.val, 0] ∧ win0_4.index t = ![t.val, 0] ∧ win0_5.index t = ![t.val, 0] ∧ win0_6.index t = ![t.val, 0] ∧ win0_7.index t = ![t.val, 0] ∧ t.val < 16 :=
  (by decide +kernel : ∀ t : Fin grid0.N, _)

/-- The operands in the launch memory, and the gradient. -/
def w (c : Dev nD) : FVec Ideal S1024x4096 .f32 := m ((c : Thread nD τ).loc main_arg0)
def parts (c : Dev nD) : FVec Ideal S8x1024x4096 .bf16 := m ((c : Thread nD τ).loc main_arg1)
def m1 (c : Dev nD) : FVec Ideal S1024x4096 .f32 := m ((c : Thread nD τ).loc main_arg2)
def m2 (c : Dev nD) : FVec Ideal S1024x4096 .f32 := m ((c : Thread nD τ).loc main_arg3)
def gr (c : Dev nD) (i : Fin 1024) (j : Fin 4096) : EReal := grad fun d => parts m c (ix3 d i j)

/-- Row `p` of point `t`. -/
def row (t : Fin cfg0.N) (p : Fin 64) : Fin 1024 := ⟨t.val * 64 + p.val, by have := (idx t).2.2.2.2.2.2.2.2; omega⟩

theorem blk_w (c : Dev nD) (t : Fin cfg0.N) (p : Fin 64) (k : Fin 4096) : (iblk m c 0 t : Vec Ideal S64x4096 .f32) (ix2 p k) = w m c (ix2 (row t p) k) := by
  blk_ext [iblk, V, idx t, w, row]
theorem blk_parts (c : Dev nD) (t : Fin cfg0.N) (d : Fin 8) (p : Fin 64) (k : Fin 4096) : (iblk m c 1 t : Vec Ideal S8x64x4096 .bf16) (ix3 d p k) = parts m c (ix3 d (row t p) k) := by
  blk_ext [iblk, V, idx t, parts, row]
theorem blk_m1 (c : Dev nD) (t : Fin cfg0.N) (p : Fin 64) (k : Fin 4096) : (iblk m c 2 t : Vec Ideal S64x4096 .f32) (ix2 p k) = m1 m c (ix2 (row t p) k) := by
  blk_ext [iblk, V, idx t, m1, row]
theorem blk_m2 (c : Dev nD) (t : Fin cfg0.N) (p : Fin 64) (k : Fin 4096) : (iblk m c 3 t : Vec Ideal S64x4096 .f32) (ix2 p k) = m2 m c (ix2 (row t p) k) := by
  blk_ext [iblk, V, idx t, m2, row]

theorem pay1 (g a : Vec Ideal S64x4096 .f32) (p : Fin 64) (k : Fin 4096) : k0_pay1 g a (ix2 p k) = mom (g (ix2 p k)) (a (ix2 p k)) := by
  pointwise [k0_pay1, mom]
theorem pay2 (g a : Vec Ideal S64x4096 .f32) (p : Fin 64) (k : Fin 4096) : k0_pay2 g a (ix2 p k) = sec (g (ix2 p k)) (a (ix2 p k)) := by
  pointwise [k0_pay2, sec]
theorem pay3 (g w a b : Vec Ideal S64x4096 .f32) (p : Fin 64) (k : Fin 4096) :
    k0_pay3 g w a b (ix2 p k) = move (w (ix2 p k)) (mom (g (ix2 p k)) (a (ix2 p k))) (sec (g (ix2 p k)) (b (ix2 p k))) := by
  rw [← pay1, ← pay2]
  pointwise [k0_pay3, move]

/-- The gradient that a point sums. -/
def gsum (c : Dev nD) (t : Fin cfg0.N) : Vec Ideal S64x4096 .f32 := (outsAt0 m c t).1

theorem gsum_apply (c : Dev nD) (t : Fin cfg0.N) (p : Fin 64) (k : Fin 4096) : gsum m c t (ix2 p k) = gr m c (row t p) k := by
  rw [gr, ← grad_eq]
  simp only [← blk_parts]
  unfold gsum outsAt0
  frame_out
  pointwise [k0_pay4]

theorem out_d (c : Dev nD) (t : Fin cfg0.N) (p : Fin 64) (k : Fin 4096) : (outsAt0 m c t).2.1 (ix2 p k)
    = move (w m c (ix2 (row t p) k)) (mom (gr m c (row t p) k) (m1 m c (ix2 (row t p) k))) (sec (gr m c (row t p) k) (m2 m c (ix2 (row t p) k))) := by
  rw [← gsum_apply, ← blk_w, ← blk_m1, ← blk_m2, ← pay3]
  unfold gsum outsAt0
  frame_out
theorem out_m (c : Dev nD) (t : Fin cfg0.N) (p : Fin 64) (k : Fin 4096) : (outsAt0 m c t).2.2.1 (ix2 p k)
    = mom (gr m c (row t p) k) (m1 m c (ix2 (row t p) k)) := by
  rw [← gsum_apply, ← blk_m1, ← pay1]
  unfold gsum outsAt0
  frame_out
theorem out_v (c : Dev nD) (t : Fin cfg0.N) (p : Fin 64) (k : Fin 4096) : (outsAt0 m c t).2.2.2 (ix2 p k)
    = sec (gr m c (row t p) k) (m2 m c (ix2 (row t p) k)) := by
  rw [← gsum_apply, ← blk_m2, ← pay2]
  unfold gsum outsAt0
  frame_out

/-- The four results. -/
def G (c : Dev nD) : FVec Ideal S1024x4096 .f32 := fun y => gr m c (y 0) (y 1)
def D (c : Dev nD) : FVec Ideal S1024x4096 .f32 := fun y =>
  move (w m c (ix2 (y 0) (y 1))) (mom (gr m c (y 0) (y 1)) (m1 m c (ix2 (y 0) (y 1)))) (sec (gr m c (y 0) (y 1)) (m2 m c (ix2 (y 0) (y 1))))
def M (c : Dev nD) : FVec Ideal S1024x4096 .f32 := fun y => mom (gr m c (y 0) (y 1)) (m1 m c (ix2 (y 0) (y 1)))
def W (c : Dev nD) : FVec Ideal S1024x4096 .f32 := fun y => sec (gr m c (y 0) (y 1)) (m2 m c (ix2 (y 0) (y 1)))

/-- An array's element at equal rows and columns. -/
theorem at_eq (f : FVec Ideal S1024x4096 .f32) {i : Fin 1024} {j : Fin 4096} {y : S1024x4096.Idx} (h1 : i.val = (y 0).val) (h2 : j.val = (y 1).val) : f (ix2 i j) = f y := by
  congr 1
  funext a
  refine Fin.cases ?_ (fun a => Fin.cases ?_ (fun a => a.elim0) a) a
  · exact Fin.ext h1
  · exact Fin.ext h2

theorem final_G (c : Dev nD) : (dats m 0 c).arrAt 4 cfg0.N = G m c := by
  refine (dats m 0 c).arrAt_eq_of_covers 4 _ (by decide +kernel) fun t hf y => ?_
  blk_simp
  rw [after0_4]
  idx_vars y
  refine (gsum_apply m c t y0 y1).trans (at_eq (G m c) (i := row t y0) (j := y1) ?_ ?_)
  all_goals blk_simp [idx t, row]
theorem final_D (c : Dev nD) : (dats m 0 c).arrAt 5 cfg0.N = D m c := by
  refine (dats m 0 c).arrAt_eq_of_covers 5 _ (by decide +kernel) fun t hf y => ?_
  blk_simp
  rw [after0_5]
  idx_vars y
  refine (out_d m c t y0 y1).trans (at_eq (D m c) (i := row t y0) (j := y1) ?_ ?_)
  all_goals blk_simp [idx t, row]
theorem final_M (c : Dev nD) : (dats m 0 c).arrAt 6 cfg0.N = M m c := by
  refine (dats m 0 c).arrAt_eq_of_covers 6 _ (by decide +kernel) fun t hf y => ?_
  blk_simp
  rw [after0_6]
  idx_vars y
  refine (out_m m c t y0 y1).trans (at_eq (M m c) (i := row t y0) (j := y1) ?_ ?_)
  all_goals blk_simp [idx t, row]
theorem final_V (c : Dev nD) : (dats m 0 c).arrAt 7 cfg0.N = W m c := by
  refine (dats m 0 c).arrAt_eq_of_covers 7 _ (by decide +kernel) fun t hf y => ?_
  blk_simp
  rw [after0_7]
  idx_vars y
  refine (out_v m c t y0 y1).trans (at_eq (W m c) (i := row t y0) (j := y1) ?_ ?_)
  all_goals blk_simp [idx t, row]

end Cert.KernelAoutIdeal.Step

namespace Cert.Proof
open Cert.KernelAoutIdeal.Step (G D M W final_G final_D final_M final_V)
open Cert.ReferenceAoutIdeal.Step

theorem aout_ref_frame : Cert.quiescent_ReferenceAoutIdeal := fun m ρ _ =>
  (θ_run Cert.ReferenceAoutIdeal.defs _ _).mono (fun _ h => ⟨fun c => (h c).2.2.2.2, sem_eq_zero_of_no_sems (by decide) _⟩)
    (Cert.ReferenceAoutIdeal.Value.run (F := Ideal) m ρ)

theorem aout_algebraic : Cert.algebraic_KernelAoutIdeal_ReferenceAoutIdeal := by
  intro m ρ m' ρ' _ hin
  refine ⟨_, _, _, _, Cert.KernelAoutIdeal.Value.run_blocks m ρ, ?_⟩
  refine (θ_run Cert.ReferenceAoutIdeal.defs _ _).mono (fun r h c => ?_) (Cert.ReferenceAoutIdeal.Value.run (F := Ideal) m' ρ')
  obtain ⟨h0, h1, h2, h3⟩ := hin c
  have hg : g (m' ((c : Thread Cert.ReferenceAoutIdeal.nD Cert.ReferenceAoutIdeal.τ).loc Cert.ReferenceAoutIdeal.main_arg1)) = G m c := by
    rw [h1]
    funext y
    idx_vars y
    exact g_apply _ y0 y1
  have hm : nm (G m c) (m' ((c : Thread Cert.ReferenceAoutIdeal.nD Cert.ReferenceAoutIdeal.τ).loc Cert.ReferenceAoutIdeal.main_arg2)) = M m c := by
    rw [h2]
    funext y
    idx_vars y
    exact nm_apply _ _ y0 y1
  have hv : nv (G m c) (m' ((c : Thread Cert.ReferenceAoutIdeal.nD Cert.ReferenceAoutIdeal.τ).loc Cert.ReferenceAoutIdeal.main_arg3)) = W m c := by
    rw [h3]
    funext y
    idx_vars y
    exact nv_apply _ _ y0 y1
  have hd : delta (m' ((c : Thread Cert.ReferenceAoutIdeal.nD Cert.ReferenceAoutIdeal.τ).loc Cert.ReferenceAoutIdeal.main_arg0)) (M m c) (W m c) = D m c := by
    rw [h0]
    funext y
    idx_vars y
    exact delta_apply _ _ _ y0 y1
  refine ⟨(h c).1.trans (hg.trans (final_G m c).symm), (h c).2.1.trans (Eq.trans ?_ (final_D m c).symm),
    (h c).2.2.1.trans (Eq.trans ?_ (final_M m c).symm), (h c).2.2.2.1.trans (Eq.trans ?_ (final_V m c).symm), (h c).2.2.2.2⟩
  · rw [← hd, ← hm, ← hv, ← hg]
    rfl
  · rw [← hm, ← hg]
    rfl
  · rw [← hv, ← hg]
    rfl

end Cert.Proof
-- ==== Proof.Apool.lean ====
module

public import proofs.«01_k».proof.Defs
public import proofs.«01_k».proof.Proof.AdamStep
public import proofs.«01_k».proof.Proof.Gen.KernelApool.Frame
public import proofs.«01_k».proof.Proof.Gen.KernelApoolIdeal.Value
public import proofs.«01_k».proof.Proof.Gen.ReferenceApoolIdeal.Run
public import Idealize.ShloMosaic.Lib.Pipeline.ValueKit
public import Idealize.ShloMosaic.Lib.Pointwise
public import Idealize.ShloMosaic.Lib.Claim
/-! # The optimiser's step of the pool's product -/
@[expose] public section

set_option maxRecDepth 16384
noncomputable section
open Idealize.ShloMosaic Idealize.ShloMosaic.TcCoe Idealize.SL.Sem
open Idealize.ShloMosaic.Pipeline (Dat)

namespace Cert.ReferenceApoolIdeal.Step
open Cert.ReferenceApoolIdeal Cert.ReferenceApoolIdeal.Gen Cert.Adam

/-- The reference's gradient, moments and change of the weights. -/
def g (p : FVec Ideal S8x512x1024 .bf16) : FVec Ideal S512x1024 .f32 :=
  Host.reduceAdd (extf .f32 p bitsLt_bf16_f32) (constant S_ .f32 0x00000000#32) reducesTo_S8x512x1024_S512x1024_d0 h_S_
def nm (g m : FVec Ideal S512x1024 .f32) : FVec Ideal S512x1024 .f32 :=
  addf (mulf (broadcastInDim S512x1024 ![] bcast_S_S512x1024 (constant S_ .f32 0x3F666666#32)) m) (mulf (broadcastInDim S512x1024 ![] bcast_S_S512x1024 (constant S_ .f32 0x3DCCCCCD#32)) g)
def nv (g v : FVec Ideal S512x1024 .f32) : FVec Ideal S512x1024 .f32 :=
  addf (mulf (broadcastInDim S512x1024 ![] bcast_S_S512x1024 (constant S_ .f32 0x3F7FBE77#32)) v) (mulf (broadcastInDim S512x1024 ![] bcast_S_S512x1024 (constant S_ .f32 0x3A83126F#32)) (mulf g g))
def delta (w nm nv : FVec Ideal S512x1024 .f32) : FVec Ideal S512x1024 .f32 :=
  mulf (broadcastInDim S512x1024 ![] bcast_S_S512x1024 (constant S_ .f32 0xBA83126F#32)) (addf (Host.divf (Host.divf nm (broadcastInDim S512x1024 ![] bcast_S_S512x1024 (constant S_ .f32 0x3F26BD02#32))) (addf (Host.sqrt (Host.divf nv (broadcastInDim S512x1024 ![] bcast_S_S512x1024 (constant S_ .f32 0x3C231ACC#32)))) (broadcastInDim S512x1024 ![] bcast_S_S512x1024 (constant S_ .f32 0x322BCC77#32)))) (mulf (broadcastInDim S512x1024 ![] bcast_S_S512x1024 (constant S_ .f32 0x3C23D70A#32)) w))

theorem g_apply (p : FVec Ideal S8x512x1024 .bf16) (i : Fin 512) (j : Fin 1024) : g p (ix2 i j) = grad fun d => p (ix3 d i j) := by
  pointwise [g, grad]
theorem nm_apply (g m : FVec Ideal S512x1024 .f32) (i : Fin 512) (j : Fin 1024) : nm g m (ix2 i j) = mom (g (ix2 i j)) (m (ix2 i j)) := by
  pointwise [nm, mom]
theorem nv_apply (g v : FVec Ideal S512x1024 .f32) (i : Fin 512) (j : Fin 1024) : nv g v (ix2 i j) = sec (g (ix2 i j)) (v (ix2 i j)) := by
  pointwise [nv, sec]
theorem delta_apply (w a b : FVec Ideal S512x1024 .f32) (i : Fin 512) (j : Fin 1024) : delta w a b (ix2 i j) = move (w (ix2 i j)) (a (ix2 i j)) (b (ix2 i j)) := by
  pointwise [delta, move]

end Cert.ReferenceApoolIdeal.Step

namespace Cert.KernelApoolIdeal.Step
open Cert.KernelApoolIdeal Cert.KernelApoolIdeal.Gen Cert.Adam

variable (m : (ℓ : Loc nD τ sig) → Buf (Elt Ideal) ℓ)

theorem idx : ∀ t : Fin cfg0.N, win0_0.index t = ![t.val, 0] ∧ win0_1.index t = ![0, t.val, 0] ∧ win0_2.index t = ![t.val, 0]
    ∧ win0_3.index t = ![t.val, 0] ∧ win0_4.index t = ![t.val, 0] ∧ win0_5.index t = ![t.val, 0] ∧ win0_6.index t = ![t.val, 0] ∧ win0_7.index t = ![t.val, 0] ∧ t.val < 2 :=
  (by decide +kernel : ∀ t : Fin grid0.N, _)

/-- The operands in the launch memory, and the gradient. -/
def w (c : Dev nD) : FVec Ideal S512x1024 .f32 := m ((c : Thread nD τ).loc main_arg0)
def parts (c : Dev nD) : FVec Ideal S8x512x1024 .bf16 := m ((c : Thread nD τ).loc main_arg1)
def m1 (c : Dev nD) : FVec Ideal S512x1024 .f32 := m ((c : Thread nD τ).loc main_arg2)
def m2 (c : Dev nD) : FVec Ideal S512x1024 .f32 := m ((c : Thread nD τ).loc main_arg3)
def gr (c : Dev nD) (i : Fin 512) (j : Fin 1024) : EReal := grad fun d => parts m c (ix3 d i j)

/-- Row `p` of point `t`. -/
def row (t : Fin cfg0.N) (p : Fin 256) : Fin 512 := ⟨t.val * 256 + p.val, by have := (idx t).2.2.2.2.2.2.2.2; omega⟩

theorem blk_w (c : Dev nD) (t : Fin cfg0.N) (p : Fin 256) (k : Fin 1024) : (iblk m c 0 t : Vec Ideal S256x1024 .f32) (ix2 p k) = w m c (ix2 (row t p) k) := by
  blk_ext [iblk, V, idx t, w, row]
theorem blk_parts (c : Dev nD) (t : Fin cfg0.N) (d : Fin 8) (p : Fin 256) (k : Fin 1024) : (iblk m c 1 t : Vec Ideal S8x256x1024 .bf16) (ix3 d p k) = parts m c (ix3 d (row t p) k) := by
  blk_ext [iblk, V, idx t, parts, row]
theorem blk_m1 (c : Dev nD) (t : Fin cfg0.N) (p : Fin 256) (k : Fin 1024) : (iblk m c 2 t : Vec Ideal S256x1024 .f32) (ix2 p k) = m1 m c (ix2 (row t p) k) := by
  blk_ext [iblk, V, idx t, m1, row]
theorem blk_m2 (c : Dev nD) (t : Fin cfg0.N) (p : Fin 256) (k : Fin 1024) : (iblk m c 3 t : Vec Ideal S256x1024 .f32) (ix2 p k) = m2 m c (ix2 (row t p) k) := by
  blk_ext [iblk, V, idx t, m2, row]

theorem pay1 (g a : Vec Ideal S256x1024 .f32) (p : Fin 256) (k : Fin 1024) : k0_pay1 g a (ix2 p k) = mom (g (ix2 p k)) (a (ix2 p k)) := by
  pointwise [k0_pay1, mom]
theorem pay2 (g a : Vec Ideal S256x1024 .f32) (p : Fin 256) (k : Fin 1024) : k0_pay2 g a (ix2 p k) = sec (g (ix2 p k)) (a (ix2 p k)) := by
  pointwise [k0_pay2, sec]
theorem pay3 (g w a b : Vec Ideal S256x1024 .f32) (p : Fin 256) (k : Fin 1024) :
    k0_pay3 g w a b (ix2 p k) = move (w (ix2 p k)) (mom (g (ix2 p k)) (a (ix2 p k))) (sec (g (ix2 p k)) (b (ix2 p k))) := by
  rw [← pay1, ← pay2]
  pointwise [k0_pay3, move]

/-- The gradient that a point sums. -/
def gsum (c : Dev nD) (t : Fin cfg0.N) : Vec Ideal S256x1024 .f32 := (outsAt0 m c t).1

theorem gsum_apply (c : Dev nD) (t : Fin cfg0.N) (p : Fin 256) (k : Fin 1024) : gsum m c t (ix2 p k) = gr m c (row t p) k := by
  rw [gr, ← grad_eq]
  simp only [← blk_parts]
  unfold gsum outsAt0
  frame_out
  pointwise [k0_pay4]

theorem out_d (c : Dev nD) (t : Fin cfg0.N) (p : Fin 256) (k : Fin 1024) : (outsAt0 m c t).2.1 (ix2 p k)
    = move (w m c (ix2 (row t p) k)) (mom (gr m c (row t p) k) (m1 m c (ix2 (row t p) k))) (sec (gr m c (row t p) k) (m2 m c (ix2 (row t p) k))) := by
  rw [← gsum_apply, ← blk_w, ← blk_m1, ← blk_m2, ← pay3]
  unfold gsum outsAt0
  frame_out
theorem out_m (c : Dev nD) (t : Fin cfg0.N) (p : Fin 256) (k : Fin 1024) : (outsAt0 m c t).2.2.1 (ix2 p k)
    = mom (gr m c (row t p) k) (m1 m c (ix2 (row t p) k)) := by
  rw [← gsum_apply, ← blk_m1, ← pay1]
  unfold gsum outsAt0
  frame_out
theorem out_v (c : Dev nD) (t : Fin cfg0.N) (p : Fin 256) (k : Fin 1024) : (outsAt0 m c t).2.2.2 (ix2 p k)
    = sec (gr m c (row t p) k) (m2 m c (ix2 (row t p) k)) := by
  rw [← gsum_apply, ← blk_m2, ← pay2]
  unfold gsum outsAt0
  frame_out

/-- The four results. -/
def G (c : Dev nD) : FVec Ideal S512x1024 .f32 := fun y => gr m c (y 0) (y 1)
def D (c : Dev nD) : FVec Ideal S512x1024 .f32 := fun y =>
  move (w m c (ix2 (y 0) (y 1))) (mom (gr m c (y 0) (y 1)) (m1 m c (ix2 (y 0) (y 1)))) (sec (gr m c (y 0) (y 1)) (m2 m c (ix2 (y 0) (y 1))))
def M (c : Dev nD) : FVec Ideal S512x1024 .f32 := fun y => mom (gr m c (y 0) (y 1)) (m1 m c (ix2 (y 0) (y 1)))
def W (c : Dev nD) : FVec Ideal S512x1024 .f32 := fun y => sec (gr m c (y 0) (y 1)) (m2 m c (ix2 (y 0) (y 1)))

/-- An array's element at equal rows and columns. -/
theorem at_eq (f : FVec Ideal S512x1024 .f32) {i : Fin 512} {j : Fin 1024} {y : S512x1024.Idx} (h1 : i.val = (y 0).val) (h2 : j.val = (y 1).val) : f (ix2 i j) = f y := by
  congr 1
  funext a
  refine Fin.cases ?_ (fun a => Fin.cases ?_ (fun a => a.elim0) a) a
  · exact Fin.ext h1
  · exact Fin.ext h2

theorem final_G (c : Dev nD) : (dats m 0 c).arrAt 4 cfg0.N = G m c := by
  refine (dats m 0 c).arrAt_eq_of_covers 4 _ (by decide +kernel) fun t hf y => ?_
  blk_simp
  rw [after0_4]
  idx_vars y
  refine (gsum_apply m c t y0 y1).trans (at_eq (G m c) (i := row t y0) (j := y1) ?_ ?_)
  all_goals blk_simp [idx t, row]
theorem final_D (c : Dev nD) : (dats m 0 c).arrAt 5 cfg0.N = D m c := by
  refine (dats m 0 c).arrAt_eq_of_covers 5 _ (by decide +kernel) fun t hf y => ?_
  blk_simp
  rw [after0_5]
  idx_vars y
  refine (out_d m c t y0 y1).trans (at_eq (D m c) (i := row t y0) (j := y1) ?_ ?_)
  all_goals blk_simp [idx t, row]
theorem final_M (c : Dev nD) : (dats m 0 c).arrAt 6 cfg0.N = M m c := by
  refine (dats m 0 c).arrAt_eq_of_covers 6 _ (by decide +kernel) fun t hf y => ?_
  blk_simp
  rw [after0_6]
  idx_vars y
  refine (out_m m c t y0 y1).trans (at_eq (M m c) (i := row t y0) (j := y1) ?_ ?_)
  all_goals blk_simp [idx t, row]
theorem final_V (c : Dev nD) : (dats m 0 c).arrAt 7 cfg0.N = W m c := by
  refine (dats m 0 c).arrAt_eq_of_covers 7 _ (by decide +kernel) fun t hf y => ?_
  blk_simp
  rw [after0_7]
  idx_vars y
  refine (out_v m c t y0 y1).trans (at_eq (W m c) (i := row t y0) (j := y1) ?_ ?_)
  all_goals blk_simp [idx t, row]

end Cert.KernelApoolIdeal.Step

namespace Cert.Proof
open Cert.KernelApoolIdeal.Step (G D M W final_G final_D final_M final_V)
open Cert.ReferenceApoolIdeal.Step

theorem apool_ref_frame : Cert.quiescent_ReferenceApoolIdeal := fun m ρ _ =>
  (θ_run Cert.ReferenceApoolIdeal.defs _ _).mono (fun _ h => ⟨fun c => (h c).2.2.2.2, sem_eq_zero_of_no_sems (by decide) _⟩)
    (Cert.ReferenceApoolIdeal.Value.run (F := Ideal) m ρ)

theorem apool_algebraic : Cert.algebraic_KernelApoolIdeal_ReferenceApoolIdeal := by
  intro m ρ m' ρ' _ hin
  refine ⟨_, _, _, _, Cert.KernelApoolIdeal.Value.run_blocks m ρ, ?_⟩
  refine (θ_run Cert.ReferenceApoolIdeal.defs _ _).mono (fun r h c => ?_) (Cert.ReferenceApoolIdeal.Value.run (F := Ideal) m' ρ')
  obtain ⟨h0, h1, h2, h3⟩ := hin c
  have hg : g (m' ((c : Thread Cert.ReferenceApoolIdeal.nD Cert.ReferenceApoolIdeal.τ).loc Cert.ReferenceApoolIdeal.main_arg1)) = G m c := by
    rw [h1]
    funext y
    idx_vars y
    exact g_apply _ y0 y1
  have hm : nm (G m c) (m' ((c : Thread Cert.ReferenceApoolIdeal.nD Cert.ReferenceApoolIdeal.τ).loc Cert.ReferenceApoolIdeal.main_arg2)) = M m c := by
    rw [h2]
    funext y
    idx_vars y
    exact nm_apply _ _ y0 y1
  have hv : nv (G m c) (m' ((c : Thread Cert.ReferenceApoolIdeal.nD Cert.ReferenceApoolIdeal.τ).loc Cert.ReferenceApoolIdeal.main_arg3)) = W m c := by
    rw [h3]
    funext y
    idx_vars y
    exact nv_apply _ _ y0 y1
  have hd : delta (m' ((c : Thread Cert.ReferenceApoolIdeal.nD Cert.ReferenceApoolIdeal.τ).loc Cert.ReferenceApoolIdeal.main_arg0)) (M m c) (W m c) = D m c := by
    rw [h0]
    funext y
    idx_vars y
    exact delta_apply _ _ _ y0 y1
  refine ⟨(h c).1.trans (hg.trans (final_G m c).symm), (h c).2.1.trans (Eq.trans ?_ (final_D m c).symm),
    (h c).2.2.1.trans (Eq.trans ?_ (final_M m c).symm), (h c).2.2.2.1.trans (Eq.trans ?_ (final_V m c).symm), (h c).2.2.2.2⟩
  · rw [← hd, ← hm, ← hv, ← hg]
    rfl
  · rw [← hm, ← hg]
    rfl
  · rw [← hv, ← hg]
    rfl

end Cert.Proof
-- ==== Proof.Agate.lean ====
module

public import proofs.«01_k».proof.Defs
public import proofs.«01_k».proof.Proof.AdamStep
public import proofs.«01_k».proof.Proof.Gen.KernelAgate.Frame
public import proofs.«01_k».proof.Proof.Gen.KernelAgateIdeal.Value
public import proofs.«01_k».proof.Proof.Gen.ReferenceAgateIdeal.Run
public import Idealize.ShloMosaic.Lib.Pipeline.ValueKit
public import Idealize.ShloMosaic.Lib.Pointwise
public import Idealize.ShloMosaic.Lib.Claim
/-! # The optimiser's step of a gate's weights -/
@[expose] public section

set_option maxRecDepth 16384
noncomputable section
open Idealize.ShloMosaic Idealize.ShloMosaic.TcCoe Idealize.SL.Sem
open Idealize.ShloMosaic.Pipeline (Dat)

namespace Cert.ReferenceAgateIdeal.Step
open Cert.ReferenceAgateIdeal Cert.ReferenceAgateIdeal.Gen Cert.Adam

/-- The reference's gradient, moments and change of the weights. -/
def g (p : FVec Ideal S8x1024x256 .bf16) : FVec Ideal S1024x256 .f32 :=
  Host.reduceAdd (extf .f32 p bitsLt_bf16_f32) (constant S_ .f32 0x00000000#32) reducesTo_S8x1024x256_S1024x256_d0 h_S_
def nm (g m : FVec Ideal S1024x256 .f32) : FVec Ideal S1024x256 .f32 :=
  addf (mulf (broadcastInDim S1024x256 ![] bcast_S_S1024x256 (constant S_ .f32 0x3F666666#32)) m) (mulf (broadcastInDim S1024x256 ![] bcast_S_S1024x256 (constant S_ .f32 0x3DCCCCCD#32)) g)
def nv (g v : FVec Ideal S1024x256 .f32) : FVec Ideal S1024x256 .f32 :=
  addf (mulf (broadcastInDim S1024x256 ![] bcast_S_S1024x256 (constant S_ .f32 0x3F7FBE77#32)) v) (mulf (broadcastInDim S1024x256 ![] bcast_S_S1024x256 (constant S_ .f32 0x3A83126F#32)) (mulf g g))
def delta (w nm nv : FVec Ideal S1024x256 .f32) : FVec Ideal S1024x256 .f32 :=
  mulf (broadcastInDim S1024x256 ![] bcast_S_S1024x256 (constant S_ .f32 0xBA83126F#32)) (addf (Host.divf (Host.divf nm (broadcastInDim S1024x256 ![] bcast_S_S1024x256 (constant S_ .f32 0x3F26BD02#32))) (addf (Host.sqrt (Host.divf nv (broadcastInDim S1024x256 ![] bcast_S_S1024x256 (constant S_ .f32 0x3C231ACC#32)))) (broadcastInDim S1024x256 ![] bcast_S_S1024x256 (constant S_ .f32 0x322BCC77#32)))) (mulf (broadcastInDim S1024x256 ![] bcast_S_S1024x256 (constant S_ .f32 0x3C23D70A#32)) w))

theorem g_apply (p : FVec Ideal S8x1024x256 .bf16) (i : Fin 1024) (j : Fin 256) : g p (ix2 i j) = grad fun d => p (ix3 d i j) := by
  pointwise [g, grad]
theorem nm_apply (g m : FVec Ideal S1024x256 .f32) (i : Fin 1024) (j : Fin 256) : nm g m (ix2 i j) = mom (g (ix2 i j)) (m (ix2 i j)) := by
  pointwise [nm, mom]
theorem nv_apply (g v : FVec Ideal S1024x256 .f32) (i : Fin 1024) (j : Fin 256) : nv g v (ix2 i j) = sec (g (ix2 i j)) (v (ix2 i j)) := by
  pointwise [nv, sec]
theorem delta_apply (w a b : FVec Ideal S1024x256 .f32) (i : Fin 1024) (j : Fin 256) : delta w a b (ix2 i j) = move (w (ix2 i j)) (a (ix2 i j)) (b (ix2 i j)) := by
  pointwise [delta, move]

end Cert.ReferenceAgateIdeal.Step

namespace Cert.KernelAgateIdeal.Step
open Cert.KernelAgateIdeal Cert.KernelAgateIdeal.Gen Cert.Adam

variable (m : (ℓ : Loc nD τ sig) → Buf (Elt Ideal) ℓ)

theorem idx : ∀ t : Fin cfg0.N, win0_0.index t = ![t.val, 0] ∧ win0_1.index t = ![0, t.val, 0] ∧ win0_2.index t = ![t.val, 0]
    ∧ win0_3.index t = ![t.val, 0] ∧ win0_4.index t = ![t.val, 0] ∧ win0_5.index t = ![t.val, 0] ∧ win0_6.index t = ![t.val, 0] ∧ win0_7.index t = ![t.val, 0] ∧ t.val < 1 :=
  (by decide +kernel : ∀ t : Fin grid0.N, _)

/-- The operands in the launch memory, and the gradient. -/
def w (c : Dev nD) : FVec Ideal S1024x256 .f32 := m ((c : Thread nD τ).loc main_arg0)
def parts (c : Dev nD) : FVec Ideal S8x1024x256 .bf16 := m ((c : Thread nD τ).loc main_arg1)
def m1 (c : Dev nD) : FVec Ideal S1024x256 .f32 := m ((c : Thread nD τ).loc main_arg2)
def m2 (c : Dev nD) : FVec Ideal S1024x256 .f32 := m ((c : Thread nD τ).loc main_arg3)
def gr (c : Dev nD) (i : Fin 1024) (j : Fin 256) : EReal := grad fun d => parts m c (ix3 d i j)

/-- Row `p` of point `t`. -/
def row (t : Fin cfg0.N) (p : Fin 1024) : Fin 1024 := ⟨t.val * 1024 + p.val, by have := (idx t).2.2.2.2.2.2.2.2; omega⟩

theorem blk_w (c : Dev nD) (t : Fin cfg0.N) (p : Fin 1024) (k : Fin 256) : (iblk m c 0 t : Vec Ideal S1024x256 .f32) (ix2 p k) = w m c (ix2 (row t p) k) := by
  blk_ext [iblk, V, idx t, w, row]
theorem blk_parts (c : Dev nD) (t : Fin cfg0.N) (d : Fin 8) (p : Fin 1024) (k : Fin 256) : (iblk m c 1 t : Vec Ideal S8x1024x256 .bf16) (ix3 d p k) = parts m c (ix3 d (row t p) k) := by
  blk_ext [iblk, V, idx t, parts, row]
theorem blk_m1 (c : Dev nD) (t : Fin cfg0.N) (p : Fin 1024) (k : Fin 256) : (iblk m c 2 t : Vec Ideal S1024x256 .f32) (ix2 p k) = m1 m c (ix2 (row t p) k) := by
  blk_ext [iblk, V, idx t, m1, row]
theorem blk_m2 (c : Dev nD) (t : Fin cfg0.N) (p : Fin 1024) (k : Fin 256) : (iblk m c 3 t : Vec Ideal S1024x256 .f32) (ix2 p k) = m2 m c (ix2 (row t p) k) := by
  blk_ext [iblk, V, idx t, m2, row]

theorem pay1 (g a : Vec Ideal S1024x256 .f32) (p : Fin 1024) (k : Fin 256) : k0_pay1 g a (ix2 p k) = mom (g (ix2 p k)) (a (ix2 p k)) := by
  pointwise [k0_pay1, mom]
theorem pay2 (g a : Vec Ideal S1024x256 .f32) (p : Fin 1024) (k : Fin 256) : k0_pay2 g a (ix2 p k) = sec (g (ix2 p k)) (a (ix2 p k)) := by
  pointwise [k0_pay2, sec]
theorem pay3 (g w a b : Vec Ideal S1024x256 .f32) (p : Fin 1024) (k : Fin 256) :
    k0_pay3 g w a b (ix2 p k) = move (w (ix2 p k)) (mom (g (ix2 p k)) (a (ix2 p k))) (sec (g (ix2 p k)) (b (ix2 p k))) := by
  rw [← pay1, ← pay2]
  pointwise [k0_pay3, move]

/-- The gradient that a point sums. -/
def gsum (c : Dev nD) (t : Fin cfg0.N) : Vec Ideal S1024x256 .f32 := (outsAt0 m c t).1

theorem gsum_apply (c : Dev nD) (t : Fin cfg0.N) (p : Fin 1024) (k : Fin 256) : gsum m c t (ix2 p k) = gr m c (row t p) k := by
  rw [gr, ← grad_eq]
  simp only [← blk_parts]
  unfold gsum outsAt0
  frame_out
  pointwise [k0_pay4]

theorem out_d (c : Dev nD) (t : Fin cfg0.N) (p : Fin 1024) (k : Fin 256) : (outsAt0 m c t).2.1 (ix2 p k)
    = move (w m c (ix2 (row t p) k)) (mom (gr m c (row t p) k) (m1 m c (ix2 (row t p) k))) (sec (gr m c (row t p) k) (m2 m c (ix2 (row t p) k))) := by
  rw [← gsum_apply, ← blk_w, ← blk_m1, ← blk_m2, ← pay3]
  unfold gsum outsAt0
  frame_out
theorem out_m (c : Dev nD) (t : Fin cfg0.N) (p : Fin 1024) (k : Fin 256) : (outsAt0 m c t).2.2.1 (ix2 p k)
    = mom (gr m c (row t p) k) (m1 m c (ix2 (row t p) k)) := by
  rw [← gsum_apply, ← blk_m1, ← pay1]
  unfold gsum outsAt0
  frame_out
theorem out_v (c : Dev nD) (t : Fin cfg0.N) (p : Fin 1024) (k : Fin 256) : (outsAt0 m c t).2.2.2 (ix2 p k)
    = sec (gr m c (row t p) k) (m2 m c (ix2 (row t p) k)) := by
  rw [← gsum_apply, ← blk_m2, ← pay2]
  unfold gsum outsAt0
  frame_out

/-- The four results. -/
def G (c : Dev nD) : FVec Ideal S1024x256 .f32 := fun y => gr m c (y 0) (y 1)
def D (c : Dev nD) : FVec Ideal S1024x256 .f32 := fun y =>
  move (w m c (ix2 (y 0) (y 1))) (mom (gr m c (y 0) (y 1)) (m1 m c (ix2 (y 0) (y 1)))) (sec (gr m c (y 0) (y 1)) (m2 m c (ix2 (y 0) (y 1))))
def M (c : Dev nD) : FVec Ideal S1024x256 .f32 := fun y => mom (gr m c (y 0) (y 1)) (m1 m c (ix2 (y 0) (y 1)))
def W (c : Dev nD) : FVec Ideal S1024x256 .f32 := fun y => sec (gr m c (y 0) (y 1)) (m2 m c (ix2 (y 0) (y 1)))

/-- An array's element at equal rows and columns. -/
theorem at_eq (f : FVec Ideal S1024x256 .f32) {i : Fin 1024} {j : Fin 256} {y : S1024x256.Idx} (h1 : i.val = (y 0).val) (h2 : j.val = (y 1).val) : f (ix2 i j) = f y := by
  congr 1
  funext a
  refine Fin.cases ?_ (fun a => Fin.cases ?_ (fun a => a.elim0) a) a
  · exact Fin.ext h1
  · exact Fin.ext h2

theorem final_G (c : Dev nD) : (dats m 0 c).arrAt 4 cfg0.N = G m c := by
  refine (dats m 0 c).arrAt_eq_of_covers 4 _ (by decide +kernel) fun t hf y => ?_
  blk_simp
  rw [after0_4]
  idx_vars y
  refine (gsum_apply m c t y0 y1).trans (at_eq (G m c) (i := row t y0) (j := y1) ?_ ?_)
  all_goals blk_simp [idx t, row]
theorem final_D (c : Dev nD) : (dats m 0 c).arrAt 5 cfg0.N = D m c := by
  refine (dats m 0 c).arrAt_eq_of_covers 5 _ (by decide +kernel) fun t hf y => ?_
  blk_simp
  rw [after0_5]
  idx_vars y
  refine (out_d m c t y0 y1).trans (at_eq (D m c) (i := row t y0) (j := y1) ?_ ?_)
  all_goals blk_simp [idx t, row]
theorem final_M (c : Dev nD) : (dats m 0 c).arrAt 6 cfg0.N = M m c := by
  refine (dats m 0 c).arrAt_eq_of_covers 6 _ (by decide +kernel) fun t hf y => ?_
  blk_simp
  rw [after0_6]
  idx_vars y
  refine (out_m m c t y0 y1).trans (at_eq (M m c) (i := row t y0) (j := y1) ?_ ?_)
  all_goals blk_simp [idx t, row]
theorem final_V (c : Dev nD) : (dats m 0 c).arrAt 7 cfg0.N = W m c := by
  refine (dats m 0 c).arrAt_eq_of_covers 7 _ (by decide +kernel) fun t hf y => ?_
  blk_simp
  rw [after0_7]
  idx_vars y
  refine (out_v m c t y0 y1).trans (at_eq (W m c) (i := row t y0) (j := y1) ?_ ?_)
  all_goals blk_simp [idx t, row]

end Cert.KernelAgateIdeal.Step

namespace Cert.Proof
open Cert.KernelAgateIdeal.Step (G D M W final_G final_D final_M final_V)
open Cert.ReferenceAgateIdeal.Step

theorem agate_ref_frame : Cert.quiescent_ReferenceAgateIdeal := fun m ρ _ =>
  (θ_run Cert.ReferenceAgateIdeal.defs _ _).mono (fun _ h => ⟨fun c => (h c).2.2.2.2, sem_eq_zero_of_no_sems (by decide) _⟩)
    (Cert.ReferenceAgateIdeal.Value.run (F := Ideal) m ρ)

theorem agate_algebraic : Cert.algebraic_KernelAgateIdeal_ReferenceAgateIdeal := by
  intro m ρ m' ρ' _ hin
  refine ⟨_, _, _, _, Cert.KernelAgateIdeal.Value.run_blocks m ρ, ?_⟩
  refine (θ_run Cert.ReferenceAgateIdeal.defs _ _).mono (fun r h c => ?_) (Cert.ReferenceAgateIdeal.Value.run (F := Ideal) m' ρ')
  obtain ⟨h0, h1, h2, h3⟩ := hin c
  have hg : g (m' ((c : Thread Cert.ReferenceAgateIdeal.nD Cert.ReferenceAgateIdeal.τ).loc Cert.ReferenceAgateIdeal.main_arg1)) = G m c := by
    rw [h1]
    funext y
    idx_vars y
    exact g_apply _ y0 y1
  have hm : nm (G m c) (m' ((c : Thread Cert.ReferenceAgateIdeal.nD Cert.ReferenceAgateIdeal.τ).loc Cert.ReferenceAgateIdeal.main_arg2)) = M m c := by
    rw [h2]
    funext y
    idx_vars y
    exact nm_apply _ _ y0 y1
  have hv : nv (G m c) (m' ((c : Thread Cert.ReferenceAgateIdeal.nD Cert.ReferenceAgateIdeal.τ).loc Cert.ReferenceAgateIdeal.main_arg3)) = W m c := by
    rw [h3]
    funext y
    idx_vars y
    exact nv_apply _ _ y0 y1
  have hd : delta (m' ((c : Thread Cert.ReferenceAgateIdeal.nD Cert.ReferenceAgateIdeal.τ).loc Cert.ReferenceAgateIdeal.main_arg0)) (M m c) (W m c) = D m c := by
    rw [h0]
    funext y
    idx_vars y
    exact delta_apply _ _ _ y0 y1
  refine ⟨(h c).1.trans (hg.trans (final_G m c).symm), (h c).2.1.trans (Eq.trans ?_ (final_D m c).symm),
    (h c).2.2.1.trans (Eq.trans ?_ (final_M m c).symm), (h c).2.2.2.1.trans (Eq.trans ?_ (final_V m c).symm), (h c).2.2.2.2⟩
  · rw [← hd, ← hm, ← hv, ← hg]
    rfl
  · rw [← hm, ← hg]
    rfl
  · rw [← hv, ← hg]
    rfl

end Cert.Proof
-- ==== Proof.Awin.lean ====
module

public import proofs.«01_k».proof.Defs
public import proofs.«01_k».proof.Proof.AdamStep
public import proofs.«01_k».proof.Proof.Gen.KernelAwin.Frame
public import proofs.«01_k».proof.Proof.Gen.KernelAwinIdeal.Value
public import proofs.«01_k».proof.Proof.Gen.ReferenceAwinIdeal.Run
public import Idealize.ShloMosaic.Lib.Pipeline.ValueKit
public import Idealize.ShloMosaic.Lib.Pointwise
public import Idealize.ShloMosaic.Lib.Claim
/-! # The optimiser's step of the input projection -/
@[expose] public section

set_option maxRecDepth 16384
noncomputable section
open Idealize.ShloMosaic Idealize.ShloMosaic.TcCoe Idealize.SL.Sem
open Idealize.ShloMosaic.Pipeline (Dat)

namespace Cert.ReferenceAwinIdeal.Step
open Cert.ReferenceAwinIdeal Cert.ReferenceAwinIdeal.Gen Cert.Adam

/-- The reference's gradient, moments and change of the weights. -/
def g (p0 p1 p2 p3 : FVec Ideal S8x4096x512 .bf16) : FVec Ideal S4096x2048 .f32 :=
  Host.reduceAdd (extf .f32 (concatenate S8x4096x2048 2 [⟨S8x4096x512, p0⟩, ⟨S8x4096x512, p1⟩, ⟨S8x4096x512, p2⟩, ⟨S8x4096x512, p3⟩] concatenates_S8x4096x512_S8x4096x512_S8x4096x512_S8x4096x512_S8x4096x2048_d2) bitsLt_bf16_f32) (constant S_ .f32 0x00000000#32) reducesTo_S8x4096x2048_S4096x2048_d0 h_S_
def nm (g m : FVec Ideal S4096x2048 .f32) : FVec Ideal S4096x2048 .f32 :=
  addf (mulf (broadcastInDim S4096x2048 ![] bcast_S_S4096x2048 (constant S_ .f32 0x3F666666#32)) m) (mulf (broadcastInDim S4096x2048 ![] bcast_S_S4096x2048 (constant S_ .f32 0x3DCCCCCD#32)) g)
def nv (g v : FVec Ideal S4096x2048 .f32) : FVec Ideal S4096x2048 .f32 :=
  addf (mulf (broadcastInDim S4096x2048 ![] bcast_S_S4096x2048 (constant S_ .f32 0x3F7FBE77#32)) v) (mulf (broadcastInDim S4096x2048 ![] bcast_S_S4096x2048 (constant S_ .f32 0x3A83126F#32)) (mulf g g))
def delta (w nm nv : FVec Ideal S4096x2048 .f32) : FVec Ideal S4096x2048 .f32 :=
  mulf (broadcastInDim S4096x2048 ![] bcast_S_S4096x2048 (constant S_ .f32 0xBA83126F#32)) (addf (Host.divf (Host.divf nm (broadcastInDim S4096x2048 ![] bcast_S_S4096x2048 (constant S_ .f32 0x3F26BD02#32))) (addf (Host.sqrt (Host.divf nv (broadcastInDim S4096x2048 ![] bcast_S_S4096x2048 (constant S_ .f32 0x3C231ACC#32)))) (broadcastInDim S4096x2048 ![] bcast_S_S4096x2048 (constant S_ .f32 0x322BCC77#32)))) (mulf (broadcastInDim S4096x2048 ![] bcast_S_S4096x2048 (constant S_ .f32 0x3C23D70A#32)) w))

/-- The part that holds a column, and the column in it. -/
def part (p0 p1 p2 p3 : FVec Ideal S8x4096x512 .bf16) (q : ℕ) : FVec Ideal S8x4096x512 .bf16 :=
  if q = 0 then p0 else if q = 1 then p1 else if q = 2 then p2 else p3
def col (j : Fin 2048) : Fin 512 := ⟨j.val % 512, by omega⟩

theorem g_apply (p0 p1 p2 p3 : FVec Ideal S8x4096x512 .bf16) (i : Fin 4096) (j : Fin 2048) :
    g p0 p1 p2 p3 (ix2 i j) = grad fun d => part p0 p1 p2 p3 (j.val / 512) (ix3 d i (col j)) := by
  pointwise [g, grad, part, col]
  refine Finset.sum_congr rfl fun d _ => ?_
  by_cases h0 : j.val < 512
  · rw [dif_pos h0, if_pos (show j.val / 512 = 0 by omega)]
    simp only [Nat.mod_eq_of_lt h0]
  rw [dif_neg h0, if_neg (show ¬ j.val / 512 = 0 by omega)]
  by_cases h1 : j.val < 1024
  · rw [dif_pos (show j.val - 512 < 512 by omega), if_pos (show j.val / 512 = 1 by omega)]
    simp only [show j.val - 512 = j.val % 512 by omega]
  rw [dif_neg (show ¬ j.val - 512 < 512 by omega), if_neg (show ¬ j.val / 512 = 1 by omega)]
  by_cases h2 : j.val < 1536
  · rw [dif_pos (show j.val - 512 - 512 < 512 by omega), if_pos (show j.val / 512 = 2 by omega)]
    simp only [show j.val - 512 - 512 = j.val % 512 by omega]
  · rw [dif_neg (show ¬ j.val - 512 - 512 < 512 by omega), if_neg (show ¬ j.val / 512 = 2 by omega)]
    simp only [show j.val - 512 - 512 - 512 = j.val % 512 by omega]
theorem nm_apply (g m : FVec Ideal S4096x2048 .f32) (i : Fin 4096) (j : Fin 2048) : nm g m (ix2 i j) = mom (g (ix2 i j)) (m (ix2 i j)) := by
  pointwise [nm, mom]
theorem nv_apply (g v : FVec Ideal S4096x2048 .f32) (i : Fin 4096) (j : Fin 2048) : nv g v (ix2 i j) = sec (g (ix2 i j)) (v (ix2 i j)) := by
  pointwise [nv, sec]
theorem delta_apply (w a b : FVec Ideal S4096x2048 .f32) (i : Fin 4096) (j : Fin 2048) : delta w a b (ix2 i j) = move (w (ix2 i j)) (a (ix2 i j)) (b (ix2 i j)) := by
  pointwise [delta, move]

end Cert.ReferenceAwinIdeal.Step

namespace Cert.KernelAwinIdeal.Step
open Cert.KernelAwinIdeal Cert.KernelAwinIdeal.Gen Cert.Adam

variable (m : (ℓ : Loc nD τ sig) → Buf (Elt Ideal) ℓ)

theorem idx : ∀ t : Fin cfg0.N, win0_0.index t = ![t.val / 4, t.val % 4] ∧ win0_1.index t = ![0, t.val / 4, 0] ∧ win0_2.index t = ![0, t.val / 4, 0]
    ∧ win0_3.index t = ![0, t.val / 4, 0] ∧ win0_4.index t = ![0, t.val / 4, 0] ∧ win0_5.index t = ![t.val / 4, t.val % 4] ∧ win0_6.index t = ![t.val / 4, t.val % 4]
    ∧ win0_7.index t = ![t.val / 4, t.val % 4] ∧ win0_8.index t = ![t.val / 4, t.val % 4] ∧ win0_9.index t = ![t.val / 4, t.val % 4]
    ∧ win0_10.index t = ![t.val / 4, t.val % 4] ∧ t.val < 128 :=
  (by decide +kernel : ∀ t : Fin grid0.N, _)

/-- The operands in the launch memory, and the gradient. -/
def w (c : Dev nD) : FVec Ideal S4096x2048 .f32 := m ((c : Thread nD τ).loc main_arg0)
def p0 (c : Dev nD) : FVec Ideal S8x4096x512 .bf16 := m ((c : Thread nD τ).loc main_arg1)
def p1 (c : Dev nD) : FVec Ideal S8x4096x512 .bf16 := m ((c : Thread nD τ).loc main_arg2)
def p2 (c : Dev nD) : FVec Ideal S8x4096x512 .bf16 := m ((c : Thread nD τ).loc main_arg3)
def p3 (c : Dev nD) : FVec Ideal S8x4096x512 .bf16 := m ((c : Thread nD τ).loc main_arg4)
def m1 (c : Dev nD) : FVec Ideal S4096x2048 .f32 := m ((c : Thread nD τ).loc main_arg5)
def m2 (c : Dev nD) : FVec Ideal S4096x2048 .f32 := m ((c : Thread nD τ).loc main_arg6)
def gr (c : Dev nD) (i : Fin 4096) (j : Fin 2048) : EReal :=
  grad fun d => ReferenceAwinIdeal.Step.part (p0 m c) (p1 m c) (p2 m c) (p3 m c) (j.val / 512) (ix3 d i (ReferenceAwinIdeal.Step.col j))

/-- Row `p` and column `k` of point `t`. -/
def row (t : Fin cfg0.N) (p : Fin 128) : Fin 4096 := ⟨t.val / 4 * 128 + p.val, by have := (idx t).2.2.2.2.2.2.2.2.2.2.2; omega⟩
def pcol (t : Fin cfg0.N) (k : Fin 512) : Fin 2048 := ⟨t.val % 4 * 512 + k.val, by omega⟩

theorem blk_w (c : Dev nD) (t : Fin cfg0.N) (p : Fin 128) (k : Fin 512) : (iblk m c 0 t : Vec Ideal S128x512 .f32) (ix2 p k) = w m c (ix2 (row t p) (pcol t k)) := by
  blk_ext [iblk, V, idx t, w, row, pcol]
theorem blk_p0 (c : Dev nD) (t : Fin cfg0.N) (d : Fin 8) (p : Fin 128) (k : Fin 512) : (iblk m c 1 t : Vec Ideal S8x128x512 .bf16) (ix3 d p k) = p0 m c (ix3 d (row t p) k) := by
  blk_ext [iblk, V, idx t, p0, row]
theorem blk_p1 (c : Dev nD) (t : Fin cfg0.N) (d : Fin 8) (p : Fin 128) (k : Fin 512) : (iblk m c 2 t : Vec Ideal S8x128x512 .bf16) (ix3 d p k) = p1 m c (ix3 d (row t p) k) := by
  blk_ext [iblk, V, idx t, p1, row]
theorem blk_p2 (c : Dev nD) (t : Fin cfg0.N) (d : Fin 8) (p : Fin 128) (k : Fin 512) : (iblk m c 3 t : Vec Ideal S8x128x512 .bf16) (ix3 d p k) = p2 m c (ix3 d (row t p) k) := by
  blk_ext [iblk, V, idx t, p2, row]
theorem blk_p3 (c : Dev nD) (t : Fin cfg0.N) (d : Fin 8) (p : Fin 128) (k : Fin 512) : (iblk m c 4 t : Vec Ideal S8x128x512 .bf16) (ix3 d p k) = p3 m c (ix3 d (row t p) k) := by
  blk_ext [iblk, V, idx t, p3, row]
theorem blk_m1 (c : Dev nD) (t : Fin cfg0.N) (p : Fin 128) (k : Fin 512) : (iblk m c 5 t : Vec Ideal S128x512 .f32) (ix2 p k) = m1 m c (ix2 (row t p) (pcol t k)) := by
  blk_ext [iblk, V, idx t, m1, row, pcol]
theorem blk_m2 (c : Dev nD) (t : Fin cfg0.N) (p : Fin 128) (k : Fin 512) : (iblk m c 6 t : Vec Ideal S128x512 .f32) (ix2 p k) = m2 m c (ix2 (row t p) (pcol t k)) := by
  blk_ext [iblk, V, idx t, m2, row, pcol]

theorem pay1 (g a : Vec Ideal S128x512 .f32) (p : Fin 128) (k : Fin 512) : k0_pay1 g a (ix2 p k) = mom (g (ix2 p k)) (a (ix2 p k)) := by
  pointwise [k0_pay1, mom]
theorem pay2 (g a : Vec Ideal S128x512 .f32) (p : Fin 128) (k : Fin 512) : k0_pay2 g a (ix2 p k) = sec (g (ix2 p k)) (a (ix2 p k)) := by
  pointwise [k0_pay2, sec]
theorem pay3 (g w a b : Vec Ideal S128x512 .f32) (p : Fin 128) (k : Fin 512) :
    k0_pay3 g w a b (ix2 p k) = move (w (ix2 p k)) (mom (g (ix2 p k)) (a (ix2 p k))) (sec (g (ix2 p k)) (b (ix2 p k))) := by
  rw [← pay1, ← pay2]
  pointwise [k0_pay3, move]

/-- A point's contents of the four results, and the gradient that it sums. -/
def outs (c : Dev nD) (t : Fin cfg0.N) : Vec Ideal S128x512 .f32 × Vec Ideal S128x512 .f32 × Vec Ideal S128x512 .f32 × Vec Ideal S128x512 .f32 := outsAt0 m c t.val t.isLt
def gsum (c : Dev nD) (t : Fin cfg0.N) : Vec Ideal S128x512 .f32 := (outs m c t).1

/-- Each point runs one of four cases. -/
theorem cases {P : Prop} (t : ℕ) (h0 : t % 4 = 0 → P) (h1 : t % 4 = 1 → P) (h2 : t % 4 = 2 → P) (h3 : t % 4 = 3 → P) : P := by
  rcases (by omega : t % 4 = 0 ∨ t % 4 = 1 ∨ t % 4 = 2 ∨ t % 4 = 3) with h | h | h | h
  · exact h0 h
  · exact h1 h
  · exact h2 h
  · exact h3 h

theorem gr_eq (c : Dev nD) (t : Fin cfg0.N) (p : Fin 128) (k : Fin 512) : gr m c (row t p) (pcol t k)
    = grad fun d => ReferenceAwinIdeal.Step.part (p0 m c) (p1 m c) (p2 m c) (p3 m c) (t.val % 4) (ix3 d (row t p) k) := by
  rw [gr]
  have h1 : (pcol t k).val / 512 = t.val % 4 := by simp only [pcol]; omega
  have h2 : ReferenceAwinIdeal.Step.col (pcol t k) = k := Fin.ext (by simp only [pcol, ReferenceAwinIdeal.Step.col]; omega)
  rw [h1, h2]

theorem gsum_apply (c : Dev nD) (t : Fin cfg0.N) (p : Fin 128) (k : Fin 512) : gsum m c t (ix2 p k) = gr m c (row t p) (pcol t k) := by
  rw [gr_eq, ← grad_eq]
  refine cases t.val (fun h => ?_) (fun h => ?_) (fun h => ?_) (fun h => ?_)
  all_goals simp only [ReferenceAwinIdeal.Step.part, h, if_pos, if_neg, reduceIte, ← blk_p0, ← blk_p1, ← blk_p2, ← blk_p3, OfNat.ofNat_ne_zero, OfNat.ofNat_ne_one, one_ne_zero]
  · rw [gsum, outs, outsAt0_A m c t h (by omega) (by omega) (by omega)]
    frame_out
    pointwise [k0_pay13]
  · rw [gsum, outs, outsAt0_B m c t (by omega) h (by omega) (by omega)]
    frame_out
    pointwise [k0_pay14]
  · rw [gsum, outs, outsAt0_C m c t (by omega) (by omega) h (by omega)]
    frame_out
    pointwise [k0_pay15]
  · rw [gsum, outs, outsAt0_D m c t (by omega) (by omega) (by omega) h]
    frame_out
    pointwise [k0_pay16]
    simp only [blk_p3]

/-- The other three results of a point are computed from the gradient that it sums. -/
theorem outs_eq (c : Dev nD) (t : Fin cfg0.N) (p : Fin 128) (k : Fin 512) :
    (outs m c t).2.1 (ix2 p k) = k0_pay3 (gsum m c t) (iblk m c 0 t) (iblk m c 5 t) (iblk m c 6 t) (ix2 p k)
    ∧ (outs m c t).2.2.1 (ix2 p k) = k0_pay1 (gsum m c t) (iblk m c 5 t) (ix2 p k)
    ∧ (outs m c t).2.2.2 (ix2 p k) = k0_pay2 (gsum m c t) (iblk m c 6 t) (ix2 p k) := by
  refine cases t.val (fun h => ?_) (fun h => ?_) (fun h => ?_) (fun h => ?_)
  · rw [gsum, outs, outsAt0_A m c t h (by omega) (by omega) (by omega)]
    refine ⟨?_, ?_, ?_⟩
    all_goals frame_out
  · rw [gsum, outs, outsAt0_B m c t (by omega) h (by omega) (by omega)]
    refine ⟨?_, ?_, ?_⟩
    all_goals frame_out
    all_goals rfl
  · rw [gsum, outs, outsAt0_C m c t (by omega) (by omega) h (by omega)]
    refine ⟨?_, ?_, ?_⟩
    all_goals frame_out
    all_goals rfl
  · rw [gsum, outs, outsAt0_D m c t (by omega) (by omega) (by omega) h]
    refine ⟨?_, ?_, ?_⟩
    all_goals frame_out
    all_goals rfl

theorem out_d (c : Dev nD) (t : Fin cfg0.N) (p : Fin 128) (k : Fin 512) : (outs m c t).2.1 (ix2 p k)
    = move (w m c (ix2 (row t p) (pcol t k))) (mom (gr m c (row t p) (pcol t k)) (m1 m c (ix2 (row t p) (pcol t k)))) (sec (gr m c (row t p) (pcol t k)) (m2 m c (ix2 (row t p) (pcol t k)))) := by
  rw [(outs_eq m c t p k).1, pay3, gsum_apply, blk_w, blk_m1, blk_m2]
theorem out_m (c : Dev nD) (t : Fin cfg0.N) (p : Fin 128) (k : Fin 512) : (outs m c t).2.2.1 (ix2 p k)
    = mom (gr m c (row t p) (pcol t k)) (m1 m c (ix2 (row t p) (pcol t k))) := by
  rw [(outs_eq m c t p k).2.1, pay1, gsum_apply, blk_m1]
theorem out_v (c : Dev nD) (t : Fin cfg0.N) (p : Fin 128) (k : Fin 512) : (outs m c t).2.2.2 (ix2 p k)
    = sec (gr m c (row t p) (pcol t k)) (m2 m c (ix2 (row t p) (pcol t k))) := by
  rw [(outs_eq m c t p k).2.2, pay2, gsum_apply, blk_m2]

/-- The four results. -/
def G (c : Dev nD) : FVec Ideal S4096x2048 .f32 := fun y => gr m c (y 0) (y 1)
def D (c : Dev nD) : FVec Ideal S4096x2048 .f32 := fun y =>
  move (w m c (ix2 (y 0) (y 1))) (mom (gr m c (y 0) (y 1)) (m1 m c (ix2 (y 0) (y 1)))) (sec (gr m c (y 0) (y 1)) (m2 m c (ix2 (y 0) (y 1))))
def M (c : Dev nD) : FVec Ideal S4096x2048 .f32 := fun y => mom (gr m c (y 0) (y 1)) (m1 m c (ix2 (y 0) (y 1)))
def W (c : Dev nD) : FVec Ideal S4096x2048 .f32 := fun y => sec (gr m c (y 0) (y 1)) (m2 m c (ix2 (y 0) (y 1)))

/-- An array's element at equal rows and columns. -/
theorem at_eq (f : FVec Ideal S4096x2048 .f32) {i : Fin 4096} {j : Fin 2048} {y : S4096x2048.Idx} (h1 : i.val = (y 0).val) (h2 : j.val = (y 1).val) : f (ix2 i j) = f y := by
  congr 1
  funext a
  refine Fin.cases ?_ (fun a => Fin.cases ?_ (fun a => a.elim0) a) a
  · exact Fin.ext h1
  · exact Fin.ext h2

theorem final_G (c : Dev nD) : (dats m 0 c).arrAt 7 cfg0.N = G m c := by
  refine (dats m 0 c).arrAt_eq_of_covers 7 _ (by decide +kernel) fun t hf y => ?_
  blk_simp
  rw [after0_7]
  idx_vars y
  refine (gsum_apply m c t y0 y1).trans (at_eq (G m c) (i := row t y0) (j := pcol t y1) ?_ ?_)
  all_goals blk_simp [idx t, row, pcol]
theorem final_D (c : Dev nD) : (dats m 0 c).arrAt 8 cfg0.N = D m c := by
  refine (dats m 0 c).arrAt_eq_of_covers 8 _ (by decide +kernel) fun t hf y => ?_
  blk_simp
  rw [after0_8]
  idx_vars y
  refine (out_d m c t y0 y1).trans (at_eq (D m c) (i := row t y0) (j := pcol t y1) ?_ ?_)
  all_goals blk_simp [idx t, row, pcol]
theorem final_M (c : Dev nD) : (dats m 0 c).arrAt 9 cfg0.N = M m c := by
  refine (dats m 0 c).arrAt_eq_of_covers 9 _ (by decide +kernel) fun t hf y => ?_
  blk_simp
  rw [after0_9]
  idx_vars y
  refine (out_m m c t y0 y1).trans (at_eq (M m c) (i := row t y0) (j := pcol t y1) ?_ ?_)
  all_goals blk_simp [idx t, row, pcol]
theorem final_V (c : Dev nD) : (dats m 0 c).arrAt 10 cfg0.N = W m c := by
  refine (dats m 0 c).arrAt_eq_of_covers 10 _ (by decide +kernel) fun t hf y => ?_
  blk_simp
  rw [after0_10]
  idx_vars y
  refine (out_v m c t y0 y1).trans (at_eq (W m c) (i := row t y0) (j := pcol t y1) ?_ ?_)
  all_goals blk_simp [idx t, row, pcol]

end Cert.KernelAwinIdeal.Step

namespace Cert.Proof
open Cert.KernelAwinIdeal.Step (G D M W final_G final_D final_M final_V)
open Cert.ReferenceAwinIdeal.Step

theorem awin_ref_frame : Cert.quiescent_ReferenceAwinIdeal := fun m ρ _ =>
  (θ_run Cert.ReferenceAwinIdeal.defs _ _).mono (fun _ h => ⟨fun c => (h c).2.2.2.2, sem_eq_zero_of_no_sems (by decide) _⟩)
    (Cert.ReferenceAwinIdeal.Value.run (F := Ideal) m ρ)

theorem awin_algebraic : Cert.algebraic_KernelAwinIdeal_ReferenceAwinIdeal := by
  intro m ρ m' ρ' _ hin
  refine ⟨_, _, _, _, Cert.KernelAwinIdeal.Value.run_blocks m ρ, ?_⟩
  refine (θ_run Cert.ReferenceAwinIdeal.defs _ _).mono (fun r h c => ?_) (Cert.ReferenceAwinIdeal.Value.run (F := Ideal) m' ρ')
  obtain ⟨h0, h1, h1a, h1b, h1c, h2, h3⟩ := hin c
  have hg : g (m' ((c : Thread Cert.ReferenceAwinIdeal.nD Cert.ReferenceAwinIdeal.τ).loc Cert.ReferenceAwinIdeal.main_arg1)) (m' ((c : Thread Cert.ReferenceAwinIdeal.nD Cert.ReferenceAwinIdeal.τ).loc Cert.ReferenceAwinIdeal.main_arg2)) (m' ((c : Thread Cert.ReferenceAwinIdeal.nD Cert.ReferenceAwinIdeal.τ).loc Cert.ReferenceAwinIdeal.main_arg3)) (m' ((c : Thread Cert.ReferenceAwinIdeal.nD Cert.ReferenceAwinIdeal.τ).loc Cert.ReferenceAwinIdeal.main_arg4)) = G m c := by
    rw [h1, h1a, h1b, h1c]
    funext y
    idx_vars y
    exact g_apply _ _ _ _ y0 y1
  have hm : nm (G m c) (m' ((c : Thread Cert.ReferenceAwinIdeal.nD Cert.ReferenceAwinIdeal.τ).loc Cert.ReferenceAwinIdeal.main_arg5)) = M m c := by
    rw [h2]
    funext y
    idx_vars y
    exact nm_apply _ _ y0 y1
  have hv : nv (G m c) (m' ((c : Thread Cert.ReferenceAwinIdeal.nD Cert.ReferenceAwinIdeal.τ).loc Cert.ReferenceAwinIdeal.main_arg6)) = W m c := by
    rw [h3]
    funext y
    idx_vars y
    exact nv_apply _ _ y0 y1
  have hd : delta (m' ((c : Thread Cert.ReferenceAwinIdeal.nD Cert.ReferenceAwinIdeal.τ).loc Cert.ReferenceAwinIdeal.main_arg0)) (M m c) (W m c) = D m c := by
    rw [h0]
    funext y
    idx_vars y
    exact delta_apply _ _ _ y0 y1
  refine ⟨(h c).1.trans (hg.trans (final_G m c).symm), (h c).2.1.trans (Eq.trans ?_ (final_D m c).symm),
    (h c).2.2.1.trans (Eq.trans ?_ (final_M m c).symm), (h c).2.2.2.1.trans (Eq.trans ?_ (final_V m c).symm), (h c).2.2.2.2⟩
  · rw [← hd, ← hm, ← hv, ← hg]
    rfl
  · rw [← hm, ← hg]
    rfl
  · rw [← hv, ← hg]
    rfl

end Cert.Proof
-- ==== Proof.NormStep.lean ====
module

public import Idealize.ShloMosaic.Lib.Pointwise
/-! # One element of a modulated norm -/
@[expose] public section

noncomputable section
open Idealize.ShloMosaic

namespace Cert.NormStep

/-- A row's element `x j` over the root mean square of the row, with the gain, the modulation and the shift. -/
def modulated (x : Fin 4096 → EReal) (g sc sh : EReal) (j : Fin 4096) : EReal :=
  x j * Ideal.rsqrt (Ideal.div (∑ k, x k * x k) (Scalar.ofBits (F := Ideal) .f32 0x45800000#32) + Scalar.ofBits (F := Ideal) .f32 0x358637BD#32) * g * (1 + sc) + sh

end Cert.NormStep
-- ==== Proof.Nlat.lean ====
module

public import proofs.«01_k».proof.Defs
public import proofs.«01_k».proof.Proof.NormStep
public import proofs.«01_k».proof.Proof.Gen.KernelNlat.Frame
public import proofs.«01_k».proof.Proof.Gen.KernelNlatIdeal.Frame
public import proofs.«01_k».proof.Proof.Gen.ReferenceNlatIdeal.Run
public import Idealize.ShloMosaic.Lib.Pipeline.ValueKit
public import Idealize.ShloMosaic.Lib.Pointwise
public import Idealize.ShloMosaic.Lib.Claim
/-! # The norm and the modulation of the latents

The call writes the latents' rows of an array of all tokens, and the program's result is the rows that it writes. -/
@[expose] public section

set_option maxRecDepth 16384
noncomputable section
open Idealize.ShloMosaic Idealize.ShloMosaic.TcCoe Idealize.SL.Sem
open Idealize.ShloMosaic.Pipeline (Dat)

namespace Cert.ReferenceNlatIdeal.Norm
open Cert.ReferenceNlatIdeal Cert.ReferenceNlatIdeal.Gen Cert.NormStep

/-- The reference's result as a function of its operands. -/
def normed (x : FVec Ideal S4096x4096 .f32) (g sh sc : FVec Ideal S1x4096 .f32) : FVec Ideal S4096x4096 .bf16 :=
  truncf .bf16 (addf (mulf (mulf (mulf x (broadcastInDim S4096x4096 ![0, 1] bcast_S4096x1_S4096x4096_0_1 (Host.rsqrt (addf (Host.divf (broadcastInDim S4096x1 ![0] bcast_S4096_S4096x1_0 (Host.reduceAdd (mulf x x) (constant S_ .f32 0x00000000#32) reducesTo_S4096x4096_S4096_d1 h_S_)) (broadcastInDim S4096x1 ![] bcast_S_S4096x1 (constant S_ .f32 0x45800000#32))) (broadcastInDim S4096x1 ![] bcast_S_S4096x1 (constant S_ .f32 0x358637BD#32)))))) (broadcastInDim S4096x4096 ![0, 1] bcast_S1x4096_S4096x4096_0_1 g)) (broadcastInDim S4096x4096 ![0, 1] bcast_S1x4096_S4096x4096_0_1 (addf (broadcastInDim S1x4096 ![] bcast_S_S1x4096 (constant S_ .f32 0x3F800000#32)) sc))) (broadcastInDim S4096x4096 ![0, 1] bcast_S1x4096_S4096x4096_0_1 sh)) bitsLt_bf16_f32

theorem normed_apply (x : FVec Ideal S4096x4096 .f32) (g sh sc : FVec Ideal S1x4096 .f32) (i j : Fin 4096) :
    normed x g sh sc (ix2 i j) = modulated (fun k => x (ix2 i k)) (g (ix2 0 j)) (sc (ix2 0 j)) (sh (ix2 0 j)) j := by
  pointwise [normed, modulated]

/-- The latent of row `i` of all tokens. -/
def lat (i : Fin 4352) : Fin 4096 := ⟨(i.val + 3840) % 4096, by omega⟩

end Cert.ReferenceNlatIdeal.Norm

namespace Cert.KernelNlatIdeal.Norm
open Cert.KernelNlatIdeal Cert.KernelNlatIdeal.Gen Cert.NormStep Cert.ReferenceNlatIdeal.Norm

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![0, 0] ∧ win0_4.index t = ![t.val + 1, 0] ∧ t.val < 16 :=
  (by decide +kernel : ∀ t : Fin grid0.N, _)

/-- The operands in the launch memory. -/
def x (c : Dev nD) : FVec Ideal S4096x4096 .f32 := m ((c : Thread nD τ).loc main_arg0)
def g (c : Dev nD) : FVec Ideal S1x4096 .f32 := m ((c : Thread nD τ).loc main_arg1)
def sh (c : Dev nD) : FVec Ideal S1x4096 .f32 := m ((c : Thread nD τ).loc main_arg2)
def sc (c : Dev nD) : FVec Ideal S1x4096 .f32 := m ((c : Thread nD τ).loc main_arg3)

/-- Row `p` of point `t`. -/
def prow (t : Fin cfg0.N) (p : Fin 256) : Fin 4096 := ⟨t.val * 256 + p.val, by have := (idx t).2.2.2.2.2; omega⟩

theorem blk_x (c : Dev nD) (t : Fin cfg0.N) (p : Fin 256) (k : Fin 4096) : (iblk m c 0 t : Vec Ideal S256x4096 .f32) (ix2 p k) = x m c (ix2 (prow t p) k) := by
  blk_ext [iblk, V, idx t, x, prow]
theorem blk_g (c : Dev nD) (t : Fin cfg0.N) (k : Fin 4096) : (iblk m c 1 t : Vec Ideal S1x4096 .f32) (ix2 0 k) = g m c (ix2 0 k) := by
  blk_ext [iblk, V, idx t, g]
theorem blk_sh (c : Dev nD) (t : Fin cfg0.N) (k : Fin 4096) : (iblk m c 2 t : Vec Ideal S1x4096 .f32) (ix2 0 k) = sh m c (ix2 0 k) := by
  blk_ext [iblk, V, idx t, sh]
theorem blk_sc (c : Dev nD) (t : Fin cfg0.N) (k : Fin 4096) : (iblk m c 3 t : Vec Ideal S1x4096 .f32) (ix2 0 k) = sc m c (ix2 0 k) := by
  blk_ext [iblk, V, idx t, sc]

theorem pay (x : Vec Ideal S256x4096 .f32) (g sc sh : Vec Ideal S1x4096 .f32) (p : Fin 256) (k : Fin 4096) :
    k0_pay1 x g sc sh (ix2 p k) = modulated (fun j => x (ix2 p j)) (g (ix2 0 k)) (sc (ix2 0 k)) (sh (ix2 0 k)) k := by
  pointwise [k0_pay1, modulated]

/-- The latents' result at one element. -/
def one (c : Dev nD) (i j : Fin 4096) : EReal :=
  modulated (fun k => x m c (ix2 i k)) (g m c (ix2 0 j)) (sc m c (ix2 0 j)) (sh m c (ix2 0 j)) j

theorem point (c : Dev nD) (t : Fin cfg0.N) (p : Fin 256) (k : Fin 4096) :
    out0_4 (iblk m c 0 t) (iblk m c 1 t) (iblk m c 2 t) (iblk m c 3 t) (ix2 p k) = one m c (prow t p) k := by
  unfold out0_4
  frame_out
  refine (pay _ _ _ _ p k).trans ?_
  rw [blk_g, blk_sc, blk_sh, one]
  simp only [blk_x]

theorem final (c : Dev nD) : (dats m 0 c).arrAt 4 cfg0.N = fun y => if 1 ≤ (y 0).val / 256
    then one m c (lat (y 0)) (y 1) else V m c main_v0 y := by
  refine (dats m 0 c).arrAt_eq_of_coversWhere 4 _ (fun β => 1 ≤ β (0 : Fin _)) (by decide +kernel) (fun t hf y => ?_) (fun j => Iff.rfl)
  blk_simp
  rw [after0_4]
  idx_vars y
  refine (point m c t y0 y1).trans (congrArg₂ (one m c) (Fin.ext ?_) (Fin.ext ?_))
  all_goals blk_simp [idx t, prow, lat]
  show t.val * 256 + y0.val = ((t.val + 1) * 256 + y0.val + 3840) % 4096
  have := (idx t).2.2.2.2.2
  omega

variable (ρ : Dev nD → PrngReg)

/-- The rows that the program returns, of an array. -/
def rows (a : FVec Ideal S4352x4096 .bf16) : FVec Ideal S4096x4096 .bf16 :=
  extractStridedSlice S4096x4096 ![256, 0] a slices_S4352x4096_S4096x4096_256_0

theorem rows_apply (a : FVec Ideal S4352x4096 .bf16) (i j : Fin 4096) : rows a (ix2 i j) = a (ix2 ⟨256 + i.val, by omega⟩ j) := by
  pointwise [rows]

/-- The result after the host code that follows the call. -/
theorem tail (c : Dev nD) : Pipeline.afterTail₀ cfgs (dats m) 0 (V0 m) [hostOps1] c main_v1 = rows ((dats m 0 c).arrAt 4 cfg0.N) := by
  have e : Pipeline.withArrays (cfgs 0).spec c (V0 m c) (fun w => (dats m 0 c).arrAt w (cfgs 0).N) (Proc.devRef .tc main_v0) = (dats m 0 c).arrAt 4 cfg0.N :=
    Pipeline.withArrays_arr (cfgs 0).spec (by decide) c _ _ 4
  rw [← e]
  unfold Pipeline.afterTail₀
  simp only [List.flatten_cons, List.flatten_nil, List.append_nil]
  after_results
  rfl

theorem run_blocks : θ_run defs (onTc (τ := τ) (main (F := Ideal))) ⟨m, fun _ => 0, ρ⟩ fun r => ∀ c : Dev nD,
      r.2.mem ((c : Thread nD τ).loc main_v1) = rows ((dats m 0 c).arrAt 4 cfg0.N)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h.1 c).2 main_v1 (Pipeline.mem_restRefs_of main_v1 (by decide) (by decide))).trans (tail m c), h.2 c⟩)
    (θ_run_and (run_main m ρ) (unchanged m ρ))

end Cert.KernelNlatIdeal.Norm

namespace Cert.Proof

theorem nlat_ref_frame : Cert.quiescent_ReferenceNlatIdeal := fun m ρ _ =>
  (θ_run Cert.ReferenceNlatIdeal.defs _ _).mono (fun _ h => ⟨fun c => (h c).2, sem_eq_zero_of_no_sems (by decide) _⟩)
    (Cert.ReferenceNlatIdeal.Value.run (F := Ideal) m ρ)

theorem nlat_algebraic : Cert.algebraic_KernelNlatIdeal_ReferenceNlatIdeal := by
  intro m ρ m' ρ' _ hin
  refine ⟨_, Cert.KernelNlatIdeal.Norm.run_blocks m ρ, ?_⟩
  refine (θ_run Cert.ReferenceNlatIdeal.defs _ _).mono (fun r h c => ?_) (Cert.ReferenceNlatIdeal.Value.run (F := Ideal) m' ρ')
  obtain ⟨h0, h1, h2, h3⟩ := hin c
  refine ⟨(h c).1.trans ?_, (h c).2⟩
  rw [Cert.KernelNlatIdeal.Norm.final, h0, h1, h2, h3]
  funext y
  idx_vars y
  refine (Cert.ReferenceNlatIdeal.Norm.normed_apply _ _ _ _ y0 y1).trans ?_
  refine Eq.trans ?_ (Cert.KernelNlatIdeal.Norm.rows_apply _ y0 y1).symm
  refine Eq.trans ?_ (if_pos (by show 1 ≤ (256 + y0.val) / 256; omega)).symm
  exact congrArg (fun i => Cert.KernelNlatIdeal.Norm.one m c i y1) (Fin.ext (by show y0.val = (256 + y0.val + 3840) % 4096; omega))

end Cert.Proof
-- ==== Proof.Nctx.lean ====
module

public import proofs.«01_k».proof.Defs
public import proofs.«01_k».proof.Proof.NormStep
public import proofs.«01_k».proof.Proof.Gen.KernelNctx.Frame
public import proofs.«01_k».proof.Proof.Gen.KernelNctxIdeal.Value
public import proofs.«01_k».proof.Proof.Gen.ReferenceNctxIdeal.Run
public import Idealize.ShloMosaic.Lib.Pipeline.ValueKit
public import Idealize.ShloMosaic.Lib.Pointwise
public import Idealize.ShloMosaic.Lib.Claim
/-! # The norm and the modulation of the context's tokens

The call writes the context's 256 rows of an array that it updates in place. -/
@[expose] public section

set_option maxRecDepth 16384
noncomputable section
open Idealize.ShloMosaic Idealize.ShloMosaic.TcCoe Idealize.SL.Sem
open Idealize.ShloMosaic.Pipeline (Dat)

namespace Cert.ReferenceNctxIdeal.Norm
open Cert.ReferenceNctxIdeal Cert.ReferenceNctxIdeal.Gen Cert.NormStep

/-- The modulated rows that the reference puts before the others. -/
def normed (x : FVec Ideal S256x4096 .f32) (g sh sc : FVec Ideal S1x4096 .f32) : FVec Ideal S256x4096 .bf16 :=
  truncf .bf16 (addf (mulf (mulf (mulf x (broadcastInDim S256x4096 ![0, 1] bcast_S256x1_S256x4096_0_1 (Host.rsqrt (addf (Host.divf (broadcastInDim S256x1 ![0] bcast_S256_S256x1_0 (Host.reduceAdd (mulf x x) (constant S_ .f32 0x00000000#32) reducesTo_S256x4096_S256_d1 h_S_)) (broadcastInDim S256x1 ![] bcast_S_S256x1 (constant S_ .f32 0x45800000#32))) (broadcastInDim S256x1 ![] bcast_S_S256x1 (constant S_ .f32 0x358637BD#32)))))) (broadcastInDim S256x4096 ![0, 1] bcast_S1x4096_S256x4096_0_1 g)) (broadcastInDim S256x4096 ![0, 1] bcast_S1x4096_S256x4096_0_1 (addf (broadcastInDim S1x4096 ![] bcast_S_S1x4096 (constant S_ .f32 0x3F800000#32)) sc))) (broadcastInDim S256x4096 ![0, 1] bcast_S1x4096_S256x4096_0_1 sh)) bitsLt_bf16_f32

theorem normed_apply (x : FVec Ideal S256x4096 .f32) (g sh sc : FVec Ideal S1x4096 .f32) (i : Fin 256) (j : Fin 4096) :
    normed x g sh sc (ix2 i j) = modulated (fun k => x (ix2 i k)) (g (ix2 0 j)) (sc (ix2 0 j)) (sh (ix2 0 j)) j := by
  pointwise [normed, modulated]

/-- The reference's result as a function of its operands. -/
def rows (x : FVec Ideal S256x4096 .f32) (g sh sc : FVec Ideal S1x4096 .f32) (b : FVec Ideal S4352x4096 .bf16) : FVec Ideal S4352x4096 .bf16 :=
  concatenate S4352x4096 0 [⟨S256x4096, normed x g sh sc⟩, ⟨S4096x4096, (extractStridedSlice S4096x4096 ![256, 0] b slices_S4352x4096_S4096x4096_256_0)⟩] concatenates_S256x4096_S4096x4096_S4352x4096_d0

/-- Row `i` of the context. -/
def ctx (i : Fin 4352) : Fin 256 := ⟨i.val % 256, by omega⟩

theorem rows_apply (x : FVec Ideal S256x4096 .f32) (g sh sc : FVec Ideal S1x4096 .f32) (b : FVec Ideal S4352x4096 .bf16) (i : Fin 4352) (j : Fin 4096) :
    rows x g sh sc b (ix2 i j) = if i.val / 256 = 0 then modulated (fun k => x (ix2 (ctx i) k)) (g (ix2 0 j)) (sc (ix2 0 j)) (sh (ix2 0 j)) j else b (ix2 i j) := by
  unfold rows
  by_cases e : i.val / 256 = 0
  · rw [if_pos e]
    have a : ctx i = (⟨i.val, by omega⟩ : Fin 256) := Fin.ext (by show i.val % 256 = i.val; omega)
    rw [a, ← normed_apply]
    pointwise
    rw [dif_pos (show i.val < 256 by omega)]
  · rw [if_neg e]
    pointwise
    rw [dif_neg (show ¬ i.val < 256 by omega)]
    exact congrArg (fun i => b (ix2 i j)) (Fin.ext (by show 256 + (i.val - 256) = i.val; omega))

end Cert.ReferenceNctxIdeal.Norm

namespace Cert.KernelNctxIdeal.Norm
open Cert.KernelNctxIdeal Cert.KernelNctxIdeal.Gen Cert.NormStep Cert.ReferenceNctxIdeal.Norm

variable (m : (ℓ : Loc nD τ sig) → Buf (Elt Ideal) ℓ)

theorem idx : ∀ t : Fin cfg0.N, win0_0.index t = ![0, 0] ∧ win0_1.index t = ![0, 0] ∧ win0_2.index t = ![0, 0]
    ∧ win0_3.index t = ![0, 0] ∧ win0_4.index t = ![0, 0] :=
  (by decide +kernel : ∀ t : Fin grid0.N, _)

/-- The operands in the launch memory. -/
def x (c : Dev nD) : FVec Ideal S256x4096 .f32 := m ((c : Thread nD τ).loc main_arg0)
def g (c : Dev nD) : FVec Ideal S1x4096 .f32 := m ((c : Thread nD τ).loc main_arg1)
def sh (c : Dev nD) : FVec Ideal S1x4096 .f32 := m ((c : Thread nD τ).loc main_arg2)
def sc (c : Dev nD) : FVec Ideal S1x4096 .f32 := m ((c : Thread nD τ).loc main_arg3)
def prev (c : Dev nD) : FVec Ideal S4352x4096 .bf16 := m ((c : Thread nD τ).loc main_arg4)

theorem blk_x (c : Dev nD) (t : Fin cfg0.N) (p : Fin 256) (k : Fin 4096) : (iblk m c 0 t : Vec Ideal S256x4096 .f32) (ix2 p k) = x m c (ix2 p k) := by
  blk_ext [iblk, V, idx t, x]
theorem blk_g (c : Dev nD) (t : Fin cfg0.N) (k : Fin 4096) : (iblk m c 1 t : Vec Ideal S1x4096 .f32) (ix2 0 k) = g m c (ix2 0 k) := by
  blk_ext [iblk, V, idx t, g]
theorem blk_sh (c : Dev nD) (t : Fin cfg0.N) (k : Fin 4096) : (iblk m c 2 t : Vec Ideal S1x4096 .f32) (ix2 0 k) = sh m c (ix2 0 k) := by
  blk_ext [iblk, V, idx t, sh]
theorem blk_sc (c : Dev nD) (t : Fin cfg0.N) (k : Fin 4096) : (iblk m c 3 t : Vec Ideal S1x4096 .f32) (ix2 0 k) = sc m c (ix2 0 k) := by
  blk_ext [iblk, V, idx t, sc]

theorem pay (x : Vec Ideal S256x4096 .f32) (g sc sh : Vec Ideal S1x4096 .f32) (p : Fin 256) (k : Fin 4096) :
    k0_pay1 x g sc sh (ix2 p k) = modulated (fun j => x (ix2 p j)) (g (ix2 0 k)) (sc (ix2 0 k)) (sh (ix2 0 k)) k := by
  pointwise [k0_pay1, modulated]

/-- The call's rows at one element. -/
def one (c : Dev nD) (i : Fin 256) (j : Fin 4096) : EReal :=
  modulated (fun k => x m c (ix2 i k)) (g m c (ix2 0 j)) (sc m c (ix2 0 j)) (sh m c (ix2 0 j)) j

theorem point (c : Dev nD) (t : Fin cfg0.N) (p : Fin 256) (k : Fin 4096) :
    (outsAt0 m c t) (ix2 p k) = one m c p k := by
  unfold outsAt0
  frame_out
  refine (pay _ _ _ _ p k).trans ?_
  rw [blk_g, blk_sc, blk_sh, one]
  simp only [blk_x]

theorem final (c : Dev nD) : (dats m 0 c).arrAt 4 cfg0.N = fun y => if (y 0).val / 256 = 0
    then one m c (ctx (y 0)) (y 1) else V m c (Pipeline.arrRef spec0 4) y := by
  refine (dats m 0 c).arrAt_eq_of_coversWhere 4 _ (fun β => β (0 : Fin _) = 0) (by decide +kernel) (fun t hf y => ?_) (fun j => Iff.rfl)
  blk_simp
  rw [after0_4]
  idx_vars y
  refine (point m c t y0 y1).trans (congrArg₂ (one m c) (Fin.ext ?_) (Fin.ext ?_))
  all_goals blk_simp [idx t, ctx]
  exact (Nat.mod_eq_of_lt y0.isLt).symm

/-- The elements that the call does not write hold what the caller's array holds. -/
theorem before (c : Dev nD) : V m c (Pipeline.arrRef spec0 4) = prev m c := by
  entry_read
  rfl

end Cert.KernelNctxIdeal.Norm

namespace Cert.Proof

theorem nctx_ref_frame : Cert.quiescent_ReferenceNctxIdeal := fun m ρ _ =>
  (θ_run Cert.ReferenceNctxIdeal.defs _ _).mono (fun _ h => ⟨fun c => (h c).2, sem_eq_zero_of_no_sems (by decide) _⟩)
    (Cert.ReferenceNctxIdeal.Value.run (F := Ideal) m ρ)

theorem nctx_algebraic : Cert.algebraic_KernelNctxIdeal_ReferenceNctxIdeal := by
  intro m ρ m' ρ' _ hin
  refine ⟨_, Cert.KernelNctxIdeal.Value.run_blocks m ρ, ?_⟩
  refine (θ_run Cert.ReferenceNctxIdeal.defs _ _).mono (fun r h c => ?_) (Cert.ReferenceNctxIdeal.Value.run (F := Ideal) m' ρ')
  obtain ⟨h0, h1, h2, h3, h4⟩ := hin c
  refine ⟨(h c).1.trans ?_, (h c).2⟩
  rw [Cert.KernelNctxIdeal.Norm.final, Cert.KernelNctxIdeal.Norm.before, h0, h1, h2, h3, h4]
  funext y
  idx_vars y
  exact Cert.ReferenceNctxIdeal.Norm.rows_apply _ _ _ _ _ y0 y1

end Cert.Proof
-- ==== Proof.ConvTrip.lean ====
module

public import proofs.«01_k».proof.Defs
public import proofs.«01_k».proof.Proof.Gen.KernelConvIdeal.Value
public import Idealize.ShloMosaic.Lib.Pipeline.ValueKit
public import Idealize.ShloMosaic.Lib.Pointwise
public import Idealize.ShloMosaic.Lib.WordArith.Masks
/-! # The convolution's rows, one step of its loop at a time -/
@[expose] public section

set_option maxRecDepth 16384
noncomputable section
open Idealize.ShloMosaic Idealize.ShloMosaic.TcCoe Idealize.SL.Sem
open Idealize.ShloMosaic.Pipeline (Dat)

namespace Cert.KernelConvIdeal.Conv
open Cert.KernelConvIdeal Cert.KernelConvIdeal.Gen

/-- Tap `k` of row `t` is a row of the same sequence. -/
abbrev tap (t k : ℕ) : Prop := (if t < 256 then 0 else 256) + 1 ≤ t + k ∧ t + k < (if t < 256 then 256 else 4352) + 1

/-- The row that tap `k` of row `t` reads. -/
def tapRow (t k : ℕ) : Fin 4352 := ⟨(t + k + 4351) % 4352, by omega⟩

/-- The kernel's test of a tap, on words. -/
def mask (t o : BitVec 32) : BitVec 1 :=
  IntOp.andi (IntOp.cmpi .sge (IntOp.addi t o) (Scalar.select (IntOp.cmpi .slt t 256#32) 0#32 256#32))
    (IntOp.cmpi .slt (IntOp.addi t o) (Scalar.select (IntOp.cmpi .slt t 256#32) 256#32 4352#32))

theorem mask_0 : ∀ t : Fin 4352, mask (BitVec.ofNat 32 t.val) 4294967295#32 = if tap t.val 0 then 1#1 else 0#1 := by decide +kernel
theorem mask_1 : ∀ t : Fin 4352, mask (BitVec.ofNat 32 t.val) 0#32 = if tap t.val 1 then 1#1 else 0#1 := by decide +kernel
theorem mask_2 : ∀ t : Fin 4352, mask (BitVec.ofNat 32 t.val) 1#32 = if tap t.val 2 then 1#1 else 0#1 := by decide +kernel
theorem mask_3 : ∀ t : Fin 4352, mask (BitVec.ofNat 32 t.val) 2#32 = if tap t.val 3 then 1#1 else 0#1 := by decide +kernel

theorem select_mask {c : BitVec 1} {P : Prop} [Decidable P] (h : c = if P then 1#1 else 0#1) (x y : EReal) : Scalar.select c x y = if P then x else y := by
  subst h
  by_cases e : P
  · rw [if_pos e, if_pos e]; rfl
  · rw [if_neg e, if_neg e]; rfl

variable (v12 : Vec Ideal S4x256 .f32) (v13 : Vec Ideal S1x256 .f32) (k : Fin k0_t1_loop.trips) (v18 : Vec Ideal S560x256 .f32) (a : Fin 544) (q : Fin 256)

theorem trips_lt : k.val < 8 := Nat.lt_of_lt_of_le k.isLt k0_t1_abs.2.1

/-- Row `a` of step `k`. -/
def trow : Fin 4352 := ⟨544 * k.val + a.val, by have := trips_lt k; omega⟩

/-- The bias and the first tap, at any step `o` from the row. -/
def first (v21 : IVec S544x256 32) (o : BitVec 32) : FVec Ideal S544x256 .f32 :=
  have v23 : FVec Ideal S544x256 .f32 := broadcastTo S544x256 (shapeCast S1x256 v13 shapeCasts_S1x256_S1x256) broadcasts_S1x256_S544x256
  have v24 : FVec Ideal S560x256 .f32 := dynamicRotate 0 1#32 none v18 rotates_S560x256_d0
  have v26 : IVec S544x256 32 := addi v21 (broadcast S544x256 o)
  have v28 : IVec S544x256 1 := cmpi .slt v21 (broadcast S544x256 256#32)
  have v31 : IVec S544x256 32 := select v28 (broadcast S544x256 0#32) (broadcast S544x256 256#32)
  have v35 : IVec S544x256 32 := select v28 (broadcast S544x256 256#32) (broadcast S544x256 4352#32)
  have v37 : IVec S544x256 1 := andi (cmpi .sge v26 v31) (cmpi .slt v26 v35)
  have v38 : FVec Ideal S544x256 .f32 := extractStridedSlice S544x256 ![8, 0] v24 slices_S560x256_o8_0_S544x256
  have v40 : FVec Ideal S544x256 .f32 := select v37 v38 (broadcast S544x256 (Scalar.ofBits .f32 0x00000000#32))
  have v42 : FVec Ideal S544x256 .f32 := broadcastTo S544x256 (extractStridedSlice S1x256 ![0, 0] v12 slices_S4x256_o0_0_S1x256) broadcasts_S1x256_S544x256
  addf v23 (mulf v40 v42)

theorem pay6_eq : k0_pay6 v12 v13 0#32 1#32 k v18 = first v12 v13 v18 (k0_pay5 0#32 1#32 k) 4294967295#32 := rfl

theorem first_apply (v21 : IVec S544x256 32) (o : BitVec 32) : first v12 v13 v18 v21 o (ix2 a q)
    = v13 (ix2 0 q) + Scalar.select (mask (v21 (ix2 a q)) o) (v18 (ix2 ⟨7 + a.val, by omega⟩ q) * v12 (ix2 0 q)) 0 := by
  pointwise [first]
  have e : (⟨(8 + a.val + 560 - 1) % 560, by omega⟩ : Fin 560) = ⟨7 + a.val, by omega⟩ := Fin.ext (by show (8 + a.val + 560 - 1) % 560 = 7 + a.val; omega)
  rw [e]
  rfl

theorem pay8_apply (v21 : IVec S544x256 32) (v44 : FVec Ideal S544x256 .f32) (v57 : IVec S544x256 1) : k0_pay8 v12 v18 v21 v44 v57 (ix2 a q)
    = v44 (ix2 a q) + Scalar.select (v57 (ix2 a q)) (v18 (ix2 ⟨8 + a.val, by omega⟩ q) * v12 (ix2 1 q)) 0
      + Scalar.select (mask (v21 (ix2 a q)) 1#32) (v18 (ix2 ⟨9 + a.val, by omega⟩ q) * v12 (ix2 2 q)) 0 := by
  pointwise [k0_pay8]
  have e : (⟨(8 + a.val + 560 - 559) % 560, by omega⟩ : Fin 560) = ⟨9 + a.val, by omega⟩ := Fin.ext (by show (8 + a.val + 560 - 559) % 560 = 9 + a.val; omega)
  rw [e]
  rfl

theorem pay4_apply (v85 : FVec Ideal S544x256 .f32) (v99 : IVec S544x256 1) (v100 : FVec Ideal S544x256 .f32) :
    k0_pay4 v12 v85 v99 v100 (Scalar.ofBits .f32 0#32) (ix2 a q) = v85 (ix2 a q) + Scalar.select (v99 (ix2 a q)) (v100 (ix2 a q) * v12 (ix2 3 q)) 0 := by
  pointwise [k0_pay4]

theorem pay10_apply : k0_pay10 v18 (ix2 a q) = v18 (ix2 ⟨10 + a.val, by omega⟩ q) := by
  pointwise [k0_pay10]
  exact congrArg (fun i => v18 (ix2 i q)) (Fin.ext (by show (8 + a.val + 560 - 558) % 560 = 10 + a.val; omega))

theorem pay9_apply (v21 : IVec S544x256 32) : k0_pay9 v21 (ix2 a q) = mask (v21 (ix2 a q)) 2#32 := by
  pointwise [k0_pay9]
  rfl

theorem pay7_apply : k0_pay7 0#32 1#32 k (ix2 a q) = mask (k0_pay5 0#32 1#32 k (ix2 a q)) 0#32 := by
  pointwise [k0_pay7]
  rfl

theorem pay5_apply : k0_pay5 0#32 1#32 k (ix2 a q) = BitVec.ofNat 32 (trow k a).val := by
  pointwise [k0_pay5]
  have h := trips_lt k
  have e := WordArith.toNat_iv_zero_one k.val (by omega)
  apply BitVec.eq_of_toNat_eq
  show (Scf.iv 0#32 1#32 k.val * 544#32 + BitVec.ofNat 32 a.val).toNat = _
  rw [BitVec.toNat_add, BitVec.toNat_mul, e, BitVec.toNat_ofNat, BitVec.toNat_ofNat]
  show ((k.val * (544 % 2 ^ 32)) % 2 ^ 32 + a.val % 2 ^ 32) % 2 ^ 32 = (544 * k.val + a.val) % 2 ^ 32
  omega

/-- A step's rows, from its operands. -/
def tripPay : FVec Ideal S544x256 .f32 :=
  k0_pay4 v12 (k0_pay8 v12 v18 (k0_pay5 0#32 1#32 k) (k0_pay6 v12 v13 0#32 1#32 k v18) (k0_pay7 0#32 1#32 k)) (k0_pay9 (k0_pay5 0#32 1#32 k)) (k0_pay10 v18) (Scalar.ofBits .f32 0#32)

theorem tripPay_apply : tripPay v12 v13 k v18 (ix2 a q) = v13 (ix2 0 q)
    + (if tap (trow k a).val 0 then v18 (ix2 ⟨7 + a.val, by omega⟩ q) * v12 (ix2 0 q) else 0)
    + (if tap (trow k a).val 1 then v18 (ix2 ⟨8 + a.val, by omega⟩ q) * v12 (ix2 1 q) else 0)
    + (if tap (trow k a).val 2 then v18 (ix2 ⟨9 + a.val, by omega⟩ q) * v12 (ix2 2 q) else 0)
    + (if tap (trow k a).val 3 then v18 (ix2 ⟨10 + a.val, by omega⟩ q) * v12 (ix2 3 q) else 0) := by
  unfold tripPay
  rw [pay4_apply, pay8_apply, pay6_eq, first_apply, pay7_apply, pay9_apply, pay10_apply, pay5_apply,
    select_mask (mask_0 (trow k a)), select_mask (mask_1 (trow k a)), select_mask (mask_2 (trow k a)), select_mask (mask_3 (trow k a))]

end Cert.KernelConvIdeal.Conv
-- ==== Proof.Conv.lean ====
module

public import proofs.«01_k».proof.Defs
public import proofs.«01_k».proof.Proof.ConvTrip
public import proofs.«01_k».proof.Proof.Gen.KernelConv.Frame
public import proofs.«01_k».proof.Proof.Gen.KernelConvIdeal.Value
public import proofs.«01_k».proof.Proof.Gen.ReferenceConvIdeal.Run
public import Idealize.ShloMosaic.Lib.Pipeline.ValueKit
public import Idealize.ShloMosaic.Lib.Pointwise
public import Idealize.ShloMosaic.Lib.Claim
/-! # The convolution along each sequence -/
@[expose] public section

set_option maxRecDepth 16384
noncomputable section
open Idealize.ShloMosaic Idealize.ShloMosaic.TcCoe Idealize.SL.Sem
open Idealize.ShloMosaic.Pipeline (Dat)

namespace Cert.KernelConvIdeal.Conv
open Cert.KernelConvIdeal Cert.KernelConvIdeal.Gen

/-- One row of one column: the bias and the four taps that stay in the sequence. -/
def conv (x : Fin 4352 → EReal) (w : Fin 4 → EReal) (b : EReal) (t : Fin 4352) : EReal :=
  b + (if tap t.val 0 then x (tapRow t.val 0) * w 0 else 0) + (if tap t.val 1 then x (tapRow t.val 1) * w 1 else 0)
    + (if tap t.val 2 then x (tapRow t.val 2) * w 2 else 0) + (if tap t.val 3 then x (tapRow t.val 3) * w 3 else 0)

/-- The block of columns that a point writes. -/
def block (x : Vec Ideal S4352x256 .f32) (w : Vec Ideal S4x256 .f32) (b : Vec Ideal S1x256 .f32) : Vec Ideal S4352x256 .f32 := fun y =>
  conv (fun t => x (ix2 t (y 1))) (fun k => w (ix2 k (y 1))) (b (ix2 0 (y 1))) (y 0)

theorem off1_eq : ∀ k : Fin k0_t1_loop.trips, k0_off1 k = ![544 * k.val, 0] := by decide +kernel
theorem off2_eq : ∀ k : Fin k0_t1_loop.trips, k0_off2 k = ![544 * k.val, 0] := by decide +kernel

/-- The scratch block: the columns between eight rows of zeros and eight more. -/
abbrev padded (x : Vec Ideal S4352x256 .f32) : List (View.Piece (Elt Ideal) S4368x256 .f32) :=
  [⟨Rect.unit (s := S4368x256) ![8, 0] S4352x256.size inb_S4368x256_S4352x256_8_0, x⟩,
    ⟨Rect.unit (s := S4368x256) ![4360, 0] S8x256.size inb_S4368x256_S8x256_4360_0, k0_pay2 (F := Ideal)⟩,
    ⟨Rect.unit (s := S4368x256) ![0, 0] S8x256.size inb_S4368x256_S8x256_0_0, k0_pay1 (F := Ideal)⟩]

theorem padded_row (x : Vec Ideal S4352x256 .f32) (r : Fin 4352) (s : Fin 4368) (hs : s.val = 8 + r.val) (q : Fin 256) :
    View.canon (padded x) (ix2 s q) = x (ix2 r q) := by
  have e : (ix2 s q : S4368x256.Idx) = (Rect.unit (s := S4368x256) ![8, 0] S4352x256.size inb_S4368x256_S4352x256_8_0).emb (ix2 r q) := by
    funext i
    refine Fin.ext ?_
    fin_cases i
    · show s.val = 8 + 1 * r.val
      omega
    · show q.val = 0 + 1 * q.val
      omega
  rw [e, padded, View.canon_cons_emb]

/-- What a step loads of the scratch block. -/
def loaded (x : Vec Ideal S4352x256 .f32) (k : Fin k0_t1_loop.trips) : Vec Ideal S560x256 .f32 := fun j =>
  View.canon (padded x) ((Rect.unit (s := S4368x256) (k0_off1 k) S560x256.size (k0_off1_inb k)).toLoadRect.idx j)

theorem loaded_apply (x : Vec Ideal S4352x256 .f32) (k : Fin k0_t1_loop.trips) (i : Fin 560) (q : Fin 256) (r : Fin 4352) (hr : 544 * k.val + i.val = 8 + r.val) :
    loaded x k (ix2 i q) = x (ix2 r q) := by
  have h := trips_lt k
  refine Eq.trans (congrArg (View.canon (padded x)) ?_) (padded_row x r ⟨544 * k.val + i.val, by omega⟩ hr q)
  funext d
  refine Fin.ext ?_
  fin_cases d
  · show k0_off1 k 0 + 1 * i.val = 544 * k.val + i.val
    rw [off1_eq]
    show 544 * k.val + 1 * i.val = 544 * k.val + i.val
    omega
  · show k0_off1 k 1 + 1 * q.val = q.val
    rw [off1_eq]
    show 0 + 1 * q.val = q.val
    omega

theorem trip_block (x : Vec Ideal S4352x256 .f32) (w : Vec Ideal S4x256 .f32) (b : Vec Ideal S1x256 .f32) (k : Fin k0_t1_loop.trips) (a : Fin 544) (q : Fin 256) :
    tripPay w b k (loaded x k) (ix2 a q) = block x w b (ix2 (trow k a) q) := by
  rw [tripPay_apply]
  have h := trips_lt k
  have et : (trow k a).val = 544 * k.val + a.val := rfl
  have e (n : ℕ) (hn : n < 4) (i : Fin 560) (hi : i.val = 7 + n + a.val) (z : EReal) :
      (if tap (trow k a).val n then loaded x k (ix2 i q) * z else 0) = if tap (trow k a).val n then x (ix2 (tapRow (trow k a).val n) q) * z else 0 := by
    by_cases ht : tap (trow k a).val n
    · rw [if_pos ht, if_pos ht, loaded_apply x k i q (tapRow (trow k a).val n) ?_]
      obtain ⟨h1, h2⟩ := ht
      show 544 * k.val + i.val = 8 + ((trow k a).val + n + 4351) % 4352
      split_ifs at h1 h2 <;> omega
    · rw [if_neg ht, if_neg ht]
  rw [e 0 (by omega) _ (by show 7 + a.val = 7 + 0 + a.val; omega), e 1 (by omega) _ (by show 8 + a.val = 7 + 1 + a.val; omega),
    e 2 (by omega) _ (by show 9 + a.val = 7 + 2 + a.val; omega), e 3 (by omega) _ (by show 10 + a.val = 7 + 3 + a.val; omega)]
  rfl

variable (m : (ℓ : Loc nD τ sig) → Buf (Elt Ideal) ℓ)

/-- A step's piece. -/
theorem trip_pieces (𝒱 : Variants) (c : Dev nD) (bd) (i : grid0.Coords) (arg1 : Memref sig .tc .vmem S4352x256 .f32) (harg1 : arg1.IsWhole) (arg2 : Memref sig .tc .vmem S4x256 .f32) (harg2 : arg2.IsWhole) (arg3 : Memref sig .tc .vmem S1x256 .f32) (harg3 : arg3.IsWhole) (arg4 : Memref sig .tc .vmem S4352x256 .f32) (harg4 : arg4.IsWhole) (arg5 : Memref sig .tc .vmem S4368x256 .f32) (harg5 : arg5.IsWhole) (v12 : Vec Ideal S4x256 .f32) (v13 : Vec Ideal S1x256 .f32) (X : BufTy.Contents (Elt Ideal) arg5.view.ty) (k : Fin k0_t1_loop.trips) :
    tripL_k0_t1 (F := Ideal) 𝒱 c bd i arg1 harg1 arg2 harg2 arg3 harg3 arg4 harg4 arg5 harg5 v12 v13 X k
      = [⟨Rect.unit (s := S4352x256) (k0_off2 k) S544x256.size (k0_off2_inb k),
          tripPay v12 v13 k (View.readAt (Elt Ideal) arg5.view (Rect.unit (s := S4368x256) (k0_off1 k) S560x256.size (k0_off1_inb k)).toLoadRect X)⟩] := by
  unfold tripL_k0_t1 trip_k0_t1
  dsimp only
  unfold trip_k0_t1.sl.r_4 trip_k0_t1.sl.r_5 trip_k0_t1.sl.r_6 trip_k0_t1.sl.cst_36
  rfl

/-- What holds of every step's piece holds of all pieces. -/
theorem pieces_forall (P : View.Piece (Elt Ideal) S4352x256 .f32 → Prop) (𝒱 : Variants) (c : Dev nD) (bd) (i : grid0.Coords) (arg1 : Memref sig .tc .vmem S4352x256 .f32) (harg1 : arg1.IsWhole) (arg2 : Memref sig .tc .vmem S4x256 .f32) (harg2 : arg2.IsWhole) (arg3 : Memref sig .tc .vmem S1x256 .f32) (harg3 : arg3.IsWhole) (arg4 : Memref sig .tc .vmem S4352x256 .f32) (harg4 : arg4.IsWhole) (arg5 : Memref sig .tc .vmem S4368x256 .f32) (harg5 : arg5.IsWhole) (v12 : Vec Ideal S4x256 .f32) (v13 : Vec Ideal S1x256 .f32) (X : BufTy.Contents (Elt Ideal) arg5.view.ty)
    (h : ∀ k, ∀ p ∈ tripL_k0_t1 (F := Ideal) 𝒱 c bd i arg1 harg1 arg2 harg2 arg3 harg3 arg4 harg4 arg5 harg5 v12 v13 X k, P p) (n : ℕ) :
    ∀ p ∈ pb_k0_t1 (F := Ideal) 𝒱 c bd i arg1 harg1 arg2 harg2 arg3 harg3 arg4 harg4 arg5 harg5 v12 v13 X n, P p := by
  induction n with
  | zero => intro p hp; exact absurd hp List.not_mem_nil
  | succ n ih =>
    intro p hp
    rw [pb_k0_t1.eq_2] at hp
    unfold pb_k0_t1Step at hp
    split at hp
    · rcases List.mem_append.mp hp with hp | hp
      · exact h _ p hp
      · exact ih p hp
    · exact ih p hp

theorem pay3 (v : Vec Ideal S4352x256 .f32) : k0_pay3 v = v := by
  pointwise [k0_pay3]

theorem ld_x (v : Vec Ideal S4352x256 .f32) : View.ld v (Rect.unit (s := S4352x256) ![0, 0] S4352x256.size inb_S4352x256_S4352x256_0_0) = v :=
  View.ld_unit_lit _ _ (by decide)
theorem ld_w (v : Vec Ideal S4x256 .f32) : View.ld v (Rect.unit (s := S4x256) ![0, 0] S4x256.size inb_S4x256_S4x256_0_0) = v :=
  View.ld_unit_lit _ _ (by decide)
theorem ld_b (v : Vec Ideal S1x256 .f32) : View.ld v (Rect.unit (s := S1x256) ![0, 0] S1x256.size inb_S1x256_S1x256_0_0) = v :=
  View.ld_unit_lit _ _ (by decide)

theorem outs_eq (c : Dev nD) (t : Fin cfg0.N) : outsAt0 m c t = block (iblk m c 0 t) (iblk m c 1 t) (iblk m c 2 t) := by
  unfold outsAt0 out0_A_3
  rw [View.read_writes_junk_eq_canon]
  funext y
  refine View.canon_apply_of_pieces (block (iblk m c 0 t) (iblk m c 1 t) (iblk m c 2 t)) _ ?_ y (cover0_A_3 c _ _ _ _ _ _ _ _ _ _ _ _ _ _ y)
  unfold kernelRun0_A
  dsimp only
  refine pieces_forall _ _ _ _ _ _ _ _ _ _ _ _ _ _ _ _ _ _ (fun k p hp => ?_) _
  rw [trip_pieces, List.mem_singleton] at hp
  subst hp
  rw [View.readAt_writes_junk_eq_canon]
  unfold kernelRun0_A.sl.HS0_3
  simp only [View.readAt_eq_ld, Memref.IsWhole.read_unread]
  intro x
  refine Eq.trans (b := tripPay (iblk m c 1 t) (iblk m c 2 t) k (loaded (iblk m c 0 t) k) x) ?_ ?_
  · have e0 := ld_x (iblk m c 0 t)
    have e1 := ld_w (iblk m c 1 t)
    have e2 := ld_b (iblk m c 2 t)
    exact congrFun (congr (congr (congrArg (fun a b d => tripPay a b k d) e1) e2)
      (funext fun j => congrArg (fun z => View.canon (padded z) _) ((congrArg (k0_pay3 (F := Ideal)) e0).trans (pay3 _)))) x
  · have hx : ∃ (a : Fin 544) (q : Fin 256), x = ix2 a q := ⟨x 0, x 1, by funext d; fin_cases d <;> rfl⟩
    obtain ⟨a, q, rfl⟩ := hx
    rw [trip_block]
    refine congrArg (block (iblk m c 0 t) (iblk m c 1 t) (iblk m c 2 t)) ?_
    funext d
    refine Fin.ext ?_
    fin_cases d
    · show 544 * k.val + a.val = k0_off2 k 0 + 1 * a.val
      rw [off2_eq]
      show 544 * k.val + a.val = 544 * k.val + 1 * a.val
      omega
    · show q.val = k0_off2 k 1 + 1 * q.val
      rw [off2_eq]
      show q.val = 0 + 1 * q.val
      omega

theorem idx : ∀ t : Fin cfg0.N, win0_0.index t = ![0, t.val] ∧ win0_1.index t = ![0, t.val] ∧ win0_2.index t = ![0, t.val]
    ∧ win0_3.index t = ![0, t.val] ∧ t.val < 16 :=
  (by decide +kernel : ∀ t : Fin grid0.N, _)

/-- A column of the block of a point. -/
def col (t : Fin cfg0.N) (q : Fin 256) : Fin 4096 := ⟨t.val * 256 + q.val, by have := (idx t).2.2.2.2; omega⟩
def wide (j : Fin 4096) : Fin 16384 := ⟨j.val, by omega⟩

/-- The operands in the launch memory. -/
def x (c : Dev nD) : FVec Ideal S4352x16384 .f32 := m ((c : Thread nD τ).loc main_arg0)
def w (c : Dev nD) : FVec Ideal S4x4096 .f32 := m ((c : Thread nD τ).loc main_arg1)
def b (c : Dev nD) : FVec Ideal S1x4096 .f32 := m ((c : Thread nD τ).loc main_arg2)

theorem blk_x (c : Dev nD) (t : Fin cfg0.N) (p : Fin 4352) (q : Fin 256) : (iblk m c 0 t : Vec Ideal S4352x256 .f32) (ix2 p q) = x m c (ix2 p (wide (col t q))) := by
  blk_ext [iblk, V, idx t, x, wide, col]
theorem blk_w (c : Dev nD) (t : Fin cfg0.N) (p : Fin 4) (q : Fin 256) : (iblk m c 1 t : Vec Ideal S4x256 .f32) (ix2 p q) = w m c (ix2 p (col t q)) := by
  blk_ext [iblk, V, idx t, w, col]
theorem blk_b (c : Dev nD) (t : Fin cfg0.N) (q : Fin 256) : (iblk m c 2 t : Vec Ideal S1x256 .f32) (ix2 0 q) = b m c (ix2 0 (col t q)) := by
  blk_ext [iblk, V, idx t, b, col]

/-- The result at one element. -/
def one (c : Dev nD) (i : Fin 4352) (j : Fin 4096) : EReal :=
  conv (fun t => x m c (ix2 t (wide j))) (fun k => w m c (ix2 k j)) (b m c (ix2 0 j)) i

theorem point (c : Dev nD) (t : Fin cfg0.N) (p : Fin 4352) (q : Fin 256) : outsAt0 m c t (ix2 p q) = one m c p (col t q) := by
  rw [outs_eq]
  show conv (fun r => (iblk m c 0 t : Vec Ideal S4352x256 .f32) (ix2 r q)) (fun k => (iblk m c 1 t : Vec Ideal S4x256 .f32) (ix2 k q)) ((iblk m c 2 t : Vec Ideal S1x256 .f32) (ix2 0 q)) p = _
  simp only [blk_x, blk_w, blk_b]
  rfl

theorem final (c : Dev nD) : (dats m 0 c).arrAt 3 cfg0.N = fun y => one m c (y 0) (y 1) := by
  refine (dats m 0 c).arrAt_eq_of_covers 3 _ (by decide +kernel) (fun t hf y => ?_)
  blk_simp
  rw [after0_3]
  idx_vars y
  refine (point m c t y0 y1).trans (congrArg₂ (one m c) (Fin.ext ?_) (Fin.ext ?_))
  all_goals blk_simp [idx t, col]

end Cert.KernelConvIdeal.Conv

namespace Cert.ReferenceConvIdeal.Conv
open Cert.ReferenceConvIdeal Cert.ReferenceConvIdeal.Gen Cert.KernelConvIdeal.Conv

theorem zero_word : (FloatOps.sitofp (F := Ideal) FTy.f32 0#32 : EReal) = 0 := by
  show (((0#32 : BitVec 32).toInt : ℝ) : EReal) = 0
  simp

/-- A tap that leaves the sequence reads a zero. -/
theorem ctx_tap (v : FVec Ideal S256x4096 .f32) (x : Fin 4352 → EReal) (j : Fin 4096) (hv : ∀ (r : Fin 256) (s : Fin 4352), s.val = 0 + r.val → v (ix2 r j) = x s)
    (t : Fin 4352) (i : Fin 256) (ht : t.val = 0 + i.val) (k : ℕ) (hk : k < 4) (z : EReal) :
    (if tap t.val k then x (tapRow t.val k) * z else 0) = (if h : 1 ≤ k + i.val ∧ k + i.val - 1 < 256 then v (ix2 ⟨k + i.val - 1, h.2⟩ j) else 0) * z := by
  have e : tap t.val k ↔ 1 ≤ k + i.val ∧ k + i.val - 1 < 256 := by
    have hi := i.isLt
    unfold tap
    split_ifs <;> omega
  by_cases h : tap t.val k
  · rw [if_pos h, dif_pos (e.mp h), hv _ (tapRow t.val k) ?_]
    have := e.mp h
    show (t.val + k + 4351) % 4352 = 0 + (k + i.val - 1)
    omega
  · rw [if_neg h, dif_neg (fun q => h (e.mpr q)), zero_mul]

/-- A tap that leaves the sequence reads a zero. -/
theorem lat_tap (v : FVec Ideal S4096x4096 .f32) (x : Fin 4352 → EReal) (j : Fin 4096) (hv : ∀ (r : Fin 4096) (s : Fin 4352), s.val = 256 + r.val → v (ix2 r j) = x s)
    (t : Fin 4352) (i : Fin 4096) (ht : t.val = 256 + i.val) (k : ℕ) (hk : k < 4) (z : EReal) :
    (if tap t.val k then x (tapRow t.val k) * z else 0) = (if h : 1 ≤ k + i.val ∧ k + i.val - 1 < 4096 then v (ix2 ⟨k + i.val - 1, h.2⟩ j) else 0) * z := by
  have e : tap t.val k ↔ 1 ≤ k + i.val ∧ k + i.val - 1 < 4096 := by
    have hi := i.isLt
    unfold tap
    split_ifs <;> omega
  by_cases h : tap t.val k
  · rw [if_pos h, dif_pos (e.mp h), hv _ (tapRow t.val k) ?_]
    have := e.mp h
    show (t.val + k + 4351) % 4352 = 256 + (k + i.val - 1)
    omega
  · rw [if_neg h, dif_neg (fun q => h (e.mpr q)), zero_mul]

/-- The sequence of 256 rows. -/
def ctxSeq (v : FVec Ideal S256x4096 .f32) (w : FVec Ideal S4x4096 .f32) (b : FVec Ideal S1x4096 .f32) : FVec Ideal S256x4096 .f32 :=
  addf (addf (addf (addf (broadcastInDim S256x4096 ![0, 1] bcast_S1x4096_S256x4096_0_1 b) (mulf (extractStridedSlice S256x4096 ![0, 0] (pad S259x4096 ![1, 0] ![2, 0] ![0, 0] v (sitofp .f32 (constantI S_ 32 0#32)) pads_S256x4096_S259x4096_120_000 h_S_) slices_S259x4096_S256x4096_0_0) (broadcastInDim S256x4096 ![0, 1] bcast_S1x4096_S256x4096_0_1 (broadcastInDim S1x4096 ![1] bcast_S4096_S1x4096_1 (shapeCast _ (extractStridedSlice S1x4096 ![0, 0] w slices_S4x4096_S1x4096_0_0) shapeCasts_S1x4096_S4096))))) (mulf (extractStridedSlice S256x4096 ![1, 0] (pad S259x4096 ![1, 0] ![2, 0] ![0, 0] v (sitofp .f32 (constantI S_ 32 0#32)) pads_S256x4096_S259x4096_120_000 h_S_) slices_S259x4096_S256x4096_1_0) (broadcastInDim S256x4096 ![0, 1] bcast_S1x4096_S256x4096_0_1 (broadcastInDim S1x4096 ![1] bcast_S4096_S1x4096_1 (shapeCast _ (extractStridedSlice S1x4096 ![1, 0] w slices_S4x4096_S1x4096_1_0) shapeCasts_S1x4096_S4096))))) (mulf (extractStridedSlice S256x4096 ![2, 0] (pad S259x4096 ![1, 0] ![2, 0] ![0, 0] v (sitofp .f32 (constantI S_ 32 0#32)) pads_S256x4096_S259x4096_120_000 h_S_) slices_S259x4096_S256x4096_2_0) (broadcastInDim S256x4096 ![0, 1] bcast_S1x4096_S256x4096_0_1 (broadcastInDim S1x4096 ![1] bcast_S4096_S1x4096_1 (shapeCast _ (extractStridedSlice S1x4096 ![2, 0] w slices_S4x4096_S1x4096_2_0) shapeCasts_S1x4096_S4096))))) (mulf (extractStridedSlice S256x4096 ![3, 0] (pad S259x4096 ![1, 0] ![2, 0] ![0, 0] v (sitofp .f32 (constantI S_ 32 0#32)) pads_S256x4096_S259x4096_120_000 h_S_) slices_S259x4096_S256x4096_3_0) (broadcastInDim S256x4096 ![0, 1] bcast_S1x4096_S256x4096_0_1 (broadcastInDim S1x4096 ![1] bcast_S4096_S1x4096_1 (shapeCast _ (extractStridedSlice S1x4096 ![3, 0] w slices_S4x4096_S1x4096_3_0) shapeCasts_S1x4096_S4096))))

theorem ctxSeq_apply (v : FVec Ideal S256x4096 .f32) (w : FVec Ideal S4x4096 .f32) (b : FVec Ideal S1x4096 .f32) (x : Fin 4352 → EReal) (i : Fin 256) (j : Fin 4096)
    (hv : ∀ (r : Fin 256) (s : Fin 4352), s.val = 0 + r.val → v (ix2 r j) = x s) (t : Fin 4352) (ht : t.val = 0 + i.val) :
    ctxSeq v w b (ix2 i j) = conv x (fun k => w (ix2 k j)) (b (ix2 0 j)) t := by
  unfold conv
  rw [ctx_tap v x j hv t i ht 0 (by omega), ctx_tap v x j hv t i ht 1 (by omega), ctx_tap v x j hv t i ht 2 (by omega), ctx_tap v x j hv t i ht 3 (by omega)]
  pointwise [ctxSeq]
  simp only [zero_word]

/-- The sequence of 4096 rows. -/
def latSeq (v : FVec Ideal S4096x4096 .f32) (w : FVec Ideal S4x4096 .f32) (b : FVec Ideal S1x4096 .f32) : FVec Ideal S4096x4096 .f32 :=
  addf (addf (addf (addf (broadcastInDim S4096x4096 ![0, 1] bcast_S1x4096_S4096x4096_0_1 b) (mulf (extractStridedSlice S4096x4096 ![0, 0] (pad S4099x4096 ![1, 0] ![2, 0] ![0, 0] v (sitofp .f32 (constantI S_ 32 0#32)) pads_S4096x4096_S4099x4096_120_000 h_S_) slices_S4099x4096_S4096x4096_0_0) (broadcastInDim S4096x4096 ![0, 1] bcast_S1x4096_S4096x4096_0_1 (broadcastInDim S1x4096 ![1] bcast_S4096_S1x4096_1 (shapeCast _ (extractStridedSlice S1x4096 ![0, 0] w slices_S4x4096_S1x4096_0_0) shapeCasts_S1x4096_S4096))))) (mulf (extractStridedSlice S4096x4096 ![1, 0] (pad S4099x4096 ![1, 0] ![2, 0] ![0, 0] v (sitofp .f32 (constantI S_ 32 0#32)) pads_S4096x4096_S4099x4096_120_000 h_S_) slices_S4099x4096_S4096x4096_1_0) (broadcastInDim S4096x4096 ![0, 1] bcast_S1x4096_S4096x4096_0_1 (broadcastInDim S1x4096 ![1] bcast_S4096_S1x4096_1 (shapeCast _ (extractStridedSlice S1x4096 ![1, 0] w slices_S4x4096_S1x4096_1_0) shapeCasts_S1x4096_S4096))))) (mulf (extractStridedSlice S4096x4096 ![2, 0] (pad S4099x4096 ![1, 0] ![2, 0] ![0, 0] v (sitofp .f32 (constantI S_ 32 0#32)) pads_S4096x4096_S4099x4096_120_000 h_S_) slices_S4099x4096_S4096x4096_2_0) (broadcastInDim S4096x4096 ![0, 1] bcast_S1x4096_S4096x4096_0_1 (broadcastInDim S1x4096 ![1] bcast_S4096_S1x4096_1 (shapeCast _ (extractStridedSlice S1x4096 ![2, 0] w slices_S4x4096_S1x4096_2_0) shapeCasts_S1x4096_S4096))))) (mulf (extractStridedSlice S4096x4096 ![3, 0] (pad S4099x4096 ![1, 0] ![2, 0] ![0, 0] v (sitofp .f32 (constantI S_ 32 0#32)) pads_S4096x4096_S4099x4096_120_000 h_S_) slices_S4099x4096_S4096x4096_3_0) (broadcastInDim S4096x4096 ![0, 1] bcast_S1x4096_S4096x4096_0_1 (broadcastInDim S1x4096 ![1] bcast_S4096_S1x4096_1 (shapeCast _ (extractStridedSlice S1x4096 ![3, 0] w slices_S4x4096_S1x4096_3_0) shapeCasts_S1x4096_S4096))))

theorem latSeq_apply (v : FVec Ideal S4096x4096 .f32) (w : FVec Ideal S4x4096 .f32) (b : FVec Ideal S1x4096 .f32) (x : Fin 4352 → EReal) (i : Fin 4096) (j : Fin 4096)
    (hv : ∀ (r : Fin 4096) (s : Fin 4352), s.val = 256 + r.val → v (ix2 r j) = x s) (t : Fin 4352) (ht : t.val = 256 + i.val) :
    latSeq v w b (ix2 i j) = conv x (fun k => w (ix2 k j)) (b (ix2 0 j)) t := by
  unfold conv
  rw [lat_tap v x j hv t i ht 0 (by omega), lat_tap v x j hv t i ht 1 (by omega), lat_tap v x j hv t i ht 2 (by omega), lat_tap v x j hv t i ht 3 (by omega)]
  pointwise [latSeq]
  simp only [zero_word]

/-- The reference's result as a function of its operands. -/
def conved (x : FVec Ideal S4352x16384 .f32) (w : FVec Ideal S4x4096 .f32) (b : FVec Ideal S1x4096 .f32) : FVec Ideal S4352x4096 .f32 :=
  concatenate S4352x4096 0 [⟨S256x4096, ctxSeq (extractStridedSlice S256x4096 ![0, 0] (extractStridedSlice S4352x4096 ![0, 0] x slices_S4352x16384_S4352x4096_0_0) slices_S4352x4096_S256x4096_0_0) w b⟩,
    ⟨S4096x4096, latSeq (extractStridedSlice S4096x4096 ![256, 0] (extractStridedSlice S4352x4096 ![0, 0] x slices_S4352x16384_S4352x4096_0_0) slices_S4352x4096_S4096x4096_256_0) w b⟩] concatenates_S256x4096_S4096x4096_S4352x4096_d0

theorem conved_apply (x : FVec Ideal S4352x16384 .f32) (w : FVec Ideal S4x4096 .f32) (b : FVec Ideal S1x4096 .f32) (i : Fin 4352) (j : Fin 4096) :
    conved x w b (ix2 i j) = conv (fun t => x (ix2 t ⟨j.val, by omega⟩)) (fun k => w (ix2 k j)) (b (ix2 0 j)) i := by
  have ha := ctxSeq_apply (extractStridedSlice S256x4096 ![0, 0] (extractStridedSlice S4352x4096 ![0, 0] x slices_S4352x16384_S4352x4096_0_0) slices_S4352x4096_S256x4096_0_0) w b
    (fun t => x (ix2 t ⟨j.val, by omega⟩))
  have hb := latSeq_apply (extractStridedSlice S4096x4096 ![256, 0] (extractStridedSlice S4352x4096 ![0, 0] x slices_S4352x16384_S4352x4096_0_0) slices_S4352x4096_S4096x4096_256_0) w b
    (fun t => x (ix2 t ⟨j.val, by omega⟩))
  unfold conved
  generalize ctxSeq _ w b = A at ha ⊢
  generalize latSeq _ w b = B at hb ⊢
  pointwise
  by_cases h : i.val < 256
  · refine (dif_pos h).trans ?_
    refine ha ⟨i.val, h⟩ j (fun r s hs => ?_) i (by show i.val = 0 + i.val; omega)
    rw [show s = ⟨r.val, Nat.lt_trans r.isLt (by decide)⟩ from Fin.ext (hs.trans (Nat.zero_add _))]
    pointwise
  · refine (dif_neg h).trans ?_
    refine hb ⟨i.val - 256, by omega⟩ j (fun r s hs => ?_) i (by show i.val = 256 + (i.val - 256); omega)
    rw [show s = ⟨256 + r.val, Nat.add_lt_add_left r.isLt 256⟩ from Fin.ext hs]
    pointwise

theorem run_eq (m : (ℓ : Loc nD τ sig) → Buf (Elt Ideal) ℓ) (c : Dev nD) : Value.res_main_v63 m c
    = conved (m ((c.tc : Thread nD τ).loc main_arg0)) (m ((c.tc : Thread nD τ).loc main_arg1)) (m ((c.tc : Thread nD τ).loc main_arg2)) := by
  unfold Value.res_main_v63 conved ctxSeq latSeq
  rfl

end Cert.ReferenceConvIdeal.Conv

namespace Cert.Proof

theorem conv_ref_frame : Cert.quiescent_ReferenceConvIdeal := fun m ρ _ =>
  (θ_run Cert.ReferenceConvIdeal.defs _ _).mono (fun _ h => ⟨fun c => (h c).2, sem_eq_zero_of_no_sems (by decide) _⟩)
    (Cert.ReferenceConvIdeal.Value.run (F := Ideal) m ρ)

theorem conv_algebraic : Cert.algebraic_KernelConvIdeal_ReferenceConvIdeal := by
  intro m ρ m' ρ' _ hin
  refine ⟨_, Cert.KernelConvIdeal.Value.run_blocks m ρ, ?_⟩
  refine (θ_run Cert.ReferenceConvIdeal.defs _ _).mono (fun r h c => ?_) (Cert.ReferenceConvIdeal.Value.run (F := Ideal) m' ρ')
  obtain ⟨h0, h1, h2⟩ := hin c
  refine ⟨(h c).1.trans ?_, (h c).2⟩
  rw [Cert.KernelConvIdeal.Conv.final, Cert.ReferenceConvIdeal.Conv.run_eq, h0, h1, h2]
  funext y
  idx_vars y
  exact Cert.ReferenceConvIdeal.Conv.conved_apply _ _ _ y0 y1

end Cert.Proof
-- ==== Proof.Ssum.lean ====
module

public import proofs.«01_k».proof.Defs
public import proofs.«01_k».proof.Proof.Gen.KernelSsum.Frame
public import proofs.«01_k».proof.Proof.Gen.KernelSsumIdeal.Value
public import proofs.«01_k».proof.Proof.Gen.ReferenceSsumIdeal.Run
public import Idealize.ShloMosaic.Lib.Pipeline.ValueKit
public import Idealize.ShloMosaic.Lib.Pointwise
public import Idealize.ShloMosaic.Lib.Claim
/-! # The sums of the small leaves over the devices -/
@[expose] public section

set_option maxRecDepth 16384
noncomputable section
open Idealize.ShloMosaic Idealize.ShloMosaic.TcCoe Idealize.SL.Sem
open Idealize.ShloMosaic.Pipeline (Dat)

namespace Cert.ReferenceSsumIdeal.Sums
open Cert.ReferenceSsumIdeal Cert.ReferenceSsumIdeal.Gen

/-- The reference's two results as functions of its operands. -/
def s (x : FVec Ideal S8x65664 .f32) : FVec Ideal S1x65664 .f32 :=
  broadcastInDim S1x65664 ![1] bcast_S65664_S1x65664_1 (Host.reduceAdd x (constant S_ .f32 0x00000000#32) reducesTo_S8x65664_S65664_d0 h_S_)
def b (x y : FVec Ideal S8x12288 .f32) : FVec Ideal S1x12288 .f32 :=
  addf (broadcastInDim S1x12288 ![1] bcast_S12288_S1x12288_1 (Host.reduceAdd x (constant S_ .f32 0x00000000#32) reducesTo_S8x12288_S12288_d0 h_S_)) (broadcastInDim S1x12288 ![1] bcast_S12288_S1x12288_1 (Host.reduceAdd y (constant S_ .f32 0x00000000#32) reducesTo_S8x12288_S12288_d0 h_S_))

theorem s_apply (x : FVec Ideal S8x65664 .f32) (j : Fin 65664) : s x (ix2 0 j) = ∑ d : Fin 8, x (ix2 d j) := by
  pointwise [s]
theorem b_apply (x y : FVec Ideal S8x12288 .f32) (j : Fin 12288) : b x y (ix2 0 j) = (∑ d : Fin 8, x (ix2 d j)) + ∑ d : Fin 8, y (ix2 d j) := by
  pointwise [b]

end Cert.ReferenceSsumIdeal.Sums

namespace Cert.KernelSsumIdeal.Sums
open Cert.KernelSsumIdeal Cert.KernelSsumIdeal.Gen

variable (m : (ℓ : Loc nD τ sig) → Buf (Elt Ideal) ℓ)

theorem idx : ∀ t : Fin cfg0.N, win0_0.index t = ![0, 0] ∧ win0_1.index t = ![0, 0] ∧ win0_2.index t = ![0, 0]
    ∧ win0_3.index t = ![0, 0] ∧ win0_4.index t = ![0, 0] :=
  (by decide +kernel : ∀ t : Fin grid0.N, _)

/-- The operands in the launch memory. -/
def vs (c : Dev nD) : FVec Ideal S8x65664 .f32 := m ((c : Thread nD τ).loc main_arg0)
def ga (c : Dev nD) : FVec Ideal S8x12288 .f32 := m ((c : Thread nD τ).loc main_arg1)
def gc (c : Dev nD) : FVec Ideal S8x12288 .f32 := m ((c : Thread nD τ).loc main_arg2)

theorem blk_vs (c : Dev nD) (t : Fin cfg0.N) (d : Fin 8) (j : Fin 65664) : (iblk m c 0 t : Vec Ideal S8x65664 .f32) (ix2 d j) = vs m c (ix2 d j) := by
  blk_ext [iblk, V, idx t, vs]
theorem blk_ga (c : Dev nD) (t : Fin cfg0.N) (d : Fin 8) (j : Fin 12288) : (iblk m c 1 t : Vec Ideal S8x12288 .f32) (ix2 d j) = ga m c (ix2 d j) := by
  blk_ext [iblk, V, idx t, ga]
theorem blk_gc (c : Dev nD) (t : Fin cfg0.N) (d : Fin 8) (j : Fin 12288) : (iblk m c 2 t : Vec Ideal S8x12288 .f32) (ix2 d j) = gc m c (ix2 d j) := by
  blk_ext [iblk, V, idx t, gc]

/-- The kernel adds the rows one after the other. -/
theorem out_s (x0 : Vec Ideal S8x65664 .f32) (x1 x2 : Vec Ideal S8x12288 .f32) (j : Fin 65664) :
    out0_3 x0 x1 x2 (ix2 0 j) = ∑ d : Fin 8, x0 (ix2 d j) := by
  rw [Fin.sum_univ_eight]
  unfold out0_3
  frame_out
  pointwise [k0_pay3]

theorem out_b (x0 : Vec Ideal S8x65664 .f32) (x1 x2 : Vec Ideal S8x12288 .f32) (j : Fin 12288) :
    out0_4 x0 x1 x2 (ix2 0 j) = (∑ d : Fin 8, x1 (ix2 d j)) + ∑ d : Fin 8, x2 (ix2 d j) := by
  rw [Fin.sum_univ_eight, Fin.sum_univ_eight]
  simp only [← add_assoc]
  unfold out0_4
  frame_out
  pointwise [k0_pay1, k0_pay2]

theorem final_s (c : Dev nD) : (dats m 0 c).arrAt 3 cfg0.N = fun y => ∑ d : Fin 8, vs m c (ix2 d (y 1)) := by
  refine (dats m 0 c).arrAt_eq_of_covers 3 _ (by decide +kernel) fun t hf y => ?_
  blk_simp
  rw [after0_3]
  idx_vars y
  obtain rfl := Subsingleton.elim y0 (0 : Fin 1)
  refine (out_s _ _ _ y1).trans (Finset.sum_congr rfl fun d _ => (blk_vs m c t d y1).trans ?_)
  blk_ext [idx t]

theorem final_b (c : Dev nD) : (dats m 0 c).arrAt 4 cfg0.N = fun y => (∑ d : Fin 8, ga m c (ix2 d (y 1))) + ∑ d : Fin 8, gc m c (ix2 d (y 1)) := by
  refine (dats m 0 c).arrAt_eq_of_covers 4 _ (by decide +kernel) fun t hf y => ?_
  blk_simp
  rw [after0_4]
  idx_vars y
  obtain rfl := Subsingleton.elim y0 (0 : Fin 1)
  refine (out_b _ _ _ y1).trans (congrArg₂ (· + ·) (Finset.sum_congr rfl fun d _ => (blk_ga m c t d y1).trans ?_) (Finset.sum_congr rfl fun d _ => (blk_gc m c t d y1).trans ?_))
  all_goals blk_ext [idx t]

end Cert.KernelSsumIdeal.Sums

namespace Cert.Proof

theorem ssum_ref_frame : Cert.quiescent_ReferenceSsumIdeal := fun m ρ _ =>
  (θ_run Cert.ReferenceSsumIdeal.defs _ _).mono (fun _ h => ⟨fun c => (h c).2.2, sem_eq_zero_of_no_sems (by decide) _⟩)
    (Cert.ReferenceSsumIdeal.Value.run (F := Ideal) m ρ)

theorem ssum_algebraic : Cert.algebraic_KernelSsumIdeal_ReferenceSsumIdeal := by
  intro m ρ m' ρ' _ hin
  refine ⟨_, _, Cert.KernelSsumIdeal.Value.run_blocks m ρ, ?_⟩
  refine (θ_run Cert.ReferenceSsumIdeal.defs _ _).mono (fun r h c => ?_) (Cert.ReferenceSsumIdeal.Value.run (F := Ideal) m' ρ')
  obtain ⟨h0, h1, h2⟩ := hin c
  refine ⟨(h c).1.trans ?_, (h c).2.1.trans ?_, (h c).2.2⟩
  · refine Eq.trans ?_ (Cert.KernelSsumIdeal.Sums.final_s m c).symm
    rw [h0]
    funext y
    idx_vars y
    obtain rfl := Subsingleton.elim y0 (0 : Fin 1)
    exact Cert.ReferenceSsumIdeal.Sums.s_apply _ y1
  · refine Eq.trans ?_ (Cert.KernelSsumIdeal.Sums.final_b m c).symm
    rw [h1, h2]
    funext y
    idx_vars y
    obtain rfl := Subsingleton.elim y0 (0 : Fin 1)
    exact Cert.ReferenceSsumIdeal.Sums.b_apply _ _ y1

end Cert.Proof
-- ==== Proof.NormGrad.lean ====
module

public import Idealize.ShloMosaic.Lib.Pointwise
/-! # The gradients of a modulated norm at one element -/
@[expose] public section

noncomputable section
open Idealize.ShloMosaic

namespace Cert.NormGrad

/-- The reciprocal of a row's root mean square. -/
def scl (x : Fin 4096 → EReal) : EReal :=
  Ideal.rsqrt (Ideal.div (∑ k, x k * x k) (Scalar.ofBits (F := Ideal) .f32 0x45800000#32) + Scalar.ofBits (F := Ideal) .f32 0x358637BD#32)

/-- What a token adds to the modulation's gradient, and to the gain's. -/
def toScale (x : Fin 4096 → EReal) (d g : EReal) (j : Fin 4096) : EReal := d * (x j * scl x * g)
def toGain (x : Fin 4096 → EReal) (d sc : EReal) (j : Fin 4096) : EReal := d * (1 + sc) * (x j * scl x)

end Cert.NormGrad
-- ==== Proof.Nbc.lean ====
module

public import proofs.«01_k».proof.Defs
public import proofs.«01_k».proof.Proof.NormGrad
public import proofs.«01_k».proof.Proof.Gen.KernelNbc.Frame
public import proofs.«01_k».proof.Proof.Gen.KernelNbcIdeal.Value
public import proofs.«01_k».proof.Proof.Gen.ReferenceNbcIdeal.Run
public import Idealize.ShloMosaic.Lib.Pipeline.ValueKit
public import Idealize.ShloMosaic.Lib.Pointwise
public import Idealize.ShloMosaic.Lib.Claim
/-! # The gradients of the modulation and of the gain, over the context's tokens -/
@[expose] public section

set_option maxRecDepth 16384
noncomputable section
open Idealize.ShloMosaic Idealize.ShloMosaic.TcCoe Idealize.SL.Sem
open Idealize.ShloMosaic.Pipeline (Dat)

namespace Cert.ReferenceNbcIdeal.Grad
open Cert.ReferenceNbcIdeal Cert.ReferenceNbcIdeal.Gen Cert.NormGrad

/-- The reference's three results as functions of its operands. -/
def sh (dh : FVec Ideal S4352x4096 .f32) : FVec Ideal S1x4096 .f32 :=
  shapeCast _ (Host.reduceAdd (extractStridedSlice S256x4096 ![0, 0] dh slices_S4352x4096_S256x4096_0_0) (constant S_ .f32 0x00000000#32) reducesTo_S256x4096_S4096_d0 h_S_) shapeCasts_S4096_S1x4096
def sc (x : FVec Ideal S256x4096 .f32) (dh : FVec Ideal S4352x4096 .f32) (g : FVec Ideal S1x4096 .f32) : FVec Ideal S1x4096 .f32 :=
  shapeCast _ (Host.reduceAdd (mulf (mulf (mulf x (broadcastInDim S256x4096 ![0, 1] bcast_S256x1_S256x4096_0_1 (Host.rsqrt (addf (Host.divf (broadcastInDim S256x1 ![0] bcast_S256_S256x1_0 (Host.reduceAdd (mulf x x) (constant S_ .f32 0x00000000#32) reducesTo_S256x4096_S256_d1 h_S_)) (broadcastInDim S256x1 ![] bcast_S_S256x1 (constant S_ .f32 0x45800000#32))) (broadcastInDim S256x1 ![] bcast_S_S256x1 (constant S_ .f32 0x358637BD#32)))))) (broadcastInDim S256x4096 ![0, 1] bcast_S1x4096_S256x4096_0_1 g)) (extractStridedSlice S256x4096 ![0, 0] dh slices_S4352x4096_S256x4096_0_0)) (constant S_ .f32 0x00000000#32) reducesTo_S256x4096_S4096_d0 h_S_) shapeCasts_S4096_S1x4096
def gg (x : FVec Ideal S256x4096 .f32) (dh : FVec Ideal S4352x4096 .f32) (s b : FVec Ideal S1x4096 .f32) : FVec Ideal S1x4096 .f32 :=
  addf b (shapeCast _ (Host.reduceAdd (mulf (mulf x (broadcastInDim S256x4096 ![0, 1] bcast_S256x1_S256x4096_0_1 (Host.rsqrt (addf (Host.divf (broadcastInDim S256x1 ![0] bcast_S256_S256x1_0 (Host.reduceAdd (mulf x x) (constant S_ .f32 0x00000000#32) reducesTo_S256x4096_S256_d1 h_S_)) (broadcastInDim S256x1 ![] bcast_S_S256x1 (constant S_ .f32 0x45800000#32))) (broadcastInDim S256x1 ![] bcast_S_S256x1 (constant S_ .f32 0x358637BD#32)))))) (mulf (extractStridedSlice S256x4096 ![0, 0] dh slices_S4352x4096_S256x4096_0_0) (broadcastInDim S256x4096 ![0, 1] bcast_S1x4096_S256x4096_0_1 (addf (broadcastInDim S1x4096 ![] bcast_S_S1x4096 (constant S_ .f32 0x3F800000#32)) s)))) (constant S_ .f32 0x00000000#32) reducesTo_S256x4096_S4096_d0 h_S_) shapeCasts_S4096_S1x4096)

/-- A context token's row among all the rows. -/
def row (i : Fin 256) : Fin 4352 := ⟨i.val, by omega⟩

theorem sh_apply (dh : FVec Ideal S4352x4096 .f32) (j : Fin 4096) : sh dh (ix2 0 j) = ∑ i : Fin 256, dh (ix2 (row i) j) := by
  pointwise [sh, row]
theorem sc_apply (x : FVec Ideal S256x4096 .f32) (dh : FVec Ideal S4352x4096 .f32) (g : FVec Ideal S1x4096 .f32) (j : Fin 4096) :
    sc x dh g (ix2 0 j) = ∑ i : Fin 256, toScale (fun k => x (ix2 i k)) (dh (ix2 (row i) j)) (g (ix2 0 j)) j := by
  simp only [toScale, mul_comm (dh _)]
  pointwise [sc, row, scl]
theorem gg_apply (x : FVec Ideal S256x4096 .f32) (dh : FVec Ideal S4352x4096 .f32) (s b : FVec Ideal S1x4096 .f32) (j : Fin 4096) :
    gg x dh s b (ix2 0 j) = b (ix2 0 j) + ∑ i : Fin 256, toGain (fun k => x (ix2 i k)) (dh (ix2 (row i) j)) (s (ix2 0 j)) j := by
  simp only [toGain, mul_comm (dh _ * _)]
  pointwise [gg, row, scl]

end Cert.ReferenceNbcIdeal.Grad

namespace Cert.KernelNbcIdeal.Grad
open Cert.KernelNbcIdeal Cert.KernelNbcIdeal.Gen Cert.NormGrad Cert.ReferenceNbcIdeal.Grad

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0] ∧ win0_7.index t = ![0, 0] ∧ t.val < 2 :=
  (by decide +kernel : ∀ t : Fin grid0.N, _)
theorem lt (t : Fin cfg0.N) : t.val < 2 := (idx t).2.2.2.2.2.2.2.2

/-- The operands in the launch memory. -/
def x (c : Dev nD) : FVec Ideal S256x4096 .f32 := m ((c : Thread nD τ).loc main_arg0)
def dh (c : Dev nD) : FVec Ideal S4352x4096 .f32 := m ((c : Thread nD τ).loc main_arg1)
def g (c : Dev nD) : FVec Ideal S1x4096 .f32 := m ((c : Thread nD τ).loc main_arg2)
def s (c : Dev nD) : FVec Ideal S1x4096 .f32 := m ((c : Thread nD τ).loc main_arg4)
def b (c : Dev nD) : FVec Ideal S1x4096 .f32 := m ((c : Thread nD τ).loc main_arg5)

/-- Row `p` of point `t`. -/
def prow (t : Fin cfg0.N) (p : Fin 128) : Fin 256 := ⟨t.val * 128 + p.val, by have := lt t; omega⟩

theorem blk_x (c : Dev nD) (t : Fin cfg0.N) (p : Fin 128) (k : Fin 4096) : (iblk m c 0 t : Vec Ideal S128x4096 .f32) (ix2 p k) = x m c (ix2 (prow t p) k) := by
  blk_ext [iblk, V, idx t, x, prow]
theorem blk_dh (c : Dev nD) (t : Fin cfg0.N) (p : Fin 128) (k : Fin 4096) : (iblk m c 1 t : Vec Ideal S128x4096 .f32) (ix2 p k) = dh m c (ix2 (row (prow t p)) k) := by
  blk_ext [iblk, V, idx t, dh, row, prow]
theorem blk_g (c : Dev nD) (t : Fin cfg0.N) (k : Fin 4096) : (iblk m c 2 t : Vec Ideal S1x4096 .f32) (ix2 0 k) = g m c (ix2 0 k) := by
  blk_ext [iblk, V, idx t, g]
theorem blk_s (c : Dev nD) (t : Fin cfg0.N) (k : Fin 4096) : (iblk m c 3 t : Vec Ideal S1x4096 .f32) (ix2 0 k) = s m c (ix2 0 k) := by
  blk_ext [iblk, V, idx t, s]
theorem blk_b (c : Dev nD) (t : Fin cfg0.N) (k : Fin 4096) : (iblk m c 4 t : Vec Ideal S1x4096 .f32) (ix2 0 k) = b m c (ix2 0 k) := by
  blk_ext [iblk, V, idx t, b]

/-! ## A token's terms, in a point's blocks and in the operands -/

def blkSh (x1 : Vec Ideal S128x4096 .f32) (p : Fin 128) (k : Fin 4096) : EReal := x1 (ix2 p k)
def blkSc (x0 x1 : Vec Ideal S128x4096 .f32) (x2 : Vec Ideal S1x4096 .f32) (p : Fin 128) (k : Fin 4096) : EReal :=
  toScale (fun j => x0 (ix2 p j)) (x1 (ix2 p k)) (x2 (ix2 0 k)) k
def blkGg (x0 x1 : Vec Ideal S128x4096 .f32) (x3 : Vec Ideal S1x4096 .f32) (p : Fin 128) (k : Fin 4096) : EReal :=
  toGain (fun j => x0 (ix2 p j)) (x1 (ix2 p k)) (x3 (ix2 0 k)) k
def atSc (c : Dev nD) (k : Fin 4096) (i : Fin 256) : EReal :=
  toScale (fun j => x m c (ix2 i j)) (dh m c (ix2 (row i) k)) (g m c (ix2 0 k)) k
def atGg (c : Dev nD) (k : Fin 4096) (i : Fin 256) : EReal :=
  toGain (fun j => x m c (ix2 i j)) (dh m c (ix2 (row i) k)) (s m c (ix2 0 k)) k

theorem point_Sc (c : Dev nD) (t : Fin cfg0.N) (p : Fin 128) (k : Fin 4096) : blkSc (iblk m c 0 t) (iblk m c 1 t) (iblk m c 2 t) p k = atSc m c k (prow t p) := by
  simp only [blkSc, blk_x, blk_dh, blk_g, atSc]
theorem point_Gg (c : Dev nD) (t : Fin cfg0.N) (p : Fin 128) (k : Fin 4096) : blkGg (iblk m c 0 t) (iblk m c 1 t) (iblk m c 3 t) p k = atGg m c k (prow t p) := by
  simp only [blkGg, blk_x, blk_dh, blk_s, atGg]

theorem pay_sh (x1 : Vec Ideal S128x4096 .f32) (a : Vec Ideal S1x4096 .f32) (k : Fin 4096) : k0_pay5 x1 a (ix2 0 k) = a (ix2 0 k) + ∑ p : Fin 128, blkSh x1 p k := by
  pointwise [k0_pay5, blkSh]
theorem pay_sc (x0 x1 : Vec Ideal S128x4096 .f32) (x2 a : Vec Ideal S1x4096 .f32) (k : Fin 4096) : k0_pay6 x0 x1 x2 a (ix2 0 k) = a (ix2 0 k) + ∑ p : Fin 128, blkSc x0 x1 x2 p k := by
  pointwise [k0_pay6, k0_pay4, blkSc, toScale, scl]
theorem pay_gg (x0 x1 : Vec Ideal S128x4096 .f32) (x3 a : Vec Ideal S1x4096 .f32) (k : Fin 4096) :
    k0_pay1 x1 (k0_pay4 x0) x3 (Scalar.ofBits .f32 0x3F800000#32) a (ix2 0 k) = a (ix2 0 k) + ∑ p : Fin 128, blkGg x0 x1 x3 p k := by
  pointwise [k0_pay1, k0_pay4, blkGg, toGain, scl]

/-- The first point starts the three rows, the second adds its tokens. -/
theorem step_A (c : Dev nD) (t : Fin cfg0.N) (h : t.val % 2 = 0) (k : Fin 4096) :
    (outsAt0 m c t.val t.isLt).1 (ix2 0 k) = 0 + ∑ p : Fin 128, blkSh (iblk m c 1 t) p k
    ∧ (outsAt0 m c t.val t.isLt).2.1 (ix2 0 k) = 0 + ∑ p : Fin 128, blkSc (iblk m c 0 t) (iblk m c 1 t) (iblk m c 2 t) p k
    ∧ (outsAt0 m c t.val t.isLt).2.2 (ix2 0 k) = b m c (ix2 0 k) + ∑ p : Fin 128, blkGg (iblk m c 0 t) (iblk m c 1 t) (iblk m c 3 t) p k := by
  rw [outsAt0_A m c t h]
  dsimp only
  refine ⟨?_, ?_, ?_⟩
  · rw [Cert.KernelNbcIdeal.Value.out_A_5_eq, pay_sh]
    refine congrArg (· + _) ?_
    pointwise [k0_pay2]
  · rw [Cert.KernelNbcIdeal.Value.out_A_6_eq, pay_sc]
    refine congrArg (· + _) ?_
    pointwise [k0_pay3]
  · rw [Cert.KernelNbcIdeal.Value.out_A_7_eq, pay_gg, blk_b]
theorem step_B (c : Dev nD) (t : Fin cfg0.N) (h : ¬ t.val % 2 = 0) (k : Fin 4096) :
    (outsAt0 m c t.val t.isLt).1 (ix2 0 k) = (outsAt0 m c (t.val - 1) (Nat.lt_of_le_of_lt (Nat.sub_le _ _) t.isLt)).1 (ix2 0 k)
        + ∑ p : Fin 128, blkSh (iblk m c 1 t) p k
    ∧ (outsAt0 m c t.val t.isLt).2.1 (ix2 0 k) = (outsAt0 m c (t.val - 1) (Nat.lt_of_le_of_lt (Nat.sub_le _ _) t.isLt)).2.1 (ix2 0 k)
        + ∑ p : Fin 128, blkSc (iblk m c 0 t) (iblk m c 1 t) (iblk m c 2 t) p k
    ∧ (outsAt0 m c t.val t.isLt).2.2 (ix2 0 k) = (outsAt0 m c (t.val - 1) (Nat.lt_of_le_of_lt (Nat.sub_le _ _) t.isLt)).2.2 (ix2 0 k)
        + ∑ p : Fin 128, blkGg (iblk m c 0 t) (iblk m c 1 t) (iblk m c 3 t) p k := by
  rw [outsAt0_B m c t h]
  dsimp only
  exact ⟨by rw [Cert.KernelNbcIdeal.Value.out_B_5_eq, pay_sh], by rw [Cert.KernelNbcIdeal.Value.out_B_6_eq, pay_sc], by rw [Cert.KernelNbcIdeal.Value.out_B_7_eq, pay_gg]⟩

/-- A row that the first point starts at `z` and to which every point adds its tokens' terms holds, at the last point, `z`
    and the sum over all the tokens. -/
theorem sweep (z : EReal) (f : (n : ℕ) → n < cfg0.N → EReal) (g : Fin cfg0.N → Fin 128 → EReal) (F : Fin 256 → EReal) (t : Fin cfg0.N) (ht : t.val % 2 = 1)
    (h0 : ∀ s : Fin cfg0.N, s.val % 2 = 0 → f s.val s.isLt = z + ∑ p : Fin 128, g s p)
    (hs : ∀ s : Fin cfg0.N, ¬ s.val % 2 = 0 → f s.val s.isLt = f (s.val - 1) (Nat.lt_of_le_of_lt (Nat.sub_le _ _) s.isLt) + ∑ p : Fin 128, g s p)
    (hg : ∀ (s : Fin cfg0.N) p, g s p = F (prow s p)) :
    f t.val t.isLt = z + ∑ p : Fin 256, F p := by
  refine (Pipeline.eq_sum_fin_of_reset_step_apply_of_flush (fun n h (_ : Unit) => f n h) 2 (fun _ => z) (fun s _ => ∑ p : Fin 128, g s p)
    (fun s h _ => h0 s h) (fun s h _ => hs s h) t ht ()).trans (congrArg (z + ·) ?_)
  refine Fin.sum_mul_add_congr fun s p hl => ?_
  rw [hg _ p]
  refine congrArg F (Fin.ext ?_)
  show (2 * (t.val / 2) + s.val) * 128 + p.val = s.val * 128 + p.val
  have := lt t
  omega

/-! ## The arrays after the run -/

theorem final_sh (c : Dev nD) : (dats m 0 c).arrAt 5 cfg0.N = fun y => ∑ i : Fin 256, dh m c (ix2 (row i) (y 1)) := by
  refine (dats m 0 c).arrAt_eq_of_covers 5 _ (by decide +kernel) fun t hf y => ?_
  blk_simp
  rw [after0_5]
  idx_vars y
  obtain rfl := Subsingleton.elim y0 (0 : Fin 1)
  refine ((sweep 0 (fun n h => (outsAt0 m c n h).1 (ix2 0 y1)) (fun s p => blkSh (iblk m c 1 s) p y1)
    (fun i => dh m c (ix2 (row i) y1)) t ((flush0_5 t).mp hf) (fun s h => (step_A m c s h y1).1) (fun s h => (step_B m c s h y1).1)
    fun s p => blk_dh m c s p y1).trans (zero_add _)).trans ?_
  refine Finset.sum_congr rfl fun i _ => ?_
  blk_ext [idx t]

theorem final_sc (c : Dev nD) : (dats m 0 c).arrAt 6 cfg0.N = fun y => ∑ i : Fin 256, atSc m c (y 1) i := by
  refine (dats m 0 c).arrAt_eq_of_covers 6 _ (by decide +kernel) fun t hf y => ?_
  blk_simp
  rw [after0_6]
  idx_vars y
  obtain rfl := Subsingleton.elim y0 (0 : Fin 1)
  refine ((sweep 0 (fun n h => (outsAt0 m c n h).2.1 (ix2 0 y1)) (fun s p => blkSc (iblk m c 0 s) (iblk m c 1 s) (iblk m c 2 s) p y1)
    (atSc m c y1) t ((flush0_6 t).mp hf) (fun s h => (step_A m c s h y1).2.1) (fun s h => (step_B m c s h y1).2.1)
    fun s p => point_Sc m c s p y1).trans (zero_add _)).trans ?_
  refine Finset.sum_congr rfl fun i _ => congrArg (fun k => atSc m c k i) (Fin.ext ?_)
  blk_simp [idx t]

theorem final_gg (c : Dev nD) : (dats m 0 c).arrAt 7 cfg0.N = fun y => b m c (ix2 0 (y 1)) + ∑ i : Fin 256, atGg m c (y 1) i := by
  refine (dats m 0 c).arrAt_eq_of_covers 7 _ (by decide +kernel) fun t hf y => ?_
  blk_simp
  rw [after0_7]
  idx_vars y
  obtain rfl := Subsingleton.elim y0 (0 : Fin 1)
  refine (sweep (b m c (ix2 0 y1)) (fun n h => (outsAt0 m c n h).2.2 (ix2 0 y1)) (fun s p => blkGg (iblk m c 0 s) (iblk m c 1 s) (iblk m c 3 s) p y1)
    (atGg m c y1) t ((flush0_7 t).mp hf) (fun s h => (step_A m c s h y1).2.2) (fun s h => (step_B m c s h y1).2.2)
    fun s p => point_Gg m c s p y1).trans ?_
  refine congrArg (fun k => b m c (ix2 0 k) + ∑ i : Fin 256, atGg m c k i) (Fin.ext ?_)
  blk_simp [idx t]

end Cert.KernelNbcIdeal.Grad

namespace Cert.Proof

theorem nbc_ref_frame : Cert.quiescent_ReferenceNbcIdeal := fun m ρ _ =>
  (θ_run Cert.ReferenceNbcIdeal.defs _ _).mono (fun _ h => ⟨fun c => (h c).2.2.2, sem_eq_zero_of_no_sems (by decide) _⟩)
    (Cert.ReferenceNbcIdeal.Value.run (F := Ideal) m ρ)

theorem nbc_algebraic : Cert.algebraic_KernelNbcIdeal_ReferenceNbcIdeal := by
  intro m ρ m' ρ' _ hin
  refine ⟨_, _, _, Cert.KernelNbcIdeal.Value.run_blocks m ρ, ?_⟩
  refine (θ_run Cert.ReferenceNbcIdeal.defs _ _).mono (fun r h c => ?_) (Cert.ReferenceNbcIdeal.Value.run (F := Ideal) m' ρ')
  obtain ⟨h0, h1, h2, h3, h4, h5⟩ := hin c
  refine ⟨(h c).1.trans ?_, (h c).2.1.trans ?_, (h c).2.2.1.trans ?_, (h c).2.2.2⟩
  · refine Eq.trans ?_ (Cert.KernelNbcIdeal.Grad.final_sh m c).symm
    rw [h1]
    funext y
    idx_vars y
    obtain rfl := Subsingleton.elim y0 (0 : Fin 1)
    exact Cert.ReferenceNbcIdeal.Grad.sh_apply _ y1
  · refine Eq.trans ?_ (Cert.KernelNbcIdeal.Grad.final_sc m c).symm
    rw [h0, h1, h2]
    funext y
    idx_vars y
    obtain rfl := Subsingleton.elim y0 (0 : Fin 1)
    exact Cert.ReferenceNbcIdeal.Grad.sc_apply _ _ _ y1
  · refine Eq.trans ?_ (Cert.KernelNbcIdeal.Grad.final_gg m c).symm
    rw [h0, h1, h4, h5]
    funext y
    idx_vars y
    obtain rfl := Subsingleton.elim y0 (0 : Fin 1)
    exact Cert.ReferenceNbcIdeal.Grad.gg_apply _ _ _ _ y1

end Cert.Proof
-- ==== Proof.Afwd.lean ====
module

public import proofs.«01_k».proof.Defs
public import proofs.«01_k».proof.Proof.Gen.KernelAfwd.Frame
public import proofs.«01_k».proof.Proof.Gen.KernelAfwdIdeal.Value
public import proofs.«01_k».proof.Proof.Gen.ReferenceAfwdIdeal.Run
public import Idealize.ShloMosaic.Lib.Pipeline.ValueKit
public import Idealize.ShloMosaic.Lib.Pointwise
public import Idealize.ShloMosaic.Lib.Claim
/-! # The modulation from the conditioning -/
@[expose] public section

set_option maxRecDepth 16384
noncomputable section
open Idealize.ShloMosaic Idealize.ShloMosaic.TcCoe Idealize.SL.Sem
open Idealize.ShloMosaic.Pipeline (Dat)

namespace Cert.ReferenceAfwdIdeal.Mod
open Cert.ReferenceAfwdIdeal Cert.ReferenceAfwdIdeal.Gen

/-- The activation. -/
def act (v : EReal) : EReal := v * Ideal.logistic v

theorem act_eq (v : EReal) : act v = v * Ideal.div 1 (1 + Ideal.exp (-v)) := rfl

/-- The reference's two results as functions of its operands. -/
def s (x : FVec Ideal S16x4096 .f32) : FVec Ideal S16x4096 .f32 :=
  mulf x (Host.divf (broadcastInDim S16x4096 ![] bcast_S_S16x4096 (constant S_ .f32 0x3F800000#32)) (addf (broadcastInDim S16x4096 ![] bcast_S_S16x4096 (constant S_ .f32 0x3F800000#32)) (Host.exp (Host.negf x))))
def mod (s : FVec Ideal S16x4096 .f32) (w : FVec Ideal S4096x1536 .f32) (b : FVec Ideal S1x1536 .f32) : FVec Ideal S16x1536 .f32 :=
  addf (Host.dotGeneral dot_S16x4096_S4096x1536_S16x1536_1_0_0_1_n_n none s w) (broadcastInDim S16x1536 ![0, 1] bcast_S1x1536_S16x1536_0_1 b)

theorem s_apply (x : FVec Ideal S16x4096 .f32) (i : Fin 16) (j : Fin 4096) : s x (ix2 i j) = act (x (ix2 i j)) := by
  rw [act_eq]
  pointwise [s]
theorem mod_apply (s : FVec Ideal S16x4096 .f32) (w : FVec Ideal S4096x1536 .f32) (b : FVec Ideal S1x1536 .f32) (i : Fin 16) (j : Fin 1536) :
    mod s w b (ix2 i j) = (∑ k : Fin 4096, s (ix2 i k) * w (ix2 k j)) + b (ix2 0 j) := by
  pointwise [mod]

end Cert.ReferenceAfwdIdeal.Mod

namespace Cert.KernelAfwdIdeal.Mod
open Cert.KernelAfwdIdeal Cert.KernelAfwdIdeal.Gen Cert.ReferenceAfwdIdeal.Mod

variable (m : (ℓ : Loc nD τ sig) → Buf (Elt Ideal) ℓ)

theorem idx : ∀ t : Fin cfg0.N, win0_0.index t = ![0, t.val] ∧ win0_1.index t = ![t.val, 0] ∧ win0_2.index t = ![0, 0]
    ∧ win0_3.index t = ![0, 0] ∧ win0_4.index t = ![0, t.val] ∧ t.val < 8 :=
  (by decide +kernel : ∀ t : Fin grid0.N, _)
theorem lt (t : Fin cfg0.N) : t.val < 8 := (idx t).2.2.2.2.2

/-- The operands in the launch memory. -/
def x (c : Dev nD) : FVec Ideal S16x4096 .f32 := m ((c : Thread nD τ).loc main_arg0)
def w (c : Dev nD) : FVec Ideal S4096x1536 .f32 := m ((c : Thread nD τ).loc main_arg1)
def b (c : Dev nD) : FVec Ideal S1x1536 .f32 := m ((c : Thread nD τ).loc main_arg2)

/-- Channel `k` of point `t`. -/
def chan (t : Fin cfg0.N) (k : Fin 512) : Fin 4096 := ⟨t.val * 512 + k.val, by have := lt t; omega⟩

theorem blk_x (c : Dev nD) (t : Fin cfg0.N) (p : Fin 16) (k : Fin 512) : (iblk m c 0 t : Vec Ideal S16x512 .f32) (ix2 p k) = x m c (ix2 p (chan t k)) := by
  blk_ext [iblk, V, idx t, x, chan]
theorem blk_w (c : Dev nD) (t : Fin cfg0.N) (k : Fin 512) (q : Fin 1536) : (iblk m c 1 t : Vec Ideal S512x1536 .f32) (ix2 k q) = w m c (ix2 (chan t k) q) := by
  blk_ext [iblk, V, idx t, w, chan]
theorem blk_b (c : Dev nD) (t : Fin cfg0.N) (q : Fin 1536) : (iblk m c 2 t : Vec Ideal S1x1536 .f32) (ix2 0 q) = b m c (ix2 0 q) := by
  blk_ext [iblk, V, idx t, b]

/-- What a channel adds to the modulation, in a point's blocks and in the operands. -/
def term (x0 : Vec Ideal S16x512 .f32) (x1 : Vec Ideal S512x1536 .f32) (p : Fin 16) (q : Fin 1536) (k : Fin 512) : EReal := act (x0 (ix2 p k)) * x1 (ix2 k q)
def at' (c : Dev nD) (p : Fin 16) (q : Fin 1536) (k : Fin 4096) : EReal := act (x m c (ix2 p k)) * w m c (ix2 k q)

theorem point (c : Dev nD) (t : Fin cfg0.N) (p : Fin 16) (q : Fin 1536) (k : Fin 512) : term (iblk m c 0 t) (iblk m c 1 t) p q k = at' m c p q (chan t k) := by
  rw [term, blk_x, blk_w, at']

theorem out_s (c : Dev nD) (t : Fin cfg0.N) (p : Fin 16) (k : Fin 512) : (outsAt0 m c t.val t.isLt).2 (ix2 p k) = act (x m c (ix2 p (chan t k))) := by
  rw [← blk_x]
  by_cases h : t.val % 8 = 0
  · rw [outsAt0_A m c t h]
    frame_out
    pointwise [k0_pay1, act]
  · rw [outsAt0_B m c t h]
    frame_out
    pointwise [k0_pay1, act]

/-- The first point starts the modulation at the bias, every point adds its channels. -/
theorem step_A (c : Dev nD) (t : Fin cfg0.N) (h : t.val % 8 = 0) (p : Fin 16) (q : Fin 1536) :
    (outsAt0 m c t.val t.isLt).1 (ix2 p q) = b m c (ix2 0 q) + ∑ k : Fin 512, term (iblk m c 0 t) (iblk m c 1 t) p q k := by
  rw [outsAt0_A m c t h, ← blk_b m c t]
  frame_out
  pointwise [k0_pay3, k0_pay2, k0_pay1, term, act]
theorem step_B (c : Dev nD) (t : Fin cfg0.N) (h : ¬ t.val % 8 = 0) (p : Fin 16) (q : Fin 1536) :
    (outsAt0 m c t.val t.isLt).1 (ix2 p q) = (outsAt0 m c (t.val - 1) (Nat.lt_of_le_of_lt (Nat.sub_le _ _) t.isLt)).1 (ix2 p q)
      + ∑ k : Fin 512, term (iblk m c 0 t) (iblk m c 1 t) p q k := by
  rw [outsAt0_B m c t h]
  frame_out
  pointwise [k0_pay3, k0_pay1, term, act]

/-! ## The arrays after the run -/

theorem final_s (c : Dev nD) : (dats m 0 c).arrAt 4 cfg0.N = fun y => act (x m c (ix2 (y 0) (y 1))) := by
  refine (dats m 0 c).arrAt_eq_of_covers 4 _ (by decide +kernel) fun t hf y => ?_
  blk_simp
  rw [after0_4]
  idx_vars y
  refine (out_s m c t y0 y1).trans (congrArg₂ (fun i j => act (x m c (ix2 i j))) (Fin.ext ?_) (Fin.ext ?_))
  all_goals blk_simp [idx t, chan]

/-- The modulation at one element. -/
def one (c : Dev nD) (i : Fin 16) (j : Fin 1536) : EReal := b m c (ix2 0 j) + ∑ k : Fin 4096, at' m c i j k

theorem sweep (c : Dev nD) (t : Fin cfg0.N) (ht : t.val % 8 = 7) (p : Fin 16) (q : Fin 1536) : (outsAt0 m c t.val t.isLt).1 (ix2 p q) = one m c p q := by
  refine (Pipeline.eq_sum_fin_of_reset_step_apply_of_flush (fun n h (_ : Unit) => (outsAt0 m c n h).1 (ix2 p q)) 8 (fun _ => b m c (ix2 0 q))
    (fun s _ => ∑ k : Fin 512, term (iblk m c 0 s) (iblk m c 1 s) p q k) (fun s h _ => step_A m c s h p q) (fun s h _ => step_B m c s h p q) t ht ()).trans ?_
  refine congrArg (b m c (ix2 0 q) + ·) (Fin.sum_mul_add_congr fun s k hl => ?_)
  rw [point]
  refine congrArg (at' m c p q) (Fin.ext ?_)
  show (8 * (t.val / 8) + s.val) * 512 + k.val = s.val * 512 + k.val
  have := lt t
  omega

theorem final_mod (c : Dev nD) : (dats m 0 c).arrAt 3 cfg0.N = fun y => one m c (y 0) (y 1) := by
  refine (dats m 0 c).arrAt_eq_of_covers 3 _ (by decide +kernel) fun t hf y => ?_
  have ht : t.val % 8 = 7 := (flush0_3 t).mp hf
  blk_simp
  rw [after0_3]
  idx_vars y
  refine (sweep m c t ht y0 y1).trans (congrArg₂ (one m c) (Fin.ext ?_) (Fin.ext ?_))
  all_goals blk_simp [idx t]

end Cert.KernelAfwdIdeal.Mod

namespace Cert.Proof

theorem afwd_ref_frame : Cert.quiescent_ReferenceAfwdIdeal := fun m ρ _ =>
  (θ_run Cert.ReferenceAfwdIdeal.defs _ _).mono (fun _ h => ⟨fun c => (h c).2.2, sem_eq_zero_of_no_sems (by decide) _⟩)
    (Cert.ReferenceAfwdIdeal.Value.run (F := Ideal) m ρ)

theorem afwd_algebraic : Cert.algebraic_KernelAfwdIdeal_ReferenceAfwdIdeal := by
  intro m ρ m' ρ' _ hin
  refine ⟨_, _, Cert.KernelAfwdIdeal.Value.run_blocks m ρ, ?_⟩
  refine (θ_run Cert.ReferenceAfwdIdeal.defs _ _).mono (fun r h c => ?_) (Cert.ReferenceAfwdIdeal.Value.run (F := Ideal) m' ρ')
  obtain ⟨h0, h1, h2⟩ := hin c
  refine ⟨(h c).1.trans ?_, (h c).2.1.trans ?_, (h c).2.2⟩
  · refine Eq.trans ?_ (Cert.KernelAfwdIdeal.Mod.final_mod m c).symm
    rw [h0, h1, h2]
    funext y
    idx_vars y
    refine (Cert.ReferenceAfwdIdeal.Mod.mod_apply (Cert.ReferenceAfwdIdeal.Mod.s _) _ _ y0 y1).trans ((add_comm _ _).trans ?_)
    simp only [Cert.ReferenceAfwdIdeal.Mod.s_apply]
    rfl
  · refine Eq.trans ?_ (Cert.KernelAfwdIdeal.Mod.final_s m c).symm
    rw [h0]
    funext y
    idx_vars y
    exact Cert.ReferenceAfwdIdeal.Mod.s_apply _ y0 y1

end Cert.Proof
-- ==== Proof.Abwd.lean ====
module

public import proofs.«01_k».proof.Defs
public import proofs.«01_k».proof.Proof.AdamStep
public import proofs.«01_k».proof.Proof.Gen.KernelAbwd.Frame
public import proofs.«01_k».proof.Proof.Gen.KernelAbwdIdeal.Frame
public import proofs.«01_k».proof.Proof.Gen.ReferenceAbwdIdeal.Run
public import Idealize.ShloMosaic.Lib.Pipeline.ValueKit
public import Idealize.ShloMosaic.Lib.Pointwise
public import Idealize.ShloMosaic.Lib.Claim
/-! # The gradient and the optimiser's step of the modulation's weights -/
@[expose] public section

set_option maxRecDepth 16384
noncomputable section
open Idealize.ShloMosaic Idealize.ShloMosaic.TcCoe Idealize.SL.Sem
open Idealize.ShloMosaic.Pipeline (Dat)

namespace Cert.Adam

/-- The gradient's sum: the eight samples' rows, and the context's row. -/
def outer (s g : Fin 8 → EReal) (sc d : EReal) : EReal := (∑ r : Fin 8, s r * g r) + sc * d

end Cert.Adam

namespace Cert.ReferenceAbwdIdeal.Step
open Cert.ReferenceAbwdIdeal Cert.ReferenceAbwdIdeal.Gen Cert.Adam

/-- The reference's gradients, moments and change of the weights. -/
def dmc (gc : FVec Ideal S8x1536 .f32) : FVec Ideal S1x1536 .f32 :=
  broadcastInDim S1x1536 ![1] bcast_S1536_S1x1536_1 (Host.reduceAdd gc (constant S_ .f32 0x00000000#32) reducesTo_S8x1536_S1536_d0 h_S_)
def g (s : FVec Ideal S16x4096 .f32) (ga gc : FVec Ideal S8x1536 .f32) : FVec Ideal S4096x1536 .f32 :=
  transpose S4096x1536 [1, 0] (Host.dotGeneral dot_S9x1536_S9x4096_S1536x4096_0_0_1_1_n_n none (concatenate S9x1536 0 [⟨S8x1536, ga⟩, ⟨S1x1536, (dmc gc)⟩] concatenates_S8x1536_S1x1536_S9x1536_d0) (extractStridedSlice S9x4096 ![0, 0] s slices_S16x4096_S9x4096_0_0)) transposes_S1536x4096_S4096x1536_1_0
def pc (gc : FVec Ideal S8x1536 .f32) (w : FVec Ideal S4096x1536 .f32) : FVec Ideal S1x4096 .f32 :=
  Host.dotGeneral dot_S1x1536_S4096x1536_S1x4096_1_1_0_0_n_n none (dmc gc) w
def nm (g m : FVec Ideal S4096x1536 .f32) : FVec Ideal S4096x1536 .f32 :=
  addf (mulf (broadcastInDim S4096x1536 ![] bcast_S_S4096x1536 (constant S_ .f32 0x3F666666#32)) m) (mulf (broadcastInDim S4096x1536 ![] bcast_S_S4096x1536 (constant S_ .f32 0x3DCCCCCD#32)) g)
def nv (g v : FVec Ideal S4096x1536 .f32) : FVec Ideal S4096x1536 .f32 :=
  addf (mulf (broadcastInDim S4096x1536 ![] bcast_S_S4096x1536 (constant S_ .f32 0x3F7FBE77#32)) v) (mulf (broadcastInDim S4096x1536 ![] bcast_S_S4096x1536 (constant S_ .f32 0x3A83126F#32)) (mulf g g))
def delta (w nm nv : FVec Ideal S4096x1536 .f32) : FVec Ideal S4096x1536 .f32 :=
  mulf (broadcastInDim S4096x1536 ![] bcast_S_S4096x1536 (constant S_ .f32 0xBA83126F#32)) (addf (Host.divf (Host.divf nm (broadcastInDim S4096x1536 ![] bcast_S_S4096x1536 (constant S_ .f32 0x3F26BD02#32))) (addf (Host.sqrt (Host.divf nv (broadcastInDim S4096x1536 ![] bcast_S_S4096x1536 (constant S_ .f32 0x3C231ACC#32)))) (broadcastInDim S4096x1536 ![] bcast_S_S4096x1536 (constant S_ .f32 0x322BCC77#32)))) (mulf (broadcastInDim S4096x1536 ![] bcast_S_S4096x1536 (constant S_ .f32 0x3C23D70A#32)) w))

theorem dmc_apply (gc : FVec Ideal S8x1536 .f32) (j : Fin 1536) : dmc gc (ix2 0 j) = grad fun d => gc (ix2 d j) := by
  pointwise [dmc, grad]
theorem g_apply (s : FVec Ideal S16x4096 .f32) (ga gc : FVec Ideal S8x1536 .f32) (i : Fin 4096) (j : Fin 1536) :
    g s ga gc (ix2 i j) = outer (fun r => s (ix2 ⟨r.val, by omega⟩ i)) (fun r => ga (ix2 r j)) (s (ix2 8 i)) (grad fun d => gc (ix2 d j)) := by
  rw [← dmc_apply]
  generalize hd : dmc gc = d
  pointwise [g, outer, hd]
  simp only [Finset.univ_unique, Finset.sum_const, Finset.card_singleton, one_smul]
  exact congrArg₂ (· + ·) (Finset.sum_congr rfl fun _ _ => mul_comm _ _) (mul_comm _ _)
theorem pc_apply (gc : FVec Ideal S8x1536 .f32) (w : FVec Ideal S4096x1536 .f32) (i : Fin 4096) :
    pc gc w (ix2 0 i) = ∑ q : Fin 1536, (grad fun d => gc (ix2 d q)) * w (ix2 i q) := by
  simp only [← dmc_apply]
  generalize hd : dmc gc = d
  pointwise [pc, hd]
theorem nm_apply (g m : FVec Ideal S4096x1536 .f32) (i : Fin 4096) (j : Fin 1536) : nm g m (ix2 i j) = mom (g (ix2 i j)) (m (ix2 i j)) := by
  pointwise [nm, mom]
theorem nv_apply (g v : FVec Ideal S4096x1536 .f32) (i : Fin 4096) (j : Fin 1536) : nv g v (ix2 i j) = sec (g (ix2 i j)) (v (ix2 i j)) := by
  pointwise [nv, sec]
theorem delta_apply (w a b : FVec Ideal S4096x1536 .f32) (i : Fin 4096) (j : Fin 1536) : delta w a b (ix2 i j) = move (w (ix2 i j)) (a (ix2 i j)) (b (ix2 i j)) := by
  pointwise [delta, move]

end Cert.ReferenceAbwdIdeal.Step

namespace Cert.KernelAbwdIdeal.Step
open Cert.KernelAbwdIdeal Cert.KernelAbwdIdeal.Gen Cert.Adam

variable (m : (ℓ : Loc nD τ sig) → Buf (Elt Ideal) ℓ)

theorem idx : ∀ t : Fin cfg0.N, win0_0.index t = ![0, t.val] ∧ win0_1.index t = ![0, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![0, t.val] ∧ t.val < 16 :=
  (by decide +kernel : ∀ t : Fin grid0.N, _)
theorem lt (t : Fin cfg0.N) : t.val < 16 := (idx t).2.2.2.2.2.2.2.2.2.2.2

/-- The operands in the launch memory. -/
def s (c : Dev nD) : FVec Ideal S16x4096 .f32 := m ((c : Thread nD τ).loc main_arg0)
def ga (c : Dev nD) : FVec Ideal S8x1536 .f32 := m ((c : Thread nD τ).loc main_arg1)
def gc (c : Dev nD) : FVec Ideal S8x1536 .f32 := m ((c : Thread nD τ).loc main_arg2)
def w (c : Dev nD) : FVec Ideal S4096x1536 .f32 := m ((c : Thread nD τ).loc main_arg3)
def m1 (c : Dev nD) : FVec Ideal S4096x1536 .f32 := m ((c : Thread nD τ).loc main_arg4)
def m2 (c : Dev nD) : FVec Ideal S4096x1536 .f32 := m ((c : Thread nD τ).loc main_arg5)

/-- Row `p` of point `t`. -/
def row (t : Fin cfg0.N) (p : Fin 256) : Fin 4096 := ⟨t.val * 256 + p.val, by have := lt t; omega⟩

theorem blk_s (c : Dev nD) (t : Fin cfg0.N) (r : Fin 16) (p : Fin 256) : (iblk m c 0 t : Vec Ideal S16x256 .f32) (ix2 r p) = s m c (ix2 r (row t p)) := by
  blk_ext [iblk, V, idx t, s, row]
theorem blk_ga (c : Dev nD) (t : Fin cfg0.N) (r : Fin 8) (k : Fin 1536) : (iblk m c 1 t : Vec Ideal S8x1536 .f32) (ix2 r k) = ga m c (ix2 r k) := by
  blk_ext [iblk, V, idx t, ga]
theorem blk_gc (c : Dev nD) (t : Fin cfg0.N) (r : Fin 8) (k : Fin 1536) : (iblk m c 2 t : Vec Ideal S8x1536 .f32) (ix2 r k) = gc m c (ix2 r k) := by
  blk_ext [iblk, V, idx t, gc]
theorem blk_w (c : Dev nD) (t : Fin cfg0.N) (p : Fin 256) (k : Fin 1536) : (iblk m c 3 t : Vec Ideal S256x1536 .f32) (ix2 p k) = w m c (ix2 (row t p) k) := by
  blk_ext [iblk, V, idx t, w, row]
theorem blk_m1 (c : Dev nD) (t : Fin cfg0.N) (p : Fin 256) (k : Fin 1536) : (iblk m c 4 t : Vec Ideal S256x1536 .f32) (ix2 p k) = m1 m c (ix2 (row t p) k) := by
  blk_ext [iblk, V, idx t, m1, row]
theorem blk_m2 (c : Dev nD) (t : Fin cfg0.N) (p : Fin 256) (k : Fin 1536) : (iblk m c 5 t : Vec Ideal S256x1536 .f32) (ix2 p k) = m2 m c (ix2 (row t p) k) := by
  blk_ext [iblk, V, idx t, m2, row]

theorem pay6 (g a : Vec Ideal S256x1536 .f32) (p : Fin 256) (k : Fin 1536) : k0_pay6 g a (ix2 p k) = mom (g (ix2 p k)) (a (ix2 p k)) := by
  pointwise [k0_pay6, mom]
theorem pay7 (g a : Vec Ideal S256x1536 .f32) (p : Fin 256) (k : Fin 1536) : k0_pay7 g a (ix2 p k) = sec (g (ix2 p k)) (a (ix2 p k)) := by
  pointwise [k0_pay7, sec]
theorem pay8 (w g a b : Vec Ideal S256x1536 .f32) (p : Fin 256) (k : Fin 1536) :
    k0_pay8 w g a b (ix2 p k) = move (w (ix2 p k)) (mom (g (ix2 p k)) (a (ix2 p k))) (sec (g (ix2 p k)) (b (ix2 p k))) := by
  rw [← pay6, ← pay7]
  pointwise [k0_pay8, move]

/-- The context's row of the eight devices' rows, in the first of eight rows. -/
theorem pay1 (v0 v1 v2 v3 v4 v5 v6 v7 : Vec Ideal S1x1536 .f32) (r : Fin 8) (k : Fin 1536) : k0_pay1 v0 v1 v2 v3 v4 v5 v6 v7 (ix2 r k)
    = if r.val = 0 then v0 (ix2 0 k) + v1 (ix2 0 k) + v2 (ix2 0 k) + v3 (ix2 0 k) + v4 (ix2 0 k) + v5 (ix2 0 k) + v6 (ix2 0 k) + v7 (ix2 0 k) else 0 := by
  pointwise [k0_pay1]
  generalize v0 (ix2 0 k) + v1 (ix2 0 k) + v2 (ix2 0 k) + v3 (ix2 0 k) + v4 (ix2 0 k) + v5 (ix2 0 k) + v6 (ix2 0 k) + v7 (ix2 0 k) = z
  fin_cases r <;> rfl

/-- The gradient of a point's blocks. -/
theorem pay3 (v0 v1 v2 v3 v4 v5 v6 v7 : Vec Ideal S1x1536 .f32) (a : Vec Ideal S8x1536 .f32) (s : Vec Ideal S16x256 .f32) (p : Fin 256) (k : Fin 1536) :
    k0_pay3 v0 v1 v2 v3 v4 v5 v6 v7 a s (ix2 p k) = outer (fun r => s (ix2 ⟨r.val, by omega⟩ p)) (fun r => a (ix2 r k)) (s (ix2 8 p))
      (v0 (ix2 0 k) + v1 (ix2 0 k) + v2 (ix2 0 k) + v3 (ix2 0 k) + v4 (ix2 0 k) + v5 (ix2 0 k) + v6 (ix2 0 k) + v7 (ix2 0 k)) := by
  pointwise [k0_pay3]
  simp only [pay1]
  refine congrArg (_ + ·) ((Finset.sum_eq_single 0 (fun r _ h => ?_) fun h => absurd (Finset.mem_univ _) h).trans rfl)
  rw [if_neg (c := r.val = 0) fun e => h (Fin.ext e), mul_zero]

/-- The context's row in the first of sixteen rows, and what it gives a channel. -/
theorem pay2 (v0 v1 v2 v3 v4 v5 v6 v7 : Vec Ideal S1x1536 .f32) (r : Fin 16) (k : Fin 1536) : k0_pay2 v0 v1 v2 v3 v4 v5 v6 v7 (ix2 r k)
    = if r.val = 0 then v0 (ix2 0 k) + v1 (ix2 0 k) + v2 (ix2 0 k) + v3 (ix2 0 k) + v4 (ix2 0 k) + v5 (ix2 0 k) + v6 (ix2 0 k) + v7 (ix2 0 k) else 0 := by
  pointwise [k0_pay2]
  by_cases h : r.val < 8
  · rw [dif_pos h, pay1]
  · rw [dif_neg h, if_neg (by omega)]
theorem pay5 (v0 v1 v2 v3 v4 v5 v6 v7 : Vec Ideal S1x1536 .f32) (w : Vec Ideal S256x1536 .f32) (r : Fin 16) (p : Fin 256) :
    k0_pay5 (k0_pay2 v0 v1 v2 v3 v4 v5 v6 v7) (k0_pay4 w) (ix2 r p) = ∑ k : Fin 1536,
      (if r.val = 0 then v0 (ix2 0 k) + v1 (ix2 0 k) + v2 (ix2 0 k) + v3 (ix2 0 k) + v4 (ix2 0 k) + v5 (ix2 0 k) + v6 (ix2 0 k) + v7 (ix2 0 k) else 0) * w (ix2 p k) := by
  pointwise [k0_pay5, k0_pay4]
  simp only [pay2]

/-- The context's row at a column. -/
def ctx (c : Dev nD) (k : Fin 1536) : EReal := grad fun d => gc m c (ix2 d k)

/-- The gradient at one element. -/
def gr (c : Dev nD) (i : Fin 4096) (j : Fin 1536) : EReal :=
  outer (fun r => s m c (ix2 ⟨r.val, by omega⟩ i)) (fun r => ga m c (ix2 r j)) (s m c (ix2 8 i)) (ctx m c j)

/-- The gradient that a point computes. -/
def gsum (c : Dev nD) (t : Fin cfg0.N) : Vec Ideal S256x1536 .f32 := k0_pay9 (iblk m c 0 t) (iblk m c 1 t) (iblk m c 2 t) (iblk m c 3 t) (iblk m c 4 t) (iblk m c 5 t)

theorem gsum_apply (c : Dev nD) (t : Fin cfg0.N) (p : Fin 256) (k : Fin 1536) : gsum m c t (ix2 p k) = gr m c (row t p) k := by
  rw [gr, ctx, ← grad_eq]
  simp only [← blk_s, ← blk_ga m c t, ← blk_gc m c t]
  unfold gsum k0_pay9
  refine (pay3 _ _ _ _ _ _ _ _ _ _ p k).trans ?_
  pointwise [outer]

theorem out_g (c : Dev nD) (t : Fin cfg0.N) (p : Fin 256) (k : Fin 1536) :
    out0_6 (iblk m c 0 t) (iblk m c 1 t) (iblk m c 2 t) (iblk m c 3 t) (iblk m c 4 t) (iblk m c 5 t) (ix2 p k) = gr m c (row t p) k := by
  rw [← gsum_apply, gsum]
  unfold out0_6
  frame_out
theorem out_d (c : Dev nD) (t : Fin cfg0.N) (p : Fin 256) (k : Fin 1536) :
    out0_7 (iblk m c 0 t) (iblk m c 1 t) (iblk m c 2 t) (iblk m c 3 t) (iblk m c 4 t) (iblk m c 5 t) (ix2 p k)
    = move (w m c (ix2 (row t p) k)) (mom (gr m c (row t p) k) (m1 m c (ix2 (row t p) k))) (sec (gr m c (row t p) k) (m2 m c (ix2 (row t p) k))) := by
  rw [← gsum_apply, ← blk_w, ← blk_m1, ← blk_m2, ← pay8, gsum]
  unfold out0_7
  frame_out
theorem out_m (c : Dev nD) (t : Fin cfg0.N) (p : Fin 256) (k : Fin 1536) :
    out0_8 (iblk m c 0 t) (iblk m c 1 t) (iblk m c 2 t) (iblk m c 3 t) (iblk m c 4 t) (iblk m c 5 t) (ix2 p k)
    = mom (gr m c (row t p) k) (m1 m c (ix2 (row t p) k)) := by
  rw [← gsum_apply, ← blk_m1, ← pay6, gsum]
  unfold out0_8
  frame_out
theorem out_v (c : Dev nD) (t : Fin cfg0.N) (p : Fin 256) (k : Fin 1536) :
    out0_9 (iblk m c 0 t) (iblk m c 1 t) (iblk m c 2 t) (iblk m c 3 t) (iblk m c 4 t) (iblk m c 5 t) (ix2 p k)
    = sec (gr m c (row t p) k) (m2 m c (ix2 (row t p) k)) := by
  rw [← gsum_apply, ← blk_m2, ← pay7, gsum]
  unfold out0_9
  frame_out
theorem out_c (c : Dev nD) (t : Fin cfg0.N) (r : Fin 16) (p : Fin 256) :
    out0_10 (iblk m c 0 t) (iblk m c 1 t) (iblk m c 2 t) (iblk m c 3 t) (iblk m c 4 t) (iblk m c 5 t) (ix2 r p)
    = ∑ k : Fin 1536, (if r.val = 0 then ctx m c k else 0) * w m c (ix2 (row t p) k) := by
  simp only [ctx, ← grad_eq, ← blk_gc m c t, ← blk_w]
  unfold out0_10
  frame_out
  refine (pay5 _ _ _ _ _ _ _ _ _ r p).trans ?_
  pointwise []

/-- The results. -/
def G (c : Dev nD) : FVec Ideal S4096x1536 .f32 := fun y => gr m c (y 0) (y 1)
def D (c : Dev nD) : FVec Ideal S4096x1536 .f32 := fun y => move (w m c (ix2 (y 0) (y 1))) (mom (gr m c (y 0) (y 1)) (m1 m c (ix2 (y 0) (y 1)))) (sec (gr m c (y 0) (y 1)) (m2 m c (ix2 (y 0) (y 1))))
def M (c : Dev nD) : FVec Ideal S4096x1536 .f32 := fun y => mom (gr m c (y 0) (y 1)) (m1 m c (ix2 (y 0) (y 1)))
def W (c : Dev nD) : FVec Ideal S4096x1536 .f32 := fun y => sec (gr m c (y 0) (y 1)) (m2 m c (ix2 (y 0) (y 1)))
def rowC (c : Dev nD) (r : Fin 16) (i : Fin 4096) : EReal := ∑ k : Fin 1536, (if r.val = 0 then ctx m c k else 0) * w m c (ix2 i k)
def C (c : Dev nD) : FVec Ideal S16x4096 .f32 := fun y => rowC m c (y 0) (y 1)

/-- An array's element at equal rows and columns. -/
theorem at_eq (f : FVec Ideal S4096x1536 .f32) {i : Fin 4096} {j : Fin 1536} {y : S4096x1536.Idx} (h1 : i.val = (y 0).val) (h2 : j.val = (y 1).val) : f (ix2 i j) = f y := by
  congr 1
  funext a
  refine Fin.cases ?_ (fun a => Fin.cases ?_ (fun a => a.elim0) a) a
  · exact Fin.ext h1
  · exact Fin.ext h2

theorem final_G (c : Dev nD) : (dats m 0 c).arrAt 6 cfg0.N = G m c := by
  refine (dats m 0 c).arrAt_eq_of_covers 6 _ (by decide +kernel) fun t hf y => ?_
  blk_simp
  rw [after0_6]
  idx_vars y
  refine (out_g m c t y0 y1).trans (at_eq (G m c) (i := row t y0) (j := y1) ?_ ?_)
  all_goals blk_simp [idx t, row]
theorem final_D (c : Dev nD) : (dats m 0 c).arrAt 7 cfg0.N = D m c := by
  refine (dats m 0 c).arrAt_eq_of_covers 7 _ (by decide +kernel) fun t hf y => ?_
  blk_simp
  rw [after0_7]
  idx_vars y
  refine (out_d m c t y0 y1).trans (at_eq (D m c) (i := row t y0) (j := y1) ?_ ?_)
  all_goals blk_simp [idx t, row]
theorem final_M (c : Dev nD) : (dats m 0 c).arrAt 8 cfg0.N = M m c := by
  refine (dats m 0 c).arrAt_eq_of_covers 8 _ (by decide +kernel) fun t hf y => ?_
  blk_simp
  rw [after0_8]
  idx_vars y
  refine (out_m m c t y0 y1).trans (at_eq (M m c) (i := row t y0) (j := y1) ?_ ?_)
  all_goals blk_simp [idx t, row]
theorem final_V (c : Dev nD) : (dats m 0 c).arrAt 9 cfg0.N = W m c := by
  refine (dats m 0 c).arrAt_eq_of_covers 9 _ (by decide +kernel) fun t hf y => ?_
  blk_simp
  rw [after0_9]
  idx_vars y
  refine (out_v m c t y0 y1).trans (at_eq (W m c) (i := row t y0) (j := y1) ?_ ?_)
  all_goals blk_simp [idx t, row]

theorem final_C (c : Dev nD) : (dats m 0 c).arrAt 10 cfg0.N = C m c := by
  refine (dats m 0 c).arrAt_eq_of_covers 10 _ (by decide +kernel) fun t hf y => ?_
  blk_simp
  rw [after0_10]
  idx_vars y
  refine (out_c m c t y0 y1).trans (congrArg₂ (rowC m c) (Fin.ext ?_) (Fin.ext ?_))
  all_goals blk_simp [idx t, row]

variable (ρ : Dev nD → PrngReg)

/-- The row that the program returns, of sixteen. -/
def first (a : FVec Ideal S16x4096 .f32) : FVec Ideal S1x4096 .f32 := extractStridedSlice S1x4096 ![0, 0] a slices_S16x4096_S1x4096_0_0

theorem first_apply (a : FVec Ideal S16x4096 .f32) (j : Fin 4096) : first a (ix2 0 j) = a (ix2 0 j) := by
  pointwise [first]

theorem first_C (c : Dev nD) (j : Fin 4096) : first (C m c) (ix2 0 j) = ∑ k : Fin 1536, ctx m c k * w m c (ix2 j k) := by
  refine (first_apply _ j).trans ?_
  show rowC m c 0 j = _
  unfold rowC
  exact Finset.sum_congr rfl fun k _ => congrArg (· * _) (if_pos rfl)

/-- The last result after the host code that follows the call. -/
theorem tail (c : Dev nD) : Pipeline.afterTail₀ cfgs (dats m) 0 (V0 m) [hostOps1] c main_v1 = first ((dats m 0 c).arrAt 10 cfg0.N) := by
  have e : Pipeline.withArrays (cfgs 0).spec c (V0 m c) (fun w => (dats m 0 c).arrAt w (cfgs 0).N) (Proc.devRef .tc main_v0_4) = (dats m 0 c).arrAt 10 cfg0.N :=
    Pipeline.withArrays_arr (cfgs 0).spec (by decide) c _ _ 10
  rw [← e]
  unfold Pipeline.afterTail₀
  simp only [List.flatten_cons, List.flatten_nil, List.append_nil]
  after_results
  rfl

theorem run_blocks : θ_run defs (onTc (τ := τ) (main (F := Ideal))) ⟨m, fun _ => 0, ρ⟩ fun r => ∀ c : Dev nD,
      r.2.mem ((c : Thread nD τ).loc main_v0_0) = (dats m 0 c).arrAt 6 cfg0.N
      ∧ r.2.mem ((c : Thread nD τ).loc main_v0_1) = (dats m 0 c).arrAt 7 cfg0.N
      ∧ r.2.mem ((c : Thread nD τ).loc main_v0_2) = (dats m 0 c).arrAt 8 cfg0.N
      ∧ r.2.mem ((c : Thread nD τ).loc main_v0_3) = (dats m 0 c).arrAt 9 cfg0.N
      ∧ r.2.mem ((c : Thread nD τ).loc main_v1) = first ((dats m 0 c).arrAt 10 cfg0.N)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h.1 c).1 6, (h.1 c).1 7, (h.1 c).1 8, (h.1 c).1 9,
      ((h.1 c).2 main_v1 (Pipeline.mem_restRefs_of main_v1 (by decide) (by decide))).trans (tail m c), h.2 c⟩)
    (θ_run_and (run_main m ρ) (unchanged m ρ))

end Cert.KernelAbwdIdeal.Step

namespace Cert.Proof
open Cert.KernelAbwdIdeal.Step (G D M W C final_G final_D final_M final_V final_C first first_C)
open Cert.ReferenceAbwdIdeal.Step

theorem abwd_ref_frame : Cert.quiescent_ReferenceAbwdIdeal := fun m ρ _ =>
  (θ_run Cert.ReferenceAbwdIdeal.defs _ _).mono (fun _ h => ⟨fun c => (h c).2.2.2.2.2, sem_eq_zero_of_no_sems (by decide) _⟩)
    (Cert.ReferenceAbwdIdeal.Value.run (F := Ideal) m ρ)

theorem abwd_algebraic : Cert.algebraic_KernelAbwdIdeal_ReferenceAbwdIdeal := by
  intro m ρ m' ρ' _ hin
  refine ⟨_, _, _, _, _, Cert.KernelAbwdIdeal.Step.run_blocks m ρ, ?_⟩
  refine (θ_run Cert.ReferenceAbwdIdeal.defs _ _).mono (fun r h c => ?_) (Cert.ReferenceAbwdIdeal.Value.run (F := Ideal) m' ρ')
  obtain ⟨h0, h1, h2, h3, h4, h5⟩ := hin c
  have hg : g (m' ((c : Thread Cert.ReferenceAbwdIdeal.nD Cert.ReferenceAbwdIdeal.τ).loc Cert.ReferenceAbwdIdeal.main_arg0))
      (m' ((c : Thread Cert.ReferenceAbwdIdeal.nD Cert.ReferenceAbwdIdeal.τ).loc Cert.ReferenceAbwdIdeal.main_arg1))
      (m' ((c : Thread Cert.ReferenceAbwdIdeal.nD Cert.ReferenceAbwdIdeal.τ).loc Cert.ReferenceAbwdIdeal.main_arg2)) = G m c := by
    rw [h0, h1, h2]
    funext y
    idx_vars y
    exact g_apply _ _ _ y0 y1
  have hm : nm (G m c) (m' ((c : Thread Cert.ReferenceAbwdIdeal.nD Cert.ReferenceAbwdIdeal.τ).loc Cert.ReferenceAbwdIdeal.main_arg4)) = M m c := by
    rw [h4]
    funext y
    idx_vars y
    exact nm_apply _ _ y0 y1
  have hv : nv (G m c) (m' ((c : Thread Cert.ReferenceAbwdIdeal.nD Cert.ReferenceAbwdIdeal.τ).loc Cert.ReferenceAbwdIdeal.main_arg5)) = W m c := by
    rw [h5]
    funext y
    idx_vars y
    exact nv_apply _ _ y0 y1
  have hd : delta (m' ((c : Thread Cert.ReferenceAbwdIdeal.nD Cert.ReferenceAbwdIdeal.τ).loc Cert.ReferenceAbwdIdeal.main_arg3)) (M m c) (W m c) = D m c := by
    rw [h3]
    funext y
    idx_vars y
    exact delta_apply _ _ _ y0 y1
  have hc : pc (m' ((c : Thread Cert.ReferenceAbwdIdeal.nD Cert.ReferenceAbwdIdeal.τ).loc Cert.ReferenceAbwdIdeal.main_arg2))
      (m' ((c : Thread Cert.ReferenceAbwdIdeal.nD Cert.ReferenceAbwdIdeal.τ).loc Cert.ReferenceAbwdIdeal.main_arg3)) = first (C m c) := by
    rw [h2, h3]
    funext y
    idx_vars y
    obtain rfl := Subsingleton.elim y0 (0 : Fin 1)
    exact (pc_apply _ _ y1).trans (first_C m c y1).symm
  refine ⟨(h c).1.trans (hg.trans (final_G m c).symm), (h c).2.1.trans (Eq.trans ?_ (final_D m c).symm),
    (h c).2.2.1.trans (Eq.trans ?_ (final_M m c).symm), (h c).2.2.2.1.trans (Eq.trans ?_ (final_V m c).symm),
    (h c).2.2.2.2.1.trans (hc.trans (congrArg first (final_C m c).symm)), (h c).2.2.2.2.2⟩
  · rw [← hd, ← hm, ← hv, ← hg]
    rfl
  · rw [← hm, ← hg]
    rfl
  · rw [← hv, ← hg]
    rfl

end Cert.Proof
-- ==== Proof.lean ====
/- The proof of the claim: the frames of the programs, and the value claims, that each kernel over the extended reals
   computes what its reference does. -/
module

public import proofs.«01_k».proof.Defs
public import proofs.«01_k».proof.Proof.Gen.Kernel.Frame
public import proofs.«01_k».proof.Proof.Gen.KernelIdeal.Frame
public import proofs.«01_k».proof.Proof.GateClaim
public import proofs.«01_k».proof.Proof.Dh
public import proofs.«01_k».proof.Proof.Gwin0
public import proofs.«01_k».proof.Proof.Gwin1
public import proofs.«01_k».proof.Proof.Gwin2
public import proofs.«01_k».proof.Proof.Gwin3
public import proofs.«01_k».proof.Proof.Dmixed
public import proofs.«01_k».proof.Proof.Gwout
public import proofs.«01_k».proof.Proof.Out
public import proofs.«01_k».proof.Proof.Dz
public import proofs.«01_k».proof.Proof.Gwpool
public import proofs.«01_k».proof.Proof.Proj0
public import proofs.«01_k».proof.Proof.Proj1
public import proofs.«01_k».proof.Proof.Proj2
public import proofs.«01_k».proof.Proof.Proj3
public import proofs.«01_k».proof.Proof.Pool
public import proofs.«01_k».proof.Proof.Coef
public import proofs.«01_k».proof.Proof.Mixa
public import proofs.«01_k».proof.Proof.Mixb
public import proofs.«01_k».proof.Proof.Mix
public import proofs.«01_k».proof.Proof.Aout
public import proofs.«01_k».proof.Proof.Apool
public import proofs.«01_k».proof.Proof.Agate
public import proofs.«01_k».proof.Proof.Awin
public import proofs.«01_k».proof.Proof.Nlat
public import proofs.«01_k».proof.Proof.Nctx
public import proofs.«01_k».proof.Proof.Conv
public import proofs.«01_k».proof.Proof.Ssum
public import proofs.«01_k».proof.Proof.Nbc
public import proofs.«01_k».proof.Proof.Afwd
public import proofs.«01_k».proof.Proof.Abwd
@[expose] public section

noncomputable section
namespace Cert.Proof
open Idealize.ShloMosaic Idealize.SL.Sem

theorem claim : Cert.Claim :=
  ⟨Cert.Kernel.Gen.facts, Cert.KernelIdeal.Gen.facts, Cert.ReferenceIdeal.Gen.facts,
    Cert.KernelDh.Gen.facts, Cert.KernelDhIdeal.Gen.facts, Cert.ReferenceDhIdeal.Gen.facts,
    Cert.KernelGwin0.Gen.facts, Cert.KernelGwin0Ideal.Gen.facts, Cert.ReferenceGwin0Ideal.Gen.facts,
    Cert.KernelGwin1.Gen.facts, Cert.KernelGwin1Ideal.Gen.facts, Cert.ReferenceGwin1Ideal.Gen.facts,
    Cert.KernelGwin2.Gen.facts, Cert.KernelGwin2Ideal.Gen.facts, Cert.ReferenceGwin2Ideal.Gen.facts,
    Cert.KernelGwin3.Gen.facts, Cert.KernelGwin3Ideal.Gen.facts, Cert.ReferenceGwin3Ideal.Gen.facts,
    Cert.KernelDmixed.Gen.facts, Cert.KernelDmixedIdeal.Gen.facts, Cert.ReferenceDmixedIdeal.Gen.facts,
    Cert.KernelGwout.Gen.facts, Cert.KernelGwoutIdeal.Gen.facts, Cert.ReferenceGwoutIdeal.Gen.facts,
    Cert.KernelOut.Gen.facts, Cert.KernelOutIdeal.Gen.facts, Cert.ReferenceOutIdeal.Gen.facts,
    Cert.KernelDz.Gen.facts, Cert.KernelDzIdeal.Gen.facts, Cert.ReferenceDzIdeal.Gen.facts,
    Cert.KernelGwpool.Gen.facts, Cert.KernelGwpoolIdeal.Gen.facts, Cert.ReferenceGwpoolIdeal.Gen.facts,
    Cert.KernelProj0.Gen.facts, Cert.KernelProj0Ideal.Gen.facts, Cert.ReferenceProj0Ideal.Gen.facts,
    Cert.KernelProj1.Gen.facts, Cert.KernelProj1Ideal.Gen.facts, Cert.ReferenceProj1Ideal.Gen.facts,
    Cert.KernelProj2.Gen.facts, Cert.KernelProj2Ideal.Gen.facts, Cert.ReferenceProj2Ideal.Gen.facts,
    Cert.KernelProj3.Gen.facts, Cert.KernelProj3Ideal.Gen.facts, Cert.ReferenceProj3Ideal.Gen.facts,
    Cert.KernelPool.Gen.facts, Cert.KernelPoolIdeal.Gen.facts, Cert.ReferencePoolIdeal.Gen.facts,
    Cert.KernelCoef.Gen.facts, Cert.KernelCoefIdeal.Gen.facts, Cert.ReferenceCoefIdeal.Gen.facts,
    Cert.KernelMixa.Gen.facts, Cert.KernelMixaIdeal.Gen.facts, Cert.ReferenceMixaIdeal.Gen.facts,
    Cert.KernelMixb.Gen.facts, Cert.KernelMixbIdeal.Gen.facts, Cert.ReferenceMixbIdeal.Gen.facts,
    Cert.KernelMix.Gen.facts, Cert.KernelMixIdeal.Gen.facts, Cert.ReferenceMixIdeal.Gen.facts,
    Cert.KernelAout.Gen.facts, Cert.KernelAoutIdeal.Gen.facts, Cert.ReferenceAoutIdeal.Gen.facts,
    Cert.KernelApool.Gen.facts, Cert.KernelApoolIdeal.Gen.facts, Cert.ReferenceApoolIdeal.Gen.facts,
    Cert.KernelAgate.Gen.facts, Cert.KernelAgateIdeal.Gen.facts, Cert.ReferenceAgateIdeal.Gen.facts,
    Cert.KernelAwin.Gen.facts, Cert.KernelAwinIdeal.Gen.facts, Cert.ReferenceAwinIdeal.Gen.facts,
    Cert.KernelNlat.Gen.facts, Cert.KernelNlatIdeal.Gen.facts, Cert.ReferenceNlatIdeal.Gen.facts,
    Cert.KernelNctx.Gen.facts, Cert.KernelNctxIdeal.Gen.facts, Cert.ReferenceNctxIdeal.Gen.facts,
    Cert.KernelConv.Gen.facts, Cert.KernelConvIdeal.Gen.facts, Cert.ReferenceConvIdeal.Gen.facts,
    Cert.KernelSsum.Gen.facts, Cert.KernelSsumIdeal.Gen.facts, Cert.ReferenceSsumIdeal.Gen.facts,
    Cert.KernelNbc.Gen.facts, Cert.KernelNbcIdeal.Gen.facts, Cert.ReferenceNbcIdeal.Gen.facts,
    Cert.KernelAfwd.Gen.facts, Cert.KernelAfwdIdeal.Gen.facts, Cert.ReferenceAfwdIdeal.Gen.facts,
    Cert.KernelAbwd.Gen.facts, Cert.KernelAbwdIdeal.Gen.facts, Cert.ReferenceAbwdIdeal.Gen.facts,
    Cert.Pre_gates_finite.facts, Cert.Pre_states_finite.facts, Cert.Pre_pool_finite.facts,
    fun m ρ _ => Cert.Kernel.Gen.frame m ρ, fun m ρ _ => Cert.KernelIdeal.Gen.frame m ρ, fun m ρ _ => Cert.KernelIdeal.Gen.frame m ρ,
    gates_ref_frame, fun m ρ _ => gates_ref_frame m ρ trivial,
    fun m ρ _ => Cert.KernelDh.Gen.frame m ρ, fun m ρ _ => Cert.KernelDhIdeal.Gen.frame m ρ, dh_ref_frame,
    fun m ρ _ => Cert.KernelGwin0.Gen.frame m ρ, fun m ρ _ => Cert.KernelGwin0Ideal.Gen.frame m ρ, gwin0_ref_frame,
    fun m ρ _ => Cert.KernelGwin1.Gen.frame m ρ, fun m ρ _ => Cert.KernelGwin1Ideal.Gen.frame m ρ, gwin1_ref_frame,
    fun m ρ _ => Cert.KernelGwin2.Gen.frame m ρ, fun m ρ _ => Cert.KernelGwin2Ideal.Gen.frame m ρ, gwin2_ref_frame,
    fun m ρ _ => Cert.KernelGwin3.Gen.frame m ρ, fun m ρ _ => Cert.KernelGwin3Ideal.Gen.frame m ρ, gwin3_ref_frame,
    fun m ρ _ => Cert.KernelDmixed.Gen.frame m ρ, fun m ρ _ => Cert.KernelDmixedIdeal.Gen.frame m ρ, dmixed_ref_frame,
    fun m ρ _ => Cert.KernelGwout.Gen.frame m ρ, fun m ρ _ => Cert.KernelGwoutIdeal.Gen.frame m ρ, gwout_ref_frame,
    fun m ρ _ => Cert.KernelOut.Gen.frame m ρ, fun m ρ _ => Cert.KernelOutIdeal.Gen.frame m ρ, out_ref_frame,
    fun m ρ _ => Cert.KernelDz.Gen.frame m ρ, fun m ρ _ => Cert.KernelDzIdeal.Gen.frame m ρ, dz_ref_frame,
    fun m ρ _ => Cert.KernelGwpool.Gen.frame m ρ, fun m ρ _ => Cert.KernelGwpoolIdeal.Gen.frame m ρ, gwpool_ref_frame,
    fun m ρ _ => Cert.KernelProj0.Gen.frame m ρ, fun m ρ _ => Cert.KernelProj0Ideal.Gen.frame m ρ, proj0_ref_frame,
    fun m ρ _ => Cert.KernelProj1.Gen.frame m ρ, fun m ρ _ => Cert.KernelProj1Ideal.Gen.frame m ρ, proj1_ref_frame,
    fun m ρ _ => Cert.KernelProj2.Gen.frame m ρ, fun m ρ _ => Cert.KernelProj2Ideal.Gen.frame m ρ, proj2_ref_frame,
    fun m ρ _ => Cert.KernelProj3.Gen.frame m ρ, fun m ρ _ => Cert.KernelProj3Ideal.Gen.frame m ρ, proj3_ref_frame,
    fun m ρ _ => Cert.KernelPool.Gen.frame m ρ, fun m ρ _ => Cert.KernelPoolIdeal.Gen.frame m ρ, pool_ref_frame,
    fun m ρ _ => Cert.KernelCoef.Gen.frame m ρ, fun m ρ _ => Cert.KernelCoefIdeal.Gen.frame m ρ, coef_ref_frame,
    fun m ρ _ => Cert.KernelMixa.Gen.frame m ρ, fun m ρ _ => Cert.KernelMixaIdeal.Gen.frame m ρ, fun m ρ _ => Cert.KernelMixaIdeal.Gen.frame m ρ,
    mixa_ref_frame, fun m ρ _ => mixa_ref_frame m ρ trivial,
    fun m ρ _ => Cert.KernelMixb.Gen.frame m ρ, fun m ρ _ => Cert.KernelMixbIdeal.Gen.frame m ρ, fun m ρ _ => Cert.KernelMixbIdeal.Gen.frame m ρ,
    mixb_ref_frame, fun m ρ _ => mixb_ref_frame m ρ trivial,
    fun m ρ _ => Cert.KernelMix.Gen.frame m ρ, fun m ρ _ => Cert.KernelMixIdeal.Gen.frame m ρ, mix_ref_frame,
    fun m ρ _ => Cert.KernelAout.Gen.frame m ρ, fun m ρ _ => Cert.KernelAoutIdeal.Gen.frame m ρ, aout_ref_frame,
    fun m ρ _ => Cert.KernelApool.Gen.frame m ρ, fun m ρ _ => Cert.KernelApoolIdeal.Gen.frame m ρ, apool_ref_frame,
    fun m ρ _ => Cert.KernelAgate.Gen.frame m ρ, fun m ρ _ => Cert.KernelAgateIdeal.Gen.frame m ρ, agate_ref_frame,
    fun m ρ _ => Cert.KernelAwin.Gen.frame m ρ, fun m ρ _ => Cert.KernelAwinIdeal.Gen.frame m ρ, awin_ref_frame,
    fun m ρ _ => Cert.KernelNlat.Gen.frame m ρ, fun m ρ _ => Cert.KernelNlatIdeal.Gen.frame m ρ, nlat_ref_frame,
    fun m ρ _ => Cert.KernelNctx.Gen.frame m ρ, fun m ρ _ => Cert.KernelNctxIdeal.Gen.frame m ρ, nctx_ref_frame,
    fun m ρ _ => Cert.KernelConv.Gen.frame m ρ, fun m ρ _ => Cert.KernelConvIdeal.Gen.frame m ρ, conv_ref_frame,
    fun m ρ _ => Cert.KernelSsum.Gen.frame m ρ, fun m ρ _ => Cert.KernelSsumIdeal.Gen.frame m ρ, ssum_ref_frame,
    fun m ρ _ => Cert.KernelNbc.Gen.frame m ρ, fun m ρ _ => Cert.KernelNbcIdeal.Gen.frame m ρ, nbc_ref_frame,
    fun m ρ _ => Cert.KernelAfwd.Gen.frame m ρ, fun m ρ _ => Cert.KernelAfwdIdeal.Gen.frame m ρ, afwd_ref_frame,
    fun m ρ _ => Cert.KernelAbwd.Gen.frame m ρ, fun m ρ _ => Cert.KernelAbwdIdeal.Gen.frame m ρ, abwd_ref_frame,
    trivial, letI := Cert.Pre_gates_finite.facts; gates_algebraic,
    trivial, dh_algebraic, trivial, gwin0_algebraic, trivial, gwin1_algebraic, trivial, gwin2_algebraic, trivial, gwin3_algebraic, trivial, dmixed_algebraic, trivial, gwout_algebraic, trivial, out_algebraic,
    trivial, dz_algebraic, trivial, gwpool_algebraic, trivial, proj0_algebraic, trivial, proj1_algebraic, trivial, proj2_algebraic, trivial, proj3_algebraic, trivial, pool_algebraic,
    trivial, coef_algebraic, trivial, letI := Cert.Pre_states_finite.facts; mixa_algebraic,
    trivial, letI := Cert.Pre_pool_finite.facts; mixb_algebraic, trivial, mix_algebraic,
    trivial, aout_algebraic, trivial, apool_algebraic, trivial, agate_algebraic, trivial, awin_algebraic, trivial, nlat_algebraic, trivial, nctx_algebraic,
    trivial, conv_algebraic,
    trivial, ssum_algebraic, trivial, nbc_algebraic, trivial, afwd_algebraic,
    trivial, abwd_algebraic⟩

end Cert.Proof
